-- ==== Defs.lean ====
def Pre_MemNormBwd (m : (ℓ : Loc Cert.MemNormBwd.nD Cert.MemNormBwd.τ Cert.MemNormBwd.sig) → Buf (Elt Bits) ℓ) : Prop :=
  True

def Pre_MemNormBwdIdeal (m : (ℓ : Loc Cert.MemNormBwdIdeal.nD Cert.MemNormBwdIdeal.τ Cert.MemNormBwdIdeal.sig) → Buf (Elt Ideal) ℓ) : Prop :=
  True

def Pre_MemNormBwdIdeal_mem_norm_bwd_pre [hPre_mem_norm_bwd_pre : Cert.Pre_mem_norm_bwd_pre.Facts] (m : (ℓ : Loc Cert.MemNormBwdIdeal.nD Cert.MemNormBwdIdeal.τ Cert.MemNormBwdIdeal.sig) → Buf (Elt Ideal) ℓ) : Prop :=
  ∀ c : Dev Cert.MemNormBwdIdeal.nD,
    (Cert.Pre_mem_norm_bwd_pre.fn (F := Ideal) (m ((c.tc : Thread Cert.MemNormBwdIdeal.nD Cert.MemNormBwdIdeal.τ).loc Cert.MemNormBwdIdeal.main_arg0)) (m ((c.tc : Thread Cert.MemNormBwdIdeal.nD Cert.MemNormBwdIdeal.τ).loc Cert.MemNormBwdIdeal.main_arg1)) (m ((c.tc : Thread Cert.MemNormBwdIdeal.nD Cert.MemNormBwdIdeal.τ).loc Cert.MemNormBwdIdeal.main_arg2)) (m ((c.tc : Thread Cert.MemNormBwdIdeal.nD Cert.MemNormBwdIdeal.τ).loc Cert.MemNormBwdIdeal.main_arg3))) = (fun _ => 1#1)

def Pre_MemNormBwdRefIdeal (m : (ℓ : Loc Cert.MemNormBwdRefIdeal.nD Cert.MemNormBwdRefIdeal.τ Cert.MemNormBwdRefIdeal.sig) → Buf (Elt Ideal) ℓ) : Prop :=
  True

def Pre_MemNormBwdRefIdeal_mem_norm_bwd_pre [hPre_mem_norm_bwd_pre : Cert.Pre_mem_norm_bwd_pre.Facts] (m : (ℓ : Loc Cert.MemNormBwdRefIdeal.nD Cert.MemNormBwdRefIdeal.τ Cert.MemNormBwdRefIdeal.sig) → Buf (Elt Ideal) ℓ) : Prop :=
  ∀ c : Dev Cert.MemNormBwdRefIdeal.nD,
    (Cert.Pre_mem_norm_bwd_pre.fn (F := Ideal) (m ((c.tc : Thread Cert.MemNormBwdRefIdeal.nD Cert.MemNormBwdRefIdeal.τ).loc Cert.MemNormBwdRefIdeal.main_arg0)) (m ((c.tc : Thread Cert.MemNormBwdRefIdeal.nD Cert.MemNormBwdRefIdeal.τ).loc Cert.MemNormBwdRefIdeal.main_arg1)) (m ((c.tc : Thread Cert.MemNormBwdRefIdeal.nD Cert.MemNormBwdRefIdeal.τ).loc Cert.MemNormBwdRefIdeal.main_arg2)) (m ((c.tc : Thread Cert.MemNormBwdRefIdeal.nD Cert.MemNormBwdRefIdeal.τ).loc Cert.MemNormBwdRefIdeal.main_arg3))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_bwd1_pre [hPre_attn_bwd1_pre : Cert.Pre_attn_bwd1_pre.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_bwd1_pre.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_bwd1_pre [hPre_attn_bwd1_pre : Cert.Pre_attn_bwd1_pre.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_bwd1_pre.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_AttnBwdZero (m : (ℓ : Loc Cert.AttnBwdZero.nD Cert.AttnBwdZero.τ Cert.AttnBwdZero.sig) → Buf (Elt Bits) ℓ) : Prop :=
  True

def Pre_AttnBwdZeroIdeal (m : (ℓ : Loc Cert.AttnBwdZeroIdeal.nD Cert.AttnBwdZeroIdeal.τ Cert.AttnBwdZeroIdeal.sig) → Buf (Elt Ideal) ℓ) : Prop :=
  True

def Pre_AttnBwdZeroIdeal_attn_bwd0_pre [hPre_attn_bwd0_pre : Cert.Pre_attn_bwd0_pre.Facts] (m : (ℓ : Loc Cert.AttnBwdZeroIdeal.nD Cert.AttnBwdZeroIdeal.τ Cert.AttnBwdZeroIdeal.sig) → Buf (Elt Ideal) ℓ) : Prop :=
  ∀ c : Dev Cert.AttnBwdZeroIdeal.nD,
    (Cert.Pre_attn_bwd0_pre.fn (F := Ideal) (m ((c.tc : Thread Cert.AttnBwdZeroIdeal.nD Cert.AttnBwdZeroIdeal.τ).loc Cert.AttnBwdZeroIdeal.main_arg0)) (m ((c.tc : Thread Cert.AttnBwdZeroIdeal.nD Cert.AttnBwdZeroIdeal.τ).loc Cert.AttnBwdZeroIdeal.main_arg1)) (m ((c.tc : Thread Cert.AttnBwdZeroIdeal.nD Cert.AttnBwdZeroIdeal.τ).loc Cert.AttnBwdZeroIdeal.main_arg2)) (m ((c.tc : Thread Cert.AttnBwdZeroIdeal.nD Cert.AttnBwdZeroIdeal.τ).loc Cert.AttnBwdZeroIdeal.main_arg3))) = (fun _ => 1#1)

def Pre_AttnBwdZeroRefIdeal (m : (ℓ : Loc Cert.AttnBwdZeroRefIdeal.nD Cert.AttnBwdZeroRefIdeal.τ Cert.AttnBwdZeroRefIdeal.sig) → Buf (Elt Ideal) ℓ) : Prop :=
  True

def Pre_AttnBwdZeroRefIdeal_attn_bwd0_pre [hPre_attn_bwd0_pre : Cert.Pre_attn_bwd0_pre.Facts] (m : (ℓ : Loc Cert.AttnBwdZeroRefIdeal.nD Cert.AttnBwdZeroRefIdeal.τ Cert.AttnBwdZeroRefIdeal.sig) → Buf (Elt Ideal) ℓ) : Prop :=
  ∀ c : Dev Cert.AttnBwdZeroRefIdeal.nD,
    (Cert.Pre_attn_bwd0_pre.fn (F := Ideal) (m ((c.tc : Thread Cert.AttnBwdZeroRefIdeal.nD Cert.AttnBwdZeroRefIdeal.τ).loc Cert.AttnBwdZeroRefIdeal.main_arg0)) (m ((c.tc : Thread Cert.AttnBwdZeroRefIdeal.nD Cert.AttnBwdZeroRefIdeal.τ).loc Cert.AttnBwdZeroRefIdeal.main_arg1)) (m ((c.tc : Thread Cert.AttnBwdZeroRefIdeal.nD Cert.AttnBwdZeroRefIdeal.τ).loc Cert.AttnBwdZeroRefIdeal.main_arg2)) (m ((c.tc : Thread Cert.AttnBwdZeroRefIdeal.nD Cert.AttnBwdZeroRefIdeal.τ).loc Cert.AttnBwdZeroRefIdeal.main_arg3))) = (fun _ => 1#1)

def Pre_AttnFwdZero (m : (ℓ : Loc Cert.AttnFwdZero.nD Cert.AttnFwdZero.τ Cert.AttnFwdZero.sig) → Buf (Elt Bits) ℓ) : Prop :=
  True

def Pre_AttnFwdZeroIdeal (m : (ℓ : Loc Cert.AttnFwdZeroIdeal.nD Cert.AttnFwdZeroIdeal.τ Cert.AttnFwdZeroIdeal.sig) → Buf (Elt Ideal) ℓ) : Prop :=
  True

def Pre_AttnFwdZeroRefIdeal (m : (ℓ : Loc Cert.AttnFwdZeroRefIdeal.nD Cert.AttnFwdZeroRefIdeal.τ Cert.AttnFwdZeroRefIdeal.sig) → Buf (Elt Ideal) ℓ) : Prop :=
  True

def Pre_AttnFwdOne (m : (ℓ : Loc Cert.AttnFwdOne.nD Cert.AttnFwdOne.τ Cert.AttnFwdOne.sig) → Buf (Elt Bits) ℓ) : Prop :=
  True

def Pre_AttnFwdOneIdeal (m : (ℓ : Loc Cert.AttnFwdOneIdeal.nD Cert.AttnFwdOneIdeal.τ Cert.AttnFwdOneIdeal.sig) → Buf (Elt Ideal) ℓ) : Prop :=
  True

def Pre_AttnFwdOneRefIdeal (m : (ℓ : Loc Cert.AttnFwdOneRefIdeal.nD Cert.AttnFwdOneRefIdeal.τ Cert.AttnFwdOneRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxIdeal_ffn_in_dx_pre [hPre_ffn_in_dx_pre : Cert.Pre_ffn_in_dx_pre.Facts] (m : (ℓ : Loc Cert.FfnInDxIdeal.nD Cert.FfnInDxIdeal.τ Cert.FfnInDxIdeal.sig) → Buf (Elt Ideal) ℓ) : Prop :=
  ∀ c : Dev Cert.FfnInDxIdeal.nD,
    (Cert.Pre_ffn_in_dx_pre.fn (F := Ideal) (m ((c.tc : Thread Cert.FfnInDxIdeal.nD Cert.FfnInDxIdeal.τ).loc Cert.FfnInDxIdeal.main_arg0)) (m ((c.tc : Thread Cert.FfnInDxIdeal.nD Cert.FfnInDxIdeal.τ).loc Cert.FfnInDxIdeal.main_arg1)) (m ((c.tc : Thread Cert.FfnInDxIdeal.nD Cert.FfnInDxIdeal.τ).loc Cert.FfnInDxIdeal.main_arg2)) (m ((c.tc : Thread Cert.FfnInDxIdeal.nD Cert.FfnInDxIdeal.τ).loc Cert.FfnInDxIdeal.main_arg3)) (m ((c.tc : Thread Cert.FfnInDxIdeal.nD Cert.FfnInDxIdeal.τ).loc Cert.FfnInDxIdeal.main_arg4))) = (fun _ => 1#1)

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDxRefIdeal_ffn_in_dx_pre [hPre_ffn_in_dx_pre : Cert.Pre_ffn_in_dx_pre.Facts] (m : (ℓ : Loc Cert.FfnInDxRefIdeal.nD Cert.FfnInDxRefIdeal.τ Cert.FfnInDxRefIdeal.sig) → Buf (Elt Ideal) ℓ) : Prop :=
  ∀ c : Dev Cert.FfnInDxRefIdeal.nD,
    (Cert.Pre_ffn_in_dx_pre.fn (F := Ideal) (m ((c.tc : Thread Cert.FfnInDxRefIdeal.nD Cert.FfnInDxRefIdeal.τ).loc Cert.FfnInDxRefIdeal.main_arg0)) (m ((c.tc : Thread Cert.FfnInDxRefIdeal.nD Cert.FfnInDxRefIdeal.τ).loc Cert.FfnInDxRefIdeal.main_arg1)) (m ((c.tc : Thread Cert.FfnInDxRefIdeal.nD Cert.FfnInDxRefIdeal.τ).loc Cert.FfnInDxRefIdeal.main_arg2)) (m ((c.tc : Thread Cert.FfnInDxRefIdeal.nD Cert.FfnInDxRefIdeal.τ).loc Cert.FfnInDxRefIdeal.main_arg3)) (m ((c.tc : Thread Cert.FfnInDxRefIdeal.nD Cert.FfnInDxRefIdeal.τ).loc Cert.FfnInDxRefIdeal.main_arg4))) = (fun _ => 1#1)

def Pre_HgInDx (m : (ℓ : Loc Cert.HgInDx.nD Cert.HgInDx.τ Cert.HgInDx.sig) → Buf (Elt Bits) ℓ) : Prop :=
  True

def Pre_HgInDxIdeal (m : (ℓ : Loc Cert.HgInDxIdeal.nD Cert.HgInDxIdeal.τ Cert.HgInDxIdeal.sig) → Buf (Elt Ideal) ℓ) : Prop :=
  True

def Pre_HgInDxIdeal_hg_in_dx_pre [hPre_hg_in_dx_pre : Cert.Pre_hg_in_dx_pre.Facts] (m : (ℓ : Loc Cert.HgInDxIdeal.nD Cert.HgInDxIdeal.τ Cert.HgInDxIdeal.sig) → Buf (Elt Ideal) ℓ) : Prop :=
  ∀ c : Dev Cert.HgInDxIdeal.nD,
    (Cert.Pre_hg_in_dx_pre.fn (F := Ideal) (m ((c.tc : Thread Cert.HgInDxIdeal.nD Cert.HgInDxIdeal.τ).loc Cert.HgInDxIdeal.main_arg0)) (m ((c.tc : Thread Cert.HgInDxIdeal.nD Cert.HgInDxIdeal.τ).loc Cert.HgInDxIdeal.main_arg1)) (m ((c.tc : Thread Cert.HgInDxIdeal.nD Cert.HgInDxIdeal.τ).loc Cert.HgInDxIdeal.main_arg2)) (m ((c.tc : Thread Cert.HgInDxIdeal.nD Cert.HgInDxIdeal.τ).loc Cert.HgInDxIdeal.main_arg3)) (m ((c.tc : Thread Cert.HgInDxIdeal.nD Cert.HgInDxIdeal.τ).loc Cert.HgInDxIdeal.main_arg4)) (m ((c.tc : Thread Cert.HgInDxIdeal.nD Cert.HgInDxIdeal.τ).loc Cert.HgInDxIdeal.main_arg5))) = (fun _ => 1#1)

def Pre_HgInDxRefIdeal (m : (ℓ : Loc Cert.HgInDxRefIdeal.nD Cert.HgInDxRefIdeal.τ Cert.HgInDxRefIdeal.sig) → Buf (Elt Ideal) ℓ) : Prop :=
  True

def Pre_HgInDxRefIdeal_hg_in_dx_pre [hPre_hg_in_dx_pre : Cert.Pre_hg_in_dx_pre.Facts] (m : (ℓ : Loc Cert.HgInDxRefIdeal.nD Cert.HgInDxRefIdeal.τ Cert.HgInDxRefIdeal.sig) → Buf (Elt Ideal) ℓ) : Prop :=
  ∀ c : Dev Cert.HgInDxRefIdeal.nD,
    (Cert.Pre_hg_in_dx_pre.fn (F := Ideal) (m ((c.tc : Thread Cert.HgInDxRefIdeal.nD Cert.HgInDxRefIdeal.τ).loc Cert.HgInDxRefIdeal.main_arg0)) (m ((c.tc : Thread Cert.HgInDxRefIdeal.nD Cert.HgInDxRefIdeal.τ).loc Cert.HgInDxRefIdeal.main_arg1)) (m ((c.tc : Thread Cert.HgInDxRefIdeal.nD Cert.HgInDxRefIdeal.τ).loc Cert.HgInDxRefIdeal.main_arg2)) (m ((c.tc : Thread Cert.HgInDxRefIdeal.nD Cert.HgInDxRefIdeal.τ).loc Cert.HgInDxRefIdeal.main_arg3)) (m ((c.tc : Thread Cert.HgInDxRefIdeal.nD Cert.HgInDxRefIdeal.τ).loc Cert.HgInDxRefIdeal.main_arg4)) (m ((c.tc : Thread Cert.HgInDxRefIdeal.nD Cert.HgInDxRefIdeal.τ).loc Cert.HgInDxRefIdeal.main_arg5))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_head_pre [hPre_loss_head_pre : Cert.Pre_loss_head_pre.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_head_pre.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_head_pre [hPre_loss_head_pre : Cert.Pre_loss_head_pre.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_head_pre.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))) = (fun _ => 1#1)

def Pre_FfnActBwd (m : (ℓ : Loc Cert.FfnActBwd.nD Cert.FfnActBwd.τ Cert.FfnActBwd.sig) → Buf (Elt Bits) ℓ) : Prop :=
  True

def Pre_FfnActBwdIdeal (m : (ℓ : Loc Cert.FfnActBwdIdeal.nD Cert.FfnActBwdIdeal.τ Cert.FfnActBwdIdeal.sig) → Buf (Elt Ideal) ℓ) : Prop :=
  True

def Pre_FfnActBwdIdeal_ffn_act_bwd_pre [hPre_ffn_act_bwd_pre : Cert.Pre_ffn_act_bwd_pre.Facts] (m : (ℓ : Loc Cert.FfnActBwdIdeal.nD Cert.FfnActBwdIdeal.τ Cert.FfnActBwdIdeal.sig) → Buf (Elt Ideal) ℓ) : Prop :=
  ∀ c : Dev Cert.FfnActBwdIdeal.nD,
    (Cert.Pre_ffn_act_bwd_pre.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2)) (m ((c.tc : Thread Cert.FfnActBwdIdeal.nD Cert.FfnActBwdIdeal.τ).loc Cert.FfnActBwdIdeal.main_arg3)) (m ((c.tc : Thread Cert.FfnActBwdIdeal.nD Cert.FfnActBwdIdeal.τ).loc Cert.FfnActBwdIdeal.main_arg4))) = (fun _ => 1#1)

def Pre_FfnActBwdRefIdeal (m : (ℓ : Loc Cert.FfnActBwdRefIdeal.nD Cert.FfnActBwdRefIdeal.τ Cert.FfnActBwdRefIdeal.sig) → Buf (Elt Ideal) ℓ) : Prop :=
  True

def Pre_FfnActBwdRefIdeal_ffn_act_bwd_pre [hPre_ffn_act_bwd_pre : Cert.Pre_ffn_act_bwd_pre.Facts] (m : (ℓ : Loc Cert.FfnActBwdRefIdeal.nD Cert.FfnActBwdRefIdeal.τ Cert.FfnActBwdRefIdeal.sig) → Buf (Elt Ideal) ℓ) : Prop :=
  ∀ c : Dev Cert.FfnActBwdRefIdeal.nD,
    (Cert.Pre_ffn_act_bwd_pre.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2)) (m ((c.tc : Thread Cert.FfnActBwdRefIdeal.nD Cert.FfnActBwdRefIdeal.τ).loc Cert.FfnActBwdRefIdeal.main_arg3)) (m ((c.tc : Thread Cert.FfnActBwdRefIdeal.nD Cert.FfnActBwdRefIdeal.τ).loc Cert.FfnActBwdRefIdeal.main_arg4))) = (fun _ => 1#1)

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdRefIdeal (m : (ℓ : Loc Cert.GmlpBwdRefIdeal.nD Cert.GmlpBwdRefIdeal.τ Cert.GmlpBwdRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_GmInDx (m : (ℓ : Loc Cert.GmInDx.nD Cert.GmInDx.τ Cert.GmInDx.sig) → Buf (Elt Bits) ℓ) : Prop :=
  True

def Pre_GmInDxIdeal (m : (ℓ : Loc Cert.GmInDxIdeal.nD Cert.GmInDxIdeal.τ Cert.GmInDxIdeal.sig) → Buf (Elt Ideal) ℓ) : Prop :=
  True

def Pre_GmInDxIdeal_gm_in_dx_pre [hPre_gm_in_dx_pre : Cert.Pre_gm_in_dx_pre.Facts] (m : (ℓ : Loc Cert.GmInDxIdeal.nD Cert.GmInDxIdeal.τ Cert.GmInDxIdeal.sig) → Buf (Elt Ideal) ℓ) : Prop :=
  ∀ c : Dev Cert.GmInDxIdeal.nD,
    (Cert.Pre_gm_in_dx_pre.fn (F := Ideal) (m ((c.tc : Thread Cert.GmInDxIdeal.nD Cert.GmInDxIdeal.τ).loc Cert.GmInDxIdeal.main_arg0)) (m ((c.tc : Thread Cert.GmInDxIdeal.nD Cert.GmInDxIdeal.τ).loc Cert.GmInDxIdeal.main_arg1)) (m ((c.tc : Thread Cert.GmInDxIdeal.nD Cert.GmInDxIdeal.τ).loc Cert.GmInDxIdeal.main_arg2)) (m ((c.tc : Thread Cert.GmInDxIdeal.nD Cert.GmInDxIdeal.τ).loc Cert.GmInDxIdeal.main_arg3)) (m ((c.tc : Thread Cert.GmInDxIdeal.nD Cert.GmInDxIdeal.τ).loc Cert.GmInDxIdeal.main_arg4))) = (fun _ => 1#1)

def Pre_GmInDxRefIdeal (m : (ℓ : Loc Cert.GmInDxRefIdeal.nD Cert.GmInDxRefIdeal.τ Cert.GmInDxRefIdeal.sig) → Buf (Elt Ideal) ℓ) : Prop :=
  True

def Pre_GmInDxRefIdeal_gm_in_dx_pre [hPre_gm_in_dx_pre : Cert.Pre_gm_in_dx_pre.Facts] (m : (ℓ : Loc Cert.GmInDxRefIdeal.nD Cert.GmInDxRefIdeal.τ Cert.GmInDxRefIdeal.sig) → Buf (Elt Ideal) ℓ) : Prop :=
  ∀ c : Dev Cert.GmInDxRefIdeal.nD,
    (Cert.Pre_gm_in_dx_pre.fn (F := Ideal) (m ((c.tc : Thread Cert.GmInDxRefIdeal.nD Cert.GmInDxRefIdeal.τ).loc Cert.GmInDxRefIdeal.main_arg0)) (m ((c.tc : Thread Cert.GmInDxRefIdeal.nD Cert.GmInDxRefIdeal.τ).loc Cert.GmInDxRefIdeal.main_arg1)) (m ((c.tc : Thread Cert.GmInDxRefIdeal.nD Cert.GmInDxRefIdeal.τ).loc Cert.GmInDxRefIdeal.main_arg2)) (m ((c.tc : Thread Cert.GmInDxRefIdeal.nD Cert.GmInDxRefIdeal.τ).loc Cert.GmInDxRefIdeal.main_arg3)) (m ((c.tc : Thread Cert.GmInDxRefIdeal.nD Cert.GmInDxRefIdeal.τ).loc Cert.GmInDxRefIdeal.main_arg4))) = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_MemNormFwd (m : (ℓ : Loc Cert.MemNormFwd.nD Cert.MemNormFwd.τ Cert.MemNormFwd.sig) → Buf (Elt Bits) ℓ) : Prop :=
  True

def Pre_MemNormFwdIdeal (m : (ℓ : Loc Cert.MemNormFwdIdeal.nD Cert.MemNormFwdIdeal.τ Cert.MemNormFwdIdeal.sig) → Buf (Elt Ideal) ℓ) : Prop :=
  True

def Pre_MemNormFwdRefIdeal (m : (ℓ : Loc Cert.MemNormFwdRefIdeal.nD Cert.MemNormFwdRefIdeal.τ Cert.MemNormFwdRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_AdamStep (m : (ℓ : Loc Cert.AdamStep.nD Cert.AdamStep.τ Cert.AdamStep.sig) → Buf (Elt Bits) ℓ) : Prop :=
  True

def Pre_AdamStepIdeal (m : (ℓ : Loc Cert.AdamStepIdeal.nD Cert.AdamStepIdeal.τ Cert.AdamStepIdeal.sig) → Buf (Elt Ideal) ℓ) : Prop :=
  True

def Pre_AdamStepRefIdeal (m : (ℓ : Loc Cert.AdamStepRefIdeal.nD Cert.AdamStepRefIdeal.τ Cert.AdamStepRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemKvDx (m : (ℓ : Loc Cert.MemKvDx.nD Cert.MemKvDx.τ Cert.MemKvDx.sig) → Buf (Elt Bits) ℓ) : Prop :=
  True

def Pre_MemKvDxIdeal (m : (ℓ : Loc Cert.MemKvDxIdeal.nD Cert.MemKvDxIdeal.τ Cert.MemKvDxIdeal.sig) → Buf (Elt Ideal) ℓ) : Prop :=
  True

def Pre_MemKvDxRefIdeal (m : (ℓ : Loc Cert.MemKvDxRefIdeal.nD Cert.MemKvDxRefIdeal.τ Cert.MemKvDxRefIdeal.sig) → Buf (Elt Ideal) ℓ) : Prop :=
  True

def Pre_HgIn (m : (ℓ : Loc Cert.HgIn.nD Cert.HgIn.τ Cert.HgIn.sig) → Buf (Elt Bits) ℓ) : Prop :=
  True

def Pre_HgInIdeal (m : (ℓ : Loc Cert.HgInIdeal.nD Cert.HgInIdeal.τ Cert.HgInIdeal.sig) → Buf (Elt Ideal) ℓ) : Prop :=
  True

def Pre_HgInRefIdeal (m : (ℓ : Loc Cert.HgInRefIdeal.nD Cert.HgInRefIdeal.τ Cert.HgInRefIdeal.sig) → Buf (Elt Ideal) ℓ) : Prop :=
  True

def Pre_GmIn (m : (ℓ : Loc Cert.GmIn.nD Cert.GmIn.τ Cert.GmIn.sig) → Buf (Elt Bits) ℓ) : Prop :=
  True

def Pre_GmInIdeal (m : (ℓ : Loc Cert.GmInIdeal.nD Cert.GmInIdeal.τ Cert.GmInIdeal.sig) → Buf (Elt Ideal) ℓ) : Prop :=
  True

def Pre_GmInRefIdeal (m : (ℓ : Loc Cert.GmInRefIdeal.nD Cert.GmInRefIdeal.τ Cert.GmInRefIdeal.sig) → Buf (Elt Ideal) ℓ) : Prop :=
  True

def Pre_MemKvDw (m : (ℓ : Loc Cert.MemKvDw.nD Cert.MemKvDw.τ Cert.MemKvDw.sig) → Buf (Elt Bits) ℓ) : Prop :=
  True

def Pre_MemKvDwIdeal (m : (ℓ : Loc Cert.MemKvDwIdeal.nD Cert.MemKvDwIdeal.τ Cert.MemKvDwIdeal.sig) → Buf (Elt Ideal) ℓ) : Prop :=
  True

def Pre_MemKvDwRefIdeal (m : (ℓ : Loc Cert.MemKvDwRefIdeal.nD Cert.MemKvDwRefIdeal.τ Cert.MemKvDwRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_GmInDw (m : (ℓ : Loc Cert.GmInDw.nD Cert.GmInDw.τ Cert.GmInDw.sig) → Buf (Elt Bits) ℓ) : Prop :=
  True

def Pre_GmInDwIdeal (m : (ℓ : Loc Cert.GmInDwIdeal.nD Cert.GmInDwIdeal.τ Cert.GmInDwIdeal.sig) → Buf (Elt Ideal) ℓ) : Prop :=
  True

def Pre_GmInDwRefIdeal (m : (ℓ : Loc Cert.GmInDwRefIdeal.nD Cert.GmInDwRefIdeal.τ Cert.GmInDwRefIdeal.sig) → Buf (Elt Ideal) ℓ) : Prop :=
  True

def Pre_HgInDw (m : (ℓ : Loc Cert.HgInDw.nD Cert.HgInDw.τ Cert.HgInDw.sig) → Buf (Elt Bits) ℓ) : Prop :=
  True

def Pre_HgInDwIdeal (m : (ℓ : Loc Cert.HgInDwIdeal.nD Cert.HgInDwIdeal.τ Cert.HgInDwIdeal.sig) → Buf (Elt Ideal) ℓ) : Prop :=
  True

def Pre_HgInDwRefIdeal (m : (ℓ : Loc Cert.HgInDwRefIdeal.nD Cert.HgInDwRefIdeal.τ Cert.HgInDwRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def quiescent_MemNormBwd [hMemNormBwd : Cert.MemNormBwd.Facts] : Prop :=
  ∀ (m : (ℓ : Loc Cert.MemNormBwd.nD Cert.MemNormBwd.τ Cert.MemNormBwd.sig) → Buf (Elt Bits) ℓ) (g : Dev Cert.MemNormBwd.nD → PrngReg), Pre_MemNormBwd m →
    θ_run (Cert.MemNormBwd.defs (F := Bits)) (onTc (τ := Cert.MemNormBwd.τ) (Cert.MemNormBwd.main (F := Bits))) ⟨m, fun _ => 0, g⟩ (fun r => (∀ c : Dev Cert.MemNormBwd.nD,
      r.2.mem ((c.tc : Thread Cert.MemNormBwd.nD Cert.MemNormBwd.τ).loc Cert.MemNormBwd.main_arg0) = m ((c.tc : Thread Cert.MemNormBwd.nD Cert.MemNormBwd.τ).loc Cert.MemNormBwd.main_arg0)
      ∧ r.2.mem ((c.tc : Thread Cert.MemNormBwd.nD Cert.MemNormBwd.τ).loc Cert.MemNormBwd.main_arg1) = m ((c.tc : Thread Cert.MemNormBwd.nD Cert.MemNormBwd.τ).loc Cert.MemNormBwd.main_arg1)
      ∧ r.2.mem ((c.tc : Thread Cert.MemNormBwd.nD Cert.MemNormBwd.τ).loc Cert.MemNormBwd.main_arg2) = m ((c.tc : Thread Cert.MemNormBwd.nD Cert.MemNormBwd.τ).loc Cert.MemNormBwd.main_arg2)
      ∧ r.2.mem ((c.tc : Thread Cert.MemNormBwd.nD Cert.MemNormBwd.τ).loc Cert.MemNormBwd.main_arg3) = m ((c.tc : Thread Cert.MemNormBwd.nD Cert.MemNormBwd.τ).loc Cert.MemNormBwd.main_arg3))
      ∧ r.2.sem = fun _ => 0)

def quiescent_MemNormBwdIdeal [hMemNormBwdIdeal : Cert.MemNormBwdIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2)
      ∧ r.2.mem ((c.tc : Thread Cert.MemNormBwdIdeal.nD Cert.MemNormBwdIdeal.τ).loc Cert.MemNormBwdIdeal.main_arg3) = m ((c.tc : Thread Cert.MemNormBwdIdeal.nD Cert.MemNormBwdIdeal.τ).loc Cert.MemNormBwdIdeal.main_arg3))
      ∧ r.2.sem = fun _ => 0)

def quiescent_MemNormBwdIdeal_pre_mem_norm_bwd_pre [hMemNormBwdIdeal : Cert.MemNormBwdIdeal.Facts] [hPre_mem_norm_bwd_pre : Cert.Pre_mem_norm_bwd_pre.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal_mem_norm_bwd_pre m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2)
      ∧ r.2.mem ((c.tc : Thread Cert.MemNormBwdIdeal.nD Cert.MemNormBwdIdeal.τ).loc Cert.MemNormBwdIdeal.main_arg3) = m ((c.tc : Thread Cert.MemNormBwdIdeal.nD Cert.MemNormBwdIdeal.τ).loc Cert.MemNormBwdIdeal.main_arg3))
      ∧ r.2.sem = fun _ => 0)

def quiescent_MemNormBwdRefIdeal [hMemNormBwdRefIdeal : Cert.MemNormBwdRefIdeal.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2)
      ∧ r.2.mem ((c.tc : Thread Cert.MemNormBwdRefIdeal.nD Cert.MemNormBwdRefIdeal.τ).loc Cert.MemNormBwdRefIdeal.main_arg3) = m ((c.tc : Thread Cert.MemNormBwdRefIdeal.nD Cert.MemNormBwdRefIdeal.τ).loc Cert.MemNormBwdRefIdeal.main_arg3))
      ∧ r.2.sem = fun _ => 0)

def quiescent_MemNormBwdRefIdeal_pre_mem_norm_bwd_pre [hMemNormBwdRefIdeal : Cert.MemNormBwdRefIdeal.Facts] [hPre_mem_norm_bwd_pre : Cert.Pre_mem_norm_bwd_pre.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal_mem_norm_bwd_pre m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2)
      ∧ r.2.mem ((c.tc : Thread Cert.MemNormBwdRefIdeal.nD Cert.MemNormBwdRefIdeal.τ).loc Cert.MemNormBwdRefIdeal.main_arg3) = m ((c.tc : Thread Cert.MemNormBwdRefIdeal.nD Cert.MemNormBwdRefIdeal.τ).loc Cert.MemNormBwdRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_bwd1_pre [hAttnBwdIdeal : Cert.AttnBwdIdeal.Facts] [hPre_attn_bwd1_pre : Cert.Pre_attn_bwd1_pre.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_bwd1_pre m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_attn_bwd1_pre [hAttnBwdRefIdeal : Cert.AttnBwdRefIdeal.Facts] [hPre_attn_bwd1_pre : Cert.Pre_attn_bwd1_pre.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_bwd1_pre m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdZero [hAttnBwdZero : Cert.AttnBwdZero.Facts] : Prop :=
  ∀ (m : (ℓ : Loc Cert.AttnBwdZero.nD Cert.AttnBwdZero.τ Cert.AttnBwdZero.sig) → Buf (Elt Bits) ℓ) (g : Dev Cert.AttnBwdZero.nD → PrngReg), Pre_AttnBwdZero m →
    θ_run (Cert.AttnBwdZero.defs (F := Bits)) (onTc (τ := Cert.AttnBwdZero.τ) (Cert.AttnBwdZero.main (F := Bits))) ⟨m, fun _ => 0, g⟩ (fun r => (∀ c : Dev Cert.AttnBwdZero.nD,
      r.2.mem ((c.tc : Thread Cert.AttnBwdZero.nD Cert.AttnBwdZero.τ).loc Cert.AttnBwdZero.main_arg0) = m ((c.tc : Thread Cert.AttnBwdZero.nD Cert.AttnBwdZero.τ).loc Cert.AttnBwdZero.main_arg0)
      ∧ r.2.mem ((c.tc : Thread Cert.AttnBwdZero.nD Cert.AttnBwdZero.τ).loc Cert.AttnBwdZero.main_arg1) = m ((c.tc : Thread Cert.AttnBwdZero.nD Cert.AttnBwdZero.τ).loc Cert.AttnBwdZero.main_arg1)
      ∧ r.2.mem ((c.tc : Thread Cert.AttnBwdZero.nD Cert.AttnBwdZero.τ).loc Cert.AttnBwdZero.main_arg2) = m ((c.tc : Thread Cert.AttnBwdZero.nD Cert.AttnBwdZero.τ).loc Cert.AttnBwdZero.main_arg2)
      ∧ r.2.mem ((c.tc : Thread Cert.AttnBwdZero.nD Cert.AttnBwdZero.τ).loc Cert.AttnBwdZero.main_arg3) = m ((c.tc : Thread Cert.AttnBwdZero.nD Cert.AttnBwdZero.τ).loc Cert.AttnBwdZero.main_arg3))
      ∧ r.2.sem = fun _ => 0)

def quiescent_AttnBwdZeroIdeal [hAttnBwdZeroIdeal : Cert.AttnBwdZeroIdeal.Facts] : Prop :=
  ∀ (m : (ℓ : Loc Cert.AttnBwdZeroIdeal.nD Cert.AttnBwdZeroIdeal.τ Cert.AttnBwdZeroIdeal.sig) → Buf (Elt Ideal) ℓ) (g : Dev Cert.AttnBwdZeroIdeal.nD → PrngReg), Pre_AttnBwdZeroIdeal m →
    θ_run (Cert.AttnBwdZeroIdeal.defs (F := Ideal)) (onTc (τ := Cert.AttnBwdZeroIdeal.τ) (Cert.AttnBwdZeroIdeal.main (F := Ideal))) ⟨m, fun _ => 0, g⟩ (fun r => (∀ c : Dev Cert.AttnBwdZeroIdeal.nD,
      r.2.mem ((c.tc : Thread Cert.AttnBwdZeroIdeal.nD Cert.AttnBwdZeroIdeal.τ).loc Cert.AttnBwdZeroIdeal.main_arg0) = m ((c.tc : Thread Cert.AttnBwdZeroIdeal.nD Cert.AttnBwdZeroIdeal.τ).loc Cert.AttnBwdZeroIdeal.main_arg0)
      ∧ r.2.mem ((c.tc : Thread Cert.AttnBwdZeroIdeal.nD Cert.AttnBwdZeroIdeal.τ).loc Cert.AttnBwdZeroIdeal.main_arg1) = m ((c.tc : Thread Cert.AttnBwdZeroIdeal.nD Cert.AttnBwdZeroIdeal.τ).loc Cert.AttnBwdZeroIdeal.main_arg1)
      ∧ r.2.mem ((c.tc : Thread Cert.AttnBwdZeroIdeal.nD Cert.AttnBwdZeroIdeal.τ).loc Cert.AttnBwdZeroIdeal.main_arg2) = m ((c.tc : Thread Cert.AttnBwdZeroIdeal.nD Cert.AttnBwdZeroIdeal.τ).loc Cert.AttnBwdZeroIdeal.main_arg2)
      ∧ r.2.mem ((c.tc : Thread Cert.AttnBwdZeroIdeal.nD Cert.AttnBwdZeroIdeal.τ).loc Cert.AttnBwdZeroIdeal.main_arg3) = m ((c.tc : Thread Cert.AttnBwdZeroIdeal.nD Cert.AttnBwdZeroIdeal.τ).loc Cert.AttnBwdZeroIdeal.main_arg3))
      ∧ r.2.sem = fun _ => 0)

def quiescent_AttnBwdZeroIdeal_pre_attn_bwd0_pre [hAttnBwdZeroIdeal : Cert.AttnBwdZeroIdeal.Facts] [hPre_attn_bwd0_pre : Cert.Pre_attn_bwd0_pre.Facts] : Prop :=
  ∀ (m : (ℓ : Loc Cert.AttnBwdZeroIdeal.nD Cert.AttnBwdZeroIdeal.τ Cert.AttnBwdZeroIdeal.sig) → Buf (Elt Ideal) ℓ) (g : Dev Cert.AttnBwdZeroIdeal.nD → PrngReg), Pre_AttnBwdZeroIdeal_attn_bwd0_pre m →
    θ_run (Cert.AttnBwdZeroIdeal.defs (F := Ideal)) (onTc (τ := Cert.AttnBwdZeroIdeal.τ) (Cert.AttnBwdZeroIdeal.main (F := Ideal))) ⟨m, fun _ => 0, g⟩ (fun r => (∀ c : Dev Cert.AttnBwdZeroIdeal.nD,
      r.2.mem ((c.tc : Thread Cert.AttnBwdZeroIdeal.nD Cert.AttnBwdZeroIdeal.τ).loc Cert.AttnBwdZeroIdeal.main_arg0) = m ((c.tc : Thread Cert.AttnBwdZeroIdeal.nD Cert.AttnBwdZeroIdeal.τ).loc Cert.AttnBwdZeroIdeal.main_arg0)
      ∧ r.2.mem ((c.tc : Thread Cert.AttnBwdZeroIdeal.nD Cert.AttnBwdZeroIdeal.τ).loc Cert.AttnBwdZeroIdeal.main_arg1) = m ((c.tc : Thread Cert.AttnBwdZeroIdeal.nD Cert.AttnBwdZeroIdeal.τ).loc Cert.AttnBwdZeroIdeal.main_arg1)
      ∧ r.2.mem ((c.tc : Thread Cert.AttnBwdZeroIdeal.nD Cert.AttnBwdZeroIdeal.τ).loc Cert.AttnBwdZeroIdeal.main_arg2) = m ((c.tc : Thread Cert.AttnBwdZeroIdeal.nD Cert.AttnBwdZeroIdeal.τ).loc Cert.AttnBwdZeroIdeal.main_arg2)
      ∧ r.2.mem ((c.tc : Thread Cert.AttnBwdZeroIdeal.nD Cert.AttnBwdZeroIdeal.τ).loc Cert.AttnBwdZeroIdeal.main_arg3) = m ((c.tc : Thread Cert.AttnBwdZeroIdeal.nD Cert.AttnBwdZeroIdeal.τ).loc Cert.AttnBwdZeroIdeal.main_arg3))
      ∧ r.2.sem = fun _ => 0)

def quiescent_AttnBwdZeroRefIdeal [hAttnBwdZeroRefIdeal : Cert.AttnBwdZeroRefIdeal.Facts] : Prop :=
  ∀ (m : (ℓ : Loc Cert.AttnBwdZeroRefIdeal.nD Cert.AttnBwdZeroRefIdeal.τ Cert.AttnBwdZeroRefIdeal.sig) → Buf (Elt Ideal) ℓ) (g : Dev Cert.AttnBwdZeroRefIdeal.nD → PrngReg), Pre_AttnBwdZeroRefIdeal m →
    θ_run (Cert.AttnBwdZeroRefIdeal.defs (F := Ideal)) (onTc (τ := Cert.AttnBwdZeroRefIdeal.τ) (Cert.AttnBwdZeroRefIdeal.main (F := Ideal))) ⟨m, fun _ => 0, g⟩ (fun r => (∀ c : Dev Cert.AttnBwdZeroRefIdeal.nD,
      r.2.mem ((c.tc : Thread Cert.AttnBwdZeroRefIdeal.nD Cert.AttnBwdZeroRefIdeal.τ).loc Cert.AttnBwdZeroRefIdeal.main_arg0) = m ((c.tc : Thread Cert.AttnBwdZeroRefIdeal.nD Cert.AttnBwdZeroRefIdeal.τ).loc Cert.AttnBwdZeroRefIdeal.main_arg0)
      ∧ r.2.mem ((c.tc : Thread Cert.AttnBwdZeroRefIdeal.nD Cert.AttnBwdZeroRefIdeal.τ).loc Cert.AttnBwdZeroRefIdeal.main_arg1) = m ((c.tc : Thread Cert.AttnBwdZeroRefIdeal.nD Cert.AttnBwdZeroRefIdeal.τ).loc Cert.AttnBwdZeroRefIdeal.main_arg1)
      ∧ r.2.mem ((c.tc : Thread Cert.AttnBwdZeroRefIdeal.nD Cert.AttnBwdZeroRefIdeal.τ).loc Cert.AttnBwdZeroRefIdeal.main_arg2) = m ((c.tc : Thread Cert.AttnBwdZeroRefIdeal.nD Cert.AttnBwdZeroRefIdeal.τ).loc Cert.AttnBwdZeroRefIdeal.main_arg2)
      ∧ r.2.mem ((c.tc : Thread Cert.AttnBwdZeroRefIdeal.nD Cert.AttnBwdZeroRefIdeal.τ).loc Cert.AttnBwdZeroRefIdeal.main_arg3) = m ((c.tc : Thread Cert.AttnBwdZeroRefIdeal.nD Cert.AttnBwdZeroRefIdeal.τ).loc Cert.AttnBwdZeroRefIdeal.main_arg3))
      ∧ r.2.sem = fun _ => 0)

def quiescent_AttnBwdZeroRefIdeal_pre_attn_bwd0_pre [hAttnBwdZeroRefIdeal : Cert.AttnBwdZeroRefIdeal.Facts] [hPre_attn_bwd0_pre : Cert.Pre_attn_bwd0_pre.Facts] : Prop :=
  ∀ (m : (ℓ : Loc Cert.AttnBwdZeroRefIdeal.nD Cert.AttnBwdZeroRefIdeal.τ Cert.AttnBwdZeroRefIdeal.sig) → Buf (Elt Ideal) ℓ) (g : Dev Cert.AttnBwdZeroRefIdeal.nD → PrngReg), Pre_AttnBwdZeroRefIdeal_attn_bwd0_pre m →
    θ_run (Cert.AttnBwdZeroRefIdeal.defs (F := Ideal)) (onTc (τ := Cert.AttnBwdZeroRefIdeal.τ) (Cert.AttnBwdZeroRefIdeal.main (F := Ideal))) ⟨m, fun _ => 0, g⟩ (fun r => (∀ c : Dev Cert.AttnBwdZeroRefIdeal.nD,
      r.2.mem ((c.tc : Thread Cert.AttnBwdZeroRefIdeal.nD Cert.AttnBwdZeroRefIdeal.τ).loc Cert.AttnBwdZeroRefIdeal.main_arg0) = m ((c.tc : Thread Cert.AttnBwdZeroRefIdeal.nD Cert.AttnBwdZeroRefIdeal.τ).loc Cert.AttnBwdZeroRefIdeal.main_arg0)
      ∧ r.2.mem ((c.tc : Thread Cert.AttnBwdZeroRefIdeal.nD Cert.AttnBwdZeroRefIdeal.τ).loc Cert.AttnBwdZeroRefIdeal.main_arg1) = m ((c.tc : Thread Cert.AttnBwdZeroRefIdeal.nD Cert.AttnBwdZeroRefIdeal.τ).loc Cert.AttnBwdZeroRefIdeal.main_arg1)
      ∧ r.2.mem ((c.tc : Thread Cert.AttnBwdZeroRefIdeal.nD Cert.AttnBwdZeroRefIdeal.τ).loc Cert.AttnBwdZeroRefIdeal.main_arg2) = m ((c.tc : Thread Cert.AttnBwdZeroRefIdeal.nD Cert.AttnBwdZeroRefIdeal.τ).loc Cert.AttnBwdZeroRefIdeal.main_arg2)
      ∧ r.2.mem ((c.tc : Thread Cert.AttnBwdZeroRefIdeal.nD Cert.AttnBwdZeroRefIdeal.τ).loc Cert.AttnBwdZeroRefIdeal.main_arg3) = m ((c.tc : Thread Cert.AttnBwdZeroRefIdeal.nD Cert.AttnBwdZeroRefIdeal.τ).loc Cert.AttnBwdZeroRefIdeal.main_arg3))
      ∧ r.2.sem = fun _ => 0)

def quiescent_AttnFwdZero [hAttnFwdZero : Cert.AttnFwdZero.Facts] : Prop :=
  ∀ (m : (ℓ : Loc Cert.AttnFwdZero.nD Cert.AttnFwdZero.τ Cert.AttnFwdZero.sig) → Buf (Elt Bits) ℓ) (g : Dev Cert.AttnFwdZero.nD → PrngReg), Pre_AttnFwdZero m →
    θ_run (Cert.AttnFwdZero.defs (F := Bits)) (onTc (τ := Cert.AttnFwdZero.τ) (Cert.AttnFwdZero.main (F := Bits))) ⟨m, fun _ => 0, g⟩ (fun r => (∀ c : Dev Cert.AttnFwdZero.nD,
      r.2.mem ((c.tc : Thread Cert.AttnFwdZero.nD Cert.AttnFwdZero.τ).loc Cert.AttnFwdZero.main_arg0) = m ((c.tc : Thread Cert.AttnFwdZero.nD Cert.AttnFwdZero.τ).loc Cert.AttnFwdZero.main_arg0)
      ∧ r.2.mem ((c.tc : Thread Cert.AttnFwdZero.nD Cert.AttnFwdZero.τ).loc Cert.AttnFwdZero.main_arg1) = m ((c.tc : Thread Cert.AttnFwdZero.nD Cert.AttnFwdZero.τ).loc Cert.AttnFwdZero.main_arg1)
      ∧ r.2.mem ((c.tc : Thread Cert.AttnFwdZero.nD Cert.AttnFwdZero.τ).loc Cert.AttnFwdZero.main_arg2) = m ((c.tc : Thread Cert.AttnFwdZero.nD Cert.AttnFwdZero.τ).loc Cert.AttnFwdZero.main_arg2))
      ∧ r.2.sem = fun _ => 0)

def quiescent_AttnFwdZeroIdeal [hAttnFwdZeroIdeal : Cert.AttnFwdZeroIdeal.Facts] : Prop :=
  ∀ (m : (ℓ : Loc Cert.AttnFwdZeroIdeal.nD Cert.AttnFwdZeroIdeal.τ Cert.AttnFwdZeroIdeal.sig) → Buf (Elt Ideal) ℓ) (g : Dev Cert.AttnFwdZeroIdeal.nD → PrngReg), Pre_AttnFwdZeroIdeal m →
    θ_run (Cert.AttnFwdZeroIdeal.defs (F := Ideal)) (onTc (τ := Cert.AttnFwdZeroIdeal.τ) (Cert.AttnFwdZeroIdeal.main (F := Ideal))) ⟨m, fun _ => 0, g⟩ (fun r => (∀ c : Dev Cert.AttnFwdZeroIdeal.nD,
      r.2.mem ((c.tc : Thread Cert.AttnFwdZeroIdeal.nD Cert.AttnFwdZeroIdeal.τ).loc Cert.AttnFwdZeroIdeal.main_arg0) = m ((c.tc : Thread Cert.AttnFwdZeroIdeal.nD Cert.AttnFwdZeroIdeal.τ).loc Cert.AttnFwdZeroIdeal.main_arg0)
      ∧ r.2.mem ((c.tc : Thread Cert.AttnFwdZeroIdeal.nD Cert.AttnFwdZeroIdeal.τ).loc Cert.AttnFwdZeroIdeal.main_arg1) = m ((c.tc : Thread Cert.AttnFwdZeroIdeal.nD Cert.AttnFwdZeroIdeal.τ).loc Cert.AttnFwdZeroIdeal.main_arg1)
      ∧ r.2.mem ((c.tc : Thread Cert.AttnFwdZeroIdeal.nD Cert.AttnFwdZeroIdeal.τ).loc Cert.AttnFwdZeroIdeal.main_arg2) = m ((c.tc : Thread Cert.AttnFwdZeroIdeal.nD Cert.AttnFwdZeroIdeal.τ).loc Cert.AttnFwdZeroIdeal.main_arg2))
      ∧ r.2.sem = fun _ => 0)

def quiescent_AttnFwdZeroRefIdeal [hAttnFwdZeroRefIdeal : Cert.AttnFwdZeroRefIdeal.Facts] : Prop :=
  ∀ (m : (ℓ : Loc Cert.AttnFwdZeroRefIdeal.nD Cert.AttnFwdZeroRefIdeal.τ Cert.AttnFwdZeroRefIdeal.sig) → Buf (Elt Ideal) ℓ) (g : Dev Cert.AttnFwdZeroRefIdeal.nD → PrngReg), Pre_AttnFwdZeroRefIdeal m →
    θ_run (Cert.AttnFwdZeroRefIdeal.defs (F := Ideal)) (onTc (τ := Cert.AttnFwdZeroRefIdeal.τ) (Cert.AttnFwdZeroRefIdeal.main (F := Ideal))) ⟨m, fun _ => 0, g⟩ (fun r => (∀ c : Dev Cert.AttnFwdZeroRefIdeal.nD,
      r.2.mem ((c.tc : Thread Cert.AttnFwdZeroRefIdeal.nD Cert.AttnFwdZeroRefIdeal.τ).loc Cert.AttnFwdZeroRefIdeal.main_arg0) = m ((c.tc : Thread Cert.AttnFwdZeroRefIdeal.nD Cert.AttnFwdZeroRefIdeal.τ).loc Cert.AttnFwdZeroRefIdeal.main_arg0)
      ∧ r.2.mem ((c.tc : Thread Cert.AttnFwdZeroRefIdeal.nD Cert.AttnFwdZeroRefIdeal.τ).loc Cert.AttnFwdZeroRefIdeal.main_arg1) = m ((c.tc : Thread Cert.AttnFwdZeroRefIdeal.nD Cert.AttnFwdZeroRefIdeal.τ).loc Cert.AttnFwdZeroRefIdeal.main_arg1)
      ∧ r.2.mem ((c.tc : Thread Cert.AttnFwdZeroRefIdeal.nD Cert.AttnFwdZeroRefIdeal.τ).loc Cert.AttnFwdZeroRefIdeal.main_arg2) = m ((c.tc : Thread Cert.AttnFwdZeroRefIdeal.nD Cert.AttnFwdZeroRefIdeal.τ).loc Cert.AttnFwdZeroRefIdeal.main_arg2))
      ∧ r.2.sem = fun _ => 0)

def quiescent_AttnFwdOne [hAttnFwdOne : Cert.AttnFwdOne.Facts] : Prop :=
  ∀ (m : (ℓ : Loc Cert.AttnFwdOne.nD Cert.AttnFwdOne.τ Cert.AttnFwdOne.sig) → Buf (Elt Bits) ℓ) (g : Dev Cert.AttnFwdOne.nD → PrngReg), Pre_AttnFwdOne m →
    θ_run (Cert.AttnFwdOne.defs (F := Bits)) (onTc (τ := Cert.AttnFwdOne.τ) (Cert.AttnFwdOne.main (F := Bits))) ⟨m, fun _ => 0, g⟩ (fun r => (∀ c : Dev Cert.AttnFwdOne.nD,
      r.2.mem ((c.tc : Thread Cert.AttnFwdOne.nD Cert.AttnFwdOne.τ).loc Cert.AttnFwdOne.main_arg0) = m ((c.tc : Thread Cert.AttnFwdOne.nD Cert.AttnFwdOne.τ).loc Cert.AttnFwdOne.main_arg0)
      ∧ r.2.mem ((c.tc : Thread Cert.AttnFwdOne.nD Cert.AttnFwdOne.τ).loc Cert.AttnFwdOne.main_arg1) = m ((c.tc : Thread Cert.AttnFwdOne.nD Cert.AttnFwdOne.τ).loc Cert.AttnFwdOne.main_arg1)
      ∧ r.2.mem ((c.tc : Thread Cert.AttnFwdOne.nD Cert.AttnFwdOne.τ).loc Cert.AttnFwdOne.main_arg2) = m ((c.tc : Thread Cert.AttnFwdOne.nD Cert.AttnFwdOne.τ).loc Cert.AttnFwdOne.main_arg2))
      ∧ r.2.sem = fun _ => 0)

def quiescent_AttnFwdOneIdeal [hAttnFwdOneIdeal : Cert.AttnFwdOneIdeal.Facts] : Prop :=
  ∀ (m : (ℓ : Loc Cert.AttnFwdOneIdeal.nD Cert.AttnFwdOneIdeal.τ Cert.AttnFwdOneIdeal.sig) → Buf (Elt Ideal) ℓ) (g : Dev Cert.AttnFwdOneIdeal.nD → PrngReg), Pre_AttnFwdOneIdeal m →
    θ_run (Cert.AttnFwdOneIdeal.defs (F := Ideal)) (onTc (τ := Cert.AttnFwdOneIdeal.τ) (Cert.AttnFwdOneIdeal.main (F := Ideal))) ⟨m, fun _ => 0, g⟩ (fun r => (∀ c : Dev Cert.AttnFwdOneIdeal.nD,
      r.2.mem ((c.tc : Thread Cert.AttnFwdOneIdeal.nD Cert.AttnFwdOneIdeal.τ).loc Cert.AttnFwdOneIdeal.main_arg0) = m ((c.tc : Thread Cert.AttnFwdOneIdeal.nD Cert.AttnFwdOneIdeal.τ).loc Cert.AttnFwdOneIdeal.main_arg0)
      ∧ r.2.mem ((c.tc : Thread Cert.AttnFwdOneIdeal.nD Cert.AttnFwdOneIdeal.τ).loc Cert.AttnFwdOneIdeal.main_arg1) = m ((c.tc : Thread Cert.AttnFwdOneIdeal.nD Cert.AttnFwdOneIdeal.τ).loc Cert.AttnFwdOneIdeal.main_arg1)
      ∧ r.2.mem ((c.tc : Thread Cert.AttnFwdOneIdeal.nD Cert.AttnFwdOneIdeal.τ).loc Cert.AttnFwdOneIdeal.main_arg2) = m ((c.tc : Thread Cert.AttnFwdOneIdeal.nD Cert.AttnFwdOneIdeal.τ).loc Cert.AttnFwdOneIdeal.main_arg2))
      ∧ r.2.sem = fun _ => 0)

def quiescent_AttnFwdOneRefIdeal [hAttnFwdOneRefIdeal : Cert.AttnFwdOneRefIdeal.Facts] : Prop :=
  ∀ (m : (ℓ : Loc Cert.AttnFwdOneRefIdeal.nD Cert.AttnFwdOneRefIdeal.τ Cert.AttnFwdOneRefIdeal.sig) → Buf (Elt Ideal) ℓ) (g : Dev Cert.AttnFwdOneRefIdeal.nD → PrngReg), Pre_AttnFwdOneRefIdeal m →
    θ_run (Cert.AttnFwdOneRefIdeal.defs (F := Ideal)) (onTc (τ := Cert.AttnFwdOneRefIdeal.τ) (Cert.AttnFwdOneRefIdeal.main (F := Ideal))) ⟨m, fun _ => 0, g⟩ (fun r => (∀ c : Dev Cert.AttnFwdOneRefIdeal.nD,
      r.2.mem ((c.tc : Thread Cert.AttnFwdOneRefIdeal.nD Cert.AttnFwdOneRefIdeal.τ).loc Cert.AttnFwdOneRefIdeal.main_arg0) = m ((c.tc : Thread Cert.AttnFwdOneRefIdeal.nD Cert.AttnFwdOneRefIdeal.τ).loc Cert.AttnFwdOneRefIdeal.main_arg0)
      ∧ r.2.mem ((c.tc : Thread Cert.AttnFwdOneRefIdeal.nD Cert.AttnFwdOneRefIdeal.τ).loc Cert.AttnFwdOneRefIdeal.main_arg1) = m ((c.tc : Thread Cert.AttnFwdOneRefIdeal.nD Cert.AttnFwdOneRefIdeal.τ).loc Cert.AttnFwdOneRefIdeal.main_arg1)
      ∧ r.2.mem ((c.tc : Thread Cert.AttnFwdOneRefIdeal.nD Cert.AttnFwdOneRefIdeal.τ).loc Cert.AttnFwdOneRefIdeal.main_arg2) = m ((c.tc : Thread Cert.AttnFwdOneRefIdeal.nD Cert.AttnFwdOneRefIdeal.τ).loc Cert.AttnFwdOneRefIdeal.main_arg2))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2)
      ∧ r.2.mem ((c.tc : Thread Cert.FfnInDx.nD Cert.FfnInDx.τ).loc Cert.FfnInDx.main_arg3) = m ((c.tc : Thread Cert.FfnInDx.nD Cert.FfnInDx.τ).loc Cert.FfnInDx.main_arg3)
      ∧ r.2.mem ((c.tc : Thread Cert.FfnInDx.nD Cert.FfnInDx.τ).loc Cert.FfnInDx.main_arg4) = m ((c.tc : Thread Cert.FfnInDx.nD Cert.FfnInDx.τ).loc Cert.FfnInDx.main_arg4))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
      ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3)
      ∧ r.2.mem ((c.tc : Thread Cert.FfnInDxIdeal.nD Cert.FfnInDxIdeal.τ).loc Cert.FfnInDxIdeal.main_arg4) = m ((c.tc : Thread Cert.FfnInDxIdeal.nD Cert.FfnInDxIdeal.τ).loc Cert.FfnInDxIdeal.main_arg4))
      ∧ r.2.sem = fun _ => 0)

def quiescent_FfnInDxIdeal_pre_ffn_in_dx_pre [hFfnInDxIdeal : Cert.FfnInDxIdeal.Facts] [hPre_ffn_in_dx_pre : Cert.Pre_ffn_in_dx_pre.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal_ffn_in_dx_pre m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
      ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3)
      ∧ r.2.mem ((c.tc : Thread Cert.FfnInDxIdeal.nD Cert.FfnInDxIdeal.τ).loc Cert.FfnInDxIdeal.main_arg4) = m ((c.tc : Thread Cert.FfnInDxIdeal.nD Cert.FfnInDxIdeal.τ).loc Cert.FfnInDxIdeal.main_arg4))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2)
      ∧ r.2.mem ((c.tc : Thread Cert.FfnInDxRefIdeal.nD Cert.FfnInDxRefIdeal.τ).loc Cert.FfnInDxRefIdeal.main_arg3) = m ((c.tc : Thread Cert.FfnInDxRefIdeal.nD Cert.FfnInDxRefIdeal.τ).loc Cert.FfnInDxRefIdeal.main_arg3)
      ∧ r.2.mem ((c.tc : Thread Cert.FfnInDxRefIdeal.nD Cert.FfnInDxRefIdeal.τ).loc Cert.FfnInDxRefIdeal.main_arg4) = m ((c.tc : Thread Cert.FfnInDxRefIdeal.nD Cert.FfnInDxRefIdeal.τ).loc Cert.FfnInDxRefIdeal.main_arg4))
      ∧ r.2.sem = fun _ => 0)

def quiescent_FfnInDxRefIdeal_pre_ffn_in_dx_pre [hFfnInDxRefIdeal : Cert.FfnInDxRefIdeal.Facts] [hPre_ffn_in_dx_pre : Cert.Pre_ffn_in_dx_pre.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal_ffn_in_dx_pre m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2)
      ∧ r.2.mem ((c.tc : Thread Cert.FfnInDxRefIdeal.nD Cert.FfnInDxRefIdeal.τ).loc Cert.FfnInDxRefIdeal.main_arg3) = m ((c.tc : Thread Cert.FfnInDxRefIdeal.nD Cert.FfnInDxRefIdeal.τ).loc Cert.FfnInDxRefIdeal.main_arg3)
      ∧ r.2.mem ((c.tc : Thread Cert.FfnInDxRefIdeal.nD Cert.FfnInDxRefIdeal.τ).loc Cert.FfnInDxRefIdeal.main_arg4) = m ((c.tc : Thread Cert.FfnInDxRefIdeal.nD Cert.FfnInDxRefIdeal.τ).loc Cert.FfnInDxRefIdeal.main_arg4))
      ∧ r.2.sem = fun _ => 0)

def quiescent_HgInDx [hHgInDx : Cert.HgInDx.Facts] : Prop :=
  ∀ (m : (ℓ : Loc Cert.HgInDx.nD Cert.HgInDx.τ Cert.HgInDx.sig) → Buf (Elt Bits) ℓ) (g : Dev Cert.HgInDx.nD → PrngReg), Pre_HgInDx m →
    θ_run (Cert.HgInDx.defs (F := Bits)) (onTc (τ := Cert.HgInDx.τ) (Cert.HgInDx.main (F := Bits))) ⟨m, fun _ => 0, g⟩ (fun r => (∀ c : Dev Cert.HgInDx.nD,
      r.2.mem ((c.tc : Thread Cert.HgInDx.nD Cert.HgInDx.τ).loc Cert.HgInDx.main_arg0) = m ((c.tc : Thread Cert.HgInDx.nD Cert.HgInDx.τ).loc Cert.HgInDx.main_arg0)
      ∧ r.2.mem ((c.tc : Thread Cert.HgInDx.nD Cert.HgInDx.τ).loc Cert.HgInDx.main_arg1) = m ((c.tc : Thread Cert.HgInDx.nD Cert.HgInDx.τ).loc Cert.HgInDx.main_arg1)
      ∧ r.2.mem ((c.tc : Thread Cert.HgInDx.nD Cert.HgInDx.τ).loc Cert.HgInDx.main_arg2) = m ((c.tc : Thread Cert.HgInDx.nD Cert.HgInDx.τ).loc Cert.HgInDx.main_arg2)
      ∧ r.2.mem ((c.tc : Thread Cert.HgInDx.nD Cert.HgInDx.τ).loc Cert.HgInDx.main_arg3) = m ((c.tc : Thread Cert.HgInDx.nD Cert.HgInDx.τ).loc Cert.HgInDx.main_arg3)
      ∧ r.2.mem ((c.tc : Thread Cert.HgInDx.nD Cert.HgInDx.τ).loc Cert.HgInDx.main_arg4) = m ((c.tc : Thread Cert.HgInDx.nD Cert.HgInDx.τ).loc Cert.HgInDx.main_arg4)
      ∧ r.2.mem ((c.tc : Thread Cert.HgInDx.nD Cert.HgInDx.τ).loc Cert.HgInDx.main_arg5) = m ((c.tc : Thread Cert.HgInDx.nD Cert.HgInDx.τ).loc Cert.HgInDx.main_arg5))
      ∧ r.2.sem = fun _ => 0)

def quiescent_HgInDxIdeal [hHgInDxIdeal : Cert.HgInDxIdeal.Facts] : Prop :=
  ∀ (m : (ℓ : Loc Cert.HgInDxIdeal.nD Cert.HgInDxIdeal.τ Cert.HgInDxIdeal.sig) → Buf (Elt Ideal) ℓ) (g : Dev Cert.HgInDxIdeal.nD → PrngReg), Pre_HgInDxIdeal m →
    θ_run (Cert.HgInDxIdeal.defs (F := Ideal)) (onTc (τ := Cert.HgInDxIdeal.τ) (Cert.HgInDxIdeal.main (F := Ideal))) ⟨m, fun _ => 0, g⟩ (fun r => (∀ c : Dev Cert.HgInDxIdeal.nD,
      r.2.mem ((c.tc : Thread Cert.HgInDxIdeal.nD Cert.HgInDxIdeal.τ).loc Cert.HgInDxIdeal.main_arg0) = m ((c.tc : Thread Cert.HgInDxIdeal.nD Cert.HgInDxIdeal.τ).loc Cert.HgInDxIdeal.main_arg0)
      ∧ r.2.mem ((c.tc : Thread Cert.HgInDxIdeal.nD Cert.HgInDxIdeal.τ).loc Cert.HgInDxIdeal.main_arg1) = m ((c.tc : Thread Cert.HgInDxIdeal.nD Cert.HgInDxIdeal.τ).loc Cert.HgInDxIdeal.main_arg1)
      ∧ r.2.mem ((c.tc : Thread Cert.HgInDxIdeal.nD Cert.HgInDxIdeal.τ).loc Cert.HgInDxIdeal.main_arg2) = m ((c.tc : Thread Cert.HgInDxIdeal.nD Cert.HgInDxIdeal.τ).loc Cert.HgInDxIdeal.main_arg2)
      ∧ r.2.mem ((c.tc : Thread Cert.HgInDxIdeal.nD Cert.HgInDxIdeal.τ).loc Cert.HgInDxIdeal.main_arg3) = m ((c.tc : Thread Cert.HgInDxIdeal.nD Cert.HgInDxIdeal.τ).loc Cert.HgInDxIdeal.main_arg3)
      ∧ r.2.mem ((c.tc : Thread Cert.HgInDxIdeal.nD Cert.HgInDxIdeal.τ).loc Cert.HgInDxIdeal.main_arg4) = m ((c.tc : Thread Cert.HgInDxIdeal.nD Cert.HgInDxIdeal.τ).loc Cert.HgInDxIdeal.main_arg4)
      ∧ r.2.mem ((c.tc : Thread Cert.HgInDxIdeal.nD Cert.HgInDxIdeal.τ).loc Cert.HgInDxIdeal.main_arg5) = m ((c.tc : Thread Cert.HgInDxIdeal.nD Cert.HgInDxIdeal.τ).loc Cert.HgInDxIdeal.main_arg5))
      ∧ r.2.sem = fun _ => 0)

def quiescent_HgInDxIdeal_pre_hg_in_dx_pre [hHgInDxIdeal : Cert.HgInDxIdeal.Facts] [hPre_hg_in_dx_pre : Cert.Pre_hg_in_dx_pre.Facts] : Prop :=
  ∀ (m : (ℓ : Loc Cert.HgInDxIdeal.nD Cert.HgInDxIdeal.τ Cert.HgInDxIdeal.sig) → Buf (Elt Ideal) ℓ) (g : Dev Cert.HgInDxIdeal.nD → PrngReg), Pre_HgInDxIdeal_hg_in_dx_pre m →
    θ_run (Cert.HgInDxIdeal.defs (F := Ideal)) (onTc (τ := Cert.HgInDxIdeal.τ) (Cert.HgInDxIdeal.main (F := Ideal))) ⟨m, fun _ => 0, g⟩ (fun r => (∀ c : Dev Cert.HgInDxIdeal.nD,
      r.2.mem ((c.tc : Thread Cert.HgInDxIdeal.nD Cert.HgInDxIdeal.τ).loc Cert.HgInDxIdeal.main_arg0) = m ((c.tc : Thread Cert.HgInDxIdeal.nD Cert.HgInDxIdeal.τ).loc Cert.HgInDxIdeal.main_arg0)
      ∧ r.2.mem ((c.tc : Thread Cert.HgInDxIdeal.nD Cert.HgInDxIdeal.τ).loc Cert.HgInDxIdeal.main_arg1) = m ((c.tc : Thread Cert.HgInDxIdeal.nD Cert.HgInDxIdeal.τ).loc Cert.HgInDxIdeal.main_arg1)
      ∧ r.2.mem ((c.tc : Thread Cert.HgInDxIdeal.nD Cert.HgInDxIdeal.τ).loc Cert.HgInDxIdeal.main_arg2) = m ((c.tc : Thread Cert.HgInDxIdeal.nD Cert.HgInDxIdeal.τ).loc Cert.HgInDxIdeal.main_arg2)
      ∧ r.2.mem ((c.tc : Thread Cert.HgInDxIdeal.nD Cert.HgInDxIdeal.τ).loc Cert.HgInDxIdeal.main_arg3) = m ((c.tc : Thread Cert.HgInDxIdeal.nD Cert.HgInDxIdeal.τ).loc Cert.HgInDxIdeal.main_arg3)
      ∧ r.2.mem ((c.tc : Thread Cert.HgInDxIdeal.nD Cert.HgInDxIdeal.τ).loc Cert.HgInDxIdeal.main_arg4) = m ((c.tc : Thread Cert.HgInDxIdeal.nD Cert.HgInDxIdeal.τ).loc Cert.HgInDxIdeal.main_arg4)
      ∧ r.2.mem ((c.tc : Thread Cert.HgInDxIdeal.nD Cert.HgInDxIdeal.τ).loc Cert.HgInDxIdeal.main_arg5) = m ((c.tc : Thread Cert.HgInDxIdeal.nD Cert.HgInDxIdeal.τ).loc Cert.HgInDxIdeal.main_arg5))
      ∧ r.2.sem = fun _ => 0)

def quiescent_HgInDxRefIdeal [hHgInDxRefIdeal : Cert.HgInDxRefIdeal.Facts] : Prop :=
  ∀ (m : (ℓ : Loc Cert.HgInDxRefIdeal.nD Cert.HgInDxRefIdeal.τ Cert.HgInDxRefIdeal.sig) → Buf (Elt Ideal) ℓ) (g : Dev Cert.HgInDxRefIdeal.nD → PrngReg), Pre_HgInDxRefIdeal m →
    θ_run (Cert.HgInDxRefIdeal.defs (F := Ideal)) (onTc (τ := Cert.HgInDxRefIdeal.τ) (Cert.HgInDxRefIdeal.main (F := Ideal))) ⟨m, fun _ => 0, g⟩ (fun r => (∀ c : Dev Cert.HgInDxRefIdeal.nD,
      r.2.mem ((c.tc : Thread Cert.HgInDxRefIdeal.nD Cert.HgInDxRefIdeal.τ).loc Cert.HgInDxRefIdeal.main_arg0) = m ((c.tc : Thread Cert.HgInDxRefIdeal.nD Cert.HgInDxRefIdeal.τ).loc Cert.HgInDxRefIdeal.main_arg0)
      ∧ r.2.mem ((c.tc : Thread Cert.HgInDxRefIdeal.nD Cert.HgInDxRefIdeal.τ).loc Cert.HgInDxRefIdeal.main_arg1) = m ((c.tc : Thread Cert.HgInDxRefIdeal.nD Cert.HgInDxRefIdeal.τ).loc Cert.HgInDxRefIdeal.main_arg1)
      ∧ r.2.mem ((c.tc : Thread Cert.HgInDxRefIdeal.nD Cert.HgInDxRefIdeal.τ).loc Cert.HgInDxRefIdeal.main_arg2) = m ((c.tc : Thread Cert.HgInDxRefIdeal.nD Cert.HgInDxRefIdeal.τ).loc Cert.HgInDxRefIdeal.main_arg2)
      ∧ r.2.mem ((c.tc : Thread Cert.HgInDxRefIdeal.nD Cert.HgInDxRefIdeal.τ).loc Cert.HgInDxRefIdeal.main_arg3) = m ((c.tc : Thread Cert.HgInDxRefIdeal.nD Cert.HgInDxRefIdeal.τ).loc Cert.HgInDxRefIdeal.main_arg3)
      ∧ r.2.mem ((c.tc : Thread Cert.HgInDxRefIdeal.nD Cert.HgInDxRefIdeal.τ).loc Cert.HgInDxRefIdeal.main_arg4) = m ((c.tc : Thread Cert.HgInDxRefIdeal.nD Cert.HgInDxRefIdeal.τ).loc Cert.HgInDxRefIdeal.main_arg4)
      ∧ r.2.mem ((c.tc : Thread Cert.HgInDxRefIdeal.nD Cert.HgInDxRefIdeal.τ).loc Cert.HgInDxRefIdeal.main_arg5) = m ((c.tc : Thread Cert.HgInDxRefIdeal.nD Cert.HgInDxRefIdeal.τ).loc Cert.HgInDxRefIdeal.main_arg5))
      ∧ r.2.sem = fun _ => 0)

def quiescent_HgInDxRefIdeal_pre_hg_in_dx_pre [hHgInDxRefIdeal : Cert.HgInDxRefIdeal.Facts] [hPre_hg_in_dx_pre : Cert.Pre_hg_in_dx_pre.Facts] : Prop :=
  ∀ (m : (ℓ : Loc Cert.HgInDxRefIdeal.nD Cert.HgInDxRefIdeal.τ Cert.HgInDxRefIdeal.sig) → Buf (Elt Ideal) ℓ) (g : Dev Cert.HgInDxRefIdeal.nD → PrngReg), Pre_HgInDxRefIdeal_hg_in_dx_pre m →
    θ_run (Cert.HgInDxRefIdeal.defs (F := Ideal)) (onTc (τ := Cert.HgInDxRefIdeal.τ) (Cert.HgInDxRefIdeal.main (F := Ideal))) ⟨m, fun _ => 0, g⟩ (fun r => (∀ c : Dev Cert.HgInDxRefIdeal.nD,
      r.2.mem ((c.tc : Thread Cert.HgInDxRefIdeal.nD Cert.HgInDxRefIdeal.τ).loc Cert.HgInDxRefIdeal.main_arg0) = m ((c.tc : Thread Cert.HgInDxRefIdeal.nD Cert.HgInDxRefIdeal.τ).loc Cert.HgInDxRefIdeal.main_arg0)
      ∧ r.2.mem ((c.tc : Thread Cert.HgInDxRefIdeal.nD Cert.HgInDxRefIdeal.τ).loc Cert.HgInDxRefIdeal.main_arg1) = m ((c.tc : Thread Cert.HgInDxRefIdeal.nD Cert.HgInDxRefIdeal.τ).loc Cert.HgInDxRefIdeal.main_arg1)
      ∧ r.2.mem ((c.tc : Thread Cert.HgInDxRefIdeal.nD Cert.HgInDxRefIdeal.τ).loc Cert.HgInDxRefIdeal.main_arg2) = m ((c.tc : Thread Cert.HgInDxRefIdeal.nD Cert.HgInDxRefIdeal.τ).loc Cert.HgInDxRefIdeal.main_arg2)
      ∧ r.2.mem ((c.tc : Thread Cert.HgInDxRefIdeal.nD Cert.HgInDxRefIdeal.τ).loc Cert.HgInDxRefIdeal.main_arg3) = m ((c.tc : Thread Cert.HgInDxRefIdeal.nD Cert.HgInDxRefIdeal.τ).loc Cert.HgInDxRefIdeal.main_arg3)
      ∧ r.2.mem ((c.tc : Thread Cert.HgInDxRefIdeal.nD Cert.HgInDxRefIdeal.τ).loc Cert.HgInDxRefIdeal.main_arg4) = m ((c.tc : Thread Cert.HgInDxRefIdeal.nD Cert.HgInDxRefIdeal.τ).loc Cert.HgInDxRefIdeal.main_arg4)
      ∧ r.2.mem ((c.tc : Thread Cert.HgInDxRefIdeal.nD Cert.HgInDxRefIdeal.τ).loc Cert.HgInDxRefIdeal.main_arg5) = m ((c.tc : Thread Cert.HgInDxRefIdeal.nD Cert.HgInDxRefIdeal.τ).loc Cert.HgInDxRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadIdeal_pre_loss_head_pre [hLossHeadIdeal : Cert.LossHeadIdeal.Facts] [hPre_loss_head_pre : Cert.Pre_loss_head_pre.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_head_pre m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_LossHeadRefIdeal_pre_loss_head_pre [hLossHeadRefIdeal : Cert.LossHeadRefIdeal.Facts] [hPre_loss_head_pre : Cert.Pre_loss_head_pre.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_head_pre m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_FfnActBwd [hFfnActBwd : Cert.FfnActBwd.Facts] : Prop :=
  ∀ (m : (ℓ : Loc Cert.FfnActBwd.nD Cert.FfnActBwd.τ Cert.FfnActBwd.sig) → Buf (Elt Bits) ℓ) (g : Dev Cert.FfnActBwd.nD → PrngReg), Pre_FfnActBwd m →
    θ_run (Cert.FfnActBwd.defs (F := Bits)) (onTc (τ := Cert.FfnActBwd.τ) (Cert.FfnActBwd.main (F := Bits))) ⟨m, fun _ => 0, g⟩ (fun r => (∀ c : Dev Cert.FfnActBwd.nD,
      r.2.mem ((c.tc : Thread Cert.FfnActBwd.nD Cert.FfnActBwd.τ).loc Cert.FfnActBwd.main_arg0) = m ((c.tc : Thread Cert.FfnActBwd.nD Cert.FfnActBwd.τ).loc Cert.FfnActBwd.main_arg0)
      ∧ r.2.mem ((c.tc : Thread Cert.FfnActBwd.nD Cert.FfnActBwd.τ).loc Cert.FfnActBwd.main_arg1) = m ((c.tc : Thread Cert.FfnActBwd.nD Cert.FfnActBwd.τ).loc Cert.FfnActBwd.main_arg1)
      ∧ r.2.mem ((c.tc : Thread Cert.FfnActBwd.nD Cert.FfnActBwd.τ).loc Cert.FfnActBwd.main_arg2) = m ((c.tc : Thread Cert.FfnActBwd.nD Cert.FfnActBwd.τ).loc Cert.FfnActBwd.main_arg2)
      ∧ r.2.mem ((c.tc : Thread Cert.FfnActBwd.nD Cert.FfnActBwd.τ).loc Cert.FfnActBwd.main_arg3) = m ((c.tc : Thread Cert.FfnActBwd.nD Cert.FfnActBwd.τ).loc Cert.FfnActBwd.main_arg3)
      ∧ r.2.mem ((c.tc : Thread Cert.FfnActBwd.nD Cert.FfnActBwd.τ).loc Cert.FfnActBwd.main_arg4) = m ((c.tc : Thread Cert.FfnActBwd.nD Cert.FfnActBwd.τ).loc Cert.FfnActBwd.main_arg4))
      ∧ r.2.sem = fun _ => 0)

def quiescent_FfnActBwdIdeal [hFfnActBwdIdeal : Cert.FfnActBwdIdeal.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg), Pre_FfnActBwdIdeal m →
    θ_run (Cert.FfnActBwdIdeal.defs (F := Ideal)) (onTc (τ := Cert.FfnActBwdIdeal.τ) (Cert.FfnActBwdIdeal.main (F := Ideal))) ⟨m, fun _ => 0, g⟩ (fun r => (∀ c : Dev Cert.FfnActBwdIdeal.nD,
      r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
      ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
      ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
      ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3)
      ∧ r.2.mem ((c.tc : Thread Cert.FfnActBwdIdeal.nD Cert.FfnActBwdIdeal.τ).loc Cert.FfnActBwdIdeal.main_arg4) = m ((c.tc : Thread Cert.FfnActBwdIdeal.nD Cert.FfnActBwdIdeal.τ).loc Cert.FfnActBwdIdeal.main_arg4))
      ∧ r.2.sem = fun _ => 0)

def quiescent_FfnActBwdIdeal_pre_ffn_act_bwd_pre [hFfnActBwdIdeal : Cert.FfnActBwdIdeal.Facts] [hPre_ffn_act_bwd_pre : Cert.Pre_ffn_act_bwd_pre.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg), Pre_FfnActBwdIdeal_ffn_act_bwd_pre m →
    θ_run (Cert.FfnActBwdIdeal.defs (F := Ideal)) (onTc (τ := Cert.FfnActBwdIdeal.τ) (Cert.FfnActBwdIdeal.main (F := Ideal))) ⟨m, fun _ => 0, g⟩ (fun r => (∀ c : Dev Cert.FfnActBwdIdeal.nD,
      r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
      ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
      ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
      ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3)
      ∧ r.2.mem ((c.tc : Thread Cert.FfnActBwdIdeal.nD Cert.FfnActBwdIdeal.τ).loc Cert.FfnActBwdIdeal.main_arg4) = m ((c.tc : Thread Cert.FfnActBwdIdeal.nD Cert.FfnActBwdIdeal.τ).loc Cert.FfnActBwdIdeal.main_arg4))
      ∧ r.2.sem = fun _ => 0)

def quiescent_FfnActBwdRefIdeal [hFfnActBwdRefIdeal : Cert.FfnActBwdRefIdeal.Facts] : Prop :=
  ∀ (m : (ℓ : Loc Cert.FfnActBwdRefIdeal.nD Cert.FfnActBwdRefIdeal.τ Cert.FfnActBwdRefIdeal.sig) → Buf (Elt Ideal) ℓ) (g : Dev Cert.FfnActBwdRefIdeal.nD → PrngReg), Pre_FfnActBwdRefIdeal m →
    θ_run (Cert.FfnActBwdRefIdeal.defs (F := Ideal)) (onTc (τ := Cert.FfnActBwdRefIdeal.τ) (Cert.FfnActBwdRefIdeal.main (F := Ideal))) ⟨m, fun _ => 0, g⟩ (fun r => (∀ c : Dev Cert.FfnActBwdRefIdeal.nD,
      r.2.mem ((c.tc : Thread Cert.FfnActBwdRefIdeal.nD Cert.FfnActBwdRefIdeal.τ).loc Cert.FfnActBwdRefIdeal.main_arg0) = m ((c.tc : Thread Cert.FfnActBwdRefIdeal.nD Cert.FfnActBwdRefIdeal.τ).loc Cert.FfnActBwdRefIdeal.main_arg0)
      ∧ r.2.mem ((c.tc : Thread Cert.FfnActBwdRefIdeal.nD Cert.FfnActBwdRefIdeal.τ).loc Cert.FfnActBwdRefIdeal.main_arg1) = m ((c.tc : Thread Cert.FfnActBwdRefIdeal.nD Cert.FfnActBwdRefIdeal.τ).loc Cert.FfnActBwdRefIdeal.main_arg1)
      ∧ r.2.mem ((c.tc : Thread Cert.FfnActBwdRefIdeal.nD Cert.FfnActBwdRefIdeal.τ).loc Cert.FfnActBwdRefIdeal.main_arg2) = m ((c.tc : Thread Cert.FfnActBwdRefIdeal.nD Cert.FfnActBwdRefIdeal.τ).loc Cert.FfnActBwdRefIdeal.main_arg2)
      ∧ r.2.mem ((c.tc : Thread Cert.FfnActBwdRefIdeal.nD Cert.FfnActBwdRefIdeal.τ).loc Cert.FfnActBwdRefIdeal.main_arg3) = m ((c.tc : Thread Cert.FfnActBwdRefIdeal.nD Cert.FfnActBwdRefIdeal.τ).loc Cert.FfnActBwdRefIdeal.main_arg3)
      ∧ r.2.mem ((c.tc : Thread Cert.FfnActBwdRefIdeal.nD Cert.FfnActBwdRefIdeal.τ).loc Cert.FfnActBwdRefIdeal.main_arg4) = m ((c.tc : Thread Cert.FfnActBwdRefIdeal.nD Cert.FfnActBwdRefIdeal.τ).loc Cert.FfnActBwdRefIdeal.main_arg4))
      ∧ r.2.sem = fun _ => 0)

def quiescent_FfnActBwdRefIdeal_pre_ffn_act_bwd_pre [hFfnActBwdRefIdeal : Cert.FfnActBwdRefIdeal.Facts] [hPre_ffn_act_bwd_pre : Cert.Pre_ffn_act_bwd_pre.Facts] : Prop :=
  ∀ (m : (ℓ : Loc Cert.FfnActBwdRefIdeal.nD Cert.FfnActBwdRefIdeal.τ Cert.FfnActBwdRefIdeal.sig) → Buf (Elt Ideal) ℓ) (g : Dev Cert.FfnActBwdRefIdeal.nD → PrngReg), Pre_FfnActBwdRefIdeal_ffn_act_bwd_pre m →
    θ_run (Cert.FfnActBwdRefIdeal.defs (F := Ideal)) (onTc (τ := Cert.FfnActBwdRefIdeal.τ) (Cert.FfnActBwdRefIdeal.main (F := Ideal))) ⟨m, fun _ => 0, g⟩ (fun r => (∀ c : Dev Cert.FfnActBwdRefIdeal.nD,
      r.2.mem ((c.tc : Thread Cert.FfnActBwdRefIdeal.nD Cert.FfnActBwdRefIdeal.τ).loc Cert.FfnActBwdRefIdeal.main_arg0) = m ((c.tc : Thread Cert.FfnActBwdRefIdeal.nD Cert.FfnActBwdRefIdeal.τ).loc Cert.FfnActBwdRefIdeal.main_arg0)
      ∧ r.2.mem ((c.tc : Thread Cert.FfnActBwdRefIdeal.nD Cert.FfnActBwdRefIdeal.τ).loc Cert.FfnActBwdRefIdeal.main_arg1) = m ((c.tc : Thread Cert.FfnActBwdRefIdeal.nD Cert.FfnActBwdRefIdeal.τ).loc Cert.FfnActBwdRefIdeal.main_arg1)
      ∧ r.2.mem ((c.tc : Thread Cert.FfnActBwdRefIdeal.nD Cert.FfnActBwdRefIdeal.τ).loc Cert.FfnActBwdRefIdeal.main_arg2) = m ((c.tc : Thread Cert.FfnActBwdRefIdeal.nD Cert.FfnActBwdRefIdeal.τ).loc Cert.FfnActBwdRefIdeal.main_arg2)
      ∧ r.2.mem ((c.tc : Thread Cert.FfnActBwdRefIdeal.nD Cert.FfnActBwdRefIdeal.τ).loc Cert.FfnActBwdRefIdeal.main_arg3) = m ((c.tc : Thread Cert.FfnActBwdRefIdeal.nD Cert.FfnActBwdRefIdeal.τ).loc Cert.FfnActBwdRefIdeal.main_arg3)
      ∧ r.2.mem ((c.tc : Thread Cert.FfnActBwdRefIdeal.nD Cert.FfnActBwdRefIdeal.τ).loc Cert.FfnActBwdRefIdeal.main_arg4) = m ((c.tc : Thread Cert.FfnActBwdRefIdeal.nD Cert.FfnActBwdRefIdeal.τ).loc Cert.FfnActBwdRefIdeal.main_arg4))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4)
      ∧ r.2.mem ((c.tc : Thread Cert.GmlpBwd.nD Cert.GmlpBwd.τ).loc Cert.GmlpBwd.main_arg5) = m ((c.tc : Thread Cert.GmlpBwd.nD Cert.GmlpBwd.τ).loc Cert.GmlpBwd.main_arg5))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ r.2.sem = fun _ => 0)

def quiescent_GmlpBwdRefIdeal [hGmlpBwdRefIdeal : Cert.GmlpBwdRefIdeal.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_GmInDx [hGmInDx : Cert.GmInDx.Facts] : Prop :=
  ∀ (m : (ℓ : Loc Cert.GmInDx.nD Cert.GmInDx.τ Cert.GmInDx.sig) → Buf (Elt Bits) ℓ) (g : Dev Cert.GmInDx.nD → PrngReg), Pre_GmInDx m →
    θ_run (Cert.GmInDx.defs (F := Bits)) (onTc (τ := Cert.GmInDx.τ) (Cert.GmInDx.main (F := Bits))) ⟨m, fun _ => 0, g⟩ (fun r => (∀ c : Dev Cert.GmInDx.nD,
      r.2.mem ((c.tc : Thread Cert.GmInDx.nD Cert.GmInDx.τ).loc Cert.GmInDx.main_arg0) = m ((c.tc : Thread Cert.GmInDx.nD Cert.GmInDx.τ).loc Cert.GmInDx.main_arg0)
      ∧ r.2.mem ((c.tc : Thread Cert.GmInDx.nD Cert.GmInDx.τ).loc Cert.GmInDx.main_arg1) = m ((c.tc : Thread Cert.GmInDx.nD Cert.GmInDx.τ).loc Cert.GmInDx.main_arg1)
      ∧ r.2.mem ((c.tc : Thread Cert.GmInDx.nD Cert.GmInDx.τ).loc Cert.GmInDx.main_arg2) = m ((c.tc : Thread Cert.GmInDx.nD Cert.GmInDx.τ).loc Cert.GmInDx.main_arg2)
      ∧ r.2.mem ((c.tc : Thread Cert.GmInDx.nD Cert.GmInDx.τ).loc Cert.GmInDx.main_arg3) = m ((c.tc : Thread Cert.GmInDx.nD Cert.GmInDx.τ).loc Cert.GmInDx.main_arg3)
      ∧ r.2.mem ((c.tc : Thread Cert.GmInDx.nD Cert.GmInDx.τ).loc Cert.GmInDx.main_arg4) = m ((c.tc : Thread Cert.GmInDx.nD Cert.GmInDx.τ).loc Cert.GmInDx.main_arg4))
      ∧ r.2.sem = fun _ => 0)

def quiescent_GmInDxIdeal [hGmInDxIdeal : Cert.GmInDxIdeal.Facts] : Prop :=
  ∀ (m : (ℓ : Loc Cert.GmInDxIdeal.nD Cert.GmInDxIdeal.τ Cert.GmInDxIdeal.sig) → Buf (Elt Ideal) ℓ) (g : Dev Cert.GmInDxIdeal.nD → PrngReg), Pre_GmInDxIdeal m →
    θ_run (Cert.GmInDxIdeal.defs (F := Ideal)) (onTc (τ := Cert.GmInDxIdeal.τ) (Cert.GmInDxIdeal.main (F := Ideal))) ⟨m, fun _ => 0, g⟩ (fun r => (∀ c : Dev Cert.GmInDxIdeal.nD,
      r.2.mem ((c.tc : Thread Cert.GmInDxIdeal.nD Cert.GmInDxIdeal.τ).loc Cert.GmInDxIdeal.main_arg0) = m ((c.tc : Thread Cert.GmInDxIdeal.nD Cert.GmInDxIdeal.τ).loc Cert.GmInDxIdeal.main_arg0)
      ∧ r.2.mem ((c.tc : Thread Cert.GmInDxIdeal.nD Cert.GmInDxIdeal.τ).loc Cert.GmInDxIdeal.main_arg1) = m ((c.tc : Thread Cert.GmInDxIdeal.nD Cert.GmInDxIdeal.τ).loc Cert.GmInDxIdeal.main_arg1)
      ∧ r.2.mem ((c.tc : Thread Cert.GmInDxIdeal.nD Cert.GmInDxIdeal.τ).loc Cert.GmInDxIdeal.main_arg2) = m ((c.tc : Thread Cert.GmInDxIdeal.nD Cert.GmInDxIdeal.τ).loc Cert.GmInDxIdeal.main_arg2)
      ∧ r.2.mem ((c.tc : Thread Cert.GmInDxIdeal.nD Cert.GmInDxIdeal.τ).loc Cert.GmInDxIdeal.main_arg3) = m ((c.tc : Thread Cert.GmInDxIdeal.nD Cert.GmInDxIdeal.τ).loc Cert.GmInDxIdeal.main_arg3)
      ∧ r.2.mem ((c.tc : Thread Cert.GmInDxIdeal.nD Cert.GmInDxIdeal.τ).loc Cert.GmInDxIdeal.main_arg4) = m ((c.tc : Thread Cert.GmInDxIdeal.nD Cert.GmInDxIdeal.τ).loc Cert.GmInDxIdeal.main_arg4))
      ∧ r.2.sem = fun _ => 0)

def quiescent_GmInDxIdeal_pre_gm_in_dx_pre [hGmInDxIdeal : Cert.GmInDxIdeal.Facts] [hPre_gm_in_dx_pre : Cert.Pre_gm_in_dx_pre.Facts] : Prop :=
  ∀ (m : (ℓ : Loc Cert.GmInDxIdeal.nD Cert.GmInDxIdeal.τ Cert.GmInDxIdeal.sig) → Buf (Elt Ideal) ℓ) (g : Dev Cert.GmInDxIdeal.nD → PrngReg), Pre_GmInDxIdeal_gm_in_dx_pre m →
    θ_run (Cert.GmInDxIdeal.defs (F := Ideal)) (onTc (τ := Cert.GmInDxIdeal.τ) (Cert.GmInDxIdeal.main (F := Ideal))) ⟨m, fun _ => 0, g⟩ (fun r => (∀ c : Dev Cert.GmInDxIdeal.nD,
      r.2.mem ((c.tc : Thread Cert.GmInDxIdeal.nD Cert.GmInDxIdeal.τ).loc Cert.GmInDxIdeal.main_arg0) = m ((c.tc : Thread Cert.GmInDxIdeal.nD Cert.GmInDxIdeal.τ).loc Cert.GmInDxIdeal.main_arg0)
      ∧ r.2.mem ((c.tc : Thread Cert.GmInDxIdeal.nD Cert.GmInDxIdeal.τ).loc Cert.GmInDxIdeal.main_arg1) = m ((c.tc : Thread Cert.GmInDxIdeal.nD Cert.GmInDxIdeal.τ).loc Cert.GmInDxIdeal.main_arg1)
      ∧ r.2.mem ((c.tc : Thread Cert.GmInDxIdeal.nD Cert.GmInDxIdeal.τ).loc Cert.GmInDxIdeal.main_arg2) = m ((c.tc : Thread Cert.GmInDxIdeal.nD Cert.GmInDxIdeal.τ).loc Cert.GmInDxIdeal.main_arg2)
      ∧ r.2.mem ((c.tc : Thread Cert.GmInDxIdeal.nD Cert.GmInDxIdeal.τ).loc Cert.GmInDxIdeal.main_arg3) = m ((c.tc : Thread Cert.GmInDxIdeal.nD Cert.GmInDxIdeal.τ).loc Cert.GmInDxIdeal.main_arg3)
      ∧ r.2.mem ((c.tc : Thread Cert.GmInDxIdeal.nD Cert.GmInDxIdeal.τ).loc Cert.GmInDxIdeal.main_arg4) = m ((c.tc : Thread Cert.GmInDxIdeal.nD Cert.GmInDxIdeal.τ).loc Cert.GmInDxIdeal.main_arg4))
      ∧ r.2.sem = fun _ => 0)

def quiescent_GmInDxRefIdeal [hGmInDxRefIdeal : Cert.GmInDxRefIdeal.Facts] : Prop :=
  ∀ (m : (ℓ : Loc Cert.GmInDxRefIdeal.nD Cert.GmInDxRefIdeal.τ Cert.GmInDxRefIdeal.sig) → Buf (Elt Ideal) ℓ) (g : Dev Cert.GmInDxRefIdeal.nD → PrngReg), Pre_GmInDxRefIdeal m →
    θ_run (Cert.GmInDxRefIdeal.defs (F := Ideal)) (onTc (τ := Cert.GmInDxRefIdeal.τ) (Cert.GmInDxRefIdeal.main (F := Ideal))) ⟨m, fun _ => 0, g⟩ (fun r => (∀ c : Dev Cert.GmInDxRefIdeal.nD,
      r.2.mem ((c.tc : Thread Cert.GmInDxRefIdeal.nD Cert.GmInDxRefIdeal.τ).loc Cert.GmInDxRefIdeal.main_arg0) = m ((c.tc : Thread Cert.GmInDxRefIdeal.nD Cert.GmInDxRefIdeal.τ).loc Cert.GmInDxRefIdeal.main_arg0)
      ∧ r.2.mem ((c.tc : Thread Cert.GmInDxRefIdeal.nD Cert.GmInDxRefIdeal.τ).loc Cert.GmInDxRefIdeal.main_arg1) = m ((c.tc : Thread Cert.GmInDxRefIdeal.nD Cert.GmInDxRefIdeal.τ).loc Cert.GmInDxRefIdeal.main_arg1)
      ∧ r.2.mem ((c.tc : Thread Cert.GmInDxRefIdeal.nD Cert.GmInDxRefIdeal.τ).loc Cert.GmInDxRefIdeal.main_arg2) = m ((c.tc : Thread Cert.GmInDxRefIdeal.nD Cert.GmInDxRefIdeal.τ).loc Cert.GmInDxRefIdeal.main_arg2)
      ∧ r.2.mem ((c.tc : Thread Cert.GmInDxRefIdeal.nD Cert.GmInDxRefIdeal.τ).loc Cert.GmInDxRefIdeal.main_arg3) = m ((c.tc : Thread Cert.GmInDxRefIdeal.nD Cert.GmInDxRefIdeal.τ).loc Cert.GmInDxRefIdeal.main_arg3)
      ∧ r.2.mem ((c.tc : Thread Cert.GmInDxRefIdeal.nD Cert.GmInDxRefIdeal.τ).loc Cert.GmInDxRefIdeal.main_arg4) = m ((c.tc : Thread Cert.GmInDxRefIdeal.nD Cert.GmInDxRefIdeal.τ).loc Cert.GmInDxRefIdeal.main_arg4))
      ∧ r.2.sem = fun _ => 0)

def quiescent_GmInDxRefIdeal_pre_gm_in_dx_pre [hGmInDxRefIdeal : Cert.GmInDxRefIdeal.Facts] [hPre_gm_in_dx_pre : Cert.Pre_gm_in_dx_pre.Facts] : Prop :=
  ∀ (m : (ℓ : Loc Cert.GmInDxRefIdeal.nD Cert.GmInDxRefIdeal.τ Cert.GmInDxRefIdeal.sig) → Buf (Elt Ideal) ℓ) (g : Dev Cert.GmInDxRefIdeal.nD → PrngReg), Pre_GmInDxRefIdeal_gm_in_dx_pre m →
    θ_run (Cert.GmInDxRefIdeal.defs (F := Ideal)) (onTc (τ := Cert.GmInDxRefIdeal.τ) (Cert.GmInDxRefIdeal.main (F := Ideal))) ⟨m, fun _ => 0, g⟩ (fun r => (∀ c : Dev Cert.GmInDxRefIdeal.nD,
      r.2.mem ((c.tc : Thread Cert.GmInDxRefIdeal.nD Cert.GmInDxRefIdeal.τ).loc Cert.GmInDxRefIdeal.main_arg0) = m ((c.tc : Thread Cert.GmInDxRefIdeal.nD Cert.GmInDxRefIdeal.τ).loc Cert.GmInDxRefIdeal.main_arg0)
      ∧ r.2.mem ((c.tc : Thread Cert.GmInDxRefIdeal.nD Cert.GmInDxRefIdeal.τ).loc Cert.GmInDxRefIdeal.main_arg1) = m ((c.tc : Thread Cert.GmInDxRefIdeal.nD Cert.GmInDxRefIdeal.τ).loc Cert.GmInDxRefIdeal.main_arg1)
      ∧ r.2.mem ((c.tc : Thread Cert.GmInDxRefIdeal.nD Cert.GmInDxRefIdeal.τ).loc Cert.GmInDxRefIdeal.main_arg2) = m ((c.tc : Thread Cert.GmInDxRefIdeal.nD Cert.GmInDxRefIdeal.τ).loc Cert.GmInDxRefIdeal.main_arg2)
      ∧ r.2.mem ((c.tc : Thread Cert.GmInDxRefIdeal.nD Cert.GmInDxRefIdeal.τ).loc Cert.GmInDxRefIdeal.main_arg3) = m ((c.tc : Thread Cert.GmInDxRefIdeal.nD Cert.GmInDxRefIdeal.τ).loc Cert.GmInDxRefIdeal.main_arg3)
      ∧ r.2.mem ((c.tc : Thread Cert.GmInDxRefIdeal.nD Cert.GmInDxRefIdeal.τ).loc Cert.GmInDxRefIdeal.main_arg4) = m ((c.tc : Thread Cert.GmInDxRefIdeal.nD Cert.GmInDxRefIdeal.τ).loc Cert.GmInDxRefIdeal.main_arg4))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_MemNormFwd [hMemNormFwd : Cert.MemNormFwd.Facts] : Prop :=
  ∀ (m : (ℓ : Loc Cert.MemNormFwd.nD Cert.MemNormFwd.τ Cert.MemNormFwd.sig) → Buf (Elt Bits) ℓ) (g : Dev Cert.MemNormFwd.nD → PrngReg), Pre_MemNormFwd m →
    θ_run (Cert.MemNormFwd.defs (F := Bits)) (onTc (τ := Cert.MemNormFwd.τ) (Cert.MemNormFwd.main (F := Bits))) ⟨m, fun _ => 0, g⟩ (fun r => (∀ c : Dev Cert.MemNormFwd.nD,
      r.2.mem ((c.tc : Thread Cert.MemNormFwd.nD Cert.MemNormFwd.τ).loc Cert.MemNormFwd.main_arg0) = m ((c.tc : Thread Cert.MemNormFwd.nD Cert.MemNormFwd.τ).loc Cert.MemNormFwd.main_arg0)
      ∧ r.2.mem ((c.tc : Thread Cert.MemNormFwd.nD Cert.MemNormFwd.τ).loc Cert.MemNormFwd.main_arg1) = m ((c.tc : Thread Cert.MemNormFwd.nD Cert.MemNormFwd.τ).loc Cert.MemNormFwd.main_arg1))
      ∧ r.2.sem = fun _ => 0)

def quiescent_MemNormFwdIdeal [hMemNormFwdIdeal : Cert.MemNormFwdIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg), Pre_MemNormFwdIdeal m →
    θ_run (Cert.MemNormFwdIdeal.defs (F := Ideal)) (onTc (τ := Cert.MemNormFwdIdeal.τ) (Cert.MemNormFwdIdeal.main (F := Ideal))) ⟨m, fun _ => 0, g⟩ (fun r => (∀ c : Dev Cert.MemNormFwdIdeal.nD,
      r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
      ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ r.2.sem = fun _ => 0)

def quiescent_MemNormFwdRefIdeal [hMemNormFwdRefIdeal : Cert.MemNormFwdRefIdeal.Facts] : Prop :=
  ∀ (m : (ℓ : Loc Cert.MemNormFwdRefIdeal.nD Cert.MemNormFwdRefIdeal.τ Cert.MemNormFwdRefIdeal.sig) → Buf (Elt Ideal) ℓ) (g : Dev Cert.MemNormFwdRefIdeal.nD → PrngReg), Pre_MemNormFwdRefIdeal m →
    θ_run (Cert.MemNormFwdRefIdeal.defs (F := Ideal)) (onTc (τ := Cert.MemNormFwdRefIdeal.τ) (Cert.MemNormFwdRefIdeal.main (F := Ideal))) ⟨m, fun _ => 0, g⟩ (fun r => (∀ c : Dev Cert.MemNormFwdRefIdeal.nD,
      r.2.mem ((c.tc : Thread Cert.MemNormFwdRefIdeal.nD Cert.MemNormFwdRefIdeal.τ).loc Cert.MemNormFwdRefIdeal.main_arg0) = m ((c.tc : Thread Cert.MemNormFwdRefIdeal.nD Cert.MemNormFwdRefIdeal.τ).loc Cert.MemNormFwdRefIdeal.main_arg0)
      ∧ r.2.mem ((c.tc : Thread Cert.MemNormFwdRefIdeal.nD Cert.MemNormFwdRefIdeal.τ).loc Cert.MemNormFwdRefIdeal.main_arg1) = m ((c.tc : Thread Cert.MemNormFwdRefIdeal.nD Cert.MemNormFwdRefIdeal.τ).loc Cert.MemNormFwdRefIdeal.main_arg1))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_AdamStep [hAdamStep : Cert.AdamStep.Facts] : Prop :=
  ∀ (m : (ℓ : Loc Cert.AdamStep.nD Cert.AdamStep.τ Cert.AdamStep.sig) → Buf (Elt Bits) ℓ) (g : Dev Cert.AdamStep.nD → PrngReg), Pre_AdamStep m →
    θ_run (Cert.AdamStep.defs (F := Bits)) (onTc (τ := Cert.AdamStep.τ) (Cert.AdamStep.main (F := Bits))) ⟨m, fun _ => 0, g⟩ (fun r => (∀ c : Dev Cert.AdamStep.nD,
      r.2.mem ((c.tc : Thread Cert.AdamStep.nD Cert.AdamStep.τ).loc Cert.AdamStep.main_arg0) = m ((c.tc : Thread Cert.AdamStep.nD Cert.AdamStep.τ).loc Cert.AdamStep.main_arg0)
      ∧ r.2.mem ((c.tc : Thread Cert.AdamStep.nD Cert.AdamStep.τ).loc Cert.AdamStep.main_arg1) = m ((c.tc : Thread Cert.AdamStep.nD Cert.AdamStep.τ).loc Cert.AdamStep.main_arg1)
      ∧ r.2.mem ((c.tc : Thread Cert.AdamStep.nD Cert.AdamStep.τ).loc Cert.AdamStep.main_arg2) = m ((c.tc : Thread Cert.AdamStep.nD Cert.AdamStep.τ).loc Cert.AdamStep.main_arg2)
      ∧ r.2.mem ((c.tc : Thread Cert.AdamStep.nD Cert.AdamStep.τ).loc Cert.AdamStep.main_arg3) = m ((c.tc : Thread Cert.AdamStep.nD Cert.AdamStep.τ).loc Cert.AdamStep.main_arg3))
      ∧ r.2.sem = fun _ => 0)

def quiescent_AdamStepIdeal [hAdamStepIdeal : Cert.AdamStepIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg), Pre_AdamStepIdeal m →
    θ_run (Cert.AdamStepIdeal.defs (F := Ideal)) (onTc (τ := Cert.AdamStepIdeal.τ) (Cert.AdamStepIdeal.main (F := Ideal))) ⟨m, fun _ => 0, g⟩ (fun r => (∀ c : Dev Cert.AdamStepIdeal.nD,
      r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
      ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
      ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
      ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3))
      ∧ r.2.sem = fun _ => 0)

def quiescent_AdamStepRefIdeal [hAdamStepRefIdeal : Cert.AdamStepRefIdeal.Facts] : Prop :=
  ∀ (m : (ℓ : Loc Cert.AdamStepRefIdeal.nD Cert.AdamStepRefIdeal.τ Cert.AdamStepRefIdeal.sig) → Buf (Elt Ideal) ℓ) (g : Dev Cert.AdamStepRefIdeal.nD → PrngReg), Pre_AdamStepRefIdeal m →
    θ_run (Cert.AdamStepRefIdeal.defs (F := Ideal)) (onTc (τ := Cert.AdamStepRefIdeal.τ) (Cert.AdamStepRefIdeal.main (F := Ideal))) ⟨m, fun _ => 0, g⟩ (fun r => (∀ c : Dev Cert.AdamStepRefIdeal.nD,
      r.2.mem ((c.tc : Thread Cert.AdamStepRefIdeal.nD Cert.AdamStepRefIdeal.τ).loc Cert.AdamStepRefIdeal.main_arg0) = m ((c.tc : Thread Cert.AdamStepRefIdeal.nD Cert.AdamStepRefIdeal.τ).loc Cert.AdamStepRefIdeal.main_arg0)
      ∧ r.2.mem ((c.tc : Thread Cert.AdamStepRefIdeal.nD Cert.AdamStepRefIdeal.τ).loc Cert.AdamStepRefIdeal.main_arg1) = m ((c.tc : Thread Cert.AdamStepRefIdeal.nD Cert.AdamStepRefIdeal.τ).loc Cert.AdamStepRefIdeal.main_arg1)
      ∧ r.2.mem ((c.tc : Thread Cert.AdamStepRefIdeal.nD Cert.AdamStepRefIdeal.τ).loc Cert.AdamStepRefIdeal.main_arg2) = m ((c.tc : Thread Cert.AdamStepRefIdeal.nD Cert.AdamStepRefIdeal.τ).loc Cert.AdamStepRefIdeal.main_arg2)
      ∧ r.2.mem ((c.tc : Thread Cert.AdamStepRefIdeal.nD Cert.AdamStepRefIdeal.τ).loc Cert.AdamStepRefIdeal.main_arg3) = m ((c.tc : Thread Cert.AdamStepRefIdeal.nD Cert.AdamStepRefIdeal.τ).loc Cert.AdamStepRefIdeal.main_arg3))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemKvDx [hMemKvDx : Cert.MemKvDx.Facts] : Prop :=
  ∀ (m : (ℓ : Loc Cert.MemKvDx.nD Cert.MemKvDx.τ Cert.MemKvDx.sig) → Buf (Elt Bits) ℓ) (g : Dev Cert.MemKvDx.nD → PrngReg), Pre_MemKvDx m →
    θ_run (Cert.MemKvDx.defs (F := Bits)) (onTc (τ := Cert.MemKvDx.τ) (Cert.MemKvDx.main (F := Bits))) ⟨m, fun _ => 0, g⟩ (fun r => (∀ c : Dev Cert.MemKvDx.nD,
      r.2.mem ((c.tc : Thread Cert.MemKvDx.nD Cert.MemKvDx.τ).loc Cert.MemKvDx.main_arg0) = m ((c.tc : Thread Cert.MemKvDx.nD Cert.MemKvDx.τ).loc Cert.MemKvDx.main_arg0)
      ∧ r.2.mem ((c.tc : Thread Cert.MemKvDx.nD Cert.MemKvDx.τ).loc Cert.MemKvDx.main_arg1) = m ((c.tc : Thread Cert.MemKvDx.nD Cert.MemKvDx.τ).loc Cert.MemKvDx.main_arg1))
      ∧ r.2.sem = fun _ => 0)

def quiescent_MemKvDxIdeal [hMemKvDxIdeal : Cert.MemKvDxIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg), Pre_MemKvDxIdeal m →
    θ_run (Cert.MemKvDxIdeal.defs (F := Ideal)) (onTc (τ := Cert.MemKvDxIdeal.τ) (Cert.MemKvDxIdeal.main (F := Ideal))) ⟨m, fun _ => 0, g⟩ (fun r => (∀ c : Dev Cert.MemKvDxIdeal.nD,
      r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
      ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ r.2.sem = fun _ => 0)

def quiescent_MemKvDxRefIdeal [hMemKvDxRefIdeal : Cert.MemKvDxRefIdeal.Facts] : Prop :=
  ∀ (m : (ℓ : Loc Cert.MemKvDxRefIdeal.nD Cert.MemKvDxRefIdeal.τ Cert.MemKvDxRefIdeal.sig) → Buf (Elt Ideal) ℓ) (g : Dev Cert.MemKvDxRefIdeal.nD → PrngReg), Pre_MemKvDxRefIdeal m →
    θ_run (Cert.MemKvDxRefIdeal.defs (F := Ideal)) (onTc (τ := Cert.MemKvDxRefIdeal.τ) (Cert.MemKvDxRefIdeal.main (F := Ideal))) ⟨m, fun _ => 0, g⟩ (fun r => (∀ c : Dev Cert.MemKvDxRefIdeal.nD,
      r.2.mem ((c.tc : Thread Cert.MemKvDxRefIdeal.nD Cert.MemKvDxRefIdeal.τ).loc Cert.MemKvDxRefIdeal.main_arg0) = m ((c.tc : Thread Cert.MemKvDxRefIdeal.nD Cert.MemKvDxRefIdeal.τ).loc Cert.MemKvDxRefIdeal.main_arg0)
      ∧ r.2.mem ((c.tc : Thread Cert.MemKvDxRefIdeal.nD Cert.MemKvDxRefIdeal.τ).loc Cert.MemKvDxRefIdeal.main_arg1) = m ((c.tc : Thread Cert.MemKvDxRefIdeal.nD Cert.MemKvDxRefIdeal.τ).loc Cert.MemKvDxRefIdeal.main_arg1))
      ∧ r.2.sem = fun _ => 0)

def quiescent_HgIn [hHgIn : Cert.HgIn.Facts] : Prop :=
  ∀ (m : (ℓ : Loc Cert.HgIn.nD Cert.HgIn.τ Cert.HgIn.sig) → Buf (Elt Bits) ℓ) (g : Dev Cert.HgIn.nD → PrngReg), Pre_HgIn m →
    θ_run (Cert.HgIn.defs (F := Bits)) (onTc (τ := Cert.HgIn.τ) (Cert.HgIn.main (F := Bits))) ⟨m, fun _ => 0, g⟩ (fun r => (∀ c : Dev Cert.HgIn.nD,
      r.2.mem ((c.tc : Thread Cert.HgIn.nD Cert.HgIn.τ).loc Cert.HgIn.main_arg0) = m ((c.tc : Thread Cert.HgIn.nD Cert.HgIn.τ).loc Cert.HgIn.main_arg0)
      ∧ r.2.mem ((c.tc : Thread Cert.HgIn.nD Cert.HgIn.τ).loc Cert.HgIn.main_arg1) = m ((c.tc : Thread Cert.HgIn.nD Cert.HgIn.τ).loc Cert.HgIn.main_arg1))
      ∧ r.2.sem = fun _ => 0)

def quiescent_HgInIdeal [hHgInIdeal : Cert.HgInIdeal.Facts] : Prop :=
  ∀ (m : (ℓ : Loc Cert.HgInIdeal.nD Cert.HgInIdeal.τ Cert.HgInIdeal.sig) → Buf (Elt Ideal) ℓ) (g : Dev Cert.HgInIdeal.nD → PrngReg), Pre_HgInIdeal m →
    θ_run (Cert.HgInIdeal.defs (F := Ideal)) (onTc (τ := Cert.HgInIdeal.τ) (Cert.HgInIdeal.main (F := Ideal))) ⟨m, fun _ => 0, g⟩ (fun r => (∀ c : Dev Cert.HgInIdeal.nD,
      r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
      ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1))
      ∧ r.2.sem = fun _ => 0)

def quiescent_HgInRefIdeal [hHgInRefIdeal : Cert.HgInRefIdeal.Facts] : Prop :=
  ∀ (m : (ℓ : Loc Cert.HgInRefIdeal.nD Cert.HgInRefIdeal.τ Cert.HgInRefIdeal.sig) → Buf (Elt Ideal) ℓ) (g : Dev Cert.HgInRefIdeal.nD → PrngReg), Pre_HgInRefIdeal m →
    θ_run (Cert.HgInRefIdeal.defs (F := Ideal)) (onTc (τ := Cert.HgInRefIdeal.τ) (Cert.HgInRefIdeal.main (F := Ideal))) ⟨m, fun _ => 0, g⟩ (fun r => (∀ c : Dev Cert.HgInRefIdeal.nD,
      r.2.mem ((c.tc : Thread Cert.HgInRefIdeal.nD Cert.HgInRefIdeal.τ).loc Cert.HgInRefIdeal.main_arg0) = m ((c.tc : Thread Cert.HgInRefIdeal.nD Cert.HgInRefIdeal.τ).loc Cert.HgInRefIdeal.main_arg0)
      ∧ r.2.mem ((c.tc : Thread Cert.HgInRefIdeal.nD Cert.HgInRefIdeal.τ).loc Cert.HgInRefIdeal.main_arg1) = m ((c.tc : Thread Cert.HgInRefIdeal.nD Cert.HgInRefIdeal.τ).loc Cert.HgInRefIdeal.main_arg1))
      ∧ r.2.sem = fun _ => 0)

def quiescent_GmIn [hGmIn : Cert.GmIn.Facts] : Prop :=
  ∀ (m : (ℓ : Loc Cert.GmIn.nD Cert.GmIn.τ Cert.GmIn.sig) → Buf (Elt Bits) ℓ) (g : Dev Cert.GmIn.nD → PrngReg), Pre_GmIn m →
    θ_run (Cert.GmIn.defs (F := Bits)) (onTc (τ := Cert.GmIn.τ) (Cert.GmIn.main (F := Bits))) ⟨m, fun _ => 0, g⟩ (fun r => (∀ c : Dev Cert.GmIn.nD,
      r.2.mem ((c.tc : Thread Cert.GmIn.nD Cert.GmIn.τ).loc Cert.GmIn.main_arg0) = m ((c.tc : Thread Cert.GmIn.nD Cert.GmIn.τ).loc Cert.GmIn.main_arg0)
      ∧ r.2.mem ((c.tc : Thread Cert.GmIn.nD Cert.GmIn.τ).loc Cert.GmIn.main_arg1) = m ((c.tc : Thread Cert.GmIn.nD Cert.GmIn.τ).loc Cert.GmIn.main_arg1))
      ∧ r.2.sem = fun _ => 0)

def quiescent_GmInIdeal [hGmInIdeal : Cert.GmInIdeal.Facts] : Prop :=
  ∀ (m : (ℓ : Loc Cert.GmInIdeal.nD Cert.GmInIdeal.τ Cert.GmInIdeal.sig) → Buf (Elt Ideal) ℓ) (g : Dev Cert.GmInIdeal.nD → PrngReg), Pre_GmInIdeal m →
    θ_run (Cert.GmInIdeal.defs (F := Ideal)) (onTc (τ := Cert.GmInIdeal.τ) (Cert.GmInIdeal.main (F := Ideal))) ⟨m, fun _ => 0, g⟩ (fun r => (∀ c : Dev Cert.GmInIdeal.nD,
      r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
      ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ r.2.sem = fun _ => 0)

def quiescent_GmInRefIdeal [hGmInRefIdeal : Cert.GmInRefIdeal.Facts] : Prop :=
  ∀ (m : (ℓ : Loc Cert.GmInRefIdeal.nD Cert.GmInRefIdeal.τ Cert.GmInRefIdeal.sig) → Buf (Elt Ideal) ℓ) (g : Dev Cert.GmInRefIdeal.nD → PrngReg), Pre_GmInRefIdeal m →
    θ_run (Cert.GmInRefIdeal.defs (F := Ideal)) (onTc (τ := Cert.GmInRefIdeal.τ) (Cert.GmInRefIdeal.main (F := Ideal))) ⟨m, fun _ => 0, g⟩ (fun r => (∀ c : Dev Cert.GmInRefIdeal.nD,
      r.2.mem ((c.tc : Thread Cert.GmInRefIdeal.nD Cert.GmInRefIdeal.τ).loc Cert.GmInRefIdeal.main_arg0) = m ((c.tc : Thread Cert.GmInRefIdeal.nD Cert.GmInRefIdeal.τ).loc Cert.GmInRefIdeal.main_arg0)
      ∧ r.2.mem ((c.tc : Thread Cert.GmInRefIdeal.nD Cert.GmInRefIdeal.τ).loc Cert.GmInRefIdeal.main_arg1) = m ((c.tc : Thread Cert.GmInRefIdeal.nD Cert.GmInRefIdeal.τ).loc Cert.GmInRefIdeal.main_arg1))
      ∧ r.2.sem = fun _ => 0)

def quiescent_MemKvDw [hMemKvDw : Cert.MemKvDw.Facts] : Prop :=
  ∀ (m : (ℓ : Loc Cert.MemKvDw.nD Cert.MemKvDw.τ Cert.MemKvDw.sig) → Buf (Elt Bits) ℓ) (g : Dev Cert.MemKvDw.nD → PrngReg), Pre_MemKvDw m →
    θ_run (Cert.MemKvDw.defs (F := Bits)) (onTc (τ := Cert.MemKvDw.τ) (Cert.MemKvDw.main (F := Bits))) ⟨m, fun _ => 0, g⟩ (fun r => (∀ c : Dev Cert.MemKvDw.nD,
      r.2.mem ((c.tc : Thread Cert.MemKvDw.nD Cert.MemKvDw.τ).loc Cert.MemKvDw.main_arg0) = m ((c.tc : Thread Cert.MemKvDw.nD Cert.MemKvDw.τ).loc Cert.MemKvDw.main_arg0)
      ∧ r.2.mem ((c.tc : Thread Cert.MemKvDw.nD Cert.MemKvDw.τ).loc Cert.MemKvDw.main_arg1) = m ((c.tc : Thread Cert.MemKvDw.nD Cert.MemKvDw.τ).loc Cert.MemKvDw.main_arg1))
      ∧ r.2.sem = fun _ => 0)

def quiescent_MemKvDwIdeal [hMemKvDwIdeal : Cert.MemKvDwIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg), Pre_MemKvDwIdeal m →
    θ_run (Cert.MemKvDwIdeal.defs (F := Ideal)) (onTc (τ := Cert.MemKvDwIdeal.τ) (Cert.MemKvDwIdeal.main (F := Ideal))) ⟨m, fun _ => 0, g⟩ (fun r => (∀ c : Dev Cert.MemKvDwIdeal.nD,
      r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
      ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ r.2.sem = fun _ => 0)

def quiescent_MemKvDwRefIdeal [hMemKvDwRefIdeal : Cert.MemKvDwRefIdeal.Facts] : Prop :=
  ∀ (m : (ℓ : Loc Cert.MemKvDwRefIdeal.nD Cert.MemKvDwRefIdeal.τ Cert.MemKvDwRefIdeal.sig) → Buf (Elt Ideal) ℓ) (g : Dev Cert.MemKvDwRefIdeal.nD → PrngReg), Pre_MemKvDwRefIdeal m →
    θ_run (Cert.MemKvDwRefIdeal.defs (F := Ideal)) (onTc (τ := Cert.MemKvDwRefIdeal.τ) (Cert.MemKvDwRefIdeal.main (F := Ideal))) ⟨m, fun _ => 0, g⟩ (fun r => (∀ c : Dev Cert.MemKvDwRefIdeal.nD,
      r.2.mem ((c.tc : Thread Cert.MemKvDwRefIdeal.nD Cert.MemKvDwRefIdeal.τ).loc Cert.MemKvDwRefIdeal.main_arg0) = m ((c.tc : Thread Cert.MemKvDwRefIdeal.nD Cert.MemKvDwRefIdeal.τ).loc Cert.MemKvDwRefIdeal.main_arg0)
      ∧ r.2.mem ((c.tc : Thread Cert.MemKvDwRefIdeal.nD Cert.MemKvDwRefIdeal.τ).loc Cert.MemKvDwRefIdeal.main_arg1) = m ((c.tc : Thread Cert.MemKvDwRefIdeal.nD Cert.MemKvDwRefIdeal.τ).loc Cert.MemKvDwRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_GmInDw [hGmInDw : Cert.GmInDw.Facts] : Prop :=
  ∀ (m : (ℓ : Loc Cert.GmInDw.nD Cert.GmInDw.τ Cert.GmInDw.sig) → Buf (Elt Bits) ℓ) (g : Dev Cert.GmInDw.nD → PrngReg), Pre_GmInDw m →
    θ_run (Cert.GmInDw.defs (F := Bits)) (onTc (τ := Cert.GmInDw.τ) (Cert.GmInDw.main (F := Bits))) ⟨m, fun _ => 0, g⟩ (fun r => (∀ c : Dev Cert.GmInDw.nD,
      r.2.mem ((c.tc : Thread Cert.GmInDw.nD Cert.GmInDw.τ).loc Cert.GmInDw.main_arg0) = m ((c.tc : Thread Cert.GmInDw.nD Cert.GmInDw.τ).loc Cert.GmInDw.main_arg0)
      ∧ r.2.mem ((c.tc : Thread Cert.GmInDw.nD Cert.GmInDw.τ).loc Cert.GmInDw.main_arg1) = m ((c.tc : Thread Cert.GmInDw.nD Cert.GmInDw.τ).loc Cert.GmInDw.main_arg1))
      ∧ r.2.sem = fun _ => 0)

def quiescent_GmInDwIdeal [hGmInDwIdeal : Cert.GmInDwIdeal.Facts] : Prop :=
  ∀ (m : (ℓ : Loc Cert.GmInDwIdeal.nD Cert.GmInDwIdeal.τ Cert.GmInDwIdeal.sig) → Buf (Elt Ideal) ℓ) (g : Dev Cert.GmInDwIdeal.nD → PrngReg), Pre_GmInDwIdeal m →
    θ_run (Cert.GmInDwIdeal.defs (F := Ideal)) (onTc (τ := Cert.GmInDwIdeal.τ) (Cert.GmInDwIdeal.main (F := Ideal))) ⟨m, fun _ => 0, g⟩ (fun r => (∀ c : Dev Cert.GmInDwIdeal.nD,
      r.2.mem ((c.tc : Thread Cert.GmInDwIdeal.nD Cert.GmInDwIdeal.τ).loc Cert.GmInDwIdeal.main_arg0) = m ((c.tc : Thread Cert.GmInDwIdeal.nD Cert.GmInDwIdeal.τ).loc Cert.GmInDwIdeal.main_arg0)
      ∧ r.2.mem ((c.tc : Thread Cert.GmInDwIdeal.nD Cert.GmInDwIdeal.τ).loc Cert.GmInDwIdeal.main_arg1) = m ((c.tc : Thread Cert.GmInDwIdeal.nD Cert.GmInDwIdeal.τ).loc Cert.GmInDwIdeal.main_arg1))
      ∧ r.2.sem = fun _ => 0)

def quiescent_GmInDwRefIdeal [hGmInDwRefIdeal : Cert.GmInDwRefIdeal.Facts] : Prop :=
  ∀ (m : (ℓ : Loc Cert.GmInDwRefIdeal.nD Cert.GmInDwRefIdeal.τ Cert.GmInDwRefIdeal.sig) → Buf (Elt Ideal) ℓ) (g : Dev Cert.GmInDwRefIdeal.nD → PrngReg), Pre_GmInDwRefIdeal m →
    θ_run (Cert.GmInDwRefIdeal.defs (F := Ideal)) (onTc (τ := Cert.GmInDwRefIdeal.τ) (Cert.GmInDwRefIdeal.main (F := Ideal))) ⟨m, fun _ => 0, g⟩ (fun r => (∀ c : Dev Cert.GmInDwRefIdeal.nD,
      r.2.mem ((c.tc : Thread Cert.GmInDwRefIdeal.nD Cert.GmInDwRefIdeal.τ).loc Cert.GmInDwRefIdeal.main_arg0) = m ((c.tc : Thread Cert.GmInDwRefIdeal.nD Cert.GmInDwRefIdeal.τ).loc Cert.GmInDwRefIdeal.main_arg0)
      ∧ r.2.mem ((c.tc : Thread Cert.GmInDwRefIdeal.nD Cert.GmInDwRefIdeal.τ).loc Cert.GmInDwRefIdeal.main_arg1) = m ((c.tc : Thread Cert.GmInDwRefIdeal.nD Cert.GmInDwRefIdeal.τ).loc Cert.GmInDwRefIdeal.main_arg1))
      ∧ r.2.sem = fun _ => 0)

def quiescent_HgInDw [hHgInDw : Cert.HgInDw.Facts] : Prop :=
  ∀ (m : (ℓ : Loc Cert.HgInDw.nD Cert.HgInDw.τ Cert.HgInDw.sig) → Buf (Elt Bits) ℓ) (g : Dev Cert.HgInDw.nD → PrngReg), Pre_HgInDw m →
    θ_run (Cert.HgInDw.defs (F := Bits)) (onTc (τ := Cert.HgInDw.τ) (Cert.HgInDw.main (F := Bits))) ⟨m, fun _ => 0, g⟩ (fun r => (∀ c : Dev Cert.HgInDw.nD,
      r.2.mem ((c.tc : Thread Cert.HgInDw.nD Cert.HgInDw.τ).loc Cert.HgInDw.main_arg0) = m ((c.tc : Thread Cert.HgInDw.nD Cert.HgInDw.τ).loc Cert.HgInDw.main_arg0)
      ∧ r.2.mem ((c.tc : Thread Cert.HgInDw.nD Cert.HgInDw.τ).loc Cert.HgInDw.main_arg1) = m ((c.tc : Thread Cert.HgInDw.nD Cert.HgInDw.τ).loc Cert.HgInDw.main_arg1))
      ∧ r.2.sem = fun _ => 0)

def quiescent_HgInDwIdeal [hHgInDwIdeal : Cert.HgInDwIdeal.Facts] : Prop :=
  ∀ (m : (ℓ : Loc Cert.HgInDwIdeal.nD Cert.HgInDwIdeal.τ Cert.HgInDwIdeal.sig) → Buf (Elt Ideal) ℓ) (g : Dev Cert.HgInDwIdeal.nD → PrngReg), Pre_HgInDwIdeal m →
    θ_run (Cert.HgInDwIdeal.defs (F := Ideal)) (onTc (τ := Cert.HgInDwIdeal.τ) (Cert.HgInDwIdeal.main (F := Ideal))) ⟨m, fun _ => 0, g⟩ (fun r => (∀ c : Dev Cert.HgInDwIdeal.nD,
      r.2.mem ((c.tc : Thread Cert.HgInDwIdeal.nD Cert.HgInDwIdeal.τ).loc Cert.HgInDwIdeal.main_arg0) = m ((c.tc : Thread Cert.HgInDwIdeal.nD Cert.HgInDwIdeal.τ).loc Cert.HgInDwIdeal.main_arg0)
      ∧ r.2.mem ((c.tc : Thread Cert.HgInDwIdeal.nD Cert.HgInDwIdeal.τ).loc Cert.HgInDwIdeal.main_arg1) = m ((c.tc : Thread Cert.HgInDwIdeal.nD Cert.HgInDwIdeal.τ).loc Cert.HgInDwIdeal.main_arg1))
      ∧ r.2.sem = fun _ => 0)

def quiescent_HgInDwRefIdeal [hHgInDwRefIdeal : Cert.HgInDwRefIdeal.Facts] : Prop :=
  ∀ (m : (ℓ : Loc Cert.HgInDwRefIdeal.nD Cert.HgInDwRefIdeal.τ Cert.HgInDwRefIdeal.sig) → Buf (Elt Ideal) ℓ) (g : Dev Cert.HgInDwRefIdeal.nD → PrngReg), Pre_HgInDwRefIdeal m →
    θ_run (Cert.HgInDwRefIdeal.defs (F := Ideal)) (onTc (τ := Cert.HgInDwRefIdeal.τ) (Cert.HgInDwRefIdeal.main (F := Ideal))) ⟨m, fun _ => 0, g⟩ (fun r => (∀ c : Dev Cert.HgInDwRefIdeal.nD,
      r.2.mem ((c.tc : Thread Cert.HgInDwRefIdeal.nD Cert.HgInDwRefIdeal.τ).loc Cert.HgInDwRefIdeal.main_arg0) = m ((c.tc : Thread Cert.HgInDwRefIdeal.nD Cert.HgInDwRefIdeal.τ).loc Cert.HgInDwRefIdeal.main_arg0)
      ∧ r.2.mem ((c.tc : Thread Cert.HgInDwRefIdeal.nD Cert.HgInDwRefIdeal.τ).loc Cert.HgInDwRefIdeal.main_arg1) = m ((c.tc : Thread Cert.HgInDwRefIdeal.nD Cert.HgInDwRefIdeal.τ).loc Cert.HgInDwRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def preserves_MemNormBwd_MemNormBwdIdeal : Prop :=
  True

def algebraic_MemNormBwdIdeal_MemNormBwdRefIdeal_pre_mem_norm_bwd_pre [hMemNormBwdIdeal : Cert.MemNormBwdIdeal.Facts] [hMemNormBwdRefIdeal : Cert.MemNormBwdRefIdeal.Facts] [hPre_mem_norm_bwd_pre : Cert.Pre_mem_norm_bwd_pre.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg)
    (m' : (ℓ : Loc Cert.MemNormBwdRefIdeal.nD Cert.MemNormBwdRefIdeal.τ Cert.MemNormBwdRefIdeal.sig) → Buf (Elt Ideal) ℓ) (g' : Dev Cert.MemNormBwdRefIdeal.nD → PrngReg), Pre_MemNormBwdIdeal_mem_norm_bwd_pre m →
    (∀ c : Dev Cert.MemNormBwdIdeal.nD,
      m' ((c.tc : Thread Cert.MemNormBwdRefIdeal.nD Cert.MemNormBwdRefIdeal.τ).loc Cert.MemNormBwdRefIdeal.main_arg0) = m ((c.tc : Thread Cert.MemNormBwdIdeal.nD Cert.MemNormBwdIdeal.τ).loc Cert.MemNormBwdIdeal.main_arg0)
      ∧ m' ((c.tc : Thread Cert.MemNormBwdRefIdeal.nD Cert.MemNormBwdRefIdeal.τ).loc Cert.MemNormBwdRefIdeal.main_arg1) = m ((c.tc : Thread Cert.MemNormBwdIdeal.nD Cert.MemNormBwdIdeal.τ).loc Cert.MemNormBwdIdeal.main_arg1)
      ∧ m' ((c.tc : Thread Cert.MemNormBwdRefIdeal.nD Cert.MemNormBwdRefIdeal.τ).loc Cert.MemNormBwdRefIdeal.main_arg2) = m ((c.tc : Thread Cert.MemNormBwdIdeal.nD Cert.MemNormBwdIdeal.τ).loc Cert.MemNormBwdIdeal.main_arg2)
      ∧ m' ((c.tc : Thread Cert.MemNormBwdRefIdeal.nD Cert.MemNormBwdRefIdeal.τ).loc Cert.MemNormBwdRefIdeal.main_arg3) = m ((c.tc : Thread Cert.MemNormBwdIdeal.nD Cert.MemNormBwdIdeal.τ).loc Cert.MemNormBwdIdeal.main_arg3)) →
    ∃ (v0 : (c : Dev Cert.MemNormBwdIdeal.nD) → Buf (Elt Ideal) ((c.tc : Thread Cert.MemNormBwdIdeal.nD Cert.MemNormBwdIdeal.τ).loc Cert.MemNormBwdIdeal.main_v0_0)) (v1 : (c : Dev Cert.MemNormBwdIdeal.nD) → Buf (Elt Ideal) ((c.tc : Thread Cert.MemNormBwdIdeal.nD Cert.MemNormBwdIdeal.τ).loc Cert.MemNormBwdIdeal.main_v0_1)),
      θ_run (Cert.MemNormBwdIdeal.defs (F := Ideal)) (onTc (τ := Cert.MemNormBwdIdeal.τ) (Cert.MemNormBwdIdeal.main (F := Ideal))) ⟨m, fun _ => 0, g⟩ (fun r => ∀ c : Dev Cert.MemNormBwdIdeal.nD,
          r.2.mem ((c.tc : Thread Cert.MemNormBwdIdeal.nD Cert.MemNormBwdIdeal.τ).loc Cert.MemNormBwdIdeal.main_v0_0) = v0 c
          ∧ r.2.mem ((c.tc : Thread Cert.MemNormBwdIdeal.nD Cert.MemNormBwdIdeal.τ).loc Cert.MemNormBwdIdeal.main_v0_1) = v1 c
          ∧ r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
          ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
          ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2)
          ∧ r.2.mem ((c.tc : Thread Cert.MemNormBwdIdeal.nD Cert.MemNormBwdIdeal.τ).loc Cert.MemNormBwdIdeal.main_arg3) = m ((c.tc : Thread Cert.MemNormBwdIdeal.nD Cert.MemNormBwdIdeal.τ).loc Cert.MemNormBwdIdeal.main_arg3))
      ∧ θ_run (Cert.MemNormBwdRefIdeal.defs (F := Ideal)) (onTc (τ := Cert.MemNormBwdRefIdeal.τ) (Cert.MemNormBwdRefIdeal.main (F := Ideal))) ⟨m', fun _ => 0, g'⟩ (fun r => ∀ c : Dev Cert.MemNormBwdRefIdeal.nD,
          r.2.mem ((c.tc : Thread Cert.MemNormBwdRefIdeal.nD Cert.MemNormBwdRefIdeal.τ).loc Cert.MemNormBwdRefIdeal.main_v34) = v0 c
          ∧ r.2.mem ((c.tc : Thread Cert.MemNormBwdRefIdeal.nD Cert.MemNormBwdRefIdeal.τ).loc Cert.MemNormBwdRefIdeal.main_v17) = v1 c
          ∧ r.2.mem ((c.tc : Thread Cert.MemNormBwdRefIdeal.nD Cert.MemNormBwdRefIdeal.τ).loc Cert.MemNormBwdRefIdeal.main_arg0) = m' ((c.tc : Thread Cert.MemNormBwdRefIdeal.nD Cert.MemNormBwdRefIdeal.τ).loc Cert.MemNormBwdRefIdeal.main_arg0)
          ∧ r.2.mem ((c.tc : Thread Cert.MemNormBwdRefIdeal.nD Cert.MemNormBwdRefIdeal.τ).loc Cert.MemNormBwdRefIdeal.main_arg1) = m' ((c.tc : Thread Cert.MemNormBwdRefIdeal.nD Cert.MemNormBwdRefIdeal.τ).loc Cert.MemNormBwdRefIdeal.main_arg1)
          ∧ r.2.mem ((c.tc : Thread Cert.MemNormBwdRefIdeal.nD Cert.MemNormBwdRefIdeal.τ).loc Cert.MemNormBwdRefIdeal.main_arg2) = m' ((c.tc : Thread Cert.MemNormBwdRefIdeal.nD Cert.MemNormBwdRefIdeal.τ).loc Cert.MemNormBwdRefIdeal.main_arg2)
          ∧ r.2.mem ((c.tc : Thread Cert.MemNormBwdRefIdeal.nD Cert.MemNormBwdRefIdeal.τ).loc Cert.MemNormBwdRefIdeal.main_arg3) = m' ((c.tc : Thread Cert.MemNormBwdRefIdeal.nD Cert.MemNormBwdRefIdeal.τ).loc Cert.MemNormBwdRefIdeal.main_arg3))

def preserves_AttnBwd_AttnBwdIdeal : Prop :=
  True

def algebraic_AttnBwdIdeal_AttnBwdRefIdeal_pre_attn_bwd1_pre [hAttnBwdIdeal : Cert.AttnBwdIdeal.Facts] [hAttnBwdRefIdeal : Cert.AttnBwdRefIdeal.Facts] [hPre_attn_bwd1_pre : Cert.Pre_attn_bwd1_pre.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_bwd1_pre m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v72) = v0 c
          ∧ r.2.mem ((c.tc : Thread Cert.AttnBwdRefIdeal.nD Cert.AttnBwdRefIdeal.τ).loc Cert.AttnBwdRefIdeal.main_v68) = v1 c
          ∧ r.2.mem ((c.tc : Thread Cert.AttnBwdRefIdeal.nD Cert.AttnBwdRefIdeal.τ).loc Cert.AttnBwdRefIdeal.main_v69) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_AttnBwdZero_AttnBwdZeroIdeal : Prop :=
  True

def algebraic_AttnBwdZeroIdeal_AttnBwdZeroRefIdeal_pre_attn_bwd0_pre [hAttnBwdZeroIdeal : Cert.AttnBwdZeroIdeal.Facts] [hAttnBwdZeroRefIdeal : Cert.AttnBwdZeroRefIdeal.Facts] [hPre_attn_bwd0_pre : Cert.Pre_attn_bwd0_pre.Facts] : Prop :=
  ∀ (m : (ℓ : Loc Cert.AttnBwdZeroIdeal.nD Cert.AttnBwdZeroIdeal.τ Cert.AttnBwdZeroIdeal.sig) → Buf (Elt Ideal) ℓ) (g : Dev Cert.AttnBwdZeroIdeal.nD → PrngReg)
    (m' : (ℓ : Loc Cert.AttnBwdZeroRefIdeal.nD Cert.AttnBwdZeroRefIdeal.τ Cert.AttnBwdZeroRefIdeal.sig) → Buf (Elt Ideal) ℓ) (g' : Dev Cert.AttnBwdZeroRefIdeal.nD → PrngReg), Pre_AttnBwdZeroIdeal_attn_bwd0_pre m →
    (∀ c : Dev Cert.AttnBwdZeroIdeal.nD,
      m' ((c.tc : Thread Cert.AttnBwdZeroRefIdeal.nD Cert.AttnBwdZeroRefIdeal.τ).loc Cert.AttnBwdZeroRefIdeal.main_arg0) = m ((c.tc : Thread Cert.AttnBwdZeroIdeal.nD Cert.AttnBwdZeroIdeal.τ).loc Cert.AttnBwdZeroIdeal.main_arg0)
      ∧ m' ((c.tc : Thread Cert.AttnBwdZeroRefIdeal.nD Cert.AttnBwdZeroRefIdeal.τ).loc Cert.AttnBwdZeroRefIdeal.main_arg1) = m ((c.tc : Thread Cert.AttnBwdZeroIdeal.nD Cert.AttnBwdZeroIdeal.τ).loc Cert.AttnBwdZeroIdeal.main_arg1)
      ∧ m' ((c.tc : Thread Cert.AttnBwdZeroRefIdeal.nD Cert.AttnBwdZeroRefIdeal.τ).loc Cert.AttnBwdZeroRefIdeal.main_arg2) = m ((c.tc : Thread Cert.AttnBwdZeroIdeal.nD Cert.AttnBwdZeroIdeal.τ).loc Cert.AttnBwdZeroIdeal.main_arg2)
      ∧ m' ((c.tc : Thread Cert.AttnBwdZeroRefIdeal.nD Cert.AttnBwdZeroRefIdeal.τ).loc Cert.AttnBwdZeroRefIdeal.main_arg3) = m ((c.tc : Thread Cert.AttnBwdZeroIdeal.nD Cert.AttnBwdZeroIdeal.τ).loc Cert.AttnBwdZeroIdeal.main_arg3)) →
    ∃ (v0 : (c : Dev Cert.AttnBwdZeroIdeal.nD) → Buf (Elt Ideal) ((c.tc : Thread Cert.AttnBwdZeroIdeal.nD Cert.AttnBwdZeroIdeal.τ).loc Cert.AttnBwdZeroIdeal.main_v0_0)) (v1 : (c : Dev Cert.AttnBwdZeroIdeal.nD) → Buf (Elt Ideal) ((c.tc : Thread Cert.AttnBwdZeroIdeal.nD Cert.AttnBwdZeroIdeal.τ).loc Cert.AttnBwdZeroIdeal.main_v0_1)) (v2 : (c : Dev Cert.AttnBwdZeroIdeal.nD) → Buf (Elt Ideal) ((c.tc : Thread Cert.AttnBwdZeroIdeal.nD Cert.AttnBwdZeroIdeal.τ).loc Cert.AttnBwdZeroIdeal.main_v0_2)),
      θ_run (Cert.AttnBwdZeroIdeal.defs (F := Ideal)) (onTc (τ := Cert.AttnBwdZeroIdeal.τ) (Cert.AttnBwdZeroIdeal.main (F := Ideal))) ⟨m, fun _ => 0, g⟩ (fun r => ∀ c : Dev Cert.AttnBwdZeroIdeal.nD,
          r.2.mem ((c.tc : Thread Cert.AttnBwdZeroIdeal.nD Cert.AttnBwdZeroIdeal.τ).loc Cert.AttnBwdZeroIdeal.main_v0_0) = v0 c
          ∧ r.2.mem ((c.tc : Thread Cert.AttnBwdZeroIdeal.nD Cert.AttnBwdZeroIdeal.τ).loc Cert.AttnBwdZeroIdeal.main_v0_1) = v1 c
          ∧ r.2.mem ((c.tc : Thread Cert.AttnBwdZeroIdeal.nD Cert.AttnBwdZeroIdeal.τ).loc Cert.AttnBwdZeroIdeal.main_v0_2) = v2 c
          ∧ r.2.mem ((c.tc : Thread Cert.AttnBwdZeroIdeal.nD Cert.AttnBwdZeroIdeal.τ).loc Cert.AttnBwdZeroIdeal.main_arg0) = m ((c.tc : Thread Cert.AttnBwdZeroIdeal.nD Cert.AttnBwdZeroIdeal.τ).loc Cert.AttnBwdZeroIdeal.main_arg0)
          ∧ r.2.mem ((c.tc : Thread Cert.AttnBwdZeroIdeal.nD Cert.AttnBwdZeroIdeal.τ).loc Cert.AttnBwdZeroIdeal.main_arg1) = m ((c.tc : Thread Cert.AttnBwdZeroIdeal.nD Cert.AttnBwdZeroIdeal.τ).loc Cert.AttnBwdZeroIdeal.main_arg1)
          ∧ r.2.mem ((c.tc : Thread Cert.AttnBwdZeroIdeal.nD Cert.AttnBwdZeroIdeal.τ).loc Cert.AttnBwdZeroIdeal.main_arg2) = m ((c.tc : Thread Cert.AttnBwdZeroIdeal.nD Cert.AttnBwdZeroIdeal.τ).loc Cert.AttnBwdZeroIdeal.main_arg2)
          ∧ r.2.mem ((c.tc : Thread Cert.AttnBwdZeroIdeal.nD Cert.AttnBwdZeroIdeal.τ).loc Cert.AttnBwdZeroIdeal.main_arg3) = m ((c.tc : Thread Cert.AttnBwdZeroIdeal.nD Cert.AttnBwdZeroIdeal.τ).loc Cert.AttnBwdZeroIdeal.main_arg3))
      ∧ θ_run (Cert.AttnBwdZeroRefIdeal.defs (F := Ideal)) (onTc (τ := Cert.AttnBwdZeroRefIdeal.τ) (Cert.AttnBwdZeroRefIdeal.main (F := Ideal))) ⟨m', fun _ => 0, g'⟩ (fun r => ∀ c : Dev Cert.AttnBwdZeroRefIdeal.nD,
          r.2.mem ((c.tc : Thread Cert.AttnBwdZeroRefIdeal.nD Cert.AttnBwdZeroRefIdeal.τ).loc Cert.AttnBwdZeroRefIdeal.main_v72) = v0 c
          ∧ r.2.mem ((c.tc : Thread Cert.AttnBwdZeroRefIdeal.nD Cert.AttnBwdZeroRefIdeal.τ).loc Cert.AttnBwdZeroRefIdeal.main_v68) = v1 c
          ∧ r.2.mem ((c.tc : Thread Cert.AttnBwdZeroRefIdeal.nD Cert.AttnBwdZeroRefIdeal.τ).loc Cert.AttnBwdZeroRefIdeal.main_v69) = v2 c
          ∧ r.2.mem ((c.tc : Thread Cert.AttnBwdZeroRefIdeal.nD Cert.AttnBwdZeroRefIdeal.τ).loc Cert.AttnBwdZeroRefIdeal.main_arg0) = m' ((c.tc : Thread Cert.AttnBwdZeroRefIdeal.nD Cert.AttnBwdZeroRefIdeal.τ).loc Cert.AttnBwdZeroRefIdeal.main_arg0)
          ∧ r.2.mem ((c.tc : Thread Cert.AttnBwdZeroRefIdeal.nD Cert.AttnBwdZeroRefIdeal.τ).loc Cert.AttnBwdZeroRefIdeal.main_arg1) = m' ((c.tc : Thread Cert.AttnBwdZeroRefIdeal.nD Cert.AttnBwdZeroRefIdeal.τ).loc Cert.AttnBwdZeroRefIdeal.main_arg1)
          ∧ r.2.mem ((c.tc : Thread Cert.AttnBwdZeroRefIdeal.nD Cert.AttnBwdZeroRefIdeal.τ).loc Cert.AttnBwdZeroRefIdeal.main_arg2) = m' ((c.tc : Thread Cert.AttnBwdZeroRefIdeal.nD Cert.AttnBwdZeroRefIdeal.τ).loc Cert.AttnBwdZeroRefIdeal.main_arg2)
          ∧ r.2.mem ((c.tc : Thread Cert.AttnBwdZeroRefIdeal.nD Cert.AttnBwdZeroRefIdeal.τ).loc Cert.AttnBwdZeroRefIdeal.main_arg3) = m' ((c.tc : Thread Cert.AttnBwdZeroRefIdeal.nD Cert.AttnBwdZeroRefIdeal.τ).loc Cert.AttnBwdZeroRefIdeal.main_arg3))

def preserves_AttnFwdZero_AttnFwdZeroIdeal : Prop :=
  True

def algebraic_AttnFwdZeroIdeal_AttnFwdZeroRefIdeal [hAttnFwdZeroIdeal : Cert.AttnFwdZeroIdeal.Facts] [hAttnFwdZeroRefIdeal : Cert.AttnFwdZeroRefIdeal.Facts] : Prop :=
  ∀ (m : (ℓ : Loc Cert.AttnFwdZeroIdeal.nD Cert.AttnFwdZeroIdeal.τ Cert.AttnFwdZeroIdeal.sig) → Buf (Elt Ideal) ℓ) (g : Dev Cert.AttnFwdZeroIdeal.nD → PrngReg)
    (m' : (ℓ : Loc Cert.AttnFwdZeroRefIdeal.nD Cert.AttnFwdZeroRefIdeal.τ Cert.AttnFwdZeroRefIdeal.sig) → Buf (Elt Ideal) ℓ) (g' : Dev Cert.AttnFwdZeroRefIdeal.nD → PrngReg), Pre_AttnFwdZeroIdeal m →
    (∀ c : Dev Cert.AttnFwdZeroIdeal.nD,
      m' ((c.tc : Thread Cert.AttnFwdZeroRefIdeal.nD Cert.AttnFwdZeroRefIdeal.τ).loc Cert.AttnFwdZeroRefIdeal.main_arg0) = m ((c.tc : Thread Cert.AttnFwdZeroIdeal.nD Cert.AttnFwdZeroIdeal.τ).loc Cert.AttnFwdZeroIdeal.main_arg0)
      ∧ m' ((c.tc : Thread Cert.AttnFwdZeroRefIdeal.nD Cert.AttnFwdZeroRefIdeal.τ).loc Cert.AttnFwdZeroRefIdeal.main_arg1) = m ((c.tc : Thread Cert.AttnFwdZeroIdeal.nD Cert.AttnFwdZeroIdeal.τ).loc Cert.AttnFwdZeroIdeal.main_arg1)
      ∧ m' ((c.tc : Thread Cert.AttnFwdZeroRefIdeal.nD Cert.AttnFwdZeroRefIdeal.τ).loc Cert.AttnFwdZeroRefIdeal.main_arg2) = m ((c.tc : Thread Cert.AttnFwdZeroIdeal.nD Cert.AttnFwdZeroIdeal.τ).loc Cert.AttnFwdZeroIdeal.main_arg2)) →
    ∃ (v0 : (c : Dev Cert.AttnFwdZeroIdeal.nD) → Buf (Elt Ideal) ((c.tc : Thread Cert.AttnFwdZeroIdeal.nD Cert.AttnFwdZeroIdeal.τ).loc Cert.AttnFwdZeroIdeal.main_v0)),
      θ_run (Cert.AttnFwdZeroIdeal.defs (F := Ideal)) (onTc (τ := Cert.AttnFwdZeroIdeal.τ) (Cert.AttnFwdZeroIdeal.main (F := Ideal))) ⟨m, fun _ => 0, g⟩ (fun r => ∀ c : Dev Cert.AttnFwdZeroIdeal.nD,
          r.2.mem ((c.tc : Thread Cert.AttnFwdZeroIdeal.nD Cert.AttnFwdZeroIdeal.τ).loc Cert.AttnFwdZeroIdeal.main_v0) = v0 c
          ∧ r.2.mem ((c.tc : Thread Cert.AttnFwdZeroIdeal.nD Cert.AttnFwdZeroIdeal.τ).loc Cert.AttnFwdZeroIdeal.main_arg0) = m ((c.tc : Thread Cert.AttnFwdZeroIdeal.nD Cert.AttnFwdZeroIdeal.τ).loc Cert.AttnFwdZeroIdeal.main_arg0)
          ∧ r.2.mem ((c.tc : Thread Cert.AttnFwdZeroIdeal.nD Cert.AttnFwdZeroIdeal.τ).loc Cert.AttnFwdZeroIdeal.main_arg1) = m ((c.tc : Thread Cert.AttnFwdZeroIdeal.nD Cert.AttnFwdZeroIdeal.τ).loc Cert.AttnFwdZeroIdeal.main_arg1)
          ∧ r.2.mem ((c.tc : Thread Cert.AttnFwdZeroIdeal.nD Cert.AttnFwdZeroIdeal.τ).loc Cert.AttnFwdZeroIdeal.main_arg2) = m ((c.tc : Thread Cert.AttnFwdZeroIdeal.nD Cert.AttnFwdZeroIdeal.τ).loc Cert.AttnFwdZeroIdeal.main_arg2))
      ∧ θ_run (Cert.AttnFwdZeroRefIdeal.defs (F := Ideal)) (onTc (τ := Cert.AttnFwdZeroRefIdeal.τ) (Cert.AttnFwdZeroRefIdeal.main (F := Ideal))) ⟨m', fun _ => 0, g'⟩ (fun r => ∀ c : Dev Cert.AttnFwdZeroRefIdeal.nD,
          r.2.mem ((c.tc : Thread Cert.AttnFwdZeroRefIdeal.nD Cert.AttnFwdZeroRefIdeal.τ).loc Cert.AttnFwdZeroRefIdeal.main_v25) = v0 c
          ∧ r.2.mem ((c.tc : Thread Cert.AttnFwdZeroRefIdeal.nD Cert.AttnFwdZeroRefIdeal.τ).loc Cert.AttnFwdZeroRefIdeal.main_arg0) = m' ((c.tc : Thread Cert.AttnFwdZeroRefIdeal.nD Cert.AttnFwdZeroRefIdeal.τ).loc Cert.AttnFwdZeroRefIdeal.main_arg0)
          ∧ r.2.mem ((c.tc : Thread Cert.AttnFwdZeroRefIdeal.nD Cert.AttnFwdZeroRefIdeal.τ).loc Cert.AttnFwdZeroRefIdeal.main_arg1) = m' ((c.tc : Thread Cert.AttnFwdZeroRefIdeal.nD Cert.AttnFwdZeroRefIdeal.τ).loc Cert.AttnFwdZeroRefIdeal.main_arg1)
          ∧ r.2.mem ((c.tc : Thread Cert.AttnFwdZeroRefIdeal.nD Cert.AttnFwdZeroRefIdeal.τ).loc Cert.AttnFwdZeroRefIdeal.main_arg2) = m' ((c.tc : Thread Cert.AttnFwdZeroRefIdeal.nD Cert.AttnFwdZeroRefIdeal.τ).loc Cert.AttnFwdZeroRefIdeal.main_arg2))

def preserves_AttnFwdOne_AttnFwdOneIdeal : Prop :=
  True

def algebraic_AttnFwdOneIdeal_AttnFwdOneRefIdeal [hAttnFwdOneIdeal : Cert.AttnFwdOneIdeal.Facts] [hAttnFwdOneRefIdeal : Cert.AttnFwdOneRefIdeal.Facts] : Prop :=
  ∀ (m : (ℓ : Loc Cert.AttnFwdOneIdeal.nD Cert.AttnFwdOneIdeal.τ Cert.AttnFwdOneIdeal.sig) → Buf (Elt Ideal) ℓ) (g : Dev Cert.AttnFwdOneIdeal.nD → PrngReg)
    (m' : (ℓ : Loc Cert.AttnFwdOneRefIdeal.nD Cert.AttnFwdOneRefIdeal.τ Cert.AttnFwdOneRefIdeal.sig) → Buf (Elt Ideal) ℓ) (g' : Dev Cert.AttnFwdOneRefIdeal.nD → PrngReg), Pre_AttnFwdOneIdeal m →
    (∀ c : Dev Cert.AttnFwdOneIdeal.nD,
      m' ((c.tc : Thread Cert.AttnFwdOneRefIdeal.nD Cert.AttnFwdOneRefIdeal.τ).loc Cert.AttnFwdOneRefIdeal.main_arg0) = m ((c.tc : Thread Cert.AttnFwdOneIdeal.nD Cert.AttnFwdOneIdeal.τ).loc Cert.AttnFwdOneIdeal.main_arg0)
      ∧ m' ((c.tc : Thread Cert.AttnFwdOneRefIdeal.nD Cert.AttnFwdOneRefIdeal.τ).loc Cert.AttnFwdOneRefIdeal.main_arg1) = m ((c.tc : Thread Cert.AttnFwdOneIdeal.nD Cert.AttnFwdOneIdeal.τ).loc Cert.AttnFwdOneIdeal.main_arg1)
      ∧ m' ((c.tc : Thread Cert.AttnFwdOneRefIdeal.nD Cert.AttnFwdOneRefIdeal.τ).loc Cert.AttnFwdOneRefIdeal.main_arg2) = m ((c.tc : Thread Cert.AttnFwdOneIdeal.nD Cert.AttnFwdOneIdeal.τ).loc Cert.AttnFwdOneIdeal.main_arg2)) →
    ∃ (v0 : (c : Dev Cert.AttnFwdOneIdeal.nD) → Buf (Elt Ideal) ((c.tc : Thread Cert.AttnFwdOneIdeal.nD Cert.AttnFwdOneIdeal.τ).loc Cert.AttnFwdOneIdeal.main_v0)),
      θ_run (Cert.AttnFwdOneIdeal.defs (F := Ideal)) (onTc (τ := Cert.AttnFwdOneIdeal.τ) (Cert.AttnFwdOneIdeal.main (F := Ideal))) ⟨m, fun _ => 0, g⟩ (fun r => ∀ c : Dev Cert.AttnFwdOneIdeal.nD,
          r.2.mem ((c.tc : Thread Cert.AttnFwdOneIdeal.nD Cert.AttnFwdOneIdeal.τ).loc Cert.AttnFwdOneIdeal.main_v0) = v0 c
          ∧ r.2.mem ((c.tc : Thread Cert.AttnFwdOneIdeal.nD Cert.AttnFwdOneIdeal.τ).loc Cert.AttnFwdOneIdeal.main_arg0) = m ((c.tc : Thread Cert.AttnFwdOneIdeal.nD Cert.AttnFwdOneIdeal.τ).loc Cert.AttnFwdOneIdeal.main_arg0)
          ∧ r.2.mem ((c.tc : Thread Cert.AttnFwdOneIdeal.nD Cert.AttnFwdOneIdeal.τ).loc Cert.AttnFwdOneIdeal.main_arg1) = m ((c.tc : Thread Cert.AttnFwdOneIdeal.nD Cert.AttnFwdOneIdeal.τ).loc Cert.AttnFwdOneIdeal.main_arg1)
          ∧ r.2.mem ((c.tc : Thread Cert.AttnFwdOneIdeal.nD Cert.AttnFwdOneIdeal.τ).loc Cert.AttnFwdOneIdeal.main_arg2) = m ((c.tc : Thread Cert.AttnFwdOneIdeal.nD Cert.AttnFwdOneIdeal.τ).loc Cert.AttnFwdOneIdeal.main_arg2))
      ∧ θ_run (Cert.AttnFwdOneRefIdeal.defs (F := Ideal)) (onTc (τ := Cert.AttnFwdOneRefIdeal.τ) (Cert.AttnFwdOneRefIdeal.main (F := Ideal))) ⟨m', fun _ => 0, g'⟩ (fun r => ∀ c : Dev Cert.AttnFwdOneRefIdeal.nD,
          r.2.mem ((c.tc : Thread Cert.AttnFwdOneRefIdeal.nD Cert.AttnFwdOneRefIdeal.τ).loc Cert.AttnFwdOneRefIdeal.main_v25) = v0 c
          ∧ r.2.mem ((c.tc : Thread Cert.AttnFwdOneRefIdeal.nD Cert.AttnFwdOneRefIdeal.τ).loc Cert.AttnFwdOneRefIdeal.main_arg0) = m' ((c.tc : Thread Cert.AttnFwdOneRefIdeal.nD Cert.AttnFwdOneRefIdeal.τ).loc Cert.AttnFwdOneRefIdeal.main_arg0)
          ∧ r.2.mem ((c.tc : Thread Cert.AttnFwdOneRefIdeal.nD Cert.AttnFwdOneRefIdeal.τ).loc Cert.AttnFwdOneRefIdeal.main_arg1) = m' ((c.tc : Thread Cert.AttnFwdOneRefIdeal.nD Cert.AttnFwdOneRefIdeal.τ).loc Cert.AttnFwdOneRefIdeal.main_arg1)
          ∧ r.2.mem ((c.tc : Thread Cert.AttnFwdOneRefIdeal.nD Cert.AttnFwdOneRefIdeal.τ).loc Cert.AttnFwdOneRefIdeal.main_arg2) = m' ((c.tc : Thread Cert.AttnFwdOneRefIdeal.nD Cert.AttnFwdOneRefIdeal.τ).loc Cert.AttnFwdOneRefIdeal.main_arg2))

def preserves_FfnInDx_FfnInDxIdeal : Prop :=
  True

def algebraic_FfnInDxIdeal_FfnInDxRefIdeal_pre_ffn_in_dx_pre [hFfnInDxIdeal : Cert.FfnInDxIdeal.Facts] [hFfnInDxRefIdeal : Cert.FfnInDxRefIdeal.Facts] [hPre_ffn_in_dx_pre : Cert.Pre_ffn_in_dx_pre.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal_ffn_in_dx_pre m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)
      ∧ m' ((c.tc : Thread Cert.FfnInDxRefIdeal.nD Cert.FfnInDxRefIdeal.τ).loc Cert.FfnInDxRefIdeal.main_arg3) = m ((c.tc : Thread Cert.FfnInDxIdeal.nD Cert.FfnInDxIdeal.τ).loc Cert.FfnInDxIdeal.main_arg3)
      ∧ m' ((c.tc : Thread Cert.FfnInDxRefIdeal.nD Cert.FfnInDxRefIdeal.τ).loc Cert.FfnInDxRefIdeal.main_arg4) = m ((c.tc : Thread Cert.FfnInDxIdeal.nD Cert.FfnInDxIdeal.τ).loc Cert.FfnInDxIdeal.main_arg4)) →
    ∃ (v0 : (c : Dev Cert.FfnInDxIdeal.nD) → Buf (Elt Ideal) ((c.tc : Thread Cert.FfnInDxIdeal.nD Cert.FfnInDxIdeal.τ).loc Cert.FfnInDxIdeal.main_v2_0)) (v1 : (c : Dev Cert.FfnInDxIdeal.nD) → Buf (Elt Ideal) ((c.tc : Thread Cert.FfnInDxIdeal.nD Cert.FfnInDxIdeal.τ).loc Cert.FfnInDxIdeal.main_v2_1)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v2_0) = v0 c
          ∧ r.2.mem ((c.tc : Thread Cert.FfnInDxIdeal.nD Cert.FfnInDxIdeal.τ).loc Cert.FfnInDxIdeal.main_v2_1) = v1 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
          ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3)
          ∧ r.2.mem ((c.tc : Thread Cert.FfnInDxIdeal.nD Cert.FfnInDxIdeal.τ).loc Cert.FfnInDxIdeal.main_arg4) = m ((c.tc : Thread Cert.FfnInDxIdeal.nD Cert.FfnInDxIdeal.τ).loc Cert.FfnInDxIdeal.main_arg4))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v42) = v0 c
          ∧ r.2.mem ((c.tc : Thread Cert.FfnInDxRefIdeal.nD Cert.FfnInDxRefIdeal.τ).loc Cert.FfnInDxRefIdeal.main_v25) = v1 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2)
          ∧ r.2.mem ((c.tc : Thread Cert.FfnInDxRefIdeal.nD Cert.FfnInDxRefIdeal.τ).loc Cert.FfnInDxRefIdeal.main_arg3) = m' ((c.tc : Thread Cert.FfnInDxRefIdeal.nD Cert.FfnInDxRefIdeal.τ).loc Cert.FfnInDxRefIdeal.main_arg3)
          ∧ r.2.mem ((c.tc : Thread Cert.FfnInDxRefIdeal.nD Cert.FfnInDxRefIdeal.τ).loc Cert.FfnInDxRefIdeal.main_arg4) = m' ((c.tc : Thread Cert.FfnInDxRefIdeal.nD Cert.FfnInDxRefIdeal.τ).loc Cert.FfnInDxRefIdeal.main_arg4))

def preserves_HgInDx_HgInDxIdeal : Prop :=
  True

def algebraic_HgInDxIdeal_HgInDxRefIdeal_pre_hg_in_dx_pre [hHgInDxIdeal : Cert.HgInDxIdeal.Facts] [hHgInDxRefIdeal : Cert.HgInDxRefIdeal.Facts] [hPre_hg_in_dx_pre : Cert.Pre_hg_in_dx_pre.Facts] : Prop :=
  ∀ (m : (ℓ : Loc Cert.HgInDxIdeal.nD Cert.HgInDxIdeal.τ Cert.HgInDxIdeal.sig) → Buf (Elt Ideal) ℓ) (g : Dev Cert.HgInDxIdeal.nD → PrngReg)
    (m' : (ℓ : Loc Cert.HgInDxRefIdeal.nD Cert.HgInDxRefIdeal.τ Cert.HgInDxRefIdeal.sig) → Buf (Elt Ideal) ℓ) (g' : Dev Cert.HgInDxRefIdeal.nD → PrngReg), Pre_HgInDxIdeal_hg_in_dx_pre m →
    (∀ c : Dev Cert.HgInDxIdeal.nD,
      m' ((c.tc : Thread Cert.HgInDxRefIdeal.nD Cert.HgInDxRefIdeal.τ).loc Cert.HgInDxRefIdeal.main_arg0) = m ((c.tc : Thread Cert.HgInDxIdeal.nD Cert.HgInDxIdeal.τ).loc Cert.HgInDxIdeal.main_arg0)
      ∧ m' ((c.tc : Thread Cert.HgInDxRefIdeal.nD Cert.HgInDxRefIdeal.τ).loc Cert.HgInDxRefIdeal.main_arg1) = m ((c.tc : Thread Cert.HgInDxIdeal.nD Cert.HgInDxIdeal.τ).loc Cert.HgInDxIdeal.main_arg1)
      ∧ m' ((c.tc : Thread Cert.HgInDxRefIdeal.nD Cert.HgInDxRefIdeal.τ).loc Cert.HgInDxRefIdeal.main_arg2) = m ((c.tc : Thread Cert.HgInDxIdeal.nD Cert.HgInDxIdeal.τ).loc Cert.HgInDxIdeal.main_arg2)
      ∧ m' ((c.tc : Thread Cert.HgInDxRefIdeal.nD Cert.HgInDxRefIdeal.τ).loc Cert.HgInDxRefIdeal.main_arg3) = m ((c.tc : Thread Cert.HgInDxIdeal.nD Cert.HgInDxIdeal.τ).loc Cert.HgInDxIdeal.main_arg3)
      ∧ m' ((c.tc : Thread Cert.HgInDxRefIdeal.nD Cert.HgInDxRefIdeal.τ).loc Cert.HgInDxRefIdeal.main_arg4) = m ((c.tc : Thread Cert.HgInDxIdeal.nD Cert.HgInDxIdeal.τ).loc Cert.HgInDxIdeal.main_arg4)
      ∧ m' ((c.tc : Thread Cert.HgInDxRefIdeal.nD Cert.HgInDxRefIdeal.τ).loc Cert.HgInDxRefIdeal.main_arg5) = m ((c.tc : Thread Cert.HgInDxIdeal.nD Cert.HgInDxIdeal.τ).loc Cert.HgInDxIdeal.main_arg5)) →
    ∃ (v0 : (c : Dev Cert.HgInDxIdeal.nD) → Buf (Elt Ideal) ((c.tc : Thread Cert.HgInDxIdeal.nD Cert.HgInDxIdeal.τ).loc Cert.HgInDxIdeal.main_v2_0)) (v1 : (c : Dev Cert.HgInDxIdeal.nD) → Buf (Elt Ideal) ((c.tc : Thread Cert.HgInDxIdeal.nD Cert.HgInDxIdeal.τ).loc Cert.HgInDxIdeal.main_v2_1)),
      θ_run (Cert.HgInDxIdeal.defs (F := Ideal)) (onTc (τ := Cert.HgInDxIdeal.τ) (Cert.HgInDxIdeal.main (F := Ideal))) ⟨m, fun _ => 0, g⟩ (fun r => ∀ c : Dev Cert.HgInDxIdeal.nD,
          r.2.mem ((c.tc : Thread Cert.HgInDxIdeal.nD Cert.HgInDxIdeal.τ).loc Cert.HgInDxIdeal.main_v2_0) = v0 c
          ∧ r.2.mem ((c.tc : Thread Cert.HgInDxIdeal.nD Cert.HgInDxIdeal.τ).loc Cert.HgInDxIdeal.main_v2_1) = v1 c
          ∧ r.2.mem ((c.tc : Thread Cert.HgInDxIdeal.nD Cert.HgInDxIdeal.τ).loc Cert.HgInDxIdeal.main_arg0) = m ((c.tc : Thread Cert.HgInDxIdeal.nD Cert.HgInDxIdeal.τ).loc Cert.HgInDxIdeal.main_arg0)
          ∧ r.2.mem ((c.tc : Thread Cert.HgInDxIdeal.nD Cert.HgInDxIdeal.τ).loc Cert.HgInDxIdeal.main_arg1) = m ((c.tc : Thread Cert.HgInDxIdeal.nD Cert.HgInDxIdeal.τ).loc Cert.HgInDxIdeal.main_arg1)
          ∧ r.2.mem ((c.tc : Thread Cert.HgInDxIdeal.nD Cert.HgInDxIdeal.τ).loc Cert.HgInDxIdeal.main_arg2) = m ((c.tc : Thread Cert.HgInDxIdeal.nD Cert.HgInDxIdeal.τ).loc Cert.HgInDxIdeal.main_arg2)
          ∧ r.2.mem ((c.tc : Thread Cert.HgInDxIdeal.nD Cert.HgInDxIdeal.τ).loc Cert.HgInDxIdeal.main_arg3) = m ((c.tc : Thread Cert.HgInDxIdeal.nD Cert.HgInDxIdeal.τ).loc Cert.HgInDxIdeal.main_arg3)
          ∧ r.2.mem ((c.tc : Thread Cert.HgInDxIdeal.nD Cert.HgInDxIdeal.τ).loc Cert.HgInDxIdeal.main_arg4) = m ((c.tc : Thread Cert.HgInDxIdeal.nD Cert.HgInDxIdeal.τ).loc Cert.HgInDxIdeal.main_arg4)
          ∧ r.2.mem ((c.tc : Thread Cert.HgInDxIdeal.nD Cert.HgInDxIdeal.τ).loc Cert.HgInDxIdeal.main_arg5) = m ((c.tc : Thread Cert.HgInDxIdeal.nD Cert.HgInDxIdeal.τ).loc Cert.HgInDxIdeal.main_arg5))
      ∧ θ_run (Cert.HgInDxRefIdeal.defs (F := Ideal)) (onTc (τ := Cert.HgInDxRefIdeal.τ) (Cert.HgInDxRefIdeal.main (F := Ideal))) ⟨m', fun _ => 0, g'⟩ (fun r => ∀ c : Dev Cert.HgInDxRefIdeal.nD,
          r.2.mem ((c.tc : Thread Cert.HgInDxRefIdeal.nD Cert.HgInDxRefIdeal.τ).loc Cert.HgInDxRefIdeal.main_v37) = v0 c
          ∧ r.2.mem ((c.tc : Thread Cert.HgInDxRefIdeal.nD Cert.HgInDxRefIdeal.τ).loc Cert.HgInDxRefIdeal.main_v20) = v1 c
          ∧ r.2.mem ((c.tc : Thread Cert.HgInDxRefIdeal.nD Cert.HgInDxRefIdeal.τ).loc Cert.HgInDxRefIdeal.main_arg0) = m' ((c.tc : Thread Cert.HgInDxRefIdeal.nD Cert.HgInDxRefIdeal.τ).loc Cert.HgInDxRefIdeal.main_arg0)
          ∧ r.2.mem ((c.tc : Thread Cert.HgInDxRefIdeal.nD Cert.HgInDxRefIdeal.τ).loc Cert.HgInDxRefIdeal.main_arg1) = m' ((c.tc : Thread Cert.HgInDxRefIdeal.nD Cert.HgInDxRefIdeal.τ).loc Cert.HgInDxRefIdeal.main_arg1)
          ∧ r.2.mem ((c.tc : Thread Cert.HgInDxRefIdeal.nD Cert.HgInDxRefIdeal.τ).loc Cert.HgInDxRefIdeal.main_arg2) = m' ((c.tc : Thread Cert.HgInDxRefIdeal.nD Cert.HgInDxRefIdeal.τ).loc Cert.HgInDxRefIdeal.main_arg2)
          ∧ r.2.mem ((c.tc : Thread Cert.HgInDxRefIdeal.nD Cert.HgInDxRefIdeal.τ).loc Cert.HgInDxRefIdeal.main_arg3) = m' ((c.tc : Thread Cert.HgInDxRefIdeal.nD Cert.HgInDxRefIdeal.τ).loc Cert.HgInDxRefIdeal.main_arg3)
          ∧ r.2.mem ((c.tc : Thread Cert.HgInDxRefIdeal.nD Cert.HgInDxRefIdeal.τ).loc Cert.HgInDxRefIdeal.main_arg4) = m' ((c.tc : Thread Cert.HgInDxRefIdeal.nD Cert.HgInDxRefIdeal.τ).loc Cert.HgInDxRefIdeal.main_arg4)
          ∧ r.2.mem ((c.tc : Thread Cert.HgInDxRefIdeal.nD Cert.HgInDxRefIdeal.τ).loc Cert.HgInDxRefIdeal.main_arg5) = m' ((c.tc : Thread Cert.HgInDxRefIdeal.nD Cert.HgInDxRefIdeal.τ).loc Cert.HgInDxRefIdeal.main_arg5))

def preserves_LossHead_LossHeadIdeal : Prop :=
  True

def algebraic_LossHeadIdeal_LossHeadRefIdeal_pre_loss_head_pre [hLossHeadIdeal : Cert.LossHeadIdeal.Facts] [hLossHeadRefIdeal : Cert.LossHeadRefIdeal.Facts] [hPre_loss_head_pre : Cert.Pre_loss_head_pre.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_head_pre m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v35) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_FfnActBwd_FfnActBwdIdeal : Prop :=
  True

def algebraic_FfnActBwdIdeal_FfnActBwdRefIdeal_pre_ffn_act_bwd_pre [hFfnActBwdIdeal : Cert.FfnActBwdIdeal.Facts] [hFfnActBwdRefIdeal : Cert.FfnActBwdRefIdeal.Facts] [hPre_ffn_act_bwd_pre : Cert.Pre_ffn_act_bwd_pre.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg)
    (m' : (ℓ : Loc Cert.FfnActBwdRefIdeal.nD Cert.FfnActBwdRefIdeal.τ Cert.FfnActBwdRefIdeal.sig) → Buf (Elt Ideal) ℓ) (g' : Dev Cert.FfnActBwdRefIdeal.nD → PrngReg), Pre_FfnActBwdIdeal_ffn_act_bwd_pre m →
    (∀ c : Dev Cert.FfnActBwdIdeal.nD,
      m' ((c.tc : Thread Cert.FfnActBwdRefIdeal.nD Cert.FfnActBwdRefIdeal.τ).loc Cert.FfnActBwdRefIdeal.main_arg0) = m ((c.tc : Thread Cert.FfnActBwdIdeal.nD Cert.FfnActBwdIdeal.τ).loc Cert.FfnActBwdIdeal.main_arg0)
      ∧ m' ((c.tc : Thread Cert.FfnActBwdRefIdeal.nD Cert.FfnActBwdRefIdeal.τ).loc Cert.FfnActBwdRefIdeal.main_arg1) = m ((c.tc : Thread Cert.FfnActBwdIdeal.nD Cert.FfnActBwdIdeal.τ).loc Cert.FfnActBwdIdeal.main_arg1)
      ∧ m' ((c.tc : Thread Cert.FfnActBwdRefIdeal.nD Cert.FfnActBwdRefIdeal.τ).loc Cert.FfnActBwdRefIdeal.main_arg2) = m ((c.tc : Thread Cert.FfnActBwdIdeal.nD Cert.FfnActBwdIdeal.τ).loc Cert.FfnActBwdIdeal.main_arg2)
      ∧ m' ((c.tc : Thread Cert.FfnActBwdRefIdeal.nD Cert.FfnActBwdRefIdeal.τ).loc Cert.FfnActBwdRefIdeal.main_arg3) = m ((c.tc : Thread Cert.FfnActBwdIdeal.nD Cert.FfnActBwdIdeal.τ).loc Cert.FfnActBwdIdeal.main_arg3)
      ∧ m' ((c.tc : Thread Cert.FfnActBwdRefIdeal.nD Cert.FfnActBwdRefIdeal.τ).loc Cert.FfnActBwdRefIdeal.main_arg4) = m ((c.tc : Thread Cert.FfnActBwdIdeal.nD Cert.FfnActBwdIdeal.τ).loc Cert.FfnActBwdIdeal.main_arg4)) →
    ∃ (v0 : (c : Dev Cert.FfnActBwdIdeal.nD) → Buf (Elt Ideal) ((c.tc : Thread Cert.FfnActBwdIdeal.nD Cert.FfnActBwdIdeal.τ).loc Cert.FfnActBwdIdeal.main_v2_1)) (v1 : (c : Dev Cert.FfnActBwdIdeal.nD) → Buf (Elt Ideal) ((c.tc : Thread Cert.FfnActBwdIdeal.nD Cert.FfnActBwdIdeal.τ).loc Cert.FfnActBwdIdeal.main_v4)),
      θ_run (Cert.FfnActBwdIdeal.defs (F := Ideal)) (onTc (τ := Cert.FfnActBwdIdeal.τ) (Cert.FfnActBwdIdeal.main (F := Ideal))) ⟨m, fun _ => 0, g⟩ (fun r => ∀ c : Dev Cert.FfnActBwdIdeal.nD,
          r.2.mem ((c.tc : Thread Cert.FfnActBwdIdeal.nD Cert.FfnActBwdIdeal.τ).loc Cert.FfnActBwdIdeal.main_v2_1) = v0 c
          ∧ r.2.mem ((c.tc : Thread Cert.FfnActBwdIdeal.nD Cert.FfnActBwdIdeal.τ).loc Cert.FfnActBwdIdeal.main_v4) = v1 c
          ∧ r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
          ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
          ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
          ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3)
          ∧ r.2.mem ((c.tc : Thread Cert.FfnActBwdIdeal.nD Cert.FfnActBwdIdeal.τ).loc Cert.FfnActBwdIdeal.main_arg4) = m ((c.tc : Thread Cert.FfnActBwdIdeal.nD Cert.FfnActBwdIdeal.τ).loc Cert.FfnActBwdIdeal.main_arg4))
      ∧ θ_run (Cert.FfnActBwdRefIdeal.defs (F := Ideal)) (onTc (τ := Cert.FfnActBwdRefIdeal.τ) (Cert.FfnActBwdRefIdeal.main (F := Ideal))) ⟨m', fun _ => 0, g'⟩ (fun r => ∀ c : Dev Cert.FfnActBwdRefIdeal.nD,
          r.2.mem ((c.tc : Thread Cert.FfnActBwdRefIdeal.nD Cert.FfnActBwdRefIdeal.τ).loc Cert.FfnActBwdRefIdeal.main_v16) = v0 c
          ∧ r.2.mem ((c.tc : Thread Cert.FfnActBwdRefIdeal.nD Cert.FfnActBwdRefIdeal.τ).loc Cert.FfnActBwdRefIdeal.main_v19) = v1 c
          ∧ r.2.mem ((c.tc : Thread Cert.FfnActBwdRefIdeal.nD Cert.FfnActBwdRefIdeal.τ).loc Cert.FfnActBwdRefIdeal.main_arg0) = m' ((c.tc : Thread Cert.FfnActBwdRefIdeal.nD Cert.FfnActBwdRefIdeal.τ).loc Cert.FfnActBwdRefIdeal.main_arg0)
          ∧ r.2.mem ((c.tc : Thread Cert.FfnActBwdRefIdeal.nD Cert.FfnActBwdRefIdeal.τ).loc Cert.FfnActBwdRefIdeal.main_arg1) = m' ((c.tc : Thread Cert.FfnActBwdRefIdeal.nD Cert.FfnActBwdRefIdeal.τ).loc Cert.FfnActBwdRefIdeal.main_arg1)
          ∧ r.2.mem ((c.tc : Thread Cert.FfnActBwdRefIdeal.nD Cert.FfnActBwdRefIdeal.τ).loc Cert.FfnActBwdRefIdeal.main_arg2) = m' ((c.tc : Thread Cert.FfnActBwdRefIdeal.nD Cert.FfnActBwdRefIdeal.τ).loc Cert.FfnActBwdRefIdeal.main_arg2)
          ∧ r.2.mem ((c.tc : Thread Cert.FfnActBwdRefIdeal.nD Cert.FfnActBwdRefIdeal.τ).loc Cert.FfnActBwdRefIdeal.main_arg3) = m' ((c.tc : Thread Cert.FfnActBwdRefIdeal.nD Cert.FfnActBwdRefIdeal.τ).loc Cert.FfnActBwdRefIdeal.main_arg3)
          ∧ r.2.mem ((c.tc : Thread Cert.FfnActBwdRefIdeal.nD Cert.FfnActBwdRefIdeal.τ).loc Cert.FfnActBwdRefIdeal.main_arg4) = m' ((c.tc : Thread Cert.FfnActBwdRefIdeal.nD Cert.FfnActBwdRefIdeal.τ).loc Cert.FfnActBwdRefIdeal.main_arg4))

def preserves_GmlpBwd_GmlpBwdIdeal : Prop :=
  True

def algebraic_GmlpBwdIdeal_GmlpBwdRefIdeal [hGmlpBwdIdeal : Cert.GmlpBwdIdeal.Facts] [hGmlpBwdRefIdeal : Cert.GmlpBwdRefIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpBwdRefIdeal.nD Cert.GmlpBwdRefIdeal.τ Cert.GmlpBwdRefIdeal.sig) → Buf (Elt Ideal) ℓ) (g' : Dev Cert.GmlpBwdRefIdeal.nD → PrngReg), Pre_GmlpBwdIdeal m →
    (∀ c : Dev Cert.GmlpBwdIdeal.nD,
      m' ((c.tc : Thread Cert.GmlpBwdRefIdeal.nD Cert.GmlpBwdRefIdeal.τ).loc Cert.GmlpBwdRefIdeal.main_arg0) = m ((c.tc : Thread Cert.GmlpBwdIdeal.nD Cert.GmlpBwdIdeal.τ).loc Cert.GmlpBwdIdeal.main_arg0)
      ∧ m' ((c.tc : Thread Cert.GmlpBwdRefIdeal.nD Cert.GmlpBwdRefIdeal.τ).loc Cert.GmlpBwdRefIdeal.main_arg1) = m ((c.tc : Thread Cert.GmlpBwdIdeal.nD Cert.GmlpBwdIdeal.τ).loc Cert.GmlpBwdIdeal.main_arg1)
      ∧ m' ((c.tc : Thread Cert.GmlpBwdRefIdeal.nD Cert.GmlpBwdRefIdeal.τ).loc Cert.GmlpBwdRefIdeal.main_arg2) = m ((c.tc : Thread Cert.GmlpBwdIdeal.nD Cert.GmlpBwdIdeal.τ).loc Cert.GmlpBwdIdeal.main_arg2)
      ∧ m' ((c.tc : Thread Cert.GmlpBwdRefIdeal.nD Cert.GmlpBwdRefIdeal.τ).loc Cert.GmlpBwdRefIdeal.main_arg3) = m ((c.tc : Thread Cert.GmlpBwdIdeal.nD Cert.GmlpBwdIdeal.τ).loc Cert.GmlpBwdIdeal.main_arg3)
      ∧ m' ((c.tc : Thread Cert.GmlpBwdRefIdeal.nD Cert.GmlpBwdRefIdeal.τ).loc Cert.GmlpBwdRefIdeal.main_arg4) = m ((c.tc : Thread Cert.GmlpBwdIdeal.nD Cert.GmlpBwdIdeal.τ).loc Cert.GmlpBwdIdeal.main_arg4)
      ∧ m' ((c.tc : Thread Cert.GmlpBwdRefIdeal.nD Cert.GmlpBwdRefIdeal.τ).loc Cert.GmlpBwdRefIdeal.main_arg5) = m ((c.tc : Thread Cert.GmlpBwdIdeal.nD Cert.GmlpBwdIdeal.τ).loc Cert.GmlpBwdIdeal.main_arg5)) →
    ∃ (v0 : (c : Dev Cert.GmlpBwdIdeal.nD) → Buf (Elt Ideal) ((c.tc : Thread Cert.GmlpBwdIdeal.nD Cert.GmlpBwdIdeal.τ).loc Cert.GmlpBwdIdeal.main_v2_1)) (v1 : (c : Dev Cert.GmlpBwdIdeal.nD) → Buf (Elt Ideal) ((c.tc : Thread Cert.GmlpBwdIdeal.nD Cert.GmlpBwdIdeal.τ).loc Cert.GmlpBwdIdeal.main_v2_2)) (v2 : (c : Dev Cert.GmlpBwdIdeal.nD) → Buf (Elt Ideal) ((c.tc : Thread Cert.GmlpBwdIdeal.nD Cert.GmlpBwdIdeal.τ).loc Cert.GmlpBwdIdeal.main_v2_3)) (v3 : (c : Dev Cert.GmlpBwdIdeal.nD) → Buf (Elt Ideal) ((c.tc : Thread Cert.GmlpBwdIdeal.nD Cert.GmlpBwdIdeal.τ).loc Cert.GmlpBwdIdeal.main_v2_4)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v2_1) = v0 c
          ∧ r.2.mem ((c.tc : Thread Cert.GmlpBwdIdeal.nD Cert.GmlpBwdIdeal.τ).loc Cert.GmlpBwdIdeal.main_v2_2) = v1 c
          ∧ r.2.mem ((c.tc : Thread Cert.GmlpBwdIdeal.nD Cert.GmlpBwdIdeal.τ).loc Cert.GmlpBwdIdeal.main_v2_3) = v2 c
          ∧ r.2.mem ((c.tc : Thread Cert.GmlpBwdIdeal.nD Cert.GmlpBwdIdeal.τ).loc Cert.GmlpBwdIdeal.main_v2_4) = v3 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
          ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ θ_run (Cert.GmlpBwdRefIdeal.defs (F := Ideal)) (onTc (τ := Cert.GmlpBwdRefIdeal.τ) (Cert.GmlpBwdRefIdeal.main (F := Ideal))) ⟨m', fun _ => 0, g'⟩ (fun r => ∀ c : Dev Cert.GmlpBwdRefIdeal.nD,
          r.2.mem ((c.tc : Thread Cert.GmlpBwdRefIdeal.nD Cert.GmlpBwdRefIdeal.τ).loc Cert.GmlpBwdRefIdeal.main_v58) = v0 c
          ∧ r.2.mem ((c.tc : Thread Cert.GmlpBwdRefIdeal.nD Cert.GmlpBwdRefIdeal.τ).loc Cert.GmlpBwdRefIdeal.main_v65) = v1 c
          ∧ r.2.mem ((c.tc : Thread Cert.GmlpBwdRefIdeal.nD Cert.GmlpBwdRefIdeal.τ).loc Cert.GmlpBwdRefIdeal.main_v64) = v2 c
          ∧ r.2.mem ((c.tc : Thread Cert.GmlpBwdRefIdeal.nD Cert.GmlpBwdRefIdeal.τ).loc Cert.GmlpBwdRefIdeal.main_v61) = v3 c
          ∧ r.2.mem ((c.tc : Thread Cert.GmlpBwdRefIdeal.nD Cert.GmlpBwdRefIdeal.τ).loc Cert.GmlpBwdRefIdeal.main_arg0) = m' ((c.tc : Thread Cert.GmlpBwdRefIdeal.nD Cert.GmlpBwdRefIdeal.τ).loc Cert.GmlpBwdRefIdeal.main_arg0)
          ∧ r.2.mem ((c.tc : Thread Cert.GmlpBwdRefIdeal.nD Cert.GmlpBwdRefIdeal.τ).loc Cert.GmlpBwdRefIdeal.main_arg1) = m' ((c.tc : Thread Cert.GmlpBwdRefIdeal.nD Cert.GmlpBwdRefIdeal.τ).loc Cert.GmlpBwdRefIdeal.main_arg1)
          ∧ r.2.mem ((c.tc : Thread Cert.GmlpBwdRefIdeal.nD Cert.GmlpBwdRefIdeal.τ).loc Cert.GmlpBwdRefIdeal.main_arg2) = m' ((c.tc : Thread Cert.GmlpBwdRefIdeal.nD Cert.GmlpBwdRefIdeal.τ).loc Cert.GmlpBwdRefIdeal.main_arg2)
          ∧ r.2.mem ((c.tc : Thread Cert.GmlpBwdRefIdeal.nD Cert.GmlpBwdRefIdeal.τ).loc Cert.GmlpBwdRefIdeal.main_arg3) = m' ((c.tc : Thread Cert.GmlpBwdRefIdeal.nD Cert.GmlpBwdRefIdeal.τ).loc Cert.GmlpBwdRefIdeal.main_arg3)
          ∧ r.2.mem ((c.tc : Thread Cert.GmlpBwdRefIdeal.nD Cert.GmlpBwdRefIdeal.τ).loc Cert.GmlpBwdRefIdeal.main_arg4) = m' ((c.tc : Thread Cert.GmlpBwdRefIdeal.nD Cert.GmlpBwdRefIdeal.τ).loc Cert.GmlpBwdRefIdeal.main_arg4)
          ∧ r.2.mem ((c.tc : Thread Cert.GmlpBwdRefIdeal.nD Cert.GmlpBwdRefIdeal.τ).loc Cert.GmlpBwdRefIdeal.main_arg5) = m' ((c.tc : Thread Cert.GmlpBwdRefIdeal.nD Cert.GmlpBwdRefIdeal.τ).loc Cert.GmlpBwdRefIdeal.main_arg5))

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)) →
    ∃ (v0 : (c : Dev Cert.MixNormIdeal.nD) → Buf (Elt Ideal) ((c.tc : Thread Cert.MixNormIdeal.nD Cert.MixNormIdeal.τ).loc Cert.MixNormIdeal.main_v0)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v0) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v12) = v0 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1))

def preserves_GmlpFwd_GmlpFwdIdeal : Prop :=
  True

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v3)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v3) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v46) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v15) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_GmInDx_GmInDxIdeal : Prop :=
  True

def algebraic_GmInDxIdeal_GmInDxRefIdeal_pre_gm_in_dx_pre [hGmInDxIdeal : Cert.GmInDxIdeal.Facts] [hGmInDxRefIdeal : Cert.GmInDxRefIdeal.Facts] [hPre_gm_in_dx_pre : Cert.Pre_gm_in_dx_pre.Facts] : Prop :=
  ∀ (m : (ℓ : Loc Cert.GmInDxIdeal.nD Cert.GmInDxIdeal.τ Cert.GmInDxIdeal.sig) → Buf (Elt Ideal) ℓ) (g : Dev Cert.GmInDxIdeal.nD → PrngReg)
    (m' : (ℓ : Loc Cert.GmInDxRefIdeal.nD Cert.GmInDxRefIdeal.τ Cert.GmInDxRefIdeal.sig) → Buf (Elt Ideal) ℓ) (g' : Dev Cert.GmInDxRefIdeal.nD → PrngReg), Pre_GmInDxIdeal_gm_in_dx_pre m →
    (∀ c : Dev Cert.GmInDxIdeal.nD,
      m' ((c.tc : Thread Cert.GmInDxRefIdeal.nD Cert.GmInDxRefIdeal.τ).loc Cert.GmInDxRefIdeal.main_arg0) = m ((c.tc : Thread Cert.GmInDxIdeal.nD Cert.GmInDxIdeal.τ).loc Cert.GmInDxIdeal.main_arg0)
      ∧ m' ((c.tc : Thread Cert.GmInDxRefIdeal.nD Cert.GmInDxRefIdeal.τ).loc Cert.GmInDxRefIdeal.main_arg1) = m ((c.tc : Thread Cert.GmInDxIdeal.nD Cert.GmInDxIdeal.τ).loc Cert.GmInDxIdeal.main_arg1)
      ∧ m' ((c.tc : Thread Cert.GmInDxRefIdeal.nD Cert.GmInDxRefIdeal.τ).loc Cert.GmInDxRefIdeal.main_arg2) = m ((c.tc : Thread Cert.GmInDxIdeal.nD Cert.GmInDxIdeal.τ).loc Cert.GmInDxIdeal.main_arg2)
      ∧ m' ((c.tc : Thread Cert.GmInDxRefIdeal.nD Cert.GmInDxRefIdeal.τ).loc Cert.GmInDxRefIdeal.main_arg3) = m ((c.tc : Thread Cert.GmInDxIdeal.nD Cert.GmInDxIdeal.τ).loc Cert.GmInDxIdeal.main_arg3)
      ∧ m' ((c.tc : Thread Cert.GmInDxRefIdeal.nD Cert.GmInDxRefIdeal.τ).loc Cert.GmInDxRefIdeal.main_arg4) = m ((c.tc : Thread Cert.GmInDxIdeal.nD Cert.GmInDxIdeal.τ).loc Cert.GmInDxIdeal.main_arg4)) →
    ∃ (v0 : (c : Dev Cert.GmInDxIdeal.nD) → Buf (Elt Ideal) ((c.tc : Thread Cert.GmInDxIdeal.nD Cert.GmInDxIdeal.τ).loc Cert.GmInDxIdeal.main_v2_0)) (v1 : (c : Dev Cert.GmInDxIdeal.nD) → Buf (Elt Ideal) ((c.tc : Thread Cert.GmInDxIdeal.nD Cert.GmInDxIdeal.τ).loc Cert.GmInDxIdeal.main_v2_1)),
      θ_run (Cert.GmInDxIdeal.defs (F := Ideal)) (onTc (τ := Cert.GmInDxIdeal.τ) (Cert.GmInDxIdeal.main (F := Ideal))) ⟨m, fun _ => 0, g⟩ (fun r => ∀ c : Dev Cert.GmInDxIdeal.nD,
          r.2.mem ((c.tc : Thread Cert.GmInDxIdeal.nD Cert.GmInDxIdeal.τ).loc Cert.GmInDxIdeal.main_v2_0) = v0 c
          ∧ r.2.mem ((c.tc : Thread Cert.GmInDxIdeal.nD Cert.GmInDxIdeal.τ).loc Cert.GmInDxIdeal.main_v2_1) = v1 c
          ∧ r.2.mem ((c.tc : Thread Cert.GmInDxIdeal.nD Cert.GmInDxIdeal.τ).loc Cert.GmInDxIdeal.main_arg0) = m ((c.tc : Thread Cert.GmInDxIdeal.nD Cert.GmInDxIdeal.τ).loc Cert.GmInDxIdeal.main_arg0)
          ∧ r.2.mem ((c.tc : Thread Cert.GmInDxIdeal.nD Cert.GmInDxIdeal.τ).loc Cert.GmInDxIdeal.main_arg1) = m ((c.tc : Thread Cert.GmInDxIdeal.nD Cert.GmInDxIdeal.τ).loc Cert.GmInDxIdeal.main_arg1)
          ∧ r.2.mem ((c.tc : Thread Cert.GmInDxIdeal.nD Cert.GmInDxIdeal.τ).loc Cert.GmInDxIdeal.main_arg2) = m ((c.tc : Thread Cert.GmInDxIdeal.nD Cert.GmInDxIdeal.τ).loc Cert.GmInDxIdeal.main_arg2)
          ∧ r.2.mem ((c.tc : Thread Cert.GmInDxIdeal.nD Cert.GmInDxIdeal.τ).loc Cert.GmInDxIdeal.main_arg3) = m ((c.tc : Thread Cert.GmInDxIdeal.nD Cert.GmInDxIdeal.τ).loc Cert.GmInDxIdeal.main_arg3)
          ∧ r.2.mem ((c.tc : Thread Cert.GmInDxIdeal.nD Cert.GmInDxIdeal.τ).loc Cert.GmInDxIdeal.main_arg4) = m ((c.tc : Thread Cert.GmInDxIdeal.nD Cert.GmInDxIdeal.τ).loc Cert.GmInDxIdeal.main_arg4))
      ∧ θ_run (Cert.GmInDxRefIdeal.defs (F := Ideal)) (onTc (τ := Cert.GmInDxRefIdeal.τ) (Cert.GmInDxRefIdeal.main (F := Ideal))) ⟨m', fun _ => 0, g'⟩ (fun r => ∀ c : Dev Cert.GmInDxRefIdeal.nD,
          r.2.mem ((c.tc : Thread Cert.GmInDxRefIdeal.nD Cert.GmInDxRefIdeal.τ).loc Cert.GmInDxRefIdeal.main_v37) = v0 c
          ∧ r.2.mem ((c.tc : Thread Cert.GmInDxRefIdeal.nD Cert.GmInDxRefIdeal.τ).loc Cert.GmInDxRefIdeal.main_v20) = v1 c
          ∧ r.2.mem ((c.tc : Thread Cert.GmInDxRefIdeal.nD Cert.GmInDxRefIdeal.τ).loc Cert.GmInDxRefIdeal.main_arg0) = m' ((c.tc : Thread Cert.GmInDxRefIdeal.nD Cert.GmInDxRefIdeal.τ).loc Cert.GmInDxRefIdeal.main_arg0)
          ∧ r.2.mem ((c.tc : Thread Cert.GmInDxRefIdeal.nD Cert.GmInDxRefIdeal.τ).loc Cert.GmInDxRefIdeal.main_arg1) = m' ((c.tc : Thread Cert.GmInDxRefIdeal.nD Cert.GmInDxRefIdeal.τ).loc Cert.GmInDxRefIdeal.main_arg1)
          ∧ r.2.mem ((c.tc : Thread Cert.GmInDxRefIdeal.nD Cert.GmInDxRefIdeal.τ).loc Cert.GmInDxRefIdeal.main_arg2) = m' ((c.tc : Thread Cert.GmInDxRefIdeal.nD Cert.GmInDxRefIdeal.τ).loc Cert.GmInDxRefIdeal.main_arg2)
          ∧ r.2.mem ((c.tc : Thread Cert.GmInDxRefIdeal.nD Cert.GmInDxRefIdeal.τ).loc Cert.GmInDxRefIdeal.main_arg3) = m' ((c.tc : Thread Cert.GmInDxRefIdeal.nD Cert.GmInDxRefIdeal.τ).loc Cert.GmInDxRefIdeal.main_arg3)
          ∧ r.2.mem ((c.tc : Thread Cert.GmInDxRefIdeal.nD Cert.GmInDxRefIdeal.τ).loc Cert.GmInDxRefIdeal.main_arg4) = m' ((c.tc : Thread Cert.GmInDxRefIdeal.nD Cert.GmInDxRefIdeal.τ).loc Cert.GmInDxRefIdeal.main_arg4))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v1_0)) (v1 : (c : Dev Cert.FfnOutIdeal.nD) → Buf (Elt Ideal) ((c.tc : Thread Cert.FfnOutIdeal.nD Cert.FfnOutIdeal.τ).loc Cert.FfnOutIdeal.main_v1_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1_0) = v0 c
          ∧ r.2.mem ((c.tc : Thread Cert.FfnOutIdeal.nD Cert.FfnOutIdeal.τ).loc Cert.FfnOutIdeal.main_v1_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_v15) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_MemNormFwd_MemNormFwdIdeal : Prop :=
  True

def algebraic_MemNormFwdIdeal_MemNormFwdRefIdeal [hMemNormFwdIdeal : Cert.MemNormFwdIdeal.Facts] [hMemNormFwdRefIdeal : Cert.MemNormFwdRefIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg)
    (m' : (ℓ : Loc Cert.MemNormFwdRefIdeal.nD Cert.MemNormFwdRefIdeal.τ Cert.MemNormFwdRefIdeal.sig) → Buf (Elt Ideal) ℓ) (g' : Dev Cert.MemNormFwdRefIdeal.nD → PrngReg), Pre_MemNormFwdIdeal m →
    (∀ c : Dev Cert.MemNormFwdIdeal.nD,
      m' ((c.tc : Thread Cert.MemNormFwdRefIdeal.nD Cert.MemNormFwdRefIdeal.τ).loc Cert.MemNormFwdRefIdeal.main_arg0) = m ((c.tc : Thread Cert.MemNormFwdIdeal.nD Cert.MemNormFwdIdeal.τ).loc Cert.MemNormFwdIdeal.main_arg0)
      ∧ m' ((c.tc : Thread Cert.MemNormFwdRefIdeal.nD Cert.MemNormFwdRefIdeal.τ).loc Cert.MemNormFwdRefIdeal.main_arg1) = m ((c.tc : Thread Cert.MemNormFwdIdeal.nD Cert.MemNormFwdIdeal.τ).loc Cert.MemNormFwdIdeal.main_arg1)) →
    ∃ (v0 : (c : Dev Cert.MemNormFwdIdeal.nD) → Buf (Elt Ideal) ((c.tc : Thread Cert.MemNormFwdIdeal.nD Cert.MemNormFwdIdeal.τ).loc Cert.MemNormFwdIdeal.main_v0)),
      θ_run (Cert.MemNormFwdIdeal.defs (F := Ideal)) (onTc (τ := Cert.MemNormFwdIdeal.τ) (Cert.MemNormFwdIdeal.main (F := Ideal))) ⟨m, fun _ => 0, g⟩ (fun r => ∀ c : Dev Cert.MemNormFwdIdeal.nD,
          r.2.mem ((c.tc : Thread Cert.MemNormFwdIdeal.nD Cert.MemNormFwdIdeal.τ).loc Cert.MemNormFwdIdeal.main_v0) = v0 c
          ∧ r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
          ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ θ_run (Cert.MemNormFwdRefIdeal.defs (F := Ideal)) (onTc (τ := Cert.MemNormFwdRefIdeal.τ) (Cert.MemNormFwdRefIdeal.main (F := Ideal))) ⟨m', fun _ => 0, g'⟩ (fun r => ∀ c : Dev Cert.MemNormFwdRefIdeal.nD,
          r.2.mem ((c.tc : Thread Cert.MemNormFwdRefIdeal.nD Cert.MemNormFwdRefIdeal.τ).loc Cert.MemNormFwdRefIdeal.main_v12) = v0 c
          ∧ r.2.mem ((c.tc : Thread Cert.MemNormFwdRefIdeal.nD Cert.MemNormFwdRefIdeal.τ).loc Cert.MemNormFwdRefIdeal.main_arg0) = m' ((c.tc : Thread Cert.MemNormFwdRefIdeal.nD Cert.MemNormFwdRefIdeal.τ).loc Cert.MemNormFwdRefIdeal.main_arg0)
          ∧ r.2.mem ((c.tc : Thread Cert.MemNormFwdRefIdeal.nD Cert.MemNormFwdRefIdeal.τ).loc Cert.MemNormFwdRefIdeal.main_arg1) = m' ((c.tc : Thread Cert.MemNormFwdRefIdeal.nD Cert.MemNormFwdRefIdeal.τ).loc Cert.MemNormFwdRefIdeal.main_arg1))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_AdamStep_AdamStepIdeal : Prop :=
  True

def algebraic_AdamStepIdeal_AdamStepRefIdeal [hAdamStepIdeal : Cert.AdamStepIdeal.Facts] [hAdamStepRefIdeal : Cert.AdamStepRefIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg)
    (m' : (ℓ : Loc Cert.AdamStepRefIdeal.nD Cert.AdamStepRefIdeal.τ Cert.AdamStepRefIdeal.sig) → Buf (Elt Ideal) ℓ) (g' : Dev Cert.AdamStepRefIdeal.nD → PrngReg), Pre_AdamStepIdeal m →
    (∀ c : Dev Cert.AdamStepIdeal.nD,
      m' ((c.tc : Thread Cert.AdamStepRefIdeal.nD Cert.AdamStepRefIdeal.τ).loc Cert.AdamStepRefIdeal.main_arg0) = m ((c.tc : Thread Cert.AdamStepIdeal.nD Cert.AdamStepIdeal.τ).loc Cert.AdamStepIdeal.main_arg0)
      ∧ m' ((c.tc : Thread Cert.AdamStepRefIdeal.nD Cert.AdamStepRefIdeal.τ).loc Cert.AdamStepRefIdeal.main_arg1) = m ((c.tc : Thread Cert.AdamStepIdeal.nD Cert.AdamStepIdeal.τ).loc Cert.AdamStepIdeal.main_arg1)
      ∧ m' ((c.tc : Thread Cert.AdamStepRefIdeal.nD Cert.AdamStepRefIdeal.τ).loc Cert.AdamStepRefIdeal.main_arg2) = m ((c.tc : Thread Cert.AdamStepIdeal.nD Cert.AdamStepIdeal.τ).loc Cert.AdamStepIdeal.main_arg2)
      ∧ m' ((c.tc : Thread Cert.AdamStepRefIdeal.nD Cert.AdamStepRefIdeal.τ).loc Cert.AdamStepRefIdeal.main_arg3) = m ((c.tc : Thread Cert.AdamStepIdeal.nD Cert.AdamStepIdeal.τ).loc Cert.AdamStepIdeal.main_arg3)) →
    ∃ (v0 : (c : Dev Cert.AdamStepIdeal.nD) → Buf (Elt Ideal) ((c.tc : Thread Cert.AdamStepIdeal.nD Cert.AdamStepIdeal.τ).loc Cert.AdamStepIdeal.main_v0_0)) (v1 : (c : Dev Cert.AdamStepIdeal.nD) → Buf (Elt Ideal) ((c.tc : Thread Cert.AdamStepIdeal.nD Cert.AdamStepIdeal.τ).loc Cert.AdamStepIdeal.main_v0_1)) (v2 : (c : Dev Cert.AdamStepIdeal.nD) → Buf (Elt Ideal) ((c.tc : Thread Cert.AdamStepIdeal.nD Cert.AdamStepIdeal.τ).loc Cert.AdamStepIdeal.main_v0_2)),
      θ_run (Cert.AdamStepIdeal.defs (F := Ideal)) (onTc (τ := Cert.AdamStepIdeal.τ) (Cert.AdamStepIdeal.main (F := Ideal))) ⟨m, fun _ => 0, g⟩ (fun r => ∀ c : Dev Cert.AdamStepIdeal.nD,
          r.2.mem ((c.tc : Thread Cert.AdamStepIdeal.nD Cert.AdamStepIdeal.τ).loc Cert.AdamStepIdeal.main_v0_0) = v0 c
          ∧ r.2.mem ((c.tc : Thread Cert.AdamStepIdeal.nD Cert.AdamStepIdeal.τ).loc Cert.AdamStepIdeal.main_v0_1) = v1 c
          ∧ r.2.mem ((c.tc : Thread Cert.AdamStepIdeal.nD Cert.AdamStepIdeal.τ).loc Cert.AdamStepIdeal.main_v0_2) = v2 c
          ∧ r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
          ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
          ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
          ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3))
      ∧ θ_run (Cert.AdamStepRefIdeal.defs (F := Ideal)) (onTc (τ := Cert.AdamStepRefIdeal.τ) (Cert.AdamStepRefIdeal.main (F := Ideal))) ⟨m', fun _ => 0, g'⟩ (fun r => ∀ c : Dev Cert.AdamStepRefIdeal.nD,
          r.2.mem ((c.tc : Thread Cert.AdamStepRefIdeal.nD Cert.AdamStepRefIdeal.τ).loc Cert.AdamStepRefIdeal.main_v23) = v0 c
          ∧ r.2.mem ((c.tc : Thread Cert.AdamStepRefIdeal.nD Cert.AdamStepRefIdeal.τ).loc Cert.AdamStepRefIdeal.main_v4) = v1 c
          ∧ r.2.mem ((c.tc : Thread Cert.AdamStepRefIdeal.nD Cert.AdamStepRefIdeal.τ).loc Cert.AdamStepRefIdeal.main_v10) = v2 c
          ∧ r.2.mem ((c.tc : Thread Cert.AdamStepRefIdeal.nD Cert.AdamStepRefIdeal.τ).loc Cert.AdamStepRefIdeal.main_arg0) = m' ((c.tc : Thread Cert.AdamStepRefIdeal.nD Cert.AdamStepRefIdeal.τ).loc Cert.AdamStepRefIdeal.main_arg0)
          ∧ r.2.mem ((c.tc : Thread Cert.AdamStepRefIdeal.nD Cert.AdamStepRefIdeal.τ).loc Cert.AdamStepRefIdeal.main_arg1) = m' ((c.tc : Thread Cert.AdamStepRefIdeal.nD Cert.AdamStepRefIdeal.τ).loc Cert.AdamStepRefIdeal.main_arg1)
          ∧ r.2.mem ((c.tc : Thread Cert.AdamStepRefIdeal.nD Cert.AdamStepRefIdeal.τ).loc Cert.AdamStepRefIdeal.main_arg2) = m' ((c.tc : Thread Cert.AdamStepRefIdeal.nD Cert.AdamStepRefIdeal.τ).loc Cert.AdamStepRefIdeal.main_arg2)
          ∧ r.2.mem ((c.tc : Thread Cert.AdamStepRefIdeal.nD Cert.AdamStepRefIdeal.τ).loc Cert.AdamStepRefIdeal.main_arg3) = m' ((c.tc : Thread Cert.AdamStepRefIdeal.nD Cert.AdamStepRefIdeal.τ).loc Cert.AdamStepRefIdeal.main_arg3))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v1)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v1) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v1) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemKvDx_MemKvDxIdeal : Prop :=
  True

def algebraic_MemKvDxIdeal_MemKvDxRefIdeal [hMemKvDxIdeal : Cert.MemKvDxIdeal.Facts] [hMemKvDxRefIdeal : Cert.MemKvDxRefIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg)
    (m' : (ℓ : Loc Cert.MemKvDxRefIdeal.nD Cert.MemKvDxRefIdeal.τ Cert.MemKvDxRefIdeal.sig) → Buf (Elt Ideal) ℓ) (g' : Dev Cert.MemKvDxRefIdeal.nD → PrngReg), Pre_MemKvDxIdeal m →
    (∀ c : Dev Cert.MemKvDxIdeal.nD,
      m' ((c.tc : Thread Cert.MemKvDxRefIdeal.nD Cert.MemKvDxRefIdeal.τ).loc Cert.MemKvDxRefIdeal.main_arg0) = m ((c.tc : Thread Cert.MemKvDxIdeal.nD Cert.MemKvDxIdeal.τ).loc Cert.MemKvDxIdeal.main_arg0)
      ∧ m' ((c.tc : Thread Cert.MemKvDxRefIdeal.nD Cert.MemKvDxRefIdeal.τ).loc Cert.MemKvDxRefIdeal.main_arg1) = m ((c.tc : Thread Cert.MemKvDxIdeal.nD Cert.MemKvDxIdeal.τ).loc Cert.MemKvDxIdeal.main_arg1)) →
    ∃ (v0 : (c : Dev Cert.MemKvDxIdeal.nD) → Buf (Elt Ideal) ((c.tc : Thread Cert.MemKvDxIdeal.nD Cert.MemKvDxIdeal.τ).loc Cert.MemKvDxIdeal.main_v1)),
      θ_run (Cert.MemKvDxIdeal.defs (F := Ideal)) (onTc (τ := Cert.MemKvDxIdeal.τ) (Cert.MemKvDxIdeal.main (F := Ideal))) ⟨m, fun _ => 0, g⟩ (fun r => ∀ c : Dev Cert.MemKvDxIdeal.nD,
          r.2.mem ((c.tc : Thread Cert.MemKvDxIdeal.nD Cert.MemKvDxIdeal.τ).loc Cert.MemKvDxIdeal.main_v1) = v0 c
          ∧ r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
          ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ θ_run (Cert.MemKvDxRefIdeal.defs (F := Ideal)) (onTc (τ := Cert.MemKvDxRefIdeal.τ) (Cert.MemKvDxRefIdeal.main (F := Ideal))) ⟨m', fun _ => 0, g'⟩ (fun r => ∀ c : Dev Cert.MemKvDxRefIdeal.nD,
          r.2.mem ((c.tc : Thread Cert.MemKvDxRefIdeal.nD Cert.MemKvDxRefIdeal.τ).loc Cert.MemKvDxRefIdeal.main_v1) = v0 c
          ∧ r.2.mem ((c.tc : Thread Cert.MemKvDxRefIdeal.nD Cert.MemKvDxRefIdeal.τ).loc Cert.MemKvDxRefIdeal.main_arg0) = m' ((c.tc : Thread Cert.MemKvDxRefIdeal.nD Cert.MemKvDxRefIdeal.τ).loc Cert.MemKvDxRefIdeal.main_arg0)
          ∧ r.2.mem ((c.tc : Thread Cert.MemKvDxRefIdeal.nD Cert.MemKvDxRefIdeal.τ).loc Cert.MemKvDxRefIdeal.main_arg1) = m' ((c.tc : Thread Cert.MemKvDxRefIdeal.nD Cert.MemKvDxRefIdeal.τ).loc Cert.MemKvDxRefIdeal.main_arg1))

def preserves_HgIn_HgInIdeal : Prop :=
  True

def algebraic_HgInIdeal_HgInRefIdeal [hHgInIdeal : Cert.HgInIdeal.Facts] [hHgInRefIdeal : Cert.HgInRefIdeal.Facts] : Prop :=
  ∀ (m : (ℓ : Loc Cert.HgInIdeal.nD Cert.HgInIdeal.τ Cert.HgInIdeal.sig) → Buf (Elt Ideal) ℓ) (g : Dev Cert.HgInIdeal.nD → PrngReg)
    (m' : (ℓ : Loc Cert.HgInRefIdeal.nD Cert.HgInRefIdeal.τ Cert.HgInRefIdeal.sig) → Buf (Elt Ideal) ℓ) (g' : Dev Cert.HgInRefIdeal.nD → PrngReg), Pre_HgInIdeal m →
    (∀ c : Dev Cert.HgInIdeal.nD,
      m' ((c.tc : Thread Cert.HgInRefIdeal.nD Cert.HgInRefIdeal.τ).loc Cert.HgInRefIdeal.main_arg0) = m ((c.tc : Thread Cert.HgInIdeal.nD Cert.HgInIdeal.τ).loc Cert.HgInIdeal.main_arg0)
      ∧ m' ((c.tc : Thread Cert.HgInRefIdeal.nD Cert.HgInRefIdeal.τ).loc Cert.HgInRefIdeal.main_arg1) = m ((c.tc : Thread Cert.HgInIdeal.nD Cert.HgInIdeal.τ).loc Cert.HgInIdeal.main_arg1)) →
    ∃ (v0 : (c : Dev Cert.HgInIdeal.nD) → Buf (Elt Ideal) ((c.tc : Thread Cert.HgInIdeal.nD Cert.HgInIdeal.τ).loc Cert.HgInIdeal.main_v2)),
      θ_run (Cert.HgInIdeal.defs (F := Ideal)) (onTc (τ := Cert.HgInIdeal.τ) (Cert.HgInIdeal.main (F := Ideal))) ⟨m, fun _ => 0, g⟩ (fun r => ∀ c : Dev Cert.HgInIdeal.nD,
          r.2.mem ((c.tc : Thread Cert.HgInIdeal.nD Cert.HgInIdeal.τ).loc Cert.HgInIdeal.main_v2) = v0 c
          ∧ r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
          ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1))
      ∧ θ_run (Cert.HgInRefIdeal.defs (F := Ideal)) (onTc (τ := Cert.HgInRefIdeal.τ) (Cert.HgInRefIdeal.main (F := Ideal))) ⟨m', fun _ => 0, g'⟩ (fun r => ∀ c : Dev Cert.HgInRefIdeal.nD,
          r.2.mem ((c.tc : Thread Cert.HgInRefIdeal.nD Cert.HgInRefIdeal.τ).loc Cert.HgInRefIdeal.main_v1) = v0 c
          ∧ r.2.mem ((c.tc : Thread Cert.HgInRefIdeal.nD Cert.HgInRefIdeal.τ).loc Cert.HgInRefIdeal.main_arg0) = m' ((c.tc : Thread Cert.HgInRefIdeal.nD Cert.HgInRefIdeal.τ).loc Cert.HgInRefIdeal.main_arg0)
          ∧ r.2.mem ((c.tc : Thread Cert.HgInRefIdeal.nD Cert.HgInRefIdeal.τ).loc Cert.HgInRefIdeal.main_arg1) = m' ((c.tc : Thread Cert.HgInRefIdeal.nD Cert.HgInRefIdeal.τ).loc Cert.HgInRefIdeal.main_arg1))

def preserves_GmIn_GmInIdeal : Prop :=
  True

def algebraic_GmInIdeal_GmInRefIdeal [hGmInIdeal : Cert.GmInIdeal.Facts] [hGmInRefIdeal : Cert.GmInRefIdeal.Facts] : Prop :=
  ∀ (m : (ℓ : Loc Cert.GmInIdeal.nD Cert.GmInIdeal.τ Cert.GmInIdeal.sig) → Buf (Elt Ideal) ℓ) (g : Dev Cert.GmInIdeal.nD → PrngReg)
    (m' : (ℓ : Loc Cert.GmInRefIdeal.nD Cert.GmInRefIdeal.τ Cert.GmInRefIdeal.sig) → Buf (Elt Ideal) ℓ) (g' : Dev Cert.GmInRefIdeal.nD → PrngReg), Pre_GmInIdeal m →
    (∀ c : Dev Cert.GmInIdeal.nD,
      m' ((c.tc : Thread Cert.GmInRefIdeal.nD Cert.GmInRefIdeal.τ).loc Cert.GmInRefIdeal.main_arg0) = m ((c.tc : Thread Cert.GmInIdeal.nD Cert.GmInIdeal.τ).loc Cert.GmInIdeal.main_arg0)
      ∧ m' ((c.tc : Thread Cert.GmInRefIdeal.nD Cert.GmInRefIdeal.τ).loc Cert.GmInRefIdeal.main_arg1) = m ((c.tc : Thread Cert.GmInIdeal.nD Cert.GmInIdeal.τ).loc Cert.GmInIdeal.main_arg1)) →
    ∃ (v0 : (c : Dev Cert.GmInIdeal.nD) → Buf (Elt Ideal) ((c.tc : Thread Cert.GmInIdeal.nD Cert.GmInIdeal.τ).loc Cert.GmInIdeal.main_v2)),
      θ_run (Cert.GmInIdeal.defs (F := Ideal)) (onTc (τ := Cert.GmInIdeal.τ) (Cert.GmInIdeal.main (F := Ideal))) ⟨m, fun _ => 0, g⟩ (fun r => ∀ c : Dev Cert.GmInIdeal.nD,
          r.2.mem ((c.tc : Thread Cert.GmInIdeal.nD Cert.GmInIdeal.τ).loc Cert.GmInIdeal.main_v2) = v0 c
          ∧ r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
          ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ θ_run (Cert.GmInRefIdeal.defs (F := Ideal)) (onTc (τ := Cert.GmInRefIdeal.τ) (Cert.GmInRefIdeal.main (F := Ideal))) ⟨m', fun _ => 0, g'⟩ (fun r => ∀ c : Dev Cert.GmInRefIdeal.nD,
          r.2.mem ((c.tc : Thread Cert.GmInRefIdeal.nD Cert.GmInRefIdeal.τ).loc Cert.GmInRefIdeal.main_v1) = v0 c
          ∧ r.2.mem ((c.tc : Thread Cert.GmInRefIdeal.nD Cert.GmInRefIdeal.τ).loc Cert.GmInRefIdeal.main_arg0) = m' ((c.tc : Thread Cert.GmInRefIdeal.nD Cert.GmInRefIdeal.τ).loc Cert.GmInRefIdeal.main_arg0)
          ∧ r.2.mem ((c.tc : Thread Cert.GmInRefIdeal.nD Cert.GmInRefIdeal.τ).loc Cert.GmInRefIdeal.main_arg1) = m' ((c.tc : Thread Cert.GmInRefIdeal.nD Cert.GmInRefIdeal.τ).loc Cert.GmInRefIdeal.main_arg1))

def preserves_MemKvDw_MemKvDwIdeal : Prop :=
  True

def algebraic_MemKvDwIdeal_MemKvDwRefIdeal [hMemKvDwIdeal : Cert.MemKvDwIdeal.Facts] [hMemKvDwRefIdeal : Cert.MemKvDwRefIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg)
    (m' : (ℓ : Loc Cert.MemKvDwRefIdeal.nD Cert.MemKvDwRefIdeal.τ Cert.MemKvDwRefIdeal.sig) → Buf (Elt Ideal) ℓ) (g' : Dev Cert.MemKvDwRefIdeal.nD → PrngReg), Pre_MemKvDwIdeal m →
    (∀ c : Dev Cert.MemKvDwIdeal.nD,
      m' ((c.tc : Thread Cert.MemKvDwRefIdeal.nD Cert.MemKvDwRefIdeal.τ).loc Cert.MemKvDwRefIdeal.main_arg0) = m ((c.tc : Thread Cert.MemKvDwIdeal.nD Cert.MemKvDwIdeal.τ).loc Cert.MemKvDwIdeal.main_arg0)
      ∧ m' ((c.tc : Thread Cert.MemKvDwRefIdeal.nD Cert.MemKvDwRefIdeal.τ).loc Cert.MemKvDwRefIdeal.main_arg1) = m ((c.tc : Thread Cert.MemKvDwIdeal.nD Cert.MemKvDwIdeal.τ).loc Cert.MemKvDwIdeal.main_arg1)) →
    ∃ (v0 : (c : Dev Cert.MemKvDwIdeal.nD) → Buf (Elt Ideal) ((c.tc : Thread Cert.MemKvDwIdeal.nD Cert.MemKvDwIdeal.τ).loc Cert.MemKvDwIdeal.main_v0)),
      θ_run (Cert.MemKvDwIdeal.defs (F := Ideal)) (onTc (τ := Cert.MemKvDwIdeal.τ) (Cert.MemKvDwIdeal.main (F := Ideal))) ⟨m, fun _ => 0, g⟩ (fun r => ∀ c : Dev Cert.MemKvDwIdeal.nD,
          r.2.mem ((c.tc : Thread Cert.MemKvDwIdeal.nD Cert.MemKvDwIdeal.τ).loc Cert.MemKvDwIdeal.main_v0) = v0 c
          ∧ r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
          ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ θ_run (Cert.MemKvDwRefIdeal.defs (F := Ideal)) (onTc (τ := Cert.MemKvDwRefIdeal.τ) (Cert.MemKvDwRefIdeal.main (F := Ideal))) ⟨m', fun _ => 0, g'⟩ (fun r => ∀ c : Dev Cert.MemKvDwRefIdeal.nD,
          r.2.mem ((c.tc : Thread Cert.MemKvDwRefIdeal.nD Cert.MemKvDwRefIdeal.τ).loc Cert.MemKvDwRefIdeal.main_v3) = v0 c
          ∧ r.2.mem ((c.tc : Thread Cert.MemKvDwRefIdeal.nD Cert.MemKvDwRefIdeal.τ).loc Cert.MemKvDwRefIdeal.main_arg0) = m' ((c.tc : Thread Cert.MemKvDwRefIdeal.nD Cert.MemKvDwRefIdeal.τ).loc Cert.MemKvDwRefIdeal.main_arg0)
          ∧ r.2.mem ((c.tc : Thread Cert.MemKvDwRefIdeal.nD Cert.MemKvDwRefIdeal.τ).loc Cert.MemKvDwRefIdeal.main_arg1) = m' ((c.tc : Thread Cert.MemKvDwRefIdeal.nD Cert.MemKvDwRefIdeal.τ).loc Cert.MemKvDwRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v3) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v3) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_GmInDw_GmInDwIdeal : Prop :=
  True

def algebraic_GmInDwIdeal_GmInDwRefIdeal [hGmInDwIdeal : Cert.GmInDwIdeal.Facts] [hGmInDwRefIdeal : Cert.GmInDwRefIdeal.Facts] : Prop :=
  ∀ (m : (ℓ : Loc Cert.GmInDwIdeal.nD Cert.GmInDwIdeal.τ Cert.GmInDwIdeal.sig) → Buf (Elt Ideal) ℓ) (g : Dev Cert.GmInDwIdeal.nD → PrngReg)
    (m' : (ℓ : Loc Cert.GmInDwRefIdeal.nD Cert.GmInDwRefIdeal.τ Cert.GmInDwRefIdeal.sig) → Buf (Elt Ideal) ℓ) (g' : Dev Cert.GmInDwRefIdeal.nD → PrngReg), Pre_GmInDwIdeal m →
    (∀ c : Dev Cert.GmInDwIdeal.nD,
      m' ((c.tc : Thread Cert.GmInDwRefIdeal.nD Cert.GmInDwRefIdeal.τ).loc Cert.GmInDwRefIdeal.main_arg0) = m ((c.tc : Thread Cert.GmInDwIdeal.nD Cert.GmInDwIdeal.τ).loc Cert.GmInDwIdeal.main_arg0)
      ∧ m' ((c.tc : Thread Cert.GmInDwRefIdeal.nD Cert.GmInDwRefIdeal.τ).loc Cert.GmInDwRefIdeal.main_arg1) = m ((c.tc : Thread Cert.GmInDwIdeal.nD Cert.GmInDwIdeal.τ).loc Cert.GmInDwIdeal.main_arg1)) →
    ∃ (v0 : (c : Dev Cert.GmInDwIdeal.nD) → Buf (Elt Ideal) ((c.tc : Thread Cert.GmInDwIdeal.nD Cert.GmInDwIdeal.τ).loc Cert.GmInDwIdeal.main_v0)),
      θ_run (Cert.GmInDwIdeal.defs (F := Ideal)) (onTc (τ := Cert.GmInDwIdeal.τ) (Cert.GmInDwIdeal.main (F := Ideal))) ⟨m, fun _ => 0, g⟩ (fun r => ∀ c : Dev Cert.GmInDwIdeal.nD,
          r.2.mem ((c.tc : Thread Cert.GmInDwIdeal.nD Cert.GmInDwIdeal.τ).loc Cert.GmInDwIdeal.main_v0) = v0 c
          ∧ r.2.mem ((c.tc : Thread Cert.GmInDwIdeal.nD Cert.GmInDwIdeal.τ).loc Cert.GmInDwIdeal.main_arg0) = m ((c.tc : Thread Cert.GmInDwIdeal.nD Cert.GmInDwIdeal.τ).loc Cert.GmInDwIdeal.main_arg0)
          ∧ r.2.mem ((c.tc : Thread Cert.GmInDwIdeal.nD Cert.GmInDwIdeal.τ).loc Cert.GmInDwIdeal.main_arg1) = m ((c.tc : Thread Cert.GmInDwIdeal.nD Cert.GmInDwIdeal.τ).loc Cert.GmInDwIdeal.main_arg1))
      ∧ θ_run (Cert.GmInDwRefIdeal.defs (F := Ideal)) (onTc (τ := Cert.GmInDwRefIdeal.τ) (Cert.GmInDwRefIdeal.main (F := Ideal))) ⟨m', fun _ => 0, g'⟩ (fun r => ∀ c : Dev Cert.GmInDwRefIdeal.nD,
          r.2.mem ((c.tc : Thread Cert.GmInDwRefIdeal.nD Cert.GmInDwRefIdeal.τ).loc Cert.GmInDwRefIdeal.main_v4) = v0 c
          ∧ r.2.mem ((c.tc : Thread Cert.GmInDwRefIdeal.nD Cert.GmInDwRefIdeal.τ).loc Cert.GmInDwRefIdeal.main_arg0) = m' ((c.tc : Thread Cert.GmInDwRefIdeal.nD Cert.GmInDwRefIdeal.τ).loc Cert.GmInDwRefIdeal.main_arg0)
          ∧ r.2.mem ((c.tc : Thread Cert.GmInDwRefIdeal.nD Cert.GmInDwRefIdeal.τ).loc Cert.GmInDwRefIdeal.main_arg1) = m' ((c.tc : Thread Cert.GmInDwRefIdeal.nD Cert.GmInDwRefIdeal.τ).loc Cert.GmInDwRefIdeal.main_arg1))

def preserves_HgInDw_HgInDwIdeal : Prop :=
  True

def algebraic_HgInDwIdeal_HgInDwRefIdeal [hHgInDwIdeal : Cert.HgInDwIdeal.Facts] [hHgInDwRefIdeal : Cert.HgInDwRefIdeal.Facts] : Prop :=
  ∀ (m : (ℓ : Loc Cert.HgInDwIdeal.nD Cert.HgInDwIdeal.τ Cert.HgInDwIdeal.sig) → Buf (Elt Ideal) ℓ) (g : Dev Cert.HgInDwIdeal.nD → PrngReg)
    (m' : (ℓ : Loc Cert.HgInDwRefIdeal.nD Cert.HgInDwRefIdeal.τ Cert.HgInDwRefIdeal.sig) → Buf (Elt Ideal) ℓ) (g' : Dev Cert.HgInDwRefIdeal.nD → PrngReg), Pre_HgInDwIdeal m →
    (∀ c : Dev Cert.HgInDwIdeal.nD,
      m' ((c.tc : Thread Cert.HgInDwRefIdeal.nD Cert.HgInDwRefIdeal.τ).loc Cert.HgInDwRefIdeal.main_arg0) = m ((c.tc : Thread Cert.HgInDwIdeal.nD Cert.HgInDwIdeal.τ).loc Cert.HgInDwIdeal.main_arg0)
      ∧ m' ((c.tc : Thread Cert.HgInDwRefIdeal.nD Cert.HgInDwRefIdeal.τ).loc Cert.HgInDwRefIdeal.main_arg1) = m ((c.tc : Thread Cert.HgInDwIdeal.nD Cert.HgInDwIdeal.τ).loc Cert.HgInDwIdeal.main_arg1)) →
    ∃ (v0 : (c : Dev Cert.HgInDwIdeal.nD) → Buf (Elt Ideal) ((c.tc : Thread Cert.HgInDwIdeal.nD Cert.HgInDwIdeal.τ).loc Cert.HgInDwIdeal.main_v0)),
      θ_run (Cert.HgInDwIdeal.defs (F := Ideal)) (onTc (τ := Cert.HgInDwIdeal.τ) (Cert.HgInDwIdeal.main (F := Ideal))) ⟨m, fun _ => 0, g⟩ (fun r => ∀ c : Dev Cert.HgInDwIdeal.nD,
          r.2.mem ((c.tc : Thread Cert.HgInDwIdeal.nD Cert.HgInDwIdeal.τ).loc Cert.HgInDwIdeal.main_v0) = v0 c
          ∧ r.2.mem ((c.tc : Thread Cert.HgInDwIdeal.nD Cert.HgInDwIdeal.τ).loc Cert.HgInDwIdeal.main_arg0) = m ((c.tc : Thread Cert.HgInDwIdeal.nD Cert.HgInDwIdeal.τ).loc Cert.HgInDwIdeal.main_arg0)
          ∧ r.2.mem ((c.tc : Thread Cert.HgInDwIdeal.nD Cert.HgInDwIdeal.τ).loc Cert.HgInDwIdeal.main_arg1) = m ((c.tc : Thread Cert.HgInDwIdeal.nD Cert.HgInDwIdeal.τ).loc Cert.HgInDwIdeal.main_arg1))
      ∧ θ_run (Cert.HgInDwRefIdeal.defs (F := Ideal)) (onTc (τ := Cert.HgInDwRefIdeal.τ) (Cert.HgInDwRefIdeal.main (F := Ideal))) ⟨m', fun _ => 0, g'⟩ (fun r => ∀ c : Dev Cert.HgInDwRefIdeal.nD,
          r.2.mem ((c.tc : Thread Cert.HgInDwRefIdeal.nD Cert.HgInDwRefIdeal.τ).loc Cert.HgInDwRefIdeal.main_v4) = v0 c
          ∧ r.2.mem ((c.tc : Thread Cert.HgInDwRefIdeal.nD Cert.HgInDwRefIdeal.τ).loc Cert.HgInDwRefIdeal.main_arg0) = m' ((c.tc : Thread Cert.HgInDwRefIdeal.nD Cert.HgInDwRefIdeal.τ).loc Cert.HgInDwRefIdeal.main_arg0)
          ∧ r.2.mem ((c.tc : Thread Cert.HgInDwRefIdeal.nD Cert.HgInDwRefIdeal.τ).loc Cert.HgInDwRefIdeal.main_arg1) = m' ((c.tc : Thread Cert.HgInDwRefIdeal.nD Cert.HgInDwRefIdeal.τ).loc Cert.HgInDwRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v4) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def Claim : Prop :=
  ∃ (hMemNormBwd : Cert.MemNormBwd.Facts) (hMemNormBwdIdeal : Cert.MemNormBwdIdeal.Facts) (hMemNormBwdRefIdeal : Cert.MemNormBwdRefIdeal.Facts) (hAttnBwd : Cert.AttnBwd.Facts) (hAttnBwdIdeal : Cert.AttnBwdIdeal.Facts) (hAttnBwdRefIdeal : Cert.AttnBwdRefIdeal.Facts) (hAttnBwdZero : Cert.AttnBwdZero.Facts) (hAttnBwdZeroIdeal : Cert.AttnBwdZeroIdeal.Facts) (hAttnBwdZeroRefIdeal : Cert.AttnBwdZeroRefIdeal.Facts) (hAttnFwdZero : Cert.AttnFwdZero.Facts) (hAttnFwdZeroIdeal : Cert.AttnFwdZeroIdeal.Facts) (hAttnFwdZeroRefIdeal : Cert.AttnFwdZeroRefIdeal.Facts) (hAttnFwdOne : Cert.AttnFwdOne.Facts) (hAttnFwdOneIdeal : Cert.AttnFwdOneIdeal.Facts) (hAttnFwdOneRefIdeal : Cert.AttnFwdOneRefIdeal.Facts) (hFfnInDx : Cert.FfnInDx.Facts) (hFfnInDxIdeal : Cert.FfnInDxIdeal.Facts) (hFfnInDxRefIdeal : Cert.FfnInDxRefIdeal.Facts) (hHgInDx : Cert.HgInDx.Facts) (hHgInDxIdeal : Cert.HgInDxIdeal.Facts) (hHgInDxRefIdeal : Cert.HgInDxRefIdeal.Facts) (hLossHead : Cert.LossHead.Facts) (hLossHeadIdeal : Cert.LossHeadIdeal.Facts) (hLossHeadRefIdeal : Cert.LossHeadRefIdeal.Facts) (hFfnActBwd : Cert.FfnActBwd.Facts) (hFfnActBwdIdeal : Cert.FfnActBwdIdeal.Facts) (hFfnActBwdRefIdeal : Cert.FfnActBwdRefIdeal.Facts) (hGmlpBwd : Cert.GmlpBwd.Facts) (hGmlpBwdIdeal : Cert.GmlpBwdIdeal.Facts) (hGmlpBwdRefIdeal : Cert.GmlpBwdRefIdeal.Facts) (hMixNorm : Cert.MixNorm.Facts) (hMixNormIdeal : Cert.MixNormIdeal.Facts) (hMixNormRefIdeal : Cert.MixNormRefIdeal.Facts) (hGmlpFwd : Cert.GmlpFwd.Facts) (hGmlpFwdIdeal : Cert.GmlpFwdIdeal.Facts) (hGmlpFwdRefIdeal : Cert.GmlpFwdRefIdeal.Facts) (hOutProj : Cert.OutProj.Facts) (hOutProjIdeal : Cert.OutProjIdeal.Facts) (hOutProjRefIdeal : Cert.OutProjRefIdeal.Facts) (hGmInDx : Cert.GmInDx.Facts) (hGmInDxIdeal : Cert.GmInDxIdeal.Facts) (hGmInDxRefIdeal : Cert.GmInDxRefIdeal.Facts) (hFfnOut : Cert.FfnOut.Facts) (hFfnOutIdeal : Cert.FfnOutIdeal.Facts) (hFfnOutRefIdeal : Cert.FfnOutRefIdeal.Facts) (hMemNormFwd : Cert.MemNormFwd.Facts) (hMemNormFwdIdeal : Cert.MemNormFwdIdeal.Facts) (hMemNormFwdRefIdeal : Cert.MemNormFwdRefIdeal.Facts) (hSmallSum : Cert.SmallSum.Facts) (hSmallSumIdeal : Cert.SmallSumIdeal.Facts) (hSmallSumRefIdeal : Cert.SmallSumRefIdeal.Facts) (hAdamStep : Cert.AdamStep.Facts) (hAdamStepIdeal : Cert.AdamStepIdeal.Facts) (hAdamStepRefIdeal : Cert.AdamStepRefIdeal.Facts) (hOutProjDx : Cert.OutProjDx.Facts) (hOutProjDxIdeal : Cert.OutProjDxIdeal.Facts) (hOutProjDxRefIdeal : Cert.OutProjDxRefIdeal.Facts) (hMemKv : Cert.MemKv.Facts) (hMemKvIdeal : Cert.MemKvIdeal.Facts) (hMemKvRefIdeal : Cert.MemKvRefIdeal.Facts) (hMemKvDx : Cert.MemKvDx.Facts) (hMemKvDxIdeal : Cert.MemKvDxIdeal.Facts) (hMemKvDxRefIdeal : Cert.MemKvDxRefIdeal.Facts) (hHgIn : Cert.HgIn.Facts) (hHgInIdeal : Cert.HgInIdeal.Facts) (hHgInRefIdeal : Cert.HgInRefIdeal.Facts) (hGmIn : Cert.GmIn.Facts) (hGmInIdeal : Cert.GmInIdeal.Facts) (hGmInRefIdeal : Cert.GmInRefIdeal.Facts) (hMemKvDw : Cert.MemKvDw.Facts) (hMemKvDwIdeal : Cert.MemKvDwIdeal.Facts) (hMemKvDwRefIdeal : Cert.MemKvDwRefIdeal.Facts) (hOutProjDw : Cert.OutProjDw.Facts) (hOutProjDwIdeal : Cert.OutProjDwIdeal.Facts) (hOutProjDwRefIdeal : Cert.OutProjDwRefIdeal.Facts) (hFfnOutDw : Cert.FfnOutDw.Facts) (hFfnOutDwIdeal : Cert.FfnOutDwIdeal.Facts) (hFfnOutDwRefIdeal : Cert.FfnOutDwRefIdeal.Facts) (hGmInDw : Cert.GmInDw.Facts) (hGmInDwIdeal : Cert.GmInDwIdeal.Facts) (hGmInDwRefIdeal : Cert.GmInDwRefIdeal.Facts) (hHgInDw : Cert.HgInDw.Facts) (hHgInDwIdeal : Cert.HgInDwIdeal.Facts) (hHgInDwRefIdeal : Cert.HgInDwRefIdeal.Facts) (hFfnInDw : Cert.FfnInDw.Facts) (hFfnInDwIdeal : Cert.FfnInDwIdeal.Facts) (hFfnInDwRefIdeal : Cert.FfnInDwRefIdeal.Facts) (hPre_mem_norm_bwd_pre : Cert.Pre_mem_norm_bwd_pre.Facts) (hPre_attn_bwd1_pre : Cert.Pre_attn_bwd1_pre.Facts) (hPre_attn_bwd0_pre : Cert.Pre_attn_bwd0_pre.Facts) (hPre_ffn_in_dx_pre : Cert.Pre_ffn_in_dx_pre.Facts) (hPre_hg_in_dx_pre : Cert.Pre_hg_in_dx_pre.Facts) (hPre_loss_head_pre : Cert.Pre_loss_head_pre.Facts) (hPre_ffn_act_bwd_pre : Cert.Pre_ffn_act_bwd_pre.Facts) (hPre_gm_in_dx_pre : Cert.Pre_gm_in_dx_pre.Facts),
    quiescent_MemNormBwd (hMemNormBwd := hMemNormBwd)
    ∧ quiescent_MemNormBwdIdeal (hMemNormBwdIdeal := hMemNormBwdIdeal)
    ∧ quiescent_MemNormBwdIdeal_pre_mem_norm_bwd_pre (hMemNormBwdIdeal := hMemNormBwdIdeal) (hPre_mem_norm_bwd_pre := hPre_mem_norm_bwd_pre)
    ∧ quiescent_MemNormBwdRefIdeal (hMemNormBwdRefIdeal := hMemNormBwdRefIdeal)
    ∧ quiescent_MemNormBwdRefIdeal_pre_mem_norm_bwd_pre (hMemNormBwdRefIdeal := hMemNormBwdRefIdeal) (hPre_mem_norm_bwd_pre := hPre_mem_norm_bwd_pre)
    ∧ quiescent_AttnBwd (hAttnBwd := hAttnBwd)
    ∧ quiescent_AttnBwdIdeal (hAttnBwdIdeal := hAttnBwdIdeal)
    ∧ quiescent_AttnBwdIdeal_pre_attn_bwd1_pre (hAttnBwdIdeal := hAttnBwdIdeal) (hPre_attn_bwd1_pre := hPre_attn_bwd1_pre)
    ∧ quiescent_AttnBwdRefIdeal (hAttnBwdRefIdeal := hAttnBwdRefIdeal)
    ∧ quiescent_AttnBwdRefIdeal_pre_attn_bwd1_pre (hAttnBwdRefIdeal := hAttnBwdRefIdeal) (hPre_attn_bwd1_pre := hPre_attn_bwd1_pre)
    ∧ quiescent_AttnBwdZero (hAttnBwdZero := hAttnBwdZero)
    ∧ quiescent_AttnBwdZeroIdeal (hAttnBwdZeroIdeal := hAttnBwdZeroIdeal)
    ∧ quiescent_AttnBwdZeroIdeal_pre_attn_bwd0_pre (hAttnBwdZeroIdeal := hAttnBwdZeroIdeal) (hPre_attn_bwd0_pre := hPre_attn_bwd0_pre)
    ∧ quiescent_AttnBwdZeroRefIdeal (hAttnBwdZeroRefIdeal := hAttnBwdZeroRefIdeal)
    ∧ quiescent_AttnBwdZeroRefIdeal_pre_attn_bwd0_pre (hAttnBwdZeroRefIdeal := hAttnBwdZeroRefIdeal) (hPre_attn_bwd0_pre := hPre_attn_bwd0_pre)
    ∧ quiescent_AttnFwdZero (hAttnFwdZero := hAttnFwdZero)
    ∧ quiescent_AttnFwdZeroIdeal (hAttnFwdZeroIdeal := hAttnFwdZeroIdeal)
    ∧ quiescent_AttnFwdZeroRefIdeal (hAttnFwdZeroRefIdeal := hAttnFwdZeroRefIdeal)
    ∧ quiescent_AttnFwdOne (hAttnFwdOne := hAttnFwdOne)
    ∧ quiescent_AttnFwdOneIdeal (hAttnFwdOneIdeal := hAttnFwdOneIdeal)
    ∧ quiescent_AttnFwdOneRefIdeal (hAttnFwdOneRefIdeal := hAttnFwdOneRefIdeal)
    ∧ quiescent_FfnInDx (hFfnInDx := hFfnInDx)
    ∧ quiescent_FfnInDxIdeal (hFfnInDxIdeal := hFfnInDxIdeal)
    ∧ quiescent_FfnInDxIdeal_pre_ffn_in_dx_pre (hFfnInDxIdeal := hFfnInDxIdeal) (hPre_ffn_in_dx_pre := hPre_ffn_in_dx_pre)
    ∧ quiescent_FfnInDxRefIdeal (hFfnInDxRefIdeal := hFfnInDxRefIdeal)
    ∧ quiescent_FfnInDxRefIdeal_pre_ffn_in_dx_pre (hFfnInDxRefIdeal := hFfnInDxRefIdeal) (hPre_ffn_in_dx_pre := hPre_ffn_in_dx_pre)
    ∧ quiescent_HgInDx (hHgInDx := hHgInDx)
    ∧ quiescent_HgInDxIdeal (hHgInDxIdeal := hHgInDxIdeal)
    ∧ quiescent_HgInDxIdeal_pre_hg_in_dx_pre (hHgInDxIdeal := hHgInDxIdeal) (hPre_hg_in_dx_pre := hPre_hg_in_dx_pre)
    ∧ quiescent_HgInDxRefIdeal (hHgInDxRefIdeal := hHgInDxRefIdeal)
    ∧ quiescent_HgInDxRefIdeal_pre_hg_in_dx_pre (hHgInDxRefIdeal := hHgInDxRefIdeal) (hPre_hg_in_dx_pre := hPre_hg_in_dx_pre)
    ∧ quiescent_LossHead (hLossHead := hLossHead)
    ∧ quiescent_LossHeadIdeal (hLossHeadIdeal := hLossHeadIdeal)
    ∧ quiescent_LossHeadIdeal_pre_loss_head_pre (hLossHeadIdeal := hLossHeadIdeal) (hPre_loss_head_pre := hPre_loss_head_pre)
    ∧ quiescent_LossHeadRefIdeal (hLossHeadRefIdeal := hLossHeadRefIdeal)
    ∧ quiescent_LossHeadRefIdeal_pre_loss_head_pre (hLossHeadRefIdeal := hLossHeadRefIdeal) (hPre_loss_head_pre := hPre_loss_head_pre)
    ∧ quiescent_FfnActBwd (hFfnActBwd := hFfnActBwd)
    ∧ quiescent_FfnActBwdIdeal (hFfnActBwdIdeal := hFfnActBwdIdeal)
    ∧ quiescent_FfnActBwdIdeal_pre_ffn_act_bwd_pre (hFfnActBwdIdeal := hFfnActBwdIdeal) (hPre_ffn_act_bwd_pre := hPre_ffn_act_bwd_pre)
    ∧ quiescent_FfnActBwdRefIdeal (hFfnActBwdRefIdeal := hFfnActBwdRefIdeal)
    ∧ quiescent_FfnActBwdRefIdeal_pre_ffn_act_bwd_pre (hFfnActBwdRefIdeal := hFfnActBwdRefIdeal) (hPre_ffn_act_bwd_pre := hPre_ffn_act_bwd_pre)
    ∧ quiescent_GmlpBwd (hGmlpBwd := hGmlpBwd)
    ∧ quiescent_GmlpBwdIdeal (hGmlpBwdIdeal := hGmlpBwdIdeal)
    ∧ quiescent_GmlpBwdRefIdeal (hGmlpBwdRefIdeal := hGmlpBwdRefIdeal)
    ∧ quiescent_MixNorm (hMixNorm := hMixNorm)
    ∧ quiescent_MixNormIdeal (hMixNormIdeal := hMixNormIdeal)
    ∧ quiescent_MixNormRefIdeal (hMixNormRefIdeal := hMixNormRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_GmInDx (hGmInDx := hGmInDx)
    ∧ quiescent_GmInDxIdeal (hGmInDxIdeal := hGmInDxIdeal)
    ∧ quiescent_GmInDxIdeal_pre_gm_in_dx_pre (hGmInDxIdeal := hGmInDxIdeal) (hPre_gm_in_dx_pre := hPre_gm_in_dx_pre)
    ∧ quiescent_GmInDxRefIdeal (hGmInDxRefIdeal := hGmInDxRefIdeal)
    ∧ quiescent_GmInDxRefIdeal_pre_gm_in_dx_pre (hGmInDxRefIdeal := hGmInDxRefIdeal) (hPre_gm_in_dx_pre := hPre_gm_in_dx_pre)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_MemNormFwd (hMemNormFwd := hMemNormFwd)
    ∧ quiescent_MemNormFwdIdeal (hMemNormFwdIdeal := hMemNormFwdIdeal)
    ∧ quiescent_MemNormFwdRefIdeal (hMemNormFwdRefIdeal := hMemNormFwdRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_AdamStep (hAdamStep := hAdamStep)
    ∧ quiescent_AdamStepIdeal (hAdamStepIdeal := hAdamStepIdeal)
    ∧ quiescent_AdamStepRefIdeal (hAdamStepRefIdeal := hAdamStepRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemKvDx (hMemKvDx := hMemKvDx)
    ∧ quiescent_MemKvDxIdeal (hMemKvDxIdeal := hMemKvDxIdeal)
    ∧ quiescent_MemKvDxRefIdeal (hMemKvDxRefIdeal := hMemKvDxRefIdeal)
    ∧ quiescent_HgIn (hHgIn := hHgIn)
    ∧ quiescent_HgInIdeal (hHgInIdeal := hHgInIdeal)
    ∧ quiescent_HgInRefIdeal (hHgInRefIdeal := hHgInRefIdeal)
    ∧ quiescent_GmIn (hGmIn := hGmIn)
    ∧ quiescent_GmInIdeal (hGmInIdeal := hGmInIdeal)
    ∧ quiescent_GmInRefIdeal (hGmInRefIdeal := hGmInRefIdeal)
    ∧ quiescent_MemKvDw (hMemKvDw := hMemKvDw)
    ∧ quiescent_MemKvDwIdeal (hMemKvDwIdeal := hMemKvDwIdeal)
    ∧ quiescent_MemKvDwRefIdeal (hMemKvDwRefIdeal := hMemKvDwRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_GmInDw (hGmInDw := hGmInDw)
    ∧ quiescent_GmInDwIdeal (hGmInDwIdeal := hGmInDwIdeal)
    ∧ quiescent_GmInDwRefIdeal (hGmInDwRefIdeal := hGmInDwRefIdeal)
    ∧ quiescent_HgInDw (hHgInDw := hHgInDw)
    ∧ quiescent_HgInDwIdeal (hHgInDwIdeal := hHgInDwIdeal)
    ∧ quiescent_HgInDwRefIdeal (hHgInDwRefIdeal := hHgInDwRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ preserves_MemNormBwd_MemNormBwdIdeal
    ∧ algebraic_MemNormBwdIdeal_MemNormBwdRefIdeal_pre_mem_norm_bwd_pre (hMemNormBwdIdeal := hMemNormBwdIdeal) (hMemNormBwdRefIdeal := hMemNormBwdRefIdeal) (hPre_mem_norm_bwd_pre := hPre_mem_norm_bwd_pre)
    ∧ preserves_AttnBwd_AttnBwdIdeal
    ∧ algebraic_AttnBwdIdeal_AttnBwdRefIdeal_pre_attn_bwd1_pre (hAttnBwdIdeal := hAttnBwdIdeal) (hAttnBwdRefIdeal := hAttnBwdRefIdeal) (hPre_attn_bwd1_pre := hPre_attn_bwd1_pre)
    ∧ preserves_AttnBwdZero_AttnBwdZeroIdeal
    ∧ algebraic_AttnBwdZeroIdeal_AttnBwdZeroRefIdeal_pre_attn_bwd0_pre (hAttnBwdZeroIdeal := hAttnBwdZeroIdeal) (hAttnBwdZeroRefIdeal := hAttnBwdZeroRefIdeal) (hPre_attn_bwd0_pre := hPre_attn_bwd0_pre)
    ∧ preserves_AttnFwdZero_AttnFwdZeroIdeal
    ∧ algebraic_AttnFwdZeroIdeal_AttnFwdZeroRefIdeal (hAttnFwdZeroIdeal := hAttnFwdZeroIdeal) (hAttnFwdZeroRefIdeal := hAttnFwdZeroRefIdeal)
    ∧ preserves_AttnFwdOne_AttnFwdOneIdeal
    ∧ algebraic_AttnFwdOneIdeal_AttnFwdOneRefIdeal (hAttnFwdOneIdeal := hAttnFwdOneIdeal) (hAttnFwdOneRefIdeal := hAttnFwdOneRefIdeal)
    ∧ preserves_FfnInDx_FfnInDxIdeal
    ∧ algebraic_FfnInDxIdeal_FfnInDxRefIdeal_pre_ffn_in_dx_pre (hFfnInDxIdeal := hFfnInDxIdeal) (hFfnInDxRefIdeal := hFfnInDxRefIdeal) (hPre_ffn_in_dx_pre := hPre_ffn_in_dx_pre)
    ∧ preserves_HgInDx_HgInDxIdeal
    ∧ algebraic_HgInDxIdeal_HgInDxRefIdeal_pre_hg_in_dx_pre (hHgInDxIdeal := hHgInDxIdeal) (hHgInDxRefIdeal := hHgInDxRefIdeal) (hPre_hg_in_dx_pre := hPre_hg_in_dx_pre)
    ∧ preserves_LossHead_LossHeadIdeal
    ∧ algebraic_LossHeadIdeal_LossHeadRefIdeal_pre_loss_head_pre (hLossHeadIdeal := hLossHeadIdeal) (hLossHeadRefIdeal := hLossHeadRefIdeal) (hPre_loss_head_pre := hPre_loss_head_pre)
    ∧ preserves_FfnActBwd_FfnActBwdIdeal
    ∧ algebraic_FfnActBwdIdeal_FfnActBwdRefIdeal_pre_ffn_act_bwd_pre (hFfnActBwdIdeal := hFfnActBwdIdeal) (hFfnActBwdRefIdeal := hFfnActBwdRefIdeal) (hPre_ffn_act_bwd_pre := hPre_ffn_act_bwd_pre)
    ∧ preserves_GmlpBwd_GmlpBwdIdeal
    ∧ algebraic_GmlpBwdIdeal_GmlpBwdRefIdeal (hGmlpBwdIdeal := hGmlpBwdIdeal) (hGmlpBwdRefIdeal := hGmlpBwdRefIdeal)
    ∧ preserves_MixNorm_MixNormIdeal
    ∧ algebraic_MixNormIdeal_MixNormRefIdeal (hMixNormIdeal := hMixNormIdeal) (hMixNormRefIdeal := hMixNormRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_OutProj_OutProjIdeal
    ∧ algebraic_OutProjIdeal_OutProjRefIdeal (hOutProjIdeal := hOutProjIdeal) (hOutProjRefIdeal := hOutProjRefIdeal)
    ∧ preserves_GmInDx_GmInDxIdeal
    ∧ algebraic_GmInDxIdeal_GmInDxRefIdeal_pre_gm_in_dx_pre (hGmInDxIdeal := hGmInDxIdeal) (hGmInDxRefIdeal := hGmInDxRefIdeal) (hPre_gm_in_dx_pre := hPre_gm_in_dx_pre)
    ∧ preserves_FfnOut_FfnOutIdeal
    ∧ algebraic_FfnOutIdeal_FfnOutRefIdeal (hFfnOutIdeal := hFfnOutIdeal) (hFfnOutRefIdeal := hFfnOutRefIdeal)
    ∧ preserves_MemNormFwd_MemNormFwdIdeal
    ∧ algebraic_MemNormFwdIdeal_MemNormFwdRefIdeal (hMemNormFwdIdeal := hMemNormFwdIdeal) (hMemNormFwdRefIdeal := hMemNormFwdRefIdeal)
    ∧ preserves_SmallSum_SmallSumIdeal
    ∧ algebraic_SmallSumIdeal_SmallSumRefIdeal (hSmallSumIdeal := hSmallSumIdeal) (hSmallSumRefIdeal := hSmallSumRefIdeal)
    ∧ preserves_AdamStep_AdamStepIdeal
    ∧ algebraic_AdamStepIdeal_AdamStepRefIdeal (hAdamStepIdeal := hAdamStepIdeal) (hAdamStepRefIdeal := hAdamStepRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_MemKv_MemKvIdeal
    ∧ algebraic_MemKvIdeal_MemKvRefIdeal (hMemKvIdeal := hMemKvIdeal) (hMemKvRefIdeal := hMemKvRefIdeal)
    ∧ preserves_MemKvDx_MemKvDxIdeal
    ∧ algebraic_MemKvDxIdeal_MemKvDxRefIdeal (hMemKvDxIdeal := hMemKvDxIdeal) (hMemKvDxRefIdeal := hMemKvDxRefIdeal)
    ∧ preserves_HgIn_HgInIdeal
    ∧ algebraic_HgInIdeal_HgInRefIdeal (hHgInIdeal := hHgInIdeal) (hHgInRefIdeal := hHgInRefIdeal)
    ∧ preserves_GmIn_GmInIdeal
    ∧ algebraic_GmInIdeal_GmInRefIdeal (hGmInIdeal := hGmInIdeal) (hGmInRefIdeal := hGmInRefIdeal)
    ∧ preserves_MemKvDw_MemKvDwIdeal
    ∧ algebraic_MemKvDwIdeal_MemKvDwRefIdeal (hMemKvDwIdeal := hMemKvDwIdeal) (hMemKvDwRefIdeal := hMemKvDwRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_GmInDw_GmInDwIdeal
    ∧ algebraic_GmInDwIdeal_GmInDwRefIdeal (hGmInDwIdeal := hGmInDwIdeal) (hGmInDwRefIdeal := hGmInDwRefIdeal)
    ∧ preserves_HgInDw_HgInDwIdeal
    ∧ algebraic_HgInDwIdeal_HgInDwRefIdeal (hHgInDwIdeal := hHgInDwIdeal) (hHgInDwRefIdeal := hHgInDwRefIdeal)
    ∧ preserves_FfnInDw_FfnInDwIdeal
    ∧ algebraic_FfnInDwIdeal_FfnInDwRefIdeal (hFfnInDwIdeal := hFfnInDwIdeal) (hFfnInDwRefIdeal := hFfnInDwRefIdeal)
-- ==== Pre_attn_bwd0_pre.lean ====
abbrev S4096x3328 : Shape := ⟨2, ![4096, 3328]⟩
abbrev S256x512 : Shape := ⟨2, ![256, 512]⟩
abbrev S4096x1024 : Shape := ⟨2, ![4096, 1024]⟩
abbrev S_ : Shape := ⟨0, ![]⟩

class Facts : Prop where
  bcast_S_S4096x3328 : S_.BroadcastsInDim S4096x3328 (![] : Fin 0 → Fin S4096x3328.rank)
  reducesTo_S4096x3328_S_d0_1 : S4096x3328.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x3328 .f32) (main_arg1 : FVec F S256x512 .f32) (main_arg2 : FVec F S4096x1024 .f32) (main_arg3 : FVec F S4096x3328 .bf16) : IVec S_ 1 :=
  let main_v0 : FVec F S4096x3328 .f32 := Host.absf main_arg0
  let main_cst : FVec F S_ .f32 := constant S_ .f32 0x7F800000#32
  let main_v1 : FVec F S4096x3328 .f32 := broadcastInDim S4096x3328 ![] bcast_S_S4096x3328 main_cst
  let main_v2 : IVec S4096x3328 1 := cmpf .olt main_v0 main_v1
  let main_c : IVec S_ 1 := constantI S_ 1 1#1
  let main_v3 : IVec S_ 1 := (fun x v => Host.reduce IntOp.andi x v reducesTo_S4096x3328_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_attn_bwd1_pre.lean ====
abbrev S4096x1792 : Shape := ⟨2, ![4096, 1792]⟩
abbrev S256x512 : Shape := ⟨2, ![256, 512]⟩
abbrev S4096x1024 : Shape := ⟨2, ![4096, 1024]⟩
abbrev S_ : Shape := ⟨0, ![]⟩

class Facts : Prop where
  bcast_S_S4096x1792 : S_.BroadcastsInDim S4096x1792 (![] : Fin 0 → Fin S4096x1792.rank)
  reducesTo_S4096x1792_S_d0_1 : S4096x1792.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1792 .f32) (main_arg1 : FVec F S256x512 .f32) (main_arg2 : FVec F S4096x1024 .f32) (main_arg3 : FVec F S4096x1792 .bf16) : IVec S_ 1 :=
  let main_v0 : FVec F S4096x1792 .f32 := Host.absf main_arg0
  let main_cst : FVec F S_ .f32 := constant S_ .f32 0x7F800000#32
  let main_v1 : FVec F S4096x1792 .f32 := broadcastInDim S4096x1792 ![] bcast_S_S4096x1792 main_cst
  let main_v2 : IVec S4096x1792 1 := cmpf .olt main_v0 main_v1
  let main_c : IVec S_ 1 := constantI S_ 1 1#1
  let main_v3 : IVec S_ 1 := (fun x v => Host.reduce IntOp.andi x v reducesTo_S4096x1792_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_ffn_act_bwd_pre.lean ====
abbrev S4096x1024 : Shape := ⟨2, ![4096, 1024]⟩
abbrev S1024x5632 : Shape := ⟨2, ![1024, 5632]⟩
abbrev S2816x1024 : Shape := ⟨2, ![2816, 1024]⟩
abbrev S8x128 : Shape := ⟨2, ![8, 128]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  main_v19

def fn {F : FTy → Type} [FloatOps F] (main_arg0 : FVec F S4096x1024 .bf16) (main_arg1 : FVec F S1024x5632 .f32) (main_arg2 : FVec F S2816x1024 .f32) (main_arg3 : FVec F S4096x1024 .f32) (main_arg4 : FVec F S8x128 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v4 main_v8
  let main_v10 : FVec F S2816x1024 .f32 := Host.absf main_arg2
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v9 main_v13
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_v14 main_v15 main_v16
-- ==== Pre_ffn_in_dx_pre.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S2x4096x2816 .bf16) (main_arg1 : FVec F S1024x5632 .f32) (main_arg2 : FVec F S4096x1024 .f32) (main_arg3 : FVec F S4096x1024 .f32) (main_arg4 : FVec F S1x1024 .f32) : IVec S_ 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_c : IVec S_ 1 := constantI S_ 1 1#1
  let main_v4 : IVec S_ 1 := (fun x v => Host.reduce IntOp.andi x v reducesTo_S2x4096x2816_S_d0_1_2 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v4 main_v8
  let main_v10 : FVec F S4096x1024 .f32 := Host.absf main_arg3
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg4
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== Pre_gm_in_dx_pre.lean ====
abbrev S4096x1792 : Shape := ⟨2, ![4096, 1792]⟩
abbrev S1024x1792 : Shape := ⟨2, ![1024, 1792]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1792 : S_.BroadcastsInDim S4096x1792 (![] : Fin 0 → Fin S4096x1792.rank)
  reducesTo_S4096x1792_S_d0_1 : S4096x1792.ReducesTo [0, 1] S_
  h_S_ : 0 < S_.numel
  bcast_S_S1024x1792 : S_.BroadcastsInDim S1024x1792 (![] : Fin 0 → Fin S1024x1792.rank)
  reducesTo_S1024x1792_S_d0_1 : S1024x1792.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S4096x1792 .bf16) (main_arg1 : FVec F S1024x1792 .f32) (main_arg2 : FVec F S4096x1024 .f32) (main_arg3 : FVec F S4096x1024 .f32) (main_arg4 : FVec F S1x1024 .f32) : IVec S_ 1 :=
  let main_v0 : FVec F S4096x1792 .f32 := (extf .f32 · bitsLt_bf16_f32) main_arg0
  let main_v1 : FVec F S4096x1792 .f32 := Host.absf main_v0
  let main_cst : FVec F S_ .f32 := constant S_ .f32 0x7F800000#32
  let main_v2 : FVec F S4096x1792 .f32 := broadcastInDim S4096x1792 ![] bcast_S_S4096x1792 main_cst
  let main_v3 : IVec S4096x1792 1 := cmpf .olt main_v1 main_v2
  let main_c : IVec S_ 1 := constantI S_ 1 1#1
  let main_v4 : IVec S_ 1 := (fun x v => Host.reduce IntOp.andi x v reducesTo_S4096x1792_S_d0_1 h_S_) main_v3 main_c
  let main_v5 : FVec F S1024x1792 .f32 := Host.absf main_arg1
  let main_cst_0 : FVec F S_ .f32 := constant S_ .f32 0x7F800000#32
  let main_v6 : FVec F S1024x1792 .f32 := broadcastInDim S1024x1792 ![] bcast_S_S1024x1792 main_cst_0
  let main_v7 : IVec S1024x1792 1 := cmpf .olt main_v5 main_v6
  let main_c_1 : IVec S_ 1 := constantI S_ 1 1#1
  let main_v8 : IVec S_ 1 := (fun x v => Host.reduce IntOp.andi x v reducesTo_S1024x1792_S_d0_1 h_S_) main_v7 main_c_1
  let main_v9 : IVec S_ 1 := andi main_v4 main_v8
  let main_v10 : FVec F S4096x1024 .f32 := Host.absf main_arg3
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg4
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== Pre_hg_in_dx_pre.lean ====
abbrev S4096x3328 : Shape := ⟨2, ![4096, 3328]⟩
abbrev S1024x3328 : Shape := ⟨2, ![1024, 3328]⟩
abbrev S4096x1024 : Shape := ⟨2, ![4096, 1024]⟩
abbrev S1x1024 : Shape := ⟨2, ![1, 1024]⟩
abbrev S8x128 : Shape := ⟨2, ![8, 128]⟩
abbrev S_ : Shape := ⟨0, ![]⟩

class Facts : Prop where
  bitsLt_bf16_f32 : FTy.bits .bf16 < FTy.bits .f32
  bcast_S_S4096x3328 : S_.BroadcastsInDim S4096x3328 (![] : Fin 0 → Fin S4096x3328.rank)
  reducesTo_S4096x3328_S_d0_1 : S4096x3328.ReducesTo [0, 1] S_
  h_S_ : 0 < S_.numel
  bcast_S_S1024x3328 : S_.BroadcastsInDim S1024x3328 (![] : Fin 0 → Fin S1024x3328.rank)
  reducesTo_S1024x3328_S_d0_1 : S1024x3328.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S4096x3328 .bf16) (main_arg1 : FVec F S1024x3328 .f32) (main_arg2 : FVec F S4096x1024 .f32) (main_arg3 : FVec F S4096x1024 .f32) (main_arg4 : FVec F S1x1024 .f32) (main_arg5 : FVec F S8x128 .f32) : IVec S_ 1 :=
  let main_v0 : FVec F S4096x3328 .f32 := (extf .f32 · bitsLt_bf16_f32) main_arg0
  let main_v1 : FVec F S4096x3328 .f32 := Host.absf main_v0
  let main_cst : FVec F S_ .f32 := constant S_ .f32 0x7F800000#32
  let main_v2 : FVec F S4096x3328 .f32 := broadcastInDim S4096x3328 ![] bcast_S_S4096x3328 main_cst
  let main_v3 : IVec S4096x3328 1 := cmpf .olt main_v1 main_v2
  let main_c : IVec S_ 1 := constantI S_ 1 1#1
  let main_v4 : IVec S_ 1 := (fun x v => Host.reduce IntOp.andi x v reducesTo_S4096x3328_S_d0_1 h_S_) main_v3 main_c
  let main_v5 : FVec F S1024x3328 .f32 := Host.absf main_arg1
  let main_cst_0 : FVec F S_ .f32 := constant S_ .f32 0x7F800000#32
  let main_v6 : FVec F S1024x3328 .f32 := broadcastInDim S1024x3328 ![] bcast_S_S1024x3328 main_cst_0
  let main_v7 : IVec S1024x3328 1 := cmpf .olt main_v5 main_v6
  let main_c_1 : IVec S_ 1 := constantI S_ 1 1#1
  let main_v8 : IVec S_ 1 := (fun x v => Host.reduce IntOp.andi x v reducesTo_S1024x3328_S_d0_1 h_S_) main_v7 main_c_1
  let main_v9 : IVec S_ 1 := andi main_v4 main_v8
  let main_v10 : FVec F S4096x1024 .f32 := Host.absf main_arg3
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg4
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== Pre_loss_head_pre.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  main_v24

def fn {F : FTy → Type} [FloatOps F] (main_arg0 : FVec F S4096x2816 .bf16) (main_arg1 : FVec F S2816x1024 .f32) (main_arg2 : FVec F S4096x1024 .f32) (main_arg3 : FVec F S1x1024 .f32) (main_arg4 : FVec F S4096x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_v14 main_v15 main_v16
-- ==== Pre_mem_norm_bwd_pre.lean ====
abbrev S256x1024 : Shape := ⟨2, ![256, 1024]⟩
abbrev S1x1024 : Shape := ⟨2, ![1, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S256x1024 .f32) (main_arg1 : FVec F S1x1024 .f32) (main_arg2 : FVec F S256x1024 .f32) (main_arg3 : FVec F S256x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  main_v13
-- ==== MemNormBwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemNormBwdRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S256x1024, .f32⟩
  | .hbm, ⟨34, _⟩ => ⟨S256x1024, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== AttnBwd.lean ====
abbrev S4096x1792 : Shape := ⟨2, ![4096, 1792]⟩
abbrev S256x512 : Shape := ⟨2, ![256, 512]⟩
abbrev S4096x1024 : Shape := ⟨2, ![4096, 1024]⟩
abbrev S256x256 : Shape := ⟨2, ![256, 256]⟩
abbrev S2048x256 : Shape := ⟨2, ![2048, 256]⟩
abbrev S1x256 : Shape := ⟨2, ![1, 256]⟩
abbrev S2048 : Shape := ⟨1, ![2048]⟩
abbrev S2048x1 : Shape := ⟨2, ![2048, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1792, .f32⟩
  | .hbm, ⟨1, _⟩ => ⟨S256x512, .f32⟩
  | .hbm, ⟨2, _⟩ => ⟨S4096x1024, .f32⟩
  | .hbm, ⟨3, _⟩ => ⟨S4096x1792, .bf16⟩
  | .hbm, ⟨4, _⟩ => ⟨S4096x1792, .bf16⟩
  | .hbm, ⟨5, _⟩ => ⟨S256x256, .f32⟩
  | .hbm, ⟨6, _⟩ => ⟨S256x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | .local _ .vmem, ⟨8, _⟩ => ⟨S256x256, .f32⟩
  | .local _ .vmem, ⟨9, _⟩ => ⟨S256x256, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnBwdRefIdeal.lean ====
abbrev S4096x1792 : Shape := ⟨2, ![4096, 1792]⟩
abbrev S256x512 : Shape := ⟨2, ![256, 512]⟩
abbrev S4096x1024 : Shape := ⟨2, ![4096, 1024]⟩
abbrev S4096x256 : Shape := ⟨2, ![4096, 256]⟩
abbrev S256x256 : Shape := ⟨2, ![256, 256]⟩
abbrev S256x4x64 : Shape := ⟨3, ![256, 4, 64]⟩
abbrev S4096x4x64 : Shape := ⟨3, ![4096, 4, 64]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x64x4096 : Shape := ⟨3, ![4, 64, 4096]⟩
abbrev S4x64x256 : Shape := ⟨3, ![4, 64, 256]⟩
abbrev S4x256x64 : Shape := ⟨3, ![4, 256, 64]⟩
abbrev S4x4096x64 : Shape := ⟨3, ![4, 4096, 64]⟩
abbrev S4096x1536 : Shape := ⟨2, ![4096, 1536]⟩

abbrev nBuf : Space → Nat
  | .hbm => 91
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S256x512, .f32⟩
  | .hbm, ⟨2, _⟩ => ⟨S4096x1024, .f32⟩
  | .hbm, ⟨3, _⟩ => ⟨S4096x1792, .bf16⟩
  | .hbm, ⟨4, _⟩ => ⟨S4096x256, .f32⟩
  | .hbm, ⟨5, _⟩ => ⟨S256x256, .f32⟩
  | .hbm, ⟨6, _⟩ => ⟨S256x256, .f32⟩
  | .hbm, ⟨7, _⟩ => ⟨S256x4x64, .f32⟩
  | .hbm, ⟨8, _⟩ => ⟨S256x4x64, .f32⟩
  | .hbm, ⟨9, _⟩ => ⟨S4096x4x64, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x64x4096, .f32⟩
  | .hbm, ⟨53, _⟩ => ⟨S4096x4x64, .f32⟩
  | .hbm, ⟨54, _⟩ => ⟨S4096x256, .f32⟩
  | .hbm, ⟨55, _⟩ => ⟨S4096x256, .f32⟩
  | .hbm, ⟨56, _⟩ => ⟨S4096x4x64, .f32⟩
  | .hbm, ⟨57, _⟩ => ⟨S4x64x4096, .f32⟩
  | .hbm, ⟨58, _⟩ => ⟨S4x4096x256, .f32⟩
  | .hbm, ⟨59, _⟩ => ⟨S4x64x256, .f32⟩
  | .hbm, ⟨60, _⟩ => ⟨S256x4x64, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x64, .f32⟩
  | .hbm, ⟨79, _⟩ => ⟨S256x4x64, .f32⟩
  | .hbm, ⟨80, _⟩ => ⟨S4x4096x64, .f32⟩
  | .hbm, ⟨81, _⟩ => ⟨S4096x4x64, .f32⟩
  | .hbm, ⟨82, _⟩ => ⟨S4096x256, .f32⟩
  | .hbm, ⟨83, _⟩ => ⟨S256x256, .f32⟩
  | .hbm, ⟨84, _⟩ => ⟨S256x256, .f32⟩
  | .hbm, ⟨85, _⟩ => ⟨S256x512, .f32⟩
  | .hbm, ⟨86, _⟩ => ⟨S256x256, .f32⟩
  | .hbm, ⟨87, _⟩ => ⟨S256x256, .f32⟩
  | .hbm, ⟨88, _⟩ => ⟨S4096x1536, .bf16⟩
  | .hbm, ⟨89, _⟩ => ⟨S4096x256, .bf16⟩
  | .hbm, ⟨90, _⟩ => ⟨S4096x1792, .bf16⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== AttnBwdZero.lean ====
abbrev S4096x3328 : Shape := ⟨2, ![4096, 3328]⟩
abbrev S256x512 : Shape := ⟨2, ![256, 512]⟩
abbrev S4096x1024 : Shape := ⟨2, ![4096, 1024]⟩
abbrev S256x256 : Shape := ⟨2, ![256, 256]⟩
abbrev S2048x256 : Shape := ⟨2, ![2048, 256]⟩
abbrev S1x256 : Shape := ⟨2, ![1, 256]⟩
abbrev S2048 : Shape := ⟨1, ![2048]⟩
abbrev S2048x1 : Shape := ⟨2, ![2048, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x3328, .f32⟩
  | .hbm, ⟨1, _⟩ => ⟨S256x512, .f32⟩
  | .hbm, ⟨2, _⟩ => ⟨S4096x1024, .f32⟩
  | .hbm, ⟨3, _⟩ => ⟨S4096x3328, .bf16⟩
  | .hbm, ⟨4, _⟩ => ⟨S4096x3328, .bf16⟩
  | .hbm, ⟨5, _⟩ => ⟨S256x256, .f32⟩
  | .hbm, ⟨6, _⟩ => ⟨S256x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | .local _ .vmem, ⟨8, _⟩ => ⟨S256x256, .f32⟩
  | .local _ .vmem, ⟨9, _⟩ => ⟨S256x256, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnBwdZeroRefIdeal.lean ====
abbrev S4096x3328 : Shape := ⟨2, ![4096, 3328]⟩
abbrev S256x512 : Shape := ⟨2, ![256, 512]⟩
abbrev S4096x1024 : Shape := ⟨2, ![4096, 1024]⟩
abbrev S4096x256 : Shape := ⟨2, ![4096, 256]⟩
abbrev S256x256 : Shape := ⟨2, ![256, 256]⟩
abbrev S256x4x64 : Shape := ⟨3, ![256, 4, 64]⟩
abbrev S4096x4x64 : Shape := ⟨3, ![4096, 4, 64]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x64x4096 : Shape := ⟨3, ![4, 64, 4096]⟩
abbrev S4x64x256 : Shape := ⟨3, ![4, 64, 256]⟩
abbrev S4x256x64 : Shape := ⟨3, ![4, 256, 64]⟩
abbrev S4x4096x64 : Shape := ⟨3, ![4, 4096, 64]⟩
abbrev S4096x3072 : Shape := ⟨2, ![4096, 3072]⟩

abbrev nBuf : Space → Nat
  | .hbm => 91
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S256x512, .f32⟩
  | .hbm, ⟨2, _⟩ => ⟨S4096x1024, .f32⟩
  | .hbm, ⟨3, _⟩ => ⟨S4096x3328, .bf16⟩
  | .hbm, ⟨4, _⟩ => ⟨S4096x256, .f32⟩
  | .hbm, ⟨5, _⟩ => ⟨S256x256, .f32⟩
  | .hbm, ⟨6, _⟩ => ⟨S256x256, .f32⟩
  | .hbm, ⟨7, _⟩ => ⟨S256x4x64, .f32⟩
  | .hbm, ⟨8, _⟩ => ⟨S256x4x64, .f32⟩
  | .hbm, ⟨9, _⟩ => ⟨S4096x4x64, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x64x4096, .f32⟩
  | .hbm, ⟨53, _⟩ => ⟨S4096x4x64, .f32⟩
  | .hbm, ⟨54, _⟩ => ⟨S4096x256, .f32⟩
  | .hbm, ⟨55, _⟩ => ⟨S4096x256, .f32⟩
  | .hbm, ⟨56, _⟩ => ⟨S4096x4x64, .f32⟩
  | .hbm, ⟨57, _⟩ => ⟨S4x64x4096, .f32⟩
  | .hbm, ⟨58, _⟩ => ⟨S4x4096x256, .f32⟩
  | .hbm, ⟨59, _⟩ => ⟨S4x64x256, .f32⟩
  | .hbm, ⟨60, _⟩ => ⟨S256x4x64, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x64, .f32⟩
  | .hbm, ⟨79, _⟩ => ⟨S256x4x64, .f32⟩
  | .hbm, ⟨80, _⟩ => ⟨S4x4096x64, .f32⟩
  | .hbm, ⟨81, _⟩ => ⟨S4096x4x64, .f32⟩
  | .hbm, ⟨82, _⟩ => ⟨S4096x256, .f32⟩
  | .hbm, ⟨83, _⟩ => ⟨S256x256, .f32⟩
  | .hbm, ⟨84, _⟩ => ⟨S256x256, .f32⟩
  | .hbm, ⟨85, _⟩ => ⟨S256x512, .f32⟩
  | .hbm, ⟨86, _⟩ => ⟨S256x256, .f32⟩
  | .hbm, ⟨87, _⟩ => ⟨S256x256, .f32⟩
  | .hbm, ⟨88, _⟩ => ⟨S4096x3072, .bf16⟩
  | .hbm, ⟨89, _⟩ => ⟨S4096x256, .bf16⟩
  | .hbm, ⟨90, _⟩ => ⟨S4096x3328, .bf16⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== AttnFwdZero.lean ====
abbrev S4096x3328 : Shape := ⟨2, ![4096, 3328]⟩
abbrev S256x512 : Shape := ⟨2, ![256, 512]⟩
abbrev S4096x1024 : Shape := ⟨2, ![4096, 1024]⟩
abbrev S2048x256 : Shape := ⟨2, ![2048, 256]⟩
abbrev S256x256 : Shape := ⟨2, ![256, 256]⟩
abbrev S1x256 : Shape := ⟨2, ![1, 256]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x3328, .f32⟩
  | .hbm, ⟨1, _⟩ => ⟨S256x512, .f32⟩
  | .hbm, ⟨2, _⟩ => ⟨S4096x1024, .bf16⟩
  | .hbm, ⟨3, _⟩ => ⟨S4096x1024, .bf16⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S2048x256, .bf16⟩
  | .local _ .vmem, ⟨5, _⟩ => ⟨S2048x256, .bf16⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdZeroRefIdeal.lean ====
abbrev S4096x3328 : Shape := ⟨2, ![4096, 3328]⟩
abbrev S256x512 : Shape := ⟨2, ![256, 512]⟩
abbrev S4096x1024 : Shape := ⟨2, ![4096, 1024]⟩
abbrev S4096x768 : Shape := ⟨2, ![4096, 768]⟩
abbrev S4096x256 : Shape := ⟨2, ![4096, 256]⟩
abbrev S256x256 : Shape := ⟨2, ![256, 256]⟩
abbrev S256x4x64 : Shape := ⟨3, ![256, 4, 64]⟩
abbrev S4096x4x64 : Shape := ⟨3, ![4096, 4, 64]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x64x4096 : Shape := ⟨3, ![4, 64, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S256x512, .f32⟩
  | .hbm, ⟨2, _⟩ => ⟨S4096x1024, .bf16⟩
  | .hbm, ⟨3, _⟩ => ⟨S4096x768, .bf16⟩
  | .hbm, ⟨4, _⟩ => ⟨S4096x256, .f32⟩
  | .hbm, ⟨5, _⟩ => ⟨S256x256, .f32⟩
  | .hbm, ⟨6, _⟩ => ⟨S256x256, .f32⟩
  | .hbm, ⟨7, _⟩ => ⟨S256x4x64, .f32⟩
  | .hbm, ⟨8, _⟩ => ⟨S256x4x64, .f32⟩
  | .hbm, ⟨9, _⟩ => ⟨S4096x4x64, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x256, .f32⟩
  | .hbm, ⟨21, _⟩ => ⟨S4x4096x256, .f32⟩
  | .hbm, ⟨22, _⟩ => ⟨S4x4096x256, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x256, .f32⟩
  | .hbm, ⟨27, _⟩ => ⟨S4x4096x256, .f32⟩
  | .hbm, ⟨28, _⟩ => ⟨S4x64x4096, .f32⟩
  | .hbm, ⟨29, _⟩ => ⟨S4096x4x64, .f32⟩
  | .hbm, ⟨30, _⟩ => ⟨S4096x256, .f32⟩
  | .hbm, ⟨31, _⟩ => ⟨S4096x256, .bf16⟩
  | .hbm, ⟨32, _⟩ => ⟨S4096x1024, .bf16⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== AttnFwdOne.lean ====
abbrev S4096x1792 : Shape := ⟨2, ![4096, 1792]⟩
abbrev S256x512 : Shape := ⟨2, ![256, 512]⟩
abbrev S4096x1024 : Shape := ⟨2, ![4096, 1024]⟩
abbrev S2048x256 : Shape := ⟨2, ![2048, 256]⟩
abbrev S256x256 : Shape := ⟨2, ![256, 256]⟩
abbrev S1x256 : Shape := ⟨2, ![1, 256]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1792, .f32⟩
  | .hbm, ⟨1, _⟩ => ⟨S256x512, .f32⟩
  | .hbm, ⟨2, _⟩ => ⟨S4096x1024, .bf16⟩
  | .hbm, ⟨3, _⟩ => ⟨S4096x1024, .bf16⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S2048x256, .bf16⟩
  | .local _ .vmem, ⟨5, _⟩ => ⟨S2048x256, .bf16⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdOneRefIdeal.lean ====
abbrev S4096x1792 : Shape := ⟨2, ![4096, 1792]⟩
abbrev S256x512 : Shape := ⟨2, ![256, 512]⟩
abbrev S4096x1024 : Shape := ⟨2, ![4096, 1024]⟩
abbrev S4096x768 : Shape := ⟨2, ![4096, 768]⟩
abbrev S4096x256 : Shape := ⟨2, ![4096, 256]⟩
abbrev S256x256 : Shape := ⟨2, ![256, 256]⟩
abbrev S256x4x64 : Shape := ⟨3, ![256, 4, 64]⟩
abbrev S4096x4x64 : Shape := ⟨3, ![4096, 4, 64]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x64x4096 : Shape := ⟨3, ![4, 64, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S256x512, .f32⟩
  | .hbm, ⟨2, _⟩ => ⟨S4096x1024, .bf16⟩
  | .hbm, ⟨3, _⟩ => ⟨S4096x768, .bf16⟩
  | .hbm, ⟨4, _⟩ => ⟨S4096x256, .f32⟩
  | .hbm, ⟨5, _⟩ => ⟨S256x256, .f32⟩
  | .hbm, ⟨6, _⟩ => ⟨S256x256, .f32⟩
  | .hbm, ⟨7, _⟩ => ⟨S256x4x64, .f32⟩
  | .hbm, ⟨8, _⟩ => ⟨S256x4x64, .f32⟩
  | .hbm, ⟨9, _⟩ => ⟨S4096x4x64, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x256, .f32⟩
  | .hbm, ⟨21, _⟩ => ⟨S4x4096x256, .f32⟩
  | .hbm, ⟨22, _⟩ => ⟨S4x4096x256, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x256, .f32⟩
  | .hbm, ⟨27, _⟩ => ⟨S4x4096x256, .f32⟩
  | .hbm, ⟨28, _⟩ => ⟨S4x64x4096, .f32⟩
  | .hbm, ⟨29, _⟩ => ⟨S4096x4x64, .f32⟩
  | .hbm, ⟨30, _⟩ => ⟨S4096x256, .f32⟩
  | .hbm, ⟨31, _⟩ => ⟨S4096x256, .bf16⟩
  | .hbm, ⟨32, _⟩ => ⟨S4096x1024, .bf16⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== FfnInDx.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S5632x1024 : Shape := ⟨2, ![5632, 1024]⟩
abbrev S1x1024x1408 : Shape := ⟨3, ![1, 1024, 1408]⟩
abbrev S1408x1024 : Shape := ⟨2, ![1408, 1024]⟩
abbrev S1024x1024 : Shape := ⟨2, ![1024, 1024]⟩
abbrev S1024x1408 : Shape := ⟨2, ![1024, 1408]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S5632x1024, .f32⟩
  | .hbm, ⟨6, _⟩ => ⟨S5632x1024, .bf16⟩
  | .hbm, ⟨7, _⟩ => ⟨S4096x1024, .f32⟩
  | .hbm, ⟨8, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_20 : BitVec 32 := 0#32
  let c8_i32 : BitVec 32 := 8#32
  let v28 : BitVec 32 := Scalar.addi c0_i32_20 c8_i32
  let c1_i32 : BitVec 32 := 1#32
  ⟨c0_i32_20, v28, c1_i32⟩
def k0_mult1 (k0_t1 : Fin k0_t1_loop.trips) : BitVec 32 :=
  let c0_i32_20 : BitVec 32 := 0#32
  let c1_i32 : BitVec 32 := 1#32
  let arg11 : BitVec 32 := Scf.iv c0_i32_20 c1_i32 k0_t1
  let c128_i32 : BitVec 32 := 128#32
  let v32 : BitVec 32 := Scalar.muli arg11 c128_i32
  v32
def k0_off1 (k0_t1 : Fin k0_t1_loop.trips) : Fin 2 → Nat :=
  let c0_i32_20 : BitVec 32 := 0#32
  let c1_i32 : BitVec 32 := 1#32
  let arg11 : BitVec 32 := Scf.iv c0_i32_20 c1_i32 k0_t1
  let c128_i32 : BitVec 32 := 128#32
  let v32 : BitVec 32 := Scalar.muli arg11 c128_i32
  let v33 : BitVec 32 := v32
  let v34 : Index := Scalar.indexCast v33
  let c0_24 : Index := 0#32
  ![v34.toNat, 0]
def k0_cond4 (i : grid0.Coords) : BitVec 1 :=
  let arg0 : BitVec 32 := BitVec.ofNat 32 (i 0).val
  let c0_i32_11 : BitVec 32 := 0#32
  let v18 : BitVec 1 := Scalar.cmpi .eq arg0 c0_i32_11
  let v19 : BitVec 32 := Scalar.extui v18
  let c0_i32_12 : BitVec 32 := 0#32
  let v20 : BitVec 1 := Scalar.cmpi .ne v19 c0_i32_12
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== FfnInDxRefIdeal.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x4096x2816, .bf16⟩
  | .hbm, ⟨6, _⟩ => ⟨S4096x2816, .bf16⟩
  | .hbm, ⟨7, _⟩ => ⟨S1x4096x2816, .bf16⟩
  | .hbm, ⟨8, _⟩ => ⟨S4096x2816, .bf16⟩
  | .hbm, ⟨9, _⟩ => ⟨S4096x5632, .bf16⟩
  | .hbm, ⟨10, _⟩ => ⟨S4096x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== HgInDx.lean ====
abbrev S4096x3328 : Shape := ⟨2, ![4096, 3328]⟩
abbrev S1024x3328 : Shape := ⟨2, ![1024, 3328]⟩
abbrev S4096x1024 : Shape := ⟨2, ![4096, 1024]⟩
abbrev S1x1024 : Shape := ⟨2, ![1, 1024]⟩
abbrev S8x128 : Shape := ⟨2, ![8, 128]⟩
abbrev S3328x1024 : Shape := ⟨2, ![3328, 1024]⟩
abbrev S1024x1664 : Shape := ⟨2, ![1024, 1664]⟩
abbrev S1664x1024 : Shape := ⟨2, ![1664, 1024]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x3328, .bf16⟩
  | .hbm, ⟨1, _⟩ => ⟨S1024x3328, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .f32⟩
  | .hbm, ⟨6, _⟩ => ⟨S3328x1024, .f32⟩
  | .hbm, ⟨7, _⟩ => ⟨S3328x1024, .bf16⟩
  | .hbm, ⟨8, _⟩ => ⟨S4096x1024, .f32⟩
  | .hbm, ⟨9, _⟩ => ⟨S1x1024, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_19 : BitVec 32 := 0#32
  let c8_i32 : BitVec 32 := 8#32
  let v27 : BitVec 32 := Scalar.addi c0_i32_19 c8_i32
  let c1_i32_20 : BitVec 32 := 1#32
  ⟨c0_i32_19, v27, c1_i32_20⟩
def k0_mult1 (k0_t1 : Fin k0_t1_loop.trips) : BitVec 32 :=
  let c0_i32_19 : BitVec 32 := 0#32
  let c1_i32_20 : BitVec 32 := 1#32
  let arg12 : BitVec 32 := Scf.iv c0_i32_19 c1_i32_20 k0_t1
  let c128_i32 : BitVec 32 := 128#32
  let v31 : BitVec 32 := Scalar.muli arg12 c128_i32
  v31
def k0_off1 (k0_t1 : Fin k0_t1_loop.trips) : Fin 2 → Nat :=
  let c0_i32_19 : BitVec 32 := 0#32
  let c1_i32_20 : BitVec 32 := 1#32
  let arg12 : BitVec 32 := Scf.iv c0_i32_19 c1_i32_20 k0_t1
  let c128_i32 : BitVec 32 := 128#32
  let v31 : BitVec 32 := Scalar.muli arg12 c128_i32
  let v32 : BitVec 32 := v31
  let v33 : Index := Scalar.indexCast v32
  let c0_24 : Index := 0#32
  ![v33.toNat, 0]
def k0_cond4 (i : grid0.Coords) : BitVec 1 :=
  let arg0 : BitVec 32 := BitVec.ofNat 32 (i 0).val
  let c0_i32_10 : BitVec 32 := 0#32
  let v17 : BitVec 1 := Scalar.cmpi .eq arg0 c0_i32_10
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== HgInDxRefIdeal.lean ====
abbrev S4096x3328 : Shape := ⟨2, ![4096, 3328]⟩
abbrev S1024x3328 : Shape := ⟨2, ![1024, 3328]⟩
abbrev S4096x1024 : Shape := ⟨2, ![4096, 1024]⟩
abbrev S1x1024 : Shape := ⟨2, ![1, 1024]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x3328, .bf16⟩
  | .hbm, ⟨1, _⟩ => ⟨S1024x3328, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x3328, .f32⟩
  | .hbm, ⟨26, _⟩ => ⟨S4096x3328, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== LossHead.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S1024x1408 : Shape := ⟨2, ![1024, 1408]⟩
abbrev S1408x1024 : Shape := ⟨2, ![1408, 1024]⟩
abbrev S1024x1024 : Shape := ⟨2, ![1024, 1024]⟩
abbrev S1x1 : Shape := ⟨2, ![1, 1]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2816x1024, .bf16⟩
  | .hbm, ⟨6, _⟩ => ⟨S4096x1024, .f32⟩
  | .hbm, ⟨7, _⟩ => ⟨S1x1024, .f32⟩
  | .hbm, ⟨8, _⟩ => ⟨S1x128, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x128, .f32⟩
  | .local _ .vmem, ⟨13, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_20 : BitVec 32 := 0#32
  let c8_i32 : BitVec 32 := 8#32
  let v28 : BitVec 32 := Scalar.addi c0_i32_20 c8_i32
  let c1_i32_21 : BitVec 32 := 1#32
  ⟨c0_i32_20, v28, c1_i32_21⟩
def k0_mult1 (k0_t1 : Fin k0_t1_loop.trips) : BitVec 32 :=
  let c0_i32_20 : BitVec 32 := 0#32
  let c1_i32_21 : BitVec 32 := 1#32
  let arg12 : BitVec 32 := Scf.iv c0_i32_20 c1_i32_21 k0_t1
  let c128_i32 : BitVec 32 := 128#32
  let v40 : BitVec 32 := Scalar.muli arg12 c128_i32
  v40
def k0_off1 (k0_t1 : Fin k0_t1_loop.trips) : Fin 2 → Nat :=
  let c0_i32_20 : BitVec 32 := 0#32
  let c1_i32_21 : BitVec 32 := 1#32
  let arg12 : BitVec 32 := Scf.iv c0_i32_20 c1_i32_21 k0_t1
  let c128_i32 : BitVec 32 := 128#32
  let v40 : BitVec 32 := Scalar.muli arg12 c128_i32
  let v41 : BitVec 32 := v40
  let v42 : Index := Scalar.indexCast v41
  let c0_31 : Index := 0#32
  ![v42.toNat, 0]
def k0_cond4 (i : grid0.Coords) : BitVec 1 :=
  let arg0 : BitVec 32 := BitVec.ofNat 32 (i 0).val
  let c0_i32_10 : BitVec 32 := 0#32
  let v17 : BitVec 1 := Scalar.cmpi .eq arg0 c0_i32_10
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== LossHeadRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== FfnActBwd.lean ====
abbrev S4096x1024 : Shape := ⟨2, ![4096, 1024]⟩
abbrev S1024x5632 : Shape := ⟨2, ![1024, 5632]⟩
abbrev S2816x1024 : Shape := ⟨2, ![2816, 1024]⟩
abbrev S8x128 : Shape := ⟨2, ![8, 128]⟩
abbrev S5632x1024 : Shape := ⟨2, ![5632, 1024]⟩
abbrev S2x4096x2816 : Shape := ⟨3, ![2, 4096, 2816]⟩
abbrev S4096x2816 : Shape := ⟨2, ![4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S256x1024 : Shape := ⟨2, ![256, 1024]⟩
abbrev S512x256 : Shape := ⟨2, ![512, 256]⟩
abbrev S1x512x256 : Shape := ⟨3, ![1, 512, 256]⟩
abbrev S128x1024 : Shape := ⟨2, ![128, 1024]⟩
abbrev S512x128 : Shape := ⟨2, ![512, 128]⟩
abbrev S1x512x128 : Shape := ⟨3, ![1, 512, 128]⟩
abbrev S1024x1024 : Shape := ⟨2, ![1024, 1024]⟩
abbrev S2x1024x1408 : Shape := ⟨3, ![2, 1024, 1408]⟩
abbrev S1024x256 : Shape := ⟨2, ![1024, 256]⟩
abbrev S1x1024x256 : Shape := ⟨3, ![1, 1024, 256]⟩
abbrev S1024x128 : Shape := ⟨2, ![1024, 128]⟩
abbrev S1x1024x128 : Shape := ⟨3, ![1, 1024, 128]⟩

abbrev nBuf : Space → Nat
  | .hbm => 11
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S8x128, .f32⟩
  | .hbm, ⟨5, _⟩ => ⟨S5632x1024, .f32⟩
  | .hbm, ⟨6, _⟩ => ⟨S5632x1024, .bf16⟩
  | .hbm, ⟨7, _⟩ => ⟨S2x4096x2816, .bf16⟩
  | .hbm, ⟨8, _⟩ => ⟨S4096x2816, .bf16⟩
  | .hbm, ⟨9, _⟩ => ⟨S2816x1024, .bf16⟩
  | .hbm, ⟨10, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S1024x1024, .f32⟩
  | .local _ .vmem, ⟨11, _⟩ => ⟨S1024x1024, .f32⟩
  | .local _ .vmem, ⟨12, _⟩ => ⟨S1408x1024, .bf16⟩
  | .local _ .vmem, ⟨13, _⟩ => ⟨S1408x1024, .bf16⟩
  | .local _ .vmem, ⟨14, _⟩ => ⟨S2x1024x1408, .bf16⟩
  | .local _ .vmem, ⟨15, _⟩ => ⟨S2x1024x1408, .bf16⟩
  | .local _ .vmem, ⟨16, _⟩ => ⟨S2x1024x1408, .bf16⟩
  | .local _ .vmem, ⟨17, _⟩ => ⟨S2x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== FfnActBwdRefIdeal.lean ====
abbrev S4096x1024 : Shape := ⟨2, ![4096, 1024]⟩
abbrev S1024x5632 : Shape := ⟨2, ![1024, 5632]⟩
abbrev S2816x1024 : Shape := ⟨2, ![2816, 1024]⟩
abbrev S8x128 : Shape := ⟨2, ![8, 128]⟩
abbrev S4096x5632 : Shape := ⟨2, ![4096, 5632]⟩
abbrev S4096x2816 : Shape := ⟨2, ![4096, 2816]⟩
abbrev S_ : Shape := ⟨0, ![]⟩
abbrev S4096x2x2816 : Shape := ⟨3, ![4096, 2, 2816]⟩
abbrev S2x4096x2816 : Shape := ⟨3, ![2, 4096, 2816]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S8x128, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .bf16⟩
  | .hbm, ⟨45, _⟩ => ⟨S4096x2x2816, .f32⟩
  | .hbm, ⟨46, _⟩ => ⟨S2x4096x2816, .f32⟩
  | .hbm, ⟨47, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩

abbrev nD : Nat := 1
abbrev τ : Topo := Topo.v7x

variable {F : FTy → Type} [FloatOps F]
-- ==== GmlpBwd.lean ====
abbrev S4096x1792 : Shape := ⟨2, ![4096, 1792]⟩
abbrev S1x768 : Shape := ⟨2, ![1, 768]⟩
abbrev S6x128x128 : Shape := ⟨3, ![6, 128, 128]⟩
abbrev S6x128 : Shape := ⟨2, ![6, 128]⟩
abbrev S4096x1024 : Shape := ⟨2, ![4096, 1024]⟩
abbrev S6x128x1 : Shape := ⟨3, ![6, 128, 1]⟩
abbrev S256x768 : Shape := ⟨2, ![256, 768]⟩
abbrev S256x1536 : Shape := ⟨2, ![256, 1536]⟩
abbrev S128x768 : Shape := ⟨2, ![128, 768]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x128x1 : Shape := ⟨3, ![1, 128, 1]⟩
abbrev S768 : Shape := ⟨1, ![768]⟩

abbrev nBuf : Space → Nat
  | .hbm => 13
  | .vmem => 16
  | .smem => 0
  | _ => 0

abbrev bufTy : (tb : Table) → Fin (tcTables nBuf tb) → BufTy
  | .hbm, ⟨0, _⟩ => ⟨S4096x1792, .f32⟩
  | .hbm, ⟨1, _⟩ => ⟨S1x768, .f32⟩
  | .hbm, ⟨2, _⟩ => ⟨S1x768, .f32⟩
  | .hbm, ⟨3, _⟩ => ⟨S6x128x128, .f32⟩
  | .hbm, ⟨4, _⟩ => ⟨S6x128, .f32⟩
  | .hbm, ⟨5, _⟩ => ⟨S4096x1024, .f32⟩
  | .hbm, ⟨6, _⟩ => ⟨S6x128x1, .f32⟩
  | .hbm, ⟨7, _⟩ => ⟨S6x128x128, .f32⟩
  | .hbm, ⟨8, _⟩ => ⟨S4096x1792, .bf16⟩
  | .hbm, ⟨9, _⟩ => ⟨S6x128x128, .f32⟩
  | .hbm, ⟨10, _⟩ => ⟨S6x128x1, .f32⟩
  | .hbm, ⟨11, _⟩ => ⟨S1x768, .f32⟩
  | .hbm, ⟨12, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x768, .f32⟩
  | .local _ .vmem, ⟨5, _⟩ => ⟨S1x768, .f32⟩
  | .local _ .vmem, ⟨6, _⟩ => ⟨S6x128x128, .f32⟩
  | .local _ .vmem, ⟨7, _⟩ => ⟨S6x128x128, .f32⟩
  | .local _ .vmem, ⟨8, _⟩ => ⟨S256x768, .f32⟩
  | .local _ .vmem, ⟨9, _⟩ => ⟨S256x768, .f32⟩
  | .local _ .vmem, ⟨10, _⟩ => ⟨S256x1536, .bf16⟩
  | .local _ .vmem, ⟨11, _⟩ => ⟨S256x1536, .bf16⟩
  | .local _ .vmem, ⟨12, _⟩ => ⟨S6x128x128, .f32⟩
  | .local _ .vmem, ⟨13, _⟩ => ⟨S6x128x1, .f32⟩
  | .local _ .vmem, ⟨14, _⟩ => ⟨S1x768, .f32⟩
  | .local _ .vmem, ⟨15, _⟩ => ⟨S1x768, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S6x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GmlpBwdRefIdeal.lean ====
abbrev S4096x1792 : Shape := ⟨2, ![4096, 1792]⟩
abbrev S1x768 : Shape := ⟨2, ![1, 768]⟩
abbrev S6x128x128 : Shape := ⟨3, ![6, 128, 128]⟩
abbrev S6x128 : Shape := ⟨2, ![6, 128]⟩
abbrev S4096x1024 : Shape := ⟨2, ![4096, 1024]⟩
abbrev S4096x1536 : Shape := ⟨2, ![4096, 1536]⟩
abbrev S_ : Shape := ⟨0, ![]⟩
abbrev S4096x768 : Shape := ⟨2, ![4096, 768]⟩
abbrev S4096 : Shape := ⟨1, ![4096]⟩
abbrev S4096x1 : Shape := ⟨2, ![4096, 1]⟩
abbrev S32x128x6x128 : Shape := ⟨4, ![32, 128, 6, 128]⟩
abbrev S128x128 : Shape := ⟨2, ![128, 128]⟩
abbrev S1x128x128 : Shape := ⟨3, ![1, 128, 128]⟩
abbrev S6x32x128x128 : Shape := ⟨4, ![6, 32, 128, 128]⟩
abbrev S128x6 : Shape := ⟨2, ![128, 6]⟩
abbrev S1x128x6x1 : Shape := ⟨4, ![1, 128, 6, 1]⟩
abbrev S768 : Shape := ⟨1, ![768]⟩
abbrev S6x128x1 : Shape := ⟨3, ![6, 128, 1]⟩

abbrev nBuf : Space → Nat
  | .hbm => 92
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S1x768, .f32⟩
  | .hbm, ⟨2, _⟩ => ⟨S1x768, .f32⟩
  | .hbm, ⟨3, _⟩ => ⟨S6x128x128, .f32⟩
  | .hbm, ⟨4, _⟩ => ⟨S6x128, .f32⟩
  | .hbm, ⟨5, _⟩ => ⟨S4096x1024, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S4096x1536, .f32⟩
  | .hbm, ⟨16, _⟩ => ⟨S4096x768, .f32⟩
  | .hbm, ⟨17, _⟩ => ⟨S4096x768, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x768, .f32⟩
  | .hbm, ⟨25, _⟩ => ⟨S4096x768, .f32⟩
  | .hbm, ⟨26, _⟩ => ⟨S4096x768, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x768, .f32⟩
  | .hbm, ⟨34, _⟩ => ⟨S4096x768, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x768, .f32⟩
  | .hbm, ⟨40, _⟩ => ⟨S4096x768, .f32⟩
  | .hbm, ⟨41, _⟩ => ⟨S4096x768, .f32⟩
  | .hbm, ⟨42, _⟩ => ⟨S4096x768, .f32⟩
  | .hbm, ⟨43, _⟩ => ⟨S4096x768, .f32⟩
  | .hbm, ⟨44, _⟩ => ⟨S4096x768, .f32⟩
  | .hbm, ⟨45, _⟩ => ⟨S32x128x6x128, .f32⟩
  | .hbm, ⟨46, _⟩ => ⟨S_, .f32⟩
  | .hbm, ⟨47, _⟩ => ⟨S128x128, .f32⟩
  | .hbm, ⟨48, _⟩ => ⟨S128x128, .i32⟩
  | .hbm, ⟨49, _⟩ => ⟨S_, .i32⟩
  | .hbm, ⟨50, _⟩ => ⟨S128x128, .i32⟩
  | .hbm, ⟨51, _⟩ => ⟨S128x128, .i32⟩
  | .hbm, ⟨52, _⟩ => ⟨S128x128, .i32⟩
  | .hbm, ⟨53, _⟩ => ⟨S128x128, .i1⟩
  | .hbm, ⟨54, _⟩ => ⟨S_, .f32⟩
  | .hbm, ⟨55, _⟩ => ⟨S128x128, .f32⟩
  | .hbm, ⟨56, _⟩ => ⟨S128x128, .f32⟩
  | .hbm, ⟨57, _⟩ => ⟨S1x128x128, .f32⟩
  | .hbm, ⟨58, _⟩ => ⟨S6x128x128, .f32⟩
  | .hbm, ⟨59, _⟩ => ⟨S6x128x128, .f32⟩
  | .hbm, ⟨60, _⟩ => ⟨S6x32x128x128, .f32⟩
  | .hbm, ⟨61, _⟩ => ⟨S32x128x6x128, .f32⟩
  | .hbm, ⟨62, _⟩ => ⟨S128x6, .f32⟩
  | .hbm, ⟨63, _⟩ => ⟨S1x128x6x1, .f32⟩
  | .hbm, ⟨64, _⟩ => ⟨S32x128x6x128, .f32⟩
  | .hbm, ⟨65, _⟩ => ⟨S32x128x6x128, .f32⟩
  | .hbm, ⟨66, _⟩ => ⟨S4096x768, .f32⟩
  | .hbm, ⟨67, _⟩ => ⟨S4096x768, .f32⟩
  | .hbm, ⟨68, _⟩ => ⟨S4096x768, .f32⟩
  | .hbm, ⟨69, _⟩ => ⟨S4096x768, .f32⟩
  | .hbm, ⟨70, _⟩ => ⟨S32x128x6x128, .f32⟩
  | .hbm, ⟨71, _⟩ => ⟨S_, .f32⟩
  | .hbm, ⟨72, _⟩ => ⟨S128x6, .f32⟩
  | .hbm, ⟨73, _⟩ => ⟨S1x128x6x1, .f32⟩
  | .hbm, ⟨74, _⟩ => ⟨S_, .f32⟩
  | .hbm, ⟨75, _⟩ => ⟨S128x6, .f32⟩
  | .hbm, ⟨76, _⟩ => ⟨S6x128, .f32⟩
  | .hbm, ⟨77, _⟩ => ⟨S6x32x128x128, .f32⟩
  | .hbm, ⟨78, _⟩ => ⟨S6x128x128, .f32⟩
  | .hbm, ⟨79, _⟩ => ⟨S6x32x128x128, .f32⟩
  | .hbm, ⟨80, _⟩ => ⟨S32x128x6x128, .f32⟩
  | .hbm, ⟨81, _⟩ => ⟨S6x128x128, .f32⟩
  | .hbm, ⟨82, _⟩ => ⟨S6x128x128, .f32⟩
  | .hbm, ⟨83, _⟩ => ⟨S4096x768, .f32⟩
  | .hbm, ⟨84, _⟩ => ⟨S_, .f32⟩
  | .hbm, ⟨85, _⟩ => ⟨S768, .f32⟩
  | .hbm, ⟨86, _⟩ => ⟨S1x768, .f32⟩
  | .hbm, ⟨87, _⟩ => ⟨S4096x768, .f32⟩
  | .hbm, ⟨88, _⟩ => ⟨S_, .f32⟩
  | .hbm, ⟨89, _⟩ => ⟨S768, .f32⟩
  | .hbm, ⟨90, _⟩ => ⟨S1x768, .f32⟩
  | .hbm, ⟨91, _⟩ => ⟨S6x128x1, .f32⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_call0_v0 : Ref sig .tc := ⟨.hbm, 48, rfl⟩
abbrev main_call0_c : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_cst : Ref sig .tc := ⟨.hbm, 54, rfl⟩
abbrev main_call0_v5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== MixNorm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GmlpFwd.lean ====
abbrev S4096x1792 : Shape := ⟨2, ![4096, 1792]⟩
abbrev S1x768 : Shape := ⟨2, ![1, 768]⟩
abbrev S6x128x128 : Shape := ⟨3, ![6, 128, 128]⟩
abbrev S6x128 : Shape := ⟨2, ![6, 128]⟩
abbrev S6x128x1 : Shape := ⟨3, ![6, 128, 1]⟩
abbrev S4096x1024 : Shape := ⟨2, ![4096, 1024]⟩
abbrev S512x768 : Shape := ⟨2, ![512, 768]⟩
abbrev S128x768 : Shape := ⟨2, ![128, 768]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S4096x768 : Shape := ⟨2, ![4096, 768]⟩

abbrev nBuf : Space → Nat
  | .hbm => 9
  | .vmem => 10
  | .smem => 0
  | _ => 0

abbrev bufTy : (tb : Table) → Fin (tcTables nBuf tb) → BufTy
  | .hbm, ⟨0, _⟩ => ⟨S4096x1792, .f32⟩
  | .hbm, ⟨1, _⟩ => ⟨S1x768, .f32⟩
  | .hbm, ⟨2, _⟩ => ⟨S1x768, .f32⟩
  | .hbm, ⟨3, _⟩ => ⟨S6x128x128, .f32⟩
  | .hbm, ⟨4, _⟩ => ⟨S6x128, .f32⟩
  | .hbm, ⟨5, _⟩ => ⟨S6x128x1, .f32⟩
  | .hbm, ⟨6, _⟩ => ⟨S6x128x128, .f32⟩
  | .hbm, ⟨7, _⟩ => ⟨S4096x1024, .bf16⟩
  | .hbm, ⟨8, _⟩ => ⟨S4096x768, .bf16⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S1x768, .f32⟩
  | .local _ .vmem, ⟨5, _⟩ => ⟨S1x768, .f32⟩
  | .local _ .vmem, ⟨6, _⟩ => ⟨S6x128x128, .f32⟩
  | .local _ .vmem, ⟨7, _⟩ => ⟨S6x128x128, .f32⟩
  | .local _ .vmem, ⟨8, _⟩ => ⟨S512x768, .bf16⟩
  | .local _ .vmem, ⟨9, _⟩ => ⟨S512x768, .bf16⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpFwdRefIdeal.lean ====
abbrev S4096x1792 : Shape := ⟨2, ![4096, 1792]⟩
abbrev S1x768 : Shape := ⟨2, ![1, 768]⟩
abbrev S6x128x128 : Shape := ⟨3, ![6, 128, 128]⟩
abbrev S6x128 : Shape := ⟨2, ![6, 128]⟩
abbrev S4096x1536 : Shape := ⟨2, ![4096, 1536]⟩
abbrev S_ : Shape := ⟨0, ![]⟩
abbrev S4096x768 : Shape := ⟨2, ![4096, 768]⟩
abbrev S4096 : Shape := ⟨1, ![4096]⟩
abbrev S4096x1 : Shape := ⟨2, ![4096, 1]⟩
abbrev S32x128x6x128 : Shape := ⟨4, ![32, 128, 6, 128]⟩
abbrev S128x128 : Shape := ⟨2, ![128, 128]⟩
abbrev S1x128x128 : Shape := ⟨3, ![1, 128, 128]⟩
abbrev S6x32x128x128 : Shape := ⟨4, ![6, 32, 128, 128]⟩
abbrev S128x6 : Shape := ⟨2, ![128, 6]⟩
abbrev S1x128x6x1 : Shape := ⟨4, ![1, 128, 6, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S1x768, .f32⟩
  | .hbm, ⟨2, _⟩ => ⟨S1x768, .f32⟩
  | .hbm, ⟨3, _⟩ => ⟨S6x128x128, .f32⟩
  | .hbm, ⟨4, _⟩ => ⟨S6x128, .f32⟩
  | .hbm, ⟨5, _⟩ => ⟨S4096x1536, .f32⟩
  | .hbm, ⟨6, _⟩ => ⟨S_, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S_, .f32⟩
  | .hbm, ⟨11, _⟩ => ⟨S4096x1536, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S4096x768, .f32⟩
  | .hbm, ⟨16, _⟩ => ⟨S4096x768, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x768, .f32⟩
  | .hbm, ⟨39, _⟩ => ⟨S4096x768, .f32⟩
  | .hbm, ⟨40, _⟩ => ⟨S4096x768, .f32⟩
  | .hbm, ⟨41, _⟩ => ⟨S4096x768, .f32⟩
  | .hbm, ⟨42, _⟩ => ⟨S4096x768, .f32⟩
  | .hbm, ⟨43, _⟩ => ⟨S4096x768, .f32⟩
  | .hbm, ⟨44, _⟩ => ⟨S32x128x6x128, .f32⟩
  | .hbm, ⟨45, _⟩ => ⟨S_, .f32⟩
  | .hbm, ⟨46, _⟩ => ⟨S128x128, .f32⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S128x128, .i32⟩
  | .hbm, ⟨52, _⟩ => ⟨S128x128, .i1⟩
  | .hbm, ⟨53, _⟩ => ⟨S_, .f32⟩
  | .hbm, ⟨54, _⟩ => ⟨S128x128, .f32⟩
  | .hbm, ⟨55, _⟩ => ⟨S128x128, .f32⟩
  | .hbm, ⟨56, _⟩ => ⟨S1x128x128, .f32⟩
  | .hbm, ⟨57, _⟩ => ⟨S6x128x128, .f32⟩
  | .hbm, ⟨58, _⟩ => ⟨S6x128x128, .f32⟩
  | .hbm, ⟨59, _⟩ => ⟨S6x32x128x128, .f32⟩
  | .hbm, ⟨60, _⟩ => ⟨S32x128x6x128, .f32⟩
  | .hbm, ⟨61, _⟩ => ⟨S128x6, .f32⟩
  | .hbm, ⟨62, _⟩ => ⟨S1x128x6x1, .f32⟩
  | .hbm, ⟨63, _⟩ => ⟨S32x128x6x128, .f32⟩
  | .hbm, ⟨64, _⟩ => ⟨S32x128x6x128, .f32⟩
  | .hbm, ⟨65, _⟩ => ⟨S4096x768, .f32⟩
  | .hbm, ⟨66, _⟩ => ⟨S4096x768, .f32⟩
  | .hbm, ⟨67, _⟩ => ⟨S4096x768, .bf16⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_cst : Ref sig .tc := ⟨.hbm, 53, rfl⟩
abbrev main_call0_v5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== GmInDx.lean ====
abbrev S4096x1792 : Shape := ⟨2, ![4096, 1792]⟩
abbrev S1024x1792 : Shape := ⟨2, ![1024, 1792]⟩
abbrev S4096x1024 : Shape := ⟨2, ![4096, 1024]⟩
abbrev S1x1024 : Shape := ⟨2, ![1, 1024]⟩
abbrev S1792x1024 : Shape := ⟨2, ![1792, 1024]⟩
abbrev S1024x896 : Shape := ⟨2, ![1024, 896]⟩
abbrev S896x1024 : Shape := ⟨2, ![896, 1024]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1792, .bf16⟩
  | .hbm, ⟨1, _⟩ => ⟨S1024x1792, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1792x1024, .f32⟩
  | .hbm, ⟨6, _⟩ => ⟨S1792x1024, .bf16⟩
  | .hbm, ⟨7, _⟩ => ⟨S4096x1024, .f32⟩
  | .hbm, ⟨8, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S896x1024, .bf16⟩
  | .local _ .vmem, ⟨3, _⟩ => ⟨S896x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_19 : BitVec 32 := 0#32
  let c8_i32 : BitVec 32 := 8#32
  let v27 : BitVec 32 := Scalar.addi c0_i32_19 c8_i32
  let c1_i32_20 : BitVec 32 := 1#32
  ⟨c0_i32_19, v27, c1_i32_20⟩
def k0_mult1 (k0_t1 : Fin k0_t1_loop.trips) : BitVec 32 :=
  let c0_i32_19 : BitVec 32 := 0#32
  let c1_i32_20 : BitVec 32 := 1#32
  let arg11 : BitVec 32 := Scf.iv c0_i32_19 c1_i32_20 k0_t1
  let c128_i32 : BitVec 32 := 128#32
  let v31 : BitVec 32 := Scalar.muli arg11 c128_i32
  v31
def k0_off1 (k0_t1 : Fin k0_t1_loop.trips) : Fin 2 → Nat :=
  let c0_i32_19 : BitVec 32 := 0#32
  let c1_i32_20 : BitVec 32 := 1#32
  let arg11 : BitVec 32 := Scf.iv c0_i32_19 c1_i32_20 k0_t1
  let c128_i32 : BitVec 32 := 128#32
  let v31 : BitVec 32 := Scalar.muli arg11 c128_i32
  let v32 : BitVec 32 := v31
  let v33 : Index := Scalar.indexCast v32
  let c0_24 : Index := 0#32
  ![v33.toNat, 0]
def k0_cond4 (i : grid0.Coords) : BitVec 1 :=
  let arg0 : BitVec 32 := BitVec.ofNat 32 (i 0).val
  let c0_i32_10 : BitVec 32 := 0#32
  let v17 : BitVec 1 := Scalar.cmpi .eq arg0 c0_i32_10
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== GmInDxRefIdeal.lean ====
abbrev S4096x1792 : Shape := ⟨2, ![4096, 1792]⟩
abbrev S1024x1792 : Shape := ⟨2, ![1024, 1792]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S1024x1792, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1792, .f32⟩
  | .hbm, ⟨25, _⟩ => ⟨S4096x1792, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S2816x1024, .bf16⟩
  | .hbm, ⟨5, _⟩ => ⟨S4096x1024, .f32⟩
  | .hbm, ⟨6, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MemNormFwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormFwdRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== SmallSum.lean ====
abbrev S8x832x128 : Shape := ⟨3, ![8, 832, 128]⟩
abbrev S832x128 : Shape := ⟨2, ![832, 128]⟩
abbrev S8x208x128 : Shape := ⟨3, ![8, 208, 128]⟩
abbrev S208x128 : Shape := ⟨2, ![208, 128]⟩
abbrev S1x208x128 : Shape := ⟨3, ![1, 208, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x832x128, .f32⟩
  | .hbm, ⟨1, _⟩ => ⟨S832x128, .f32⟩
  | .local _ .vmem, ⟨0, _⟩ => ⟨S8x208x128, .f32⟩
  | .local _ .vmem, ⟨1, _⟩ => ⟨S8x208x128, .f32⟩
  | .local _ .vmem, ⟨2, _⟩ => ⟨S208x128, .f32⟩
  | .local _ .vmem, ⟨3, _⟩ => ⟨S208x128, .f32⟩
  | _, _ => ⟨S8x832x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SmallSumRefIdeal.lean ====
abbrev S8x832x128 : Shape := ⟨3, ![8, 832, 128]⟩
abbrev S_ : Shape := ⟨0, ![]⟩
abbrev S832x128 : Shape := ⟨2, ![832, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x832x128, .f32⟩
  | .hbm, ⟨1, _⟩ => ⟨S_, .f32⟩
  | .hbm, ⟨2, _⟩ => ⟨S832x128, .f32⟩
  | _, _ => ⟨S8x832x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamStep.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamStepRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OutProjDx.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemKv.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x512, .f32⟩
  | .hbm, ⟨2, _⟩ => ⟨S1024x512, .bf16⟩
  | .hbm, ⟨3, _⟩ => ⟨S256x512, .f32⟩
  | .local _ .vmem, ⟨0, _⟩ => ⟨S256x1024, .bf16⟩
  | .local _ .vmem, ⟨1, _⟩ => ⟨S1024x512, .bf16⟩
  | .local _ .vmem, ⟨2, _⟩ => ⟨S256x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x512, .f32⟩
  | .hbm, ⟨2, _⟩ => ⟨S256x1024, .f32⟩
  | .hbm, ⟨3, _⟩ => ⟨S256x512, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemKvDx.lean ====
abbrev S256x512 : Shape := ⟨2, ![256, 512]⟩
abbrev S1024x512 : Shape := ⟨2, ![1024, 512]⟩
abbrev S256x1024 : Shape := ⟨2, ![256, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S1024x512, .f32⟩
  | .hbm, ⟨2, _⟩ => ⟨S1024x512, .bf16⟩
  | .hbm, ⟨3, _⟩ => ⟨S256x1024, .f32⟩
  | .local _ .vmem, ⟨0, _⟩ => ⟨S256x512, .f32⟩
  | .local _ .vmem, ⟨1, _⟩ => ⟨S1024x512, .bf16⟩
  | .local _ .vmem, ⟨2, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvDxRefIdeal.lean ====
abbrev S256x512 : Shape := ⟨2, ![256, 512]⟩
abbrev S1024x512 : Shape := ⟨2, ![1024, 512]⟩
abbrev S512x1024 : Shape := ⟨2, ![512, 1024]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S1024x512, .f32⟩
  | .hbm, ⟨2, _⟩ => ⟨S512x1024, .f32⟩
  | .hbm, ⟨3, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== HgIn.lean ====
abbrev S4096x1024 : Shape := ⟨2, ![4096, 1024]⟩
abbrev S1024x3328 : Shape := ⟨2, ![1024, 3328]⟩
abbrev S3328x1024 : Shape := ⟨2, ![3328, 1024]⟩
abbrev S4096x3328 : Shape := ⟨2, ![4096, 3328]⟩
abbrev S1024x1024 : Shape := ⟨2, ![1024, 1024]⟩
abbrev S1664x1024 : Shape := ⟨2, ![1664, 1024]⟩
abbrev S1024x1664 : Shape := ⟨2, ![1024, 1664]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3328, .f32⟩
  | .hbm, ⟨2, _⟩ => ⟨S3328x1024, .f32⟩
  | .hbm, ⟨3, _⟩ => ⟨S3328x1024, .bf16⟩
  | .hbm, ⟨4, _⟩ => ⟨S4096x3328, .f32⟩
  | .local _ .vmem, ⟨0, _⟩ => ⟨S1024x1024, .bf16⟩
  | .local _ .vmem, ⟨1, _⟩ => ⟨S1024x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1664, .f32⟩
  | .local _ .vmem, ⟨5, _⟩ => ⟨S1024x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgInRefIdeal.lean ====
abbrev S4096x1024 : Shape := ⟨2, ![4096, 1024]⟩
abbrev S1024x3328 : Shape := ⟨2, ![1024, 3328]⟩
abbrev S4096x3328 : Shape := ⟨2, ![4096, 3328]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3328, .f32⟩
  | .hbm, ⟨2, _⟩ => ⟨S4096x1024, .f32⟩
  | .hbm, ⟨3, _⟩ => ⟨S4096x3328, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GmIn.lean ====
abbrev S4096x1024 : Shape := ⟨2, ![4096, 1024]⟩
abbrev S1024x1792 : Shape := ⟨2, ![1024, 1792]⟩
abbrev S1792x1024 : Shape := ⟨2, ![1792, 1024]⟩
abbrev S4096x1792 : Shape := ⟨2, ![4096, 1792]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1792, .f32⟩
  | .hbm, ⟨2, _⟩ => ⟨S1792x1024, .f32⟩
  | .hbm, ⟨3, _⟩ => ⟨S1792x1024, .bf16⟩
  | .hbm, ⟨4, _⟩ => ⟨S4096x1792, .f32⟩
  | .local _ .vmem, ⟨0, _⟩ => ⟨S1024x1024, .bf16⟩
  | .local _ .vmem, ⟨1, _⟩ => ⟨S1024x1024, .bf16⟩
  | .local _ .vmem, ⟨2, _⟩ => ⟨S1792x1024, .bf16⟩
  | .local _ .vmem, ⟨3, _⟩ => ⟨S1024x1792, .f32⟩
  | .local _ .vmem, ⟨4, _⟩ => ⟨S1024x1792, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInRefIdeal.lean ====
abbrev S4096x1024 : Shape := ⟨2, ![4096, 1024]⟩
abbrev S1024x1792 : Shape := ⟨2, ![1024, 1792]⟩
abbrev S4096x1792 : Shape := ⟨2, ![4096, 1792]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1792, .f32⟩
  | .hbm, ⟨2, _⟩ => ⟨S4096x1024, .f32⟩
  | .hbm, ⟨3, _⟩ => ⟨S4096x1792, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemKvDw.lean ====
abbrev S256x1024 : Shape := ⟨2, ![256, 1024]⟩
abbrev S256x512 : Shape := ⟨2, ![256, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S1024x512, .bf16⟩
  | .local _ .vmem, ⟨0, _⟩ => ⟨S256x1024, .bf16⟩
  | .local _ .vmem, ⟨1, _⟩ => ⟨S256x512, .f32⟩
  | .local _ .vmem, ⟨2, _⟩ => ⟨S1024x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvDwRefIdeal.lean ====
abbrev S256x1024 : Shape := ⟨2, ![256, 1024]⟩
abbrev S256x512 : Shape := ⟨2, ![256, 512]⟩
abbrev S1024x256 : Shape := ⟨2, ![1024, 256]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S256x1024, .f32⟩
  | .hbm, ⟨3, _⟩ => ⟨S1024x256, .f32⟩
  | .hbm, ⟨4, _⟩ => ⟨S1024x512, .f32⟩
  | .hbm, ⟨5, _⟩ => ⟨S1024x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProjDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutProjDwRefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x1024, .f32⟩
  | .hbm, ⟨5, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnOutDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S2816x4096, .f32⟩
  | .hbm, ⟨4, _⟩ => ⟨S2816x1024, .f32⟩
  | .hbm, ⟨5, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GmInDw.lean ====
abbrev S4096x1792 : Shape := ⟨2, ![4096, 1792]⟩
abbrev S4096x1024 : Shape := ⟨2, ![4096, 1024]⟩
abbrev S1792x1024 : Shape := ⟨2, ![1792, 1024]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .bf16⟩
  | .hbm, ⟨2, _⟩ => ⟨S1792x1024, .bf16⟩
  | .local _ .vmem, ⟨0, _⟩ => ⟨S1024x896, .bf16⟩
  | .local _ .vmem, ⟨1, _⟩ => ⟨S1024x896, .bf16⟩
  | .local _ .vmem, ⟨2, _⟩ => ⟨S1024x1024, .bf16⟩
  | .local _ .vmem, ⟨3, _⟩ => ⟨S1024x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInDwRefIdeal.lean ====
abbrev S4096x1792 : Shape := ⟨2, ![4096, 1792]⟩
abbrev S4096x1024 : Shape := ⟨2, ![4096, 1024]⟩
abbrev S1792x4096 : Shape := ⟨2, ![1792, 4096]⟩
abbrev S1792x1024 : Shape := ⟨2, ![1792, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .bf16⟩
  | .hbm, ⟨2, _⟩ => ⟨S4096x1792, .f32⟩
  | .hbm, ⟨3, _⟩ => ⟨S1792x4096, .f32⟩
  | .hbm, ⟨4, _⟩ => ⟨S4096x1024, .f32⟩
  | .hbm, ⟨5, _⟩ => ⟨S1792x1024, .f32⟩
  | .hbm, ⟨6, _⟩ => ⟨S1792x1024, .bf16⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== HgInDw.lean ====
abbrev S4096x3328 : Shape := ⟨2, ![4096, 3328]⟩
abbrev S4096x1024 : Shape := ⟨2, ![4096, 1024]⟩
abbrev S3328x1024 : Shape := ⟨2, ![3328, 1024]⟩
abbrev S1024x1664 : Shape := ⟨2, ![1024, 1664]⟩
abbrev S1024x1024 : Shape := ⟨2, ![1024, 1024]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3328, .bf16⟩
  | .hbm, ⟨1, _⟩ => ⟨S4096x1024, .bf16⟩
  | .hbm, ⟨2, _⟩ => ⟨S3328x1024, .bf16⟩
  | .local _ .vmem, ⟨0, _⟩ => ⟨S1024x1664, .bf16⟩
  | .local _ .vmem, ⟨1, _⟩ => ⟨S1024x1664, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgInDwRefIdeal.lean ====
abbrev S4096x3328 : Shape := ⟨2, ![4096, 3328]⟩
abbrev S4096x1024 : Shape := ⟨2, ![4096, 1024]⟩
abbrev S3328x4096 : Shape := ⟨2, ![3328, 4096]⟩
abbrev S3328x1024 : Shape := ⟨2, ![3328, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3328, .bf16⟩
  | .hbm, ⟨1, _⟩ => ⟨S4096x1024, .bf16⟩
  | .hbm, ⟨2, _⟩ => ⟨S4096x3328, .f32⟩
  | .hbm, ⟨3, _⟩ => ⟨S3328x4096, .f32⟩
  | .hbm, ⟨4, _⟩ => ⟨S4096x1024, .f32⟩
  | .hbm, ⟨5, _⟩ => ⟨S3328x1024, .f32⟩
  | .hbm, ⟨6, _⟩ => ⟨S3328x1024, .bf16⟩
  | _, _ => ⟨S4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnInDw.lean ====
abbrev S2x4096x2816 : Shape := ⟨3, ![2, 4096, 2816]⟩
abbrev S4096x1024 : Shape := ⟨2, ![4096, 1024]⟩
abbrev S5632x1024 : Shape := ⟨2, ![5632, 1024]⟩
abbrev S1x1024x1408 : Shape := ⟨3, ![1, 1024, 1408]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S5632x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S2x4096x2816 : Shape := ⟨3, ![2, 4096, 2816]⟩
abbrev S4096x1024 : Shape := ⟨2, ![4096, 1024]⟩
abbrev S2x2816x1024 : Shape := ⟨3, ![2, 2816, 1024]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x4096x2816, .f32⟩
  | .hbm, ⟨3, _⟩ => ⟨S4096x1024, .f32⟩
  | .hbm, ⟨4, _⟩ => ⟨S2x2816x1024, .f32⟩
  | .hbm, ⟨5, _⟩ => ⟨S5632x1024, .f32⟩
  | .hbm, ⟨6, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Lift.lean ====
/-
  Finite extended reals as reals: what a finiteness precondition gives, and how each scalar operation of the ideal
  instance acts on coerced reals, so that an equation of two programs becomes an equation in ℝ.
-/
module

public import Idealize.ShloMosaic.Lib.Pointwise
public import Idealize.ShloMosaic.Lib.ReduceAll
public import Idealize.ShloMosaic.PureOps.Ideal

@[expose] public section

noncomputable section

namespace Cert.Lift

open Idealize.ShloMosaic

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_real {a b : ℝ} (h : b ≠ 0) : Ideal.div (a : EReal) (b : EReal) = ((a / b : ℝ) : EReal) := by
  rw [Ideal.div_coe h, ← EReal.coe_mul, mul_one_div]

theorem rsqrt_real {r : ℝ} (h : 0 < r) : Ideal.rsqrt (r : EReal) = (((Real.sqrt r)⁻¹ : ℝ) : EReal) := by
  rw [Ideal.rsqrt_coe, if_neg (not_lt.2 h.le), if_neg h.ne']

/-- The norms' and the layer norm's `1e-6`, as the single-precision pattern spells it. -/
def eps : ℝ := 8796093 / 8796093022208

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = (((1 / 2) : ℝ) : EReal) := by
  simp [Ideal.ofBits, Ideal.ieee, -EReal.coe_mul]; norm_num

theorem ofBits_inf : Ideal.ofBits .f32 0x7F800000#32 = ⊤ := by simp [Ideal.ofBits, Ideal.ieee]

theorem ofBits_neg_inf : Ideal.ofBits .f32 0xFF800000#32 = ⊥ := by simp [Ideal.ofBits, Ideal.ieee]

theorem real_of_abs_lt {x : EReal} (h : max x (-x) < ⊤) : ∃ r : ℝ, x = r := by
  induction x using EReal.rec with
  | bot => simp at h
  | top => simp at h
  | coe r => exact ⟨r, rfl⟩

/-- A mean of squares plus the epsilon is positive. -/
theorem ms_pos {n : ℕ} (x : Fin n → ℝ) (N : ℝ) (hN : 0 < N) : 0 < (∑ k, x k * x k) / N + eps :=
  add_pos_of_nonneg_of_pos (div_nonneg (Finset.sum_nonneg fun k _ => mul_self_nonneg _) hN.le) eps_pos

/-- `jnp.all (jnp.abs x < inf)` of an array: every element is a real. -/
theorem all_finite {s t u : Shape} {axes : List (Fin s.rank)} [Subsingleton t.Idx] (x : FVec Ideal s .f32)
    (hb : (⟨0, ![]⟩ : Shape).BroadcastsInDim s ![]) (init : u.Idx → BitVec 1) (h : s.ReducesTo axes t)
    (hu : 0 < u.numel) (j : t.Idx)
    (e : Host.reduce IntOp.andi (cmpf .olt (Host.absf x) (broadcastInDim s ![] hb (constant ⟨0, ![]⟩ .f32 0x7F800000#32)))
      init h hu j = 1#1) : ∃ f : s.Idx → ℝ, x = fun i => ((f i : ℝ) : EReal) := by
  have hx : ∀ i, ∃ r : ℝ, x i = r := fun i => by
    have h1 := Host.reduce_andi_all _ init h hu j e i
    refine real_of_abs_lt ?_
    pointwise at h1
    rw [ofBits_inf] at h1
    by_contra hn
    have h2 : Ideal.cmp .olt (max (x i) (-x i)) ⊤ = 1#1 := h1
    simp only [Ideal.cmp, decide_eq_false hn] at h2
    exact absurd h2 (by decide)
  choose f hf using hx
  exact ⟨f, funext hf⟩

/-- The mean of squares plus the epsilon, as both programs spell it, of reals. -/
theorem ms_real {n : ℕ} (x : Fin n → ℝ) :
    Ideal.div (∑ k, ((x k : ℝ) : EReal) * ((x k : ℝ) : EReal)) (Ideal.ofBits .f32 0x44800000#32)
      + Ideal.ofBits .f32 0x358637BD#32 = (((∑ k, x k * x k) / 1024 + eps : ℝ) : EReal) := by
  simp only [← EReal.coe_mul, coe_sum, ofBits_1024, ofBits_eps]
  rw [div_real (by norm_num), ← EReal.coe_add]

/-- The norm's gradient of one row: the product form of the kernel is the derivative of the norm. `r` is the row's
    `1/√(mean + ε)`. -/
theorem norm_dx {n : ℕ} (x h : Fin n → ℝ) (k : Fin n) :
    (Ideal.rsqrt (Ideal.div (∑ k, ((x k : ℝ) : EReal) * ((x k : ℝ) : EReal)) (Ideal.ofBits .f32 0x44800000#32)
        + Ideal.ofBits .f32 0x358637BD#32)) *
      (((h k : ℝ) : EReal) - ((x k : ℝ) : EReal) *
        (Ideal.rsqrt (Ideal.div (∑ k, ((x k : ℝ) : EReal) * ((x k : ℝ) : EReal)) (Ideal.ofBits .f32 0x44800000#32)
          + Ideal.ofBits .f32 0x358637BD#32)) *
        Ideal.div (∑ j, ((h j : ℝ) : EReal) * (((x j : ℝ) : EReal) *
          (Ideal.rsqrt (Ideal.div (∑ k, ((x k : ℝ) : EReal) * ((x k : ℝ) : EReal)) (Ideal.ofBits .f32 0x44800000#32)
            + Ideal.ofBits .f32 0x358637BD#32)))) (Ideal.ofBits .f32 0x44800000#32)) =
    ((h k : ℝ) : EReal) * (Ideal.rsqrt (Ideal.div (∑ k, ((x k : ℝ) : EReal) * ((x k : ℝ) : EReal))
        (Ideal.ofBits .f32 0x44800000#32) + Ideal.ofBits .f32 0x358637BD#32)) +
      ((x k : ℝ) : EReal) * Ideal.div ((∑ j, ((x j : ℝ) : EReal) * ((h j : ℝ) : EReal)) *
        (Ideal.ofBits .f32 0xBF000000#32 * Ideal.div
          (Ideal.rsqrt (Ideal.div (∑ k, ((x k : ℝ) : EReal) * ((x k : ℝ) : EReal)) (Ideal.ofBits .f32 0x44800000#32)
            + Ideal.ofBits .f32 0x358637BD#32))
          (Ideal.div (∑ k, ((x k : ℝ) : EReal) * ((x k : ℝ) : EReal)) (Ideal.ofBits .f32 0x44800000#32)
            + Ideal.ofBits .f32 0x358637BD#32))) (Ideal.ofBits .f32 0x44800000#32) +
      Ideal.div ((∑ j, ((x j : ℝ) : EReal) * ((h j : ℝ) : EReal)) *
        (Ideal.ofBits .f32 0xBF000000#32 * Ideal.div
          (Ideal.rsqrt (Ideal.div (∑ k, ((x k : ℝ) : EReal) * ((x k : ℝ) : EReal)) (Ideal.ofBits .f32 0x44800000#32)
            + Ideal.ofBits .f32 0x358637BD#32))
          (Ideal.div (∑ k, ((x k : ℝ) : EReal) * ((x k : ℝ) : EReal)) (Ideal.ofBits .f32 0x44800000#32)
            + Ideal.ofBits .f32 0x358637BD#32))) (Ideal.ofBits .f32 0x44800000#32) * ((x k : ℝ) : EReal) := by
  have hp := ms_pos x 1024 (by norm_num)
  rw [ms_real x, rsqrt_real hp, ofBits_1024, ofBits_neg_half, div_real hp.ne']
  generalize hmdef : (∑ k, x k * x k) / 1024 + eps = m' at hp ⊢
  simp only [← EReal.coe_mul, coe_sum]
  rw [div_real (by norm_num), div_real (by norm_num)]
  simp only [← EReal.coe_mul, ← EReal.coe_add, ← EReal.coe_sub]
  congr 1
  have hs : (Real.sqrt m')⁻¹ * (Real.sqrt m')⁻¹ = m'⁻¹ := by
    rw [← mul_inv, Real.mul_self_sqrt hp.le]
  generalize (Real.sqrt m')⁻¹ = r at hs ⊢
  have h1 : ∑ j, h j * (x j * r) = r * ∑ j, x j * h j := by
    rw [Finset.mul_sum]; exact Finset.sum_congr rfl fun j _ => by ring
  rw [h1, div_eq_mul_inv r m', ← hs]
  ring

end Cert.Lift

end
-- ==== Proof.MemNorm.lean ====
/-
  `mem_norm_bwd`: the norm's gradient over one block of 256 rows is the derivative of the norm.
-/
module

public import proofs.«01_k».proof.Proof.Gen.MemNormBwdIdeal.Value
public import proofs.«01_k».proof.Proof.Gen.MemNormBwdRefIdeal.Run
public import proofs.«01_k».proof.Proof.Gen.MemNormBwdRefIdeal.Read
public import proofs.«01_k».proof.Proof.Gen.Pre_mem_norm_bwd_pre
public import proofs.«01_k».proof.Proof.Lift
public import Idealize.ShloMosaic.Lib.Pipeline.ValueKit
public import Idealize.ShloMosaic.Lib.Claim
public import proofs.«01_k».proof.Defs

@[expose] public section

set_option maxRecDepth 16384

noncomputable section

namespace Cert.MemNorm

open Idealize.ShloMosaic Idealize.ShloMosaic.TcCoe Idealize.SL.Sem
open Idealize.ShloMosaic.Pipeline (Dat)

section Kernel
open Cert.MemNormBwdIdeal Cert.MemNormBwdIdeal.Gen

variable (m : (ℓ : Loc nD τ sig) → Buf (Elt Ideal) ℓ)

theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] :=
  (by decide +kernel : ∀ t : Fin grid0.N, _)

/-- What the call stores in its first result, of the arguments. -/
def dx (x : FVec Ideal S256x1024 .f32) (g : FVec Ideal S1x1024 .f32) (dh dres : FVec Ideal S256x1024 .f32) :
    FVec Ideal S256x1024 .f32 := k0_pay5 x dh g dres

/-- … and in its second. -/
def dg (x : FVec Ideal S256x1024 .f32) (dh : FVec Ideal S256x1024 .f32) :
    FVec Ideal S1x1024 .f32 := k0_pay4 x dh (k0_pay1 (F := Ideal))

theorem final_dx (c : Dev nD) : (dats m 0 c).arrAt 4 (cfgs 0).N =
    dx (m ((c : Thread nD τ).loc main_arg0)) (m ((c : Thread nD τ).loc main_arg1))
      (m ((c : Thread nD τ).loc main_arg2)) (m ((c : Thread nD τ).loc main_arg3)) := by
  refine (dats m 0 c).arrAt_eq_of_after_last 4 t0_0 (by decide +kernel) _ fun j => ?_
  blk_simp
  rw [after0_4, outsAt0]
  frame_out
  idx_vars j
  pointwise [dx, dg, k0_pay5, k0_pay4, k0_pay3, k0_pay2, k0_pay1]
  blk_point [iblk, V, idx t0_0]

theorem final_dg (c : Dev nD) : (dats m 0 c).arrAt 5 (cfgs 0).N =
    dg (m ((c : Thread nD τ).loc main_arg0)) (m ((c : Thread nD τ).loc main_arg2)) := by
  refine (dats m 0 c).arrAt_eq_of_after_last 5 t0_0 (by decide +kernel) _ fun j => ?_
  blk_simp
  rw [after0_5, outsAt0]
  frame_out
  idx_vars j
  pointwise [dx, dg, k0_pay5, k0_pay4, k0_pay3, k0_pay2, k0_pay1]
  blk_point [iblk, V, idx t0_0]
end Kernel

section Pure
open Cert.MemNormBwdRefIdeal.Read Cert.MemNormBwdIdeal Cert.MemNormBwdIdeal.Gen

theorem pure_dx (x : FVec Ideal S256x1024 .f32) (g : FVec Ideal S1x1024 .f32) (dh dres : FVec Ideal S256x1024 .f32)
    (xr : S256x1024.Idx → ℝ) (gr : S1x1024.Idx → ℝ) (hr : S256x1024.Idx → ℝ)
    (hx : x = fun i => ((xr i : ℝ) : EReal)) (hg : g = fun i => ((gr i : ℝ) : EReal))
    (hh : dh = fun i => ((hr i : ℝ) : EReal)) (j : S256x1024.Idx) :
    dx x g dh dres j = val_main_v34 (F := Ideal) x g dh dres j := by
  idx_vars j
  pointwise [dx, k0_pay5, k0_pay3, k0_pay2, val_main_v34, val_main_v33, val_main_v32, val_main_v31, val_main_v30,
    val_main_v29, val_main_v28, val_main_cst_6, val_main_v27, val_main_v26, val_main_cst_5, val_main_v25,
    val_main_v24, val_main_v23, val_main_v22, val_main_v21, val_main_cst_4, val_main_v20, val_main_v19,
    val_main_v18, val_main_v10, val_main_v9, val_main_cst_2, val_main_v8, val_main_v7, val_main_v6, val_main_v5,
    val_main_cst_1, val_main_v4, val_main_v3, val_main_cst_0, val_main_v2, val_main_v1, val_main_cst, val_main_v0]
  subst hx hg hh
  simp only [Fin.sum_univ_one, Finset.sum_const, Finset.card_univ, Fintype.card_fin, one_smul, ← EReal.coe_mul]
  refine congrArg (dres (ix2 j0 j1) + ·) ?_
  have key := Lift.norm_dx (fun k => xr (ix2 j0 k)) (fun k => hr (ix2 j0 k) * gr (ix2 0 k)) j1
  simp only [← EReal.coe_mul] at key
  exact key

theorem pure_dg (x dh : FVec Ideal S256x1024 .f32) (j : S1x1024.Idx) :
    dg x dh j = val_main_v17 (F := Ideal) x dh j := by
  idx_vars j
  pointwise [dg, k0_pay4, k0_pay1, k0_pay3, k0_pay2, val_main_v17, val_main_v16, val_main_v15, val_main_v12,
    val_main_v11, val_main_v10, val_main_v9, val_main_cst_2, val_main_v8, val_main_v7, val_main_v6, val_main_v5,
    val_main_cst_3, val_main_cst_1, val_main_v4, val_main_v3, val_main_cst_0, val_main_v2, val_main_v1, val_main_cst, val_main_v0]
  exact Finset.sum_congr rfl fun _ _ => mul_comm _ _
end Pure

/-- The precondition: the rows, the gain and the rows' cotangent are finite. -/
theorem pre {x : FVec Ideal Pre_mem_norm_bwd_pre.S256x1024 .f32} {g : FVec Ideal Pre_mem_norm_bwd_pre.S1x1024 .f32}
    {dh dres : FVec Ideal Pre_mem_norm_bwd_pre.S256x1024 .f32} (h : Pre_mem_norm_bwd_pre.fn x g dh dres = fun _ => 1#1) :
    (∃ f : Pre_mem_norm_bwd_pre.S256x1024.Idx → ℝ, x = fun i => ((f i : ℝ) : EReal)) ∧
    (∃ f : Pre_mem_norm_bwd_pre.S1x1024.Idx → ℝ, g = fun i => ((f i : ℝ) : EReal)) ∧
    ∃ f : Pre_mem_norm_bwd_pre.S256x1024.Idx → ℝ, dh = fun i => ((f i : ℝ) : EReal) := by
  have h0 := congrFun h (fun i => i.elim0)
  obtain ⟨h12, h3⟩ := IntOp.andi_eq_one.1 h0
  obtain ⟨h1, h2⟩ := IntOp.andi_eq_one.1 h12
  exact ⟨Lift.all_finite _ _ _ _ _ _ h1, Lift.all_finite _ _ _ _ _ _ h2, Lift.all_finite _ _ _ _ _ _ h3⟩

section Reference
open Cert.MemNormBwdRefIdeal Cert.MemNormBwdRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v34) = val_main_v34 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v17) = val_main_v17 (F := Ideal) (m ((c.tc : Thread nD τ).loc main_arg0))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c).1.trans (val_main_v34_eq _ _ _ _), (h c).2.1.trans (val_main_v17_eq _ _),
    (h c).2.2⟩, sem_eq_zero_of_no_sems (by decide) r.2⟩) (Value.run m ρ)
end Reference

theorem frame_ref : Cert.quiescent_MemNormBwdRefIdeal := fun m g _ =>
  (θ_run Cert.MemNormBwdRefIdeal.defs _ _).mono (fun _ h => ⟨fun c => (h.1 c).2.2, h.2⟩) (run_ref m g)

theorem frame_ref_pre : Cert.quiescent_MemNormBwdRefIdeal_pre_mem_norm_bwd_pre := fun m g _ => frame_ref m g trivial

theorem algebraic : Cert.algebraic_MemNormBwdIdeal_MemNormBwdRefIdeal_pre_mem_norm_bwd_pre := by
  pair_intro
  · run_from Cert.MemNormBwdIdeal.Gen.run_main m g
  · refine (θ_run Cert.MemNormBwdRefIdeal.defs _ _).mono (fun r h c => ?_) (run_ref m' g')
    obtain ⟨h0, h1, h2⟩ := h.1 c
    obtain ⟨e0, e1, e2, e3⟩ := hagree c
    obtain ⟨⟨xr, hx⟩, ⟨gr, hg⟩, ⟨hr, hh⟩⟩ := pre (hpre c)
    refine ⟨h0.trans ?_, h1.trans ?_, h2⟩
    · rw [e0, e1, e2, e3, final_dx m c]
      exact funext fun j => (pure_dx _ _ _ _ xr gr hr hx hg hh j).symm
    · rw [e0, e2, final_dg m c]
      exact funext fun j => (pure_dg _ _ j).symm

end Cert.MemNorm

end
-- ==== Proof.Heads.lean ====
/-
  Cross attention of four heads of width 64 over 256 memory slots, one query row at a time, over the extended reals:
  the probabilities, the gradient of the scores in the kernel's product form and in the derivative's form, and that the
  two agree on reals. A masked product over all 256 columns is the product over one head's columns.
-/
module

public import proofs.«01_k».proof.Proof.Lift
public import Idealize.ShloMosaic.Lib.Pipeline.ValueKit
public import Idealize.ShloMosaic.PureOps.Reduce

@[expose] public section

noncomputable section

namespace Cert.Heads

open Idealize.ShloMosaic

/-- The head of a column. -/
def hd (j : Fin 256) : Fin 4 := ⟨j.val / 64, by omega⟩

/-- Column `d` of head `h`. -/
def col (h : Fin 4) (d : Fin 64) : Fin 256 := ⟨h.val * 64 + d.val, by omega⟩

theorem hd_col (h : Fin 4) (d : Fin 64) : hd (col h d) = h := by
  apply Fin.ext
  simp only [hd, col]
  omega

/-- The mask of head `h` at column `j`. -/
def mk (h : Fin 4) (j : Fin 256) : BitVec 1 := if hd j = h then 1#1 else 0#1

theorem select_mk (h : Fin 4) (j : Fin 256) (a b : EReal) : Scalar.select (mk h j) a b = if hd j = h then a else b := by
  unfold mk
  split <;> simp [Scalar.select]

theorem mask_sum (h : Fin 4) (f : Fin 256 → EReal) :
    ∑ x, Scalar.select (mk h x) (f x) 0 = ∑ d : Fin 64, f (col h d) := by
  simp only [select_mk]
  rw [← Fin.sum_mul_add_fin 4 64 (fun x : Fin 256 => if hd x = h then f x else 0) rfl]
  rw [Finset.sum_eq_single h]
  · exact Finset.sum_congr rfl fun d _ => if_pos (hd_col h d)
  · exact fun b _ hb => Finset.sum_eq_zero fun d _ => if_neg (by
      have := hd_col b d
      unfold col at this
      rw [this]; exact hb)
  · exact fun hn => absurd (Finset.mem_univ h) hn

/-- The scale `1/8` of the scores. -/
def c8 : EReal := Ideal.ofBits .f32 0x3E000000#32

theorem c8_real : c8 = (((1 / 8) : ℝ) : EReal) := by
  unfold c8
  simp [Ideal.ofBits, Ideal.ieee, -EReal.coe_mul]; norm_num

/-- The scaled scores of one query row at head `h`. -/
def score (q : Fin 256 → EReal) (k : Fin 256 → Fin 256 → EReal) (h : Fin 4) (n : Fin 256) : EReal :=
  (∑ d : Fin 64, q (col h d) * k n (col h d)) * c8

/-- The largest score. -/
def rmax (s : Fin 256 → EReal) : EReal := Finset.fold max ⊥ s Finset.univ

/-- The softmax of a row of scores. -/
def prob (s : Fin 256 → EReal) (n : Fin 256) : EReal :=
  Ideal.div (Ideal.exp (s n - rmax s)) (∑ x, Ideal.exp (s x - rmax s))

/-- The cotangent of the probabilities of one query row at head `h`. -/
def cot (o : Fin 256 → EReal) (v : Fin 256 → Fin 256 → EReal) (h : Fin 4) (n : Fin 256) : EReal :=
  ∑ d : Fin 64, o (col h d) * v n (col h d)

/-- The gradient of the scores, in the kernel's product form. -/
def dscore (s g : Fin 256 → EReal) (n : Fin 256) : EReal :=
  prob s n * (g n - ∑ x, g x * prob s x) * c8

/-- The gradient of the scores, in the derivative's form: through the quotient, then through the exponential. -/
def dscoreD (s g : Fin 256 → EReal) (n : Fin 256) : EReal :=
  (Ideal.div (g n) (∑ x, Ideal.exp (s x - rmax s)) +
    -(∑ x, g x * Ideal.div (Ideal.ofBits .f32 0x3F800000#32)
        ((∑ x, Ideal.exp (s x - rmax s)) * ∑ x, Ideal.exp (s x - rmax s)) * Ideal.exp (s x - rmax s))) *
    Ideal.exp (s n - rmax s) * c8

/-- The largest of finitely many reals is a real. -/
theorem rmax_real (s : Fin 256 → ℝ) : ∃ M : ℝ, rmax (fun n => ((s n : ℝ) : EReal)) = M := by
  have key : ∀ t : Finset (Fin 256), (∃ M : ℝ, Finset.fold max ⊥ (fun n => ((s n : ℝ) : EReal)) t = M) ∨ t = ∅ := by
    intro t
    induction t using Finset.induction_on with
    | empty => exact Or.inr rfl
    | insert a t ha ih =>
      left
      rw [Finset.fold_insert ha]
      rcases ih with ⟨M, hM⟩ | h0
      · exact ⟨max (s a) M, by rw [hM]; exact (EReal.coe_strictMono.monotone.map_max).symm⟩
      · exact ⟨s a, by rw [h0, Finset.fold_empty, max_bot_right]⟩
  rcases key Finset.univ with h | h
  · exact h
  · exact absurd (Finset.mem_univ (0 : Fin 256)) (by rw [h]; exact Finset.notMem_empty _)

/-- On reals the product form is the derivative. -/
theorem dscore_eq (s g : Fin 256 → ℝ) (n : Fin 256) :
    dscore (fun n => ((s n : ℝ) : EReal)) (fun n => ((g n : ℝ) : EReal)) n =
      dscoreD (fun n => ((s n : ℝ) : EReal)) (fun n => ((g n : ℝ) : EReal)) n := by
  obtain ⟨M, hM⟩ := rmax_real s
  unfold dscore dscoreD prob
  rw [hM, c8_real]
  simp only [← EReal.coe_sub, Ideal.exp_coe, Lift.coe_sum]
  have hZ : 0 < ∑ x, Real.exp (s x - M) := Finset.sum_pos (fun _ _ => Real.exp_pos _) ⟨0, Finset.mem_univ _⟩
  generalize (∑ x, Real.exp (s x - M)) = Z at hZ ⊢
  have h1 : Ideal.ofBits .f32 0x3F800000#32 = ((1 : ℝ) : EReal) := by
    simp [Ideal.ofBits, Ideal.ieee, -EReal.coe_mul]; norm_num
  rw [h1]
  simp only [← EReal.coe_mul, Lift.div_real hZ.ne', Lift.div_real (mul_pos hZ hZ).ne', Lift.coe_sum, ← EReal.coe_sub,
    ← EReal.coe_neg, ← EReal.coe_add]
  congr 1
  have e1 : ∑ x, g x * (Real.exp (s x - M) / Z) = (∑ x, g x * Real.exp (s x - M)) / Z := by
    rw [Finset.sum_div]; exact Finset.sum_congr rfl fun _ _ => by ring
  have e2 : ∑ x, g x * (1 / (Z * Z)) * Real.exp (s x - M) = (∑ x, g x * Real.exp (s x - M)) / (Z * Z) := by
    rw [Finset.sum_div]; exact Finset.sum_congr rfl fun _ _ => by ring
  rw [e1, e2]
  field_simp
  ring

/-- Scores of real queries and keys are real. -/
theorem score_real (q : Fin 256 → ℝ) (k : Fin 256 → Fin 256 → ℝ) (h : Fin 4) :
    ∃ s : Fin 256 → ℝ, score (fun j => ((q j : ℝ) : EReal)) (fun n j => ((k n j : ℝ) : EReal)) h = fun n => ((s n : ℝ) : EReal) := by
  refine ⟨fun n => (∑ d : Fin 64, q (col h d) * k n (col h d)) * (1 / 8), funext fun n => ?_⟩
  unfold score
  rw [c8_real]
  simp only [← EReal.coe_mul, Lift.coe_sum]

theorem cot_real (o : Fin 256 → ℝ) (v : Fin 256 → Fin 256 → ℝ) (h : Fin 4) :
    ∃ s : Fin 256 → ℝ, cot (fun j => ((o j : ℝ) : EReal)) (fun n j => ((v n j : ℝ) : EReal)) h = fun n => ((s n : ℝ) : EReal) := by
  refine ⟨fun n => ∑ d : Fin 64, o (col h d) * v n (col h d), funext fun n => ?_⟩
  unfold cot
  simp only [← EReal.coe_mul, Lift.coe_sum]

/-- The product form is the derivative at real rows. -/
theorem dscore_rows (q o : Fin 256 → ℝ) (k v : Fin 256 → Fin 256 → ℝ) (h : Fin 4) (n : Fin 256) :
    dscore (score (fun j => ((q j : ℝ) : EReal)) (fun n j => ((k n j : ℝ) : EReal)) h)
        (cot (fun j => ((o j : ℝ) : EReal)) (fun n j => ((v n j : ℝ) : EReal)) h) n =
      dscoreD (score (fun j => ((q j : ℝ) : EReal)) (fun n j => ((k n j : ℝ) : EReal)) h)
        (cot (fun j => ((o j : ℝ) : EReal)) (fun n j => ((v n j : ℝ) : EReal)) h) n := by
  obtain ⟨s, hs⟩ := score_real q k h
  obtain ⟨g, hg⟩ := cot_real o v h
  rw [hs, hg, dscore_eq]

theorem sum_select {n : ℕ} (b : BitVec 1) (f : Fin n → EReal) :
    ∑ x, Scalar.select b (f x) 0 = Scalar.select b (∑ x, f x) 0 := by
  unfold Scalar.select
  split <;> simp

/-- Four masked terms added up are the term of the column's own head. -/
theorem four (j : Fin 256) (f : Fin 4 → EReal) :
    Scalar.select (mk 0 j) (f 0) 0 + Scalar.select (mk 1 j) (f 1) 0 + Scalar.select (mk 2 j) (f 2) 0 +
      Scalar.select (mk 3 j) (f 3) 0 = f (hd j) := by
  simp only [select_mk]
  generalize hd j = h
  fin_cases h <;> simp

/-- A maximum over the last axis, at an index. -/
theorem max_at {A n B : ℕ} (w : FVec Ideal ⟨3, ![A, n, B]⟩ .f32) (z : FVec Ideal ⟨0, ![]⟩ .f32)
    (h' : Shape.ReducesTo ⟨3, ![A, n, B]⟩ [2] ⟨2, ![A, n]⟩) (hr : Shape.Reduces ⟨3, ![A, n, B]⟩ [2] ⟨2, ![A, n]⟩)
    (hu : 0 < (⟨0, ![]⟩ : Shape).numel) (h : Fin A) (r : Fin n) :
    Host.reduce FloatOps.maximumf w z h' hu (ix2 h r) =
      Finset.fold max (z (Shape.Idx.first hu)) (fun k : Fin B => w (ix3 h r k)) Finset.univ := by
  have hl : ∀ k : Fin (Shape.size ⟨3, ![A, n, B]⟩ 2), hr.lift (ix2 h r) k = ix3 h r k := fun k => by
    funext b
    refine Fin.ext ((hr.lift_val (ix2 h r) k b).trans ?_)
    fin_cases b <;> rfl
  have e : w ∘ hr.lift (ix2 h r) = fun k => w (ix3 h r k) := funext fun k => congrArg w (hl k)
  exact (Host.reduce_eq_fold_single FloatOps.maximumf w z h' hr hu (ix2 h r)).trans (by rw [e]; rfl)

theorem col_divmod (j : Fin 256) : col ⟨j.val / 64, by omega⟩ ⟨j.val % 64, Nat.mod_lt _ (by norm_num)⟩ = j := by
  apply Fin.ext
  simp only [col]
  omega

end Cert.Heads

end
-- ==== Proof.AttnPay.lean ====
/-
  What one block of `attn_bwd1` computes, element by element: each head's probabilities and score gradients, and the
  three results with their four masked terms added up.
-/
module

public import proofs.«01_k».proof.Proof.Gen.AttnBwdIdeal.Value
public import proofs.«01_k».proof.Proof.Heads
public import Idealize.ShloMosaic.Lib.Pipeline.ValueKit

@[expose] public section

set_option maxRecDepth 16384

noncomputable section

namespace Cert.AttnPay

open Idealize.ShloMosaic Idealize.ShloMosaic.TcCoe Idealize.SL.Sem Cert.Heads
open Cert.AttnBwdIdeal Cert.AttnBwdIdeal.Gen

/-- The column numbers of a row of 256. -/
abbrev I : IVec S1x256 32 := iota Kind.tc S1x256 32 [1] iota_S1x256_d1_w32

theorem m0 (k : Fin 256) : k0_pay10 (ix2 0 k) = mk 0 k := by
  pointwise [k0_pay10, mk, hd]; revert k; decide
theorem m1 (k : Fin 256) : k0_pay18 I k0_pay17 128#32 (ix2 0 k) = mk 1 k := by
  pointwise [k0_pay18, k0_pay17, mk, hd]; revert k; decide
theorem m2 (k : Fin 256) : k0_pay26 (ix2 0 k) = mk 2 k := by
  pointwise [k0_pay26, mk, hd]; revert k; decide
theorem m3 (k : Fin 256) : k0_pay35 I k0_pay34 (ix2 0 k) = mk 3 k := by
  pointwise [k0_pay35, k0_pay34, mk, hd]; revert k; decide

variable (q : Vec Ideal S2048x256 .f32) (k v : Vec Ideal S256x256 .f32) (o : Vec Ideal S2048x256 .f32)

/-- Row `r` of a block. -/
abbrev row (r : Fin 2048) : Fin 256 → EReal := fun j => q (ix2 r j)
/-- A block by rows. -/
abbrev mat : Fin 256 → Fin 256 → EReal := fun n j => k (ix2 n j)

theorem p0 (r : Fin 2048) (n : Fin 256) : k0_pay11 q k (ix2 r n) = prob (score (row q r) (mat k) 0) n := by
  pointwise [k0_pay11, k0_pay6]
  simp only [m0, mask_sum, Lift.ofBits_neg_inf]
  rfl
theorem p1 (r : Fin 2048) (n : Fin 256) :
    k0_pay19 q (k0_pay6 k) I k0_pay17 128#32 (ix2 r n) = prob (score (row q r) (mat k) 1) n := by
  pointwise [k0_pay19, k0_pay6]
  simp only [m1, mask_sum, Lift.ofBits_neg_inf]
  rfl
theorem p2 (r : Fin 2048) (n : Fin 256) : k0_pay27 q (k0_pay6 k) (ix2 r n) = prob (score (row q r) (mat k) 2) n := by
  pointwise [k0_pay27, k0_pay6]
  simp only [m2, mask_sum, Lift.ofBits_neg_inf]
  rfl
theorem p3 (r : Fin 2048) (n : Fin 256) :
    k0_pay36 q (k0_pay6 k) I k0_pay34 (ix2 r n) = prob (score (row q r) (mat k) 3) n := by
  pointwise [k0_pay36, k0_pay6]
  simp only [m3, mask_sum, Lift.ofBits_neg_inf]
  rfl

/-- The score gradient of row `r` at head `h`. -/
abbrev ds (h : Fin 4) (r : Fin 2048) (n : Fin 256) : EReal :=
  dscore (score (row q r) (mat k) h) (cot (row o r) (mat v) h) n

theorem d0 (r : Fin 2048) (n : Fin 256) : k0_pay13 (k0_pay7 o) (k0_pay11 q k) (k0_pay12 v) (ix2 r n) = ds q k v o 0 r n := by
  pointwise [k0_pay13, k0_pay7, k0_pay12]
  simp only [p0, m0, mask_sum]
  rfl
theorem d1 (r : Fin 2048) (n : Fin 256) :
    k0_pay20 q (k0_pay6 k) v (k0_pay7 o) I k0_pay17 128#32 (ix2 r n) = ds q k v o 1 r n := by
  pointwise [k0_pay20, k0_pay7]
  simp only [p1, m1, mask_sum]
  rfl
theorem d2 (r : Fin 2048) (n : Fin 256) :
    k0_pay30 v (k0_pay7 o) (k0_pay27 q (k0_pay6 k)) k0_pay28 (k0_pay29 (F := Ideal)) (ix2 r n) = ds q k v o 2 r n := by
  pointwise [k0_pay30, k0_pay7, k0_pay28, k0_pay29]
  simp only [p2, m2, mask_sum]
  rfl
theorem d3 (r : Fin 2048) (n : Fin 256) :
    k0_pay37 q (k0_pay6 k) v (k0_pay7 o) I k0_pay34 (ix2 r n) = ds q k v o 3 r n := by
  pointwise [k0_pay37, k0_pay7]
  simp only [p3, m3, mask_sum]
  rfl

/-- The block's queries' gradient. -/
abbrev dqv : FVec Ideal S2048x256 .bf16 :=
  k0_pay3 (k0_pay38 q k (k0_pay6 k) v (k0_pay7 o) (k0_pay31 k v (k0_pay7 o) (k0_pay21 q k (k0_pay6 k) v (k0_pay7 o)
    (k0_pay14 k (k0_pay7 o) k0_pay9 k0_pay10 (k0_pay11 q k) (k0_pay12 v)) I k0_pay17 128#32) k0_pay26
    (k0_pay27 q (k0_pay6 k)) k0_pay28 k0_pay29) I k0_pay34)

theorem dq_at (r : Fin 2048) (j : Fin 256) : dqv q k v o (ix2 r j) = ∑ n, ds q k v o (hd j) r n * k (ix2 n j) := by
  pointwise [dqv, k0_pay3, k0_pay38, k0_pay31, k0_pay21, k0_pay14, k0_pay9]
  simp only [d0, d1, d2, d3, m0, m1, m2, m3, sum_select, zero_add]
  exact four j fun h => ∑ n, ds q k v o h r n * k (ix2 n j)

/-- The keys' gradient after the block, over what the blocks before left. -/
abbrev dkv (a : Vec Ideal S256x256 .f32) : FVec Ideal S256x256 .f32 :=
  k0_pay1 (k0_pay35 I k0_pay34) (k0_pay39 q (k0_pay6 k) v (k0_pay7 o) (k0_pay8 q) I k0_pay34)
    (k0_pay32 v (k0_pay7 o) (k0_pay8 q) k0_pay26 (k0_pay27 q (k0_pay6 k)) k0_pay28 k0_pay29
      (k0_pay24 (k0_pay18 I k0_pay17 128#32) (k0_pay22 q (k0_pay6 k) v (k0_pay7 o) (k0_pay8 q) I k0_pay17 128#32)
        (k0_pay15 (k0_pay7 o) (k0_pay8 q) k0_pay10 (k0_pay11 q k) (k0_pay12 v) a)))

theorem dk_at (a : Vec Ideal S256x256 .f32) (n j : Fin 256) :
    dkv q k v o a (ix2 n j) = a (ix2 n j) + ∑ r, ds q k v o (hd j) r n * q (ix2 r j) := by
  pointwise [dkv, k0_pay1, k0_pay39, k0_pay32, k0_pay24, k0_pay22, k0_pay15, k0_pay8]
  simp only [d0, d1, d2, d3, m0, m1, m2, m3]
  rw [← four j fun h => ∑ r, ds q k v o h r n * q (ix2 r j)]
  simp only [add_assoc]

/-- The values' gradient after the block, over what the blocks before left. -/
abbrev dvv (a : Vec Ideal S256x256 .f32) : FVec Ideal S256x256 .f32 :=
  k0_pay2 (k0_pay35 I k0_pay34) (k0_pay40 q (k0_pay6 k) (k0_pay7 o) I k0_pay34)
    (k0_pay33 (k0_pay7 o) k0_pay26 (k0_pay27 q (k0_pay6 k))
      (k0_pay25 (k0_pay18 I k0_pay17 128#32) (k0_pay23 q (k0_pay6 k) (k0_pay7 o) I k0_pay17 128#32)
        (k0_pay16 (k0_pay7 o) k0_pay10 (k0_pay11 q k) a)))

theorem dv_at (a : Vec Ideal S256x256 .f32) (n j : Fin 256) :
    dvv q k o a (ix2 n j) = a (ix2 n j) + ∑ r, prob (score (row q r) (mat k) (hd j)) n * o (ix2 r j) := by
  pointwise [dvv, k0_pay2, k0_pay40, k0_pay33, k0_pay25, k0_pay23, k0_pay16, k0_pay7]
  simp only [p0, p1, p2, p3, m0, m1, m2, m3]
  rw [← four j fun h => ∑ r, prob (score (row q r) (mat k) h) n * o (ix2 r j)]
  simp only [add_assoc]

end Cert.AttnPay

end
-- ==== Proof.AttnRef.lean ====
/-
  What `jax.vjp` of the memory attention computes, element by element, stage by stage.
-/
module

public import proofs.«01_k».proof.Proof.Gen.AttnBwdRefIdeal.Read
public import proofs.«01_k».proof.Proof.Heads

@[expose] public section

set_option maxRecDepth 16384

noncomputable section

namespace Cert.AttnRef

open Idealize.ShloMosaic Idealize.ShloMosaic.TcCoe Idealize.SL.Sem Cert.Heads
open Cert.AttnBwdRefIdeal Cert.AttnBwdRefIdeal.Read

variable (x0 : FVec Ideal S4096x1792 .f32) (x1 : FVec Ideal S256x512 .f32) (x2 : FVec Ideal S4096x1024 .f32)

/-- The queries of row `r`. -/
abbrev qr (r : Fin 4096) : Fin 256 → EReal := fun j => x0 (ix2 r ⟨1536 + j.val, by omega⟩)
/-- The keys. -/
abbrev km : Fin 256 → Fin 256 → EReal := fun n j => x1 (ix2 n ⟨j.val, by omega⟩)
/-- The values. -/
abbrev vm : Fin 256 → Fin 256 → EReal := fun n j => x1 (ix2 n ⟨256 + j.val, by omega⟩)
/-- The cotangent of row `r`. -/
abbrev orow (r : Fin 4096) : Fin 256 → EReal := fun j => x2 (ix2 r ⟨768 + j.val, by omega⟩)

/-- Row `r`'s scores. -/
abbrev sc (h : Fin 4) (r : Fin 4096) : Fin 256 → EReal := score (qr x0 r) (km x1) h
/-- Row `r`'s cotangent of the probabilities. -/
abbrev ct (h : Fin 4) (r : Fin 4096) : Fin 256 → EReal := cot (orow x2 r) (vm x1) h

theorem v5_at (r : Fin 4096) (h : Fin 4) (d : Fin 64) : val_main_v5 (F := Ideal) x0 (ix3 r h d) = qr x0 r (col h d) := by
  pointwise [val_main_v5, val_main_v0, qr, col]
theorem v3_at (n : Fin 256) (h : Fin 4) (d : Fin 64) : val_main_v3 (F := Ideal) x1 (ix3 n h d) = km x1 n (col h d) := by
  pointwise [val_main_v3, val_main_v1, km, col]
theorem v4_at (n : Fin 256) (h : Fin 4) (d : Fin 64) : val_main_v4 (F := Ideal) x1 (ix3 n h d) = vm x1 n (col h d) := by
  pointwise [val_main_v4, val_main_v2, vm, col]
theorem v42_at (h : Fin 4) (d : Fin 64) (r : Fin 4096) : val_main_v42 (F := Ideal) x2 (ix3 h d r) = orow x2 r (col h d) := by
  pointwise [val_main_v42, val_main_v41, val_main_v40, orow, col]

theorem v8_at (h : Fin 4) (r : Fin 4096) (n : Fin 256) : val_main_v8 (F := Ideal) x0 x1 (ix3 h r n) = sc x0 x1 h r n := by
  pointwise [val_main_v8, val_main_v7, val_main_cst, val_main_v6]
  simp only [v5_at, v3_at]
  rfl
theorem v43_at (h : Fin 4) (r : Fin 4096) (n : Fin 256) : val_main_v43 (F := Ideal) x1 x2 (ix3 h r n) = ct x1 x2 h r n := by
  pointwise [val_main_v43]
  simp only [v42_at, v4_at]
  rfl
theorem v9_at (h : Fin 4) (r : Fin 4096) :
   val_main_v9 (F := Ideal) x0 x1 (ix2 h r) = rmax (fun n => val_main_v8 (F := Ideal) x0 x1 (ix3 h r n)) := by
  refine (max_at (val_main_v8 (F := Ideal) x0 x1) (val_main_cst_0 (F := Ideal)) _ (by decide) _ h r).trans ?_
  pointwise [val_main_cst_0]
  rw [Lift.ofBits_neg_inf]
  rfl
theorem v15_at (h : Fin 4) (r : Fin 4096) : val_main_v15 (F := Ideal) (ix2 h r) = ⊥ := by
  pointwise [val_main_v15, val_main_cst_2]
  exact Lift.ofBits_neg_inf
theorem max_bot (a b : FVec Ideal S4x4096 .f32) (i : S4x4096.Idx) (hb : a i = ⊥) : maximumf a b i = b i := by
  have : maximumf a b i = max (a i) (b i) := rfl
  rw [this, hb]
  exact max_eq_right bot_le
theorem v16_at (h : Fin 4) (r : Fin 4096) : val_main_v16 (F := Ideal) x0 x1 (ix2 h r) = rmax (sc x0 x1 h r) :=
  (max_bot (val_main_v15 (F := Ideal)) (val_main_v9 (F := Ideal) x0 x1) (ix2 h r) (v15_at h r)).trans
    ((v9_at x0 x1 h r).trans (congrArg rmax (funext fun n => v8_at x0 x1 h r n)))
theorem v29_at (h : Fin 4) (r : Fin 4096) (n : Fin 256) :
    val_main_v29 (F := Ideal) x0 x1 (ix3 h r n) = Ideal.exp (sc x0 x1 h r n - rmax (sc x0 x1 h r)) := by
  pointwise [val_main_v29, val_main_v28, val_main_v27, val_main_v26]
  simp only [v8_at, v16_at]
theorem v31_at (h : Fin 4) (r : Fin 4096) (z : Fin 1) :
    val_main_v31 (F := Ideal) x0 x1 (ix3 h r z) = ∑ n, Ideal.exp (sc x0 x1 h r n - rmax (sc x0 x1 h r)) := by
  pointwise [val_main_v31, val_main_v30, val_main_cst_8]
  simp only [v29_at]
theorem v33_at (h : Fin 4) (r : Fin 4096) (n : Fin 256) :
    val_main_v33 (F := Ideal) x0 x1 (ix3 h r n) = prob (sc x0 x1 h r) n := by
  pointwise [val_main_v33, val_main_v32]
  simp only [v29_at, v31_at]
  rfl
theorem v51_at (h : Fin 4) (r : Fin 4096) (z : Fin 1) : val_main_v51 (F := Ideal) x0 x1 x2 (ix3 h r z) =
    -(∑ x, ct x1 x2 h r x * Ideal.div (Ideal.ofBits .f32 0x3F800000#32)
        ((∑ x, Ideal.exp (sc x0 x1 h r x - rmax (sc x0 x1 h r))) * ∑ x, Ideal.exp (sc x0 x1 h r x - rmax (sc x0 x1 h r)))
        * Ideal.exp (sc x0 x1 h r x - rmax (sc x0 x1 h r))) := by
  pointwise [val_main_v51, val_main_v50, val_main_v49, val_main_cst_10, val_main_v48, val_main_v47, val_main_v46,
    val_main_v36, val_main_v35, val_main_cst_9, val_main_v34]
  simp only [v29_at, v31_at, v43_at]
theorem v59_at (h : Fin 4) (r : Fin 4096) (n : Fin 256) :
    val_main_v59 (F := Ideal) x0 x1 x2 (ix3 h r n) = dscoreD (sc x0 x1 h r) (ct x1 x2 h r) n := by
  pointwise [val_main_v59, val_main_v58, val_main_cst_12, val_main_v57, val_main_v56, val_main_v55, val_main_v54,
    val_main_cst_11, val_main_v53, val_main_v52]
  simp only [Fin.sum_univ_one, Finset.sum_const, Finset.card_univ, Fintype.card_fin, one_smul, v29_at, v31_at, v43_at, v51_at]
  rfl

theorem v64_at (r : Fin 4096) (j : Fin 256) : val_main_v64 (F := Ideal) x0 x1 x2 (ix2 r j) =
    ∑ n, dscoreD (sc x0 x1 (hd j) r) (ct x1 x2 (hd j) r) n * km x1 n j := by
  pointwise [val_main_v64, val_main_v63, val_main_v62]
  simp only [v59_at, v3_at, col_divmod]
  rfl
theorem v68_at (n j : Fin 256) : val_main_v68 (F := Ideal) x0 x1 x2 (ix2 n j) =
    ∑ r, dscoreD (sc x0 x1 (hd j) r) (ct x1 x2 (hd j) r) n * qr x0 r j := by
  pointwise [val_main_v68, val_main_v67, val_main_v66, val_main_v61, val_main_v60]
  simp only [v59_at, v5_at, col_divmod]
  rfl
theorem v69_at (n j : Fin 256) : val_main_v69 (F := Ideal) x0 x1 x2 (ix2 n j) =
    ∑ r, prob (sc x0 x1 (hd j) r) n * orow x2 r j := by
  pointwise [val_main_v69, val_main_v67, val_main_v65, val_main_v45, val_main_v44]
  simp only [v33_at, v42_at, col_divmod]
  exact Finset.sum_congr rfl fun _ _ => mul_comm _ _
theorem v72_at (x3 : FVec Ideal S4096x1792 .bf16) (r : Fin 4096) (j : Fin 1792) : val_main_v72 (F := Ideal) x0 x1 x2 x3 (ix2 r j) =
    if h : j.val < 1536 then x3 (ix2 r j) else val_main_v64 (F := Ideal) x0 x1 x2 (ix2 r ⟨j.val - 1536, by omega⟩) := by
  pointwise [val_main_v72, val_main_v71, val_main_v70]

end Cert.AttnRef

end
-- ==== Proof.Attn1.lean ====
/-
  `attn_bwd1`: the memory attention's gradient of the second layer, over two blocks of 2048 rows, is the derivative of
  the attention.
-/
module

public import proofs.«01_k».proof.Proof.Gen.AttnBwdIdeal.Value
public import proofs.«01_k».proof.Proof.Gen.AttnBwdRefIdeal.Run
public import proofs.«01_k».proof.Proof.Gen.Pre_attn_bwd1_pre
public import proofs.«01_k».proof.Proof.AttnPay
public import proofs.«01_k».proof.Proof.AttnRef
public import Idealize.ShloMosaic.Lib.Pipeline.ValueKit
public import Idealize.ShloMosaic.Lib.Claim
public import proofs.«01_k».proof.Defs

@[expose] public section

set_option maxRecDepth 16384

noncomputable section

namespace Cert.Attn1

open Idealize.ShloMosaic Idealize.ShloMosaic.TcCoe Idealize.SL.Sem Cert.Heads
open Idealize.ShloMosaic.Pipeline (Dat)

section Kernel
open Cert.AttnBwdIdeal Cert.AttnBwdIdeal.Gen Cert.AttnPay

variable (m : (ℓ : Loc nD τ sig) → Buf (Elt Ideal) ℓ) (c : Dev nD)

theorem idx : ∀ t : Fin cfg0.N, win0_0.index t = ![t.val, 6] ∧ win0_1.index t = ![0, 0] ∧ win0_2.index t = ![0, 1] ∧
    win0_3.index t = ![t.val, 3] ∧ win0_4.index t = ![t.val, 6] ∧ win0_5.index t = ![0, 0] ∧ win0_6.index t = ![0, 0] :=
  (by decide +kernel : ∀ t : Fin grid0.N, _)

abbrev X0 : FVec Ideal S4096x1792 .f32 := m ((c : Thread nD τ).loc main_arg0)
abbrev X1 : FVec Ideal S256x512 .f32 := m ((c : Thread nD τ).loc main_arg1)
abbrev X2 : FVec Ideal S4096x1024 .f32 := m ((c : Thread nD τ).loc main_arg2)

/-- Row `r` of block `t`. -/
def at_ (t : Fin cfg0.N) (r : Fin 2048) : Fin 4096 := ⟨t.val * 2048 + r.val, by
  have : t.val < 2 := lt_of_lt_of_eq t.isLt (show cfg0.N = 2 from N_0)
  omega⟩

theorem b0 (t : Fin cfg0.N) (r : Fin 2048) (j : Fin 256) : iblk m c 0 t (ix2 r j) = AttnRef.qr (X0 m c) (at_ t r) j := by
  blk_point [iblk, V, idx t, AttnRef.qr, at_]
theorem b1 (t : Fin cfg0.N) (n j : Fin 256) : iblk m c 1 t (ix2 n j) = AttnRef.km (X1 m c) n j := by
  blk_point [iblk, V, idx t, AttnRef.km]
theorem b2 (t : Fin cfg0.N) (n j : Fin 256) : iblk m c 2 t (ix2 n j) = AttnRef.vm (X1 m c) n j := by
  blk_point [iblk, V, idx t, AttnRef.vm]
theorem b3 (t : Fin cfg0.N) (r : Fin 2048) (j : Fin 256) : iblk m c 3 t (ix2 r j) = AttnRef.orow (X2 m c) (at_ t r) j := by
  blk_point [iblk, V, idx t, AttnRef.orow, at_]

/-- The score gradient the kernel forms, of the whole arrays. -/
abbrev dk (x0 : FVec Ideal S4096x1792 .f32) (x1 : FVec Ideal S256x512 .f32) (x2 : FVec Ideal S4096x1024 .f32)
    (h : Fin 4) (r : Fin 4096) (n : Fin 256) : EReal := dscore (AttnRef.sc x0 x1 h r) (AttnRef.ct x1 x2 h r) n

theorem ds_blk (t : Fin cfg0.N) (h : Fin 4) (r : Fin 2048) (n : Fin 256) :
    ds (iblk m c 0 t) (iblk m c 1 t) (iblk m c 2 t) (iblk m c 3 t) h r n = dk (X0 m c) (X1 m c) (X2 m c) h (at_ t r) n := by
  have e0 : row (iblk m c 0 t) r = AttnRef.qr (X0 m c) (at_ t r) := funext (b0 m c t r)
  have e1 : mat (iblk m c 1 t) = AttnRef.km (X1 m c) := funext fun n => funext (b1 m c t n)
  have e2 : mat (iblk m c 2 t) = AttnRef.vm (X1 m c) := funext fun n => funext (b2 m c t n)
  have e3 : row (iblk m c 3 t) r = AttnRef.orow (X2 m c) (at_ t r) := funext (b3 m c t r)
  rw [ds, e0, e1, e2, e3]

theorem prob_blk (t : Fin cfg0.N) (h : Fin 4) (r : Fin 2048) (n : Fin 256) :
    prob (score (row (iblk m c 0 t) r) (mat (iblk m c 1 t)) h) n = prob (AttnRef.sc (X0 m c) (X1 m c) h (at_ t r)) n := by
  have e0 : row (iblk m c 0 t) r = AttnRef.qr (X0 m c) (at_ t r) := funext (b0 m c t r)
  have e1 : mat (iblk m c 1 t) = AttnRef.km (X1 m c) := funext fun n => funext (b1 m c t n)
  rw [e0, e1]

theorem out4 (t : Fin cfg0.N) : (outsAt0 m c t.val t.isLt).1 =
    dqv (iblk m c 0 t) (iblk m c 1 t) (iblk m c 2 t) (iblk m c 3 t) := by
  by_cases h : t.val % 2 = 0
  · rw [outsAt0_A m c t h]; frame_out
  · rw [outsAt0_B m c t h]; frame_out

/-- The queries' gradient the kernel forms, of the whole arrays. -/
abbrev dq (x0 : FVec Ideal S4096x1792 .f32) (x1 : FVec Ideal S256x512 .f32) (x2 : FVec Ideal S4096x1024 .f32)
    (r : Fin 4096) (j : Fin 256) : EReal := ∑ n, dk x0 x1 x2 (hd j) r n * AttnRef.km x1 n j

theorem dq_blk (t : Fin cfg0.N) (y : S2048x256.Idx) :
    dqv (iblk m c 0 t) (iblk m c 1 t) (iblk m c 2 t) (iblk m c 3 t) y =
      dq (X0 m c) (X1 m c) (X2 m c) (at_ t (y 0)) (y 1) := by
  idx_vars y
  refine (dq_at _ _ _ _ y0 y1).trans (Finset.sum_congr rfl fun n _ => ?_)
  rw [ds_blk, b1]

/-- … at an index of the 1792 columns, of which it takes the last 256. -/
def dqA (x0 : FVec Ideal S4096x1792 .f32) (x1 : FVec Ideal S256x512 .f32) (x2 : FVec Ideal S4096x1024 .f32)
    (i : S4096x1792.Idx) : EReal := dq x0 x1 x2 (i 0) ⟨((i 1).val - 1536) % 256, Nat.mod_lt _ (by norm_num)⟩

theorem dqA_emb (t : Fin cfg0.N) (y : S2048x256.Idx) (i : S4096x1792.Idx) (h0 : (i 0).val = t.val * 2048 + (y 0).val)
    (h1 : (i 1).val = 6 * 256 + (y 1).val) (x0 : FVec Ideal S4096x1792 .f32) (x1 : FVec Ideal S256x512 .f32)
    (x2 : FVec Ideal S4096x1024 .f32) : dq x0 x1 x2 (at_ t (y 0)) (y 1) = dqA x0 x1 x2 i := by
  have e0 : at_ t (y 0) = i 0 := Fin.ext h0.symm
  have e1 : (⟨((i 1).val - 1536) % 256, Nat.mod_lt _ (by norm_num)⟩ : Fin 256) = y 1 := Fin.ext (by
    have := (y 1).isLt; change _ < 256 at this
    simp only [h1]; omega)
  unfold dqA
  rw [e0, e1]

theorem final4 : (dats m 0 c).arrAt 4 (cfgs 0).N = fun i => if 1536 ≤ (i 1 : ℕ) then
    dqA (X0 m c) (X1 m c) (X2 m c) i else V m c main_v0_0 i := by
  refine (dats m 0 c).arrAt_eq_of_coversWhere 4 _ (fun β => 6 ≤ β (1 : Fin 2)) (by decide +kernel) (fun t hf y => ?_)
    (fun j => by blk_simp [Pipeline.Window.cell_apply]; omega)
  blk_simp
  rw [after0_4, out4]
  refine (dq_blk m c t y).trans (dqA_emb t y _ ?_ ?_ _ _ _)
  · blk_simp [idx t]
  · blk_simp [idx t]

theorem out5 (j : S256x256.Idx) : (outsAt0 m c t0_1.val t0_1.isLt).2.1 j =
    0 + ∑ t : Fin cfg0.N, ∑ r, dk (X0 m c) (X1 m c) (X2 m c) (hd (j 1)) (at_ t r) (j 0) * AttnRef.qr (X0 m c) (at_ t r) (j 1) := by
  refine Pipeline.eq_sum_fin_of_reset_step_apply_last (fun n h => (outsAt0 m c n h).2.1) 2 (fun _ => 0)
    (fun t (j : S256x256.Idx) => ∑ r, dk (X0 m c) (X1 m c) (X2 m c) (hd (j 1)) (at_ t r) (j 0) * AttnRef.qr (X0 m c) (at_ t r) (j 1))
    (fun t h j => ?_) (fun t h j => ?_) (le_of_eq N_0) t0_1 rfl j
  · rw [outsAt0_A m c t h]
    frame_out
    idx_vars j
    refine (dk_at _ _ _ _ _ _ _).trans ?_
    simp only [ds_blk, b0]
    pointwise [k0_pay4]
  · rw [outsAt0_B m c t h]
    frame_out
    idx_vars j
    refine (dk_at _ _ _ _ _ _ _).trans ?_
    simp only [ds_blk, b0]

theorem final5 : (dats m 0 c).arrAt 5 (cfgs 0).N = fun i => ∑ r : Fin 4096,
    dk (X0 m c) (X1 m c) (X2 m c) (hd (i 1)) r (i 0) * AttnRef.qr (X0 m c) r (i 1) := by
  refine (dats m 0 c).arrAt_eq_of_after_last 5 t0_1 (by decide +kernel) _ fun j => ?_
  blk_simp
  rw [after0_5, out5, zero_add]
  exact Fin.sum_mul_add_congr (fun _ _ _ => rfl)
theorem out6 (j : S256x256.Idx) : (outsAt0 m c t0_1.val t0_1.isLt).2.2 j =
    0 + ∑ t : Fin cfg0.N, ∑ r, prob (AttnRef.sc (X0 m c) (X1 m c) (hd (j 1)) (at_ t r)) (j 0) * AttnRef.orow (X2 m c) (at_ t r) (j 1) := by
  refine Pipeline.eq_sum_fin_of_reset_step_apply_last (fun n h => (outsAt0 m c n h).2.2) 2 (fun _ => 0)
    (fun t (j : S256x256.Idx) => ∑ r, prob (AttnRef.sc (X0 m c) (X1 m c) (hd (j 1)) (at_ t r)) (j 0) * AttnRef.orow (X2 m c) (at_ t r) (j 1))
    (fun t h j => ?_) (fun t h j => ?_) (le_of_eq N_0) t0_1 rfl j
  · rw [outsAt0_A m c t h]
    frame_out
    idx_vars j
    refine (dv_at _ _ _ _ _ _).trans ?_
    simp only [prob_blk, b3]
    pointwise [k0_pay5]
  · rw [outsAt0_B m c t h]
    frame_out
    idx_vars j
    refine (dv_at _ _ _ _ _ _).trans ?_
    simp only [prob_blk, b3]

theorem final6 : (dats m 0 c).arrAt 6 (cfgs 0).N = fun i => ∑ r : Fin 4096,
    prob (AttnRef.sc (X0 m c) (X1 m c) (hd (i 1)) r) (i 0) * AttnRef.orow (X2 m c) r (i 1) := by
  refine (dats m 0 c).arrAt_eq_of_after_last 6 t0_1 (by decide +kernel) _ fun j => ?_
  blk_simp
  rw [after0_6, out6, zero_add]
  exact Fin.sum_mul_add_congr (fun _ _ _ => rfl)
end Kernel

/-- The precondition: the queries, the keys and values and the cotangent are finite. -/
theorem pre {x0 : FVec Ideal Pre_attn_bwd1_pre.S4096x1792 .f32} {x1 : FVec Ideal Pre_attn_bwd1_pre.S256x512 .f32}
    {x2 : FVec Ideal Pre_attn_bwd1_pre.S4096x1024 .f32} {x3 : FVec Ideal Pre_attn_bwd1_pre.S4096x1792 .bf16}
    (h : Pre_attn_bwd1_pre.fn x0 x1 x2 x3 = fun _ => 1#1) :
    (∃ f : Pre_attn_bwd1_pre.S4096x1792.Idx → ℝ, x0 = fun i => ((f i : ℝ) : EReal)) ∧
    (∃ f : Pre_attn_bwd1_pre.S256x512.Idx → ℝ, x1 = fun i => ((f i : ℝ) : EReal)) ∧
    ∃ f : Pre_attn_bwd1_pre.S4096x1024.Idx → ℝ, x2 = fun i => ((f i : ℝ) : EReal) := by
  have h0 := congrFun h (fun i => i.elim0)
  obtain ⟨h12, h3⟩ := IntOp.andi_eq_one.1 h0
  obtain ⟨h1, h2⟩ := IntOp.andi_eq_one.1 h12
  exact ⟨Lift.all_finite _ _ _ _ _ _ h1, Lift.all_finite _ _ _ _ _ _ h2, Lift.all_finite _ _ _ _ _ _ h3⟩

section Reference
open Cert.AttnBwdRefIdeal Cert.AttnBwdRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v72) = val_main_v72 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v68) = val_main_v68 (F := Ideal) (m ((c.tc : Thread nD τ).loc main_arg0))
        (m ((c.tc : Thread nD τ).loc main_arg1)) (m ((c.tc : Thread nD τ).loc main_arg2))
      ∧ r.2.mem ((c.tc : Thread nD τ).loc main_v69) = val_main_v69 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c).1.trans (val_main_v72_eq _ _), (h c).2.1.trans (val_main_v68_eq _ _),
    (h c).2.2.1.trans (val_main_v69_eq _ _), (h c).2.2.2⟩, sem_eq_zero_of_no_sems (by decide) r.2⟩) (Value.run m ρ)

/-- On real rows the kernel's score gradient is the derivative's. -/
theorem dk_eq {x0 : FVec Ideal S4096x1792 .f32} {x1 : FVec Ideal S256x512 .f32} {x2 : FVec Ideal S4096x1024 .f32}
    {f0 : S4096x1792.Idx → ℝ} {f1 : S256x512.Idx → ℝ} {f2 : S4096x1024.Idx → ℝ}
    (h0 : x0 = fun i => ((f0 i : ℝ) : EReal)) (h1 : x1 = fun i => ((f1 i : ℝ) : EReal))
    (h2 : x2 = fun i => ((f2 i : ℝ) : EReal)) (h : Fin 4) (r : Fin 4096) (n : Fin 256) :
    dk x0 x1 x2 h r n = dscoreD (AttnRef.sc x0 x1 h r) (AttnRef.ct x1 x2 h r) n := by
  subst h0 h1 h2
  exact dscore_rows (fun j => f0 (ix2 r ⟨1536 + j.val, by omega⟩)) (fun j => f2 (ix2 r ⟨768 + j.val, by omega⟩))
    (fun n j => f1 (ix2 n ⟨j.val, by omega⟩)) (fun n j => f1 (ix2 n ⟨256 + j.val, by omega⟩)) h n

theorem dq_final {x0 : FVec Ideal S4096x1792 .f32} {x1 : FVec Ideal S256x512 .f32} {x2 : FVec Ideal S4096x1024 .f32}
    {f0 : S4096x1792.Idx → ℝ} {f1 : S256x512.Idx → ℝ} {f2 : S4096x1024.Idx → ℝ}
    (h0 : x0 = fun i => ((f0 i : ℝ) : EReal)) (h1 : x1 = fun i => ((f1 i : ℝ) : EReal))
    (h2 : x2 = fun i => ((f2 i : ℝ) : EReal)) (x3 : FVec Ideal S4096x1792 .bf16) (r : Fin 4096) (j : Fin 1792) :
    val_main_v72 (F := Ideal) x0 x1 x2 x3 (ix2 r j) = if 1536 ≤ j.val then dqA x0 x1 x2 (ix2 r j) else x3 (ix2 r j) := by
  rw [AttnRef.v72_at]
  by_cases hj : j.val < 1536
  · rw [dif_pos hj, if_neg (by omega)]
  · rw [dif_neg hj, if_pos (by omega), AttnRef.v64_at]
    have e1 : (⟨j.val - 1536, by omega⟩ : Fin 256) = ⟨(j.val - 1536) % 256, Nat.mod_lt _ (by norm_num)⟩ :=
      Fin.ext (Nat.mod_eq_of_lt (by omega)).symm
    rw [e1]
    exact Finset.sum_congr rfl fun n _ => by rw [← dk_eq h0 h1 h2]; rfl
end Reference

theorem frame_ref : Cert.quiescent_AttnBwdRefIdeal := fun m g _ =>
  (θ_run Cert.AttnBwdRefIdeal.defs _ _).mono (fun _ h => ⟨fun c => (h.1 c).2.2.2, h.2⟩) (run_ref m g)

theorem frame_ref_pre : Cert.quiescent_AttnBwdRefIdeal_pre_attn_bwd1_pre := fun m g _ => frame_ref m g trivial

theorem algebraic : Cert.algebraic_AttnBwdIdeal_AttnBwdRefIdeal_pre_attn_bwd1_pre := by
  pair_intro
  · run_from Cert.AttnBwdIdeal.Gen.run_main m g
  · refine (θ_run Cert.AttnBwdRefIdeal.defs _ _).mono (fun r h c => ?_) (run_ref m' g')
    obtain ⟨h0, h1, h2, h3⟩ := h.1 c
    obtain ⟨e0, e1, e2, e3⟩ := hagree c
    obtain ⟨⟨f0, p0⟩, ⟨f1, p1⟩, ⟨f2, p2⟩⟩ := pre (hpre c)
    refine ⟨h0.trans ?_, h1.trans ?_, h2.trans ?_, h3⟩
    · rw [e0, e1, e2, e3, final4 m c]
      have hV : Cert.AttnBwdIdeal.Gen.V m c Cert.AttnBwdIdeal.main_v0_0 =
          m ((c.tc : Thread Cert.AttnBwdIdeal.nD Cert.AttnBwdIdeal.τ).loc Cert.AttnBwdIdeal.main_arg3) := by
        unfold Cert.AttnBwdIdeal.Gen.V; after_results; try rfl
      rw [hV]
      refine funext fun j => ?_
      idx_vars j
      exact dq_final p0 p1 p2 _ j0 j1
    · rw [e0, e1, e2, final5 m c]
      refine funext fun j => ?_
      idx_vars j
      refine (AttnRef.v68_at _ _ _ j0 j1).trans (Finset.sum_congr rfl fun r _ => ?_)
      rw [← dk_eq p0 p1 p2]
    · rw [e0, e1, e2, final6 m c]
      refine funext fun j => ?_
      idx_vars j
      exact AttnRef.v69_at _ _ _ j0 j1

end Cert.Attn1

end
-- ==== Proof.AttnRefZero.lean ====
/-
  The derivative of the first layer's memory attention reads the last 256 columns of a wider array; from there on it
      is
  the second layer's, stage by stage.
-/
module

public import proofs.«01_k».proof.Proof.Gen.AttnBwdZeroRefIdeal.Read
public import proofs.«01_k».proof.Proof.AttnRef

@[expose] public section

set_option maxRecDepth 16384

noncomputable section

namespace Cert.AttnRefZero

open Idealize.ShloMosaic Idealize.ShloMosaic.TcCoe Idealize.SL.Sem Cert.Heads
open Cert.AttnBwdZeroRefIdeal

/-- The last 1792 columns of the first layer's 3328. -/
def cut (x0 : FVec Ideal S4096x3328 .f32) : FVec Ideal AttnBwdRefIdeal.S4096x1792 .f32 :=
  fun i => x0 (ix2 (i 0) ⟨1536 + (i 1).val, by have := (i 1).isLt; change _ < 1792 at this; omega⟩)

variable (x0 : FVec Ideal S4096x3328 .f32) (x1 : FVec Ideal S256x512 .f32) (x2 : FVec Ideal S4096x1024 .f32)

theorem v0_eq : Read.val_main_v0 (F := Ideal) x0 = AttnBwdRefIdeal.Read.val_main_v0 (F := Ideal) (cut x0) := by
  funext j
  idx_vars j
  pointwise [Read.val_main_v0, AttnBwdRefIdeal.Read.val_main_v0, cut]
  exact congrArg x0 (congrArg (ix2 j0) (Fin.ext (show 3072 + j1.val = 1536 + (1536 + j1.val) by omega)))
theorem v5_eq : Read.val_main_v5 (F := Ideal) x0 = AttnBwdRefIdeal.Read.val_main_v5 (F := Ideal) (cut x0) := by
  simp only [Read.val_main_v5, AttnBwdRefIdeal.Read.val_main_v5, v0_eq] <;> rfl
theorem v8_eq : Read.val_main_v8 (F := Ideal) x0 x1 = AttnBwdRefIdeal.Read.val_main_v8 (F := Ideal) (cut x0) x1 := by
  simp only [Read.val_main_v8, AttnBwdRefIdeal.Read.val_main_v8, Read.val_main_v6, AttnBwdRefIdeal.Read.val_main_v6,
      v5_eq] <;> rfl
theorem v9_eq : Read.val_main_v9 (F := Ideal) x0 x1 = AttnBwdRefIdeal.Read.val_main_v9 (F := Ideal) (cut x0) x1 := by
  simp only [Read.val_main_v9, AttnBwdRefIdeal.Read.val_main_v9, v8_eq] <;> rfl
theorem v16_eq : Read.val_main_v16 (F := Ideal) x0 x1 = AttnBwdRefIdeal.Read.val_main_v16 (F := Ideal) (cut x0) x1 :=
    by
  simp only [Read.val_main_v16, AttnBwdRefIdeal.Read.val_main_v16, v9_eq] <;> rfl
theorem v29_eq : Read.val_main_v29 (F := Ideal) x0 x1 = AttnBwdRefIdeal.Read.val_main_v29 (F := Ideal) (cut x0) x1 :=
    by
  simp only [Read.val_main_v29, AttnBwdRefIdeal.Read.val_main_v29, Read.val_main_v28,
      AttnBwdRefIdeal.Read.val_main_v28, Read.val_main_v27, AttnBwdRefIdeal.Read.val_main_v27, Read.val_main_v26,
      AttnBwdRefIdeal.Read.val_main_v26, v8_eq, v16_eq] <;> rfl
theorem v31_eq : Read.val_main_v31 (F := Ideal) x0 x1 = AttnBwdRefIdeal.Read.val_main_v31 (F := Ideal) (cut x0) x1 :=
    by
  simp only [Read.val_main_v31, AttnBwdRefIdeal.Read.val_main_v31, Read.val_main_v30,
      AttnBwdRefIdeal.Read.val_main_v30, v29_eq] <;> rfl
theorem v33_eq : Read.val_main_v33 (F := Ideal) x0 x1 = AttnBwdRefIdeal.Read.val_main_v33 (F := Ideal) (cut x0) x1 :=
    by
  simp only [Read.val_main_v33, AttnBwdRefIdeal.Read.val_main_v33, Read.val_main_v32,
      AttnBwdRefIdeal.Read.val_main_v32, v29_eq, v31_eq] <;> rfl
theorem v51_eq : Read.val_main_v51 (F := Ideal) x0 x1 x2 = AttnBwdRefIdeal.Read.val_main_v51 (F := Ideal) (cut x0) x1
    x2 := by
  simp only [Read.val_main_v51, AttnBwdRefIdeal.Read.val_main_v51, Read.val_main_v50,
      AttnBwdRefIdeal.Read.val_main_v50, Read.val_main_v49, AttnBwdRefIdeal.Read.val_main_v49, Read.val_main_v48,
      AttnBwdRefIdeal.Read.val_main_v48, Read.val_main_v47, AttnBwdRefIdeal.Read.val_main_v47, Read.val_main_v46,
      AttnBwdRefIdeal.Read.val_main_v46, Read.val_main_v36, AttnBwdRefIdeal.Read.val_main_v36, Read.val_main_v34,
      AttnBwdRefIdeal.Read.val_main_v34, v29_eq, v31_eq] <;> rfl
theorem v59_eq : Read.val_main_v59 (F := Ideal) x0 x1 x2 = AttnBwdRefIdeal.Read.val_main_v59 (F := Ideal) (cut x0) x1
    x2 := by
  simp only [Read.val_main_v59, AttnBwdRefIdeal.Read.val_main_v59, Read.val_main_v57,
      AttnBwdRefIdeal.Read.val_main_v57, Read.val_main_v56, AttnBwdRefIdeal.Read.val_main_v56, Read.val_main_v53,
      AttnBwdRefIdeal.Read.val_main_v53, Read.val_main_v52, AttnBwdRefIdeal.Read.val_main_v52, Read.val_main_v55,
      AttnBwdRefIdeal.Read.val_main_v55, Read.val_main_v54, AttnBwdRefIdeal.Read.val_main_v54, v29_eq, v31_eq,
      v51_eq] <;> rfl
theorem v64_eq : Read.val_main_v64 (F := Ideal) x0 x1 x2 = AttnBwdRefIdeal.Read.val_main_v64 (F := Ideal) (cut x0) x1
    x2 := by
  simp only [Read.val_main_v64, AttnBwdRefIdeal.Read.val_main_v64, Read.val_main_v63,
      AttnBwdRefIdeal.Read.val_main_v63, Read.val_main_v62, AttnBwdRefIdeal.Read.val_main_v62, v59_eq] <;> rfl
theorem v61_eq : Read.val_main_v61 (F := Ideal) x0 x1 x2 = AttnBwdRefIdeal.Read.val_main_v61 (F := Ideal) (cut x0) x1
    x2 := by
  simp only [Read.val_main_v61, AttnBwdRefIdeal.Read.val_main_v61, Read.val_main_v60,
      AttnBwdRefIdeal.Read.val_main_v60, v5_eq, v59_eq] <;> rfl
theorem v66_eq : Read.val_main_v66 (F := Ideal) x0 x1 x2 = AttnBwdRefIdeal.Read.val_main_v66 (F := Ideal) (cut x0) x1
    x2 := by
  simp only [Read.val_main_v66, AttnBwdRefIdeal.Read.val_main_v66, v61_eq] <;> rfl
theorem v45_eq : Read.val_main_v45 (F := Ideal) x0 x1 x2 = AttnBwdRefIdeal.Read.val_main_v45 (F := Ideal) (cut x0) x1
    x2 := by
  simp only [Read.val_main_v45, AttnBwdRefIdeal.Read.val_main_v45, Read.val_main_v44,
      AttnBwdRefIdeal.Read.val_main_v44, v33_eq] <;> rfl
theorem v65_eq : Read.val_main_v65 (F := Ideal) x0 x1 x2 = AttnBwdRefIdeal.Read.val_main_v65 (F := Ideal) (cut x0) x1
    x2 := by
  simp only [Read.val_main_v65, AttnBwdRefIdeal.Read.val_main_v65, v45_eq] <;> rfl

theorem v68_eq (n j : Fin 256) : Read.val_main_v68 (F := Ideal) x0 x1 x2 (ix2 n j) =
    AttnBwdRefIdeal.Read.val_main_v68 (F := Ideal) (cut x0) x1 x2 (ix2 n j) := by
  pointwise [Read.val_main_v68, Read.val_main_v67, AttnBwdRefIdeal.Read.val_main_v68,
      AttnBwdRefIdeal.Read.val_main_v67]
  simp only [v66_eq]
theorem v69_eq (n j : Fin 256) : Read.val_main_v69 (F := Ideal) x0 x1 x2 (ix2 n j) =
    AttnBwdRefIdeal.Read.val_main_v69 (F := Ideal) (cut x0) x1 x2 (ix2 n j) := by
  pointwise [Read.val_main_v69, Read.val_main_v67, AttnBwdRefIdeal.Read.val_main_v69,
      AttnBwdRefIdeal.Read.val_main_v67]
  simp only [v65_eq]
theorem v72_at (x3 : FVec Ideal S4096x3328 .bf16) (r : Fin 4096) (j : Fin 3328) : Read.val_main_v72 (F := Ideal) x0
    x1 x2 x3 (ix2 r j) =
    if h : j.val < 3072 then x3 (ix2 r j) else
      AttnBwdRefIdeal.Read.val_main_v64 (F := Ideal) (cut x0) x1 x2 (ix2 r ⟨j.val - 3072, by omega⟩) := by
  pointwise [Read.val_main_v72, Read.val_main_v71, Read.val_main_v70]
  simp only [v64_eq]

end Cert.AttnRefZero

end
-- ==== Proof.Attn0.lean ====
/-
  `attn_bwd0`: the memory attention's gradient of the first layer, whose queries are the last 256 of 3328 columns, is the
  derivative of the attention.
-/
module

public import proofs.«01_k».proof.Proof.Gen.AttnBwdZeroIdeal.Value
public import proofs.«01_k».proof.Proof.Gen.AttnBwdZeroRefIdeal.Run
public import proofs.«01_k».proof.Proof.Gen.Pre_attn_bwd0_pre
public import proofs.«01_k».proof.Proof.AttnRefZero
public import proofs.«01_k».proof.Proof.Attn1

@[expose] public section

set_option maxRecDepth 16384

noncomputable section

namespace Cert.Attn0

open Idealize.ShloMosaic Idealize.ShloMosaic.TcCoe Idealize.SL.Sem Cert.Heads
open Idealize.ShloMosaic.Pipeline (Dat)

section Kernel
open Cert.AttnBwdZeroIdeal Cert.AttnBwdZeroIdeal.Gen Cert.AttnPay

variable (m : (ℓ : Loc nD τ sig) → Buf (Elt Ideal) ℓ) (c : Dev nD)

theorem idx : ∀ t : Fin cfg0.N, win0_0.index t = ![t.val, 12] ∧ win0_1.index t = ![0, 0] ∧ win0_2.index t = ![0, 1] ∧
    win0_3.index t = ![t.val, 3] ∧ win0_4.index t = ![t.val, 12] ∧ win0_5.index t = ![0, 0] ∧ win0_6.index t = ![0, 0] :=
  (by decide +kernel : ∀ t : Fin grid0.N, _)

abbrev X0 : FVec Ideal Cert.AttnBwdRefIdeal.S4096x1792 .f32 := AttnRefZero.cut (m ((c : Thread nD τ).loc main_arg0))
abbrev X1 : FVec Ideal S256x512 .f32 := m ((c : Thread nD τ).loc main_arg1)
abbrev X2 : FVec Ideal S4096x1024 .f32 := m ((c : Thread nD τ).loc main_arg2)

/-- Row `r` of block `t`. -/
def at_ (t : Fin cfg0.N) (r : Fin 2048) : Fin 4096 := ⟨t.val * 2048 + r.val, by
  have : t.val < 2 := lt_of_lt_of_eq t.isLt (show cfg0.N = 2 from N_0)
  omega⟩

theorem b0 (t : Fin cfg0.N) (r : Fin 2048) (j : Fin 256) : iblk m c 0 t (ix2 r j) = AttnRef.qr (X0 m c) (at_ t r) j := by
  blk_point [iblk, V, idx t, AttnRef.qr, at_, AttnRefZero.cut]
theorem b1 (t : Fin cfg0.N) (n j : Fin 256) : iblk m c 1 t (ix2 n j) = AttnRef.km (X1 m c) n j := by
  blk_point [iblk, V, idx t, AttnRef.km]
theorem b2 (t : Fin cfg0.N) (n j : Fin 256) : iblk m c 2 t (ix2 n j) = AttnRef.vm (X1 m c) n j := by
  blk_point [iblk, V, idx t, AttnRef.vm]
theorem b3 (t : Fin cfg0.N) (r : Fin 2048) (j : Fin 256) : iblk m c 3 t (ix2 r j) = AttnRef.orow (X2 m c) (at_ t r) j := by
  blk_point [iblk, V, idx t, AttnRef.orow, at_]

theorem ds_blk (t : Fin cfg0.N) (h : Fin 4) (r : Fin 2048) (n : Fin 256) :
    ds (iblk m c 0 t) (iblk m c 1 t) (iblk m c 2 t) (iblk m c 3 t) h r n = Attn1.dk (X0 m c) (X1 m c) (X2 m c) h (at_ t r) n := by
  have e0 : row (iblk m c 0 t) r = AttnRef.qr (X0 m c) (at_ t r) := funext (b0 m c t r)
  have e1 : mat (iblk m c 1 t) = AttnRef.km (X1 m c) := funext fun n => funext (b1 m c t n)
  have e2 : mat (iblk m c 2 t) = AttnRef.vm (X1 m c) := funext fun n => funext (b2 m c t n)
  have e3 : row (iblk m c 3 t) r = AttnRef.orow (X2 m c) (at_ t r) := funext (b3 m c t r)
  rw [ds, e0, e1, e2, e3]

theorem prob_blk (t : Fin cfg0.N) (h : Fin 4) (r : Fin 2048) (n : Fin 256) :
    prob (score (row (iblk m c 0 t) r) (mat (iblk m c 1 t)) h) n = prob (AttnRef.sc (X0 m c) (X1 m c) h (at_ t r)) n := by
  have e0 : row (iblk m c 0 t) r = AttnRef.qr (X0 m c) (at_ t r) := funext (b0 m c t r)
  have e1 : mat (iblk m c 1 t) = AttnRef.km (X1 m c) := funext fun n => funext (b1 m c t n)
  rw [e0, e1]

theorem out4 (t : Fin cfg0.N) : (outsAt0 m c t.val t.isLt).1 =
    dqv (iblk m c 0 t) (iblk m c 1 t) (iblk m c 2 t) (iblk m c 3 t) := by
  by_cases h : t.val % 2 = 0
  · rw [outsAt0_A m c t h]; frame_out; rfl
  · rw [outsAt0_B m c t h]; frame_out; rfl

/-- The queries' gradient at an index of the 3328 columns, of which it takes the last 256. -/
def dqA (x0 : FVec Ideal Cert.AttnBwdRefIdeal.S4096x1792 .f32) (x1 : FVec Ideal S256x512 .f32)
    (x2 : FVec Ideal S4096x1024 .f32) (i : S4096x3328.Idx) : EReal :=
  Attn1.dq x0 x1 x2 (i 0) ⟨((i 1).val - 3072) % 256, Nat.mod_lt _ (by norm_num)⟩

theorem dq_blk (t : Fin cfg0.N) (y : S2048x256.Idx) :
    dqv (iblk m c 0 t) (iblk m c 1 t) (iblk m c 2 t) (iblk m c 3 t) y =
      Attn1.dq (X0 m c) (X1 m c) (X2 m c) (at_ t (y 0)) (y 1) := by
  idx_vars y
  refine (dq_at _ _ _ _ y0 y1).trans (Finset.sum_congr rfl fun n _ => ?_)
  rw [ds_blk, b1]

theorem dq_emb (t : Fin cfg0.N) (y : S2048x256.Idx) (i : S4096x3328.Idx) (h0 : (i 0).val = t.val * 2048 + (y 0).val)
    (h1 : (i 1).val = 12 * 256 + (y 1).val) (x0 : FVec Ideal Cert.AttnBwdRefIdeal.S4096x1792 .f32)
    (x1 : FVec Ideal S256x512 .f32) (x2 : FVec Ideal S4096x1024 .f32) :
    Attn1.dq x0 x1 x2 (at_ t (y 0)) (y 1) = dqA x0 x1 x2 i := by
  have e0 : at_ t (y 0) = i 0 := Fin.ext h0.symm
  have e1 : (⟨((i 1).val - 3072) % 256, Nat.mod_lt _ (by norm_num)⟩ : Fin 256) = y 1 := Fin.ext (by
    have := (y 1).isLt; change _ < 256 at this
    simp only [h1]; omega)
  unfold dqA
  rw [e0, e1]

theorem final4 : (dats m 0 c).arrAt 4 (cfgs 0).N = fun i => if 3072 ≤ (i 1 : ℕ) then
    dqA (X0 m c) (X1 m c) (X2 m c) i else V m c main_v0_0 i := by
  refine (dats m 0 c).arrAt_eq_of_coversWhere 4 _ (fun β => 12 ≤ β (1 : Fin 2)) (by decide +kernel) (fun t hf y => ?_)
    (fun j => by blk_simp [Pipeline.Window.cell_apply]; omega)
  blk_simp
  rw [after0_4, out4]
  refine (dq_blk m c t y).trans (dq_emb t y _ ?_ ?_ _ _ _)
  · blk_simp [idx t]
  · blk_simp [idx t]

theorem out5 (j : S256x256.Idx) : (outsAt0 m c t0_1.val t0_1.isLt).2.1 j =
    0 + ∑ t : Fin cfg0.N, ∑ r, Attn1.dk (X0 m c) (X1 m c) (X2 m c) (hd (j 1)) (at_ t r) (j 0) * AttnRef.qr (X0 m c) (at_ t r) (j 1) := by
  refine Pipeline.eq_sum_fin_of_reset_step_apply_last (fun n h => (outsAt0 m c n h).2.1) 2 (fun _ => 0)
    (fun t (j : S256x256.Idx) => ∑ r, Attn1.dk (X0 m c) (X1 m c) (X2 m c) (hd (j 1)) (at_ t r) (j 0) * AttnRef.qr (X0 m c) (at_ t r) (j 1))
    (fun t h j => ?_) (fun t h j => ?_) (le_of_eq N_0) t0_1 rfl j
  · rw [outsAt0_A m c t h]
    frame_out
    idx_vars j
    refine (dk_at _ _ _ _ _ _ _).trans ?_
    simp only [ds_blk, b0]
    pointwise [k0_pay4]
  · rw [outsAt0_B m c t h]
    frame_out
    idx_vars j
    refine (dk_at _ _ _ _ _ _ _).trans ?_
    simp only [ds_blk, b0]

theorem final5 : (dats m 0 c).arrAt 5 (cfgs 0).N = fun i => ∑ r : Fin 4096,
    Attn1.dk (X0 m c) (X1 m c) (X2 m c) (hd (i 1)) r (i 0) * AttnRef.qr (X0 m c) r (i 1) := by
  refine (dats m 0 c).arrAt_eq_of_after_last 5 t0_1 (by decide +kernel) _ fun j => ?_
  blk_simp
  rw [after0_5, out5, zero_add]
  exact Fin.sum_mul_add_congr (fun _ _ _ => rfl)
theorem out6 (j : S256x256.Idx) : (outsAt0 m c t0_1.val t0_1.isLt).2.2 j =
    0 + ∑ t : Fin cfg0.N, ∑ r, prob (AttnRef.sc (X0 m c) (X1 m c) (hd (j 1)) (at_ t r)) (j 0) * AttnRef.orow (X2 m c) (at_ t r) (j 1) := by
  refine Pipeline.eq_sum_fin_of_reset_step_apply_last (fun n h => (outsAt0 m c n h).2.2) 2 (fun _ => 0)
    (fun t (j : S256x256.Idx) => ∑ r, prob (AttnRef.sc (X0 m c) (X1 m c) (hd (j 1)) (at_ t r)) (j 0) * AttnRef.orow (X2 m c) (at_ t r) (j 1))
    (fun t h j => ?_) (fun t h j => ?_) (le_of_eq N_0) t0_1 rfl j
  · rw [outsAt0_A m c t h]
    frame_out
    idx_vars j
    refine (dv_at _ _ _ _ _ _).trans ?_
    simp only [prob_blk, b3]
    pointwise [k0_pay5]
  · rw [outsAt0_B m c t h]
    frame_out
    idx_vars j
    refine (dv_at _ _ _ _ _ _).trans ?_
    simp only [prob_blk, b3]

theorem final6 : (dats m 0 c).arrAt 6 (cfgs 0).N = fun i => ∑ r : Fin 4096,
    prob (AttnRef.sc (X0 m c) (X1 m c) (hd (i 1)) r) (i 0) * AttnRef.orow (X2 m c) r (i 1) := by
  refine (dats m 0 c).arrAt_eq_of_after_last 6 t0_1 (by decide +kernel) _ fun j => ?_
  blk_simp
  rw [after0_6, out6, zero_add]
  exact Fin.sum_mul_add_congr (fun _ _ _ => rfl)
end Kernel

/-- The precondition: the queries, the keys and values and the cotangent are finite. -/
theorem pre {x0 : FVec Ideal Pre_attn_bwd0_pre.S4096x3328 .f32} {x1 : FVec Ideal Pre_attn_bwd0_pre.S256x512 .f32}
    {x2 : FVec Ideal Pre_attn_bwd0_pre.S4096x1024 .f32} {x3 : FVec Ideal Pre_attn_bwd0_pre.S4096x3328 .bf16}
    (h : Pre_attn_bwd0_pre.fn x0 x1 x2 x3 = fun _ => 1#1) :
    (∃ f : Pre_attn_bwd0_pre.S4096x3328.Idx → ℝ, x0 = fun i => ((f i : ℝ) : EReal)) ∧
    (∃ f : Pre_attn_bwd0_pre.S256x512.Idx → ℝ, x1 = fun i => ((f i : ℝ) : EReal)) ∧
    ∃ f : Pre_attn_bwd0_pre.S4096x1024.Idx → ℝ, x2 = fun i => ((f i : ℝ) : EReal) := by
  have h0 := congrFun h (fun i => i.elim0)
  obtain ⟨h12, h3⟩ := IntOp.andi_eq_one.1 h0
  obtain ⟨h1, h2⟩ := IntOp.andi_eq_one.1 h12
  exact ⟨Lift.all_finite _ _ _ _ _ _ h1, Lift.all_finite _ _ _ _ _ _ h2, Lift.all_finite _ _ _ _ _ _ h3⟩

section Reference
open Cert.AttnBwdZeroRefIdeal Cert.AttnBwdZeroRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v72) = val_main_v72 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v68) = val_main_v68 (F := Ideal) (m ((c.tc : Thread nD τ).loc main_arg0))
        (m ((c.tc : Thread nD τ).loc main_arg1)) (m ((c.tc : Thread nD τ).loc main_arg2))
      ∧ r.2.mem ((c.tc : Thread nD τ).loc main_v69) = val_main_v69 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c).1.trans (val_main_v72_eq _ _), (h c).2.1.trans (val_main_v68_eq _ _),
    (h c).2.2.1.trans (val_main_v69_eq _ _), (h c).2.2.2⟩, sem_eq_zero_of_no_sems (by decide) r.2⟩) (Value.run m ρ)

/-- The reals behind the last 1792 columns. -/
theorem cut_real {x0 : FVec Ideal S4096x3328 .f32} {f0 : S4096x3328.Idx → ℝ} (h0 : x0 = fun i => ((f0 i : ℝ) : EReal)) :
    ∃ f : Cert.AttnBwdRefIdeal.S4096x1792.Idx → ℝ, AttnRefZero.cut x0 = fun i => ((f i : ℝ) : EReal) := by
  subst h0
  exact ⟨_, rfl⟩

theorem dq_final {x0 : FVec Ideal S4096x3328 .f32} {x1 : FVec Ideal S256x512 .f32} {x2 : FVec Ideal S4096x1024 .f32}
    {f0 : S4096x3328.Idx → ℝ} {f1 : S256x512.Idx → ℝ} {f2 : S4096x1024.Idx → ℝ}
    (h0 : x0 = fun i => ((f0 i : ℝ) : EReal)) (h1 : x1 = fun i => ((f1 i : ℝ) : EReal))
    (h2 : x2 = fun i => ((f2 i : ℝ) : EReal)) (x3 : FVec Ideal S4096x3328 .bf16) (r : Fin 4096) (j : Fin 3328) :
    val_main_v72 (F := Ideal) x0 x1 x2 x3 (ix2 r j) =
      if 3072 ≤ j.val then dqA (AttnRefZero.cut x0) x1 x2 (ix2 r j) else x3 (ix2 r j) := by
  rw [AttnRefZero.v72_at]
  by_cases hj : j.val < 3072
  · rw [dif_pos hj, if_neg (by omega)]
  · rw [dif_neg hj, if_pos (by omega), AttnRef.v64_at]
    have e1 : (⟨j.val - 3072, by omega⟩ : Fin 256) = ⟨(j.val - 3072) % 256, Nat.mod_lt _ (by norm_num)⟩ :=
      Fin.ext (Nat.mod_eq_of_lt (by omega)).symm
    rw [e1]
    obtain ⟨f, hf⟩ := cut_real h0
    exact Finset.sum_congr rfl fun n _ => by rw [← Attn1.dk_eq hf h1 h2]; rfl
end Reference

theorem frame_ref : Cert.quiescent_AttnBwdZeroRefIdeal := fun m g _ =>
  (θ_run Cert.AttnBwdZeroRefIdeal.defs _ _).mono (fun _ h => ⟨fun c => (h.1 c).2.2.2, h.2⟩) (run_ref m g)

theorem frame_ref_pre : Cert.quiescent_AttnBwdZeroRefIdeal_pre_attn_bwd0_pre := fun m g _ => frame_ref m g trivial

theorem algebraic : Cert.algebraic_AttnBwdZeroIdeal_AttnBwdZeroRefIdeal_pre_attn_bwd0_pre := by
  pair_intro
  · run_from Cert.AttnBwdZeroIdeal.Gen.run_main m g
  · refine (θ_run Cert.AttnBwdZeroRefIdeal.defs _ _).mono (fun r h c => ?_) (run_ref m' g')
    obtain ⟨h0, h1, h2, h3⟩ := h.1 c
    obtain ⟨e0, e1, e2, e3⟩ := hagree c
    obtain ⟨⟨f0, p0⟩, ⟨f1, p1⟩, ⟨f2, p2⟩⟩ := pre (hpre c)
    refine ⟨h0.trans ?_, h1.trans ?_, h2.trans ?_, h3⟩
    · rw [e0, e1, e2, e3, final4 m c]
      have hV : Cert.AttnBwdZeroIdeal.Gen.V m c Cert.AttnBwdZeroIdeal.main_v0_0 =
          m ((c.tc : Thread Cert.AttnBwdZeroIdeal.nD Cert.AttnBwdZeroIdeal.τ).loc Cert.AttnBwdZeroIdeal.main_arg3) := by
        unfold Cert.AttnBwdZeroIdeal.Gen.V; after_results; try rfl
      rw [hV]
      refine funext fun j => ?_
      idx_vars j
      exact dq_final p0 p1 p2 _ j0 j1
    · rw [e0, e1, e2, final5 m c]
      refine funext fun j => ?_
      idx_vars j
      obtain ⟨f, hf⟩ := cut_real p0
      refine ((AttnRefZero.v68_eq _ _ _ j0 j1).trans (AttnRef.v68_at _ _ _ j0 j1)).trans (Finset.sum_congr rfl fun r _ => ?_)
      rw [← Attn1.dk_eq hf p1 p2]
    · rw [e0, e1, e2, final6 m c]
      refine funext fun j => ?_
      idx_vars j
      exact (AttnRefZero.v69_eq _ _ _ j0 j1).trans (AttnRef.v69_at _ _ _ j0 j1)

end Cert.Attn0

end
-- ==== Proof.AttnOutPay.lean ====
/-
  What the memory attention's body leaves in its output block, as a closed form of the blocks it reads.
-/
module

public import proofs.«01_k».proof.Proof.Gen.AttnFwdOneIdeal.Value
public import proofs.«01_k».proof.Proof.AttnPay

@[expose] public section

set_option maxRecDepth 16384

noncomputable section

namespace Cert.AttnOutPay

open Idealize.ShloMosaic Idealize.ShloMosaic.TcCoe Idealize.SL.Sem Cert.Heads
open Cert.AttnFwdOneIdeal Cert.AttnFwdOneIdeal.Gen Cert.AttnPay

variable (q : Vec Ideal S2048x256 .f32) (k v : Vec Ideal S256x256 .f32)

theorem r0 (x : Fin 256) : IntOp.andi (IntOp.cmpi .sge (BitVec.ofNat 32 x.val) 0#32)
    (IntOp.cmpi .slt (BitVec.ofNat 32 x.val) 64#32) = mk 0 x := by revert x; unfold mk hd; decide
theorem r1 (x : Fin 256) : IntOp.andi (IntOp.cmpi .sge (BitVec.ofNat 32 x.val) 64#32)
    (IntOp.cmpi .slt (BitVec.ofNat 32 x.val) 128#32) = mk 1 x := by revert x; unfold mk hd; decide
theorem r2 (x : Fin 256) : IntOp.andi (IntOp.cmpi .sge (BitVec.ofNat 32 x.val) 128#32)
    (IntOp.cmpi .slt (BitVec.ofNat 32 x.val) 192#32) = mk 2 x := by revert x; unfold mk hd; decide
theorem r3 (x : Fin 256) : IntOp.andi (IntOp.cmpi .sge (BitVec.ofNat 32 x.val) 192#32)
    (IntOp.cmpi .slt (BitVec.ofNat 32 x.val) 256#32) = mk 3 x := by revert x; unfold mk hd; decide

/-- One head's share of the output. -/
abbrev part (h : Fin 4) (r : Fin 2048) (j : Fin 256) : EReal :=
  ∑ n, prob (score (row q r) (mat k) h) n * v (ix2 n j)

theorem pay2_at (r : Fin 2048) (j : Fin 256) :
    k0_pay2 q k v (ix2 r j) = Scalar.select (mk 0 j) (part q k v 0 r j) 0 := by
  pointwise [k0_pay2, k0_pay1]
  simp only [r0, mask_sum, Lift.ofBits_neg_inf, sum_select, zero_add]
  rfl

theorem pay5_at (kx : FVec Ideal S256x256 .bf16) (a : FVec Ideal S2048x256 .f32) (r : Fin 2048) (j : Fin 256) :
    k0_pay5 q kx v a k0_pay3 k0_pay4 (ix2 r j) = a (ix2 r j) + Scalar.select (mk 1 j) (part q kx v 1 r j) 0 := by
  pointwise [k0_pay5, k0_pay3, k0_pay4]
  simp only [r1, mask_sum, Lift.ofBits_neg_inf, sum_select]
  rfl

/-- The block's output. -/
abbrev outv : FVec Ideal S2048x256 .bf16 := k0_pay9 q (k0_pay1 k) v (k0_pay5 q (k0_pay1 k) v (k0_pay2 q k v) k0_pay3 k0_pay4)
  k0_pay6 (k0_pay7 q (k0_pay1 k)) (k0_pay8 q (k0_pay1 k))

theorem out_at (r : Fin 2048) (j : Fin 256) : outv q k v (ix2 r j) = part q k v (hd j) r j := by
  pointwise [outv, k0_pay9, k0_pay8, k0_pay7, k0_pay6]
  simp only [pay5_at, pay2_at, r2, r3, mask_sum, Lift.ofBits_neg_inf, sum_select]
  exact four j fun h => part q k v h r j

end Cert.AttnOutPay

end
-- ==== Proof.AttnOut0.lean ====
/-
  `attn_fwd0`: the memory attention's output of the first layer, over two blocks of 2048 rows, is the attention.
-/
module

public import proofs.«01_k».proof.Proof.Gen.AttnFwdZeroIdeal.Value
public import proofs.«01_k».proof.Proof.Gen.AttnFwdZeroRefIdeal.Run
public import proofs.«01_k».proof.Proof.Gen.AttnFwdZeroRefIdeal.Read
public import proofs.«01_k».proof.Proof.AttnOutPay
public import proofs.«01_k».proof.Proof.AttnRefZero
public import Idealize.ShloMosaic.Lib.Pipeline.ValueKit
public import Idealize.ShloMosaic.Lib.Claim
public import proofs.«01_k».proof.Defs

@[expose] public section

set_option maxRecDepth 16384

noncomputable section

namespace Cert.AttnOut0

open Idealize.ShloMosaic Idealize.ShloMosaic.TcCoe Idealize.SL.Sem Cert.Heads
open Idealize.ShloMosaic.Pipeline (Dat)

/-- The attention's output of the whole arrays. -/
abbrev att (x0 : FVec Ideal AttnFwdZeroRefIdeal.S4096x3328 .f32) (x1 : FVec Ideal AttnFwdZeroRefIdeal.S256x512 .f32) (r : Fin 4096) (j : Fin 256) : EReal :=
  ∑ n, prob (AttnRef.sc (AttnRefZero.cut x0) x1 (hd j) r) n * AttnRef.vm x1 n j

section Kernel
open Cert.AttnFwdZeroIdeal Cert.AttnFwdZeroIdeal.Gen Cert.AttnPay

variable (m : (ℓ : Loc nD τ sig) → Buf (Elt Ideal) ℓ) (c : Dev nD)

theorem idx : ∀ t : Fin cfg0.N, win0_0.index t = ![t.val, 12] ∧ win0_1.index t = ![0, 0] ∧ win0_2.index t = ![0, 1] ∧
    win0_3.index t = ![t.val, 3] :=
  (by decide +kernel : ∀ t : Fin grid0.N, _)

abbrev X0 : FVec Ideal S4096x3328 .f32 := m ((c : Thread nD τ).loc main_arg0)
abbrev X1 : FVec Ideal S256x512 .f32 := m ((c : Thread nD τ).loc main_arg1)

/-- Row `r` of block `t`. -/
def at_ (t : Fin cfg0.N) (r : Fin 2048) : Fin 4096 := ⟨t.val * 2048 + r.val, by
  have : t.val < 2 := lt_of_lt_of_eq t.isLt (show cfg0.N = 2 from N_0)
  omega⟩

theorem b0 (t : Fin cfg0.N) (r : Fin 2048) (j : Fin 256) : iblk m c 0 t (ix2 r j) = AttnRef.qr (AttnRefZero.cut (X0 m c)) (at_ t r) j := by
  blk_point [iblk, V, idx t, AttnRef.qr, at_, AttnRefZero.cut]
theorem b1 (t : Fin cfg0.N) (n j : Fin 256) : iblk m c 1 t (ix2 n j) = AttnRef.km (X1 m c) n j := by
  blk_point [iblk, V, idx t, AttnRef.km]
theorem b2 (t : Fin cfg0.N) (n j : Fin 256) : iblk m c 2 t (ix2 n j) = AttnRef.vm (X1 m c) n j := by
  blk_point [iblk, V, idx t, AttnRef.vm]

theorem out3 (t : Fin cfg0.N) : outsAt0 m c t = AttnOutPay.outv (iblk m c 0 t) (iblk m c 1 t) (iblk m c 2 t) := by
  simp only [outsAt0]
  frame_out
  try rfl

theorem out_blk (t : Fin cfg0.N) (y : S2048x256.Idx) :
    AttnOutPay.outv (iblk m c 0 t) (iblk m c 1 t) (iblk m c 2 t) y = att (X0 m c) (X1 m c) (at_ t (y 0)) (y 1) := by
  idx_vars y
  have e0 : row (iblk m c 0 t) y0 = AttnRef.qr (AttnRefZero.cut (X0 m c)) (at_ t y0) := funext (b0 m c t y0)
  have e1 : mat (iblk m c 1 t) = AttnRef.km (X1 m c) := funext fun n => funext (b1 m c t n)
  refine (AttnOutPay.out_at _ _ _ y0 y1).trans (Finset.sum_congr rfl fun n _ => ?_)
  rw [b2, e0, e1]

/-- … at an index of the 1024 columns, of which it takes the last 256. -/
def attA (x0 : FVec Ideal S4096x3328 .f32) (x1 : FVec Ideal S256x512 .f32) (i : S4096x1024.Idx) : EReal :=
  att x0 x1 (i 0) ⟨((i 1).val - 768) % 256, Nat.mod_lt _ (by norm_num)⟩

theorem attA_emb (t : Fin cfg0.N) (y : S2048x256.Idx) (i : S4096x1024.Idx) (h0 : (i 0).val = t.val * 2048 + (y 0).val)
    (h1 : (i 1).val = 3 * 256 + (y 1).val) (x0 : FVec Ideal S4096x3328 .f32) (x1 : FVec Ideal S256x512 .f32) :
    att x0 x1 (at_ t (y 0)) (y 1) = attA x0 x1 i := by
  have e0 : at_ t (y 0) = i 0 := Fin.ext h0.symm
  have e1 : (⟨((i 1).val - 768) % 256, Nat.mod_lt _ (by norm_num)⟩ : Fin 256) = y 1 := Fin.ext (by
    have := (y 1).isLt; change _ < 256 at this
    simp only [h1]; omega)
  unfold attA
  rw [e0, e1]

theorem final3 : (dats m 0 c).arrAt 3 (cfgs 0).N = fun i => if 768 ≤ (i 1 : ℕ) then
    attA (X0 m c) (X1 m c) i else V m c main_v0 i := by
  refine (dats m 0 c).arrAt_eq_of_coversWhere 3 _ (fun β => 3 ≤ β (1 : Fin 2)) (by decide +kernel) (fun t hf y => ?_)
    (fun j => by blk_simp [Pipeline.Window.cell_apply]; omega)
  blk_simp
  rw [after0_3, out3]
  refine (out_blk m c t y).trans (attA_emb t y _ ?_ ?_ _ _)
  · blk_simp [idx t]
  · blk_simp [idx t]
end Kernel

section Reference
open Cert.AttnFwdZeroRefIdeal

variable (x0 : FVec Ideal S4096x3328 .f32) (x1 : FVec Ideal S256x512 .f32) (x2 : FVec Ideal S4096x1024 .bf16)

theorem q0 : Read.val_main_v1 (F := Ideal) x0 = AttnBwdRefIdeal.Read.val_main_v0 (F := Ideal) (AttnRefZero.cut x0) := AttnRefZero.v0_eq x0
theorem v6_eq : Read.val_main_v6 (F := Ideal) x0 =
    AttnBwdRefIdeal.Read.val_main_v5 (F := Ideal) (AttnRefZero.cut x0) := by
  simp only [Read.val_main_v6, AttnBwdRefIdeal.Read.val_main_v5, q0] <;> rfl
theorem v9_eq : Read.val_main_v9 (F := Ideal) x0 x1 =
    AttnBwdRefIdeal.Read.val_main_v8 (F := Ideal) (AttnRefZero.cut x0) x1 := by
  simp only [Read.val_main_v9, AttnBwdRefIdeal.Read.val_main_v8, Read.val_main_v7, AttnBwdRefIdeal.Read.val_main_v6, v6_eq] <;> rfl
theorem v10_eq : Read.val_main_v10 (F := Ideal) x0 x1 =
    AttnBwdRefIdeal.Read.val_main_v9 (F := Ideal) (AttnRefZero.cut x0) x1 := by
  simp only [Read.val_main_v10, AttnBwdRefIdeal.Read.val_main_v9, v9_eq] <;> rfl
theorem v12_eq : Read.val_main_v12 (F := Ideal) x0 x1 =
    AttnBwdRefIdeal.Read.val_main_v16 (F := Ideal) (AttnRefZero.cut x0) x1 := by
  simp only [Read.val_main_v12, AttnBwdRefIdeal.Read.val_main_v16, v10_eq] <;> rfl
theorem v16_eq : Read.val_main_v16 (F := Ideal) x0 x1 =
    AttnBwdRefIdeal.Read.val_main_v29 (F := Ideal) (AttnRefZero.cut x0) x1 := by
  simp only [Read.val_main_v16, AttnBwdRefIdeal.Read.val_main_v29, Read.val_main_v15, Read.val_main_v14, Read.val_main_v13, AttnBwdRefIdeal.Read.val_main_v28, AttnBwdRefIdeal.Read.val_main_v27, AttnBwdRefIdeal.Read.val_main_v26, v9_eq, v12_eq] <;> rfl
theorem v18_eq : Read.val_main_v18 (F := Ideal) x0 x1 =
    AttnBwdRefIdeal.Read.val_main_v31 (F := Ideal) (AttnRefZero.cut x0) x1 := by
  simp only [Read.val_main_v18, AttnBwdRefIdeal.Read.val_main_v31, Read.val_main_v17, AttnBwdRefIdeal.Read.val_main_v30, v16_eq] <;> rfl
theorem v20_eq : Read.val_main_v20 (F := Ideal) x0 x1 =
    AttnBwdRefIdeal.Read.val_main_v33 (F := Ideal) (AttnRefZero.cut x0) x1 := by
  simp only [Read.val_main_v20, AttnBwdRefIdeal.Read.val_main_v33, Read.val_main_v19, AttnBwdRefIdeal.Read.val_main_v32, v16_eq, v18_eq] <;> rfl

theorem v24_at (r : Fin 4096) (j : Fin 256) : Read.val_main_v24 (F := Ideal) x0 x1 (ix2 r j) = att x0 x1 r j := by
  pointwise [Read.val_main_v24, Read.val_main_v23, Read.val_main_v22, Read.val_main_v21, Read.val_main_v5, Read.val_main_v3, v20_eq]
  simp only [AttnRef.v33_at]
  exact Finset.sum_congr rfl fun n _ => by
    rw [mul_comm]; rfl

theorem v25_at (r : Fin 4096) (j : Fin 1024) : Read.val_main_v25 (F := Ideal) x0 x1 x2 (ix2 r j) =
    if 768 ≤ j.val then attA x0 x1 (ix2 r j) else x2 (ix2 r j) := by
  unfold Read.val_main_v25
  by_cases h : j.val < 768
  · rw [if_neg (by omega)]
    pointwise [Read.val_main_v0]
    simp only [h, dif_pos]
  · rw [if_pos (by omega)]
    have e1 : (⟨j.val - 768, by omega⟩ : Fin 256) = ⟨(j.val - 768) % 256, Nat.mod_lt _ (by norm_num)⟩ :=
      Fin.ext (Nat.mod_eq_of_lt (by omega)).symm
    refine Eq.trans ?_ ((v24_at x0 x1 r _).trans (congrArg (att x0 x1 r) e1))
    pointwise []
    simp only [h, dif_neg, not_false_eq_true]

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v25) = Read.val_main_v25 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => ⟨(h c).1.trans (Read.val_main_v25_eq _ _ _), (h c).2⟩,
    sem_eq_zero_of_no_sems (by decide) r.2⟩) (Value.run m ρ)
end Reference

theorem frame_ref : Cert.quiescent_AttnFwdZeroRefIdeal := fun m g _ =>
  (θ_run Cert.AttnFwdZeroRefIdeal.defs _ _).mono (fun _ h => ⟨fun c => (h.1 c).2, h.2⟩) (run_ref m g)

theorem algebraic : Cert.algebraic_AttnFwdZeroIdeal_AttnFwdZeroRefIdeal := by
  pair_intro
  · run_from Cert.AttnFwdZeroIdeal.Gen.run_main m g
  · refine (θ_run Cert.AttnFwdZeroRefIdeal.defs _ _).mono (fun r h c => ?_) (run_ref m' g')
    obtain ⟨h0, h3⟩ := h.1 c
    obtain ⟨e0, e1, e2⟩ := hagree c
    refine ⟨h0.trans ?_, h3⟩
    rw [e0, e1, e2, final3 m c]
    have hV : Cert.AttnFwdZeroIdeal.Gen.V m c Cert.AttnFwdZeroIdeal.main_v0 =
        m ((c.tc : Thread Cert.AttnFwdZeroIdeal.nD Cert.AttnFwdZeroIdeal.τ).loc Cert.AttnFwdZeroIdeal.main_arg2) := by
      unfold Cert.AttnFwdZeroIdeal.Gen.V; after_results; try rfl
    rw [hV]
    refine funext fun j => ?_
    idx_vars j
    exact v25_at _ _ _ j0 j1

end Cert.AttnOut0

end
-- ==== Proof.AttnOut1.lean ====
/-
  `attn_fwd1`: the memory attention's output of the second layer, over two blocks of 2048 rows, is the attention.
-/
module

public import proofs.«01_k».proof.Proof.Gen.AttnFwdOneIdeal.Value
public import proofs.«01_k».proof.Proof.Gen.AttnFwdOneRefIdeal.Run
public import proofs.«01_k».proof.Proof.Gen.AttnFwdOneRefIdeal.Read
public import proofs.«01_k».proof.Proof.AttnOutPay
public import proofs.«01_k».proof.Proof.AttnRef
public import Idealize.ShloMosaic.Lib.Pipeline.ValueKit
public import Idealize.ShloMosaic.Lib.Claim
public import proofs.«01_k».proof.Defs

@[expose] public section

set_option maxRecDepth 16384

noncomputable section

namespace Cert.AttnOut1

open Idealize.ShloMosaic Idealize.ShloMosaic.TcCoe Idealize.SL.Sem Cert.Heads
open Idealize.ShloMosaic.Pipeline (Dat)

/-- The attention's output of the whole arrays. -/
abbrev att (x0 : FVec Ideal AttnFwdOneRefIdeal.S4096x1792 .f32) (x1 : FVec Ideal AttnFwdOneRefIdeal.S256x512 .f32) (r : Fin 4096) (j : Fin 256) : EReal :=
  ∑ n, prob (AttnRef.sc x0 x1 (hd j) r) n * AttnRef.vm x1 n j

section Kernel
open Cert.AttnFwdOneIdeal Cert.AttnFwdOneIdeal.Gen Cert.AttnPay

variable (m : (ℓ : Loc nD τ sig) → Buf (Elt Ideal) ℓ) (c : Dev nD)

theorem idx : ∀ t : Fin cfg0.N, win0_0.index t = ![t.val, 6] ∧ win0_1.index t = ![0, 0] ∧ win0_2.index t = ![0, 1] ∧
    win0_3.index t = ![t.val, 3] :=
  (by decide +kernel : ∀ t : Fin grid0.N, _)

abbrev X0 : FVec Ideal S4096x1792 .f32 := m ((c : Thread nD τ).loc main_arg0)
abbrev X1 : FVec Ideal S256x512 .f32 := m ((c : Thread nD τ).loc main_arg1)

/-- Row `r` of block `t`. -/
def at_ (t : Fin cfg0.N) (r : Fin 2048) : Fin 4096 := ⟨t.val * 2048 + r.val, by
  have : t.val < 2 := lt_of_lt_of_eq t.isLt (show cfg0.N = 2 from N_0)
  omega⟩

theorem b0 (t : Fin cfg0.N) (r : Fin 2048) (j : Fin 256) : iblk m c 0 t (ix2 r j) = AttnRef.qr (X0 m c) (at_ t r) j := by
  blk_point [iblk, V, idx t, AttnRef.qr, at_]
theorem b1 (t : Fin cfg0.N) (n j : Fin 256) : iblk m c 1 t (ix2 n j) = AttnRef.km (X1 m c) n j := by
  blk_point [iblk, V, idx t, AttnRef.km]
theorem b2 (t : Fin cfg0.N) (n j : Fin 256) : iblk m c 2 t (ix2 n j) = AttnRef.vm (X1 m c) n j := by
  blk_point [iblk, V, idx t, AttnRef.vm]

theorem out3 (t : Fin cfg0.N) : outsAt0 m c t = AttnOutPay.outv (iblk m c 0 t) (iblk m c 1 t) (iblk m c 2 t) := by
  simp only [outsAt0]
  frame_out
  try rfl

theorem out_blk (t : Fin cfg0.N) (y : S2048x256.Idx) :
    AttnOutPay.outv (iblk m c 0 t) (iblk m c 1 t) (iblk m c 2 t) y = att (X0 m c) (X1 m c) (at_ t (y 0)) (y 1) := by
  idx_vars y
  have e0 : row (iblk m c 0 t) y0 = AttnRef.qr (X0 m c) (at_ t y0) := funext (b0 m c t y0)
  have e1 : mat (iblk m c 1 t) = AttnRef.km (X1 m c) := funext fun n => funext (b1 m c t n)
  refine (AttnOutPay.out_at _ _ _ y0 y1).trans (Finset.sum_congr rfl fun n _ => ?_)
  rw [b2, e0, e1]

/-- … at an index of the 1024 columns, of which it takes the last 256. -/
def attA (x0 : FVec Ideal S4096x1792 .f32) (x1 : FVec Ideal S256x512 .f32) (i : S4096x1024.Idx) : EReal :=
  att x0 x1 (i 0) ⟨((i 1).val - 768) % 256, Nat.mod_lt _ (by norm_num)⟩

theorem attA_emb (t : Fin cfg0.N) (y : S2048x256.Idx) (i : S4096x1024.Idx) (h0 : (i 0).val = t.val * 2048 + (y 0).val)
    (h1 : (i 1).val = 3 * 256 + (y 1).val) (x0 : FVec Ideal S4096x1792 .f32) (x1 : FVec Ideal S256x512 .f32) :
    att x0 x1 (at_ t (y 0)) (y 1) = attA x0 x1 i := by
  have e0 : at_ t (y 0) = i 0 := Fin.ext h0.symm
  have e1 : (⟨((i 1).val - 768) % 256, Nat.mod_lt _ (by norm_num)⟩ : Fin 256) = y 1 := Fin.ext (by
    have := (y 1).isLt; change _ < 256 at this
    simp only [h1]; omega)
  unfold attA
  rw [e0, e1]

theorem final3 : (dats m 0 c).arrAt 3 (cfgs 0).N = fun i => if 768 ≤ (i 1 : ℕ) then
    attA (X0 m c) (X1 m c) i else V m c main_v0 i := by
  refine (dats m 0 c).arrAt_eq_of_coversWhere 3 _ (fun β => 3 ≤ β (1 : Fin 2)) (by decide +kernel) (fun t hf y => ?_)
    (fun j => by blk_simp [Pipeline.Window.cell_apply]; omega)
  blk_simp
  rw [after0_3, out3]
  refine (out_blk m c t y).trans (attA_emb t y _ ?_ ?_ _ _)
  · blk_simp [idx t]
  · blk_simp [idx t]
end Kernel

section Reference
open Cert.AttnFwdOneRefIdeal

variable (x0 : FVec Ideal S4096x1792 .f32) (x1 : FVec Ideal S256x512 .f32) (x2 : FVec Ideal S4096x1024 .bf16)

theorem v6_eq : Read.val_main_v6 (F := Ideal) x0 =
    AttnBwdRefIdeal.Read.val_main_v5 (F := Ideal) x0 := by
  simp only [Read.val_main_v6, AttnBwdRefIdeal.Read.val_main_v5, Read.val_main_v1, AttnBwdRefIdeal.Read.val_main_v0] <;> rfl
theorem v9_eq : Read.val_main_v9 (F := Ideal) x0 x1 =
    AttnBwdRefIdeal.Read.val_main_v8 (F := Ideal) x0 x1 := by
  simp only [Read.val_main_v9, AttnBwdRefIdeal.Read.val_main_v8, Read.val_main_v7, AttnBwdRefIdeal.Read.val_main_v6, v6_eq] <;> rfl
theorem v10_eq : Read.val_main_v10 (F := Ideal) x0 x1 =
    AttnBwdRefIdeal.Read.val_main_v9 (F := Ideal) x0 x1 := by
  simp only [Read.val_main_v10, AttnBwdRefIdeal.Read.val_main_v9, v9_eq] <;> rfl
theorem v12_eq : Read.val_main_v12 (F := Ideal) x0 x1 =
    AttnBwdRefIdeal.Read.val_main_v16 (F := Ideal) x0 x1 := by
  simp only [Read.val_main_v12, AttnBwdRefIdeal.Read.val_main_v16, v10_eq] <;> rfl
theorem v16_eq : Read.val_main_v16 (F := Ideal) x0 x1 =
    AttnBwdRefIdeal.Read.val_main_v29 (F := Ideal) x0 x1 := by
  simp only [Read.val_main_v16, AttnBwdRefIdeal.Read.val_main_v29, Read.val_main_v15, Read.val_main_v14, Read.val_main_v13, AttnBwdRefIdeal.Read.val_main_v28, AttnBwdRefIdeal.Read.val_main_v27, AttnBwdRefIdeal.Read.val_main_v26, v9_eq, v12_eq] <;> rfl
theorem v18_eq : Read.val_main_v18 (F := Ideal) x0 x1 =
    AttnBwdRefIdeal.Read.val_main_v31 (F := Ideal) x0 x1 := by
  simp only [Read.val_main_v18, AttnBwdRefIdeal.Read.val_main_v31, Read.val_main_v17, AttnBwdRefIdeal.Read.val_main_v30, v16_eq] <;> rfl
theorem v20_eq : Read.val_main_v20 (F := Ideal) x0 x1 =
    AttnBwdRefIdeal.Read.val_main_v33 (F := Ideal) x0 x1 := by
  simp only [Read.val_main_v20, AttnBwdRefIdeal.Read.val_main_v33, Read.val_main_v19, AttnBwdRefIdeal.Read.val_main_v32, v16_eq, v18_eq] <;> rfl

theorem v24_at (r : Fin 4096) (j : Fin 256) : Read.val_main_v24 (F := Ideal) x0 x1 (ix2 r j) = att x0 x1 r j := by
  pointwise [Read.val_main_v24, Read.val_main_v23, Read.val_main_v22, Read.val_main_v21, Read.val_main_v5, Read.val_main_v3, v20_eq]
  simp only [AttnRef.v33_at]
  exact Finset.sum_congr rfl fun n _ => by
    rw [mul_comm]; rfl

theorem v25_at (r : Fin 4096) (j : Fin 1024) : Read.val_main_v25 (F := Ideal) x0 x1 x2 (ix2 r j) =
    if 768 ≤ j.val then attA x0 x1 (ix2 r j) else x2 (ix2 r j) := by
  unfold Read.val_main_v25
  by_cases h : j.val < 768
  · rw [if_neg (by omega)]
    pointwise [Read.val_main_v0]
    simp only [h, dif_pos]
  · rw [if_pos (by omega)]
    have e1 : (⟨j.val - 768, by omega⟩ : Fin 256) = ⟨(j.val - 768) % 256, Nat.mod_lt _ (by norm_num)⟩ :=
      Fin.ext (Nat.mod_eq_of_lt (by omega)).symm
    refine Eq.trans ?_ ((v24_at x0 x1 r _).trans (congrArg (att x0 x1 r) e1))
    pointwise []
    simp only [h, dif_neg, not_false_eq_true]

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v25) = Read.val_main_v25 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => ⟨(h c).1.trans (Read.val_main_v25_eq _ _ _), (h c).2⟩,
    sem_eq_zero_of_no_sems (by decide) r.2⟩) (Value.run m ρ)
end Reference

theorem frame_ref : Cert.quiescent_AttnFwdOneRefIdeal := fun m g _ =>
  (θ_run Cert.AttnFwdOneRefIdeal.defs _ _).mono (fun _ h => ⟨fun c => (h.1 c).2, h.2⟩) (run_ref m g)

theorem algebraic : Cert.algebraic_AttnFwdOneIdeal_AttnFwdOneRefIdeal := by
  pair_intro
  · run_from Cert.AttnFwdOneIdeal.Gen.run_main m g
  · refine (θ_run Cert.AttnFwdOneRefIdeal.defs _ _).mono (fun r h c => ?_) (run_ref m' g')
    obtain ⟨h0, h3⟩ := h.1 c
    obtain ⟨e0, e1, e2⟩ := hagree c
    refine ⟨h0.trans ?_, h3⟩
    rw [e0, e1, e2, final3 m c]
    have hV : Cert.AttnFwdOneIdeal.Gen.V m c Cert.AttnFwdOneIdeal.main_v0 =
        m ((c.tc : Thread Cert.AttnFwdOneIdeal.nD Cert.AttnFwdOneIdeal.τ).loc Cert.AttnFwdOneIdeal.main_arg2) := by
      unfold Cert.AttnFwdOneIdeal.Gen.V; after_results; try rfl
    rw [hV]
    refine funext fun j => ?_
    idx_vars j
    exact v25_at _ _ _ j0 j1

end Cert.AttnOut1

end
-- ==== Proof.Strip.lean ====
/-
  A block of 1024 rows handled in 8 strips of 128: what the strips' stores leave, what a value carried along them sums
  to; and the norm's gradient of one row, in the product form and as the derivative.
-/
module

public import proofs.«01_k».proof.Proof.Lift
public import Idealize.ShloMosaic.Lib.Pipeline.ValueKit
public import Idealize.ShloMosaic.Lib.Pipeline.Kit

@[expose] public section

set_option maxRecDepth 16384

noncomputable section

namespace Cert.Strip

open Idealize.ShloMosaic Idealize.ShloMosaic.TcCoe Idealize.SL.Sem

abbrev SB : Shape := ⟨2, ![1024, 1024]⟩
abbrev SS : Shape := ⟨2, ![128, 1024]⟩

/-- Row `i` of strip `k`. -/
def rowAt (k : Fin 8) (i : Fin 128) : Fin 1024 := ⟨k.val * 128 + i.val, by omega⟩

theorem emb_at {off : Fin 2 → ℕ} (k : Fin 8) (ho : off = ![k.val * 128, 0])
    (h : ∀ a, off a + SS.size a ≤ SB.size a) (i : Fin 128) (j : Fin 1024) :
    (Rect.unit (s := SB) off SS.size h).emb (ix2 i j) = ix2 (rowAt k i) j := by
  subst ho
  funext a
  refine Fin.cases ?_ (fun a => Fin.cases ?_ (fun a => a.elim0) a) a
  · exact Fin.ext ((show k.val * 128 + 1 * i.val = k.val * 128 + i.val by omega))
  · exact Fin.ext ((show 0 + 1 * j.val = j.val by omega))

/-- A strip loaded from a buffer. -/
theorem readAt_at {sig : RefSig} {sp : Space} (v : View sig .tc sp SB .f32) (X : v.ty.Contents (Elt Ideal)) {off : Fin 2 → ℕ}
    (k : Fin 8) (ho : off = ![k.val * 128, 0]) (h : ∀ a, off a + SS.size a ≤ SB.size a) (i : Fin 128) (j : Fin 1024) :
    v.readAt (Elt Ideal) (Rect.unit (s := SB) off SS.size h).toLoadRect X (ix2 i j) =
      v.read (Elt Ideal) X (ix2 (rowAt k i) j) := by
  rw [View.readAt_apply]
  exact congrArg _ (emb_at k ho h i j)

/-- The strips' stores leave the block `G` they are the strips of. -/
theorem canon_strips {α : Type} (st : ℕ → α × List (View.Piece (Elt Ideal) SB .f32)) (off : Fin 8 → Fin 2 → ℕ)
    (inb : ∀ k a, off k a + SS.size a ≤ SB.size a) (P : Fin 8 → SS.Idx → EReal) (G : SB.Idx → EReal)
    (ho : ∀ k, off k = ![k.val * 128, 0])
    (hs : ∀ k : Fin 8, (st (k.val + 1)).2 = [⟨Rect.unit (s := SB) (off k) SS.size (inb k), P k⟩] ++ (st k.val).2)
    (hP : ∀ k i j, P k (ix2 i j) = G (ix2 (rowAt k i) j)) (h0 : (st 0).2 = []) : View.canon (st 8).2 = G := by
  have all : ∀ n (_ : n ≤ 8), ∀ p ∈ (st n).2, ∀ x : p.1.shape.Idx, p.2 x = G (p.1.emb x) := fun n => by
    induction n with
    | zero => intro _ p hp; rw [h0] at hp; cases hp
    | succ n ih =>
      intro hn p hp x
      rw [hs ⟨n, hn⟩] at hp
      rcases List.mem_append.mp hp with hp | hp
      · rw [List.mem_singleton] at hp
        subst hp
        change SS.Idx at x
        idx_vars x
        exact (hP ⟨n, hn⟩ x0 x1).trans (congrArg G (emb_at ⟨n, hn⟩ (ho _) _ x0 x1).symm)
      · exact ih (by omega) p hp x
  have cov : ∀ n (_ : n ≤ 8) (y : SB.Idx), (y 0).val < n * 128 → ∃ p ∈ (st n).2, y ∈ p.1.set := fun n => by
    induction n with
    | zero => intro _ y hy; omega
    | succ n ih =>
      intro hn y hy
      rw [hs ⟨n, hn⟩]
      by_cases h : (y 0).val < n * 128
      · obtain ⟨p, hp, hy⟩ := ih (by omega) y h
        exact ⟨p, List.mem_append_right _ hp, hy⟩
      · refine ⟨_, List.mem_append_left _ (List.mem_singleton_self _), ?_⟩
        idx_vars y
        have e : ix2 y0 y1 = (Rect.unit (s := SB) (off ⟨n, hn⟩) SS.size (inb ⟨n, hn⟩)).emb
            (ix2 (⟨y0.val - n * 128, by change ¬ y0.val < _ at h; change y0.val < _ at hy; omega⟩ : Fin 128) y1) := by
          rw [emb_at ⟨n, hn⟩ (ho _) _]
          refine congrArg (fun a => ix2 a y1) (Fin.ext ?_)
          change ¬ y0.val < _ at h
          show y0.val = n * 128 + (y0.val - n * 128)
          omega
        rw [e]
        rw [← Rect.map_emb_univ]
        exact Finset.mem_map_of_mem _ (Finset.mem_univ _)
  exact funext fun y => View.canon_apply_of_pieces G _ (all 8 le_rfl) y (cov 8 le_rfl y (y 0).isLt)

/-- A value carried along the strips, a term added at each. -/
theorem carried (s : ℕ → EReal) (f : Fin 8 → EReal) (hs : ∀ k : Fin 8, s (k.val + 1) = s k.val + f k) :
    s 8 = s 0 + ∑ k, f k := by
  have h : ∀ n (hn : n ≤ 8), s n = s 0 + ∑ k : Fin n, f ⟨k.val, by omega⟩ := fun n => by
    induction n with
    | zero => intro _; simp
    | succ n ih =>
      intro hn
      rw [hs ⟨n, hn⟩, ih (by omega), Fin.sum_univ_castSucc, add_assoc]
      rfl
  exact h 8 le_rfl

/-- … each the sum of a strip's rows: the block's. -/
theorem carried_rows (s : ℕ → EReal) (f : Fin 1024 → EReal)
    (hs : ∀ k : Fin 8, s (k.val + 1) = s k.val + ∑ i, f (rowAt k i)) : s 8 = s 0 + ∑ r, f r :=
  (carried s _ hs).trans (congrArg (s 0 + ·) (Fin.sum_mul_add_congr (fun _ _ _ => rfl)))

/-- `1/√(mean of squares + ε)` of a row. -/
def rs (x : Fin 1024 → EReal) : EReal :=
  Ideal.rsqrt (Ideal.div (∑ k, x k * x k) (Ideal.ofBits .f32 0x44800000#32) + Ideal.ofBits .f32 0x358637BD#32)

/-- The norm's gradient of a row in the product form, of the row and of its cotangent times the gain. -/
def ker (x u : Fin 1024 → EReal) (j : Fin 1024) : EReal :=
  rs x * (u j - x j * rs x * Ideal.div (∑ k, u k * (x k * rs x)) (Ideal.ofBits .f32 0x44800000#32))

/-- The derivative's factor of the row. -/
def fac (x u : Fin 1024 → EReal) : EReal :=
  Ideal.div ((∑ k, x k * u k) * (Ideal.ofBits .f32 0xBF000000#32 * Ideal.div (rs x)
    (Ideal.div (∑ k, x k * x k) (Ideal.ofBits .f32 0x44800000#32) + Ideal.ofBits .f32 0x358637BD#32)))
    (Ideal.ofBits .f32 0x44800000#32)

theorem ker_eq (res : EReal) (x u : Fin 1024 → ℝ) (j : Fin 1024) :
    res + ker (fun k => ((x k : ℝ) : EReal)) (fun k => ((u k : ℝ) : EReal)) j =
      res + ((u j : ℝ) : EReal) * rs (fun k => ((x k : ℝ) : EReal)) +
        ((x j : ℝ) : EReal) * fac (fun k => ((x k : ℝ) : EReal)) (fun k => ((u k : ℝ) : EReal)) +
        fac (fun k => ((x k : ℝ) : EReal)) (fun k => ((u k : ℝ) : EReal)) * ((x j : ℝ) : EReal) := by
  rw [add_assoc, add_assoc, ← add_assoc (((u j : ℝ) : EReal) * _)]
  exact congrArg (res + ·) (Lift.norm_dx x u j)

/-- A row of a product of reals is real. -/
theorem dot_real {n : ℕ} (a b : Fin n → ℝ) : ∑ k, ((a k : ℝ) : EReal) * ((b k : ℝ) : EReal) = ((∑ k, a k * b k : ℝ) : EReal) := by
  simp only [← EReal.coe_mul, Lift.coe_sum]

/-- Row `i` of a block. -/
abbrev rw_ {n : ℕ} (X : (⟨2, ![n, 1024]⟩ : Shape).Idx → EReal) (i : Fin n) : Fin 1024 → EReal := fun k => X (ix2 i k)

/-- The rows' gradient, of the product's rows, the gain, the rows and the residual's cotangent. -/
def DX {n : ℕ} (P X R : (⟨2, ![n, 1024]⟩ : Shape).Idx → EReal) (g : (⟨2, ![1, 1024]⟩ : Shape).Idx → EReal)
    (y : (⟨2, ![n, 1024]⟩ : Shape).Idx) : EReal :=
  R y + ker (rw_ X (y 0)) (fun k => P (ix2 (y 0) k) * g (ix2 0 k)) (y 1)

/-- The gain's gradient at one row. -/
def DG {n : ℕ} (P X : (⟨2, ![n, 1024]⟩ : Shape).Idx → EReal) (j : Fin 1024) (i : Fin n) : EReal :=
  P (ix2 i j) * (X (ix2 i j) * rs (rw_ X i))

end Cert.Strip

end
-- ==== Proof.FfnDx.lean ====
/-
  `ffn_in_dx`: the product with the transposed weight, four blocks of the contracted axis accumulated, and the norm's
  gradient of its rows, are the derivative of the product of the norm.
-/
module

public import proofs.«01_k».proof.Proof.Gen.FfnInDxIdeal.Value
public import proofs.«01_k».proof.Proof.Gen.FfnInDxIdeal.Frame
public import proofs.«01_k».proof.Proof.Gen.FfnInDxRefIdeal.Run
public import proofs.«01_k».proof.Proof.Gen.FfnInDxRefIdeal.Read
public import proofs.«01_k».proof.Proof.Gen.Pre_ffn_in_dx_pre
public import proofs.«01_k».proof.Proof.Strip
public import Idealize.ShloMosaic.Lib.Pipeline.ValueKit
public import Idealize.ShloMosaic.Lib.Claim
public import proofs.«01_k».proof.Defs

@[expose] public section

set_option maxRecDepth 16384

noncomputable section

namespace Cert.FfnDx

open Idealize.ShloMosaic Idealize.ShloMosaic.TcCoe Idealize.SL.Sem Cert.Strip
open Idealize.ShloMosaic.Pipeline (Dat)

section Loop
open Cert.FfnInDxIdeal Cert.FfnInDxIdeal.Gen

theorem pay8_at (g : Vec Ideal S1x1024 .f32) (d x r : Vec Ideal S128x1024 .f32) (i : Fin 128) (j : Fin 1024) :
    k0_pay8 g d x r (ix2 i j) = DX (n := 128) d x r g (ix2 i j) := by
  pointwise [k0_pay8, k0_pay7, k0_pay6, DX, ker, rs]

theorem pay9_at (a : Vec Ideal S1x1024 .f32) (d x : Vec Ideal S128x1024 .f32) (z : Fin 1) (j : Fin 1024) :
    k0_pay9 a d x (ix2 z j) = a (ix2 z j) + ∑ i, DG (n := 128) d x j i := by
  pointwise [k0_pay9, k0_pay7, k0_pay6, DG, rs]

theorem trips : k0_t1_loop.trips = 8 := by decide
theorem off : ∀ k : Fin k0_t1_loop.trips, k0_off1 k = ![k.val * 128, 0] := by decide

variable (𝒱 : Variants) (c : Dev nD) (bd : Option 𝒱.V) (i : grid0.Coords) (arg3 : Memref sig .tc .vmem S1x1024x1408 .bf16)
  (harg3 : arg3.IsWhole) (arg4 : Memref sig .tc .vmem S1408x1024 .bf16) (harg4 : arg4.IsWhole)
  (arg5 : Memref sig .tc .vmem S1024x1024 .f32) (harg5 : arg5.IsWhole) (arg6 : Memref sig .tc .vmem S1x1024 .f32)
  (harg6 : arg6.IsWhole) (arg7 : Memref sig .tc .vmem S1024x1024 .f32) (harg7 : arg7.IsWhole)
  (arg8 : Memref sig .tc .vmem S1024x1024 .f32) (harg8 : arg8.IsWhole) (arg9 : Memref sig .tc .vmem S1x1024 .f32)
  (harg9 : arg9.IsWhole) (arg10 : Memref sig .tc .vmem S1024x1024 .f32) (harg10 : arg10.IsWhole)
  (k0_h3 : k0_cond3 i = 1#1) (v24 : Vec Ideal S1x1024 .f32) (X_arg5 : BufTy.Contents (Elt Ideal) arg5.view.ty)
  (X_arg7 : BufTy.Contents (Elt Ideal) arg7.view.ty) (X_arg10 : BufTy.Contents (Elt Ideal) arg10.view.ty)

theorem tripR (k : Fin 8) (acc : FVec Ideal S1x1024 .f32) (z : Fin 1) (j : Fin 1024) :
    tripR_k0_t1 (F := Ideal) 𝒱 c bd i arg3 harg3 arg4 harg4 arg5 harg5 arg6 harg6 arg7 harg7 arg8 harg8 arg9 harg9 arg10 harg10 k0_h3 v24 X_arg5 X_arg7 X_arg10 (Fin.cast trips.symm k) acc (ix2 z j) =
      acc (ix2 z j) + ∑ i, DG (arg10.view.read (Elt Ideal) X_arg10) (arg7.view.read (Elt Ideal) X_arg7) j (rowAt k i) := by
  unfold tripR_k0_t1 trip_k0_t1
  dsimp only
  refine (pay9_at _ _ _ z j).trans (congrArg (acc (ix2 z j) + ·) (Finset.sum_congr rfl fun i _ => ?_))
  have e : ∀ (b : Memref sig .tc .vmem S1024x1024 .f32) X h i' j', b.view.readAt (Elt Ideal)
      (Rect.unit (s := SB) (k0_off1 (Fin.cast trips.symm k)) SS.size h).toLoadRect X (ix2 i' j') = _ :=
    fun b X h i' j' => readAt_at b.view X k (off _) h i' j'
  exact congrArg₂ (· * ·) (e arg10 _ _ i j) (congrArg₂ (· * ·) (e arg7 _ _ i j) (congrArg rs (funext fun k' => e arg7 _ _ i k')))

theorem tripL (k : Fin 8) (acc : FVec Ideal S1x1024 .f32) : ∃ (P : SS.Idx → EReal) (h : ∀ a, k0_off1 (Fin.cast trips.symm k) a + SS.size a ≤ SB.size a), tripL_k0_t1 (F := Ideal) 𝒱 c bd i arg3 harg3 arg4 harg4 arg5 harg5 arg6 harg6 arg7 harg7 arg8 harg8 arg9 harg9 arg10 harg10 k0_h3 v24 X_arg5 X_arg7 X_arg10
      (Fin.cast trips.symm k) acc = [⟨Rect.unit (s := SB) (k0_off1 (Fin.cast trips.symm k)) SS.size h, P⟩] ∧
    ∀ i j, P (ix2 i j) = DX (arg10.view.read (Elt Ideal) X_arg10) (arg7.view.read (Elt Ideal) X_arg7)
      (arg5.view.read (Elt Ideal) X_arg5) v24 (ix2 (rowAt k i) j) := by
  unfold tripL_k0_t1 trip_k0_t1
  dsimp only
  refine ⟨_, _, rfl, fun i j => ?_⟩
  have e : ∀ (b : Memref sig .tc .vmem S1024x1024 .f32) X h i' j', b.view.readAt (Elt Ideal)
      (Rect.unit (s := SB) (k0_off1 (Fin.cast trips.symm k)) SS.size h).toLoadRect X (ix2 i' j') = _ :=
    fun b X h i' j' => readAt_at b.view X k (off _) h i' j'
  refine (pay8_at _ _ _ _ i j).trans ?_
  exact congrArg₂ (· + ·) (e arg5 _ _ i j) (congrArg₂ (fun x u => ker x u j) (funext fun k' => e arg7 _ _ i k')
    (funext fun k' => congrArg (· * v24 (ix2 0 k')) (e arg10 _ _ i k')))

/-- What the strips leave of the rows … -/
theorem st_rows (init : FVec Ideal S1x1024 .f32) : View.canon (st_k0_t1 (F := Ideal) 𝒱 c bd i arg3 harg3 arg4 harg4 arg5 harg5 arg6 harg6 arg7 harg7 arg8 harg8 arg9 harg9 arg10 harg10 k0_h3 v24 X_arg5 X_arg7 X_arg10 init 8).2 =
    DX (arg10.view.read (Elt Ideal) X_arg10) (arg7.view.read (Elt Ideal) X_arg7)
      (arg5.view.read (Elt Ideal) X_arg5) v24 := by
  choose P h hP hv using fun k acc => tripL 𝒱 c bd i arg3 harg3 arg4 harg4 arg5 harg5 arg6 harg6 arg7 harg7 arg8 harg8 arg9 harg9 arg10 harg10 k0_h3 v24 X_arg5 X_arg7 X_arg10 k acc
  refine canon_strips (st_k0_t1 (F := Ideal) 𝒱 c bd i arg3 harg3 arg4 harg4 arg5 harg5 arg6 harg6 arg7 harg7 arg8 harg8 arg9 harg9 arg10 harg10 k0_h3 v24 X_arg5 X_arg7 X_arg10 init) (fun k => k0_off1 (Fin.cast trips.symm k)) (fun k => h k (st_k0_t1 (F := Ideal) 𝒱 c bd i arg3 harg3 arg4 harg4 arg5 harg5 arg6 harg6 arg7 harg7 arg8 harg8 arg9 harg9 arg10 harg10 k0_h3 v24 X_arg5 X_arg7 X_arg10 init k.val).1) (fun k => P k (st_k0_t1 (F := Ideal) 𝒱 c bd i arg3 harg3 arg4 harg4 arg5 harg5 arg6 harg6 arg7 harg7 arg8 harg8 arg9 harg9 arg10 harg10 k0_h3 v24 X_arg5 X_arg7 X_arg10 init k.val).1) _ (fun k => off _) (fun k => ?_) (fun k i j => hv k _ i j) rfl
  rw [← hP]
  exact congrArg Prod.snd (st_k0_t1_succ 𝒱 c bd i arg3 harg3 arg4 harg4 arg5 harg5 arg6 harg6 arg7 harg7 arg8 harg8 arg9 harg9 arg10 harg10 k0_h3 v24 X_arg5 X_arg7 X_arg10 init (Fin.cast trips.symm k))

/-- … and the value carried. -/
theorem st_sum (init : FVec Ideal S1x1024 .f32) (z : Fin 1) (j : Fin 1024) : (st_k0_t1 (F := Ideal) 𝒱 c bd i arg3 harg3 arg4 harg4 arg5 harg5 arg6 harg6 arg7 harg7 arg8 harg8 arg9 harg9 arg10 harg10 k0_h3 v24 X_arg5 X_arg7 X_arg10 init 8).1 (ix2 z j) =
    init (ix2 z j) + ∑ r, DG (arg10.view.read (Elt Ideal) X_arg10) (arg7.view.read (Elt Ideal) X_arg7) j r :=
  carried_rows (fun n => (st_k0_t1 (F := Ideal) 𝒱 c bd i arg3 harg3 arg4 harg4 arg5 harg5 arg6 harg6 arg7 harg7 arg8 harg8 arg9 harg9 arg10 harg10 k0_h3 v24 X_arg5 X_arg7 X_arg10 init n).1 (ix2 z j)) _ fun k =>
    (congrFun (congrArg Prod.fst (st_k0_t1_succ 𝒱 c bd i arg3 harg3 arg4 harg4 arg5 harg5 arg6 harg6 arg7 harg7 arg8 harg8 arg9 harg9 arg10 harg10 k0_h3 v24 X_arg5 X_arg7 X_arg10 init (Fin.cast trips.symm k))) _).trans (tripR 𝒱 c bd i arg3 harg3 arg4 harg4 arg5 harg5 arg6 harg6 arg7 harg7 arg8 harg8 arg9 harg9 arg10 harg10 k0_h3 v24 X_arg5 X_arg7 X_arg10 k _ z j)

end Loop

section Kernel
open Cert.FfnInDxIdeal Cert.FfnInDxIdeal.Gen

variable (m : (ℓ : Loc nD τ sig) → Buf (Elt Ideal) ℓ) (c : Dev nD)

theorem idx : ∀ t : Fin cfg0.N, win0_0.index t = ![t.val % 4 / 2, t.val / 4, t.val % 4 % 2] ∧
    win0_1.index t = ![t.val % 4, 0] ∧ win0_2.index t = ![t.val / 4, 0] ∧ win0_3.index t = ![0, 0] ∧
    win0_4.index t = ![t.val / 4, 0] ∧ win0_5.index t = ![t.val / 4, 0] ∧ win0_6.index t = ![0, 0] :=
  (by decide +kernel : ∀ t : Fin grid0.N, _)

/-- A block's contribution to the product. -/
def pr (b : Vec Ideal S1x1024x1408 .bf16) (d : Vec Ideal S1408x1024 .bf16) (y : S1024x1024.Idx) : EReal :=
  ∑ x, b (ix3 0 (y 0) x) * d (ix2 x (y 1))

theorem pay1_eq (b : Vec Ideal S1x1024x1408 .bf16) (d : Vec Ideal S1408x1024 .bf16) : k0_pay1 (F := Ideal) b d = pr b d := by
  refine funext fun y => ?_
  idx_vars y
  pointwise [k0_pay1, pr]
theorem pay2_eq (a : Vec Ideal S1024x1024 .f32) (b : Vec Ideal S1x1024x1408 .bf16) (d : Vec Ideal S1408x1024 .bf16) :
    k0_pay2 a b d = fun y => a y + pr b d y := by
  refine funext fun y => ?_
  idx_vars y
  pointwise [k0_pay2, pr]
theorem pay4_eq (a : Vec Ideal S1024x1024 .f32) (b : Vec Ideal S1x1024x1408 .bf16) (d : Vec Ideal S1408x1024 .bf16) :
    k0_pay4 a b d = fun y => a y + pr b d y := by
  refine funext fun y => ?_
  idx_vars y
  pointwise [k0_pay4, pr]

theorem pay10_at (a b : Vec Ideal S1x1024 .f32) (z : Fin 1) (j : Fin 1024) : k0_pay10 a b (ix2 z j) = a (ix2 z j) + b (ix2 z j) := by
  pointwise [k0_pay10]
theorem pay3_at (z : Fin 1) (j : Fin 1024) : k0_pay3 (F := Ideal) (ix2 z j) = 0 := by
  pointwise [k0_pay3]
theorem pay5_at (z : Fin 1) (j : Fin 1024) : k0_pay5 (F := Ideal) (ix2 z j) = 0 := by
  pointwise [k0_pay5]

theorem N16 : cfg0.N = 16 := N_0

/-- The scratch as the last point's loop reads it. -/
theorem scratch_read (t : Fin cfg0.N) (X : Vec Ideal S1024x1024 .f32) :
    View.read (Elt Ideal) (View.whole cc0_scratch0) ((View.whole cc0_scratch0).writes (Elt Ideal) (View.whole cc0_scratch0).junk
      [⟨Rect.unit ![0, 0] ![1024, 1024] inb_S1024x1024_S1024x1024_0_0,
        k0_pay4 (View.read (Elt Ideal) (View.whole cc0_scratch0) ((Memref.isWhole_whole cc0_scratch0).unread X)) (iblk m c 0 t) (iblk m c 1 t)⟩]) =
    fun y => X y + pr (iblk m c 0 t) (iblk m c 1 t) y := by
  rw [View.read_writes_junk_eq_canon, View.canon_unit_zero (S := S1024x1024) (by decide), pay4_eq, (Memref.isWhole_whole cc0_scratch0).read_unread]

theorem scr_A (t : Fin cfg0.N) (h : t.val % 4 = 0) : (outsAt0 m c t.val t.isLt).2.2 = pr (iblk m c 0 t) (iblk m c 1 t) := by
  rw [outsAt0_A m c t h (by omega) (by omega)]
  frame_out
  exact pay1_eq _ _

theorem scr_B (t : Fin cfg0.N) (h : 1 ≤ t.val % 4 ∧ t.val % 4 ≤ 2) (h' : t.val - 1 < cfg0.N) : (outsAt0 m c t.val t.isLt).2.2 =
    fun y => (outsAt0 m c (t.val - 1) h').2.2 y + pr (iblk m c 0 t) (iblk m c 1 t) y := by
  rw [outsAt0_B m c t (by omega) h (by omega)]
  frame_out
  refine (pay2_eq _ _ _).trans ?_
  rw [(Memref.isWhole_whole cc0_scratch0).read_unread]

theorem dg_AB (t : Fin cfg0.N) (h : t.val % 4 ≤ 2) (h' : t.val - 1 < cfg0.N) : (outsAt0 m c t.val t.isLt).2.1 =
    (outsAt0 m c (t.val - 1) h').2.1 := by
  by_cases h0 : t.val % 4 = 0
  · rw [outsAt0_A m c t h0 (by omega) (by omega)]
    frame_out
    rfl
  · rw [outsAt0_B m c t (by omega) (by omega) (by omega)]
    frame_out
    rfl

/-- The whole product of the block, at its last point. -/
abbrev full (t : Fin cfg0.N) (h' : t.val - 1 < cfg0.N) (y : S1024x1024.Idx) : EReal :=
  (outsAt0 m c (t.val - 1) h').2.2 y + pr (iblk m c 0 t) (iblk m c 1 t) y

theorem rows_CD (t : Fin cfg0.N) (h : t.val % 4 = 3) (h' : t.val - 1 < cfg0.N) : (outsAt0 m c t.val t.isLt).1 =
    DX (full m c t h') (iblk m c 4 t) (iblk m c 2 t) (iblk m c 3 t) := by
  by_cases h0 : t.val < 4
  · rw [outsAt0_C m c t (by omega) (by omega) h h0]
    frame_out
    refine (st_rows _ _ _ _ _ _ _ _ _ _ _ _ _ _ _ _ _ _ _ _ _ _ _ _ _ _).trans ?_
    rw [Memref.IsWhole.read_unread, Memref.IsWhole.read_unread]
    exact congrArg (DX · _ _ _) (scratch_read m c t _)
  · rw [outsAt0_D m c t (by omega) (by omega) h h0]
    frame_out
    refine (st_rows _ _ _ _ _ _ _ _ _ _ _ _ _ _ _ _ _ _ _ _ _ _ _ _ _ _).trans ?_
    rw [Memref.IsWhole.read_unread, Memref.IsWhole.read_unread]
    exact congrArg (DX · _ _ _) (scratch_read m c t _)

theorem dg_C (t : Fin cfg0.N) (h : t.val % 4 = 3) (h0 : t.val < 4) (h' : t.val - 1 < cfg0.N) (z : Fin 1) (j : Fin 1024) :
    (outsAt0 m c t.val t.isLt).2.1 (ix2 z j) = ∑ i, DG (full m c t h') (iblk m c 4 t) j i := by
  rw [outsAt0_C m c t (by omega) (by omega) h h0]
  frame_out
  refine (pay10_at _ _ z j).trans ?_
  rw [pay3_at, zero_add]
  refine (st_sum _ _ _ _ _ _ _ _ _ _ _ _ _ _ _ _ _ _ _ _ _ _ _ _ _ _ z j).trans ?_
  rw [pay5_at, zero_add, Memref.IsWhole.read_unread]
  exact congrArg (fun P => ∑ i, DG (n := 1024) P (iblk m c 4 t) j i) (scratch_read m c t _)

theorem dg_D (t : Fin cfg0.N) (h : t.val % 4 = 3) (h0 : ¬t.val < 4) (h' : t.val - 1 < cfg0.N) (z : Fin 1) (j : Fin 1024) :
    (outsAt0 m c t.val t.isLt).2.1 (ix2 z j) =
      (outsAt0 m c (t.val - 1) h').2.1 (ix2 z j) + ∑ i, DG (full m c t h') (iblk m c 4 t) j i := by
  rw [outsAt0_D m c t (by omega) (by omega) h h0]
  frame_out
  refine (pay10_at _ _ z j).trans (congrArg (_ + ·) ?_)
  refine (st_sum _ _ _ _ _ _ _ _ _ _ _ _ _ _ _ _ _ _ _ _ _ _ _ _ _ _ z j).trans ?_
  rw [pay5_at, zero_add, Memref.IsWhole.read_unread]
  exact congrArg (fun P => ∑ i, DG (n := 1024) P (iblk m c 4 t) j i) (scratch_read m c t _)

abbrev A0 : FVec Ideal S2x4096x2816 .bf16 := m ((c : Thread nD τ).loc main_arg0)
abbrev W0 : FVec Ideal S1024x5632 .f32 := m ((c : Thread nD τ).loc main_arg1)
abbrev R0 : FVec Ideal S4096x1024 .f32 := m ((c : Thread nD τ).loc main_arg2)
abbrev X0 : FVec Ideal S4096x1024 .f32 := m ((c : Thread nD τ).loc main_arg3)
abbrev G0 : FVec Ideal S1x1024 .f32 := m ((c : Thread nD τ).loc main_arg4)

/-- The two halves side by side. -/
def side (a : FVec Ideal S2x4096x2816 .bf16) (r : Fin 4096) (l : Fin 5632) : EReal :=
  if h : l.val < 2816 then a (ix3 0 r ⟨l.val, h⟩) else a (ix3 1 r ⟨l.val - 2816, by omega⟩)

theorem side_eq (a : FVec Ideal S2x4096x2816 .bf16) (k : Fin 2) (r : Fin 4096) (l : Fin 2816) (l' : Fin 5632)
    (h : l'.val = k.val * 2816 + l.val) : side a r l' = a (ix3 k r l) := by
  have hl := l.isLt
  unfold side
  by_cases hk : k = 0
  · subst hk
    have h : l'.val = 0 * 2816 + l.val := h
    rw [dif_pos (by omega)]
    exact congrArg (fun q => a (ix3 0 r q)) (Fin.ext (show l'.val = l.val by omega))
  · obtain rfl : k = 1 := by omega
    have h : l'.val = 1 * 2816 + l.val := h
    rw [dif_neg (by omega)]
    exact congrArg (fun q => a (ix3 1 r q)) (Fin.ext (show l'.val - 2816 = l.val by omega))

/-- Row `i` of block `q`, and lane `x` of contracted block `k`. -/
def row_ (q : Fin 4) (i : Fin 1024) : Fin 4096 := ⟨q.val * 1024 + i.val, by omega⟩
def lane (k : Fin 4) (x : Fin 1408) : Fin 5632 := ⟨k.val * 1408 + x.val, by omega⟩

/-- The point of block `q` at contracted block `k`. -/
def pt (q k : Fin 4) : Fin cfg0.N := ⟨q.val * 4 + k.val, by have := N16; omega⟩

theorem b0 (q k : Fin 4) (r : Fin 1024) (x : Fin 1408) :
    (iblk m c 0 (pt q k) : Vec Ideal S1x1024x1408 .bf16) (ix3 0 r x) = side (A0 m c) (row_ q r) (lane k x) := by
  rw [side_eq (A0 m c) ⟨k.val / 2, by omega⟩ (row_ q r) ⟨k.val % 2 * 1408 + x.val, by omega⟩ _
    (show k.val * 1408 + x.val = k.val / 2 * 2816 + (k.val % 2 * 1408 + x.val) by omega)]
  have e1 : (pt q k).val % 4 = k.val := by simp only [pt]; omega
  have e2 : (pt q k).val / 4 = q.val := by simp only [pt]; omega
  blk_point [iblk, V, idx (pt q k), e1, e2, row_]
theorem b1 (q k : Fin 4) (x : Fin 1408) (j : Fin 1024) :
    (iblk m c 1 (pt q k) : Vec Ideal S1408x1024 .bf16) (ix2 x j) = W0 m c (ix2 j (lane k x)) := by
  have e1 : (pt q k).val % 4 = k.val := by simp only [pt]; omega
  blk_point [iblk, V, idx (pt q k), e1, lane]
theorem b2 (q k : Fin 4) (r j : Fin 1024) : (iblk m c 2 (pt q k) : Vec Ideal S1024x1024 .f32) (ix2 r j) = R0 m c (ix2 (row_ q r) j) := by
  have e2 : (pt q k).val / 4 = q.val := by simp only [pt]; omega
  blk_point [iblk, V, idx (pt q k), e2, row_]
theorem b3 (q k : Fin 4) (z : Fin 1) (j : Fin 1024) : (iblk m c 3 (pt q k) : Vec Ideal S1x1024 .f32) (ix2 z j) = G0 m c (ix2 z j) := by
  blk_point [iblk, V, idx (pt q k)]
theorem b4 (q k : Fin 4) (r j : Fin 1024) : (iblk m c 4 (pt q k) : Vec Ideal S1024x1024 .f32) (ix2 r j) = X0 m c (ix2 (row_ q r) j) := by
  have e2 : (pt q k).val / 4 = q.val := by simp only [pt]; omega
  blk_point [iblk, V, idx (pt q k), e2, row_]

/-- The whole product. -/
def prod (a : FVec Ideal S2x4096x2816 .bf16) (w : FVec Ideal S1024x5632 .f32) (y : S4096x1024.Idx) : EReal :=
  ∑ l, side a (y 0) l * w (ix2 (y 1) l)

theorem full_at (q : Fin 4) (h') (i j : Fin 1024) :
    full m c (pt q 3) h' (ix2 i j) = prod (A0 m c) (W0 m c) (ix2 (row_ q i) j) := by
  have e : ∀ k, pr (iblk m c 0 (pt q k)) (iblk m c 1 (pt q k)) (ix2 i j) =
      ∑ x, side (A0 m c) (row_ q i) (lane k x) * W0 m c (ix2 j (lane k x)) := fun k =>
    Finset.sum_congr rfl fun x _ => by exact congrArg₂ (· * ·) (b0 m c q k i x) (b1 m c q k x j)
  have h2 := scr_B m c (pt q 2) (by simp only [pt]; omega) (by simp only [pt]; have := N16; omega)
  have h1 := scr_B m c (pt q 1) (by simp only [pt]; omega) (by simp only [pt]; have := N16; omega)
  have h0 := scr_A m c (pt q 0) (by simp only [pt]; omega)
  show (outsAt0 m c (pt q 2).val (pt q 2).isLt).2.2 (ix2 i j) + _ = _
  rw [h2]
  show (outsAt0 m c (pt q 1).val (pt q 1).isLt).2.2 (ix2 i j) + _ + _ = _
  rw [h1]
  show (outsAt0 m c (pt q 0).val (pt q 0).isLt).2.2 (ix2 i j) + _ + _ + _ = _
  rw [h0, e, e, e, e]
  refine Eq.trans ?_ (Fin.sum_mul_add_congr (S := 4) (n := 1408) (F := fun k x =>
    side (A0 m c) (row_ q i) (lane k x) * W0 m c (ix2 j (lane k x))) (fun _ _ _ => rfl))
  rw [Fin.sum_univ_four]

theorem rows_at (q : Fin 4) (i j : Fin 1024) : (outsAt0 m c (pt q 3).val (pt q 3).isLt).1 (ix2 i j) =
    DX (prod (A0 m c) (W0 m c)) (X0 m c) (R0 m c) (G0 m c) (ix2 (row_ q i) j) := by
  rw [rows_CD m c (pt q 3) (by simp only [pt]; omega) (by have := (pt q 3).isLt; omega)]
  exact congrArg₂ (· + ·) (b2 m c q 3 i j) (congrArg₂ (fun x u => ker x u j) (funext fun k => b4 m c q 3 i k)
    (funext fun k => congrArg₂ (· * ·) (full_at m c q _ i k) (b3 m c q 3 0 k)))

theorem dg_at (q : Fin 4) (h') (j i : Fin 1024) : DG (n := 1024) (full m c (pt q 3) h') (iblk m c 4 (pt q 3)) j i =
    DG (prod (A0 m c) (W0 m c)) (X0 m c) j (row_ q i) :=
  congrArg₂ (· * ·) (full_at m c q _ i j) (congrArg₂ (· * ·) (b4 m c q 3 i j) (congrArg rs (funext fun k => b4 m c q 3 i k)))

theorem pt_last (t : Fin cfg0.N) (h : t.val % 4 = 3) : ∃ q, t = pt q 3 :=
  ⟨⟨t.val / 4, by have := lt_of_lt_of_eq t.isLt N16; omega⟩, Fin.ext (show t.val = t.val / 4 * 4 + 3 by omega)⟩

theorem final5 : (dats m 0 c).arrAt 5 (cfgs 0).N = DX (prod (A0 m c) (W0 m c)) (X0 m c) (R0 m c) (G0 m c) := by
  refine (dats m 0 c).arrAt_eq_of_covers 5 _ (by decide +kernel) fun t hf y => ?_
  obtain ⟨q, rfl⟩ := pt_last t ((flush0_5 t).mp hf)
  blk_simp
  rw [after0_5]
  idx_vars y
  refine (rows_at m c q y0 y1).trans (congrArg _ ?_)
  have e2 : (pt q 3).val / 4 = q.val := by simp only [pt]; omega
  blk_ext [idx (pt q 3), e2, row_]

theorem dg_0 (z : Fin 1) (j : Fin 1024) : (outsAt0 m c (pt 0 3).val (pt 0 3).isLt).2.1 (ix2 z j) =
    ∑ i, DG (prod (A0 m c) (W0 m c)) (X0 m c) j (row_ 0 i) := by
  rw [dg_C m c (pt 0 3) (by decide) (by decide) (by have := (pt 0 3).isLt; omega)]
  exact Finset.sum_congr rfl fun i _ => dg_at m c 0 _ j i

theorem dg_s (q q' : Fin 4) (h : q'.val = q.val + 1) (z : Fin 1) (j : Fin 1024) :
    (outsAt0 m c (pt q' 3).val (pt q' 3).isLt).2.1 (ix2 z j) = (outsAt0 m c (pt q 3).val (pt q 3).isLt).2.1 (ix2 z j) +
      ∑ i, DG (prod (A0 m c) (W0 m c)) (X0 m c) j (row_ q' i) := by
  have hp : ∀ k : Fin 4, (pt q' k).val = q'.val * 4 + k.val := fun _ => rfl
  have hq : (pt q 3).val = q.val * 4 + 3 := rfl
  have step : ∀ n (hn : n < cfg0.N) n' (hn' : n' < cfg0.N), n = n' + 1 → n % 4 ≤ 2 →
      (outsAt0 m c n hn).2.1 = (outsAt0 m c n' hn').2.1 := fun n hn n' hn' e h => by
    subst e; exact dg_AB m c ⟨n' + 1, hn⟩ h hn'
  rw [dg_D m c (pt q' 3) (by rw [hp]; show (q'.val * 4 + 3) % 4 = 3; omega) (by rw [hp]; omega) (by have := (pt q' 3).isLt; omega)]
  refine congrArg₂ (· + ·) ?_ (Finset.sum_congr rfl fun i _ => dg_at m c q' _ j i)
  refine congrFun ?_ _
  rw [step ((pt q' 3).val - 1) _ (pt q' 1).val (pt q' 1).isLt (by rw [hp, hp]; rfl) (by rw [hp]; show (q'.val * 4 + 2) % 4 ≤ 2; omega),
    step (pt q' 1).val _ (pt q' 0).val (pt q' 0).isLt (by rw [hp, hp]; rfl) (by rw [hp]; show (q'.val * 4 + 1) % 4 ≤ 2; omega),
    step (pt q' 0).val _ (pt q 3).val (pt q 3).isLt (by rw [hp, hq]; show q'.val * 4 + 0 = _; omega)
      (by rw [hp]; show (q'.val * 4 + 0) % 4 ≤ 2; omega)]

theorem final6 : (dats m 0 c).arrAt 6 (cfgs 0).N = fun y => ∑ r, DG (prod (A0 m c) (W0 m c)) (X0 m c) (y 1) r := by
  refine (dats m 0 c).arrAt_eq_of_after_last 6 t0_15 (by decide +kernel) _ fun j => ?_
  blk_simp
  rw [after0_6]
  idx_vars j
  show (outsAt0 m c (pt 3 3).val (pt 3 3).isLt).2.1 (ix2 j0 j1) = ∑ r, DG (prod (A0 m c) (W0 m c)) (X0 m c) j1 r
  rw [dg_s m c 2 3 rfl, dg_s m c 1 2 rfl, dg_s m c 0 1 rfl, dg_0]
  refine Eq.trans ?_ (Fin.sum_mul_add_congr (S := 4) (n := 1024) (F := fun q i =>
    DG (prod (A0 m c) (W0 m c)) (X0 m c) j1 (row_ q i)) (fun _ _ _ => rfl))
  rw [Fin.sum_univ_four]
end Kernel

section Pure
open Cert.FfnInDxRefIdeal Cert.FfnInDxRefIdeal.Read

variable (x0 : FVec Ideal S2x4096x2816 .bf16) (x1 : FVec Ideal S1024x5632 .f32) (x2 x3 : FVec Ideal S4096x1024 .f32)
  (x4 : FVec Ideal S1x1024 .f32)

theorem v22_at (i : Fin 4096) (j : Fin 1024) : val_main_v22 (F := Ideal) x0 x1 (ix2 i j) = prod x0 x1 (ix2 i j) := by
  pointwise [val_main_v22, val_main_v5]
  refine Finset.sum_congr rfl fun x _ => congrArg (· * x1 (ix2 j x)) ?_
  pointwise [val_main_v5, val_main_v4, val_main_v3, val_main_v2, val_main_v1, val_main_v0]
  rfl

theorem v25_at (z : Fin 1) (j : Fin 1024) :
    val_main_v25 (F := Ideal) x0 x1 x3 (ix2 z j) = ∑ r, DG (prod x0 x1) x3 j r := by
  pointwise [val_main_v42, val_main_v41, val_main_v40, val_main_v39, val_main_v38, val_main_v37, val_main_v36, val_main_v35,
    val_main_v34, val_main_v33, val_main_v32, val_main_v31, val_main_v30, val_main_v29, val_main_v28, val_main_v27,
    val_main_v26, val_main_v25, val_main_v24, val_main_v23, val_main_v18, val_main_v17, val_main_v16, val_main_v15,
    val_main_v14, val_main_v13, val_main_v12, val_main_v11, val_main_v10, val_main_v9, val_main_v8, val_main_v7,
    val_main_v6, val_main_cst, val_main_cst_0, val_main_cst_1, val_main_cst_2, val_main_cst_3, val_main_cst_4,
    val_main_cst_5, val_main_cst_6]
  refine Finset.sum_congr rfl fun r _ => ?_
  rw [v22_at]
  exact mul_comm _ _

theorem v42_at (xr : S4096x1024.Idx → ℝ) (ur : Fin 4096 → Fin 1024 → ℝ) (hx : x3 = fun i => ((xr i : ℝ) : EReal))
    (hu : ∀ i k, prod x0 x1 (ix2 i k) * x4 (ix2 0 k) = ((ur i k : ℝ) : EReal)) (i : Fin 4096) (j : Fin 1024) :
    val_main_v42 (F := Ideal) x0 x1 x2 x3 x4 (ix2 i j) = DX (prod x0 x1) x3 x2 x4 (ix2 i j) := by
  pointwise [val_main_v42, val_main_v41, val_main_v40, val_main_v39, val_main_v38, val_main_v37, val_main_v36, val_main_v35,
    val_main_v34, val_main_v33, val_main_v32, val_main_v31, val_main_v30, val_main_v29, val_main_v28, val_main_v27,
    val_main_v26, val_main_v25, val_main_v24, val_main_v23, val_main_v18, val_main_v17, val_main_v16, val_main_v15,
    val_main_v14, val_main_v13, val_main_v12, val_main_v11, val_main_v10, val_main_v9, val_main_v8, val_main_v7,
    val_main_v6, val_main_cst, val_main_cst_0, val_main_cst_1, val_main_cst_2, val_main_cst_3, val_main_cst_4,
    val_main_cst_5, val_main_cst_6]
  simp only [Fin.sum_univ_one, v22_at, hu]
  have key := ker_eq (x2 (ix2 i j)) (fun k => xr (ix2 i k)) (ur i) j
  subst hx
  refine Eq.trans ?_ (key.symm.trans ?_)
  · rfl
  · exact congrArg (fun u => x2 (ix2 i j) + ker (fun k => ((xr (ix2 i k) : ℝ) : EReal)) u j) (funext fun k => (hu i k).symm)
end Pure

/-- The precondition: the product's cotangent, the weight, the rows and the gain are finite. -/
theorem pre {a : FVec Ideal Pre_ffn_in_dx_pre.S2x4096x2816 .bf16} {w : FVec Ideal Pre_ffn_in_dx_pre.S1024x5632 .f32}
    {r x : FVec Ideal Pre_ffn_in_dx_pre.S4096x1024 .f32} {g : FVec Ideal Pre_ffn_in_dx_pre.S1x1024 .f32}
    (h : Pre_ffn_in_dx_pre.fn a w r x g = fun _ => 1#1) :
    (∃ f : Pre_ffn_in_dx_pre.S2x4096x2816.Idx → ℝ, a = fun i => ((f i : ℝ) : EReal)) ∧
    (∃ f : Pre_ffn_in_dx_pre.S1024x5632.Idx → ℝ, w = fun i => ((f i : ℝ) : EReal)) ∧
    (∃ f : Pre_ffn_in_dx_pre.S4096x1024.Idx → ℝ, x = fun i => ((f i : ℝ) : EReal)) ∧
    ∃ f : Pre_ffn_in_dx_pre.S1x1024.Idx → ℝ, g = fun i => ((f i : ℝ) : EReal) := by
  have h0 := congrFun h (fun i => i.elim0)
  obtain ⟨h123, h4⟩ := IntOp.andi_eq_one.1 h0
  obtain ⟨h12, h3⟩ := IntOp.andi_eq_one.1 h123
  obtain ⟨h1, h2⟩ := IntOp.andi_eq_one.1 h12
  exact ⟨Lift.all_finite _ _ _ _ _ _ h1, Lift.all_finite _ _ _ _ _ _ h2, Lift.all_finite _ _ _ _ _ _ h3,
    Lift.all_finite _ _ _ _ _ _ h4⟩

/-- The product of finite arrays is finite. -/
theorem prod_real {a : FVec Ideal FfnInDxIdeal.S2x4096x2816 .bf16} {w : FVec Ideal FfnInDxIdeal.S1024x5632 .f32}
    (ar : FfnInDxIdeal.S2x4096x2816.Idx → ℝ) (wr : FfnInDxIdeal.S1024x5632.Idx → ℝ)
    (ha : a = fun i => ((ar i : ℝ) : EReal)) (hw : w = fun i => ((wr i : ℝ) : EReal)) (i : Fin 4096) (j : Fin 1024) :
    ∃ p : ℝ, prod a w (ix2 i j) = ((p : ℝ) : EReal) := by
  subst ha hw
  refine ⟨_, Eq.trans (Finset.sum_congr rfl fun l _ => ?_) (dot_real (fun l => if h : l.val < 2816 then
    ar (ix3 0 i ⟨l.val, h⟩) else ar (ix3 1 i ⟨l.val - 2816, by omega⟩)) fun l => wr (ix2 j l))⟩
  refine congrArg (· * _) ?_
  show side _ i l = _
  unfold side
  split <;> rfl

section Reference
open Cert.FfnInDxRefIdeal Cert.FfnInDxRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v42) = val_main_v42 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_v25) = val_main_v25 (F := Ideal) (m ((c.tc : Thread nD τ).loc main_arg0))
        (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => ⟨(h c).1.trans (val_main_v42_eq _ _), (h c).2.1.trans (val_main_v25_eq _ _ _),
    (h c).2.2⟩, sem_eq_zero_of_no_sems (by decide) r.2⟩) (Value.run m ρ)
end Reference

theorem frame_ref : Cert.quiescent_FfnInDxRefIdeal := fun m g _ =>
  (θ_run Cert.FfnInDxRefIdeal.defs _ _).mono (fun _ h => ⟨fun c => (h.1 c).2.2, h.2⟩) (run_ref m g)

theorem frame_ref_pre : Cert.quiescent_FfnInDxRefIdeal_pre_ffn_in_dx_pre := fun m g _ => frame_ref m g trivial

theorem algebraic : Cert.algebraic_FfnInDxIdeal_FfnInDxRefIdeal_pre_ffn_in_dx_pre := by
  pair_intro
  · run_from Cert.FfnInDxIdeal.Gen.run_main m g
  · refine (θ_run Cert.FfnInDxRefIdeal.defs _ _).mono (fun r h c => ?_) (run_ref m' g')
    obtain ⟨h0, h1, h2⟩ := h.1 c
    obtain ⟨e0, e1, e2, e3, e4⟩ := hagree c
    obtain ⟨⟨ar, ha⟩, ⟨wr, hw⟩, ⟨xr, hx⟩, ⟨gr, hg⟩⟩ := pre (hpre c)
    refine ⟨h0.trans ?_, h1.trans ?_, h2⟩
    · rw [e0, e1, e2, e3, e4, final5 m c]
      choose pr hp using prod_real ar wr ha hw
      refine funext fun j => ?_
      idx_vars j
      refine v42_at _ _ _ _ _ xr (fun i k => pr i k * gr (ix2 0 k)) hx (fun i k => ?_) j0 j1
      rw [hp, EReal.coe_mul]
      exact congrArg (((pr i k : ℝ) : EReal) * ·) (congrFun hg _)
    · rw [e0, e1, e3, final6 m c]
      refine funext fun j => ?_
      idx_vars j
      exact v25_at _ _ _ j0 j1

end Cert.FfnDx

end
-- ==== Proof.HgDx.lean ====
/-
  `hg_in_dx`: the product with the transposed weight, two blocks of the contracted axis accumulated, and the norm's
  gradient of its rows, are the derivative of the product of the norm.
-/
module

public import proofs.«01_k».proof.Proof.Gen.HgInDxIdeal.Value
public import proofs.«01_k».proof.Proof.Gen.HgInDxIdeal.Frame
public import proofs.«01_k».proof.Proof.Gen.HgInDxRefIdeal.Run
public import proofs.«01_k».proof.Proof.Gen.HgInDxRefIdeal.Read
public import proofs.«01_k».proof.Proof.Gen.Pre_hg_in_dx_pre
public import proofs.«01_k».proof.Proof.Strip
public import Idealize.ShloMosaic.Lib.Pipeline.ValueKit
public import Idealize.ShloMosaic.Lib.Claim
public import proofs.«01_k».proof.Defs

@[expose] public section

set_option maxRecDepth 16384

noncomputable section

namespace Cert.HgDx

open Idealize.ShloMosaic Idealize.ShloMosaic.TcCoe Idealize.SL.Sem Cert.Strip
open Idealize.ShloMosaic.Pipeline (Dat)

section Loop
open Cert.HgInDxIdeal Cert.HgInDxIdeal.Gen

theorem pay8_at (g : Vec Ideal S1x1024 .f32) (d x r : Vec Ideal S128x1024 .f32) (i : Fin 128) (j : Fin 1024) :
    k0_pay8 g d x r (ix2 i j) = DX (n := 128) d x r g (ix2 i j) := by
  pointwise [k0_pay8, k0_pay7, k0_pay6, DX, ker, rs]

theorem pay9_at (a : Vec Ideal S1x1024 .f32) (d x : Vec Ideal S128x1024 .f32) (z : Fin 1) (j : Fin 1024) :
    k0_pay9 a d x (ix2 z j) = a (ix2 z j) + ∑ i, DG (n := 128) d x j i := by
  pointwise [k0_pay9, k0_pay7, k0_pay6, DG, rs]

theorem trips : k0_t1_loop.trips = 8 := by decide
theorem off : ∀ k : Fin k0_t1_loop.trips, k0_off1 k = ![k.val * 128, 0] := by decide

variable (𝒱 : Variants) (c : Dev nD) (bd : Option 𝒱.V) (i : grid0.Coords) (arg3 : Memref sig .tc .vmem S1024x1664 .bf16)
  (harg3 : arg3.IsWhole) (arg4 : Memref sig .tc .vmem S1664x1024 .bf16) (harg4 : arg4.IsWhole)
  (arg5 : Memref sig .tc .vmem S1024x1024 .f32) (harg5 : arg5.IsWhole) (arg6 : Memref sig .tc .vmem S1x1024 .f32)
  (harg6 : arg6.IsWhole) (arg7 : Memref sig .tc .vmem S1024x1024 .f32) (harg7 : arg7.IsWhole)
  (arg8 : Memref sig .tc .hbm S8x128 .f32) (harg8 : arg8.IsWhole) (arg9 : Memref sig .tc .vmem S1024x1024 .f32)
  (harg9 : arg9.IsWhole) (arg10 : Memref sig .tc .vmem S1x1024 .f32) (harg10 : arg10.IsWhole)
  (arg11 : Memref sig .tc .vmem S1024x1024 .f32) (harg11 : arg11.IsWhole) (k0_h3 : k0_cond3 i = 1#1)
  (v23 : Vec Ideal S1x1024 .f32) (X_arg5 : BufTy.Contents (Elt Ideal) arg5.view.ty)
  (X_arg7 : BufTy.Contents (Elt Ideal) arg7.view.ty) (X_arg11 : BufTy.Contents (Elt Ideal) arg11.view.ty)

theorem tripR (k : Fin 8) (acc : FVec Ideal S1x1024 .f32) (z : Fin 1) (j : Fin 1024) :
    tripR_k0_t1 (F := Ideal) 𝒱 c bd i arg3 harg3 arg4 harg4 arg5 harg5 arg6 harg6 arg7 harg7 arg8 harg8 arg9 harg9 arg10 harg10 arg11 harg11 k0_h3 v23 X_arg5 X_arg7 X_arg11 (Fin.cast trips.symm k) acc (ix2 z j) =
      acc (ix2 z j) + ∑ i, DG (arg11.view.read (Elt Ideal) X_arg11) (arg7.view.read (Elt Ideal) X_arg7) j (rowAt k i) := by
  unfold tripR_k0_t1 trip_k0_t1
  dsimp only
  refine (pay9_at _ _ _ z j).trans (congrArg (acc (ix2 z j) + ·) (Finset.sum_congr rfl fun i _ => ?_))
  have e : ∀ (b : Memref sig .tc .vmem S1024x1024 .f32) X h i' j', b.view.readAt (Elt Ideal)
      (Rect.unit (s := SB) (k0_off1 (Fin.cast trips.symm k)) SS.size h).toLoadRect X (ix2 i' j') = _ :=
    fun b X h i' j' => readAt_at b.view X k (off _) h i' j'
  exact congrArg₂ (· * ·) (e arg11 _ _ i j) (congrArg₂ (· * ·) (e arg7 _ _ i j) (congrArg rs (funext fun k' => e arg7 _ _ i k')))

theorem tripL (k : Fin 8) (acc : FVec Ideal S1x1024 .f32) : ∃ (P : SS.Idx → EReal) (h : ∀ a, k0_off1 (Fin.cast trips.symm k) a + SS.size a ≤ SB.size a), tripL_k0_t1 (F := Ideal) 𝒱 c bd i arg3 harg3 arg4 harg4 arg5 harg5 arg6 harg6 arg7 harg7 arg8 harg8 arg9 harg9 arg10 harg10 arg11 harg11 k0_h3 v23 X_arg5 X_arg7 X_arg11
      (Fin.cast trips.symm k) acc = [⟨Rect.unit (s := SB) (k0_off1 (Fin.cast trips.symm k)) SS.size h, P⟩] ∧
    ∀ i j, P (ix2 i j) = DX (arg11.view.read (Elt Ideal) X_arg11) (arg7.view.read (Elt Ideal) X_arg7)
      (arg5.view.read (Elt Ideal) X_arg5) v23 (ix2 (rowAt k i) j) := by
  unfold tripL_k0_t1 trip_k0_t1
  dsimp only
  refine ⟨_, _, rfl, fun i j => ?_⟩
  have e : ∀ (b : Memref sig .tc .vmem S1024x1024 .f32) X h i' j', b.view.readAt (Elt Ideal)
      (Rect.unit (s := SB) (k0_off1 (Fin.cast trips.symm k)) SS.size h).toLoadRect X (ix2 i' j') = _ :=
    fun b X h i' j' => readAt_at b.view X k (off _) h i' j'
  refine (pay8_at _ _ _ _ i j).trans ?_
  exact congrArg₂ (· + ·) (e arg5 _ _ i j) (congrArg₂ (fun x u => ker x u j) (funext fun k' => e arg7 _ _ i k')
    (funext fun k' => congrArg (· * v23 (ix2 0 k')) (e arg11 _ _ i k')))

/-- What the strips leave of the rows … -/
theorem st_rows (init : FVec Ideal S1x1024 .f32) : View.canon (st_k0_t1 (F := Ideal) 𝒱 c bd i arg3 harg3 arg4 harg4 arg5 harg5 arg6 harg6 arg7 harg7 arg8 harg8 arg9 harg9 arg10 harg10 arg11 harg11 k0_h3 v23 X_arg5 X_arg7 X_arg11 init 8).2 =
    DX (arg11.view.read (Elt Ideal) X_arg11) (arg7.view.read (Elt Ideal) X_arg7)
      (arg5.view.read (Elt Ideal) X_arg5) v23 := by
  choose P h hP hv using fun k acc => tripL 𝒱 c bd i arg3 harg3 arg4 harg4 arg5 harg5 arg6 harg6 arg7 harg7 arg8 harg8 arg9 harg9 arg10 harg10 arg11 harg11 k0_h3 v23 X_arg5 X_arg7 X_arg11 k acc
  refine canon_strips (st_k0_t1 (F := Ideal) 𝒱 c bd i arg3 harg3 arg4 harg4 arg5 harg5 arg6 harg6 arg7 harg7 arg8 harg8 arg9 harg9 arg10 harg10 arg11 harg11 k0_h3 v23 X_arg5 X_arg7 X_arg11 init) (fun k => k0_off1 (Fin.cast trips.symm k)) (fun k => h k (st_k0_t1 (F := Ideal) 𝒱 c bd i arg3 harg3 arg4 harg4 arg5 harg5 arg6 harg6 arg7 harg7 arg8 harg8 arg9 harg9 arg10 harg10 arg11 harg11 k0_h3 v23 X_arg5 X_arg7 X_arg11 init k.val).1) (fun k => P k (st_k0_t1 (F := Ideal) 𝒱 c bd i arg3 harg3 arg4 harg4 arg5 harg5 arg6 harg6 arg7 harg7 arg8 harg8 arg9 harg9 arg10 harg10 arg11 harg11 k0_h3 v23 X_arg5 X_arg7 X_arg11 init k.val).1) _ (fun k => off _) (fun k => ?_) (fun k i j => hv k _ i j) rfl
  rw [← hP]
  exact congrArg Prod.snd (st_k0_t1_succ 𝒱 c bd i arg3 harg3 arg4 harg4 arg5 harg5 arg6 harg6 arg7 harg7 arg8 harg8 arg9 harg9 arg10 harg10 arg11 harg11 k0_h3 v23 X_arg5 X_arg7 X_arg11 init (Fin.cast trips.symm k))

/-- … and the value carried. -/
theorem st_sum (init : FVec Ideal S1x1024 .f32) (z : Fin 1) (j : Fin 1024) : (st_k0_t1 (F := Ideal) 𝒱 c bd i arg3 harg3 arg4 harg4 arg5 harg5 arg6 harg6 arg7 harg7 arg8 harg8 arg9 harg9 arg10 harg10 arg11 harg11 k0_h3 v23 X_arg5 X_arg7 X_arg11 init 8).1 (ix2 z j) =
    init (ix2 z j) + ∑ r, DG (arg11.view.read (Elt Ideal) X_arg11) (arg7.view.read (Elt Ideal) X_arg7) j r :=
  carried_rows (fun n => (st_k0_t1 (F := Ideal) 𝒱 c bd i arg3 harg3 arg4 harg4 arg5 harg5 arg6 harg6 arg7 harg7 arg8 harg8 arg9 harg9 arg10 harg10 arg11 harg11 k0_h3 v23 X_arg5 X_arg7 X_arg11 init n).1 (ix2 z j)) _ fun k =>
    (congrFun (congrArg Prod.fst (st_k0_t1_succ 𝒱 c bd i arg3 harg3 arg4 harg4 arg5 harg5 arg6 harg6 arg7 harg7 arg8 harg8 arg9 harg9 arg10 harg10 arg11 harg11 k0_h3 v23 X_arg5 X_arg7 X_arg11 init (Fin.cast trips.symm k))) _).trans (tripR 𝒱 c bd i arg3 harg3 arg4 harg4 arg5 harg5 arg6 harg6 arg7 harg7 arg8 harg8 arg9 harg9 arg10 harg10 arg11 harg11 k0_h3 v23 X_arg5 X_arg7 X_arg11 k _ z j)

end Loop

section Kernel
open Cert.HgInDxIdeal Cert.HgInDxIdeal.Gen

variable (m : (ℓ : Loc nD τ sig) → Buf (Elt Ideal) ℓ) (c : Dev nD)

theorem idx : ∀ t : Fin cfg0.N, win0_0.index t = ![t.val / 2, t.val % 2] ∧
    win0_1.index t = ![t.val % 2, 0] ∧ win0_2.index t = ![t.val / 2, 0] ∧ win0_3.index t = ![0, 0] ∧
    win0_4.index t = ![t.val / 2, 0] ∧ win0_5.index t = ![t.val / 2, 0] ∧ win0_6.index t = ![0, 0] :=
  (by decide +kernel : ∀ t : Fin grid0.N, _)

/-- A block's contribution to the product. -/
def pr (b : Vec Ideal S1024x1664 .bf16) (d : Vec Ideal S1664x1024 .bf16) (y : S1024x1024.Idx) : EReal :=
  ∑ x, b (ix2 (y 0) x) * d (ix2 x (y 1))

theorem pay1_eq (b : Vec Ideal S1024x1664 .bf16) (d : Vec Ideal S1664x1024 .bf16) : k0_pay1 (F := Ideal) b d = pr b d := by
  refine funext fun y => ?_
  idx_vars y
  pointwise [k0_pay1, pr]
theorem pay4_eq (a : Vec Ideal S1024x1024 .f32) (b : Vec Ideal S1024x1664 .bf16) (d : Vec Ideal S1664x1024 .bf16) :
    k0_pay4 a b d = fun y => a y + pr b d y := by
  refine funext fun y => ?_
  idx_vars y
  pointwise [k0_pay4, pr]

theorem pay10_at (a b : Vec Ideal S1x1024 .f32) (z : Fin 1) (j : Fin 1024) : k0_pay10 a b (ix2 z j) = a (ix2 z j) + b (ix2 z j) := by
  pointwise [k0_pay10]
theorem pay3_at (z : Fin 1) (j : Fin 1024) : k0_pay3 (F := Ideal) (ix2 z j) = 0 := by
  pointwise [k0_pay3]
theorem pay5_at (z : Fin 1) (j : Fin 1024) : k0_pay5 (F := Ideal) (ix2 z j) = 0 := by
  pointwise [k0_pay5]

theorem N8 : cfg0.N = 8 := N_0

/-- The scratch as the last point's loop reads it. -/
theorem scratch_read (t : Fin cfg0.N) (X : Vec Ideal S1024x1024 .f32) :
    View.read (Elt Ideal) (View.whole cc0_scratch0) ((View.whole cc0_scratch0).writes (Elt Ideal) (View.whole cc0_scratch0).junk
      [⟨Rect.unit ![0, 0] ![1024, 1024] inb_S1024x1024_S1024x1024_0_0,
        k0_pay4 (View.read (Elt Ideal) (View.whole cc0_scratch0) ((Memref.isWhole_whole cc0_scratch0).unread X)) (iblk m c 0 t) (iblk m c 1 t)⟩]) =
    fun y => X y + pr (iblk m c 0 t) (iblk m c 1 t) y := by
  rw [View.read_writes_junk_eq_canon, View.canon_unit_zero (S := S1024x1024) (by decide), pay4_eq, (Memref.isWhole_whole cc0_scratch0).read_unread]

theorem scr_A (t : Fin cfg0.N) (h : t.val % 2 = 0) : (outsAt0 m c t.val t.isLt).2.2 = pr (iblk m c 0 t) (iblk m c 1 t) := by
  rw [outsAt0_A m c t h (by omega)]
  frame_out
  exact pay1_eq _ _

theorem dg_A (t : Fin cfg0.N) (h : t.val % 2 = 0) (h' : t.val - 1 < cfg0.N) : (outsAt0 m c t.val t.isLt).2.1 =
    (outsAt0 m c (t.val - 1) h').2.1 := by
  rw [outsAt0_A m c t h (by omega)]
  frame_out
  rfl

/-- The whole product of the block, at its last point. -/
abbrev full (t : Fin cfg0.N) (h' : t.val - 1 < cfg0.N) (y : S1024x1024.Idx) : EReal :=
  (outsAt0 m c (t.val - 1) h').2.2 y + pr (iblk m c 0 t) (iblk m c 1 t) y

theorem rows_last (t : Fin cfg0.N) (h : t.val % 2 = 1) (h' : t.val - 1 < cfg0.N) : (outsAt0 m c t.val t.isLt).1 =
    DX (full m c t h') (iblk m c 4 t) (iblk m c 2 t) (iblk m c 3 t) := by
  by_cases h0 : t.val < 2
  · rw [outsAt0_B m c t (by omega) h h0]
    frame_out
    refine (st_rows ..).trans ?_
    rw [Memref.IsWhole.read_unread, Memref.IsWhole.read_unread]
    exact congrArg (DX · _ _ _) (scratch_read m c t _)
  · rw [outsAt0_C m c t (by omega) h h0]
    frame_out
    refine (st_rows ..).trans ?_
    rw [Memref.IsWhole.read_unread, Memref.IsWhole.read_unread]
    exact congrArg (DX · _ _ _) (scratch_read m c t _)

theorem dg_first (t : Fin cfg0.N) (h : t.val % 2 = 1) (h0 : t.val < 2) (h' : t.val - 1 < cfg0.N) (z : Fin 1) (j : Fin 1024) :
    (outsAt0 m c t.val t.isLt).2.1 (ix2 z j) = ∑ i, DG (full m c t h') (iblk m c 4 t) j i := by
  rw [outsAt0_B m c t (by omega) h h0]
  frame_out
  refine (pay10_at _ _ z j).trans ?_
  rw [pay3_at, zero_add]
  refine (st_sum (z := z) (j := j) ..).trans ?_
  rw [pay5_at, zero_add, Memref.IsWhole.read_unread]
  exact congrArg (fun P => ∑ i, DG (n := 1024) P (iblk m c 4 t) j i) (scratch_read m c t _)

theorem dg_next (t : Fin cfg0.N) (h : t.val % 2 = 1) (h0 : ¬t.val < 2) (h' : t.val - 1 < cfg0.N) (z : Fin 1) (j : Fin 1024) :
    (outsAt0 m c t.val t.isLt).2.1 (ix2 z j) =
      (outsAt0 m c (t.val - 1) h').2.1 (ix2 z j) + ∑ i, DG (full m c t h') (iblk m c 4 t) j i := by
  rw [outsAt0_C m c t (by omega) h h0]
  frame_out
  refine (pay10_at _ _ z j).trans (congrArg (_ + ·) ?_)
  refine (st_sum (z := z) (j := j) ..).trans ?_
  rw [pay5_at, zero_add, Memref.IsWhole.read_unread]
  exact congrArg (fun P => ∑ i, DG (n := 1024) P (iblk m c 4 t) j i) (scratch_read m c t _)

abbrev A0 : FVec Ideal S4096x3328 .bf16 := m ((c : Thread nD τ).loc main_arg0)
abbrev W0 : FVec Ideal S1024x3328 .f32 := m ((c : Thread nD τ).loc main_arg1)
abbrev R0 : FVec Ideal S4096x1024 .f32 := m ((c : Thread nD τ).loc main_arg2)
abbrev X0 : FVec Ideal S4096x1024 .f32 := m ((c : Thread nD τ).loc main_arg3)
abbrev G0 : FVec Ideal S1x1024 .f32 := m ((c : Thread nD τ).loc main_arg4)

/-- Row `i` of block `q`, and lane `x` of contracted block `k`. -/
def row_ (q : Fin 4) (i : Fin 1024) : Fin 4096 := ⟨q.val * 1024 + i.val, by omega⟩
def lane (k : Fin 2) (x : Fin 1664) : Fin 3328 := ⟨k.val * 1664 + x.val, by omega⟩

/-- The point of block `q` at contracted block `k`. -/
def pt (q : Fin 4) (k : Fin 2) : Fin cfg0.N := ⟨q.val * 2 + k.val, by have := N8; omega⟩

theorem b0 (q : Fin 4) (k : Fin 2) (r : Fin 1024) (x : Fin 1664) :
    (iblk m c 0 (pt q k) : Vec Ideal S1024x1664 .bf16) (ix2 r x) = A0 m c (ix2 (row_ q r) (lane k x)) := by
  have e1 : (pt q k).val % 2 = k.val := by simp only [pt]; omega
  have e2 : (pt q k).val / 2 = q.val := by simp only [pt]; omega
  blk_point [iblk, V, idx (pt q k), e1, e2, row_, lane]
theorem b1 (q : Fin 4) (k : Fin 2) (x : Fin 1664) (j : Fin 1024) :
    (iblk m c 1 (pt q k) : Vec Ideal S1664x1024 .bf16) (ix2 x j) = W0 m c (ix2 j (lane k x)) := by
  have e1 : (pt q k).val % 2 = k.val := by simp only [pt]; omega
  blk_point [iblk, V, idx (pt q k), e1, lane]
theorem b2 (q : Fin 4) (k : Fin 2) (r j : Fin 1024) : (iblk m c 2 (pt q k) : Vec Ideal S1024x1024 .f32) (ix2 r j) = R0 m c (ix2 (row_ q r) j) := by
  have e2 : (pt q k).val / 2 = q.val := by simp only [pt]; omega
  blk_point [iblk, V, idx (pt q k), e2, row_]
theorem b3 (q : Fin 4) (k : Fin 2) (z : Fin 1) (j : Fin 1024) : (iblk m c 3 (pt q k) : Vec Ideal S1x1024 .f32) (ix2 z j) = G0 m c (ix2 z j) := by
  blk_point [iblk, V, idx (pt q k)]
theorem b4 (q : Fin 4) (k : Fin 2) (r j : Fin 1024) : (iblk m c 4 (pt q k) : Vec Ideal S1024x1024 .f32) (ix2 r j) = X0 m c (ix2 (row_ q r) j) := by
  have e2 : (pt q k).val / 2 = q.val := by simp only [pt]; omega
  blk_point [iblk, V, idx (pt q k), e2, row_]

/-- The whole product. -/
def prod (a : FVec Ideal S4096x3328 .bf16) (w : FVec Ideal S1024x3328 .f32) (y : S4096x1024.Idx) : EReal :=
  ∑ l, a (ix2 (y 0) l) * w (ix2 (y 1) l)

theorem full_at (q : Fin 4) (h') (i j : Fin 1024) :
    full m c (pt q 1) h' (ix2 i j) = prod (A0 m c) (W0 m c) (ix2 (row_ q i) j) := by
  have e : ∀ k, pr (iblk m c 0 (pt q k)) (iblk m c 1 (pt q k)) (ix2 i j) =
      ∑ x, A0 m c (ix2 (row_ q i) (lane k x)) * W0 m c (ix2 j (lane k x)) := fun k =>
    Finset.sum_congr rfl fun x _ => by exact congrArg₂ (· * ·) (b0 m c q k i x) (b1 m c q k x j)
  have h0 := scr_A m c (pt q 0) (by simp only [pt]; omega)
  show (outsAt0 m c (pt q 0).val (pt q 0).isLt).2.2 (ix2 i j) + _ = _
  rw [h0, e, e]
  refine Eq.trans ?_ (Fin.sum_mul_add_congr (S := 2) (n := 1664) (F := fun k x =>
    A0 m c (ix2 (row_ q i) (lane k x)) * W0 m c (ix2 j (lane k x))) (fun _ _ _ => rfl))
  rw [Fin.sum_univ_two]

theorem rows_at (q : Fin 4) (i j : Fin 1024) : (outsAt0 m c (pt q 1).val (pt q 1).isLt).1 (ix2 i j) =
    DX (prod (A0 m c) (W0 m c)) (X0 m c) (R0 m c) (G0 m c) (ix2 (row_ q i) j) := by
  rw [rows_last m c (pt q 1) (by simp only [pt]; omega) (by have := (pt q 1).isLt; omega)]
  exact congrArg₂ (· + ·) (b2 m c q 1 i j) (congrArg₂ (fun x u => ker x u j) (funext fun k => b4 m c q 1 i k)
    (funext fun k => congrArg₂ (· * ·) (full_at m c q _ i k) (b3 m c q 1 0 k)))

theorem dg_at (q : Fin 4) (h') (j i : Fin 1024) : DG (n := 1024) (full m c (pt q 1) h') (iblk m c 4 (pt q 1)) j i =
    DG (prod (A0 m c) (W0 m c)) (X0 m c) j (row_ q i) :=
  congrArg₂ (· * ·) (full_at m c q _ i j) (congrArg₂ (· * ·) (b4 m c q 1 i j) (congrArg rs (funext fun k => b4 m c q 1 i k)))

theorem pt_last (t : Fin cfg0.N) (h : t.val % 2 = 1) : ∃ q, t = pt q 1 :=
  ⟨⟨t.val / 2, by have := lt_of_lt_of_eq t.isLt N8; omega⟩, Fin.ext (show t.val = t.val / 2 * 2 + 1 by omega)⟩

theorem final5 : (dats m 0 c).arrAt 5 (cfgs 0).N = DX (prod (A0 m c) (W0 m c)) (X0 m c) (R0 m c) (G0 m c) := by
  refine (dats m 0 c).arrAt_eq_of_covers 5 _ (by decide +kernel) fun t hf y => ?_
  obtain ⟨q, rfl⟩ := pt_last t ((flush0_5 t).mp hf)
  blk_simp
  rw [after0_5]
  idx_vars y
  refine (rows_at m c q y0 y1).trans (congrArg _ ?_)
  have e2 : (pt q 1).val / 2 = q.val := by simp only [pt]; omega
  blk_ext [idx (pt q 1), e2, row_]

theorem dg_0 (z : Fin 1) (j : Fin 1024) : (outsAt0 m c (pt 0 1).val (pt 0 1).isLt).2.1 (ix2 z j) =
    ∑ i, DG (prod (A0 m c) (W0 m c)) (X0 m c) j (row_ 0 i) := by
  rw [dg_first m c (pt 0 1) (by decide) (by decide) (by have := (pt 0 1).isLt; omega)]
  exact Finset.sum_congr rfl fun i _ => dg_at m c 0 _ j i

theorem dg_s (q q' : Fin 4) (h : q'.val = q.val + 1) (z : Fin 1) (j : Fin 1024) :
    (outsAt0 m c (pt q' 1).val (pt q' 1).isLt).2.1 (ix2 z j) = (outsAt0 m c (pt q 1).val (pt q 1).isLt).2.1 (ix2 z j) +
      ∑ i, DG (prod (A0 m c) (W0 m c)) (X0 m c) j (row_ q' i) := by
  have hp : ∀ k : Fin 2, (pt q' k).val = q'.val * 2 + k.val := fun _ => rfl
  have hq : (pt q 1).val = q.val * 2 + 1 := rfl
  have step : ∀ n (hn : n < cfg0.N) n' (hn' : n' < cfg0.N), n = n' + 1 → n % 2 = 0 →
      (outsAt0 m c n hn).2.1 = (outsAt0 m c n' hn').2.1 := fun n hn n' hn' e h => by
    subst e; exact dg_A m c ⟨n' + 1, hn⟩ h hn'
  rw [dg_next m c (pt q' 1) (by rw [hp]; show (q'.val * 2 + 1) % 2 = 1; omega) (by rw [hp]; omega) (by have := (pt q' 1).isLt; omega)]
  refine congrArg₂ (· + ·) ?_ (Finset.sum_congr rfl fun i _ => dg_at m c q' _ j i)
  exact congrFun (step _ (pt q' 0).isLt (pt q 1).val (pt q 1).isLt (by rw [hp, hq]; show q'.val * 2 + 0 = _; omega)
    (by rw [hp]; show (q'.val * 2 + 0) % 2 = 0; omega)) _

theorem final6 : (dats m 0 c).arrAt 6 (cfgs 0).N = fun y => ∑ r, DG (prod (A0 m c) (W0 m c)) (X0 m c) (y 1) r := by
  refine (dats m 0 c).arrAt_eq_of_after_last 6 t0_7 (by decide +kernel) _ fun j => ?_
  blk_simp
  rw [after0_6]
  idx_vars j
  show (outsAt0 m c (pt 3 1).val (pt 3 1).isLt).2.1 (ix2 j0 j1) = ∑ r, DG (prod (A0 m c) (W0 m c)) (X0 m c) j1 r
  rw [dg_s m c 2 3 rfl, dg_s m c 1 2 rfl, dg_s m c 0 1 rfl, dg_0]
  refine Eq.trans ?_ (Fin.sum_mul_add_congr (S := 4) (n := 1024) (F := fun q i =>
    DG (prod (A0 m c) (W0 m c)) (X0 m c) j1 (row_ q i)) (fun _ _ _ => rfl))
  rw [Fin.sum_univ_four]
end Kernel

section Pure
open Cert.HgInDxRefIdeal Cert.HgInDxRefIdeal.Read

variable (x0 : FVec Ideal S4096x3328 .bf16) (x1 : FVec Ideal S1024x3328 .f32) (x2 x3 : FVec Ideal S4096x1024 .f32)
  (x4 : FVec Ideal S1x1024 .f32)

theorem v17_at (i : Fin 4096) (j : Fin 1024) : val_main_v17 (F := Ideal) x0 x1 (ix2 i j) = prod x0 x1 (ix2 i j) := by
  pointwise [val_main_v17, val_main_v16, prod]

theorem v20_at (z : Fin 1) (j : Fin 1024) :
    val_main_v20 (F := Ideal) x0 x1 x3 (ix2 z j) = ∑ r, DG (prod x0 x1) x3 j r := by
  pointwise [val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v12, val_main_v11, val_main_v10, val_main_v9,
    val_main_v8, val_main_v7, val_main_v6, val_main_v5, val_main_v4, val_main_v3, val_main_v2, val_main_v1,
    val_main_v0, val_main_cst, val_main_cst_0, val_main_cst_1, val_main_cst_2, val_main_cst_3, val_main_cst_4,
    val_main_cst_5, val_main_cst_6]
  refine Finset.sum_congr rfl fun r _ => ?_
  rw [v17_at]
  exact mul_comm _ _

theorem v37_at (xr : S4096x1024.Idx → ℝ) (ur : Fin 4096 → Fin 1024 → ℝ) (hx : x3 = fun i => ((xr i : ℝ) : EReal))
    (hu : ∀ i k, prod x0 x1 (ix2 i k) * x4 (ix2 0 k) = ((ur i k : ℝ) : EReal)) (i : Fin 4096) (j : Fin 1024) :
    val_main_v37 (F := Ideal) x0 x1 x2 x3 x4 (ix2 i j) = DX (prod x0 x1) x3 x2 x4 (ix2 i j) := by
  pointwise [val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v12, val_main_v11, val_main_v10, val_main_v9,
    val_main_v8, val_main_v7, val_main_v6, val_main_v5, val_main_v4, val_main_v3, val_main_v2, val_main_v1,
    val_main_v0, val_main_cst, val_main_cst_0, val_main_cst_1, val_main_cst_2, val_main_cst_3, val_main_cst_4,
    val_main_cst_5, val_main_cst_6]
  simp only [Fin.sum_univ_one, v17_at, hu]
  have key := ker_eq (x2 (ix2 i j)) (fun k => xr (ix2 i k)) (ur i) j
  subst hx
  refine Eq.trans ?_ (key.symm.trans ?_)
  · rfl
  · exact congrArg (fun u => x2 (ix2 i j) + ker (fun k => ((xr (ix2 i k) : ℝ) : EReal)) u j) (funext fun k => (hu i k).symm)
end Pure

/-- The precondition: the product's cotangent, the weight, the rows and the gain are finite. -/
theorem pre {a : FVec Ideal Pre_hg_in_dx_pre.S4096x3328 .bf16} {w : FVec Ideal Pre_hg_in_dx_pre.S1024x3328 .f32}
    {r x : FVec Ideal Pre_hg_in_dx_pre.S4096x1024 .f32} {g : FVec Ideal Pre_hg_in_dx_pre.S1x1024 .f32}
    {d : FVec Ideal Pre_hg_in_dx_pre.S8x128 .f32} (h : Pre_hg_in_dx_pre.fn a w r x g d = fun _ => 1#1) :
    (∃ f : Pre_hg_in_dx_pre.S4096x3328.Idx → ℝ, a = fun i => ((f i : ℝ) : EReal)) ∧
    (∃ f : Pre_hg_in_dx_pre.S1024x3328.Idx → ℝ, w = fun i => ((f i : ℝ) : EReal)) ∧
    (∃ f : Pre_hg_in_dx_pre.S4096x1024.Idx → ℝ, x = fun i => ((f i : ℝ) : EReal)) ∧
    ∃ f : Pre_hg_in_dx_pre.S1x1024.Idx → ℝ, g = fun i => ((f i : ℝ) : EReal) := by
  have h0 := congrFun h (fun i => i.elim0)
  obtain ⟨h123, h4⟩ := IntOp.andi_eq_one.1 h0
  obtain ⟨h12, h3⟩ := IntOp.andi_eq_one.1 h123
  obtain ⟨h1, h2⟩ := IntOp.andi_eq_one.1 h12
  exact ⟨Lift.all_finite _ _ _ _ _ _ h1, Lift.all_finite _ _ _ _ _ _ h2, Lift.all_finite _ _ _ _ _ _ h3,
    Lift.all_finite _ _ _ _ _ _ h4⟩

/-- The product of finite arrays is finite. -/
theorem prod_real {a : FVec Ideal HgInDxIdeal.S4096x3328 .bf16} {w : FVec Ideal HgInDxIdeal.S1024x3328 .f32}
    (ar : HgInDxIdeal.S4096x3328.Idx → ℝ) (wr : HgInDxIdeal.S1024x3328.Idx → ℝ)
    (ha : a = fun i => ((ar i : ℝ) : EReal)) (hw : w = fun i => ((wr i : ℝ) : EReal)) (i : Fin 4096) (j : Fin 1024) :
    ∃ p : ℝ, prod a w (ix2 i j) = ((p : ℝ) : EReal) := by
  subst ha hw
  exact ⟨_, dot_real (fun l => ar (ix2 i l)) fun l => wr (ix2 j l)⟩

section Reference
open Cert.HgInDxRefIdeal Cert.HgInDxRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v37) = val_main_v37 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_v20) = val_main_v20 (F := Ideal) (m ((c.tc : Thread nD τ).loc main_arg0))
        (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => ⟨(h c).1.trans (val_main_v37_eq _ _), (h c).2.1.trans (val_main_v20_eq _ _ _),
    (h c).2.2⟩, sem_eq_zero_of_no_sems (by decide) r.2⟩) (Value.run m ρ)
end Reference

theorem frame_ref : Cert.quiescent_HgInDxRefIdeal := fun m g _ =>
  (θ_run Cert.HgInDxRefIdeal.defs _ _).mono (fun _ h => ⟨fun c => (h.1 c).2.2, h.2⟩) (run_ref m g)

theorem frame_ref_pre : Cert.quiescent_HgInDxRefIdeal_pre_hg_in_dx_pre := fun m g _ => frame_ref m g trivial

theorem algebraic : Cert.algebraic_HgInDxIdeal_HgInDxRefIdeal_pre_hg_in_dx_pre := by
  pair_intro
  · run_from Cert.HgInDxIdeal.Gen.run_main m g
  · refine (θ_run Cert.HgInDxRefIdeal.defs _ _).mono (fun r h c => ?_) (run_ref m' g')
    obtain ⟨h0, h1, h2⟩ := h.1 c
    obtain ⟨e0, e1, e2, e3, e4, -⟩ := hagree c
    obtain ⟨⟨ar, ha⟩, ⟨wr, hw⟩, ⟨xr, hx⟩, ⟨gr, hg⟩⟩ := pre (hpre c)
    refine ⟨h0.trans ?_, h1.trans ?_, h2⟩
    · rw [e0, e1, e2, e3, e4, final5 m c]
      choose pr hp using prod_real ar wr ha hw
      refine funext fun j => ?_
      idx_vars j
      refine v37_at _ _ _ _ _ xr (fun i k => pr i k * gr (ix2 0 k)) hx (fun i k => ?_) j0 j1
      rw [hp, EReal.coe_mul]
      exact congrArg (((pr i k : ℝ) : EReal) * ·) (congrFun hg _)
    · rw [e0, e1, e3, final6 m c]
      refine funext fun j => ?_
      idx_vars j
      exact v20_at _ _ _ j0 j1

end Cert.HgDx

end
-- ==== Proof.Loss.lean ====
/-
  `ffn_out1`: the last product with its residual, two blocks of the contracted axis accumulated, the loss of the last
  norm's rows, and its gradients, are the loss and its derivatives.
-/
module

public import proofs.«01_k».proof.Proof.Gen.LossHeadIdeal.Value
public import proofs.«01_k».proof.Proof.Gen.LossHeadIdeal.Frame
public import proofs.«01_k».proof.Proof.Gen.LossHeadRefIdeal.Run
public import proofs.«01_k».proof.Proof.Gen.LossHeadRefIdeal.Read
public import proofs.«01_k».proof.Proof.Gen.Pre_loss_head_pre
public import proofs.«01_k».proof.Proof.Strip
public import Idealize.ShloMosaic.Lib.Pipeline.ValueKit
public import Idealize.ShloMosaic.Lib.Claim
public import proofs.«01_k».proof.Defs

@[expose] public section

set_option maxRecDepth 16384

noncomputable section

namespace Cert.Loss

open Idealize.ShloMosaic Idealize.ShloMosaic.TcCoe Idealize.SL.Sem Cert.Strip
open Idealize.ShloMosaic.Pipeline (Dat)

/-- A row's distance to its target. -/
def err (x t g : Fin 1024 → EReal) (k : Fin 1024) : EReal := x k * rs x * g k - t k

/-- The cotangent of the norm's row. -/
def dy (x t g : Fin 1024 → EReal) (k : Fin 1024) : EReal := err x t g k * Ideal.ofBits .f32 981467136#32

abbrev gain (g : (⟨2, ![1, 1024]⟩ : Shape).Idx → EReal) : Fin 1024 → EReal := fun k => g (ix2 0 k)

/-- The rows' gradient. -/
def LX {n : ℕ} (r t : (⟨2, ![n, 1024]⟩ : Shape).Idx → EReal) (g : (⟨2, ![1, 1024]⟩ : Shape).Idx → EReal)
    (y : (⟨2, ![n, 1024]⟩ : Shape).Idx) : EReal :=
  ker (rw_ r (y 0)) (fun k => dy (rw_ r (y 0)) (rw_ t (y 0)) (gain g) k * g (ix2 0 k)) (y 1)

/-- The gain's gradient at one row. -/
def LG {n : ℕ} (r t : (⟨2, ![n, 1024]⟩ : Shape).Idx → EReal) (g : (⟨2, ![1, 1024]⟩ : Shape).Idx → EReal) (j : Fin 1024)
    (i : Fin n) : EReal :=
  dy (rw_ r i) (rw_ t i) (gain g) j * (r (ix2 i j) * rs (rw_ r i))

/-- The loss of one row. -/
def LL {n : ℕ} (r t : (⟨2, ![n, 1024]⟩ : Shape).Idx → EReal) (g : (⟨2, ![1, 1024]⟩ : Shape).Idx → EReal) (i : Fin n) : EReal :=
  Ideal.ofBits .f32 1056964608#32 *
    Ideal.div (∑ k, err (rw_ r i) (rw_ t i) (gain g) k * err (rw_ r i) (rw_ t i) (gain g) k) (Ideal.ofBits .f32 1149239296#32)

/-- Half of a sum is the sum of the halves. -/
theorem half_sum {n : ℕ} (f : Fin n → EReal) : Ideal.ofBits .f32 1056964608#32 * ∑ i, f i =
    ∑ i, Ideal.ofBits .f32 1056964608#32 * f i := by
  rw [show Ideal.ofBits .f32 1056964608#32 = ((1 / 2 : ℝ) : EReal) from Lift.ofBits_half]
  induction n with
  | zero => simp
  | succ n ih =>
    rw [Fin.sum_univ_castSucc, Fin.sum_univ_castSucc,
      EReal.left_distrib_of_nonneg_of_ne_top (EReal.coe_nonneg.mpr (by norm_num)) (EReal.coe_ne_top _), ih]

section Loop
open Cert.LossHeadIdeal Cert.LossHeadIdeal.Gen

theorem pay8_at (g : Vec Ideal S1x1024 .f32) (r t : Vec Ideal S128x1024 .f32) (i : Fin 128) (j : Fin 1024) :
    k0_pay8 g r t (ix2 i j) = LX (n := 128) r t g (ix2 i j) := by
  pointwise [k0_pay8, k0_pay7, k0_pay5, k0_pay4, k0_pay3, LX, ker, rs, dy, err]

theorem pay14_at (a : FVec Ideal S1x1024 .f32) (g : Vec Ideal S1x1024 .f32) (r t : Vec Ideal S128x1024 .f32) (z : Fin 1) (j : Fin 1024) :
    k0_pay14 a (k0_pay4 r) (k0_pay7 g r t) (ix2 z j) = a (ix2 z j) + ∑ i, LG (n := 128) r t g j i := by
  pointwise [k0_pay14, k0_pay7, k0_pay5, k0_pay4, k0_pay3, LG, rs, dy, err]

theorem pay6_at (g : Vec Ideal S1x1024 .f32) (a : FVec Ideal S1x1 .f32) (r t : Vec Ideal S128x1024 .f32) (z w : Fin 1) :
    k0_pay6 g a r t (ix2 z w) = a (ix2 z w) + ∑ i, LL (n := 128) r t g i := by
  pointwise [k0_pay6, k0_pay5, k0_pay4, k0_pay3]
  exact congrArg (_ + ·) (half_sum _)

theorem trips : k0_t1_loop.trips = 8 := by decide
theorem off : ∀ k : Fin k0_t1_loop.trips, k0_off1 k = ![k.val * 128, 0] := by decide

variable (𝒱 : Variants) (c : Dev nD) (bd : Option 𝒱.V) (i : grid0.Coords) (arg3 : Memref sig .tc .vmem S1024x1408 .bf16)
  (harg3 : arg3.IsWhole) (arg4 : Memref sig .tc .vmem S1408x1024 .bf16) (harg4 : arg4.IsWhole)
  (arg5 : Memref sig .tc .vmem S1024x1024 .f32) (harg5 : arg5.IsWhole) (arg6 : Memref sig .tc .vmem S1x1024 .f32)
  (harg6 : arg6.IsWhole) (arg7 : Memref sig .tc .vmem S1024x1024 .f32) (harg7 : arg7.IsWhole)
  (arg8 : Memref sig .tc .vmem S1024x1024 .f32) (harg8 : arg8.IsWhole) (arg9 : Memref sig .tc .vmem S1x1024 .f32)
  (harg9 : arg9.IsWhole) (arg10 : Memref sig .tc .vmem S1x128 .f32) (harg10 : arg10.IsWhole)
  (arg11 : Memref sig .tc .vmem S1024x1024 .f32) (harg11 : arg11.IsWhole) (arg0 : BitVec 32)
  (k0_h3 : k0_cond3 i = 1#1) (v25 : Vec Ideal S1x1024 .f32) (X_arg7 : BufTy.Contents (Elt Ideal) arg7.view.ty)
  (X_arg11 : BufTy.Contents (Elt Ideal) arg11.view.ty)

theorem strip_at (k : Fin 8) (b : Memref sig .tc .vmem S1024x1024 .f32) (X : BufTy.Contents (Elt Ideal) b.view.ty)
    (h : ∀ a, k0_off1 (Fin.cast trips.symm k) a + SS.size a ≤ SB.size a) (i : Fin 128) (j : Fin 1024) :
    b.view.readAt (Elt Ideal) (Rect.unit (s := SB) (k0_off1 (Fin.cast trips.symm k)) SS.size h).toLoadRect X (ix2 i j) =
      b.view.read (Elt Ideal) X (ix2 (rowAt k i) j) := readAt_at b.view X k (off _) h i j

theorem tripR1 (k : Fin 8) (acc : FVec Ideal S1x1024 .f32 × FVec Ideal S1x1 .f32) (z : Fin 1) (j : Fin 1024) :
    (tripR_k0_t1 (F := Ideal) 𝒱 c bd i arg3 harg3 arg4 harg4 arg5 harg5 arg6 harg6 arg7 harg7 arg8 harg8 arg9 harg9 arg10 harg10 arg11 harg11 arg0 k0_h3 v25 X_arg7 X_arg11 (Fin.cast trips.symm k) acc).1 (ix2 z j) = acc.1 (ix2 z j) +
      ∑ i, LG (arg11.view.read (Elt Ideal) X_arg11) (arg7.view.read (Elt Ideal) X_arg7) v25 j (rowAt k i) := by
  unfold tripR_k0_t1 trip_k0_t1
  dsimp only
  refine (pay14_at _ _ _ _ z j).trans (congrArg (_ + ·) (Finset.sum_congr rfl fun i _ => ?_))
  exact congrArg₂ (fun x t => dy x t (gain v25) j * (x j * rs x)) (funext fun _ => strip_at k arg11 _ _ i _)
    (funext fun _ => strip_at k arg7 _ _ i _)

theorem tripR2 (k : Fin 8) (acc : FVec Ideal S1x1024 .f32 × FVec Ideal S1x1 .f32) (z w : Fin 1) :
    (tripR_k0_t1 (F := Ideal) 𝒱 c bd i arg3 harg3 arg4 harg4 arg5 harg5 arg6 harg6 arg7 harg7 arg8 harg8 arg9 harg9 arg10 harg10 arg11 harg11 arg0 k0_h3 v25 X_arg7 X_arg11 (Fin.cast trips.symm k) acc).2 (ix2 z w) = acc.2 (ix2 z w) +
      ∑ i, LL (arg11.view.read (Elt Ideal) X_arg11) (arg7.view.read (Elt Ideal) X_arg7) v25 (rowAt k i) := by
  unfold tripR_k0_t1 trip_k0_t1
  dsimp only
  refine (pay6_at _ _ _ _ z w).trans (congrArg (_ + ·) (Finset.sum_congr rfl fun i _ => ?_))
  exact congrArg₂ (fun x t => Ideal.ofBits .f32 1056964608#32 * Ideal.div (∑ k, err x t (gain v25) k * err x t (gain v25) k)
    (Ideal.ofBits .f32 1149239296#32)) (funext fun _ => strip_at k arg11 _ _ i _) (funext fun _ => strip_at k arg7 _ _ i _)

theorem tripL (k : Fin 8) (acc : FVec Ideal S1x1024 .f32 × FVec Ideal S1x1 .f32) : ∃ (P : SS.Idx → EReal)
    (h : ∀ a, k0_off1 (Fin.cast trips.symm k) a + SS.size a ≤ SB.size a), tripL_k0_t1 (F := Ideal) 𝒱 c bd i arg3 harg3 arg4 harg4 arg5 harg5 arg6 harg6 arg7 harg7 arg8 harg8 arg9 harg9 arg10 harg10 arg11 harg11 arg0 k0_h3 v25 X_arg7 X_arg11
      (Fin.cast trips.symm k) acc = [⟨Rect.unit (s := SB) (k0_off1 (Fin.cast trips.symm k)) SS.size h, P⟩] ∧
    ∀ i j, P (ix2 i j) = LX (arg11.view.read (Elt Ideal) X_arg11) (arg7.view.read (Elt Ideal) X_arg7) v25 (ix2 (rowAt k i) j) := by
  unfold tripL_k0_t1 trip_k0_t1
  dsimp only
  refine ⟨_, _, rfl, fun i j => ?_⟩
  refine (pay8_at _ _ _ i j).trans ?_
  exact congrArg₂ (fun x t => ker x (fun k => dy x t (gain v25) k * v25 (ix2 0 k)) j) (funext fun _ => strip_at k arg11 _ _ i _)
    (funext fun _ => strip_at k arg7 _ _ i _)

/-- What the strips leave of the rows … -/
theorem st_rows (init : FVec Ideal S1x1024 .f32 × FVec Ideal S1x1 .f32) : View.canon (st_k0_t1 (F := Ideal) 𝒱 c bd i arg3 harg3 arg4 harg4 arg5 harg5 arg6 harg6 arg7 harg7 arg8 harg8 arg9 harg9 arg10 harg10 arg11 harg11 arg0 k0_h3 v25 X_arg7 X_arg11 init 8).2 =
    LX (arg11.view.read (Elt Ideal) X_arg11) (arg7.view.read (Elt Ideal) X_arg7) v25 := by
  choose P h hP hv using fun k acc => tripL 𝒱 c bd i arg3 harg3 arg4 harg4 arg5 harg5 arg6 harg6 arg7 harg7 arg8 harg8 arg9 harg9 arg10 harg10 arg11 harg11 arg0 k0_h3 v25 X_arg7 X_arg11 k acc
  refine canon_strips (st_k0_t1 (F := Ideal) 𝒱 c bd i arg3 harg3 arg4 harg4 arg5 harg5 arg6 harg6 arg7 harg7 arg8 harg8 arg9 harg9 arg10 harg10 arg11 harg11 arg0 k0_h3 v25 X_arg7 X_arg11 init) (fun k => k0_off1 (Fin.cast trips.symm k))
    (fun k => h k (st_k0_t1 (F := Ideal) 𝒱 c bd i arg3 harg3 arg4 harg4 arg5 harg5 arg6 harg6 arg7 harg7 arg8 harg8 arg9 harg9 arg10 harg10 arg11 harg11 arg0 k0_h3 v25 X_arg7 X_arg11 init k.val).1) (fun k => P k (st_k0_t1 (F := Ideal) 𝒱 c bd i arg3 harg3 arg4 harg4 arg5 harg5 arg6 harg6 arg7 harg7 arg8 harg8 arg9 harg9 arg10 harg10 arg11 harg11 arg0 k0_h3 v25 X_arg7 X_arg11 init k.val).1) _
    (fun k => off _) (fun k => ?_) (fun k i j => hv k _ i j) rfl
  rw [← hP]
  exact congrArg Prod.snd (st_k0_t1_succ 𝒱 c bd i arg3 harg3 arg4 harg4 arg5 harg5 arg6 harg6 arg7 harg7 arg8 harg8 arg9 harg9 arg10 harg10 arg11 harg11 arg0 k0_h3 v25 X_arg7 X_arg11 init (Fin.cast trips.symm k))

/-- … and the values carried. -/
theorem st_sum (init : FVec Ideal S1x1024 .f32 × FVec Ideal S1x1 .f32) (z : Fin 1) (j : Fin 1024) :
    (st_k0_t1 (F := Ideal) 𝒱 c bd i arg3 harg3 arg4 harg4 arg5 harg5 arg6 harg6 arg7 harg7 arg8 harg8 arg9 harg9 arg10 harg10 arg11 harg11 arg0 k0_h3 v25 X_arg7 X_arg11 init 8).1.1 (ix2 z j) = init.1 (ix2 z j) +
      ∑ r, LG (arg11.view.read (Elt Ideal) X_arg11) (arg7.view.read (Elt Ideal) X_arg7) v25 j r :=
  carried_rows (fun n => (st_k0_t1 (F := Ideal) 𝒱 c bd i arg3 harg3 arg4 harg4 arg5 harg5 arg6 harg6 arg7 harg7 arg8 harg8 arg9 harg9 arg10 harg10 arg11 harg11 arg0 k0_h3 v25 X_arg7 X_arg11 init n).1.1 (ix2 z j)) _ fun k =>
    (congrFun (congrArg Prod.fst (congrArg Prod.fst (st_k0_t1_succ 𝒱 c bd i arg3 harg3 arg4 harg4 arg5 harg5 arg6 harg6 arg7 harg7 arg8 harg8 arg9 harg9 arg10 harg10 arg11 harg11 arg0 k0_h3 v25 X_arg7 X_arg11 init (Fin.cast trips.symm k)))) _).trans (tripR1 𝒱 c bd i arg3 harg3 arg4 harg4 arg5 harg5 arg6 harg6 arg7 harg7 arg8 harg8 arg9 harg9 arg10 harg10 arg11 harg11 arg0 k0_h3 v25 X_arg7 X_arg11 k _ z j)

theorem st_loss (init : FVec Ideal S1x1024 .f32 × FVec Ideal S1x1 .f32) (z w : Fin 1) :
    (st_k0_t1 (F := Ideal) 𝒱 c bd i arg3 harg3 arg4 harg4 arg5 harg5 arg6 harg6 arg7 harg7 arg8 harg8 arg9 harg9 arg10 harg10 arg11 harg11 arg0 k0_h3 v25 X_arg7 X_arg11 init 8).1.2 (ix2 z w) = init.2 (ix2 z w) +
      ∑ r, LL (arg11.view.read (Elt Ideal) X_arg11) (arg7.view.read (Elt Ideal) X_arg7) v25 r :=
  carried_rows (fun n => (st_k0_t1 (F := Ideal) 𝒱 c bd i arg3 harg3 arg4 harg4 arg5 harg5 arg6 harg6 arg7 harg7 arg8 harg8 arg9 harg9 arg10 harg10 arg11 harg11 arg0 k0_h3 v25 X_arg7 X_arg11 init n).1.2 (ix2 z w)) _ fun k =>
    (congrFun (congrArg Prod.snd (congrArg Prod.fst (st_k0_t1_succ 𝒱 c bd i arg3 harg3 arg4 harg4 arg5 harg5 arg6 harg6 arg7 harg7 arg8 harg8 arg9 harg9 arg10 harg10 arg11 harg11 arg0 k0_h3 v25 X_arg7 X_arg11 init (Fin.cast trips.symm k)))) _).trans (tripR2 𝒱 c bd i arg3 harg3 arg4 harg4 arg5 harg5 arg6 harg6 arg7 harg7 arg8 harg8 arg9 harg9 arg10 harg10 arg11 harg11 arg0 k0_h3 v25 X_arg7 X_arg11 k _ z w)

end Loop

section Kernel
open Cert.LossHeadIdeal Cert.LossHeadIdeal.Gen

variable (m : (ℓ : Loc nD τ sig) → Buf (Elt Ideal) ℓ) (c : Dev nD)

theorem idx : ∀ t : Fin cfg0.N, win0_0.index t = ![t.val / 2, t.val % 2] ∧
    win0_1.index t = ![t.val % 2, 0] ∧ win0_2.index t = ![t.val / 2, 0] ∧ win0_3.index t = ![0, 0] ∧
    win0_4.index t = ![t.val / 2, 0] ∧ win0_5.index t = ![t.val / 2, 0] ∧ win0_6.index t = ![0, 0] ∧ win0_7.index t = ![0, 0] :=
  (by decide +kernel : ∀ t : Fin grid0.N, _)

/-- A block's contribution to the product. -/
def pr (b : Vec Ideal S1024x1408 .bf16) (d : Vec Ideal S1408x1024 .bf16) (y : S1024x1024.Idx) : EReal :=
  ∑ x, b (ix2 (y 0) x) * d (ix2 x (y 1))

theorem pay1_eq (b : Vec Ideal S1024x1408 .bf16) (d : Vec Ideal S1408x1024 .bf16) : k0_pay1 (F := Ideal) b d = pr b d := by
  refine funext fun y => ?_
  idx_vars y
  pointwise [k0_pay1, pr]
theorem pay11_eq (a : Vec Ideal S1024x1024 .f32) (b : Vec Ideal S1024x1408 .bf16) (d : Vec Ideal S1408x1024 .bf16)
    (r : Vec Ideal S1024x1024 .f32) : k0_pay11 a b d r = fun y => a y + pr b d y + r y := by
  refine funext fun y => ?_
  idx_vars y
  pointwise [k0_pay11, pr]

theorem N8 : cfg0.N = 8 := N_0

theorem scr_A (t : Fin cfg0.N) (h : t.val % 2 = 0) : (outsAt0 m c t.val t.isLt).2.2.2 = pr (iblk m c 0 t) (iblk m c 1 t) := by
  rw [outsAt0_A m c t h (by omega)]
  frame_out
  exact pay1_eq _ _

theorem dg_A (t : Fin cfg0.N) (h : t.val % 2 = 0) (h' : t.val - 1 < cfg0.N) :
    (outsAt0 m c t.val t.isLt).2.1 = (outsAt0 m c (t.val - 1) h').2.1 ∧
    (outsAt0 m c t.val t.isLt).2.2.1 = (outsAt0 m c (t.val - 1) h').2.2.1 := by
  rw [outsAt0_A m c t h (by omega)]
  constructor
  · frame_out
    rfl
  · frame_out
    rfl

/-- The block's rows before the norm, at its last point. -/
abbrev full (t : Fin cfg0.N) (h' : t.val - 1 < cfg0.N) (y : S1024x1024.Idx) : EReal :=
  (outsAt0 m c (t.val - 1) h').2.2.2 y + pr (iblk m c 0 t) (iblk m c 1 t) y + (iblk m c 2 t : Vec Ideal S1024x1024 .f32) y

/-- The scratch as the last point's loop reads it. -/
theorem scratch_read (t : Fin cfg0.N) (X : Vec Ideal S1024x1024 .f32) :
    View.read (Elt Ideal) (View.whole cc0_scratch0) ((View.whole cc0_scratch0).writes (Elt Ideal) (View.whole cc0_scratch0).junk
      [⟨Rect.unit ![0, 0] ![1024, 1024] inb_S1024x1024_S1024x1024_0_0,
        k0_pay11 (View.read (Elt Ideal) (View.whole cc0_scratch0) ((Memref.isWhole_whole cc0_scratch0).unread X)) (iblk m c 0 t)
          (iblk m c 1 t) (iblk m c 2 t)⟩]) =
    fun y => X y + pr (iblk m c 0 t) (iblk m c 1 t) y + (iblk m c 2 t : Vec Ideal S1024x1024 .f32) y := by
  rw [View.read_writes_junk_eq_canon, View.canon_unit_zero (S := S1024x1024) (by decide), pay11_eq,
    (Memref.isWhole_whole cc0_scratch0).read_unread]

theorem rows_last (t : Fin cfg0.N) (h : t.val % 2 = 1) (h' : t.val - 1 < cfg0.N) : (outsAt0 m c t.val t.isLt).1 =
    LX (full m c t h') (iblk m c 4 t) (iblk m c 3 t) := by
  by_cases h0 : t.val < 2
  · rw [outsAt0_B m c t (by omega) h h0]
    frame_out
    refine (st_rows ..).trans ?_
    rw [Memref.IsWhole.read_unread]
    exact congrArg (LX · _ _) (scratch_read m c t _)
  · rw [outsAt0_C m c t (by omega) h h0]
    frame_out
    refine (st_rows ..).trans ?_
    rw [Memref.IsWhole.read_unread]
    exact congrArg (LX · _ _) (scratch_read m c t _)

theorem pay15_at (a b : Vec Ideal S1x1024 .f32) (z : Fin 1) (j : Fin 1024) : k0_pay15 a b (ix2 z j) = b (ix2 z j) + a (ix2 z j) := by
  pointwise [k0_pay15]
theorem pay16_at (a : FVec Ideal S1x1 .f32) (b : Vec Ideal S1x128 .f32) (z : Fin 1) (j : Fin 128) :
    k0_pay16 a b (ix2 z j) = b (ix2 z j) + a (ix2 0 0) := by
  pointwise [k0_pay16]
theorem pay9_at (z : Fin 1) (j : Fin 1024) : k0_pay9 (F := Ideal) (ix2 z j) = 0 := by
  pointwise [k0_pay9]
theorem pay10_at (z : Fin 1) (j : Fin 128) : k0_pay10 (F := Ideal) (ix2 z j) = 0 := by
  pointwise [k0_pay10]
theorem pay12_at (z : Fin 1) (j : Fin 1024) : k0_pay12 (F := Ideal) (ix2 z j) = 0 := by
  pointwise [k0_pay12]
theorem pay13_at (z w : Fin 1) : k0_pay13 (F := Ideal) (ix2 z w) = 0 := by
  pointwise [k0_pay13]

/-- What the block adds to the gain's gradient and to the loss. -/
abbrev tg (t : Fin cfg0.N) (h' : t.val - 1 < cfg0.N) (j : Fin 1024) : EReal :=
  ∑ i, LG (n := 1024) (full m c t h') (iblk m c 4 t) (iblk m c 3 t) j i
abbrev tl (t : Fin cfg0.N) (h' : t.val - 1 < cfg0.N) : EReal :=
  ∑ i, LL (n := 1024) (full m c t h') (iblk m c 4 t) (iblk m c 3 t) i

theorem first (t : Fin cfg0.N) (h : t.val % 2 = 1) (h0 : t.val < 2) (h' : t.val - 1 < cfg0.N) :
    (∀ (z : Fin 1) (j : Fin 1024), (outsAt0 m c t.val t.isLt).2.1 (ix2 z j) = tg m c t h' j) ∧
    ∀ (z : Fin 1) (j : Fin 128), (outsAt0 m c t.val t.isLt).2.2.1 (ix2 z j) = tl m c t h' := by
  rw [outsAt0_B m c t (by omega) h h0]
  constructor
  · intro z j
    frame_out
    refine (pay15_at _ _ z j).trans ?_
    rw [pay9_at, zero_add]
    refine (st_sum (z := z) (j := j) ..).trans ?_
    refine (congrArg (· + _) (pay12_at z j)).trans ((zero_add _).trans ?_)
    rw [Memref.IsWhole.read_unread]
    exact congrArg (fun P => ∑ i, LG (n := 1024) P (iblk m c 4 t) (iblk m c 3 t) j i) (scratch_read m c t _)
  · intro z j
    frame_out
    refine (pay16_at _ _ z j).trans ?_
    rw [pay10_at, zero_add]
    refine (st_loss (z := 0) (w := 0) ..).trans ?_
    refine (congrArg (· + _) (pay13_at 0 0)).trans ((zero_add _).trans ?_)
    rw [Memref.IsWhole.read_unread]
    exact congrArg (fun P => ∑ i, LL (n := 1024) P (iblk m c 4 t) (iblk m c 3 t) i) (scratch_read m c t _)

theorem next (t : Fin cfg0.N) (h : t.val % 2 = 1) (h0 : ¬t.val < 2) (h' : t.val - 1 < cfg0.N) :
    (∀ (z : Fin 1) (j : Fin 1024), (outsAt0 m c t.val t.isLt).2.1 (ix2 z j) =
      (outsAt0 m c (t.val - 1) h').2.1 (ix2 z j) + tg m c t h' j) ∧
    ∀ (z : Fin 1) (j : Fin 128), (outsAt0 m c t.val t.isLt).2.2.1 (ix2 z j) =
      (outsAt0 m c (t.val - 1) h').2.2.1 (ix2 z j) + tl m c t h' := by
  rw [outsAt0_C m c t (by omega) h h0]
  constructor
  · intro z j
    frame_out
    refine (pay15_at _ _ z j).trans (congrArg (_ + ·) ?_)
    refine (st_sum (z := z) (j := j) ..).trans ?_
    refine (congrArg (· + _) (pay12_at z j)).trans ((zero_add _).trans ?_)
    rw [Memref.IsWhole.read_unread]
    exact congrArg (fun P => ∑ i, LG (n := 1024) P (iblk m c 4 t) (iblk m c 3 t) j i) (scratch_read m c t _)
  · intro z j
    frame_out
    refine (pay16_at _ _ z j).trans (congrArg (_ + ·) ?_)
    refine (st_loss (z := 0) (w := 0) ..).trans ?_
    refine (congrArg (· + _) (pay13_at 0 0)).trans ((zero_add _).trans ?_)
    rw [Memref.IsWhole.read_unread]
    exact congrArg (fun P => ∑ i, LL (n := 1024) P (iblk m c 4 t) (iblk m c 3 t) i) (scratch_read m c t _)

abbrev A0 : FVec Ideal S4096x2816 .bf16 := m ((c : Thread nD τ).loc main_arg0)
abbrev W0 : FVec Ideal S2816x1024 .f32 := m ((c : Thread nD τ).loc main_arg1)
abbrev R0 : FVec Ideal S4096x1024 .f32 := m ((c : Thread nD τ).loc main_arg2)
abbrev G0 : FVec Ideal S1x1024 .f32 := m ((c : Thread nD τ).loc main_arg3)
abbrev T0 : FVec Ideal S4096x1024 .f32 := m ((c : Thread nD τ).loc main_arg4)

/-- Row `i` of block `q`, and lane `x` of contracted block `k`. -/
def row_ (q : Fin 4) (i : Fin 1024) : Fin 4096 := ⟨q.val * 1024 + i.val, by omega⟩
def lane (k : Fin 2) (x : Fin 1408) : Fin 2816 := ⟨k.val * 1408 + x.val, by omega⟩

/-- The point of block `q` at contracted block `k`. -/
def pt (q : Fin 4) (k : Fin 2) : Fin cfg0.N := ⟨q.val * 2 + k.val, by have := N8; omega⟩

theorem pt_mod (q : Fin 4) (k : Fin 2) : (pt q k).val % 2 = k.val := by simp only [pt]; omega
theorem pt_div (q : Fin 4) (k : Fin 2) : (pt q k).val / 2 = q.val := by simp only [pt]; omega

theorem b0 (q : Fin 4) (k : Fin 2) (r : Fin 1024) (x : Fin 1408) :
    (iblk m c 0 (pt q k) : Vec Ideal S1024x1408 .bf16) (ix2 r x) = A0 m c (ix2 (row_ q r) (lane k x)) := by
  blk_point [iblk, V, idx (pt q k), pt_mod q k, pt_div q k, row_, lane]
theorem b1 (q : Fin 4) (k : Fin 2) (x : Fin 1408) (j : Fin 1024) :
    (iblk m c 1 (pt q k) : Vec Ideal S1408x1024 .bf16) (ix2 x j) = W0 m c (ix2 (lane k x) j) := by
  blk_point [iblk, V, idx (pt q k), pt_mod q k, lane]
theorem b2 (q : Fin 4) (k : Fin 2) (r j : Fin 1024) :
    (iblk m c 2 (pt q k) : Vec Ideal S1024x1024 .f32) (ix2 r j) = R0 m c (ix2 (row_ q r) j) := by
  blk_point [iblk, V, idx (pt q k), pt_div q k, row_]
theorem b3 (q : Fin 4) (k : Fin 2) (z : Fin 1) (j : Fin 1024) :
    (iblk m c 3 (pt q k) : Vec Ideal S1x1024 .f32) (ix2 z j) = G0 m c (ix2 z j) := by
  blk_point [iblk, V, idx (pt q k)]
theorem b4 (q : Fin 4) (k : Fin 2) (r j : Fin 1024) :
    (iblk m c 4 (pt q k) : Vec Ideal S1024x1024 .f32) (ix2 r j) = T0 m c (ix2 (row_ q r) j) := by
  blk_point [iblk, V, idx (pt q k), pt_div q k, row_]

/-- The rows before the last norm. -/
def rows (a : FVec Ideal S4096x2816 .bf16) (w : FVec Ideal S2816x1024 .f32) (x : FVec Ideal S4096x1024 .f32) (y : S4096x1024.Idx) : EReal :=
  x y + ∑ l, a (ix2 (y 0) l) * w (ix2 l (y 1))

theorem full_at (q : Fin 4) (h') (i j : Fin 1024) :
    full m c (pt q 1) h' (ix2 i j) = rows (A0 m c) (W0 m c) (R0 m c) (ix2 (row_ q i) j) := by
  have e : ∀ k, pr (iblk m c 0 (pt q k)) (iblk m c 1 (pt q k)) (ix2 i j) =
      ∑ x, A0 m c (ix2 (row_ q i) (lane k x)) * W0 m c (ix2 (lane k x) j) := fun k =>
    Finset.sum_congr rfl fun x _ => congrArg₂ (· * ·) (b0 m c q k i x) (b1 m c q k x j)
  have h0 := scr_A m c (pt q 0) (pt_mod q 0)
  refine (congrArg (_ + ·) (b2 m c q 1 i j)).trans ((add_comm _ _).trans (congrArg (_ + ·) ?_))
  show (outsAt0 m c (pt q 0).val (pt q 0).isLt).2.2.2 (ix2 i j) + _ = _
  rw [h0, e, e]
  refine Eq.trans ?_ (Fin.sum_mul_add_congr (S := 2) (n := 1408) (F := fun k x =>
    A0 m c (ix2 (row_ q i) (lane k x)) * W0 m c (ix2 (lane k x) j)) (fun _ _ _ => rfl))
  rw [Fin.sum_univ_two]

section Rows
variable (q : Fin 4) (h' : (pt q 1).val - 1 < cfg0.N) (i : Fin 1024)
theorem full_row : rw_ (n := 1024) (full m c (pt q 1) h') i = rw_ (rows (A0 m c) (W0 m c) (R0 m c)) (row_ q i) :=
  funext fun k => full_at m c q h' i k
theorem t_row : rw_ (n := 1024) (iblk m c 4 (pt q 1)) i = rw_ (T0 m c) (row_ q i) := funext fun k => b4 m c q 1 i k
theorem g_row : gain (iblk m c 3 (pt q 1)) = gain (G0 m c) := funext fun k => b3 m c q 1 0 k
end Rows

theorem rows_at (q : Fin 4) (i j : Fin 1024) : (outsAt0 m c (pt q 1).val (pt q 1).isLt).1 (ix2 i j) =
    LX (rows (A0 m c) (W0 m c) (R0 m c)) (T0 m c) (G0 m c) (ix2 (row_ q i) j) := by
  rw [rows_last m c (pt q 1) (pt_mod q 1) (by have := (pt q 1).isLt; omega)]
  show ker (rw_ (n := 1024) _ i) (fun k => dy (rw_ (n := 1024) _ i) (rw_ (n := 1024) _ i) (gain _) k * gain _ k) j = _
  rw [full_row, t_row, g_row]
  rfl

theorem tg_at (q : Fin 4) (h') (j : Fin 1024) : tg m c (pt q 1) h' j =
    ∑ i, LG (rows (A0 m c) (W0 m c) (R0 m c)) (T0 m c) (G0 m c) j (row_ q i) := by
  refine Finset.sum_congr rfl fun i _ => ?_
  unfold LG
  rw [full_row, t_row, g_row, full_at]

theorem tl_at (q : Fin 4) (h') : tl m c (pt q 1) h' =
    ∑ i, LL (rows (A0 m c) (W0 m c) (R0 m c)) (T0 m c) (G0 m c) (row_ q i) := by
  refine Finset.sum_congr rfl fun i _ => ?_
  unfold LL
  rw [full_row, t_row, g_row]

theorem pt_last (t : Fin cfg0.N) (h : t.val % 2 = 1) : ∃ q, t = pt q 1 :=
  ⟨⟨t.val / 2, by have := lt_of_lt_of_eq t.isLt N8; omega⟩, Fin.ext (show t.val = t.val / 2 * 2 + 1 by omega)⟩

theorem final5 : (dats m 0 c).arrAt 5 (cfgs 0).N = LX (rows (A0 m c) (W0 m c) (R0 m c)) (T0 m c) (G0 m c) := by
  refine (dats m 0 c).arrAt_eq_of_covers 5 _ (by decide +kernel) fun t hf y => ?_
  obtain ⟨q, rfl⟩ := pt_last t ((flush0_5 t).mp hf)
  blk_simp
  rw [after0_5]
  idx_vars y
  refine (rows_at m c q y0 y1).trans (congrArg _ ?_)
  blk_ext [idx (pt q 1), pt_div q 1, row_]

theorem at_0 : (∀ (z : Fin 1) (j : Fin 1024), (outsAt0 m c (pt 0 1).val (pt 0 1).isLt).2.1 (ix2 z j) =
      ∑ i, LG (rows (A0 m c) (W0 m c) (R0 m c)) (T0 m c) (G0 m c) j (row_ 0 i)) ∧
    ∀ (z : Fin 1) (j : Fin 128), (outsAt0 m c (pt 0 1).val (pt 0 1).isLt).2.2.1 (ix2 z j) =
      ∑ i, LL (rows (A0 m c) (W0 m c) (R0 m c)) (T0 m c) (G0 m c) (row_ 0 i) := by
  obtain ⟨h1, h2⟩ := first m c (pt 0 1) (by decide) (by decide) (by have := (pt 0 1).isLt; omega)
  exact ⟨fun z j => (h1 z j).trans (tg_at m c 0 _ j), fun z j => (h2 z j).trans (tl_at m c 0 _)⟩

theorem at_s (q q' : Fin 4) (h : q'.val = q.val + 1) :
    (∀ (z : Fin 1) (j : Fin 1024), (outsAt0 m c (pt q' 1).val (pt q' 1).isLt).2.1 (ix2 z j) =
      (outsAt0 m c (pt q 1).val (pt q 1).isLt).2.1 (ix2 z j) +
        ∑ i, LG (rows (A0 m c) (W0 m c) (R0 m c)) (T0 m c) (G0 m c) j (row_ q' i)) ∧
    ∀ (z : Fin 1) (j : Fin 128), (outsAt0 m c (pt q' 1).val (pt q' 1).isLt).2.2.1 (ix2 z j) =
      (outsAt0 m c (pt q 1).val (pt q 1).isLt).2.2.1 (ix2 z j) +
        ∑ i, LL (rows (A0 m c) (W0 m c) (R0 m c)) (T0 m c) (G0 m c) (row_ q' i) := by
  have hp : ∀ k : Fin 2, (pt q' k).val = q'.val * 2 + k.val := fun _ => rfl
  have hq : (pt q 1).val = q.val * 2 + 1 := rfl
  have step : ∀ n (hn : n < cfg0.N) n' (hn' : n' < cfg0.N), n = n' + 1 → n % 2 = 0 →
      (outsAt0 m c n hn).2.1 = (outsAt0 m c n' hn').2.1 ∧ (outsAt0 m c n hn).2.2.1 = (outsAt0 m c n' hn').2.2.1 :=
    fun n hn n' hn' e h => by
      subst e; exact dg_A m c ⟨n' + 1, hn⟩ h hn'
  obtain ⟨h1, h2⟩ := next m c (pt q' 1) (pt_mod q' 1) (by rw [hp]; omega) (by have := (pt q' 1).isLt; omega)
  obtain ⟨s1, s2⟩ := step _ (pt q' 0).isLt (pt q 1).val (pt q 1).isLt (by rw [hp, hq]; show q'.val * 2 + 0 = _; omega)
    (pt_mod q' 0)
  exact ⟨fun z j => (h1 z j).trans (congrArg₂ (· + ·) (congrFun s1 _) (tg_at m c q' _ j)),
    fun z j => (h2 z j).trans (congrArg₂ (· + ·) (congrFun s2 _) (tl_at m c q' _))⟩

theorem final6 : (dats m 0 c).arrAt 6 (cfgs 0).N = fun y =>
    ∑ r, LG (rows (A0 m c) (W0 m c) (R0 m c)) (T0 m c) (G0 m c) (y 1) r := by
  refine (dats m 0 c).arrAt_eq_of_after_last 6 t0_7 (by decide +kernel) _ fun j => ?_
  blk_simp
  rw [after0_6]
  idx_vars j
  show (outsAt0 m c (pt 3 1).val (pt 3 1).isLt).2.1 (ix2 j0 j1) = ∑ r, LG (rows (A0 m c) (W0 m c) (R0 m c)) (T0 m c) (G0 m c) j1 r
  rw [(at_s m c 2 3 rfl).1, (at_s m c 1 2 rfl).1, (at_s m c 0 1 rfl).1, (at_0 m c).1]
  refine Eq.trans ?_ (Fin.sum_mul_add_congr (S := 4) (n := 1024) (F := fun q i =>
    LG (rows (A0 m c) (W0 m c) (R0 m c)) (T0 m c) (G0 m c) j1 (row_ q i)) (fun _ _ _ => rfl))
  rw [Fin.sum_univ_four]

theorem final7 : (dats m 0 c).arrAt 7 (cfgs 0).N = fun _ => ∑ r, LL (rows (A0 m c) (W0 m c) (R0 m c)) (T0 m c) (G0 m c) r := by
  refine (dats m 0 c).arrAt_eq_of_after_last 7 t0_7 (by decide +kernel) _ fun j => ?_
  blk_simp
  rw [after0_7]
  idx_vars j
  show (outsAt0 m c (pt 3 1).val (pt 3 1).isLt).2.2.1 (ix2 j0 j1) = _
  rw [(at_s m c 2 3 rfl).2, (at_s m c 1 2 rfl).2, (at_s m c 0 1 rfl).2, (at_0 m c).2]
  refine Eq.trans ?_ (Fin.sum_mul_add_congr (S := 4) (n := 1024) (F := fun q i =>
    LL (rows (A0 m c) (W0 m c) (R0 m c)) (T0 m c) (G0 m c) (row_ q i)) (fun _ _ _ => rfl))
  rw [Fin.sum_univ_four]
end Kernel

section Pure
open Cert.LossHeadRefIdeal Cert.LossHeadRefIdeal.Read

variable (x0 : FVec Ideal S4096x2816 .bf16) (x1 : FVec Ideal S2816x1024 .f32) (x2 x4 : FVec Ideal S4096x1024 .f32)
  (x3 : FVec Ideal S1x1024 .f32)

theorem v2_at (i : Fin 4096) (j : Fin 1024) : val_main_v2 (F := Ideal) x0 x1 x2 (ix2 i j) = rows x0 x1 x2 (ix2 i j) := by
  pointwise [val_main_v2, val_main_v1, val_main_v0, rows]

theorem ofBits_inv : Ideal.ofBits .f32 981467136#32 = ((1 / 1024 : ℝ) : EReal) := by
  simp [Ideal.ofBits, Ideal.ieee, -EReal.coe_mul]; norm_num

/-- The half of the mean's derivative, twice the distance: the distance over the row's length. -/
theorem half_two (e : EReal) : Ideal.div (Ideal.ofBits .f32 1056964608#32) (Ideal.ofBits .f32 1149239296#32) *
    (Ideal.ofBits .f32 1073741824#32 * e) = e * Ideal.ofBits .f32 981467136#32 := by
  rw [show Ideal.ofBits .f32 1056964608#32 = ((1 / 2 : ℝ) : EReal) from Lift.ofBits_half,
    show Ideal.ofBits .f32 1149239296#32 = ((1024 : ℝ) : EReal) from Lift.ofBits_1024,
    show Ideal.ofBits .f32 1073741824#32 = ((2 : ℝ) : EReal) by simp [Ideal.ofBits, Ideal.ieee, -EReal.coe_mul]; norm_num,
    ofBits_inv,
    Lift.div_real (by norm_num), ← mul_assoc, ← EReal.coe_mul, mul_comm]
  norm_num

theorem v33_at (i : Fin 4096) (j : Fin 1024) : val_main_v33 (F := Ideal) x0 x1 x2 x3 x4 (ix2 i j) =
    LG (rows x0 x1 x2) x4 x3 j i := by
  pointwise [val_main_v52, val_main_v51, val_main_v50, val_main_v49, val_main_v48, val_main_v47, val_main_v46, val_main_v45,
    val_main_v44, val_main_v43, val_main_v42, val_main_v41, val_main_v40, val_main_v39, val_main_v38, val_main_v37,
    val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_cst, val_main_cst_0, val_main_cst_1, val_main_cst_2, val_main_cst_3,
    val_main_cst_4, val_main_cst_5, val_main_cst_6, val_main_cst_7, val_main_cst_8, val_main_cst_9, val_main_cst_10,
    val_main_cst_11, val_main_cst_12, val_main_cst_13, val_main_cst_14]
  simp only [v2_at, half_two]
  exact mul_comm _ _

theorem v35_at (z : Fin 1) (j : Fin 1024) : val_main_v35 (F := Ideal) x0 x1 x2 x3 x4 (ix2 z j) =
    ∑ r, LG (rows x0 x1 x2) x4 x3 j r := by
  pointwise [val_main_v52, val_main_v51, val_main_v50, val_main_v49, val_main_v48, val_main_v47, val_main_v46, val_main_v45,
    val_main_v44, val_main_v43, val_main_v42, val_main_v41, val_main_v40, val_main_v39, val_main_v38, val_main_v37,
    val_main_v36, val_main_v35, val_main_v34, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v6, val_main_v5, val_main_v4,
    val_main_v3, val_main_cst, val_main_cst_0, val_main_cst_1, val_main_cst_2, val_main_cst_3, val_main_cst_4,
    val_main_cst_5, val_main_cst_6, val_main_cst_7, val_main_cst_8, val_main_cst_9, val_main_cst_10,
    val_main_cst_11, val_main_cst_12, val_main_cst_13, val_main_cst_14]
  simp only [v33_at]

theorem v52_at (z : Fin 1) (j : Fin 128) : val_main_v52 (F := Ideal) x0 x1 x2 x3 x4 (ix2 z j) =
    ∑ r, LL (rows x0 x1 x2) x4 x3 r := by
  pointwise [val_main_v52, val_main_v51, val_main_v50, val_main_v49, val_main_v48, val_main_v47, val_main_v46, val_main_v45,
    val_main_v44, val_main_v43, val_main_v42, val_main_v41, val_main_v40, val_main_v39, val_main_v38, val_main_v37,
    val_main_v36, val_main_v35, val_main_v34, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v6, val_main_v5, val_main_v4,
    val_main_v3, val_main_cst, val_main_cst_0, val_main_cst_1, val_main_cst_2, val_main_cst_3, val_main_cst_4,
    val_main_cst_5, val_main_cst_6, val_main_cst_7, val_main_cst_8, val_main_cst_9, val_main_cst_10,
    val_main_cst_11, val_main_cst_12, val_main_cst_13, val_main_cst_14]
  simp only [v2_at]
  exact half_sum _

theorem v51_at (rr ur : Fin 4096 → Fin 1024 → ℝ) (hr : ∀ i k, rows x0 x1 x2 (ix2 i k) = ((rr i k : ℝ) : EReal))
    (hu : ∀ i k, dy (rw_ (rows x0 x1 x2) i) (rw_ x4 i) (gain x3) k * x3 (ix2 0 k) = ((ur i k : ℝ) : EReal))
    (i : Fin 4096) (j : Fin 1024) :
    val_main_v51 (F := Ideal) x0 x1 x2 x3 x4 (ix2 i j) = LX (rows x0 x1 x2) x4 x3 (ix2 i j) := by
  pointwise [val_main_v52, val_main_v51, val_main_v50, val_main_v49, val_main_v48, val_main_v47, val_main_v46, val_main_v45,
    val_main_v44, val_main_v43, val_main_v42, val_main_v41, val_main_v40, val_main_v39, val_main_v38, val_main_v37,
    val_main_v36, val_main_v35, val_main_v34, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v6, val_main_v5, val_main_v4,
    val_main_v3, val_main_cst, val_main_cst_0, val_main_cst_1, val_main_cst_2, val_main_cst_3, val_main_cst_4,
    val_main_cst_5, val_main_cst_6, val_main_cst_7, val_main_cst_8, val_main_cst_9, val_main_cst_10,
    val_main_cst_11, val_main_cst_12, val_main_cst_13, val_main_cst_14]
  simp only [Fin.sum_univ_one, v2_at, half_two]
  have e : ∀ k, (rows x0 x1 x2 (ix2 i k) * Ideal.rsqrt (Ideal.div (∑ x, rows x0 x1 x2 (ix2 i x) * rows x0 x1 x2 (ix2 i x))
      (Ideal.ofBits .f32 1149239296#32) + Ideal.ofBits .f32 897988541#32) * x3 (ix2 0 k) - x4 (ix2 i k)) *
      Ideal.ofBits .f32 981467136#32 * x3 (ix2 0 k) = ((ur i k : ℝ) : EReal) := hu i
  simp only [e]
  simp only [hr]
  have e1 : rw_ (rows x0 x1 x2) i = fun k => ((rr i k : ℝ) : EReal) := funext (hr i)
  have e2 : (fun k => dy (rw_ (rows x0 x1 x2) i) (rw_ x4 i) (gain x3) k * gain x3 k) = fun k => ((ur i k : ℝ) : EReal) :=
    funext (hu i)
  rw [show LX (rows x0 x1 x2) x4 x3 (ix2 i j) = ker (rw_ (rows x0 x1 x2) i)
    (fun k => dy (rw_ (rows x0 x1 x2) i) (rw_ x4 i) (gain x3) k * gain x3 k) j from rfl, e2, e1]
  exact (Lift.norm_dx (rr i) (ur i) j).symm
end Pure

/-- The precondition: the block's product, the weight, the rows, the gain and the target are finite. -/
theorem pre {a : FVec Ideal Pre_loss_head_pre.S4096x2816 .bf16} {w : FVec Ideal Pre_loss_head_pre.S2816x1024 .f32}
    {x t : FVec Ideal Pre_loss_head_pre.S4096x1024 .f32} {g : FVec Ideal Pre_loss_head_pre.S1x1024 .f32}
    (h : Pre_loss_head_pre.fn a w x g t = fun _ => 1#1) :
    (∃ f : Pre_loss_head_pre.S4096x2816.Idx → ℝ, a = fun i => ((f i : ℝ) : EReal)) ∧
    (∃ f : Pre_loss_head_pre.S2816x1024.Idx → ℝ, w = fun i => ((f i : ℝ) : EReal)) ∧
    (∃ f : Pre_loss_head_pre.S4096x1024.Idx → ℝ, x = fun i => ((f i : ℝ) : EReal)) ∧
    (∃ f : Pre_loss_head_pre.S1x1024.Idx → ℝ, g = fun i => ((f i : ℝ) : EReal)) ∧
    ∃ f : Pre_loss_head_pre.S4096x1024.Idx → ℝ, t = fun i => ((f i : ℝ) : EReal) := by
  have h0 := congrFun h (fun i => i.elim0)
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨Lift.all_finite _ _ _ _ _ _ h1, Lift.all_finite _ _ _ _ _ _ h2, Lift.all_finite _ _ _ _ _ _ h3,
    Lift.all_finite _ _ _ _ _ _ h4, Lift.all_finite _ _ _ _ _ _ h5⟩

/-- The rows before the last norm are finite where their parts are. -/
theorem rows_real {a : FVec Ideal LossHeadIdeal.S4096x2816 .bf16} {w : FVec Ideal LossHeadIdeal.S2816x1024 .f32}
    {x : FVec Ideal LossHeadIdeal.S4096x1024 .f32} (ar : LossHeadIdeal.S4096x2816.Idx → ℝ)
    (wr : LossHeadIdeal.S2816x1024.Idx → ℝ) (xr : LossHeadIdeal.S4096x1024.Idx → ℝ)
    (ha : a = fun i => ((ar i : ℝ) : EReal)) (hw : w = fun i => ((wr i : ℝ) : EReal)) (hx : x = fun i => ((xr i : ℝ) : EReal))
    (i : Fin 4096) (j : Fin 1024) : ∃ p : ℝ, rows a w x (ix2 i j) = ((p : ℝ) : EReal) := by
  subst ha hw hx
  refine ⟨xr (ix2 i j) + ∑ l, ar (ix2 i l) * wr (ix2 l j), ?_⟩
  rw [EReal.coe_add, ← dot_real]
  rfl

/-- So is the loss's gradient with respect to the normalised row. -/
theorem dy_real (r t g : Fin 1024 → ℝ) (k : Fin 1024) : ∃ u : ℝ, dy (fun k => ((r k : ℝ) : EReal)) (fun k => ((t k : ℝ) : EReal))
    (fun k => ((g k : ℝ) : EReal)) k * ((g k : ℝ) : EReal) = ((u : ℝ) : EReal) := by
  refine ⟨(r k * (Real.sqrt ((∑ k, r k * r k) / 1024 + Lift.eps))⁻¹ * g k - t k) * (1 / 1024) * g k, ?_⟩
  have e : rs (fun k => ((r k : ℝ) : EReal)) = (((Real.sqrt ((∑ k, r k * r k) / 1024 + Lift.eps))⁻¹ : ℝ) : EReal) :=
    (congrArg Ideal.rsqrt (Lift.ms_real r)).trans (Lift.rsqrt_real (Lift.ms_pos r 1024 (by norm_num)))
  simp only [dy, err, e, ofBits_inv, EReal.coe_mul, EReal.coe_sub]

section Reference
open Cert.LossHeadRefIdeal Cert.LossHeadRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v51) = val_main_v51 (F := Ideal) (m ((c.tc : Thread nD τ).loc main_arg0)) (m ((c.tc : Thread nD τ).loc main_arg1))
        (m ((c.tc : Thread nD τ).loc main_arg2))  (m ((c.tc : Thread nD τ).loc main_arg3))  (m ((c.tc : Thread nD τ).loc main_arg4))
      ∧ r.2.mem ((c.tc : Thread nD τ).loc main_v35) = val_main_v35 (F := Ideal) (m ((c.tc : Thread nD τ).loc main_arg0)) (m ((c.tc : Thread nD τ).loc main_arg1))
        (m ((c.tc : Thread nD τ).loc main_arg2))  (m ((c.tc : Thread nD τ).loc main_arg3))  (m ((c.tc : Thread nD τ).loc main_arg4))
      ∧ r.2.mem ((c.tc : Thread nD τ).loc main_v52) = val_main_v52 (F := Ideal) (m ((c.tc : Thread nD τ).loc main_arg0)) (m ((c.tc : Thread nD τ).loc main_arg1))
        (m ((c.tc : Thread nD τ).loc main_arg2))  (m ((c.tc : Thread nD τ).loc main_arg3))  (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => ⟨(h c).1.trans (val_main_v51_eq _ _), (h c).2.1.trans (val_main_v35_eq _ _ _ _ _),
    (h c).2.2.1.trans (val_main_v52_eq _ _ _ _ _), (h c).2.2.2⟩, sem_eq_zero_of_no_sems (by decide) r.2⟩) (Value.run m ρ)
end Reference

theorem frame_ref : Cert.quiescent_LossHeadRefIdeal := fun m g _ =>
  (θ_run Cert.LossHeadRefIdeal.defs _ _).mono (fun _ h => ⟨fun c => (h.1 c).2.2.2, h.2⟩) (run_ref m g)

theorem frame_ref_pre : Cert.quiescent_LossHeadRefIdeal_pre_loss_head_pre := fun m g _ => frame_ref m g trivial

theorem algebraic : Cert.algebraic_LossHeadIdeal_LossHeadRefIdeal_pre_loss_head_pre := by
  pair_intro
  · run_from Cert.LossHeadIdeal.Gen.run_main m g
  · refine (θ_run Cert.LossHeadRefIdeal.defs _ _).mono (fun r h c => ?_) (run_ref m' g')
    obtain ⟨h0, h1, h2, h3⟩ := h.1 c
    obtain ⟨e0, e1, e2, e3, e4⟩ := hagree c
    obtain ⟨⟨ar, ha⟩, ⟨wr, hw⟩, ⟨xr, hx⟩, ⟨gr, hg⟩, ⟨tr, ht⟩⟩ := pre (hpre c)
    refine ⟨h0.trans ?_, h1.trans ?_, h2.trans ?_, h3⟩
    · rw [e0, e1, e2, e3, e4, final5 m c]
      choose rr hr using rows_real ar wr xr ha hw hx
      choose ur hu using fun i => dy_real (rr i) (fun k => tr (ix2 i k)) fun k => gr (ix2 0 k)
      refine funext fun j => ?_
      idx_vars j
      refine v51_at _ _ _ _ _ rr ur hr (fun i k => ?_) j0 j1
      refine Eq.trans ?_ (hu i k)
      exact congrArg₂ (· * ·) (congrArg₂ (fun r tg => dy r tg.1 tg.2 k) (funext (hr i))
        (congrArg₂ Prod.mk (funext fun k => congrFun ht _) (funext fun k => congrFun hg _))) (congrFun hg _)
    · rw [e0, e1, e2, e3, e4, final6 m c]
      refine funext fun j => ?_
      idx_vars j
      exact v35_at _ _ _ _ _ j0 j1
    · rw [e0, e1, e2, e3, e4, final7 m c]
      refine funext fun j => ?_
      idx_vars j
      exact v52_at _ _ _ _ _ j0 j1

end Cert.Loss

end
-- ==== Proof.FfnAct.lean ====
/-
  `ffn_in` followed by `ffn_out_dx`: the gate of the feed-forward layer, and the derivative of the gated product.
-/
module

public import proofs.«01_k».proof.Proof.Gen.FfnActBwdIdeal.Frame
public import proofs.«01_k».proof.Proof.Gen.FfnActBwdRefIdeal.Run
public import proofs.«01_k».proof.Proof.Gen.FfnActBwdRefIdeal.Read
public import proofs.«01_k».proof.Proof.Gen.Pre_ffn_act_bwd_pre
public import proofs.«01_k».proof.Proof.Lift
public import Idealize.ShloMosaic.Lib.Pipeline.ValueKit
public import Idealize.ShloMosaic.Lib.Claim
public import proofs.«01_k».proof.Defs

@[expose] public section

set_option maxRecDepth 16384

noncomputable section

namespace Cert.FfnAct

open Idealize.ShloMosaic Idealize.ShloMosaic.TcCoe Idealize.SL.Sem
open Idealize.ShloMosaic.Pipeline (Dat)

section Kernel
open Idealize.ShloMosaic.Tactic Idealize.SL Idealize.SL.RA Idealize.SL.BI Idealize.SL.BI.BIBase Idealize.SL.BI.Laws
open Idealize.SL.ProofMode Idealize.ShloMosaic.Rounds
open scoped Idealize.SL.BI
open Idealize.ShloMosaic.Pipeline (Cfg Window BodyObligation cellOf)
open Cert.FfnActBwdIdeal Cert.FfnActBwdIdeal.Gen

/-- The resources of a run of both calls. -/
abbrev MM := MT nD τ sig Unit (Elt Ideal) ℕ (UR sig nD τ) ℕ

variable (V : (c : Dev nD) → (b : Ref sig .tc) → Buf (Elt Ideal) ((c : Thread nD τ).loc b)) (c : Dev nD)

theorem idx0 : ∀ t : Fin cfg0.N, win0_0.index t = ![t.val % 8, 0] ∧ win0_1.index t = ![t.val / 8, 0] ∧
    win0_2.index t = ![t.val / 8 + 2, 0] ∧ win0_3.index t = ![0, t.val % 8, t.val / 8] ∧
    win0_4.index t = ![t.val % 8, t.val / 8] :=
  (by decide +kernel : ∀ t : Fin grid0.N, _)

theorem idx1 : ∀ t : Fin cfg1.N, win1_0.index t = ![t.val / 2, 0] ∧ win1_1.index t = ![t.val % 2, 0] ∧
    win1_2.index t = ![0, t.val / 2, t.val % 2] ∧ win1_3.index t = ![0, t.val / 2, t.val % 2] :=
  (by decide +kernel : ∀ t : Fin grid1.N, _)

/-- The sigmoid as the kernel forms it. -/
def sg (x : EReal) : EReal := Ideal.div 1 (1 + Ideal.exp (0 - x))

/-- The gated product. -/
def gated (g u : EReal) : EReal := g * sg g * u

/-- The gate's and the other half's derivative, of the product's. -/
def dgated (n : ℕ) (da g u : EReal) : EReal := if n = 0 then da * u * sg g * (1 + g * (1 - sg g)) else da * g * sg g

/-- One block's product with one block of the weights. -/
def dotB {K N : ℕ} (x : FVec Ideal ⟨2, ![N, 1024]⟩ .f32) (w : FVec Ideal ⟨2, ![K, 1024]⟩ .f32) (r : Fin N) (n : Fin K) : EReal :=
  ∑ k : Fin 1024, x (ix2 r k) * w (ix2 n k)

theorem out3 (t : Fin cfg0.N) (y : S2x512x1408.Idx) :
    (outsAt0 V c t).1 y = if (y 0 : ℕ) = 0 then dotB (iblk0 V c 0 t) (iblk0 V c 1 t) (y 1) (y 2)
      else dotB (iblk0 V c 0 t) (iblk0 V c 2 t) (y 1) (y 2) := by
  rw [outsAt0]
  frame_out
  canon_tiles x h using (View.cover_of_tiledBy _ ![1, 512, 128] (by sl_kernel_rfl) y)
  all_goals (open_payloads; pointwise [dotB, h0, h1, h2]; blk_point [])

theorem out4 (t : Fin cfg0.N) (y : S512x1408.Idx) :
    (outsAt0 V c t).2 y = gated (dotB (iblk0 V c 0 t) (iblk0 V c 1 t) (y 0) (y 1))
      (dotB (iblk0 V c 0 t) (iblk0 V c 2 t) (y 0) (y 1)) := by
  rw [outsAt0]
  frame_out
  canon_tiles x h using (View.cover_of_tiledBy _ ![512, 128] (by sl_kernel_rfl) y)
  all_goals (open_payloads; pointwise [gated, sg, dotB, h0, h1]; blk_point [])

theorem out1 (t : Fin cfg1.N) (y : S2x1024x1408.Idx) :
    outsAt1 V c t y = dgated (y 0) (dotB (iblk1 V c 0 t) (iblk1 V c 1 t) (y 1) (y 2))
      (iblk1 V c 2 t (ix3 0 (y 1) (y 2))) (iblk1 V c 2 t (ix3 1 (y 1) (y 2))) := by
  rw [outsAt1]
  frame_out
  canon_tiles x h using (View.cover_of_tiledBy _ ![1, 1024, 128] (by sl_kernel_rfl) y)
  all_goals (open_payloads; pointwise [dgated, sg, dotB, h0, h1, h2]; blk_point [])

/-- Column `j` of half `n`. -/
def col (n : Fin 2) (j : Fin 2816) : Fin 5632 := ⟨n.val * 2816 + j.val, by omega⟩

/-- Row `r` and column `n` of the first call's block `t`. -/
def row0 (t : Fin cfg0.N) (r : Fin 512) : Fin 4096 := ⟨t.val % 8 * 512 + r.val, by omega⟩
def col0 (t : Fin cfg0.N) (n : Fin 1408) : Fin 2816 := ⟨t.val / 8 * 1408 + n.val, by
  have : t.val < 16 := lt_of_lt_of_eq t.isLt (show cfg0.N = 16 from N_0)
  omega⟩

theorem b0_0 (t : Fin cfg0.N) (r : Fin 512) (k : Fin 1024) :
    iblk0 V c 0 t (ix2 r k) = V c main_arg0 (ix2 (row0 t r) k) := by blk_point [iblk0, idx0 t, row0]
theorem b0_1 (t : Fin cfg0.N) (n : Fin 1408) (k : Fin 1024) :
    iblk0 V c 1 t (ix2 n k) = V c main_v1 (ix2 (col 0 (col0 t n)) k) := by blk_point [iblk0, idx0 t, col, col0]
theorem b0_2 (t : Fin cfg0.N) (n : Fin 1408) (k : Fin 1024) :
    iblk0 V c 2 t (ix2 n k) = V c main_v1 (ix2 (col 1 (col0 t n)) k) := by blk_point [iblk0, idx0 t, col, col0]

/-- Row `r` and column `n` of the second call's block `t`. -/
def row1 (t : Fin cfg1.N) (r : Fin 1024) : Fin 4096 := ⟨t.val / 2 * 1024 + r.val, by
  have : t.val < 8 := lt_of_lt_of_eq t.isLt (show cfg1.N = 8 from N_1)
  omega⟩
def col1 (t : Fin cfg1.N) (n : Fin 1408) : Fin 2816 := ⟨t.val % 2 * 1408 + n.val, by omega⟩

theorem b1_0 (t : Fin cfg1.N) (r k : Fin 1024) :
    iblk1 V c 0 t (ix2 r k) = V c main_arg3 (ix2 (row1 t r) k) := by blk_point [iblk1, idx1 t, row1]
theorem b1_1 (t : Fin cfg1.N) (n : Fin 1408) (k : Fin 1024) :
    iblk1 V c 1 t (ix2 n k) = V c main_v3 (ix2 (col1 t n) k) := by blk_point [iblk1, idx1 t, col1]
theorem b1_2 (t : Fin cfg1.N) (p : Fin 2) (r : Fin 1024) (n : Fin 1408) :
    iblk1 V c 2 t (ix3 p r n) = V c main_v2_0 (ix3 p (row1 t r) (col1 t n)) := by blk_point [iblk1, idx1 t, row1, col1]

/-- The rows' products with the weights' columns, as the first call takes them. -/
abbrev gu (r : Fin 4096) (n : Fin 5632) : EReal := dotB (K := 5632) (N := 4096) (V c main_arg0) (V c main_v1) r n

theorem d0_1 (t : Fin cfg0.N) (r : Fin 512) (n : Fin 1408) :
    dotB (iblk0 V c 0 t) (iblk0 V c 1 t) r n = gu V c (row0 t r) (col 0 (col0 t n)) :=
  Finset.sum_congr rfl fun k _ => by rw [b0_0, b0_1]
theorem d0_2 (t : Fin cfg0.N) (r : Fin 512) (n : Fin 1408) :
    dotB (iblk0 V c 0 t) (iblk0 V c 2 t) r n = gu V c (row0 t r) (col 1 (col0 t n)) :=
  Finset.sum_congr rfl fun k _ => by rw [b0_0, b0_2]

/-- The first call's first result of its arguments. -/
def guA : FVec Ideal S2x4096x2816 .bf16 := fun i => gu V c (i 1) (col (i 0) (i 2))

theorem out3_eq (t : Fin cfg0.N) (y : S2x512x1408.Idx) (i : S2x4096x2816.Idx) (h0 : i 0 = y 0)
    (h1 : i 1 = row0 t (y 1)) (h2 : i 2 = col0 t (y 2)) : (outsAt0 V c t).1 y = guA V c i := by
  unfold guA
  rw [h0, h1, h2]
  idx_vars y
  refine (out3 V c t _).trans ?_
  change (if (y0 : ℕ) = 0 then dotB (iblk0 V c 0 t) (iblk0 V c 1 t) y1 y2 else dotB (iblk0 V c 0 t) (iblk0 V c 2 t) y1 y2) =
    gu V c (row0 t y1) (col y0 (col0 t y2))
  rw [d0_1, d0_2]
  by_cases h : (y0 : ℕ) = 0
  · rw [if_pos h, show y0 = (0 : Fin 2) from Fin.ext h]
  · rw [if_neg h, show y0 = (1 : Fin 2) from Fin.ext (by change _ = 1; omega)]

theorem final0_3 : (dat0 V c).arrAt 3 cfg0.N = guA V c := by
  refine (dat0 V c).arrAt_eq_of_covers 3 _ (by decide +kernel) fun t hf y => ?_
  blk_simp
  rw [after0_3]
  refine out3_eq V c t y _ ?_ ?_ ?_
  all_goals (refine Fin.ext ?_; blk_simp [idx0 t, row0, col0])

/-- … and its second. -/
def actA : FVec Ideal S4096x2816 .bf16 := fun i => gated (gu V c (i 0) (col 0 (i 1))) (gu V c (i 0) (col 1 (i 1)))

theorem out4_eq (t : Fin cfg0.N) (y : S512x1408.Idx) (i : S4096x2816.Idx) (h0 : i 0 = row0 t (y 0))
    (h1 : i 1 = col0 t (y 1)) : (outsAt0 V c t).2 y = actA V c i := by
  unfold actA
  rw [h0, h1]
  idx_vars y
  exact (out4 V c t _).trans (congrArg₂ gated (d0_1 V c t y0 y1) (d0_2 V c t y0 y1))

theorem final0_4 : (dat0 V c).arrAt 4 cfg0.N = actA V c := by
  refine (dat0 V c).arrAt_eq_of_covers 4 _ (by decide +kernel) fun t hf y => ?_
  blk_simp
  refine out4_eq V c t y _ ?_ ?_
  all_goals (refine Fin.ext ?_; blk_simp [idx0 t, row0, col0])

/-- The second call's result of its arguments. -/
def du (n : Fin 2) (r : Fin 4096) (j : Fin 2816) : EReal :=
  dgated n (dotB (K := 2816) (N := 4096) (V c main_arg3) (V c main_v3) r j)
    ((V c main_v2_0 : FVec Ideal S2x4096x2816 .bf16) (ix3 0 r j)) ((V c main_v2_0 : FVec Ideal S2x4096x2816 .bf16) (ix3 1 r j))
def duA : FVec Ideal S2x4096x2816 .bf16 := fun i => du V c (i 0) (i 1) (i 2)

theorem d1 (t : Fin cfg1.N) (r : Fin 1024) (n : Fin 1408) : dotB (iblk1 V c 0 t) (iblk1 V c 1 t) r n =
    dotB (K := 2816) (N := 4096) (V c main_arg3) (V c main_v3) (row1 t r) (col1 t n) :=
  Finset.sum_congr rfl fun k _ => by rw [b1_0, b1_1]

theorem out1_eq (t : Fin cfg1.N) (y : S2x1024x1408.Idx) (i : S2x4096x2816.Idx) (h0 : i 0 = y 0)
    (h1 : i 1 = row1 t (y 1)) (h2 : i 2 = col1 t (y 2)) : outsAt1 V c t y = duA V c i := by
  unfold duA
  rw [h0, h1, h2]
  idx_vars y
  refine (out1 V c t _).trans ?_
  change dgated y0 (dotB (iblk1 V c 0 t) (iblk1 V c 1 t) y1 y2) (iblk1 V c 2 t (ix3 0 y1 y2)) (iblk1 V c 2 t (ix3 1 y1 y2)) =
    du V c y0 (row1 t y1) (col1 t y2)
  rw [d1, b1_2, b1_2]
  rfl

theorem final1_3 : (dat1 V c).arrAt 3 cfg1.N = duA V c := by
  refine (dat1 V c).arrAt_eq_of_covers 3 _ (by decide +kernel) fun t hf y => ?_
  blk_simp
  rw [after1_3]
  refine out1_eq V c t y _ ?_ ?_ ?_
  all_goals (refine Fin.ext ?_; blk_simp [idx1 t, row1, col1])

set_option backward.isDefEq.respectTransparency.types false in
/-- Both calls' run, from any memory: the second result of the first and the result of the second are what the blocks
    leave, the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ((∀ c : Dev nD,
      r.2.mem ((c.tc : Thread nD τ).loc main_v2_1) = W4 m ρ c (Proc.devRef .tc main_v2_1)
      ∧ r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp MM)
            ⊢ BI.own (emb₁ (initOf (Pipeline.cells cfgs cellOf_inj) (Pipeline.launchToks cfgs cellOf_inj))) from .rfl)
        iexact Hu
      iapply (show (BI.emp : sProp MM) ⊢ bigSep Finset.univ (fun _ : Dev nD => (BI.emp : sProp MM)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v2_1 (by decide)), h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩), funext fun g => hz g (.inr (no_unscoped g.2))⟩)

variable (m : (ℓ : Loc nD τ sig) → Buf (Elt Ideal) ℓ) (ρ : Dev nD → PrngReg)

theorem v1_at (n : Fin 5632) (k : Fin 1024) : (V1 m ρ c main_v1 : FVec Ideal S5632x1024 .bf16) (ix2 n k) =
    (m ((c : Thread nD τ).loc main_arg1) : FVec Ideal S1024x5632 .f32) (ix2 k n) := by
  change StableHlo.after hostOps0 (W0 m ρ c) (Proc.devRef .tc main_v1) (ix2 n k) = _
  after_results
  pointwise

/-- What the first call computes, of the arguments. -/
def gr (x0 : FVec Ideal S4096x1024 .bf16) (x1 : FVec Ideal S1024x5632 .f32) (r : Fin 4096) (n : Fin 5632) : EReal :=
  ∑ k : Fin 1024, x0 (ix2 r k) * x1 (ix2 k n)
/-- The derivative's rows' products with the second weights'. -/
def dr (x2 : FVec Ideal S2816x1024 .f32) (x3 : FVec Ideal S4096x1024 .f32) (r : Fin 4096) (n : Fin 2816) : EReal :=
  ∑ k : Fin 1024, x3 (ix2 r k) * x2 (ix2 n k)

theorem w4_act : (W4 m ρ c (Proc.devRef .tc main_v2_1)) = actA (V1 m ρ) c :=
  (W4_of m ρ c main_v2_1 (by decide)).trans ((W3_of m ρ c main_v2_1 (by decide)).trans
    ((W2_arr m ρ c 4).trans (final0_4 (V1 m ρ) c)))

theorem w4_du : (W4 m ρ c (Proc.devRef .tc main_v4)) = duA (V3 m ρ) c :=
  (W4_arr m ρ c 3).trans (final1_3 (V3 m ρ) c)

theorem v3_gu : V3 m ρ c main_v2_0 = guA (V1 m ρ) c :=
  (W3_of m ρ c main_v2_0 (by decide)).trans ((W2_arr m ρ c 3).trans (final0_3 (V1 m ρ) c))

theorem v3_x : V3 m ρ c main_arg3 = m ((c : Thread nD τ).loc main_arg3) := W3_args m ρ c main_arg3 (by decide)
theorem v1_x : V1 m ρ c main_arg0 = m ((c : Thread nD τ).loc main_arg0) := W1_args m ρ c main_arg0 (by decide)

theorem v3_w : (V3 m ρ c main_v3 : FVec Ideal S2816x1024 .bf16) = (m ((c : Thread nD τ).loc main_arg2) : FVec Ideal S2816x1024 .f32) := by
  change StableHlo.after hostOps1 _ _ = _
  after_results
  refine Eq.trans ?_ (W2_args m ρ c main_arg2 (by decide))
  rfl

theorem gu_eq (r : Fin 4096) (n : Fin 5632) :
    gu (V1 m ρ) c r n = gr (m ((c : Thread nD τ).loc main_arg0)) (m ((c : Thread nD τ).loc main_arg1)) r n :=
  Finset.sum_congr rfl fun k _ => by rw [v1_at, v1_x]

/-- The two results, of the arguments. -/
theorem final_act (r : Fin 4096) (j : Fin 2816) : (W4 m ρ c (Proc.devRef .tc main_v2_1) : FVec Ideal S4096x2816 .bf16) (ix2 r j) =
    gated (gr (m ((c : Thread nD τ).loc main_arg0)) (m ((c : Thread nD τ).loc main_arg1)) r (col 0 j))
      (gr (m ((c : Thread nD τ).loc main_arg0)) (m ((c : Thread nD τ).loc main_arg1)) r (col 1 j)) := by
  rw [w4_act, ← gu_eq, ← gu_eq]
  rfl

theorem final_du (p : Fin 2) (r : Fin 4096) (j : Fin 2816) :
    (W4 m ρ c (Proc.devRef .tc main_v4) : FVec Ideal S2x4096x2816 .bf16) (ix3 p r j) =
    dgated p (dr (m ((c : Thread nD τ).loc main_arg2)) (m ((c : Thread nD τ).loc main_arg3)) r j)
      (gr (m ((c : Thread nD τ).loc main_arg0)) (m ((c : Thread nD τ).loc main_arg1)) r (col 0 j))
      (gr (m ((c : Thread nD τ).loc main_arg0)) (m ((c : Thread nD τ).loc main_arg1)) r (col 1 j)) := by
  rw [w4_du, ← gu_eq, ← gu_eq]
  change du (V3 m ρ) c p r j = _
  rw [du, v3_gu, v3_x, v3_w]
  rfl
end Kernel

section Pure
open Cert.FfnActBwdRefIdeal Cert.FfnActBwdRefIdeal.Read

theorem g_at (x0 : FVec Ideal S4096x1024 .bf16) (x1 : FVec Ideal S1024x5632 .f32) (r : Fin 4096) (j : Fin 2816) :
    val_main_v2 (F := Ideal) x0 x1 (ix2 r j) = gr x0 x1 r (col 0 j) := by
  pointwise [val_main_v2, val_main_v1, val_main_v0, gr, col]
theorem u_at (x0 : FVec Ideal S4096x1024 .bf16) (x1 : FVec Ideal S1024x5632 .f32) (r : Fin 4096) (j : Fin 2816) :
    val_main_v3 (F := Ideal) x0 x1 (ix2 r j) = gr x0 x1 r (col 1 j) := by
  pointwise [val_main_v3, val_main_v1, val_main_v0, gr, col]
theorem da_at (x2 : FVec Ideal S2816x1024 .f32) (x3 : FVec Ideal S4096x1024 .f32) (r : Fin 4096) (j : Fin 2816) :
    val_main_v9 (F := Ideal) x2 x3 (ix2 r j) = dr x2 x3 r j := by
  pointwise [val_main_v9, dr]

theorem act_at (x0 : FVec Ideal S4096x1024 .bf16) (x1 : FVec Ideal S1024x5632 .f32) (r : Fin 4096) (j : Fin 2816) :
    val_main_v16 (F := Ideal) x0 x1 (ix2 r j) = gated (gr x0 x1 r (col 0 j)) (gr x0 x1 r (col 1 j)) := by
  pointwise [gated, sg, val_main_v16, val_main_v15, val_main_v14, val_main_call2_v5, val_main_call2_v4, val_main_call2_v3,
    val_main_call2_cst_0, val_main_call2_v2, val_main_call2_v1, val_main_call2_v0, val_main_call2_cst, val_main_v2, val_main_v3,
    val_main_v1, val_main_v0, gr, col]
  simp only [zero_sub]

theorem sg_real (g : ℝ) : sg (g : EReal) = (((1 / (1 + Real.exp (-g))) : ℝ) : EReal) := by
  have h : (1 : ℝ) + Real.exp (-g) ≠ 0 := by positivity
  unfold sg
  rw [zero_sub, ← EReal.coe_neg, Ideal.exp_coe, ← EReal.coe_one, ← EReal.coe_add, Lift.div_real h]

/-- The derivative's first half, as the reference's operations give it, of the kernel's. -/
theorem gate_eq (da g u : ℝ) : (da : EReal) * u * sg g + g * (da * u) * (sg g * (1 - sg g)) = dgated 0 da g u := by
  rw [dgated, if_pos rfl, sg_real, ← EReal.coe_one]
  simp only [← EReal.coe_mul, ← EReal.coe_add, ← EReal.coe_sub]
  refine congrArg _ ?_
  ring

theorem v12_at (x0 : FVec Ideal S4096x1024 .bf16) (x1 : FVec Ideal S1024x5632 .f32) (x2 : FVec Ideal S2816x1024 .f32)
    (x3 : FVec Ideal S4096x1024 .f32) (r : Fin 4096) (j : Fin 2816) {da g u : ℝ} (hd : dr x2 x3 r j = da)
    (hg : gr x0 x1 r (col 0 j) = g) (hu : gr x0 x1 r (col 1 j) = u) :
    val_main_v12 (F := Ideal) x0 x1 x2 x3 (ix2 r j) = dgated 0 (dr x2 x3 r j) (gr x0 x1 r (col 0 j)) (gr x0 x1 r (col 1 j)) := by
  pointwise [val_main_v12, val_main_v11, val_main_call1_v0, val_main_call1_v1, val_main_call1_v2, val_main_v6_0, val_main_v6_1,
    val_main_v6_2, val_main_call0_cst, val_main_call0_cst_0, val_main_call0_cst_1, val_main_call0_v0, val_main_call0_v1, val_main_call0_v2, val_main_call0_v3,
    val_main_call0_v4, val_main_call0_v6, val_main_call0_v7]
  have e4 : val_main_v4 (F := Ideal) x0 x1 (ix2 r j) = g := (g_at x0 x1 r j).trans hg
  have e5 : val_main_v5 (F := Ideal) x0 x1 (ix2 r j) = u := (u_at x0 x1 r j).trans hu
  rw [da_at, e4, e5, hd, hg, hu, ← gate_eq]
  simp only [sg, zero_sub]

theorem v10_at (x0 : FVec Ideal S4096x1024 .bf16) (x1 : FVec Ideal S1024x5632 .f32) (x2 : FVec Ideal S2816x1024 .f32)
    (x3 : FVec Ideal S4096x1024 .f32) (r : Fin 4096) (j : Fin 2816) :
    val_main_v10 (F := Ideal) x0 x1 x2 x3 (ix2 r j) = dgated 1 (dr x2 x3 r j) (gr x0 x1 r (col 0 j)) (gr x0 x1 r (col 1 j)) := by
  pointwise [val_main_v10, val_main_v6_0, val_main_v6_1,
    val_main_v6_2, val_main_call0_cst, val_main_call0_cst_0, val_main_call0_cst_1, val_main_call0_v0, val_main_call0_v1, val_main_call0_v2, val_main_call0_v3,
    val_main_call0_v4, val_main_call0_v6, val_main_call0_v7]
  have e4 : val_main_v4 (F := Ideal) x0 x1 (ix2 r j) = gr x0 x1 r (col 0 j) := g_at x0 x1 r j
  rw [da_at, e4, dgated, if_neg one_ne_zero, mul_comm, mul_assoc, sg, zero_sub]

theorem v19_at (x0 : FVec Ideal S4096x1024 .bf16) (x1 : FVec Ideal S1024x5632 .f32) (x2 : FVec Ideal S2816x1024 .f32)
    (x3 : FVec Ideal S4096x1024 .f32) (p : Fin 2) (r : Fin 4096) (j : Fin 2816) {da g u : ℝ} (hd : dr x2 x3 r j = da)
    (hg : gr x0 x1 r (col 0 j) = g) (hu : gr x0 x1 r (col 1 j) = u) :
    val_main_v19 (F := Ideal) x0 x1 x2 x3 (ix3 p r j) =
      dgated p (dr x2 x3 r j) (gr x0 x1 r (col 0 j)) (gr x0 x1 r (col 1 j)) := by
  pointwise [val_main_v19, val_main_v18, val_main_v17, val_main_v13]
  by_cases hp : p = 0
  · subst hp
    rw [dif_pos (by change 0 * 2816 + j.val < 2816; omega)]
    exact (congrArg (fun k => val_main_v12 (F := Ideal) x0 x1 x2 x3 (ix2 r k)) (Fin.ext (by change 0 * 2816 + j.val = j.val; omega))).trans
      (v12_at x0 x1 x2 x3 r j hd hg hu)
  · have h1 : p = 1 := by omega
    subst h1
    rw [dif_neg (by change ¬ 1 * 2816 + j.val < 2816; omega)]
    exact (congrArg (fun k => val_main_v10 (F := Ideal) x0 x1 x2 x3 (ix2 r k)) (Fin.ext (by change 1 * 2816 + j.val - 2816 = j.val; omega))).trans
      (v10_at x0 x1 x2 x3 r j)

/-- A row's product with a real column is real. -/
theorem dot_real {n : ℕ} (a b : Fin n → EReal) {ar br : Fin n → ℝ} (ha : ∀ k, a k = ar k) (hb : ∀ k, b k = br k) :
    ∑ k, a k * b k = ((∑ k, ar k * br k : ℝ) : EReal) := by
  rw [← Lift.coe_sum]
  exact Finset.sum_congr rfl fun k _ => by rw [ha, hb, EReal.coe_mul]
end Pure

/-- The precondition: the rows, both weights and the derivative are finite. -/
theorem pre {x0 : FVec Ideal Pre_ffn_act_bwd_pre.S4096x1024 .bf16} {x1 : FVec Ideal Pre_ffn_act_bwd_pre.S1024x5632 .f32}
    {x2 : FVec Ideal Pre_ffn_act_bwd_pre.S2816x1024 .f32} {x3 : FVec Ideal Pre_ffn_act_bwd_pre.S4096x1024 .f32}
    {x4 : FVec Ideal Pre_ffn_act_bwd_pre.S8x128 .f32}
    (h : Pre_ffn_act_bwd_pre.fn x0 x1 x2 x3 x4 = fun _ => 1#1) :
    (∃ f : Pre_ffn_act_bwd_pre.S4096x1024.Idx → ℝ, x0 = fun i => ((f i : ℝ) : EReal)) ∧
    (∃ f : Pre_ffn_act_bwd_pre.S1024x5632.Idx → ℝ, x1 = fun i => ((f i : ℝ) : EReal)) ∧
    (∃ f : Pre_ffn_act_bwd_pre.S2816x1024.Idx → ℝ, x2 = fun i => ((f i : ℝ) : EReal)) ∧
    ∃ f : Pre_ffn_act_bwd_pre.S4096x1024.Idx → ℝ, x3 = fun i => ((f i : ℝ) : EReal) := by
  have h0 := congrFun h (fun i => i.elim0)
  obtain ⟨h123, h4⟩ := IntOp.andi_eq_one.1 h0
  obtain ⟨h12, h3⟩ := IntOp.andi_eq_one.1 h123
  obtain ⟨h1, h2⟩ := IntOp.andi_eq_one.1 h12
  exact ⟨Lift.all_finite _ _ _ _ _ _ h1, Lift.all_finite _ _ _ _ _ _ h2, Lift.all_finite _ _ _ _ _ _ h3,
    Lift.all_finite _ _ _ _ _ _ h4⟩

section Reference
open Cert.FfnActBwdRefIdeal Cert.FfnActBwdRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v16) = val_main_v16 (F := Ideal) (m ((c.tc : Thread nD τ).loc main_arg0))
        (m ((c.tc : Thread nD τ).loc main_arg1))
      ∧ r.2.mem ((c.tc : Thread nD τ).loc main_v19) = val_main_v19 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => ⟨(h c).1.trans (val_main_v16_eq _ _), (h c).2.1.trans (val_main_v19_eq _ _ _ _),
    (h c).2.2⟩, sem_eq_zero_of_no_sems (by decide) r.2⟩) (Value.run m ρ)
end Reference

theorem frame_ref : Cert.quiescent_FfnActBwdRefIdeal := fun m g _ =>
  (θ_run Cert.FfnActBwdRefIdeal.defs _ _).mono (fun _ h => ⟨fun c => (h.1 c).2.2, h.2⟩) (run_ref m g)

theorem frame_ref_pre : Cert.quiescent_FfnActBwdRefIdeal_pre_ffn_act_bwd_pre := fun m g _ => frame_ref m g trivial

theorem algebraic : Cert.algebraic_FfnActBwdIdeal_FfnActBwdRefIdeal_pre_ffn_act_bwd_pre := by
  intro m g m' g' hpre hagree
  refine ⟨fun c => Cert.FfnActBwdIdeal.Gen.W4 m g c (Proc.devRef .tc Cert.FfnActBwdIdeal.main_v2_1),
    fun c => Cert.FfnActBwdIdeal.Gen.W4 m g c (Proc.devRef .tc Cert.FfnActBwdIdeal.main_v4), ?_, ?_⟩
  · exact (θ_run Cert.FfnActBwdIdeal.defs _ _).mono (fun _ h => h.1) (run m g)
  · refine (θ_run Cert.FfnActBwdRefIdeal.defs _ _).mono (fun r h c => ?_) (run_ref m' g')
    obtain ⟨h0, h1, h2⟩ := h.1 c
    obtain ⟨e0, e1, e2, e3, e4⟩ := hagree c
    obtain ⟨⟨f0, p0⟩, ⟨f1, p1⟩, ⟨f2, p2⟩, ⟨f3, p3⟩⟩ := pre (hpre c)
    refine ⟨h0.trans ?_, h1.trans ?_, h2⟩
    · rw [e0, e1]
      refine funext fun j => ?_
      idx_vars j
      exact (act_at _ _ j0 j1).trans (final_act c m g j0 j1).symm
    · rw [e0, e1, e2, e3]
      refine funext fun j => ?_
      idx_vars j
      have real (n : Fin 5632) := dot_real (fun k => m (c.tc.loc Cert.FfnActBwdIdeal.main_arg0) (ix2 j1 k))
        (fun k => m (c.tc.loc Cert.FfnActBwdIdeal.main_arg1) (ix2 k n)) (fun k => congrFun p0 (ix2 j1 k)) (fun k => congrFun p1 (ix2 k n))
      have realD := dot_real (fun k => m (c.tc.loc Cert.FfnActBwdIdeal.main_arg3) (ix2 j1 k))
        (fun k => m (c.tc.loc Cert.FfnActBwdIdeal.main_arg2) (ix2 j2 k)) (fun k => congrFun p3 (ix2 j1 k)) (fun k => congrFun p2 (ix2 j2 k))
      exact (v19_at _ _ _ _ j0 j1 j2 realD (real _) (real _)).trans (final_du c m g j0 j1 j2).symm

end Cert.FfnAct

end
-- ==== Proof.GmlpMix.lean ====
/-
  The gated mixing of one chunk of 128 rows, as both the forward and the backward call compute it: the GELU of the two
  halves, the layer norm of the second, its product with a head's masked weights.
-/
module

public import proofs.«01_k».proof.Proof.Gen.GmlpFwdIdeal.Skeleton
public import Idealize.ShloMosaic.Lib.Pointwise
public import Idealize.ShloMosaic.Lib.Pipeline.ValueKit
public import Idealize.ShloMosaic.PureOps.Ideal

@[expose] public section

set_option maxRecDepth 16384

noncomputable section

namespace Cert.GmlpMix

open Idealize.ShloMosaic Idealize.ShloMosaic.TcCoe

/-- The GELU of one element, with the rounded `1/√2` both programs hold. -/
def glu (x : EReal) : EReal :=
  x * (Ideal.ofBits .f32 0x3F000000#32 * (1 + Ideal.erf (x * Ideal.ofBits .f32 0x3F3504F3#32)))

/-- The mean of a row of 768. -/
def mean (v : Fin 768 → EReal) : EReal := Ideal.div (∑ k, v k) (Ideal.ofBits .f32 0x44400000#32)

/-- The row less its mean. -/
def cen (v : Fin 768 → EReal) (j : Fin 768) : EReal := v j - mean v

/-- The row's `1/√(variance + ε)`. -/
def rs (v : Fin 768 → EReal) : EReal :=
  Ideal.rsqrt (mean (fun k => cen v k * cen v k) + Ideal.ofBits .f32 0x358637BD#32)

/-- The row normed, of the second half's inputs. -/
def vh (v : Fin 768 → EReal) (j : Fin 768) : EReal := cen (fun k => glu (v k)) j * rs (fun k => glu (v k))

/-- … with the gain and the shift. -/
def vn (v : Fin 768 → EReal) (g b : EReal) (j : Fin 768) : EReal := vh v j * g + b

/-- A weight of a head, zero above the diagonal. -/
def msk (t s : Fin 128) (w : EReal) : EReal := if s ≤ t then w else 0

theorem sel_msk (t s : Fin 128) (w : EReal) :
    Scalar.select (IntOp.cmpi .sge (BitVec.ofNat 32 t.val) (BitVec.ofNat 32 s.val)) w 0 = msk t s w := by
  have h : IntOp.cmpi .sge (BitVec.ofNat 32 t.val) (BitVec.ofNat 32 s.val) = if s ≤ t then 1#1 else 0#1 := by
    revert t s; decide +kernel
  rw [h, msk]
  split <;> rfl

theorem erf_neg (x : EReal) : Ideal.erf (-x) = -Ideal.erf x := by
  induction x using EReal.rec with
  | bot => simp
  | top => simp
  | coe r =>
    rw [← EReal.coe_neg, Ideal.erf_coe, Ideal.erf_coe, ← EReal.coe_neg]
    refine congrArg _ ?_
    rw [← mul_neg]
    refine congrArg _ ?_
    have h := intervalIntegral.integral_comp_neg (a := 0) (b := -r) (fun t : ℝ => Real.exp (-(t ^ 2)))
    simp only [neg_zero, neg_neg, neg_sq, even_two, Even.neg_pow] at h
    rw [h, intervalIntegral.integral_symm]

/-- The reference's spelling of the GELU. -/
theorem glu_ref (x : EReal) : Ideal.ofBits .f32 0x3F000000#32 * x * Ideal.erfc (-x * Ideal.ofBits .f32 0x3F3504F3#32) = glu x := by
  rw [Ideal.erfc, EReal.neg_mul, erf_neg, sub_eq_add_neg, neg_neg, glu]
  rw [mul_comm (Ideal.ofBits .f32 0x3F000000#32) x, mul_assoc]

/-- Column `c` of head `g`. -/
def col (g : Fin 6) (c : Fin 128) : Fin 768 := ⟨g.val * 128 + c.val, by omega⟩

open Cert.GmlpFwdIdeal Cert.GmlpFwdIdeal.Gen

theorem zu_at (u : FVec Ideal S128x768 .f32) (r : Fin 128) (j : Fin 768) : k0_pay6 (F := Ideal) u (ix2 r j) = glu (u (ix2 r j)) := by
  pointwise [k0_pay6, glu]
  try rfl

theorem vn_at (v : FVec Ideal S128x768 .f32) (g b : FVec Ideal S1x768 .f32) (r : Fin 128) (j : Fin 768) :
    k0_pay7 (F := Ideal) v g b (ix2 r j) = vn (fun k => v (ix2 r k)) (g (ix2 0 j)) (b (ix2 0 j)) j := by
  pointwise [k0_pay7, vn, vh, rs, cen, mean, glu]
  try rfl

theorem wm_at (w : FVec Ideal S1x128x128 .f32) (t s : Fin 128) : k0_pay9 (F := Ideal) w (ix2 t s) = msk t s (w (ix3 0 t s)) := by
  rw [← sel_msk]
  pointwise [k0_pay9, k0_pay8]
  try rfl

/-- One head's output of a chunk, whose columns start at `o`. -/
def headT (o : ℕ) (h : S128x768.Slices ![0, o] S128x128) (zu v : FVec Ideal S128x768 .f32) (w : FVec Ideal S128x128 .bf16)
    (b : FVec Ideal S1x128x128 .f32) : FVec Ideal S128x128 .bf16 :=
  truncf .bf16 (mulf (extractStridedSlice S128x128 ![0, o] zu h) (addf
    (matmul dot_S128x128_S128x128_S128x128_1_0_0_1_n_n none w (truncf .bf16 (extractStridedSlice S128x128 ![0, o] v h) bitsLt_bf16_f32)
      (constant S128x128 .f32 0x00000000#32)) (shapeCast S128x128 b shapeCasts_S1x128x128_S128x128))) bitsLt_bf16_f32

/-- One element of the output: of its element of the first half, its chunk's rows of the second, its head's row of the
    weights and its bias. -/
def mix (u : EReal) (v : Fin 128 → Fin 768 → EReal) (g b : EReal) (w : Fin 128 → EReal) (bs : EReal) (t : Fin 128)
    (j : Fin 768) : EReal := glu u * (∑ s, msk t s (w s) * vn (v s) g b j + bs)

theorem head_at (g : Fin 6) (o : ℕ) (ho : o = g.val * 128) (h : S128x768.Slices ![0, o] S128x128) (u v : FVec Ideal S128x768 .f32)
    (lg lb : FVec Ideal S1x768 .f32) (w b : FVec Ideal S1x128x128 .f32) (t c : Fin 128) :
    headT o h (k0_pay6 (F := Ideal) u) (k0_pay7 (F := Ideal) v lg lb) (k0_pay9 (F := Ideal) w) b (ix2 t c) =
      mix (u (ix2 t (col g c))) (fun s k => v (ix2 s k)) (lg (ix2 0 (col g c))) (lb (ix2 0 (col g c)))
        (fun s => w (ix3 0 t s)) (b (ix3 0 t c)) t (col g c) := by
  subst ho
  generalize hz : k0_pay6 (F := Ideal) u = zu
  generalize hv : k0_pay7 (F := Ideal) v lg lb = vv
  generalize hw : k0_pay9 (F := Ideal) w = ww
  have e : headT (g.val * 128) h zu vv ww b (ix2 t c) =
      zu (ix2 t (col g c)) * (∑ s, ww (ix2 t s) * vv (ix2 s (col g c)) + b (ix3 0 t c)) := by
    pointwise [headT, col]
    try rfl
  rw [e, mix]
  subst hz hv hw
  simp only [zu_at, vn_at, wm_at]

end Cert.GmlpMix

end
-- ==== Proof.GmlpGrad.lean ====
/-
  The gradient of the gated mixing at one grid point: two chunks of 128 rows, each adding its part to the gradients of the
  weights, the biases, the gain and the shift.
-/
module

public import proofs.«01_k».proof.Proof.Gen.GmlpBwdIdeal.Frame
public import proofs.«01_k».proof.Proof.GmlpMix
public import Idealize.ShloMosaic.Lib.Pipeline.ValueKit
public import Idealize.ShloMosaic.Lib.Pipeline.ReadBack

@[expose] public section

set_option maxRecDepth 16384

noncomputable section

namespace Cert.GmlpGrad

open Idealize.ShloMosaic Idealize.ShloMosaic.TcCoe Idealize.SL.Sem Cert.GmlpMix

/-! ## A chunk's parts, of the rows' values -/

/-- The cotangent of the mixed rows. -/
def DU (ct u : Fin 128 → Fin 768 → EReal) (t : Fin 128) (j : Fin 768) : EReal := ct t j * glu (u t j)

/-- A chunk's part of the weights' gradient. -/
def DW (ct u v : Fin 128 → Fin 768 → EReal) (lg lb : Fin 768 → EReal) (g : Fin 6) (t s : Fin 128) : EReal :=
  msk t s (∑ k, DU ct u t (col g k) * vn (v s) (lg (col g k)) (lb (col g k)) (col g k))

/-- … of the biases'. -/
def DB (ct u : Fin 128 → Fin 768 → EReal) (g : Fin 6) (t : Fin 128) : EReal := ∑ k, DU ct u t (col g k)

/-- The cotangent of a normed row's element. -/
def DV (ct u : Fin 128 → Fin 768 → EReal) (w : Fin 6 → Fin 128 → Fin 128 → EReal) (s : Fin 128) (j : Fin 768) : EReal :=
  ∑ t, msk t s (w ⟨j.val / 128, by omega⟩ t s) * DU ct u t j

open Cert.GmlpBwdIdeal Cert.GmlpBwdIdeal.Gen

/-! ## The same, of the point's blocks -/

abbrev B128 := FVec Ideal S128x768 .f32

/-- A head's cotangent, whose columns start at `o`. -/
def dsT (o : ℕ) (h : S128x768.Slices ![0, o] S128x128) (ct zu : B128) : FVec Ideal S128x128 .f32 :=
  mulf (extractStridedSlice S128x128 ![0, o] ct h) (extractStridedSlice S128x128 ![0, o] zu h)

/-- A head's weights' gradient, added to what was there. -/
def dwT (o : ℕ) (h : S128x768.Slices ![0, o] S128x128) (ct zu vv : B128) (acc : FVec Ideal S1x128x128 .f32) : FVec Ideal S1x128x128 .f32 :=
  shapeCast S1x128x128 (addf (shapeCast S128x128 acc shapeCasts_S1x128x128_S128x128)
    (select k0_pay18 (matmul dot_S128x128_S128x128_S128x128_1_1_0_0_n_n none (truncf .bf16 (dsT o h ct zu) bitsLt_bf16_f32)
      (truncf .bf16 (extractStridedSlice S128x128 ![0, o] vv h) bitsLt_bf16_f32) (constant S128x128 .f32 0x00000000#32))
      (broadcast S128x128 (Scalar.ofBits .f32 0x00000000#32)))) shapeCasts_S128x128_S1x128x128

/-- A head's columns of the normed rows' cotangent. -/
def dvT (o : ℕ) (h : S128x768.Slices ![0, o] S128x128) (w : FVec Ideal S1x128x128 .f32) (ct zu : B128) : FVec Ideal S128x128 .f32 :=
  matmul dot_S128x128_S128x128_S128x128_0_0_1_1_n_n none (k0_pay19 (F := Ideal) w) (truncf .bf16 (dsT o h ct zu) bitsLt_bf16_f32)
    (constant S128x128 .f32 0x00000000#32)

/-- All six. -/
def dvA (w0 w1 w2 w3 w4 w5 : FVec Ideal S1x128x128 .f32) (ct zu : B128) : B128 :=
  concatenate S128x768 1 [⟨S128x128, dvT 0 slices_S128x768_o0_0_S128x128 w0 ct zu⟩,
    ⟨S128x128, dvT 128 slices_S128x768_o0_128_S128x128 w1 ct zu⟩, ⟨S128x128, dvT 256 slices_S128x768_o0_256_S128x128 w2 ct zu⟩,
    ⟨S128x128, dvT 384 slices_S128x768_o0_384_S128x128 w3 ct zu⟩, ⟨S128x128, dvT 512 slices_S128x768_o0_512_S128x128 w4 ct zu⟩,
    ⟨S128x128, dvT 640 slices_S128x768_o0_640_S128x128 w5 ct zu⟩] concatenates_S128x128_S128x128_S128x128_S128x128_S128x128_S128x128_S128x768_d1

abbrev vhK (v : B128) : B128 := k0_pay16 (F := Ideal) (k0_pay10 (F := Ideal) v) (k0_pay12 (F := Ideal) v) (k0_pay13 (F := Ideal))
abbrev vnK (v : B128) (lg lb : FVec Ideal S1x768 .f32) : B128 :=
  k0_pay17 (F := Ideal) (k0_pay10 (F := Ideal) v) (k0_pay12 (F := Ideal) v) (k0_pay13 (F := Ideal)) lg lb

theorem zu_at (u : B128) (r : Fin 128) (j : Fin 768) : k0_pay7 (F := Ideal) u (ix2 r j) = glu (u (ix2 r j)) := by
  pointwise [k0_pay7, k0_pay6, glu]
  try rfl

theorem vh_at (v : B128) (r : Fin 128) (j : Fin 768) : vhK v (ix2 r j) = vh (fun k => v (ix2 r k)) j := by
  pointwise [k0_pay16, k0_pay15, k0_pay14, k0_pay13, k0_pay12, k0_pay10, k0_pay9, vh, rs, cen, mean, glu]
  try rfl

theorem vn_at (v : B128) (lg lb : FVec Ideal S1x768 .f32) (r : Fin 128) (j : Fin 768) :
    vnK v lg lb (ix2 r j) = vn (fun k => v (ix2 r k)) (lg (ix2 0 j)) (lb (ix2 0 j)) j := by
  rw [vn, ← vh_at]
  pointwise [k0_pay17]
  try rfl

theorem wm_at (w : FVec Ideal S1x128x128 .f32) (t s : Fin 128) : k0_pay19 (F := Ideal) w (ix2 t s) = msk t s (w (ix3 0 t s)) := by
  rw [← sel_msk]
  pointwise [k0_pay19, k0_pay18]
  try rfl

variable (ct u v : B128) (lg lb : FVec Ideal S1x768 .f32)

theorem ds_at (g : Fin 6) (o : ℕ) (ho : o = g.val * 128) (h) (t k : Fin 128) : dsT o h ct (k0_pay7 (F := Ideal) u) (ix2 t k) =
    DU (fun t j => ct (ix2 t j)) (fun t j => u (ix2 t j)) t (col g k) := by
  subst ho
  unfold DU
  rw [← zu_at]
  generalize k0_pay7 (F := Ideal) u = zu
  pointwise [dsT]
  try rfl

theorem dw_at (g : Fin 6) (o : ℕ) (ho : o = g.val * 128) (h) (acc : FVec Ideal S1x128x128 .f32) (t s : Fin 128) :
    dwT o h ct (k0_pay7 (F := Ideal) u) (vnK v lg lb) acc (ix3 0 t s) = acc (ix3 0 t s) +
      DW (fun t j => ct (ix2 t j)) (fun t j => u (ix2 t j)) (fun t j => v (ix2 t j)) (fun j => lg (ix2 0 j)) (fun j => lb (ix2 0 j))
        g t s := by
  subst ho
  unfold DW
  simp only [← ds_at ct u g _ rfl h, ← vn_at]
  unfold dwT
  generalize dsT _ h ct (k0_pay7 (F := Ideal) u) = d
  generalize vnK v lg lb = vv
  rw [← sel_msk]
  pointwise [k0_pay18]
  try rfl

theorem db_at (g : Fin 6) (o : ℕ) (ho : o = g.val * 128) (h) (acc : FVec Ideal S1x128x1 .f32) (t : Fin 128) :
    k0_pay41 (F := Ideal) (dsT o h ct (k0_pay7 (F := Ideal) u)) acc (ix3 0 t 0) = acc (ix3 0 t 0) +
      DB (fun t j => ct (ix2 t j)) (fun t j => u (ix2 t j)) g t := by
  unfold DB
  simp only [← ds_at ct u g o ho h]
  generalize dsT _ h ct (k0_pay7 (F := Ideal) u) = d
  pointwise [k0_pay41]

theorem dv_at (g : Fin 6) (o : ℕ) (ho : o = g.val * 128) (h) (w : FVec Ideal S1x128x128 .f32) (s k : Fin 128) :
    dvT o h w ct (k0_pay7 (F := Ideal) u) (ix2 s k) = ∑ t, msk t s (w (ix3 0 t s)) *
      DU (fun t j => ct (ix2 t j)) (fun t j => u (ix2 t j)) t (col g k) := by
  simp only [← ds_at ct u g o ho h, ← wm_at]
  unfold dvT
  generalize dsT _ h ct (k0_pay7 (F := Ideal) u) = d
  generalize k0_pay19 (F := Ideal) w = ww
  pointwise

theorem dvA_at (w : Fin 6 → FVec Ideal S1x128x128 .f32) (s : Fin 128) (j : Fin 768) :
    dvA (w 0) (w 1) (w 2) (w 3) (w 4) (w 5) ct (k0_pay7 (F := Ideal) u) (ix2 s j) =
      DV (fun t j => ct (ix2 t j)) (fun t j => u (ix2 t j)) (fun g t s => w g (ix3 0 t s)) s j := by
  obtain ⟨g, k, hj⟩ : ∃ (g : Fin 6) (k : Fin 128), j = col g k :=
    ⟨⟨j.val / 128, by omega⟩, ⟨j.val % 128, by omega⟩, Fin.ext (by change j.val = j.val / 128 * 128 + j.val % 128; omega)⟩
  subst hj
  have a1 : (⟨(col g k).val / 128, by omega⟩ : Fin 6) = g := Fin.ext (by change (g.val * 128 + k.val) / 128 = g.val; omega)
  unfold DV
  rw [a1]
  unfold dvA
  fin_cases g
  · refine Eq.trans ?_ (dv_at ct u 0 0 rfl slices_S128x768_o0_0_S128x128 (w 0) s k)
    pointwise
    have e : (col 0 k).val = 0 + k.val := by change 0 * 128 + k.val = _; omega
    rw [dif_pos (by omega)]
    exact congrArg _ (congrArg (ix2 s) (Fin.ext (by simp only []; omega)))
  · refine Eq.trans ?_ (dv_at ct u 1 128 rfl slices_S128x768_o0_128_S128x128 (w 1) s k)
    pointwise
    have e : (col 1 k).val = 128 + k.val := rfl
    rw [dif_neg (by omega), dif_pos (by omega)]
    exact congrArg _ (congrArg (ix2 s) (Fin.ext (by simp only []; omega)))
  · refine Eq.trans ?_ (dv_at ct u 2 256 rfl slices_S128x768_o0_256_S128x128 (w 2) s k)
    pointwise
    have e : (col 2 k).val = 256 + k.val := rfl
    rw [dif_neg (by omega), dif_neg (by omega), dif_pos (by omega)]
    exact congrArg _ (congrArg (ix2 s) (Fin.ext (by simp only []; omega)))
  · refine Eq.trans ?_ (dv_at ct u 3 384 rfl slices_S128x768_o0_384_S128x128 (w 3) s k)
    pointwise
    have e : (col 3 k).val = 384 + k.val := rfl
    rw [dif_neg (by omega), dif_neg (by omega), dif_neg (by omega), dif_pos (by omega)]
    exact congrArg _ (congrArg (ix2 s) (Fin.ext (by simp only []; omega)))
  · refine Eq.trans ?_ (dv_at ct u 4 512 rfl slices_S128x768_o0_512_S128x128 (w 4) s k)
    pointwise
    have e : (col 4 k).val = 512 + k.val := rfl
    rw [dif_neg (by omega), dif_neg (by omega), dif_neg (by omega), dif_neg (by omega), dif_pos (by omega)]
    exact congrArg _ (congrArg (ix2 s) (Fin.ext (by simp only []; omega)))
  · refine Eq.trans ?_ (dv_at ct u 5 640 rfl slices_S128x768_o0_640_S128x128 (w 5) s k)
    pointwise
    have e : (col 5 k).val = 640 + k.val := rfl
    rw [dif_neg (by omega), dif_neg (by omega), dif_neg (by omega), dif_neg (by omega), dif_neg (by omega)]
    exact congrArg _ (congrArg (ix2 s) (Fin.ext (by simp only []; omega)))

/-! ## The point's two chunks -/

/-- Chunk `r`'s rows of a block. -/
def ldr (u : FVec Ideal S256x768 .f32) (R : ℕ) (h : ∀ a, (![R, 0] : Fin 2 → ℕ) a + S128x768.size a ≤ S256x768.size a) :
    B128 := View.ld (Val := Elt Ideal) (e' := (.f32 : EltTy)) u (Rect.unit (s := S256x768) ![R, 0] S128x768.size h)
/-- Head `g`'s matrix of the six. -/
def ldh (w : FVec Ideal S6x128x128 .f32) (g : ℕ) (h : ∀ a, (![g, 0, 0] : Fin 3 → ℕ) a + S1x128x128.size a ≤ S6x128x128.size a) :
    FVec Ideal S1x128x128 .f32 := View.ld (Val := Elt Ideal) (e' := (.f32 : EltTy)) w (Rect.unit (s := S6x128x128) ![g, 0, 0] S1x128x128.size h)
/-- Head `g`'s column of the six. -/
def ldc (w : FVec Ideal S6x128x1 .f32) (g : ℕ) (h : ∀ a, (![g, 0, 0] : Fin 3 → ℕ) a + S1x128x1.size a ≤ S6x128x1.size a) :
    FVec Ideal S1x128x1 .f32 := View.ld (Val := Elt Ideal) (e' := (.f32 : EltTy)) w (Rect.unit (s := S6x128x1) ![g, 0, 0] S1x128x1.size h)

/-- Row `t` of chunk `r`. -/
def row (r : Fin 2) (t : Fin 128) : Fin 256 := ⟨r.val * 128 + t.val, by omega⟩

theorem ldr_at (u : FVec Ideal S256x768 .f32) (r : Fin 2) (R : ℕ) (hR : R = r.val * 128) (h) (s : Fin 128) (j : Fin 768) :
    ldr u R h (ix2 s j) = u (ix2 (row r s) j) := by
  subst hR
  refine congrArg u (funext fun a => Fin.ext ((Rect.idx_unit_val _ _ _ _ a).trans ?_))
  fin_cases a
  · rfl
  · exact Nat.zero_add _
theorem ldh_at (w : FVec Ideal S6x128x128 .f32) (g : Fin 6) (h) (s j : Fin 128) :
    ldh w g.val h (ix3 0 s j) = w (ix3 g s j) := by
  refine congrArg w (funext fun a => Fin.ext ((Rect.idx_unit_val _ _ _ _ a).trans ?_))
  fin_cases a
  · rfl
  · exact Nat.zero_add _
  · exact Nat.zero_add _
theorem ldc_at (w : FVec Ideal S6x128x1 .f32) (g : Fin 6) (h) (s : Fin 128) :
    ldc w g.val h (ix3 0 s 0) = w (ix3 g s 0) := by
  refine congrArg w (funext fun a => Fin.ext ((Rect.idx_unit_val _ _ _ _ a).trans ?_))
  fin_cases a
  · rfl
  · exact Nat.zero_add _
  · exact Nat.zero_add _

/-- Chunk `r` of a block, by row and column. -/
def ck (u : FVec Ideal S256x768 .f32) (r : Fin 2) (t : Fin 128) (j : Fin 768) : EReal := u (ix2 (row r t) j)

section Next
variable (u v ct : FVec Ideal S256x768 .f32) (lg lb : FVec Ideal S1x768 .f32) (w : FVec Ideal S6x128x128 .f32)

/-- A chunk's part of the weights' gradient, … -/
def pW (r : Fin 2) : Fin 6 → Fin 128 → Fin 128 → EReal :=
  DW (ck ct r) (ck u r) (ck v r) (fun j => lg (ix2 0 j)) (fun j => lb (ix2 0 j))
/-- … the biases', … -/
def pB (r : Fin 2) : Fin 6 → Fin 128 → EReal := DB (ck ct r) (ck u r)
/-- … the normed rows' cotangent. -/
def pV (r : Fin 2) : Fin 128 → Fin 768 → EReal := DV (ck ct r) (ck u r) (fun g t s => w (ix3 g t s))

/-- What the point leaves of the weights' gradient, … -/
def nW (z : FVec Ideal S6x128x128 .f32) : FVec Ideal S6x128x128 .f32 := fun i =>
  z i + pW u v ct lg lb 0 (i 0) (i 1) (i 2) + pW u v ct lg lb 1 (i 0) (i 1) (i 2)
/-- … the biases', … -/
def nB (z : FVec Ideal S6x128x1 .f32) : FVec Ideal S6x128x1 .f32 := fun i => z i + pB u ct 0 (i 0) (i 1) + pB u ct 1 (i 0) (i 1)
/-- … the gain's … -/
def nG (z : FVec Ideal S1x768 .f32) : FVec Ideal S1x768 .f32 := fun i =>
  z i + (∑ s, pV u ct w 0 s (i 1) * vh (ck v 0 s) (i 1)) + ∑ s, pV u ct w 1 s (i 1) * vh (ck v 1 s) (i 1)
/-- … and the shift's. -/
def nL (z : FVec Ideal S1x768 .f32) : FVec Ideal S1x768 .f32 := fun i =>
  z i + (∑ s, pV u ct w 0 s (i 1)) + ∑ s, pV u ct w 1 s (i 1)

theorem pieceW (g : Fin 6) (o G : ℕ) (ho : o = g.val * 128) (hG : G = g.val) (h) (h0) (h1) (hz) (z : FVec Ideal S6x128x128 .f32)
    (x : S1x128x128.Idx) (y : S6x128x128.Idx) (e0 : (y 0).val = G + (x 0).val) (e1 : (y 1).val = 0 + (x 1).val)
    (e2 : (y 2).val = 0 + (x 2).val) :
    dwT o h (ldr ct 128 h1) (k0_pay7 (F := Ideal) (ldr u 128 h1)) (vnK (ldr v 128 h1) lg lb)
      (dwT o h (ldr ct 0 h0) (k0_pay7 (F := Ideal) (ldr u 0 h0)) (vnK (ldr v 0 h0) lg lb) (ldh z G hz)) x =
      nW u v ct lg lb z y := by
  subst hG
  idx_vars x
  idx_vars y
  have a0 : y0 = g := Fin.ext (e0.trans (by have := x0.isLt; change g.val + x0.val = _; omega))
  have a1 : y1 = x1 := Fin.ext (e1.trans (Nat.zero_add _))
  have a2 : y2 = x2 := Fin.ext (e2.trans (Nat.zero_add _))
  have a3 : x0 = 0 := Fin.ext (by have := x0.isLt; omega)
  rw [a0, a1, a2, a3, dw_at _ _ _ _ _ g o ho, dw_at _ _ _ _ _ g o ho, ldh_at]
  simp only [ldr_at _ 0 0 rfl, ldr_at _ 1 128 rfl]
  rfl

theorem pieceB (g : Fin 6) (o G : ℕ) (ho : o = g.val * 128) (hG : G = g.val) (h) (h0) (h1) (hz) (z : FVec Ideal S6x128x1 .f32)
    (x : S1x128x1.Idx) (y : S6x128x1.Idx) (e0 : (y 0).val = G + (x 0).val) (e1 : (y 1).val = 0 + (x 1).val) :
    k0_pay41 (F := Ideal) (dsT o h (ldr ct 128 h1) (k0_pay7 (F := Ideal) (ldr u 128 h1)))
      (k0_pay41 (F := Ideal) (dsT o h (ldr ct 0 h0) (k0_pay7 (F := Ideal) (ldr u 0 h0))) (ldc z G hz)) x = nB u ct z y := by
  subst hG
  idx_vars x
  idx_vars y
  have a0 : y0 = g := Fin.ext (e0.trans (by have := x0.isLt; change g.val + x0.val = _; omega))
  have a1 : y1 = x1 := Fin.ext (e1.trans (Nat.zero_add _))
  have a2 : x2 = 0 := Fin.ext (by have := x2.isLt; omega)
  have a4 : y2 = 0 := Fin.ext (by have := y2.isLt; omega)
  have a3 : x0 = 0 := Fin.ext (by have := x0.isLt; omega)
  rw [a0, a1, a2, a3, a4, db_at _ _ g o ho, db_at _ _ g o ho, ldc_at]
  simp only [ldr_at _ 0 0 rfl, ldr_at _ 1 128 rfl]
  rfl

/-- A chunk's sum over its rows, added to what was there. -/
def sumT (d : B128) (acc : FVec Ideal S1x768 .f32) : FVec Ideal S1x768 .f32 :=
  addf (shapeCast S1x768 acc shapeCasts_S1x768_S1x768)
    (shapeCast S1x768 (multiReduction .add [0] S768 d 0x00000000#32 reduces_S128x768_S768 (.inl rfl) rfl) shapeCasts_S768_S1x768)

theorem sum_at (d : B128) (acc : FVec Ideal S1x768 .f32) (j : Fin 768) :
    sumT d acc (ix2 0 j) = acc (ix2 0 j) + ∑ s, d (ix2 s j) := by
  pointwise [sumT]

/-- A chunk's normed rows' cotangent, of the block. -/
def dvK (R : ℕ) (h : ∀ a, (![R, 0] : Fin 2 → ℕ) a + S128x768.size a ≤ S256x768.size a) : B128 :=
  dvA (ldh w 0 inb_S6x128x128_S1x128x128_0_0_0) (ldh w 1 inb_S6x128x128_S1x128x128_1_0_0) (ldh w 2 inb_S6x128x128_S1x128x128_2_0_0)
    (ldh w 3 inb_S6x128x128_S1x128x128_3_0_0) (ldh w 4 inb_S6x128x128_S1x128x128_4_0_0) (ldh w 5 inb_S6x128x128_S1x128x128_5_0_0)
    (ldr ct R h) (k0_pay7 (F := Ideal) (ldr u R h))

theorem dvK_at (r : Fin 2) (R : ℕ) (hR : R = r.val * 128) (h) (s : Fin 128) (j : Fin 768) :
    dvK u ct w R h (ix2 s j) = pV u ct w r s j := by
  have inb : ∀ g : Fin 6, ∀ a, (![g.val, 0, 0] : Fin 3 → ℕ) a + S1x128x128.size a ≤ S6x128x128.size a := by decide
  refine (dvA_at (ldr ct R h) (ldr u R h) (fun g => ldh w g.val (inb g)) s j).trans ?_
  simp only [ldr_at _ r R hR, ldh_at]
  rfl

theorem blockG (z : FVec Ideal S1x768 .f32) (h0) (h1) :
    sumT (mulf (dvK u ct w 128 h1) (vhK (ldr v 128 h1))) (sumT (mulf (dvK u ct w 0 h0) (vhK (ldr v 0 h0))) z) = nG u v ct w z := by
  funext i
  idx_vars i
  have a : i0 = 0 := Fin.ext (by have := i0.isLt; omega)
  rw [a, sum_at, sum_at]
  simp only [mulf, vh_at, dvK_at _ _ _ 0 0 rfl, dvK_at _ _ _ 1 128 rfl, ldr_at _ 0 0 rfl, ldr_at _ 1 128 rfl]
  rfl

theorem blockL (z : FVec Ideal S1x768 .f32) (h0) (h1) :
    sumT (dvK u ct w 128 h1) (sumT (dvK u ct w 0 h0) z) = nL u ct w z := by
  funext i
  idx_vars i
  have a : i0 = 0 := Fin.ext (by have := i0.isLt; omega)
  rw [a, sum_at, sum_at]
  simp only [dvK_at _ _ _ 0 0 rfl, dvK_at _ _ _ 1 128 rfl]
  rfl
end Next

end Cert.GmlpGrad

end
-- ==== Proof.GmlpPt.lean ====
/-
  The sums of the gated mixing's gradient after a grid point: every point adds its two chunks' parts to the four running
  sums, and the first point starts them at zero.
-/
module

public import proofs.«01_k».proof.Proof.GmlpGrad

@[expose] public section

set_option maxRecDepth 16384

noncomputable section

namespace Cert.GmlpPt

open Idealize.ShloMosaic Idealize.ShloMosaic.TcCoe Idealize.SL.Sem Cert.GmlpMix Cert.GmlpGrad
open Cert.GmlpBwdIdeal Cert.GmlpBwdIdeal.Gen

/-- Six pieces that are blocks of `G`, before anything. -/
theorem canon6 {s : Shape} {e : EltTy} {Val : EltTy → Type} [∀ e, Nonempty (Val e)] (G : s.Idx → Val e)
    (p1 p2 p3 p4 p5 p6 : View.Piece Val s e) (L : List (View.Piece Val s e)) (h : View.PiecesOf G [p1, p2, p3, p4, p5, p6]) (y : s.Idx)
    (hc : ∃ p ∈ [p1, p2, p3, p4, p5, p6], y ∈ p.1.set) : View.canon (p1 :: p2 :: p3 :: p4 :: p5 :: p6 :: L) y = G y :=
  View.canon_append_of_piecesOf G L [p1, p2, p3, p4, p5, p6] h y hc

variable (m : (ℓ : Loc nD τ sig) → Buf (Elt Ideal) ℓ) (c : Dev nD) (t : Fin cfg0.N)

theorem u_ty : ∃ u : FVec Ideal S256x768 .f32, X0_0 m c t = u := ⟨_, rfl⟩
theorem v_ty : ∃ u : FVec Ideal S256x768 .f32, X0_1 m c t = u := ⟨_, rfl⟩
theorem lg_ty : ∃ u : FVec Ideal S1x768 .f32, iblk m c 2 t = u := ⟨_, rfl⟩
theorem lb_ty : ∃ u : FVec Ideal S1x768 .f32, iblk m c 3 t = u := ⟨_, rfl⟩
theorem w_ty : ∃ u : FVec Ideal S6x128x128 .f32, iblk m c 4 t = u := ⟨_, rfl⟩
theorem ct_ty : ∃ u : FVec Ideal S256x768 .f32, X0_6 m c t = u := ⟨_, rfl⟩

theorem lB (h0 : ¬t.val % 16 = 0) : (outsAt0 m c t.val t.isLt).2.2.2.2 =
    nL (X0_0 m c t) (X0_6 m c t) (iblk m c 4 t) (outsAt0 m c (t.val - 1) (Nat.lt_of_le_of_lt (Nat.sub_le _ _) t.isLt)).2.2.2.2 := by
  rw [outsAt0_B m c t h0]
  frame_out
  obtain ⟨z, hz⟩ : ∃ z : FVec Ideal S1x768 .f32, (outsAt0 m c (t.val - 1) (Nat.lt_of_le_of_lt (Nat.sub_le _ _) t.isLt)).2.2.2.2 = z := ⟨_, rfl⟩
  rw [hz]
  obtain ⟨u, hu⟩ := u_ty m c t
  obtain ⟨ct, hct⟩ := ct_ty m c t
  obtain ⟨w, hw⟩ := w_ty m c t
  rw [hu, hct, hw]
  exact Eq.trans (by rfl) (blockL u ct w z inb_S256x768_S128x768_0_0 inb_S256x768_S128x768_128_0)

theorem lA (h0 : t.val % 16 = 0) : (outsAt0 m c t.val t.isLt).2.2.2.2 = nL (X0_0 m c t) (X0_6 m c t) (iblk m c 4 t) (fun _ => 0) := by
  rw [outsAt0_A m c t h0]
  frame_out
  obtain ⟨z, hz⟩ : ∃ z : FVec Ideal S1x768 .f32, k0_pay5 (F := Ideal) = z := ⟨_, rfl⟩
  have e : (fun _ => 0 : FVec Ideal S1x768 .f32) = z := by
    rw [← hz]
    funext i
    pointwise [k0_pay5]
  rw [e]
  obtain ⟨u, hu⟩ := u_ty m c t
  obtain ⟨ct, hct⟩ := ct_ty m c t
  obtain ⟨w, hw⟩ := w_ty m c t
  rw [hu, hct, hw]
  try rw [hz]
  exact Eq.trans (by rfl) (blockL u ct w z inb_S256x768_S128x768_0_0 inb_S256x768_S128x768_128_0)

theorem gB (h0 : ¬t.val % 16 = 0) : (outsAt0 m c t.val t.isLt).2.2.2.1 =
    nG (X0_0 m c t) (X0_1 m c t) (X0_6 m c t) (iblk m c 4 t) (outsAt0 m c (t.val - 1) (Nat.lt_of_le_of_lt (Nat.sub_le _ _) t.isLt)).2.2.2.1 := by
  rw [outsAt0_B m c t h0]
  frame_out
  obtain ⟨z, hz⟩ : ∃ z : FVec Ideal S1x768 .f32, (outsAt0 m c (t.val - 1) (Nat.lt_of_le_of_lt (Nat.sub_le _ _) t.isLt)).2.2.2.1 = z := ⟨_, rfl⟩
  rw [hz]
  obtain ⟨u, hu⟩ := u_ty m c t
  obtain ⟨ct, hct⟩ := ct_ty m c t
  obtain ⟨v, hv⟩ := v_ty m c t
  obtain ⟨w, hw⟩ := w_ty m c t
  rw [hu, hct, hv, hw]
  exact Eq.trans (by rfl) (blockG u v ct w z inb_S256x768_S128x768_0_0 inb_S256x768_S128x768_128_0)

theorem gA (h0 : t.val % 16 = 0) : (outsAt0 m c t.val t.isLt).2.2.2.1 = nG (X0_0 m c t) (X0_1 m c t) (X0_6 m c t) (iblk m c 4 t) (fun _ => 0) := by
  rw [outsAt0_A m c t h0]
  frame_out
  obtain ⟨z, hz⟩ : ∃ z : FVec Ideal S1x768 .f32, k0_pay4 (F := Ideal) = z := ⟨_, rfl⟩
  have e : (fun _ => 0 : FVec Ideal S1x768 .f32) = z := by
    rw [← hz]
    funext i
    pointwise [k0_pay4]
  rw [e]
  obtain ⟨u, hu⟩ := u_ty m c t
  obtain ⟨ct, hct⟩ := ct_ty m c t
  obtain ⟨v, hv⟩ := v_ty m c t
  obtain ⟨w, hw⟩ := w_ty m c t
  rw [hu, hct, hv, hw]
  try rw [hz]
  exact Eq.trans (by rfl) (blockG u v ct w z inb_S256x768_S128x768_0_0 inb_S256x768_S128x768_128_0)

theorem bB (h0 : ¬t.val % 16 = 0) : (outsAt0 m c t.val t.isLt).2.2.1 =
    nB (X0_0 m c t) (X0_6 m c t) (outsAt0 m c (t.val - 1) (Nat.lt_of_le_of_lt (Nat.sub_le _ _) t.isLt)).2.2.1 := by
  rw [outsAt0_B m c t h0]
  frame_out
  obtain ⟨z, hz⟩ : ∃ z : FVec Ideal S6x128x1 .f32, (outsAt0 m c (t.val - 1) (Nat.lt_of_le_of_lt (Nat.sub_le _ _) t.isLt)).2.2.1 = z := ⟨_, rfl⟩
  rw [hz]
  obtain ⟨u, hu⟩ := u_ty m c t
  obtain ⟨ct, hct⟩ := ct_ty m c t
  rw [hu, hct]
  refine funext fun y => canon6 _ _ _ _ _ _ _ _ ⟨fun x => ?_, fun x => ?_, fun x => ?_, fun x => ?_, fun x => ?_, fun x => ?_, trivial⟩ y
    (View.cover_of_tiledBy _ ![1, 128, 1] (by sl_kernel_rfl) y)
  · simp +decide only [↓View.readCov_skip, View.readCov_cons_toLoadRect]
    exact Eq.trans (congrFun (by rfl) x) (pieceB u ct 5 640 5 rfl rfl slices_S128x768_o0_640_S128x128 inb_S256x768_S128x768_0_0 inb_S256x768_S128x768_128_0
      inb_S6x128x1_S1x128x1_5_0_0 z x _ (Rect.idx_unit_val _ _ _ _ 0) (Rect.idx_unit_val _ _ _ _ 1))
  · simp +decide only [↓View.readCov_skip, View.readCov_cons_toLoadRect]
    exact Eq.trans (congrFun (by rfl) x) (pieceB u ct 4 512 4 rfl rfl slices_S128x768_o0_512_S128x128 inb_S256x768_S128x768_0_0 inb_S256x768_S128x768_128_0
      inb_S6x128x1_S1x128x1_4_0_0 z x _ (Rect.idx_unit_val _ _ _ _ 0) (Rect.idx_unit_val _ _ _ _ 1))
  · simp +decide only [↓View.readCov_skip, View.readCov_cons_toLoadRect]
    exact Eq.trans (congrFun (by rfl) x) (pieceB u ct 3 384 3 rfl rfl slices_S128x768_o0_384_S128x128 inb_S256x768_S128x768_0_0 inb_S256x768_S128x768_128_0
      inb_S6x128x1_S1x128x1_3_0_0 z x _ (Rect.idx_unit_val _ _ _ _ 0) (Rect.idx_unit_val _ _ _ _ 1))
  · simp +decide only [↓View.readCov_skip, View.readCov_cons_toLoadRect]
    exact Eq.trans (congrFun (by rfl) x) (pieceB u ct 2 256 2 rfl rfl slices_S128x768_o0_256_S128x128 inb_S256x768_S128x768_0_0 inb_S256x768_S128x768_128_0
      inb_S6x128x1_S1x128x1_2_0_0 z x _ (Rect.idx_unit_val _ _ _ _ 0) (Rect.idx_unit_val _ _ _ _ 1))
  · simp +decide only [↓View.readCov_skip, View.readCov_cons_toLoadRect]
    exact Eq.trans (congrFun (by rfl) x) (pieceB u ct 1 128 1 rfl rfl slices_S128x768_o0_128_S128x128 inb_S256x768_S128x768_0_0 inb_S256x768_S128x768_128_0
      inb_S6x128x1_S1x128x1_1_0_0 z x _ (Rect.idx_unit_val _ _ _ _ 0) (Rect.idx_unit_val _ _ _ _ 1))
  · simp +decide only [↓View.readCov_skip, View.readCov_cons_toLoadRect]
    exact Eq.trans (congrFun (by rfl) x) (pieceB u ct 0 0 0 rfl rfl slices_S128x768_o0_0_S128x128 inb_S256x768_S128x768_0_0 inb_S256x768_S128x768_128_0
      inb_S6x128x1_S1x128x1_0_0_0 z x _ (Rect.idx_unit_val _ _ _ _ 0) (Rect.idx_unit_val _ _ _ _ 1))

set_option maxHeartbeats 4000000 in
theorem bA (h0 : t.val % 16 = 0) : (outsAt0 m c t.val t.isLt).2.2.1 = nB (X0_0 m c t) (X0_6 m c t) (fun _ => 0) := by
  rw [outsAt0_A m c t h0]
  frame_out
  obtain ⟨z, hz⟩ : ∃ z : FVec Ideal S6x128x1 .f32, k0_pay3 (F := Ideal) = z := ⟨_, rfl⟩
  have e : (fun _ => 0 : FVec Ideal S6x128x1 .f32) = z := by
    rw [← hz]
    funext i
    pointwise [k0_pay3]
  rw [e]
  obtain ⟨u, hu⟩ := u_ty m c t
  obtain ⟨ct, hct⟩ := ct_ty m c t
  rw [hu, hct]
  try rw [hz]
  refine funext fun y => canon6 _ _ _ _ _ _ _ _ ⟨fun x => ?_, fun x => ?_, fun x => ?_, fun x => ?_, fun x => ?_, fun x => ?_, trivial⟩ y
    (View.cover_of_tiledBy _ ![1, 128, 1] (by sl_kernel_rfl) y)
  · simp +decide only [↓View.readCov_skip, View.readCov_cons_toLoadRect, ↓View.readCov_fill]
    exact Eq.trans (congrFun (by rfl) x) (pieceB u ct 5 640 5 rfl rfl slices_S128x768_o0_640_S128x128 inb_S256x768_S128x768_0_0 inb_S256x768_S128x768_128_0
      inb_S6x128x1_S1x128x1_5_0_0 z x _ (Rect.idx_unit_val _ _ _ _ 0) (Rect.idx_unit_val _ _ _ _ 1))
  · simp +decide only [↓View.readCov_skip, View.readCov_cons_toLoadRect, ↓View.readCov_fill]
    exact Eq.trans (congrFun (by rfl) x) (pieceB u ct 4 512 4 rfl rfl slices_S128x768_o0_512_S128x128 inb_S256x768_S128x768_0_0 inb_S256x768_S128x768_128_0
      inb_S6x128x1_S1x128x1_4_0_0 z x _ (Rect.idx_unit_val _ _ _ _ 0) (Rect.idx_unit_val _ _ _ _ 1))
  · simp +decide only [↓View.readCov_skip, View.readCov_cons_toLoadRect, ↓View.readCov_fill]
    exact Eq.trans (congrFun (by rfl) x) (pieceB u ct 3 384 3 rfl rfl slices_S128x768_o0_384_S128x128 inb_S256x768_S128x768_0_0 inb_S256x768_S128x768_128_0
      inb_S6x128x1_S1x128x1_3_0_0 z x _ (Rect.idx_unit_val _ _ _ _ 0) (Rect.idx_unit_val _ _ _ _ 1))
  · simp +decide only [↓View.readCov_skip, View.readCov_cons_toLoadRect, ↓View.readCov_fill]
    exact Eq.trans (congrFun (by rfl) x) (pieceB u ct 2 256 2 rfl rfl slices_S128x768_o0_256_S128x128 inb_S256x768_S128x768_0_0 inb_S256x768_S128x768_128_0
      inb_S6x128x1_S1x128x1_2_0_0 z x _ (Rect.idx_unit_val _ _ _ _ 0) (Rect.idx_unit_val _ _ _ _ 1))
  · simp +decide only [↓View.readCov_skip, View.readCov_cons_toLoadRect, ↓View.readCov_fill]
    exact Eq.trans (congrFun (by rfl) x) (pieceB u ct 1 128 1 rfl rfl slices_S128x768_o0_128_S128x128 inb_S256x768_S128x768_0_0 inb_S256x768_S128x768_128_0
      inb_S6x128x1_S1x128x1_1_0_0 z x _ (Rect.idx_unit_val _ _ _ _ 0) (Rect.idx_unit_val _ _ _ _ 1))
  · simp +decide only [↓View.readCov_skip, View.readCov_cons_toLoadRect, ↓View.readCov_fill]
    exact Eq.trans (congrFun (by rfl) x) (pieceB u ct 0 0 0 rfl rfl slices_S128x768_o0_0_S128x128 inb_S256x768_S128x768_0_0 inb_S256x768_S128x768_128_0
      inb_S6x128x1_S1x128x1_0_0_0 z x _ (Rect.idx_unit_val _ _ _ _ 0) (Rect.idx_unit_val _ _ _ _ 1))

theorem wB (h0 : ¬t.val % 16 = 0) : (outsAt0 m c t.val t.isLt).2.1 =
    nW (X0_0 m c t) (X0_1 m c t) (X0_6 m c t) (iblk m c 2 t) (iblk m c 3 t) (outsAt0 m c (t.val - 1) (Nat.lt_of_le_of_lt (Nat.sub_le _ _) t.isLt)).2.1 := by
  rw [outsAt0_B m c t h0]
  frame_out
  obtain ⟨z, hz⟩ : ∃ z : FVec Ideal S6x128x128 .f32, (outsAt0 m c (t.val - 1) (Nat.lt_of_le_of_lt (Nat.sub_le _ _) t.isLt)).2.1 = z := ⟨_, rfl⟩
  rw [hz]
  obtain ⟨u, hu⟩ := u_ty m c t
  obtain ⟨ct, hct⟩ := ct_ty m c t
  obtain ⟨v, hv⟩ := v_ty m c t
  obtain ⟨lg, hlg⟩ := lg_ty m c t
  obtain ⟨lb, hlb⟩ := lb_ty m c t
  rw [hu, hct, hv, hlg, hlb]
  refine funext fun y => canon6 _ _ _ _ _ _ _ _ ⟨fun x => ?_, fun x => ?_, fun x => ?_, fun x => ?_, fun x => ?_, fun x => ?_, trivial⟩ y
    (View.cover_of_tiledBy _ ![1, 128, 128] (by sl_kernel_rfl) y)
  · simp +decide only [↓View.readCov_skip, View.readCov_cons_toLoadRect]
    exact Eq.trans (congrFun (by rfl) x) (pieceW u v ct lg lb 5 640 5 rfl rfl slices_S128x768_o0_640_S128x128 inb_S256x768_S128x768_0_0 inb_S256x768_S128x768_128_0
      inb_S6x128x128_S1x128x128_5_0_0 z x _ (Rect.idx_unit_val _ _ _ _ 0) (Rect.idx_unit_val _ _ _ _ 1) (Rect.idx_unit_val _ _ _ _ 2))
  · simp +decide only [↓View.readCov_skip, View.readCov_cons_toLoadRect]
    exact Eq.trans (congrFun (by rfl) x) (pieceW u v ct lg lb 4 512 4 rfl rfl slices_S128x768_o0_512_S128x128 inb_S256x768_S128x768_0_0 inb_S256x768_S128x768_128_0
      inb_S6x128x128_S1x128x128_4_0_0 z x _ (Rect.idx_unit_val _ _ _ _ 0) (Rect.idx_unit_val _ _ _ _ 1) (Rect.idx_unit_val _ _ _ _ 2))
  · simp +decide only [↓View.readCov_skip, View.readCov_cons_toLoadRect]
    exact Eq.trans (congrFun (by rfl) x) (pieceW u v ct lg lb 3 384 3 rfl rfl slices_S128x768_o0_384_S128x128 inb_S256x768_S128x768_0_0 inb_S256x768_S128x768_128_0
      inb_S6x128x128_S1x128x128_3_0_0 z x _ (Rect.idx_unit_val _ _ _ _ 0) (Rect.idx_unit_val _ _ _ _ 1) (Rect.idx_unit_val _ _ _ _ 2))
  · simp +decide only [↓View.readCov_skip, View.readCov_cons_toLoadRect]
    exact Eq.trans (congrFun (by rfl) x) (pieceW u v ct lg lb 2 256 2 rfl rfl slices_S128x768_o0_256_S128x128 inb_S256x768_S128x768_0_0 inb_S256x768_S128x768_128_0
      inb_S6x128x128_S1x128x128_2_0_0 z x _ (Rect.idx_unit_val _ _ _ _ 0) (Rect.idx_unit_val _ _ _ _ 1) (Rect.idx_unit_val _ _ _ _ 2))
  · simp +decide only [↓View.readCov_skip, View.readCov_cons_toLoadRect]
    exact Eq.trans (congrFun (by rfl) x) (pieceW u v ct lg lb 1 128 1 rfl rfl slices_S128x768_o0_128_S128x128 inb_S256x768_S128x768_0_0 inb_S256x768_S128x768_128_0
      inb_S6x128x128_S1x128x128_1_0_0 z x _ (Rect.idx_unit_val _ _ _ _ 0) (Rect.idx_unit_val _ _ _ _ 1) (Rect.idx_unit_val _ _ _ _ 2))
  · simp +decide only [↓View.readCov_skip, View.readCov_cons_toLoadRect]
    exact Eq.trans (congrFun (by rfl) x) (pieceW u v ct lg lb 0 0 0 rfl rfl slices_S128x768_o0_0_S128x128 inb_S256x768_S128x768_0_0 inb_S256x768_S128x768_128_0
      inb_S6x128x128_S1x128x128_0_0_0 z x _ (Rect.idx_unit_val _ _ _ _ 0) (Rect.idx_unit_val _ _ _ _ 1) (Rect.idx_unit_val _ _ _ _ 2))

set_option maxHeartbeats 4000000 in
theorem wA (h0 : t.val % 16 = 0) : (outsAt0 m c t.val t.isLt).2.1 = nW (X0_0 m c t) (X0_1 m c t) (X0_6 m c t) (iblk m c 2 t) (iblk m c 3 t) (fun _ => 0) := by
  rw [outsAt0_A m c t h0]
  frame_out
  obtain ⟨z, hz⟩ : ∃ z : FVec Ideal S6x128x128 .f32, k0_pay2 (F := Ideal) = z := ⟨_, rfl⟩
  have e : (fun _ => 0 : FVec Ideal S6x128x128 .f32) = z := by
    rw [← hz]
    funext i
    pointwise [k0_pay2]
  rw [e]
  obtain ⟨u, hu⟩ := u_ty m c t
  obtain ⟨ct, hct⟩ := ct_ty m c t
  obtain ⟨v, hv⟩ := v_ty m c t
  obtain ⟨lg, hlg⟩ := lg_ty m c t
  obtain ⟨lb, hlb⟩ := lb_ty m c t
  rw [hu, hct, hv, hlg, hlb]
  try rw [hz]
  refine funext fun y => canon6 _ _ _ _ _ _ _ _ ⟨fun x => ?_, fun x => ?_, fun x => ?_, fun x => ?_, fun x => ?_, fun x => ?_, trivial⟩ y
    (View.cover_of_tiledBy _ ![1, 128, 128] (by sl_kernel_rfl) y)
  · simp +decide only [↓View.readCov_skip, View.readCov_cons_toLoadRect, ↓View.readCov_fill]
    exact Eq.trans (congrFun (by rfl) x) (pieceW u v ct lg lb 5 640 5 rfl rfl slices_S128x768_o0_640_S128x128 inb_S256x768_S128x768_0_0 inb_S256x768_S128x768_128_0
      inb_S6x128x128_S1x128x128_5_0_0 z x _ (Rect.idx_unit_val _ _ _ _ 0) (Rect.idx_unit_val _ _ _ _ 1) (Rect.idx_unit_val _ _ _ _ 2))
  · simp +decide only [↓View.readCov_skip, View.readCov_cons_toLoadRect, ↓View.readCov_fill]
    exact Eq.trans (congrFun (by rfl) x) (pieceW u v ct lg lb 4 512 4 rfl rfl slices_S128x768_o0_512_S128x128 inb_S256x768_S128x768_0_0 inb_S256x768_S128x768_128_0
      inb_S6x128x128_S1x128x128_4_0_0 z x _ (Rect.idx_unit_val _ _ _ _ 0) (Rect.idx_unit_val _ _ _ _ 1) (Rect.idx_unit_val _ _ _ _ 2))
  · simp +decide only [↓View.readCov_skip, View.readCov_cons_toLoadRect, ↓View.readCov_fill]
    exact Eq.trans (congrFun (by rfl) x) (pieceW u v ct lg lb 3 384 3 rfl rfl slices_S128x768_o0_384_S128x128 inb_S256x768_S128x768_0_0 inb_S256x768_S128x768_128_0
      inb_S6x128x128_S1x128x128_3_0_0 z x _ (Rect.idx_unit_val _ _ _ _ 0) (Rect.idx_unit_val _ _ _ _ 1) (Rect.idx_unit_val _ _ _ _ 2))
  · simp +decide only [↓View.readCov_skip, View.readCov_cons_toLoadRect, ↓View.readCov_fill]
    exact Eq.trans (congrFun (by rfl) x) (pieceW u v ct lg lb 2 256 2 rfl rfl slices_S128x768_o0_256_S128x128 inb_S256x768_S128x768_0_0 inb_S256x768_S128x768_128_0
      inb_S6x128x128_S1x128x128_2_0_0 z x _ (Rect.idx_unit_val _ _ _ _ 0) (Rect.idx_unit_val _ _ _ _ 1) (Rect.idx_unit_val _ _ _ _ 2))
  · simp +decide only [↓View.readCov_skip, View.readCov_cons_toLoadRect, ↓View.readCov_fill]
    exact Eq.trans (congrFun (by rfl) x) (pieceW u v ct lg lb 1 128 1 rfl rfl slices_S128x768_o0_128_S128x128 inb_S256x768_S128x768_0_0 inb_S256x768_S128x768_128_0
      inb_S6x128x128_S1x128x128_1_0_0 z x _ (Rect.idx_unit_val _ _ _ _ 0) (Rect.idx_unit_val _ _ _ _ 1) (Rect.idx_unit_val _ _ _ _ 2))
  · simp +decide only [↓View.readCov_skip, View.readCov_cons_toLoadRect, ↓View.readCov_fill]
    exact Eq.trans (congrFun (by rfl) x) (pieceW u v ct lg lb 0 0 0 rfl rfl slices_S128x768_o0_0_S128x128 inb_S256x768_S128x768_0_0 inb_S256x768_S128x768_128_0
      inb_S6x128x128_S1x128x128_0_0_0 z x _ (Rect.idx_unit_val _ _ _ _ 0) (Rect.idx_unit_val _ _ _ _ 1) (Rect.idx_unit_val _ _ _ _ 2))

end Cert.GmlpPt

end
-- ==== Proof.GmlpOut.lean ====
/-
  `gmlp_fwd`: the gated mixing's output, over eight blocks of four chunks of 128 rows, is the mixing.
-/
module

public import proofs.«01_k».proof.Proof.Gen.GmlpFwdIdeal.Frame
public import proofs.«01_k».proof.Proof.Gen.GmlpFwdRefIdeal.Run
public import proofs.«01_k».proof.Proof.Gen.GmlpFwdRefIdeal.Read
public import proofs.«01_k».proof.Proof.GmlpMix
public import Idealize.ShloMosaic.Lib.Pipeline.ValueKit
public import Idealize.ShloMosaic.Lib.Claim
public import proofs.«01_k».proof.Defs

@[expose] public section

set_option maxRecDepth 16384

noncomputable section

namespace Cert.GmlpOut

open Idealize.ShloMosaic Idealize.ShloMosaic.TcCoe Idealize.SL.Sem Cert.GmlpMix
open Idealize.ShloMosaic.Pipeline (Dat)

section Kernel
open Cert.GmlpFwdIdeal Cert.GmlpFwdIdeal.Gen

variable (m : (ℓ : Loc nD τ sig) → Buf (Elt Ideal) ℓ) (c : Dev nD)

/-- The output's block, of the inputs' blocks. -/
def mixB (u v : FVec Ideal S512x768 .f32) (lg lb : FVec Ideal S1x768 .f32) (w b : FVec Ideal S6x128x128 .f32) :
    FVec Ideal S512x768 .bf16 := fun i =>
  have h0 : (i 0).val < 512 := (i 0).isLt
  have h1 : (i 1).val < 768 := (i 1).isLt
  let t : Fin 128 := ⟨(i 0).val % 128, by omega⟩
  let g : Fin 6 := ⟨(i 1).val / 128, by omega⟩
  mix (u i) (fun s k => v (ix2 ⟨(i 0).val / 128 * 128 + s.val, by omega⟩ k)) (lg (ix2 0 (i 1))) (lb (ix2 0 (i 1)))
    (fun s => w (ix3 g t s)) (b (ix3 g t ⟨(i 1).val % 128, by omega⟩)) t (i 1)

/-- Row `t` of chunk `r`. -/
def row (r : Fin 4) (t : Fin 128) : Fin 512 := ⟨r.val * 128 + t.val, by omega⟩

theorem mixB_at (u v : FVec Ideal S512x768 .f32) (lg lb : FVec Ideal S1x768 .f32) (w b : FVec Ideal S6x128x128 .f32)
    (r : Fin 4) (t : Fin 128) (g : Fin 6) (k : Fin 128) : mixB u v lg lb w b (ix2 (row r t) (col g k)) =
      mix (u (ix2 (row r t) (col g k))) (fun s j => v (ix2 (row r s) j)) (lg (ix2 0 (col g k))) (lb (ix2 0 (col g k)))
        (fun s => w (ix3 g t s)) (b (ix3 g t k)) t (col g k) := by
  have e1 : (r.val * 128 + t.val) / 128 = r.val := by omega
  have e2 : (r.val * 128 + t.val) % 128 = t.val := by omega
  have e3 : (g.val * 128 + k.val) / 128 = g.val := by omega
  have e4 : (g.val * 128 + k.val) % 128 = k.val := by omega
  change mix _ (fun s j => v (ix2 ⟨(r.val * 128 + t.val) / 128 * 128 + s.val, _⟩ j)) _ _
    (fun s => w (ix3 ⟨(g.val * 128 + k.val) / 128, _⟩ ⟨(r.val * 128 + t.val) % 128, _⟩ s))
    (b (ix3 ⟨(g.val * 128 + k.val) / 128, _⟩ ⟨(r.val * 128 + t.val) % 128, _⟩ ⟨(g.val * 128 + k.val) % 128, _⟩))
    ⟨(r.val * 128 + t.val) % 128, _⟩ _ = _
  simp only [e1, e2, e3, e4]
  rfl

/-- Chunk `r`'s rows of a block. -/
def ldr (u : FVec Ideal S512x768 .f32) (R : ℕ) (h : ∀ a, (![R, 0] : Fin 2 → ℕ) a + S128x768.size a ≤ S512x768.size a) :
    FVec Ideal S128x768 .f32 := View.ld (Val := Elt Ideal) (e' := (.f32 : EltTy)) u (Rect.unit (s := S512x768) ![R, 0] S128x768.size h)
/-- Head `g`'s matrix of the six. -/
def ldh (w : FVec Ideal S6x128x128 .f32) (g : ℕ) (h : ∀ a, (![g, 0, 0] : Fin 3 → ℕ) a + S1x128x128.size a ≤ S6x128x128.size a) :
    FVec Ideal S1x128x128 .f32 := View.ld (Val := Elt Ideal) (e' := (.f32 : EltTy)) w (Rect.unit (s := S6x128x128) ![g, 0, 0] S1x128x128.size h)

theorem ldr_at (u : FVec Ideal S512x768 .f32) (r : Fin 4) (h) (s : Fin 128) (j : Fin 768) :
    ldr u (r.val * 128) h (ix2 s j) = u (ix2 (row r s) j) := by
  refine congrArg u (funext fun a => Fin.ext ((Rect.idx_unit_val _ _ _ _ a).trans ?_))
  fin_cases a
  · rfl
  · exact Nat.zero_add _
theorem ldh_at (w : FVec Ideal S6x128x128 .f32) (g : Fin 6) (h) (s j : Fin 128) :
    ldh w g.val h (ix3 0 s j) = w (ix3 g s j) := by
  refine congrArg w (funext fun a => Fin.ext ((Rect.idx_unit_val _ _ _ _ a).trans ?_))
  fin_cases a
  · rfl
  · exact Nat.zero_add _
  · exact Nat.zero_add _

/-- One piece of the block: chunk `r`'s rows of head `g`. -/
theorem piece (r : Fin 4) (g : Fin 6) (R o G : ℕ) (hR : R = r.val * 128) (ho : o = g.val * 128) (hG : G = g.val)
    (hs : S128x768.Slices ![0, o] S128x128) (hu hw) (u v : FVec Ideal S512x768 .f32) (lg lb : FVec Ideal S1x768 .f32)
    (w b : FVec Ideal S6x128x128 .f32) (x : S128x128.Idx) (y : S512x768.Idx) (h0 : (y 0).val = R + (x 0).val)
    (h1 : (y 1).val = o + (x 1).val) :
    headT o hs (k0_pay6 (F := Ideal) (ldr u R hu)) (k0_pay7 (F := Ideal) (ldr v R hu) lg lb) (k0_pay9 (F := Ideal) (ldh w G hw))
      (ldh b G hw) x = mixB u v lg lb w b y := by
  subst hR hG
  idx_vars x
  idx_vars y
  have e0 : y0 = row r x0 := Fin.ext h0
  have e1 : y1 = col g x1 := Fin.ext (h1.trans (by rw [ho]; rfl))
  rw [e0, e1, mixB_at, head_at g o ho]
  simp only [ldr_at, ldh_at]

theorem vn1 (v : FVec Ideal S128x768 .f32) (lg lb : FVec Ideal S1x768 .f32) :
    k0_pay30 v (k0_pay29 v) lg lb = k0_pay7 (F := Ideal) v lg lb := by
  unfold k0_pay30 k0_pay29 k0_pay7
  rfl

theorem out_at (t : Fin cfg0.N) : outsAt0 m c t =
    mixB (X0_0 m c t) (X0_1 m c t) (iblk m c 2 t) (iblk m c 3 t) (iblk m c 4 t) (iblk m c 5 t) := by
  rw [outsAt0]
  frame_out
  funext y
  obtain ⟨u, hu⟩ : ∃ u : FVec Ideal S512x768 .f32, X0_0 m c t = u := ⟨_, rfl⟩
  rw [hu]
  obtain ⟨v, hv⟩ : ∃ v : FVec Ideal S512x768 .f32, X0_1 m c t = v := ⟨_, rfl⟩
  rw [hv]
  obtain ⟨lg, hlg⟩ : ∃ lg : FVec Ideal S1x768 .f32, iblk m c 2 t = lg := ⟨_, rfl⟩
  rw [hlg]
  obtain ⟨lb, hlb⟩ : ∃ lb : FVec Ideal S1x768 .f32, iblk m c 3 t = lb := ⟨_, rfl⟩
  rw [hlb]
  obtain ⟨w, hw⟩ : ∃ w : FVec Ideal S6x128x128 .f32, iblk m c 4 t = w := ⟨_, rfl⟩
  rw [hw]
  obtain ⟨b, hb⟩ : ∃ b : FVec Ideal S6x128x128 .f32, iblk m c 5 t = b := ⟨_, rfl⟩
  rw [hb]
  canon_tiles x h using (View.cover_of_tiledBy _ ![128, 128] (by sl_kernel_rfl) y)
  · refine Eq.trans ?_ (piece 3 5 384 640 5 rfl rfl rfl slices_S128x768_o0_640_S128x128 inb_S512x768_S128x768_384_0
      inb_S6x128x128_S1x128x128_5_0_0 u v lg lb w b x y (by omega) (by omega))
    exact congrFun (by rfl) x
  · refine Eq.trans ?_ (piece 3 4 384 512 4 rfl rfl rfl slices_S128x768_o0_512_S128x128 inb_S512x768_S128x768_384_0
      inb_S6x128x128_S1x128x128_4_0_0 u v lg lb w b x y (by omega) (by omega))
    exact congrFun (by rfl) x
  · refine Eq.trans ?_ (piece 3 3 384 384 3 rfl rfl rfl slices_S128x768_o0_384_S128x128 inb_S512x768_S128x768_384_0
      inb_S6x128x128_S1x128x128_3_0_0 u v lg lb w b x y (by omega) (by omega))
    exact congrFun (by rfl) x
  · refine Eq.trans ?_ (piece 3 2 384 256 2 rfl rfl rfl slices_S128x768_o0_256_S128x128 inb_S512x768_S128x768_384_0
      inb_S6x128x128_S1x128x128_2_0_0 u v lg lb w b x y (by omega) (by omega))
    exact congrFun (by rfl) x
  · refine Eq.trans ?_ (piece 3 1 384 128 1 rfl rfl rfl slices_S128x768_o0_128_S128x128 inb_S512x768_S128x768_384_0
      inb_S6x128x128_S1x128x128_1_0_0 u v lg lb w b x y (by omega) (by omega))
    exact congrFun (by rfl) x
  · refine Eq.trans ?_ (piece 3 0 384 0 0 rfl rfl rfl slices_S128x768_o0_0_S128x128 inb_S512x768_S128x768_384_0
      inb_S6x128x128_S1x128x128_0_0_0 u v lg lb w b x y (by omega) (by omega))
    exact congrFun (by rfl) x
  · refine Eq.trans ?_ (piece 2 5 256 640 5 rfl rfl rfl slices_S128x768_o0_640_S128x128 inb_S512x768_S128x768_256_0
      inb_S6x128x128_S1x128x128_5_0_0 u v lg lb w b x y (by omega) (by omega))
    exact congrFun (by rfl) x
  · refine Eq.trans ?_ (piece 2 4 256 512 4 rfl rfl rfl slices_S128x768_o0_512_S128x128 inb_S512x768_S128x768_256_0
      inb_S6x128x128_S1x128x128_4_0_0 u v lg lb w b x y (by omega) (by omega))
    exact congrFun (by rfl) x
  · refine Eq.trans ?_ (piece 2 3 256 384 3 rfl rfl rfl slices_S128x768_o0_384_S128x128 inb_S512x768_S128x768_256_0
      inb_S6x128x128_S1x128x128_3_0_0 u v lg lb w b x y (by omega) (by omega))
    exact congrFun (by rfl) x
  · refine Eq.trans ?_ (piece 2 2 256 256 2 rfl rfl rfl slices_S128x768_o0_256_S128x128 inb_S512x768_S128x768_256_0
      inb_S6x128x128_S1x128x128_2_0_0 u v lg lb w b x y (by omega) (by omega))
    exact congrFun (by rfl) x
  · refine Eq.trans ?_ (piece 2 1 256 128 1 rfl rfl rfl slices_S128x768_o0_128_S128x128 inb_S512x768_S128x768_256_0
      inb_S6x128x128_S1x128x128_1_0_0 u v lg lb w b x y (by omega) (by omega))
    exact congrFun (by rfl) x
  · refine Eq.trans ?_ (piece 2 0 256 0 0 rfl rfl rfl slices_S128x768_o0_0_S128x128 inb_S512x768_S128x768_256_0
      inb_S6x128x128_S1x128x128_0_0_0 u v lg lb w b x y (by omega) (by omega))
    exact congrFun (by rfl) x
  · rw [vn1]; refine Eq.trans ?_ (piece 1 5 128 640 5 rfl rfl rfl slices_S128x768_o0_640_S128x128 inb_S512x768_S128x768_128_0
      inb_S6x128x128_S1x128x128_5_0_0 u v lg lb w b x y (by omega) (by omega))
    exact congrFun (by rfl) x
  · rw [vn1]; refine Eq.trans ?_ (piece 1 4 128 512 4 rfl rfl rfl slices_S128x768_o0_512_S128x128 inb_S512x768_S128x768_128_0
      inb_S6x128x128_S1x128x128_4_0_0 u v lg lb w b x y (by omega) (by omega))
    exact congrFun (by rfl) x
  · rw [vn1]; refine Eq.trans ?_ (piece 1 3 128 384 3 rfl rfl rfl slices_S128x768_o0_384_S128x128 inb_S512x768_S128x768_128_0
      inb_S6x128x128_S1x128x128_3_0_0 u v lg lb w b x y (by omega) (by omega))
    exact congrFun (by rfl) x
  · rw [vn1]; refine Eq.trans ?_ (piece 1 2 128 256 2 rfl rfl rfl slices_S128x768_o0_256_S128x128 inb_S512x768_S128x768_128_0
      inb_S6x128x128_S1x128x128_2_0_0 u v lg lb w b x y (by omega) (by omega))
    exact congrFun (by rfl) x
  · rw [vn1]; refine Eq.trans ?_ (piece 1 1 128 128 1 rfl rfl rfl slices_S128x768_o0_128_S128x128 inb_S512x768_S128x768_128_0
      inb_S6x128x128_S1x128x128_1_0_0 u v lg lb w b x y (by omega) (by omega))
    exact congrFun (by rfl) x
  · rw [vn1]; refine Eq.trans ?_ (piece 1 0 128 0 0 rfl rfl rfl slices_S128x768_o0_0_S128x128 inb_S512x768_S128x768_128_0
      inb_S6x128x128_S1x128x128_0_0_0 u v lg lb w b x y (by omega) (by omega))
    exact congrFun (by rfl) x
  · refine Eq.trans ?_ (piece 0 5 0 640 5 rfl rfl rfl slices_S128x768_o0_640_S128x128 inb_S512x768_S128x768_0_0
      inb_S6x128x128_S1x128x128_5_0_0 u v lg lb w b x y (by omega) (by omega))
    exact congrFun (by rfl) x
  · refine Eq.trans ?_ (piece 0 4 0 512 4 rfl rfl rfl slices_S128x768_o0_512_S128x128 inb_S512x768_S128x768_0_0
      inb_S6x128x128_S1x128x128_4_0_0 u v lg lb w b x y (by omega) (by omega))
    exact congrFun (by rfl) x
  · refine Eq.trans ?_ (piece 0 3 0 384 3 rfl rfl rfl slices_S128x768_o0_384_S128x128 inb_S512x768_S128x768_0_0
      inb_S6x128x128_S1x128x128_3_0_0 u v lg lb w b x y (by omega) (by omega))
    exact congrFun (by rfl) x
  · refine Eq.trans ?_ (piece 0 2 0 256 2 rfl rfl rfl slices_S128x768_o0_256_S128x128 inb_S512x768_S128x768_0_0
      inb_S6x128x128_S1x128x128_2_0_0 u v lg lb w b x y (by omega) (by omega))
    exact congrFun (by rfl) x
  · refine Eq.trans ?_ (piece 0 1 0 128 1 rfl rfl rfl slices_S128x768_o0_128_S128x128 inb_S512x768_S128x768_0_0
      inb_S6x128x128_S1x128x128_1_0_0 u v lg lb w b x y (by omega) (by omega))
    exact congrFun (by rfl) x
  · refine Eq.trans ?_ (piece 0 0 0 0 0 rfl rfl rfl slices_S128x768_o0_0_S128x128 inb_S512x768_S128x768_0_0
      inb_S6x128x128_S1x128x128_0_0_0 u v lg lb w b x y (by omega) (by omega))
    exact congrFun (by rfl) x

theorem idx : ∀ t : Fin cfg0.N, win0_0.index t = ![t.val, 0] ∧ win0_1.index t = ![t.val, 1] ∧ win0_2.index t = ![0, 0] ∧
    win0_3.index t = ![0, 0] ∧ win0_4.index t = ![0, 0, 0] ∧ win0_5.index t = ![0, 0, 0] ∧ win0_6.index t = ![t.val, 0] :=
  (by decide +kernel : ∀ t : Fin grid0.N, _)

abbrev P : FVec Ideal S4096x1792 .f32 := m ((c : Thread nD τ).loc main_arg0)
abbrev LG : FVec Ideal S1x768 .f32 := m ((c : Thread nD τ).loc main_arg1)
abbrev LB : FVec Ideal S1x768 .f32 := m ((c : Thread nD τ).loc main_arg2)
abbrev WS : FVec Ideal S6x128x128 .f32 := m ((c : Thread nD τ).loc main_arg3)
abbrev BS : FVec Ideal S6x128 .f32 := m ((c : Thread nD τ).loc main_arg4)

/-- Row `r` of block `t`. -/
def at_ (t : Fin cfg0.N) (r : Fin 512) : Fin 4096 := ⟨t.val * 512 + r.val, by
  have : t.val < 8 := lt_of_lt_of_eq t.isLt (show cfg0.N = 8 from N_0)
  omega⟩

theorem b0 (t : Fin cfg0.N) (r : Fin 512) (j : Fin 768) : X0_0 m c t (ix2 r j) = P m c (ix2 (at_ t r) ⟨j.val, by omega⟩) := by
  unfold X0_0 Pipeline.Window.fill
  rw [dif_pos (moved0_0 t _)]
  blk_point [iblk, V, idx t, at_]
theorem b1 (t : Fin cfg0.N) (r : Fin 512) (j : Fin 768) :
    X0_1 m c t (ix2 r j) = P m c (ix2 (at_ t r) ⟨768 + j.val, by omega⟩) := by
  unfold X0_1 Pipeline.Window.fill
  rw [dif_pos (moved0_1 t _)]
  blk_point [iblk, V, idx t, at_]
theorem b2 (t : Fin cfg0.N) (j : Fin 768) : iblk m c 2 t (ix2 0 j) = LG m c (ix2 0 j) := by
  blk_point [iblk, V, idx t]
theorem b3 (t : Fin cfg0.N) (j : Fin 768) : iblk m c 3 t (ix2 0 j) = LB m c (ix2 0 j) := by
  blk_point [iblk, V, idx t]
theorem b4 (t : Fin cfg0.N) (g : Fin 6) (s j : Fin 128) : iblk m c 4 t (ix3 g s j) = WS m c (ix3 g s j) := by
  blk_point [iblk, V, idx t]
theorem b5 (t : Fin cfg0.N) (g : Fin 6) (s j : Fin 128) : iblk m c 5 t (ix3 g s j) = BS m c (ix2 g s) := by
  have h : V m c main_v1 = fun i : S6x128x128.Idx => BS m c (ix2 (i 0) (i 1)) := by
    refine funext fun i => ?_
    unfold V V0
    simp only [List.flatten_cons, List.flatten_nil, List.append_nil, hostOps0]
    after_results
    idx_vars i
    pointwise
    try rfl
  refine Eq.trans (b := V m c main_v1 (ix3 g s j)) (by blk_point [iblk, idx t]) ?_
  rw [h]
  rfl
end Kernel

section Pure
open Cert.GmlpFwdIdeal

/-- One element of the mixing, of the arguments. -/
def mixF (p : FVec Ideal S4096x1792 .f32) (lg lb : FVec Ideal S1x768 .f32) (ws : FVec Ideal S6x128x128 .f32)
    (bs : FVec Ideal S6x128 .f32) (r : Fin 4096) (j : Fin 768) : EReal :=
  mix (p (ix2 r ⟨j.val, by omega⟩)) (fun s k => p (ix2 ⟨r.val / 128 * 128 + s.val, by omega⟩ ⟨768 + k.val, by omega⟩))
    (lg (ix2 0 j)) (lb (ix2 0 j)) (fun s => ws (ix3 ⟨j.val / 128, by omega⟩ ⟨r.val % 128, by omega⟩ s))
    (bs (ix2 ⟨j.val / 128, by omega⟩ ⟨r.val % 128, by omega⟩)) ⟨r.val % 128, by omega⟩ j

/-- … over the 1024 columns of which it takes the first 768. -/
def mixA (p : FVec Ideal S4096x1792 .f32) (lg lb : FVec Ideal S1x768 .f32) (ws : FVec Ideal S6x128x128 .f32)
    (bs : FVec Ideal S6x128 .f32) (i : S4096x1024.Idx) : EReal :=
  mixF p lg lb ws bs (i 0) ⟨(i 1).val % 768, Nat.mod_lt _ (by norm_num)⟩
end Pure

section Kernel
open Cert.GmlpFwdIdeal Cert.GmlpFwdIdeal.Gen

variable (m : (ℓ : Loc nD τ sig) → Buf (Elt Ideal) ℓ) (c : Dev nD)

theorem blk_at (t : Fin cfg0.N) (y : S512x768.Idx) :
    mixB (X0_0 m c t) (X0_1 m c t) (iblk m c 2 t) (iblk m c 3 t) (iblk m c 4 t) (iblk m c 5 t) y =
      mixF (P m c) (LG m c) (LB m c) (WS m c) (BS m c) (at_ t (y 0)) (y 1) := by
  idx_vars y
  change mix _ (fun s k => X0_1 m c t (ix2 ⟨y0.val / 128 * 128 + s.val, _⟩ k)) (iblk m c 2 t (ix2 0 y1)) (iblk m c 3 t (ix2 0 y1))
    (fun s => iblk m c 4 t (ix3 ⟨y1.val / 128, _⟩ ⟨y0.val % 128, _⟩ s))
    (iblk m c 5 t (ix3 ⟨y1.val / 128, _⟩ ⟨y0.val % 128, _⟩ ⟨y1.val % 128, _⟩)) ⟨y0.val % 128, _⟩ y1 = _
  have e1 : (t.val * 512 + y0.val) % 128 = y0.val % 128 := by omega
  have e2 : (t.val * 512 + y0.val) / 128 * 128 = t.val * 512 + y0.val / 128 * 128 := by omega
  change _ = mix _ (fun s k => P m c (ix2 ⟨(t.val * 512 + y0.val) / 128 * 128 + s.val, _⟩ ⟨768 + k.val, _⟩)) _ _
    (fun s => WS m c (ix3 ⟨y1.val / 128, _⟩ ⟨(t.val * 512 + y0.val) % 128, _⟩ s))
    (BS m c (ix2 ⟨y1.val / 128, _⟩ ⟨(t.val * 512 + y0.val) % 128, _⟩)) ⟨(t.val * 512 + y0.val) % 128, _⟩ _
  simp only [e1, e2, b0, b1, b2, b3, b4, b5]
  simp only [at_, Nat.add_assoc]

theorem emb (t : Fin cfg0.N) (y : S512x768.Idx) (i : S4096x1024.Idx) (h0 : (i 0).val = t.val * 512 + (y 0).val)
    (h1 : (i 1).val = (y 1).val) :
    mixF (P m c) (LG m c) (LB m c) (WS m c) (BS m c) (at_ t (y 0)) (y 1) =
      mixA (P m c) (LG m c) (LB m c) (WS m c) (BS m c) i := by
  have e0 : at_ t (y 0) = i 0 := Fin.ext h0.symm
  have e1 : (⟨(i 1).val % 768, Nat.mod_lt _ (by norm_num)⟩ : Fin 768) = y 1 := Fin.ext (by
    have := (y 1).isLt; change _ < 768 at this
    simp only [h1]; omega)
  unfold mixA
  rw [e0, e1]

theorem final : (dats m 0 c).arrAt 6 (cfgs 0).N = fun i => if (i 1 : ℕ) < 768 then
    mixA (P m c) (LG m c) (LB m c) (WS m c) (BS m c) i else V m c main_v2 i := by
  refine (dats m 0 c).arrAt_eq_of_coversWhere 6 _ (fun β => β (1 : Fin 2) < 1) (by decide +kernel) (fun t hf y => ?_)
    (fun j => by blk_simp [Pipeline.Window.cell_apply]; omega)
  blk_simp
  rw [after0_6, out_at]
  refine (blk_at m c t _).trans (emb m c t _ _ ?_ ?_)
  · blk_simp [idx t]
  · blk_simp [idx t]

theorem sliced : Pipeline.afterTail₀ cfgs (dats m) 0 (V0 m) [hostOps1] c main_v3 =
    fun i : S4096x768.Idx => mixF (P m c) (LG m c) (LB m c) (WS m c) (BS m c) (i 0) (i 1) := by
  have e : Pipeline.withArrays (cfgs 0).spec c (V0 m c) (fun w => (dats m 0 c).arrAt w (cfgs 0).N) main_v2 =
      (dats m 0 c).arrAt 6 (cfgs 0).N := (dats m 0 c).withArrays_arrAt sharedIn0 (V0 m c) (A_eq m c) 6
  unfold Pipeline.afterTail₀
  simp only [List.flatten_cons, List.flatten_nil, List.append_nil, hostOps1]
  after_results
  rw [e, final]
  funext i
  idx_vars i
  have h0 := extractStridedSlice_apply ![0, 0] (fun i : S4096x1024.Idx => if (i 1).val < 768 then
    mixA (P m c) (LG m c) (LB m c) (WS m c) (BS m c) i else V m c main_v2 i) slices_S4096x1024_S4096x768_0_0 (ix2 i0 i1)
    (ix2 i0 ⟨i1.val, by omega⟩) (fun a => match a with
      | ⟨0, _⟩ => by change i0.val = 0 + i0.val; omega
      | ⟨1, _⟩ => by change i1.val = 0 + i1.val; omega)
  refine h0.trans ((if_pos i1.isLt).trans ?_)
  exact congrArg (mixF _ _ _ _ _ i0) (Fin.ext (Nat.mod_eq_of_lt i1.isLt))
end Kernel

section Pure
open Cert.GmlpFwdRefIdeal Cert.GmlpFwdRefIdeal.Read

variable (x0 : FVec Ideal GmlpFwdIdeal.S4096x1792 .f32) (x1 x2 : FVec Ideal GmlpFwdIdeal.S1x768 .f32)
  (x3 : FVec Ideal GmlpFwdIdeal.S6x128x128 .f32) (x4 : FVec Ideal GmlpFwdIdeal.S6x128 .f32)

theorem v7_at (r : Fin 4096) (j : Fin 1536) : val_main_v7 (F := Ideal) x0 (ix2 r j) = glu (x0 (ix2 r ⟨j.val, by omega⟩)) := by
  rw [← glu_ref]
  pointwise [val_main_v7, val_main_v6, val_main_v5, val_main_v4, val_main_cst_0, val_main_v3, val_main_v2, val_main_v1,
    val_main_cst, val_main_v0]
  try rfl

theorem v8_at (r : Fin 4096) (j : Fin 768) : val_main_v8 (F := Ideal) x0 (ix2 r j) = glu (x0 (ix2 r ⟨j.val, by omega⟩)) := by
  refine Eq.trans ?_ (v7_at x0 r ⟨j.val, by omega⟩)
  pointwise [val_main_v8]
  try rfl

theorem v9_at (r : Fin 4096) (j : Fin 768) : val_main_v9 (F := Ideal) x0 (ix2 r j) = glu (x0 (ix2 r ⟨768 + j.val, by omega⟩)) := by
  refine Eq.trans ?_ (v7_at x0 r ⟨768 + j.val, by omega⟩)
  pointwise [val_main_v9]
  try rfl

theorem v31_at (r : Fin 4096) (j : Fin 768) : val_main_v31 (F := Ideal) x0 x1 x2 (ix2 r j) =
    vn (fun k => x0 (ix2 r ⟨768 + k.val, by omega⟩)) (x1 (ix2 0 j)) (x2 (ix2 0 j)) j := by
  simp only [vn, vh, rs, cen, mean, ← v9_at]
  pointwise [val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_cst_1, val_main_cst_2,
    val_main_cst_3, val_main_cst_4, val_main_cst_5]
  try rfl

theorem v37_at (g : Fin 6) (t s : Fin 128) : val_main_v37 (F := Ideal) x3 (ix3 g t s) = msk t s (x3 (ix3 g t s)) := by
  have h : val_main_v34 (F := Ideal) (ix2 t s) = msk t s 1 := by
    rw [← sel_msk]
    pointwise [val_main_v34, val_main_call0_v5, val_main_call0_v4, val_main_call0_v3, val_main_call0_v2, val_main_call0_v1,
      val_main_call0_v0, val_main_v33, val_main_cst_6, val_main_call0_cst, val_main_call0_c]
    rw [IntOp.addi, BitVec.add_zero]
  have e : msk t s (x3 (ix3 g t s)) = x3 (ix3 g t s) * msk t s 1 := by
    unfold msk
    split <;> simp
  rw [e, ← h]
  pointwise [val_main_v37, val_main_v36, val_main_v35]
  try rfl

theorem v39_at (n : Fin 32) (t : Fin 128) (g : Fin 6) (c : Fin 128) : val_main_v39 (F := Ideal) x0 x1 x2 x3 (ix4 n t g c) =
    ∑ s, msk t s (x3 (ix3 g t s)) * val_main_v31 (F := Ideal) x0 x1 x2 (ix2 ⟨n.val * 128 + s.val, by omega⟩ (col g c)) := by
  simp only [← v37_at]
  pointwise [val_main_v39, val_main_v38, val_main_v32]
  exact Finset.sum_congr rfl fun s _ => mul_comm _ _

theorem v46_at (n : Fin 32) (t : Fin 128) (g : Fin 6) (c : Fin 128) :
    val_main_v46 (F := Ideal) x0 x1 x2 x3 x4 (ix2 ⟨n.val * 128 + t.val, by omega⟩ (col g c)) =
      val_main_v8 (F := Ideal) x0 (ix2 ⟨n.val * 128 + t.val, by omega⟩ (col g c)) *
        (val_main_v39 (F := Ideal) x0 x1 x2 x3 (ix4 n t g c) + x4 (ix2 g t)) := by
  pointwise [val_main_v46, val_main_v45, val_main_v44, val_main_v43, val_main_v42, val_main_v41, val_main_v40]
  have a1 : (col g c).val / 128 = g.val := by change (g.val * 128 + c.val) / 128 = _; omega
  have a2 : (col g c).val % 128 = c.val := by change (g.val * 128 + c.val) % 128 = _; omega
  simp only [a1, a2]

end Pure

section Reference
open Cert.GmlpFwdRefIdeal Cert.GmlpFwdRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v46) = val_main_v46 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => ⟨(h c).1.trans (val_main_v46_eq _ _), (h c).2⟩,
    sem_eq_zero_of_no_sems (by decide) r.2⟩) (Value.run m ρ)
end Reference

theorem frame_ref : Cert.quiescent_GmlpFwdRefIdeal := fun m g _ =>
  (θ_run Cert.GmlpFwdRefIdeal.defs _ _).mono (fun _ h => ⟨fun c => (h.1 c).2, h.2⟩) (run_ref m g)

theorem ref_eq (x0 : FVec Ideal GmlpFwdIdeal.S4096x1792 .f32) (x1 x2 : FVec Ideal GmlpFwdIdeal.S1x768 .f32)
    (x3 : FVec Ideal GmlpFwdIdeal.S6x128x128 .f32) (x4 : FVec Ideal GmlpFwdIdeal.S6x128 .f32) :
    Cert.GmlpFwdRefIdeal.Read.val_main_v46 (F := Ideal) x0 x1 x2 x3 x4 = fun i => mixF x0 x1 x2 x3 x4 (i 0) (i 1) := by
  funext i
  idx_vars i
  obtain ⟨n, t, hr⟩ : ∃ (n : Fin 32) (t : Fin 128), i0 = ⟨n.val * 128 + t.val, by omega⟩ :=
    ⟨⟨i0.val / 128, by omega⟩, ⟨i0.val % 128, by omega⟩, Fin.ext (by change i0.val = i0.val / 128 * 128 + i0.val % 128; omega)⟩
  obtain ⟨g, k, hj⟩ : ∃ (g : Fin 6) (k : Fin 128), i1 = col g k :=
    ⟨⟨i1.val / 128, by omega⟩, ⟨i1.val % 128, by omega⟩, Fin.ext (by change i1.val = i1.val / 128 * 128 + i1.val % 128; omega)⟩
  subst hr hj
  rw [v46_at, v39_at, v8_at]
  change _ = mix _ (fun s l => x0 (ix2 ⟨(n.val * 128 + t.val) / 128 * 128 + s.val, _⟩ ⟨768 + l.val, _⟩)) _ _
    (fun s => x3 (ix3 ⟨(g.val * 128 + k.val) / 128, _⟩ ⟨(n.val * 128 + t.val) % 128, _⟩ s))
    (x4 (ix2 ⟨(g.val * 128 + k.val) / 128, _⟩ ⟨(n.val * 128 + t.val) % 128, _⟩)) ⟨(n.val * 128 + t.val) % 128, _⟩ _
  have a1 : (n.val * 128 + t.val) / 128 = n.val := by omega
  have a2 : (n.val * 128 + t.val) % 128 = t.val := by omega
  have a3 : (g.val * 128 + k.val) / 128 = g.val := by omega
  simp only [a1, a2, a3, v31_at, mix]

theorem algebraic : Cert.algebraic_GmlpFwdIdeal_GmlpFwdRefIdeal := by
  pair_intro
  · run_from Cert.GmlpFwdIdeal.Gen.run_main m g
    exact Cert.GmlpFwdIdeal.Gen.W_main_arg4 m _ c
  · refine (θ_run Cert.GmlpFwdRefIdeal.defs _ _).mono (fun r h c => ?_) (run_ref m' g')
    obtain ⟨h0, h1⟩ := h.1 c
    obtain ⟨e0, e1, e2, e3, e4⟩ := hagree c
    refine ⟨h0.trans ?_, h1⟩
    rw [e0, e1, e2, e3, e4]
    exact (ref_eq _ _ _ _ _).trans (sliced m c).symm

end Cert.GmlpOut

end
-- ==== Proof.GmlpGradRef.lean ====
/-
  The reference's gradients of the gated mixing, entry by entry: sums over the 32 chunks of 128 rows of each chunk's part.
-/
module

public import proofs.«01_k».proof.Proof.GmlpGrad
public import proofs.«01_k».proof.Proof.GmlpOut
public import proofs.«01_k».proof.Proof.Gen.GmlpBwdRefIdeal.Run
public import proofs.«01_k».proof.Proof.Gen.GmlpBwdRefIdeal.Read
public import Idealize.ShloMosaic.Lib.TwoAxisContraction

@[expose] public section

set_option maxRecDepth 16384

noncomputable section

namespace Cert.GmlpGradRef

open Idealize.ShloMosaic Idealize.ShloMosaic.TcCoe Idealize.SL.Sem Cert.GmlpMix Cert.GmlpGrad

/-- The host's sum along the first and the last of four axes. -/
theorem red03 {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ k, ∑ l, v (ix4 k a b l) := by
  refine congrArg (init + ·) ((Finset.sum_filter_eq_sum_of_fiber _ (fun k : Fin n0 × Fin n3 => ix4 k.1 a b k.2)
    (fun _ _ e => Prod.ext (congrFun e 0) (congrFun e 3)) (fun i => ⟨fun e => ⟨(i 0, i 3), funext fun x => Fin.ext ?_⟩, ?_⟩) v).trans
    (by simp only [Fintype.sum_prod_type]))
  · match x with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext x
    match x with
    | ⟨0, _⟩ => rfl
    | ⟨1, _⟩ => rfl

/-- Row `t` of chunk `n`. -/
def rw_ (n : Fin 32) (t : Fin 128) : Fin 4096 := ⟨n.val * 128 + t.val, by omega⟩

section Sums
variable (x0 : FVec Ideal GmlpFwdIdeal.S4096x1792 .f32) (x1 x2 : FVec Ideal GmlpFwdIdeal.S1x768 .f32)
  (x3 : FVec Ideal GmlpFwdIdeal.S6x128x128 .f32) (x5 : FVec Ideal GmlpFwdIdeal.S4096x1024 .f32)

/-- Chunk `n`'s cotangent, … -/
def cC (n : Fin 32) (t : Fin 128) (j : Fin 768) : EReal := x5 (ix2 (rw_ n t) ⟨j.val, by omega⟩)
/-- … its first half … -/
def cU (n : Fin 32) (t : Fin 128) (j : Fin 768) : EReal := x0 (ix2 (rw_ n t) ⟨j.val, by omega⟩)
/-- … and its second. -/
def cV (n : Fin 32) (t : Fin 128) (j : Fin 768) : EReal := x0 (ix2 (rw_ n t) ⟨768 + j.val, by omega⟩)

/-- The chunk's part of the weights' gradient, … -/
def qW (n : Fin 32) : Fin 6 → Fin 128 → Fin 128 → EReal :=
  DW (cC x5 n) (cU x0 n) (cV x0 n) (fun j => x1 (ix2 0 j)) (fun j => x2 (ix2 0 j))
/-- … of the biases', … -/
def qB (n : Fin 32) : Fin 6 → Fin 128 → EReal := DB (cC x5 n) (cU x0 n)
/-- … and the normed rows' cotangent. -/
def qV (n : Fin 32) : Fin 128 → Fin 768 → EReal := DV (cC x5 n) (cU x0 n) (fun g t s => x3 (ix3 g t s))
end Sums

section Pure
open Cert.GmlpBwdRefIdeal Cert.GmlpBwdRefIdeal.Read

variable (x0 : FVec Ideal GmlpFwdIdeal.S4096x1792 .f32) (x1 x2 : FVec Ideal GmlpFwdIdeal.S1x768 .f32)
  (x3 : FVec Ideal GmlpFwdIdeal.S6x128x128 .f32) (x5 : FVec Ideal GmlpFwdIdeal.S4096x1024 .f32)

theorem v48_at (n : Fin 32) (t : Fin 128) (g : Fin 6) (k : Fin 128) :
    val_main_v48 (F := Ideal) x0 x5 (ix4 n t g k) = DU (cC x5 n) (cU x0 n) t (col g k) := by
  have e : val_main_v8 (F := Ideal) x0 (ix2 (rw_ n t) (col g k)) = glu (cU x0 n t (col g k)) :=
    Cert.GmlpOut.v8_at x0 (rw_ n t) (col g k)
  rw [DU, mul_comm, ← e]
  pointwise [val_main_v48, val_main_v47, val_main_v46]
  rfl

theorem v37_at (g : Fin 6) (t s : Fin 128) : val_main_v37 (F := Ideal) x3 (ix3 g t s) = msk t s (x3 (ix3 g t s)) :=
  Cert.GmlpOut.v37_at x3 g t s

theorem v57_at (g : Fin 6) (t s : Fin 128) : val_main_v57 (F := Ideal) (ix3 g t s) = msk t s 1 := by
  rw [← sel_msk]
  pointwise [val_main_v57, val_main_v35, val_main_v34, val_main_call0_v5, val_main_call0_v4, val_main_call0_v3,
    val_main_call0_v2, val_main_call0_v1, val_main_call0_v0, val_main_v33, val_main_cst_6, val_main_call0_cst, val_main_call0_c]
  rw [IntOp.addi, BitVec.add_zero]

theorem v32_at (n : Fin 32) (s : Fin 128) (g : Fin 6) (k : Fin 128) : val_main_v32 (F := Ideal) x0 x1 x2 (ix4 n s g k) =
    vn (cV x0 n s) (x1 (ix2 0 (col g k))) (x2 (ix2 0 (col g k))) (col g k) := by
  refine Eq.trans ?_ (Cert.GmlpOut.v31_at x0 x1 x2 (rw_ n s) (col g k))
  change _ = val_main_v31 (F := Ideal) x0 x1 x2 (ix2 (rw_ n s) (col g k))
  pointwise [val_main_v32]
  rfl

theorem v27_at (n : Fin 32) (s : Fin 128) (j : Fin 768) : val_main_v27 (F := Ideal) x0 (ix2 (rw_ n s) j) = vh (cV x0 n s) j := by
  have h : ∀ k, val_main_v9 (F := Ideal) x0 (ix2 (rw_ n s) k) = glu (cV x0 n s k) := Cert.GmlpOut.v9_at x0 (rw_ n s)
  simp only [vh, rs, cen, mean, ← h]
  pointwise [val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_cst_1, val_main_cst_2,
    val_main_cst_3, val_main_cst_4, val_main_cst_5]
  try rfl

theorem v49_at (t : Fin 128) (g : Fin 6) : val_main_v49 (F := Ideal) x0 x5 (ix2 t g) = ∑ n, qB x0 x5 n g t := by
  unfold qB DB
  simp only [← v48_at]
  unfold val_main_v49
  generalize val_main_v48 (F := Ideal) x0 x5 = y
  simp only [Host.reduceAdd, Ideal.hostReduceAdd_def]
  refine (red03 _ _ _ t g).trans ?_
  rw [show val_main_cst_7 (F := Ideal) (Shape.Idx.first Gen.h_S_) = 0 from by pointwise [val_main_cst_7], zero_add]

theorem v65_at (g : Fin 6) (t : Fin 128) : val_main_v65 (F := Ideal) x0 x5 (ix3 g t 0) = ∑ n, qB x0 x5 n g t := by
  rw [← v49_at]
  have h : val_main_v51 (F := Ideal) x0 x5 (ix2 t g) = val_main_v50 (F := Ideal) x0 x5 (ix4 0 t g 0) := by
    unfold val_main_v51
    generalize val_main_v50 (F := Ideal) x0 x5 = y
    simp only [Host.reduceAdd, Ideal.hostReduceAdd_def]
    refine (red03 _ _ _ t g).trans ?_
    rw [show val_main_cst_8 (F := Ideal) (Shape.Idx.first Gen.h_S_) = 0 from by pointwise [val_main_cst_8], zero_add]
    rw [Fin.sum_univ_one, Fin.sum_univ_one]
  refine Eq.trans (b := val_main_v51 (F := Ideal) x0 x5 (ix2 t g)) ?_ (h.trans ?_)
  · pointwise [val_main_v65, val_main_v52]
  · pointwise [val_main_v50]

theorem v54_at (g : Fin 6) (t s : Fin 128) : val_main_v54 (F := Ideal) x0 x1 x2 x5 (ix3 g t s) =
    ∑ n, ∑ k, val_main_v53 (F := Ideal) x0 x5 (ix4 g n k t) * val_main_v32 (F := Ideal) x0 x1 x2 (ix4 n s g k) := by
  unfold val_main_v54
  generalize val_main_v53 (F := Ideal) x0 x5 = y0
  generalize val_main_v32 (F := Ideal) x0 x1 x2 = y1
  simp only [Host.dotGeneral]
  rw [Ideal.dotGeneral_apply, ValueIdx.sum_contr2 dot_S6x32x128x128_S32x128x6x128_S6x128x128_12_03_3_1_0_2 32 128 rfl rfl rfl]
  refine Finset.sum_congr rfl fun n _ => Finset.sum_congr rfl fun k _ => ?_
  have h0 := ValueIdx.contrEquiv2_symm_val0 dot_S6x32x128x128_S32x128x6x128_S6x128x128_12_03_3_1_0_2 32 128 rfl rfl rfl (n, k)
  have h1 := ValueIdx.contrEquiv2_symm_val1 dot_S6x32x128x128_S32x128x6x128_S6x128x128_12_03_3_1_0_2 32 128 rfl rfl rfl (n, k)
  generalize (ValueIdx.contrEquiv2 dot_S6x32x128x128_S32x128x6x128_S6x128x128_12_03_3_1_0_2 32 128 rfl rfl rfl).symm (n, k) = q at h0 h1 ⊢
  refine congrArg₂ (· * ·) (congrArg y0 (funext fun a => Fin.ext ?_)) (congrArg y1 (funext fun a => Fin.ext ?_))
  · match a with
    | ⟨0, _⟩ => rfl
    | ⟨1, _⟩ => exact h0
    | ⟨2, _⟩ => exact h1
    | ⟨3, _⟩ => rfl
  · match a with
    | ⟨0, _⟩ => exact h0
    | ⟨1, _⟩ => rfl
    | ⟨2, _⟩ => rfl
    | ⟨3, _⟩ => exact h1

theorem v53_at (g : Fin 6) (n : Fin 32) (k t : Fin 128) :
    val_main_v53 (F := Ideal) x0 x5 (ix4 g n k t) = DU (cC x5 n) (cU x0 n) t (col g k) := by
  rw [← v48_at]
  pointwise [val_main_v53]

theorem v58_at (g : Fin 6) (t s : Fin 128) : val_main_v58 (F := Ideal) x0 x1 x2 x5 (ix3 g t s) = ∑ n, qW x0 x1 x2 x5 n g t s := by
  refine Eq.trans (b := val_main_v54 (F := Ideal) x0 x1 x2 x5 (ix3 g t s) * val_main_v57 (F := Ideal) (ix3 g t s))
    (by pointwise [val_main_v58]) ?_
  rw [v57_at, v54_at]
  simp only [v53_at, v32_at, qW, DW]
  unfold msk
  split <;> simp

theorem v59_at (n : Fin 32) (s : Fin 128) (j : Fin 768) :
    val_main_v59 (F := Ideal) x0 x3 x5 (ix2 (rw_ n s) j) = qV x0 x3 x5 n s j := by
  obtain ⟨g, k, hj⟩ : ∃ (g : Fin 6) (k : Fin 128), j = col g k :=
    ⟨⟨j.val / 128, by omega⟩, ⟨j.val % 128, by omega⟩, Fin.ext (by change j.val = j.val / 128 * 128 + j.val % 128; omega)⟩
  subst hj
  have a1 : (⟨(col g k).val / 128, by omega⟩ : Fin 6) = g := Fin.ext (by change (g.val * 128 + k.val) / 128 = g.val; omega)
  unfold qV DV
  rw [a1]
  simp only [← v37_at, ← v53_at]
  refine Eq.trans (b := val_main_v55 (F := Ideal) x0 x3 x5 (ix4 g n k s)) ?_ ?_
  · pointwise [val_main_v59, val_main_v56]
    have a2 : (⟨(col g k).val % 128, by omega⟩ : Fin 128) = k := Fin.ext (by change (g.val * 128 + k.val) % 128 = k.val; omega)
    have a3 : (⟨(rw_ n s).val / 128, by omega⟩ : Fin 32) = n := Fin.ext (by change (n.val * 128 + s.val) / 128 = n.val; omega)
    have a4 : (⟨(rw_ n s).val % 128, by omega⟩ : Fin 128) = s := Fin.ext (by change (n.val * 128 + s.val) % 128 = s.val; omega)
    rw [a1, a2, a3, a4]
  · pointwise [val_main_v55]
    exact Finset.sum_congr rfl fun t _ => mul_comm _ _

theorem v61_at (j : Fin 768) : val_main_v61 (F := Ideal) x0 x3 x5 (ix2 0 j) = ∑ n, ∑ s, qV x0 x3 x5 n s j := by
  refine Eq.trans ?_ (Fin.sum_mul_add_congr (f := fun r => val_main_v59 (F := Ideal) x0 x3 x5 (ix2 r j))
    fun n s _ => (v59_at x0 x3 x5 n s j).symm).symm
  pointwise [val_main_v61, val_main_v60, val_main_cst_9]

theorem v64_at (j : Fin 768) : val_main_v64 (F := Ideal) x0 x3 x5 (ix2 0 j) =
    ∑ n, ∑ s, qV x0 x3 x5 n s j * vh (cV x0 n s) j := by
  refine Eq.trans ?_ (Fin.sum_mul_add_congr (f := fun r => val_main_v59 (F := Ideal) x0 x3 x5 (ix2 r j) *
    val_main_v27 (F := Ideal) x0 (ix2 r j)) fun n s _ => (congrArg₂ (· * ·) (v59_at x0 x3 x5 n s j) (v27_at x0 n s j)).symm).symm
  pointwise [val_main_v64, val_main_v63, val_main_v62, val_main_cst_10]
  exact Finset.sum_congr rfl fun t _ => mul_comm _ _
end Pure

end Cert.GmlpGradRef

end
-- ==== Proof.Gmlp.lean ====
/-
  The backward pass of the gated mixing: the gradients of the mixing weights, of their biases, of the norm's gain and of its
  shift, each a sum over the 32 chunks of 128 rows, two chunks a grid point.
-/
module

public import proofs.«01_k».proof.Proof.GmlpPt
public import proofs.«01_k».proof.Proof.GmlpGradRef
public import Idealize.ShloMosaic.Lib.Claim
public import proofs.«01_k».proof.Defs

@[expose] public section

set_option maxRecDepth 16384

noncomputable section

namespace Cert.Gmlp

open Idealize.ShloMosaic Idealize.ShloMosaic.TcCoe Idealize.SL.Sem Cert.GmlpMix Cert.GmlpGrad Cert.GmlpGradRef

section Kernel
open Cert.GmlpBwdIdeal Cert.GmlpBwdIdeal.Gen

variable (m : (ℓ : Loc nD τ sig) → Buf (Elt Ideal) ℓ) (c : Dev nD)

theorem idx : ∀ t : Fin cfg0.N, win0_0.index t = ![t.val, 0] ∧ win0_1.index t = ![t.val, 1] ∧ win0_2.index t = ![0, 0] ∧
    win0_3.index t = ![0, 0] ∧ win0_4.index t = ![0, 0, 0] ∧ win0_6.index t = ![t.val, 0] :=
  (by decide +kernel : ∀ t : Fin grid0.N, _)

abbrev P : FVec Ideal S4096x1792 .f32 := m ((c : Thread nD τ).loc main_arg0)
abbrev LG : FVec Ideal S1x768 .f32 := m ((c : Thread nD τ).loc main_arg1)
abbrev LB : FVec Ideal S1x768 .f32 := m ((c : Thread nD τ).loc main_arg2)
abbrev WS : FVec Ideal S6x128x128 .f32 := m ((c : Thread nD τ).loc main_arg3)
abbrev CT : FVec Ideal S4096x1024 .f32 := m ((c : Thread nD τ).loc main_arg5)

/-- Chunk `r` of point `t`. -/
def nn (t : Fin cfg0.N) (r : Fin 2) : Fin 32 := ⟨t.val * 2 + r.val, by
  have : t.val < 16 := lt_of_lt_of_eq t.isLt (show cfg0.N = 16 from N_0)
  omega⟩

theorem row_eq (t : Fin cfg0.N) (r : Fin 2) (s : Fin 128) : t.val * 256 + (row r s).val = (rw_ (nn t r) s).val := by
  change t.val * 256 + (r.val * 128 + s.val) = (t.val * 2 + r.val) * 128 + s.val
  omega

theorem b0 (t : Fin cfg0.N) (r : Fin 2) : ck (X0_0 m c t) r = cU (P m c) (nn t r) := by
  funext s j
  refine Eq.trans (b := P m c (ix2 ⟨t.val * 256 + (row r s).val, by rw [row_eq]; exact (rw_ _ _).isLt⟩ ⟨j.val, by omega⟩)) ?_ ?_
  · unfold ck X0_0 Pipeline.Window.fill
    rw [dif_pos (moved0_0 t _)]
    blk_point [iblk, V, idx t]
  · simp only [row_eq]
    rfl
theorem b1 (t : Fin cfg0.N) (r : Fin 2) : ck (X0_1 m c t) r = cV (P m c) (nn t r) := by
  funext s j
  refine Eq.trans (b := P m c (ix2 ⟨t.val * 256 + (row r s).val, by rw [row_eq]; exact (rw_ _ _).isLt⟩ ⟨768 + j.val, by omega⟩)) ?_ ?_
  · unfold ck X0_1 Pipeline.Window.fill
    rw [dif_pos (moved0_1 t _)]
    blk_point [iblk, V, idx t]
  · simp only [row_eq]
    rfl
theorem b6 (t : Fin cfg0.N) (r : Fin 2) : ck (X0_6 m c t) r = cC (CT m c) (nn t r) := by
  funext s j
  refine Eq.trans (b := CT m c (ix2 ⟨t.val * 256 + (row r s).val, by rw [row_eq]; exact (rw_ _ _).isLt⟩ ⟨j.val, by omega⟩)) ?_ ?_
  · unfold ck X0_6 Pipeline.Window.fill
    rw [dif_pos (moved0_6 t _)]
    blk_point [iblk, V, idx t]
  · simp only [row_eq]
    rfl
theorem b2 (t : Fin cfg0.N) : (fun j : Fin 768 => (iblk m c 2 t : FVec Ideal S1x768 .f32) (ix2 0 j)) = fun j => LG m c (ix2 0 j) := by
  funext j
  blk_point [iblk, V, idx t]
theorem b3 (t : Fin cfg0.N) : (fun j : Fin 768 => (iblk m c 3 t : FVec Ideal S1x768 .f32) (ix2 0 j)) = fun j => LB m c (ix2 0 j) := by
  funext j
  blk_point [iblk, V, idx t]
theorem b4 (t : Fin cfg0.N) : (fun (g : Fin 6) (a s : Fin 128) => (iblk m c 4 t : FVec Ideal S6x128x128 .f32) (ix3 g a s)) =
    fun g a s => WS m c (ix3 g a s) := by
  funext g a s
  blk_point [iblk, V, idx t]

theorem pW_eq (t : Fin cfg0.N) (r : Fin 2) : pW (X0_0 m c t) (X0_1 m c t) (X0_6 m c t) (iblk m c 2 t) (iblk m c 3 t) r =
    qW (P m c) (LG m c) (LB m c) (CT m c) (nn t r) := by
  unfold pW qW
  rw [b0, b1, b6, b2, b3]
theorem pB_eq (t : Fin cfg0.N) (r : Fin 2) : pB (X0_0 m c t) (X0_6 m c t) r = qB (P m c) (CT m c) (nn t r) := by
  unfold pB qB
  rw [b0, b6]
theorem pV_eq (t : Fin cfg0.N) (r : Fin 2) : pV (X0_0 m c t) (X0_6 m c t) (iblk m c 4 t) r =
    qV (P m c) (WS m c) (CT m c) (nn t r) := by
  unfold pV qV
  rw [b0, b6, b4]

/-- The points' pairs of chunks are the 32 chunks. -/
theorem pairs (f : Fin 32 → EReal) : ∑ t : Fin cfg0.N, (f (nn t 0) + f (nn t 1)) = ∑ n, f n := by
  refine Eq.trans (Finset.sum_congr rfl fun t _ => (Fin.sum_univ_two fun r => f (nn t r)).symm) ?_
  exact Fin.sum_mul_add_congr (fun _ _ _ => rfl)

theorem sW (i : S6x128x128.Idx) : (outsAt0 m c t0_15.val t0_15.isLt).2.1 i =
    ∑ n, qW (P m c) (LG m c) (LB m c) (CT m c) n (i 0) (i 1) (i 2) := by
  rw [← pairs (fun n => qW (P m c) (LG m c) (LB m c) (CT m c) n (i 0) (i 1) (i 2)), ← zero_add (∑ t : Fin cfg0.N, _)]
  refine Pipeline.eq_sum_fin_of_reset_step_apply_last (fun n h => (outsAt0 m c n h).2.1) 16 (fun _ => 0)
    (fun t (i : S6x128x128.Idx) => qW (P m c) (LG m c) (LB m c) (CT m c) (nn t 0) (i 0) (i 1) (i 2) +
      qW (P m c) (LG m c) (LB m c) (CT m c) (nn t 1) (i 0) (i 1) (i 2))
    (fun t h j => ?_) (fun t h j => ?_) (le_of_eq N_0) t0_15 rfl i
  · simp only [Cert.GmlpPt.wA m c t h, nW, pW_eq, add_assoc]
  · simp only [Cert.GmlpPt.wB m c t h, nW, pW_eq, add_assoc]

theorem sB (i : S6x128x1.Idx) : (outsAt0 m c t0_15.val t0_15.isLt).2.2.1 i = ∑ n, qB (P m c) (CT m c) n (i 0) (i 1) := by
  rw [← pairs (fun n => qB (P m c) (CT m c) n (i 0) (i 1)), ← zero_add (∑ t : Fin cfg0.N, _)]
  refine Pipeline.eq_sum_fin_of_reset_step_apply_last (fun n h => (outsAt0 m c n h).2.2.1) 16 (fun _ => 0)
    (fun t (i : S6x128x1.Idx) => qB (P m c) (CT m c) (nn t 0) (i 0) (i 1) + qB (P m c) (CT m c) (nn t 1) (i 0) (i 1))
    (fun t h j => ?_) (fun t h j => ?_) (le_of_eq N_0) t0_15 rfl i
  · simp only [Cert.GmlpPt.bA m c t h, nB, pB_eq, add_assoc]
  · simp only [Cert.GmlpPt.bB m c t h, nB, pB_eq, add_assoc]

theorem sG (i : S1x768.Idx) : (outsAt0 m c t0_15.val t0_15.isLt).2.2.2.1 i =
    ∑ n, ∑ s, qV (P m c) (WS m c) (CT m c) n s (i 1) * vh (cV (P m c) n s) (i 1) := by
  rw [← pairs (fun n => ∑ s, qV (P m c) (WS m c) (CT m c) n s (i 1) * vh (cV (P m c) n s) (i 1)),
    ← zero_add (∑ t : Fin cfg0.N, _)]
  refine Pipeline.eq_sum_fin_of_reset_step_apply_last (fun n h => (outsAt0 m c n h).2.2.2.1) 16 (fun _ => 0)
    (fun t (i : S1x768.Idx) => (∑ s, qV (P m c) (WS m c) (CT m c) (nn t 0) s (i 1) * vh (cV (P m c) (nn t 0) s) (i 1)) +
      ∑ s, qV (P m c) (WS m c) (CT m c) (nn t 1) s (i 1) * vh (cV (P m c) (nn t 1) s) (i 1))
    (fun t h j => ?_) (fun t h j => ?_) (le_of_eq N_0) t0_15 rfl i
  · simp only [Cert.GmlpPt.gA m c t h, nG, pV_eq, b1, add_assoc]
  · simp only [Cert.GmlpPt.gB m c t h, nG, pV_eq, b1, add_assoc]

theorem sL (i : S1x768.Idx) : (outsAt0 m c t0_15.val t0_15.isLt).2.2.2.2 i =
    ∑ n, ∑ s, qV (P m c) (WS m c) (CT m c) n s (i 1) := by
  rw [← pairs (fun n => ∑ s, qV (P m c) (WS m c) (CT m c) n s (i 1)), ← zero_add (∑ t : Fin cfg0.N, _)]
  refine Pipeline.eq_sum_fin_of_reset_step_apply_last (fun n h => (outsAt0 m c n h).2.2.2.2) 16 (fun _ => 0)
    (fun t (i : S1x768.Idx) => (∑ s, qV (P m c) (WS m c) (CT m c) (nn t 0) s (i 1)) +
      ∑ s, qV (P m c) (WS m c) (CT m c) (nn t 1) s (i 1))
    (fun t h j => ?_) (fun t h j => ?_) (le_of_eq N_0) t0_15 rfl i
  · simp only [Cert.GmlpPt.lA m c t h, nL, pV_eq, add_assoc]
  · simp only [Cert.GmlpPt.lB m c t h, nL, pV_eq, add_assoc]

theorem finalW : (dats m 0 c).arrAt 8 (cfgs 0).N = fun i : S6x128x128.Idx =>
    ∑ n, qW (P m c) (LG m c) (LB m c) (CT m c) n (i 0) (i 1) (i 2) := by
  refine (dats m 0 c).arrAt_eq_of_after_last 8 t0_15 (by decide +kernel) _ fun j => ?_
  rw [after0_8]
  blk_simp
  exact sW m c _
theorem finalB : (dats m 0 c).arrAt 9 (cfgs 0).N = fun i : S6x128x1.Idx => ∑ n, qB (P m c) (CT m c) n (i 0) (i 1) := by
  refine (dats m 0 c).arrAt_eq_of_after_last 9 t0_15 (by decide +kernel) _ fun j => ?_
  rw [after0_9]
  blk_simp
  exact sB m c _
theorem finalG : (dats m 0 c).arrAt 10 (cfgs 0).N = fun i : S1x768.Idx =>
    ∑ n, ∑ s, qV (P m c) (WS m c) (CT m c) n s (i 1) * vh (cV (P m c) n s) (i 1) := by
  refine (dats m 0 c).arrAt_eq_of_after_last 10 t0_15 (by decide +kernel) _ fun j => ?_
  rw [after0_10]
  blk_simp
  exact sG m c _
theorem finalL : (dats m 0 c).arrAt 11 (cfgs 0).N = fun i : S1x768.Idx =>
    ∑ n, ∑ s, qV (P m c) (WS m c) (CT m c) n s (i 1) := by
  refine (dats m 0 c).arrAt_eq_of_after_last 11 t0_15 (by decide +kernel) _ fun j => ?_
  rw [after0_11]
  blk_simp
  exact sL m c _
end Kernel

section Reference
open Cert.GmlpBwdRefIdeal Cert.GmlpBwdRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v58) = val_main_v58 (F := Ideal)
        (m ((c.tc : Thread nD τ).loc main_arg0)) (m ((c.tc : Thread nD τ).loc main_arg1))
        (m ((c.tc : Thread nD τ).loc main_arg2)) (m ((c.tc : Thread nD τ).loc main_arg5))
      ∧ r.2.mem ((c.tc : Thread nD τ).loc main_v65) = val_main_v65 (F := Ideal)
        (m ((c.tc : Thread nD τ).loc main_arg0)) (m ((c.tc : Thread nD τ).loc main_arg5))
      ∧ r.2.mem ((c.tc : Thread nD τ).loc main_v64) = val_main_v64 (F := Ideal)
        (m ((c.tc : Thread nD τ).loc main_arg0)) (m ((c.tc : Thread nD τ).loc main_arg3)) (m ((c.tc : Thread nD τ).loc main_arg5))
      ∧ r.2.mem ((c.tc : Thread nD τ).loc main_v61) = val_main_v61 (F := Ideal)
        (m ((c.tc : Thread nD τ).loc main_arg0)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => ⟨(h c).1.trans (val_main_v58_eq _ _), (h c).2.1.trans (val_main_v65_eq _ _),
    (h c).2.2.1.trans (val_main_v64_eq _ _), (h c).2.2.2.1.trans (val_main_v61_eq _ _ _), (h c).2.2.2.2⟩,
    sem_eq_zero_of_no_sems (by decide) r.2⟩) (Value.run m ρ)
end Reference

theorem frame_ref : Cert.quiescent_GmlpBwdRefIdeal := fun m g _ =>
  (θ_run Cert.GmlpBwdRefIdeal.defs _ _).mono (fun _ h => ⟨fun c => (h.1 c).2.2.2.2, h.2⟩) (run_ref m g)

theorem algebraic : Cert.algebraic_GmlpBwdIdeal_GmlpBwdRefIdeal := by
  pair_intro
  · run_from Cert.GmlpBwdIdeal.Gen.run_main m g
  · refine (θ_run Cert.GmlpBwdRefIdeal.defs _ _).mono (fun r h c => ?_) (run_ref m' g')
    obtain ⟨h0, h1, h2, h3, h4⟩ := h.1 c
    obtain ⟨e0, e1, e2, e3, e4, e5⟩ := hagree c
    refine ⟨h0.trans ?_, h1.trans ?_, h2.trans ?_, h3.trans ?_, h4⟩
    · rw [e0, e1, e2, e5, finalW m c]
      funext i
      idx_vars i
      exact v58_at _ _ _ _ i0 i1 i2
    · rw [e0, e5, finalB m c]
      funext i
      idx_vars i
      have a : i2 = 0 := Fin.ext (by have := i2.isLt; omega)
      rw [a]
      exact v65_at _ _ i0 i1
    · rw [e0, e3, e5, finalG m c]
      funext i
      idx_vars i
      have a : i0 = 0 := Fin.ext (by have := i0.isLt; omega)
      rw [a]
      exact v64_at _ _ _ i1
    · rw [e0, e3, e5, finalL m c]
      funext i
      idx_vars i
      have a : i0 = 0 := Fin.ext (by have := i0.isLt; omega)
      rw [a]
      exact v61_at _ _ _ i1

end Cert.Gmlp

end
-- ==== Proof.MixNorm.lean ====
/-
  `mix_norm0`: the norm of 4096 rows, over eight blocks of 512, is the norm.
-/
module

public import proofs.«01_k».proof.Proof.Gen.MixNormIdeal.Value
public import proofs.«01_k».proof.Proof.Gen.MixNormRefIdeal.Run
public import proofs.«01_k».proof.Proof.Gen.MixNormRefIdeal.Read
public import Idealize.ShloMosaic.Lib.Pipeline.ValueKit
public import Idealize.ShloMosaic.Lib.Claim
public import proofs.«01_k».proof.Defs

@[expose] public section

set_option maxRecDepth 16384

noncomputable section

namespace Cert.NormFwd

open Idealize.ShloMosaic Idealize.ShloMosaic.TcCoe Idealize.SL.Sem
open Idealize.ShloMosaic.Pipeline (Dat)

/-- One normed element: of its row and of its column's gain. -/
def nrm (r : Fin 1024 → EReal) (g : EReal) (j : Fin 1024) : EReal :=
  r j * Ideal.rsqrt (Ideal.div (∑ k, r k * r k) (Ideal.ofBits .f32 0x44800000#32) + Ideal.ofBits .f32 0x358637BD#32) * g

section Kernel
open Cert.MixNormIdeal Cert.MixNormIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev X : FVec Ideal S4096x1024 .f32 := m ((c : Thread nD τ).loc main_arg0)
abbrev G : FVec Ideal S1x1024 .f32 := m ((c : Thread nD τ).loc main_arg1)

/-- Row `r` of block `t`. -/
def at_ (t : Fin cfg0.N) (r : Fin 512) : Fin 4096 := ⟨t.val * 512 + r.val, by
  have : t.val < 8 := lt_of_lt_of_eq t.isLt (show cfg0.N = 8 from N_0)
  omega⟩

theorem b0 (t : Fin cfg0.N) (r : Fin 512) (j : Fin 1024) : iblk m c 0 t (ix2 r j) = X m c (ix2 (at_ t r) j) := by
  blk_point [iblk, V, idx t, at_]
theorem b1 (t : Fin cfg0.N) (j : Fin 1024) : iblk m c 1 t (ix2 0 j) = G m c (ix2 0 j) := by
  blk_point [iblk, V, idx t]

theorem pay (x : FVec Ideal S512x1024 .f32) (g : FVec Ideal S1x1024 .f32) (r : Fin 512) (j : Fin 1024) :
    k0_pay1 (F := Ideal) x g (ix2 r j) = nrm (fun k => x (ix2 r k)) (g (ix2 0 j)) j := by
  pointwise [k0_pay1, nrm]
  try rfl

/-- The normed array. -/
def nrmA (x : FVec Ideal S4096x1024 .f32) (g : FVec Ideal S1x1024 .f32) : FVec Ideal S4096x1024 .bf16 :=
  fun i => nrm (fun k => x (ix2 (i 0) k)) (g (ix2 0 (i 1))) (i 1)

theorem nrm_emb (t : Fin cfg0.N) (y : S512x1024.Idx) (i : S4096x1024.Idx) (h0 : (i 0).val = t.val * 512 + (y 0).val)
    (h1 : (i 1).val = (y 1).val) : k0_pay1 (iblk m c 0 t) (iblk m c 1 t) y = nrmA (X m c) (G m c) i := by
  idx_vars y
  have e0 : i 0 = at_ t y0 := Fin.ext h0
  have e1 : i 1 = y1 := Fin.ext h1
  refine (pay _ _ y0 y1).trans ?_
  unfold nrmA
  rw [e0, e1, b1]
  simp only [b0]

theorem final : (dats m 0 c).arrAt 2 (cfgs 0).N = nrmA (X m c) (G m c) := by
  refine (dats m 0 c).arrAt_eq_of_covers 2 _ (by decide +kernel) fun t hf y => ?_
  blk_simp
  rw [after0_2]
  frame_out
  refine nrm_emb m c t y _ ?_ ?_
  · blk_simp [idx t]
  · blk_simp [idx t]
end Kernel

section Pure
open Cert.MixNormRefIdeal.Read

theorem ref_eq (x : FVec Ideal MixNormIdeal.S4096x1024 .f32) (g : FVec Ideal MixNormIdeal.S1x1024 .f32) :
    val_main_v12 (F := Ideal) x g = nrmA x g := by
  funext j
  idx_vars j
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, nrmA, nrm]
  try rfl
end Pure

section Reference
open Cert.MixNormRefIdeal Cert.MixNormRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v12) = val_main_v12 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v12_eq _ _), (h c).2⟩,
    sem_eq_zero_of_no_sems (by decide) r.2⟩) (Value.run m ρ)
end Reference

theorem frame_ref : Cert.quiescent_MixNormRefIdeal := fun m g _ =>
  (θ_run Cert.MixNormRefIdeal.defs _ _).mono (fun _ h => ⟨fun c => (h.1 c).2, h.2⟩) (run_ref m g)

theorem algebraic : Cert.algebraic_MixNormIdeal_MixNormRefIdeal := by
  pair_intro
  · run_from Cert.MixNormIdeal.Gen.run_main m g
  · refine (θ_run Cert.MixNormRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.NormFwd

end
-- ==== Proof.OutProj.lean ====
/-
  `out_proj0`: the output projection's product with the residual added, and its norm, over four blocks of 1024 rows.
-/
module

public import proofs.«01_k».proof.Proof.Gen.OutProjIdeal.Value
public import proofs.«01_k».proof.Proof.Gen.OutProjRefIdeal.Run
public import proofs.«01_k».proof.Proof.Gen.OutProjRefIdeal.Read
public import proofs.«01_k».proof.Proof.MixNorm
public import Idealize.ShloMosaic.Lib.Pipeline.ValueKit
public import Idealize.ShloMosaic.Lib.Claim
public import proofs.«01_k».proof.Defs

@[expose] public section

set_option maxRecDepth 16384

noncomputable section

namespace Cert.OutSum

open Idealize.ShloMosaic Idealize.ShloMosaic.TcCoe Idealize.SL.Sem Cert.NormFwd
open Idealize.ShloMosaic.Pipeline (Dat)

section Kernel
open Cert.OutProjIdeal Cert.OutProjIdeal.Gen

/-- One element of the product with the residual added. -/
def prd (h : Fin 1024 → EReal) (w : Fin 1024 → Fin 1024 → EReal) (x : Fin 1024 → EReal) (j : Fin 1024) : EReal :=
  ∑ k, h k * w k j + x j

/-- … over the whole arrays. -/
def sumA (h : FVec Ideal S4096x1024 .bf16) (w : FVec Ideal S1024x1024 .f32) (x : FVec Ideal S4096x1024 .f32) :
    FVec Ideal S4096x1024 .f32 :=
  fun i => prd (fun k => h (ix2 (i 0) k)) (fun k j => w (ix2 k j)) (fun k => x (ix2 (i 0) k)) (i 1)

/-- … and its norm. -/
def normA (h : FVec Ideal S4096x1024 .bf16) (w : FVec Ideal S1024x1024 .f32) (x : FVec Ideal S4096x1024 .f32)
    (g : FVec Ideal S1x1024 .f32) : FVec Ideal S4096x1024 .bf16 :=
  fun i => nrm (fun j => sumA h w x (ix2 (i 0) j)) (g (ix2 0 (i 1))) (i 1)

theorem pay1 (h w : FVec Ideal S1024x1024 .bf16) (x : FVec Ideal S1024x1024 .f32) (r j : Fin 1024) :
    k0_pay1 (F := Ideal) h w x (ix2 r j) = prd (fun k => h (ix2 r k)) (fun k j => w (ix2 k j)) (fun k => x (ix2 r k)) j := by
  pointwise [k0_pay1, prd]
  try rfl

theorem pay2 (h w : FVec Ideal S1024x1024 .bf16) (x : FVec Ideal S1024x1024 .f32) (g : FVec Ideal S1x1024 .f32) (r j : Fin 1024) :
    k0_pay2 (F := Ideal) h w x g (ix2 r j) = nrm (fun k => k0_pay1 (F := Ideal) h w x (ix2 r k)) (g (ix2 0 j)) j := by
  unfold k0_pay2
  generalize k0_pay1 (F := Ideal) h w x = y
  pointwise [nrm]
  try rfl

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![t.val, 0] :=
  (by decide +kernel : ∀ t : Fin grid0.N, _)

abbrev H : FVec Ideal S4096x1024 .bf16 := m ((c : Thread nD τ).loc main_arg0)
abbrev W : FVec Ideal S1024x1024 .f32 := m ((c : Thread nD τ).loc main_arg1)
abbrev X : FVec Ideal S4096x1024 .f32 := m ((c : Thread nD τ).loc main_arg2)
abbrev G : FVec Ideal S1x1024 .f32 := m ((c : Thread nD τ).loc main_arg3)

/-- Row `r` of block `t`. -/
def at_ (t : Fin cfg0.N) (r : Fin 1024) : Fin 4096 := ⟨t.val * 1024 + r.val, by
  have : t.val < 4 := lt_of_lt_of_eq t.isLt (show cfg0.N = 4 from N_0)
  omega⟩

theorem b0 (t : Fin cfg0.N) (r j : Fin 1024) : iblk m c 0 t (ix2 r j) = H m c (ix2 (at_ t r) j) := by
  blk_point [iblk, V, idx t, at_]
theorem b1 (t : Fin cfg0.N) (k j : Fin 1024) : iblk m c 1 t (ix2 k j) = W m c (ix2 k j) := by
  have hV : V m c main_v0 = truncf (F := Ideal) .bf16 (W m c) bitsLt_bf16_f32 := by
    unfold V; after_results; try rfl
  refine Eq.trans (b := V m c main_v0 (ix2 k j)) ?_ (by rw [hV]; rfl)
  blk_point [iblk, idx t]
theorem b2 (t : Fin cfg0.N) (r j : Fin 1024) : iblk m c 2 t (ix2 r j) = X m c (ix2 (at_ t r) j) := by
  blk_point [iblk, V, idx t, at_]
theorem b3 (t : Fin cfg0.N) (j : Fin 1024) : iblk m c 3 t (ix2 0 j) = G m c (ix2 0 j) := by
  blk_point [iblk, V, idx t]

theorem sum_at (t : Fin cfg0.N) (r j : Fin 1024) :
    k0_pay1 (iblk m c 0 t) (iblk m c 1 t) (iblk m c 2 t) (ix2 r j) = sumA (H m c) (W m c) (X m c) (ix2 (at_ t r) j) := by
  refine (pay1 _ _ _ r j).trans ?_
  unfold sumA
  simp only [b0, b1, b2]
  rfl

theorem sum_emb (t : Fin cfg0.N) (y : S1024x1024.Idx) (i : S4096x1024.Idx) (h0 : (i 0).val = t.val * 1024 + (y 0).val)
    (h1 : (i 1).val = (y 1).val) :
    k0_pay1 (iblk m c 0 t) (iblk m c 1 t) (iblk m c 2 t) y = sumA (H m c) (W m c) (X m c) i := by
  idx_vars y
  have e0 : i 0 = at_ t y0 := Fin.ext h0
  have e1 : i 1 = y1 := Fin.ext h1
  refine (sum_at m c t y0 y1).trans ?_
  unfold sumA
  rw [e0, e1]
  rfl

theorem norm_emb (t : Fin cfg0.N) (y : S1024x1024.Idx) (i : S4096x1024.Idx) (h0 : (i 0).val = t.val * 1024 + (y 0).val)
    (h1 : (i 1).val = (y 1).val) :
    k0_pay2 (iblk m c 0 t) (iblk m c 1 t) (iblk m c 2 t) (iblk m c 3 t) y = normA (H m c) (W m c) (X m c) (G m c) i := by
  idx_vars y
  have e0 : i 0 = at_ t y0 := Fin.ext h0
  have e1 : i 1 = y1 := Fin.ext h1
  refine (pay2 _ _ _ _ y0 y1).trans ?_
  unfold normA
  rw [e0, e1, b3]
  simp only [sum_at]

theorem final4 : (dats m 0 c).arrAt 4 (cfgs 0).N = sumA (H m c) (W m c) (X m c) := by
  refine (dats m 0 c).arrAt_eq_of_covers 4 _ (by decide +kernel) fun t hf y => ?_
  blk_simp
  rw [after0_4]
  frame_out
  refine sum_emb m c t y _ ?_ ?_
  · blk_simp [idx t]
  · blk_simp [idx t]

theorem final5 : (dats m 0 c).arrAt 5 (cfgs 0).N = normA (H m c) (W m c) (X m c) (G m c) := by
  refine (dats m 0 c).arrAt_eq_of_covers 5 _ (by decide +kernel) fun t hf y => ?_
  blk_simp
  rw [after0_5]
  frame_out
  refine norm_emb m c t y _ ?_ ?_
  · blk_simp [idx t]
  · blk_simp [idx t]
end Kernel

section Reference
open Cert.OutProjRefIdeal Cert.OutProjRefIdeal.Read

theorem ref2 (h : FVec Ideal OutProjIdeal.S4096x1024 .bf16) (w : FVec Ideal OutProjIdeal.S1024x1024 .f32)
    (x : FVec Ideal OutProjIdeal.S4096x1024 .f32) : val_main_v2 (F := Ideal) h w x = sumA h w x := by
  funext j
  idx_vars j
  pointwise [val_main_v2, val_main_v1, val_main_v0, sumA, prd]
  try first | rfl | exact add_comm _ _

theorem ref15 (h : FVec Ideal OutProjIdeal.S4096x1024 .bf16) (w : FVec Ideal OutProjIdeal.S1024x1024 .f32)
    (x : FVec Ideal OutProjIdeal.S4096x1024 .f32) (g : FVec Ideal OutProjIdeal.S1x1024 .f32) :
    val_main_v15 (F := Ideal) h w x g = normA h w x g := by
  funext j
  idx_vars j
  unfold normA
  rw [← ref2]
  simp only [val_main_v15, val_main_v14, val_main_v12, val_main_v11, val_main_v10, val_main_v9, val_main_v7, val_main_v5, val_main_v4,
    val_main_v3]
  generalize val_main_v2 (F := Ideal) h w x = y
  pointwise [val_main_v13, val_main_v8, val_main_cst_1, val_main_v6, val_main_cst_0, val_main_cst, nrm]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v2) = val_main_v2 (F := Ideal) (m ((c.tc : Thread nD τ).loc main_arg0))
        (m ((c.tc : Thread nD τ).loc main_arg1)) (m ((c.tc : Thread nD τ).loc main_arg2))
      ∧ r.2.mem ((c.tc : Thread nD τ).loc main_v15) = val_main_v15 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c).1.trans (val_main_v2_eq _ _ _), (h c).2.1.trans (val_main_v15_eq _ _ _ _),
    (h c).2.2⟩, sem_eq_zero_of_no_sems (by decide) r.2⟩) (Value.run m ρ)
end Reference

theorem frame_ref : Cert.quiescent_OutProjRefIdeal := fun m g _ =>
  (θ_run Cert.OutProjRefIdeal.defs _ _).mono (fun _ h => ⟨fun c => (h.1 c).2.2, h.2⟩) (run_ref m g)

theorem algebraic : Cert.algebraic_OutProjIdeal_OutProjRefIdeal := by
  pair_intro
  · run_from Cert.OutProjIdeal.Gen.run_main m g
  · refine (θ_run Cert.OutProjRefIdeal.defs _ _).mono (fun r h c => ?_) (run_ref m' g')
    obtain ⟨h0, h1, h2⟩ := h.1 c
    obtain ⟨e0, e1, e2, e3⟩ := hagree c
    refine ⟨h0.trans ?_, h1.trans ?_, h2⟩
    · rw [e0, e1, e2, final4 m c]
      exact ref2 _ _ _
    · rw [e0, e1, e2, e3, final5 m c]
      exact ref15 _ _ _ _

end Cert.OutSum

end
-- ==== Proof.GmDx.lean ====
/-
  `gm_in_dx`: the product with the transposed weight, two blocks of the contracted axis accumulated, and the norm's
  gradient of its rows, are the derivative of the product of the norm.
-/
module

public import proofs.«01_k».proof.Proof.Gen.GmInDxIdeal.Value
public import proofs.«01_k».proof.Proof.Gen.GmInDxIdeal.Frame
public import proofs.«01_k».proof.Proof.Gen.GmInDxRefIdeal.Run
public import proofs.«01_k».proof.Proof.Gen.GmInDxRefIdeal.Read
public import proofs.«01_k».proof.Proof.Gen.Pre_gm_in_dx_pre
public import proofs.«01_k».proof.Proof.Strip
public import Idealize.ShloMosaic.Lib.Pipeline.ValueKit
public import Idealize.ShloMosaic.Lib.Claim
public import proofs.«01_k».proof.Defs

@[expose] public section

set_option maxRecDepth 16384

noncomputable section

namespace Cert.GmDx

open Idealize.ShloMosaic Idealize.ShloMosaic.TcCoe Idealize.SL.Sem Cert.Strip
open Idealize.ShloMosaic.Pipeline (Dat)

section Loop
open Cert.GmInDxIdeal Cert.GmInDxIdeal.Gen

theorem pay8_at (g : Vec Ideal S1x1024 .f32) (d x r : Vec Ideal S128x1024 .f32) (i : Fin 128) (j : Fin 1024) :
    k0_pay8 g d x r (ix2 i j) = DX (n := 128) d x r g (ix2 i j) := by
  pointwise [k0_pay8, k0_pay7, k0_pay6, DX, ker, rs]

theorem pay9_at (a : Vec Ideal S1x1024 .f32) (d x : Vec Ideal S128x1024 .f32) (z : Fin 1) (j : Fin 1024) :
    k0_pay9 a d x (ix2 z j) = a (ix2 z j) + ∑ i, DG (n := 128) d x j i := by
  pointwise [k0_pay9, k0_pay7, k0_pay6, DG, rs]

theorem trips : k0_t1_loop.trips = 8 := by decide
theorem off : ∀ k : Fin k0_t1_loop.trips, k0_off1 k = ![k.val * 128, 0] := by decide

variable (𝒱 : Variants) (c : Dev nD) (bd : Option 𝒱.V) (i : grid0.Coords) (arg3 : Memref sig .tc .vmem S1024x896 .bf16)
  (harg3 : arg3.IsWhole) (arg4 : Memref sig .tc .vmem S896x1024 .bf16) (harg4 : arg4.IsWhole)
  (arg5 : Memref sig .tc .vmem S1024x1024 .f32) (harg5 : arg5.IsWhole) (arg6 : Memref sig .tc .vmem S1x1024 .f32)
  (harg6 : arg6.IsWhole) (arg7 : Memref sig .tc .vmem S1024x1024 .f32) (harg7 : arg7.IsWhole)
  (arg8 : Memref sig .tc .vmem S1024x1024 .f32)
  (harg8 : arg8.IsWhole) (arg9 : Memref sig .tc .vmem S1x1024 .f32) (harg9 : arg9.IsWhole)
  (arg10 : Memref sig .tc .vmem S1024x1024 .f32) (harg10 : arg10.IsWhole) (k0_h3 : k0_cond3 i = 1#1)
  (v23 : Vec Ideal S1x1024 .f32) (X_arg5 : BufTy.Contents (Elt Ideal) arg5.view.ty)
  (X_arg7 : BufTy.Contents (Elt Ideal) arg7.view.ty) (X_arg10 : BufTy.Contents (Elt Ideal) arg10.view.ty)

theorem tripR (k : Fin 8) (acc : FVec Ideal S1x1024 .f32) (z : Fin 1) (j : Fin 1024) :
    tripR_k0_t1 (F := Ideal) 𝒱 c bd i arg3 harg3 arg4 harg4 arg5 harg5 arg6 harg6 arg7 harg7 arg8 harg8 arg9 harg9 arg10 harg10 k0_h3 v23 X_arg5 X_arg7 X_arg10 (Fin.cast trips.symm k) acc (ix2 z j) =
      acc (ix2 z j) + ∑ i, DG (arg10.view.read (Elt Ideal) X_arg10) (arg7.view.read (Elt Ideal) X_arg7) j (rowAt k i) := by
  unfold tripR_k0_t1 trip_k0_t1
  dsimp only
  refine (pay9_at _ _ _ z j).trans (congrArg (acc (ix2 z j) + ·) (Finset.sum_congr rfl fun i _ => ?_))
  have e : ∀ (b : Memref sig .tc .vmem S1024x1024 .f32) X h i' j', b.view.readAt (Elt Ideal)
      (Rect.unit (s := SB) (k0_off1 (Fin.cast trips.symm k)) SS.size h).toLoadRect X (ix2 i' j') = _ :=
    fun b X h i' j' => readAt_at b.view X k (off _) h i' j'
  exact congrArg₂ (· * ·) (e arg10 _ _ i j) (congrArg₂ (· * ·) (e arg7 _ _ i j) (congrArg rs (funext fun k' => e arg7 _ _ i k')))

theorem tripL (k : Fin 8) (acc : FVec Ideal S1x1024 .f32) : ∃ (P : SS.Idx → EReal) (h : ∀ a, k0_off1 (Fin.cast trips.symm k) a + SS.size a ≤ SB.size a), tripL_k0_t1 (F := Ideal) 𝒱 c bd i arg3 harg3 arg4 harg4 arg5 harg5 arg6 harg6 arg7 harg7 arg8 harg8 arg9 harg9 arg10 harg10 k0_h3 v23 X_arg5 X_arg7 X_arg10
      (Fin.cast trips.symm k) acc = [⟨Rect.unit (s := SB) (k0_off1 (Fin.cast trips.symm k)) SS.size h, P⟩] ∧
    ∀ i j, P (ix2 i j) = DX (arg10.view.read (Elt Ideal) X_arg10) (arg7.view.read (Elt Ideal) X_arg7)
      (arg5.view.read (Elt Ideal) X_arg5) v23 (ix2 (rowAt k i) j) := by
  unfold tripL_k0_t1 trip_k0_t1
  dsimp only
  refine ⟨_, _, rfl, fun i j => ?_⟩
  have e : ∀ (b : Memref sig .tc .vmem S1024x1024 .f32) X h i' j', b.view.readAt (Elt Ideal)
      (Rect.unit (s := SB) (k0_off1 (Fin.cast trips.symm k)) SS.size h).toLoadRect X (ix2 i' j') = _ :=
    fun b X h i' j' => readAt_at b.view X k (off _) h i' j'
  refine (pay8_at _ _ _ _ i j).trans ?_
  exact congrArg₂ (· + ·) (e arg5 _ _ i j) (congrArg₂ (fun x u => ker x u j) (funext fun k' => e arg7 _ _ i k')
    (funext fun k' => congrArg (· * v23 (ix2 0 k')) (e arg10 _ _ i k')))

/-- What the strips leave of the rows … -/
theorem st_rows (init : FVec Ideal S1x1024 .f32) : View.canon (st_k0_t1 (F := Ideal) 𝒱 c bd i arg3 harg3 arg4 harg4 arg5 harg5 arg6 harg6 arg7 harg7 arg8 harg8 arg9 harg9 arg10 harg10 k0_h3 v23 X_arg5 X_arg7 X_arg10 init 8).2 =
    DX (arg10.view.read (Elt Ideal) X_arg10) (arg7.view.read (Elt Ideal) X_arg7)
      (arg5.view.read (Elt Ideal) X_arg5) v23 := by
  choose P h hP hv using fun k acc => tripL 𝒱 c bd i arg3 harg3 arg4 harg4 arg5 harg5 arg6 harg6 arg7 harg7 arg8 harg8 arg9 harg9 arg10 harg10 k0_h3 v23 X_arg5 X_arg7 X_arg10 k acc
  refine canon_strips (st_k0_t1 (F := Ideal) 𝒱 c bd i arg3 harg3 arg4 harg4 arg5 harg5 arg6 harg6 arg7 harg7 arg8 harg8 arg9 harg9 arg10 harg10 k0_h3 v23 X_arg5 X_arg7 X_arg10 init) (fun k => k0_off1 (Fin.cast trips.symm k)) (fun k => h k (st_k0_t1 (F := Ideal) 𝒱 c bd i arg3 harg3 arg4 harg4 arg5 harg5 arg6 harg6 arg7 harg7 arg8 harg8 arg9 harg9 arg10 harg10 k0_h3 v23 X_arg5 X_arg7 X_arg10 init k.val).1) (fun k => P k (st_k0_t1 (F := Ideal) 𝒱 c bd i arg3 harg3 arg4 harg4 arg5 harg5 arg6 harg6 arg7 harg7 arg8 harg8 arg9 harg9 arg10 harg10 k0_h3 v23 X_arg5 X_arg7 X_arg10 init k.val).1) _ (fun k => off _) (fun k => ?_) (fun k i j => hv k _ i j) rfl
  rw [← hP]
  exact congrArg Prod.snd (st_k0_t1_succ 𝒱 c bd i arg3 harg3 arg4 harg4 arg5 harg5 arg6 harg6 arg7 harg7 arg8 harg8 arg9 harg9 arg10 harg10 k0_h3 v23 X_arg5 X_arg7 X_arg10 init (Fin.cast trips.symm k))

/-- … and the value carried. -/
theorem st_sum (init : FVec Ideal S1x1024 .f32) (z : Fin 1) (j : Fin 1024) : (st_k0_t1 (F := Ideal) 𝒱 c bd i arg3 harg3 arg4 harg4 arg5 harg5 arg6 harg6 arg7 harg7 arg8 harg8 arg9 harg9 arg10 harg10 k0_h3 v23 X_arg5 X_arg7 X_arg10 init 8).1 (ix2 z j) =
    init (ix2 z j) + ∑ r, DG (arg10.view.read (Elt Ideal) X_arg10) (arg7.view.read (Elt Ideal) X_arg7) j r :=
  carried_rows (fun n => (st_k0_t1 (F := Ideal) 𝒱 c bd i arg3 harg3 arg4 harg4 arg5 harg5 arg6 harg6 arg7 harg7 arg8 harg8 arg9 harg9 arg10 harg10 k0_h3 v23 X_arg5 X_arg7 X_arg10 init n).1 (ix2 z j)) _ fun k =>
    (congrFun (congrArg Prod.fst (st_k0_t1_succ 𝒱 c bd i arg3 harg3 arg4 harg4 arg5 harg5 arg6 harg6 arg7 harg7 arg8 harg8 arg9 harg9 arg10 harg10 k0_h3 v23 X_arg5 X_arg7 X_arg10 init (Fin.cast trips.symm k))) _).trans (tripR 𝒱 c bd i arg3 harg3 arg4 harg4 arg5 harg5 arg6 harg6 arg7 harg7 arg8 harg8 arg9 harg9 arg10 harg10 k0_h3 v23 X_arg5 X_arg7 X_arg10 k _ z j)

end Loop

section Kernel
open Cert.GmInDxIdeal Cert.GmInDxIdeal.Gen

variable (m : (ℓ : Loc nD τ sig) → Buf (Elt Ideal) ℓ) (c : Dev nD)

theorem idx : ∀ t : Fin cfg0.N, win0_0.index t = ![t.val / 2, t.val % 2] ∧
    win0_1.index t = ![t.val % 2, 0] ∧ win0_2.index t = ![t.val / 2, 0] ∧ win0_3.index t = ![0, 0] ∧
    win0_4.index t = ![t.val / 2, 0] ∧ win0_5.index t = ![t.val / 2, 0] ∧ win0_6.index t = ![0, 0] :=
  (by decide +kernel : ∀ t : Fin grid0.N, _)

/-- A block's contribution to the product. -/
def pr (b : Vec Ideal S1024x896 .bf16) (d : Vec Ideal S896x1024 .bf16) (y : S1024x1024.Idx) : EReal :=
  ∑ x, b (ix2 (y 0) x) * d (ix2 x (y 1))

theorem pay1_eq (b : Vec Ideal S1024x896 .bf16) (d : Vec Ideal S896x1024 .bf16) : k0_pay1 (F := Ideal) b d = pr b d := by
  refine funext fun y => ?_
  idx_vars y
  pointwise [k0_pay1, pr]
theorem pay4_eq (a : Vec Ideal S1024x1024 .f32) (b : Vec Ideal S1024x896 .bf16) (d : Vec Ideal S896x1024 .bf16) :
    k0_pay4 a b d = fun y => a y + pr b d y := by
  refine funext fun y => ?_
  idx_vars y
  pointwise [k0_pay4, pr]

theorem pay10_at (a b : Vec Ideal S1x1024 .f32) (z : Fin 1) (j : Fin 1024) : k0_pay10 a b (ix2 z j) = a (ix2 z j) + b (ix2 z j) := by
  pointwise [k0_pay10]
theorem pay3_at (z : Fin 1) (j : Fin 1024) : k0_pay3 (F := Ideal) (ix2 z j) = 0 := by
  pointwise [k0_pay3]
theorem pay5_at (z : Fin 1) (j : Fin 1024) : k0_pay5 (F := Ideal) (ix2 z j) = 0 := by
  pointwise [k0_pay5]

theorem N8 : cfg0.N = 8 := N_0

/-- The scratch as the last point's loop reads it. -/
theorem scratch_read (t : Fin cfg0.N) (X : Vec Ideal S1024x1024 .f32) :
    View.read (Elt Ideal) (View.whole cc0_scratch0) ((View.whole cc0_scratch0).writes (Elt Ideal) (View.whole cc0_scratch0).junk
      [⟨Rect.unit ![0, 0] ![1024, 1024] inb_S1024x1024_S1024x1024_0_0,
        k0_pay4 (View.read (Elt Ideal) (View.whole cc0_scratch0) ((Memref.isWhole_whole cc0_scratch0).unread X)) (iblk m c 0 t) (iblk m c 1 t)⟩]) =
    fun y => X y + pr (iblk m c 0 t) (iblk m c 1 t) y := by
  rw [View.read_writes_junk_eq_canon, View.canon_unit_zero (S := S1024x1024) (by decide), pay4_eq, (Memref.isWhole_whole cc0_scratch0).read_unread]

theorem scr_A (t : Fin cfg0.N) (h : t.val % 2 = 0) : (outsAt0 m c t.val t.isLt).2.2 = pr (iblk m c 0 t) (iblk m c 1 t) := by
  rw [outsAt0_A m c t h (by omega)]
  frame_out
  exact pay1_eq _ _

theorem dg_A (t : Fin cfg0.N) (h : t.val % 2 = 0) (h' : t.val - 1 < cfg0.N) : (outsAt0 m c t.val t.isLt).2.1 =
    (outsAt0 m c (t.val - 1) h').2.1 := by
  rw [outsAt0_A m c t h (by omega)]
  frame_out
  rfl

/-- The whole product of the block, at its last point. -/
abbrev full (t : Fin cfg0.N) (h' : t.val - 1 < cfg0.N) (y : S1024x1024.Idx) : EReal :=
  (outsAt0 m c (t.val - 1) h').2.2 y + pr (iblk m c 0 t) (iblk m c 1 t) y

theorem rows_last (t : Fin cfg0.N) (h : t.val % 2 = 1) (h' : t.val - 1 < cfg0.N) : (outsAt0 m c t.val t.isLt).1 =
    DX (full m c t h') (iblk m c 4 t) (iblk m c 2 t) (iblk m c 3 t) := by
  by_cases h0 : t.val < 2
  · rw [outsAt0_B m c t (by omega) h h0]
    frame_out
    refine (st_rows ..).trans ?_
    rw [Memref.IsWhole.read_unread, Memref.IsWhole.read_unread]
    exact congrArg (DX · _ _ _) (scratch_read m c t _)
  · rw [outsAt0_C m c t (by omega) h h0]
    frame_out
    refine (st_rows ..).trans ?_
    rw [Memref.IsWhole.read_unread, Memref.IsWhole.read_unread]
    exact congrArg (DX · _ _ _) (scratch_read m c t _)

theorem dg_first (t : Fin cfg0.N) (h : t.val % 2 = 1) (h0 : t.val < 2) (h' : t.val - 1 < cfg0.N) (z : Fin 1) (j : Fin 1024) :
    (outsAt0 m c t.val t.isLt).2.1 (ix2 z j) = ∑ i, DG (full m c t h') (iblk m c 4 t) j i := by
  rw [outsAt0_B m c t (by omega) h h0]
  frame_out
  refine (pay10_at _ _ z j).trans ?_
  rw [pay3_at, zero_add]
  refine (st_sum (z := z) (j := j) ..).trans ?_
  rw [pay5_at, zero_add, Memref.IsWhole.read_unread]
  exact congrArg (fun P => ∑ i, DG (n := 1024) P (iblk m c 4 t) j i) (scratch_read m c t _)

theorem dg_next (t : Fin cfg0.N) (h : t.val % 2 = 1) (h0 : ¬t.val < 2) (h' : t.val - 1 < cfg0.N) (z : Fin 1) (j : Fin 1024) :
    (outsAt0 m c t.val t.isLt).2.1 (ix2 z j) =
      (outsAt0 m c (t.val - 1) h').2.1 (ix2 z j) + ∑ i, DG (full m c t h') (iblk m c 4 t) j i := by
  rw [outsAt0_C m c t (by omega) h h0]
  frame_out
  refine (pay10_at _ _ z j).trans (congrArg (_ + ·) ?_)
  refine (st_sum (z := z) (j := j) ..).trans ?_
  rw [pay5_at, zero_add, Memref.IsWhole.read_unread]
  exact congrArg (fun P => ∑ i, DG (n := 1024) P (iblk m c 4 t) j i) (scratch_read m c t _)

abbrev A0 : FVec Ideal S4096x1792 .bf16 := m ((c : Thread nD τ).loc main_arg0)
abbrev W0 : FVec Ideal S1024x1792 .f32 := m ((c : Thread nD τ).loc main_arg1)
abbrev R0 : FVec Ideal S4096x1024 .f32 := m ((c : Thread nD τ).loc main_arg2)
abbrev X0 : FVec Ideal S4096x1024 .f32 := m ((c : Thread nD τ).loc main_arg3)
abbrev G0 : FVec Ideal S1x1024 .f32 := m ((c : Thread nD τ).loc main_arg4)

/-- Row `i` of block `q`, and lane `x` of contracted block `k`. -/
def row_ (q : Fin 4) (i : Fin 1024) : Fin 4096 := ⟨q.val * 1024 + i.val, by omega⟩
def lane (k : Fin 2) (x : Fin 896) : Fin 1792 := ⟨k.val * 896 + x.val, by omega⟩

/-- The point of block `q` at contracted block `k`. -/
def pt (q : Fin 4) (k : Fin 2) : Fin cfg0.N := ⟨q.val * 2 + k.val, by have := N8; omega⟩

theorem b0 (q : Fin 4) (k : Fin 2) (r : Fin 1024) (x : Fin 896) :
    (iblk m c 0 (pt q k) : Vec Ideal S1024x896 .bf16) (ix2 r x) = A0 m c (ix2 (row_ q r) (lane k x)) := by
  have e1 : (pt q k).val % 2 = k.val := by simp only [pt]; omega
  have e2 : (pt q k).val / 2 = q.val := by simp only [pt]; omega
  blk_point [iblk, V, idx (pt q k), e1, e2, row_, lane]
theorem b1 (q : Fin 4) (k : Fin 2) (x : Fin 896) (j : Fin 1024) :
    (iblk m c 1 (pt q k) : Vec Ideal S896x1024 .bf16) (ix2 x j) = W0 m c (ix2 j (lane k x)) := by
  have e1 : (pt q k).val % 2 = k.val := by simp only [pt]; omega
  blk_point [iblk, V, idx (pt q k), e1, lane]
theorem b2 (q : Fin 4) (k : Fin 2) (r j : Fin 1024) : (iblk m c 2 (pt q k) : Vec Ideal S1024x1024 .f32) (ix2 r j) = R0 m c (ix2 (row_ q r) j) := by
  have e2 : (pt q k).val / 2 = q.val := by simp only [pt]; omega
  blk_point [iblk, V, idx (pt q k), e2, row_]
theorem b3 (q : Fin 4) (k : Fin 2) (z : Fin 1) (j : Fin 1024) : (iblk m c 3 (pt q k) : Vec Ideal S1x1024 .f32) (ix2 z j) = G0 m c (ix2 z j) := by
  blk_point [iblk, V, idx (pt q k)]
theorem b4 (q : Fin 4) (k : Fin 2) (r j : Fin 1024) : (iblk m c 4 (pt q k) : Vec Ideal S1024x1024 .f32) (ix2 r j) = X0 m c (ix2 (row_ q r) j) := by
  have e2 : (pt q k).val / 2 = q.val := by simp only [pt]; omega
  blk_point [iblk, V, idx (pt q k), e2, row_]

/-- The whole product. -/
def prod (a : FVec Ideal S4096x1792 .bf16) (w : FVec Ideal S1024x1792 .f32) (y : S4096x1024.Idx) : EReal :=
  ∑ l, a (ix2 (y 0) l) * w (ix2 (y 1) l)

theorem full_at (q : Fin 4) (h') (i j : Fin 1024) :
    full m c (pt q 1) h' (ix2 i j) = prod (A0 m c) (W0 m c) (ix2 (row_ q i) j) := by
  have e : ∀ k, pr (iblk m c 0 (pt q k)) (iblk m c 1 (pt q k)) (ix2 i j) =
      ∑ x, A0 m c (ix2 (row_ q i) (lane k x)) * W0 m c (ix2 j (lane k x)) := fun k =>
    Finset.sum_congr rfl fun x _ => by exact congrArg₂ (· * ·) (b0 m c q k i x) (b1 m c q k x j)
  have h0 := scr_A m c (pt q 0) (by simp only [pt]; omega)
  show (outsAt0 m c (pt q 0).val (pt q 0).isLt).2.2 (ix2 i j) + _ = _
  rw [h0, e, e]
  refine Eq.trans ?_ (Fin.sum_mul_add_congr (S := 2) (n := 896) (F := fun k x =>
    A0 m c (ix2 (row_ q i) (lane k x)) * W0 m c (ix2 j (lane k x))) (fun _ _ _ => rfl))
  rw [Fin.sum_univ_two]

theorem rows_at (q : Fin 4) (i j : Fin 1024) : (outsAt0 m c (pt q 1).val (pt q 1).isLt).1 (ix2 i j) =
    DX (prod (A0 m c) (W0 m c)) (X0 m c) (R0 m c) (G0 m c) (ix2 (row_ q i) j) := by
  rw [rows_last m c (pt q 1) (by simp only [pt]; omega) (by have := (pt q 1).isLt; omega)]
  exact congrArg₂ (· + ·) (b2 m c q 1 i j) (congrArg₂ (fun x u => ker x u j) (funext fun k => b4 m c q 1 i k)
    (funext fun k => congrArg₂ (· * ·) (full_at m c q _ i k) (b3 m c q 1 0 k)))

theorem dg_at (q : Fin 4) (h') (j i : Fin 1024) : DG (n := 1024) (full m c (pt q 1) h') (iblk m c 4 (pt q 1)) j i =
    DG (prod (A0 m c) (W0 m c)) (X0 m c) j (row_ q i) :=
  congrArg₂ (· * ·) (full_at m c q _ i j) (congrArg₂ (· * ·) (b4 m c q 1 i j) (congrArg rs (funext fun k => b4 m c q 1 i k)))

theorem pt_last (t : Fin cfg0.N) (h : t.val % 2 = 1) : ∃ q, t = pt q 1 :=
  ⟨⟨t.val / 2, by have := lt_of_lt_of_eq t.isLt N8; omega⟩, Fin.ext (show t.val = t.val / 2 * 2 + 1 by omega)⟩

theorem final5 : (dats m 0 c).arrAt 5 (cfgs 0).N = DX (prod (A0 m c) (W0 m c)) (X0 m c) (R0 m c) (G0 m c) := by
  refine (dats m 0 c).arrAt_eq_of_covers 5 _ (by decide +kernel) fun t hf y => ?_
  obtain ⟨q, rfl⟩ := pt_last t ((flush0_5 t).mp hf)
  blk_simp
  rw [after0_5]
  idx_vars y
  refine (rows_at m c q y0 y1).trans (congrArg _ ?_)
  have e2 : (pt q 1).val / 2 = q.val := by simp only [pt]; omega
  blk_ext [idx (pt q 1), e2, row_]

theorem dg_0 (z : Fin 1) (j : Fin 1024) : (outsAt0 m c (pt 0 1).val (pt 0 1).isLt).2.1 (ix2 z j) =
    ∑ i, DG (prod (A0 m c) (W0 m c)) (X0 m c) j (row_ 0 i) := by
  rw [dg_first m c (pt 0 1) (by decide) (by decide) (by have := (pt 0 1).isLt; omega)]
  exact Finset.sum_congr rfl fun i _ => dg_at m c 0 _ j i

theorem dg_s (q q' : Fin 4) (h : q'.val = q.val + 1) (z : Fin 1) (j : Fin 1024) :
    (outsAt0 m c (pt q' 1).val (pt q' 1).isLt).2.1 (ix2 z j) = (outsAt0 m c (pt q 1).val (pt q 1).isLt).2.1 (ix2 z j) +
      ∑ i, DG (prod (A0 m c) (W0 m c)) (X0 m c) j (row_ q' i) := by
  have hp : ∀ k : Fin 2, (pt q' k).val = q'.val * 2 + k.val := fun _ => rfl
  have hq : (pt q 1).val = q.val * 2 + 1 := rfl
  have step : ∀ n (hn : n < cfg0.N) n' (hn' : n' < cfg0.N), n = n' + 1 → n % 2 = 0 →
      (outsAt0 m c n hn).2.1 = (outsAt0 m c n' hn').2.1 := fun n hn n' hn' e h => by
    subst e; exact dg_A m c ⟨n' + 1, hn⟩ h hn'
  rw [dg_next m c (pt q' 1) (by rw [hp]; show (q'.val * 2 + 1) % 2 = 1; omega) (by rw [hp]; omega) (by have := (pt q' 1).isLt; omega)]
  refine congrArg₂ (· + ·) ?_ (Finset.sum_congr rfl fun i _ => dg_at m c q' _ j i)
  exact congrFun (step _ (pt q' 0).isLt (pt q 1).val (pt q 1).isLt (by rw [hp, hq]; show q'.val * 2 + 0 = _; omega)
    (by rw [hp]; show (q'.val * 2 + 0) % 2 = 0; omega)) _

theorem final6 : (dats m 0 c).arrAt 6 (cfgs 0).N = fun y => ∑ r, DG (prod (A0 m c) (W0 m c)) (X0 m c) (y 1) r := by
  refine (dats m 0 c).arrAt_eq_of_after_last 6 t0_7 (by decide +kernel) _ fun j => ?_
  blk_simp
  rw [after0_6]
  idx_vars j
  show (outsAt0 m c (pt 3 1).val (pt 3 1).isLt).2.1 (ix2 j0 j1) = ∑ r, DG (prod (A0 m c) (W0 m c)) (X0 m c) j1 r
  rw [dg_s m c 2 3 rfl, dg_s m c 1 2 rfl, dg_s m c 0 1 rfl, dg_0]
  refine Eq.trans ?_ (Fin.sum_mul_add_congr (S := 4) (n := 1024) (F := fun q i =>
    DG (prod (A0 m c) (W0 m c)) (X0 m c) j1 (row_ q i)) (fun _ _ _ => rfl))
  rw [Fin.sum_univ_four]
end Kernel

section Pure
open Cert.GmInDxRefIdeal Cert.GmInDxRefIdeal.Read

variable (x0 : FVec Ideal S4096x1792 .bf16) (x1 : FVec Ideal S1024x1792 .f32) (x2 x3 : FVec Ideal S4096x1024 .f32)
  (x4 : FVec Ideal S1x1024 .f32)

theorem v17_at (i : Fin 4096) (j : Fin 1024) : val_main_v17 (F := Ideal) x0 x1 (ix2 i j) = prod x0 x1 (ix2 i j) := by
  pointwise [val_main_v17, val_main_v16, prod]

theorem v20_at (z : Fin 1) (j : Fin 1024) :
    val_main_v20 (F := Ideal) x0 x1 x3 (ix2 z j) = ∑ r, DG (prod x0 x1) x3 j r := by
  pointwise [val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v12, val_main_v11, val_main_v10, val_main_v9,
    val_main_v8, val_main_v7, val_main_v6, val_main_v5, val_main_v4, val_main_v3, val_main_v2, val_main_v1,
    val_main_v0, val_main_cst, val_main_cst_0, val_main_cst_1, val_main_cst_2, val_main_cst_3, val_main_cst_4,
    val_main_cst_5, val_main_cst_6]
  refine Finset.sum_congr rfl fun r _ => ?_
  rw [v17_at]
  exact mul_comm _ _

theorem v37_at (xr : S4096x1024.Idx → ℝ) (ur : Fin 4096 → Fin 1024 → ℝ) (hx : x3 = fun i => ((xr i : ℝ) : EReal))
    (hu : ∀ i k, prod x0 x1 (ix2 i k) * x4 (ix2 0 k) = ((ur i k : ℝ) : EReal)) (i : Fin 4096) (j : Fin 1024) :
    val_main_v37 (F := Ideal) x0 x1 x2 x3 x4 (ix2 i j) = DX (prod x0 x1) x3 x2 x4 (ix2 i j) := by
  pointwise [val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v12, val_main_v11, val_main_v10, val_main_v9,
    val_main_v8, val_main_v7, val_main_v6, val_main_v5, val_main_v4, val_main_v3, val_main_v2, val_main_v1,
    val_main_v0, val_main_cst, val_main_cst_0, val_main_cst_1, val_main_cst_2, val_main_cst_3, val_main_cst_4,
    val_main_cst_5, val_main_cst_6]
  simp only [Fin.sum_univ_one, v17_at, hu]
  have key := ker_eq (x2 (ix2 i j)) (fun k => xr (ix2 i k)) (ur i) j
  subst hx
  refine Eq.trans ?_ (key.symm.trans ?_)
  · rfl
  · exact congrArg (fun u => x2 (ix2 i j) + ker (fun k => ((xr (ix2 i k) : ℝ) : EReal)) u j) (funext fun k => (hu i k).symm)
end Pure

/-- The precondition: the product's cotangent, the weight, the rows and the gain are finite. -/
theorem pre {a : FVec Ideal Pre_gm_in_dx_pre.S4096x1792 .bf16} {w : FVec Ideal Pre_gm_in_dx_pre.S1024x1792 .f32}
    {r x : FVec Ideal Pre_gm_in_dx_pre.S4096x1024 .f32} {g : FVec Ideal Pre_gm_in_dx_pre.S1x1024 .f32} (h : Pre_gm_in_dx_pre.fn a w r x g = fun _ => 1#1) :
    (∃ f : Pre_gm_in_dx_pre.S4096x1792.Idx → ℝ, a = fun i => ((f i : ℝ) : EReal)) ∧
    (∃ f : Pre_gm_in_dx_pre.S1024x1792.Idx → ℝ, w = fun i => ((f i : ℝ) : EReal)) ∧
    (∃ f : Pre_gm_in_dx_pre.S4096x1024.Idx → ℝ, x = fun i => ((f i : ℝ) : EReal)) ∧
    ∃ f : Pre_gm_in_dx_pre.S1x1024.Idx → ℝ, g = fun i => ((f i : ℝ) : EReal) := by
  have h0 := congrFun h (fun i => i.elim0)
  obtain ⟨h123, h4⟩ := IntOp.andi_eq_one.1 h0
  obtain ⟨h12, h3⟩ := IntOp.andi_eq_one.1 h123
  obtain ⟨h1, h2⟩ := IntOp.andi_eq_one.1 h12
  exact ⟨Lift.all_finite _ _ _ _ _ _ h1, Lift.all_finite _ _ _ _ _ _ h2, Lift.all_finite _ _ _ _ _ _ h3,
    Lift.all_finite _ _ _ _ _ _ h4⟩

/-- The product of finite arrays is finite. -/
theorem prod_real {a : FVec Ideal GmInDxIdeal.S4096x1792 .bf16} {w : FVec Ideal GmInDxIdeal.S1024x1792 .f32}
    (ar : GmInDxIdeal.S4096x1792.Idx → ℝ) (wr : GmInDxIdeal.S1024x1792.Idx → ℝ)
    (ha : a = fun i => ((ar i : ℝ) : EReal)) (hw : w = fun i => ((wr i : ℝ) : EReal)) (i : Fin 4096) (j : Fin 1024) :
    ∃ p : ℝ, prod a w (ix2 i j) = ((p : ℝ) : EReal) := by
  subst ha hw
  exact ⟨_, dot_real (fun l => ar (ix2 i l)) fun l => wr (ix2 j l)⟩

section Reference
open Cert.GmInDxRefIdeal Cert.GmInDxRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v37) = val_main_v37 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_v20) = val_main_v20 (F := Ideal) (m ((c.tc : Thread nD τ).loc main_arg0))
        (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => ⟨(h c).1.trans (val_main_v37_eq _ _), (h c).2.1.trans (val_main_v20_eq _ _ _),
    (h c).2.2⟩, sem_eq_zero_of_no_sems (by decide) r.2⟩) (Value.run m ρ)
end Reference

theorem frame_ref : Cert.quiescent_GmInDxRefIdeal := fun m g _ =>
  (θ_run Cert.GmInDxRefIdeal.defs _ _).mono (fun _ h => ⟨fun c => (h.1 c).2.2, h.2⟩) (run_ref m g)

theorem frame_ref_pre : Cert.quiescent_GmInDxRefIdeal_pre_gm_in_dx_pre := fun m g _ => frame_ref m g trivial

theorem algebraic : Cert.algebraic_GmInDxIdeal_GmInDxRefIdeal_pre_gm_in_dx_pre := by
  pair_intro
  · run_from Cert.GmInDxIdeal.Gen.run_main m g
  · refine (θ_run Cert.GmInDxRefIdeal.defs _ _).mono (fun r h c => ?_) (run_ref m' g')
    obtain ⟨h0, h1, h2⟩ := h.1 c
    obtain ⟨e0, e1, e2, e3, e4⟩ := hagree c
    obtain ⟨⟨ar, ha⟩, ⟨wr, hw⟩, ⟨xr, hx⟩, ⟨gr, hg⟩⟩ := pre (hpre c)
    refine ⟨h0.trans ?_, h1.trans ?_, h2⟩
    · rw [e0, e1, e2, e3, e4, final5 m c]
      choose pr hp using prod_real ar wr ha hw
      refine funext fun j => ?_
      idx_vars j
      refine v37_at _ _ _ _ _ xr (fun i k => pr i k * gr (ix2 0 k)) hx (fun i k => ?_) j0 j1
      rw [hp, EReal.coe_mul]
      exact congrArg (((pr i k : ℝ) : EReal) * ·) (congrFun hg _)
    · rw [e0, e1, e3, final6 m c]
      refine funext fun j => ?_
      idx_vars j
      exact v20_at _ _ _ j0 j1

end Cert.GmDx

end
-- ==== Proof.FfnOut.lean ====
/-
  `ffn_out0`: the feed-forward's last product, two blocks of the contracted axis accumulated, with the residual added,
  and its norm.
-/
module

public import proofs.«01_k».proof.Proof.Gen.FfnOutIdeal.Value
public import proofs.«01_k».proof.Proof.Gen.FfnOutIdeal.Frame
public import proofs.«01_k».proof.Proof.Gen.FfnOutRefIdeal.Run
public import proofs.«01_k».proof.Proof.Gen.FfnOutRefIdeal.Read
public import proofs.«01_k».proof.Proof.MixNorm
public import Idealize.ShloMosaic.Lib.Pipeline.ValueKit
public import Idealize.ShloMosaic.Lib.Claim
public import proofs.«01_k».proof.Defs

@[expose] public section

set_option maxRecDepth 16384

noncomputable section

namespace Cert.FfnSum

open Idealize.ShloMosaic Idealize.ShloMosaic.TcCoe Idealize.SL.Sem
open Cert.NormFwd (nrm)
open Idealize.ShloMosaic.Pipeline (Dat)

section Kernel
open Cert.FfnOutIdeal Cert.FfnOutIdeal.Gen

/-- The product with the residual added, … -/
def sumA (h : FVec Ideal S4096x2816 .bf16) (w : FVec Ideal S2816x1024 .f32) (x : FVec Ideal S4096x1024 .f32) :
    FVec Ideal S4096x1024 .f32 :=
  fun i => (∑ l, h (ix2 (i 0) l) * w (ix2 l (i 1))) + x i

/-- … and its norm. -/
def normA (h : FVec Ideal S4096x2816 .bf16) (w : FVec Ideal S2816x1024 .f32) (x : FVec Ideal S4096x1024 .f32)
    (g : FVec Ideal S1x1024 .f32) : FVec Ideal S4096x1024 .bf16 :=
  fun i => nrm (fun j => sumA h w x (ix2 (i 0) j)) (g (ix2 0 (i 1))) (i 1)

/-- A block's contribution to the product. -/
def pr (b : Vec Ideal S1024x1408 .bf16) (d : Vec Ideal S1408x1024 .bf16) (r j : Fin 1024) : EReal :=
  ∑ x, b (ix2 r x) * d (ix2 x j)

theorem pay1 (b : Vec Ideal S1024x1408 .bf16) (d : Vec Ideal S1408x1024 .bf16) (r j : Fin 1024) :
    k0_pay1 (F := Ideal) b d (ix2 r j) = pr b d r j := by
  pointwise [k0_pay1, pr]

theorem pay3 (a x : Vec Ideal S1024x1024 .f32) (b : Vec Ideal S1024x1408 .bf16) (d : Vec Ideal S1408x1024 .bf16)
    (r j : Fin 1024) : k0_pay3 (F := Ideal) a b d x (ix2 r j) = a (ix2 r j) + pr b d r j + x (ix2 r j) := by
  pointwise [k0_pay3, pr]

theorem pay4 (a x : Vec Ideal S1024x1024 .f32) (b : Vec Ideal S1024x1408 .bf16) (d : Vec Ideal S1408x1024 .bf16)
    (g : Vec Ideal S1x1024 .f32) (r j : Fin 1024) : k0_pay4 (F := Ideal) a b d x g (ix2 r j) =
      nrm (fun k => k0_pay3 (F := Ideal) a b d x (ix2 r k)) (g (ix2 0 j)) j := by
  unfold k0_pay4
  generalize k0_pay3 (F := Ideal) a b d x = y
  pointwise [nrm]
  try rfl

variable (m : (ℓ : Loc nD τ sig) → Buf (Elt Ideal) ℓ) (c : Dev nD)

theorem idx : ∀ t : Fin cfg0.N, win0_0.index t = ![t.val / 2, t.val % 2] ∧ win0_1.index t = ![t.val % 2, 0] ∧
    win0_2.index t = ![t.val / 2, 0] ∧ win0_3.index t = ![0, 0] ∧ win0_4.index t = ![t.val / 2, 0] ∧
    win0_5.index t = ![t.val / 2, 0] :=
  (by decide +kernel : ∀ t : Fin grid0.N, _)

abbrev H : FVec Ideal S4096x2816 .bf16 := m ((c : Thread nD τ).loc main_arg0)
abbrev W : FVec Ideal S2816x1024 .f32 := m ((c : Thread nD τ).loc main_arg1)
abbrev X : FVec Ideal S4096x1024 .f32 := m ((c : Thread nD τ).loc main_arg2)
abbrev G : FVec Ideal S1x1024 .f32 := m ((c : Thread nD τ).loc main_arg3)

theorem N8 : cfg0.N = 8 := N_0

/-- Row `i` of block `q`, and lane `x` of contracted block `k`. -/
def row_ (q : Fin 4) (i : Fin 1024) : Fin 4096 := ⟨q.val * 1024 + i.val, by omega⟩
def lane (k : Fin 2) (x : Fin 1408) : Fin 2816 := ⟨k.val * 1408 + x.val, by omega⟩

/-- The point of block `q` at contracted block `k`. -/
def pt (q : Fin 4) (k : Fin 2) : Fin cfg0.N := ⟨q.val * 2 + k.val, by have := N8; omega⟩

theorem b0 (q : Fin 4) (k : Fin 2) (r : Fin 1024) (x : Fin 1408) :
    (iblk m c 0 (pt q k) : Vec Ideal S1024x1408 .bf16) (ix2 r x) = H m c (ix2 (row_ q r) (lane k x)) := by
  have e1 : (pt q k).val % 2 = k.val := by simp only [pt]; omega
  have e2 : (pt q k).val / 2 = q.val := by simp only [pt]; omega
  blk_point [iblk, V, idx (pt q k), e1, e2, row_, lane]
theorem b1 (q : Fin 4) (k : Fin 2) (x : Fin 1408) (j : Fin 1024) :
    (iblk m c 1 (pt q k) : Vec Ideal S1408x1024 .bf16) (ix2 x j) = W m c (ix2 (lane k x) j) := by
  have e1 : (pt q k).val % 2 = k.val := by simp only [pt]; omega
  have hV : V m c main_v0 = truncf (F := Ideal) .bf16 (W m c) bitsLt_bf16_f32 := by
    unfold V; after_results; try rfl
  refine Eq.trans (b := V m c main_v0 (ix2 (lane k x) j)) ?_ (by rw [hV]; rfl)
  blk_point [iblk, idx (pt q k), e1, lane]
theorem b2 (q : Fin 4) (k : Fin 2) (r j : Fin 1024) :
    (iblk m c 2 (pt q k) : Vec Ideal S1024x1024 .f32) (ix2 r j) = X m c (ix2 (row_ q r) j) := by
  have e2 : (pt q k).val / 2 = q.val := by simp only [pt]; omega
  blk_point [iblk, V, idx (pt q k), e2, row_]
theorem b3 (q : Fin 4) (k : Fin 2) (j : Fin 1024) :
    (iblk m c 3 (pt q k) : Vec Ideal S1x1024 .f32) (ix2 0 j) = G m c (ix2 0 j) := by
  blk_point [iblk, V, idx (pt q k)]

/-- The first block's product, as the last point finds it. -/
theorem scr (t : Fin cfg0.N) (h : t.val % 2 = 0) : (outsAt0 m c t.val t.isLt).2.2 = k0_pay1 (iblk m c 0 t) (iblk m c 1 t) := by
  rw [outsAt0_A m c t h (by omega)]
  frame_out

theorem last (t : Fin cfg0.N) (h : t.val % 2 = 1) (h' : t.val - 1 < cfg0.N) : (outsAt0 m c t.val t.isLt).1 =
      k0_pay3 (outsAt0 m c (t.val - 1) h').2.2 (iblk m c 0 t) (iblk m c 1 t) (iblk m c 2 t) ∧
    (outsAt0 m c t.val t.isLt).2.1 =
      k0_pay4 (outsAt0 m c (t.val - 1) h').2.2 (iblk m c 0 t) (iblk m c 1 t) (iblk m c 2 t) (iblk m c 3 t) := by
  rw [outsAt0_B m c t (by omega) h]
  constructor
  · frame_out
    rw [(Memref.isWhole_whole cc0_scratch0).read_unread]
  · frame_out
    rw [(Memref.isWhole_whole cc0_scratch0).read_unread]

theorem sum_at (q : Fin 4) (h') (i j : Fin 1024) : k0_pay3 (F := Ideal) (outsAt0 m c ((pt q 1).val - 1) h').2.2
    (iblk m c 0 (pt q 1)) (iblk m c 1 (pt q 1)) (iblk m c 2 (pt q 1)) (ix2 i j) =
      sumA (H m c) (W m c) (X m c) (ix2 (row_ q i) j) := by
  have e : ∀ k, pr (iblk m c 0 (pt q k)) (iblk m c 1 (pt q k)) i j =
      ∑ x, H m c (ix2 (row_ q i) (lane k x)) * W m c (ix2 (lane k x) j) := fun k =>
    Finset.sum_congr rfl fun x _ => by exact congrArg₂ (· * ·) (b0 m c q k i x) (b1 m c q k x j)
  refine (pay3 _ _ _ _ i j).trans (congrArg₂ (· + ·) ?_ (b2 m c q 1 i j))
  have h0 := congrFun (scr m c (pt q 0) (by simp only [pt]; omega)) (ix2 i j)
  show (outsAt0 m c (pt q 0).val (pt q 0).isLt).2.2 (ix2 i j) + _ = _
  rw [h0, pay1, e, e]
  refine Eq.trans ?_ (Fin.sum_mul_add_congr (S := 2) (n := 1408) (F := fun k x =>
    H m c (ix2 (row_ q i) (lane k x)) * W m c (ix2 (lane k x) j)) (fun _ _ _ => rfl))
  rw [Fin.sum_univ_two]

theorem pt_last (t : Fin cfg0.N) (h : t.val % 2 = 1) : ∃ q, t = pt q 1 :=
  ⟨⟨t.val / 2, by have := lt_of_lt_of_eq t.isLt N8; omega⟩, Fin.ext (show t.val = t.val / 2 * 2 + 1 by omega)⟩

theorem pt_odd (q : Fin 4) : (pt q 1).val % 2 = 1 ∧ (pt q 1).val - 1 < cfg0.N := by
  have := (pt q 1).isLt
  refine ⟨?_, by omega⟩
  simp only [pt]; omega

theorem final4 : (dats m 0 c).arrAt 4 (cfgs 0).N = sumA (H m c) (W m c) (X m c) := by
  refine (dats m 0 c).arrAt_eq_of_covers 4 _ (by decide +kernel) fun t hf y => ?_
  obtain ⟨q, rfl⟩ := pt_last t ((flush0_4 t).mp hf)
  blk_simp
  rw [after0_4, (last m c (pt q 1) (pt_odd q).1 (pt_odd q).2).1]
  idx_vars y
  refine (sum_at m c q _ y0 y1).trans (congrArg _ ?_)
  have e2 : (pt q 1).val / 2 = q.val := by simp only [pt]; omega
  blk_ext [idx (pt q 1), e2, row_]

theorem norm_at (q : Fin 4) (h') (i j : Fin 1024) : k0_pay4 (F := Ideal) (outsAt0 m c ((pt q 1).val - 1) h').2.2
    (iblk m c 0 (pt q 1)) (iblk m c 1 (pt q 1)) (iblk m c 2 (pt q 1)) (iblk m c 3 (pt q 1)) (ix2 i j) =
      normA (H m c) (W m c) (X m c) (G m c) (ix2 (row_ q i) j) :=
  (pay4 _ _ _ _ _ i j).trans (congrArg₂ (fun r g => nrm r g j) (funext fun k => sum_at m c q h' i k) (b3 m c q 1 j))

theorem final5 : (dats m 0 c).arrAt 5 (cfgs 0).N = normA (H m c) (W m c) (X m c) (G m c) := by
  refine (dats m 0 c).arrAt_eq_of_covers 5 _ (by decide +kernel) fun t hf y => ?_
  obtain ⟨q, rfl⟩ := pt_last t ((flush0_5 t).mp hf)
  blk_simp
  rw [after0_5, (last m c (pt q 1) (pt_odd q).1 (pt_odd q).2).2]
  idx_vars y
  refine (norm_at m c q _ y0 y1).trans (congrArg _ ?_)
  have e2 : (pt q 1).val / 2 = q.val := by simp only [pt]; omega
  blk_ext [idx (pt q 1), e2, row_]
end Kernel

section Reference
open Cert.FfnOutRefIdeal Cert.FfnOutRefIdeal.Read

theorem ref2 (h : FVec Ideal FfnOutIdeal.S4096x2816 .bf16) (w : FVec Ideal FfnOutIdeal.S2816x1024 .f32)
    (x : FVec Ideal FfnOutIdeal.S4096x1024 .f32) : val_main_v2 (F := Ideal) h w x = sumA h w x := by
  funext j
  idx_vars j
  pointwise [val_main_v2, val_main_v1, val_main_v0, sumA]
  try first | rfl | exact add_comm _ _

theorem ref15 (h : FVec Ideal FfnOutIdeal.S4096x2816 .bf16) (w : FVec Ideal FfnOutIdeal.S2816x1024 .f32)
    (x : FVec Ideal FfnOutIdeal.S4096x1024 .f32) (g : FVec Ideal FfnOutIdeal.S1x1024 .f32) :
    val_main_v15 (F := Ideal) h w x g = normA h w x g := by
  funext j
  idx_vars j
  unfold normA
  rw [← ref2]
  simp only [val_main_v15, val_main_v14, val_main_v12, val_main_v11, val_main_v10, val_main_v9, val_main_v7, val_main_v5, val_main_v4,
    val_main_v3]
  generalize val_main_v2 (F := Ideal) h w x = y
  pointwise [val_main_v13, val_main_v8, val_main_cst_1, val_main_v6, val_main_cst_0, val_main_cst, nrm]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v2) = val_main_v2 (F := Ideal) (m ((c.tc : Thread nD τ).loc main_arg0))
        (m ((c.tc : Thread nD τ).loc main_arg1)) (m ((c.tc : Thread nD τ).loc main_arg2))
      ∧ r.2.mem ((c.tc : Thread nD τ).loc main_v15) = val_main_v15 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c).1.trans (val_main_v2_eq _ _ _), (h c).2.1.trans (val_main_v15_eq _ _ _ _),
    (h c).2.2⟩, sem_eq_zero_of_no_sems (by decide) r.2⟩) (Value.run m ρ)
end Reference

theorem frame_ref : Cert.quiescent_FfnOutRefIdeal := fun m g _ =>
  (θ_run Cert.FfnOutRefIdeal.defs _ _).mono (fun _ h => ⟨fun c => (h.1 c).2.2, h.2⟩) (run_ref m g)

theorem algebraic : Cert.algebraic_FfnOutIdeal_FfnOutRefIdeal := by
  pair_intro
  · run_from Cert.FfnOutIdeal.Gen.run_main m g
  · refine (θ_run Cert.FfnOutRefIdeal.defs _ _).mono (fun r h c => ?_) (run_ref m' g')
    obtain ⟨h0, h1, h2⟩ := h.1 c
    obtain ⟨e0, e1, e2, e3⟩ := hagree c
    refine ⟨h0.trans ?_, h1.trans ?_, h2⟩
    · rw [e0, e1, e2, final4 m c]
      exact ref2 _ _ _
    · rw [e0, e1, e2, e3, final5 m c]
      exact ref15 _ _ _ _

end Cert.FfnSum

end
-- ==== Proof.MemNormFwd.lean ====
/-
  `mem_norm`: the norm of the memory's 256 rows, in one block, is the norm.
-/
module

public import proofs.«01_k».proof.Proof.Gen.MemNormFwdIdeal.Value
public import proofs.«01_k».proof.Proof.Gen.MemNormFwdRefIdeal.Run
public import proofs.«01_k».proof.Proof.Gen.MemNormFwdRefIdeal.Read
public import proofs.«01_k».proof.Proof.MixNorm
public import Idealize.ShloMosaic.Lib.Pipeline.ValueKit
public import Idealize.ShloMosaic.Lib.Claim
public import proofs.«01_k».proof.Defs

@[expose] public section

set_option maxRecDepth 16384

noncomputable section

namespace Cert.MemFwd

open Idealize.ShloMosaic Idealize.ShloMosaic.TcCoe Idealize.SL.Sem
open Cert.NormFwd (nrm)
open Idealize.ShloMosaic.Pipeline (Dat)

section Kernel
open Cert.MemNormFwdIdeal Cert.MemNormFwdIdeal.Gen

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

abbrev X : FVec Ideal S256x1024 .f32 := m ((c : Thread nD τ).loc main_arg0)
abbrev G : FVec Ideal S1x1024 .f32 := m ((c : Thread nD τ).loc main_arg1)

theorem b0 (t : Fin cfg0.N) (r : Fin 256) (j : Fin 1024) : iblk m c 0 t (ix2 r j) = X m c (ix2 r j) := by
  blk_point [iblk, V, idx t]
theorem b1 (t : Fin cfg0.N) (j : Fin 1024) : iblk m c 1 t (ix2 0 j) = G m c (ix2 0 j) := by
  blk_point [iblk, V, idx t]

theorem pay (x : FVec Ideal S256x1024 .f32) (g : FVec Ideal S1x1024 .f32) (r : Fin 256) (j : Fin 1024) :
    k0_pay1 (F := Ideal) x g (ix2 r j) = nrm (fun k => x (ix2 r k)) (g (ix2 0 j)) j := by
  pointwise [k0_pay1, nrm]
  try rfl

/-- The normed array. -/
def nrmA (x : FVec Ideal S256x1024 .f32) (g : FVec Ideal S1x1024 .f32) : FVec Ideal S256x1024 .bf16 :=
  fun i => nrm (fun k => x (ix2 (i 0) k)) (g (ix2 0 (i 1))) (i 1)

theorem nrm_emb (t : Fin cfg0.N) (y : S256x1024.Idx) (i : S256x1024.Idx) (h0 : (i 0).val = (y 0).val)
    (h1 : (i 1).val = (y 1).val) : k0_pay1 (iblk m c 0 t) (iblk m c 1 t) y = nrmA (X m c) (G m c) i := by
  idx_vars y
  have e0 : i 0 = y0 := Fin.ext h0
  have e1 : i 1 = y1 := Fin.ext h1
  refine (pay _ _ y0 y1).trans ?_
  unfold nrmA
  rw [e0, e1, b1]
  simp only [b0]

theorem final : (dats m 0 c).arrAt 2 (cfgs 0).N = nrmA (X m c) (G m c) := by
  refine (dats m 0 c).arrAt_eq_of_covers 2 _ (by decide +kernel) fun t hf y => ?_
  blk_simp
  rw [after0_2]
  frame_out
  refine nrm_emb m c t y _ ?_ ?_
  · blk_simp [idx t]
  · blk_simp [idx t]
end Kernel

section Pure
open Cert.MemNormFwdRefIdeal.Read

theorem ref_eq (x : FVec Ideal MemNormFwdIdeal.S256x1024 .f32) (g : FVec Ideal MemNormFwdIdeal.S1x1024 .f32) :
    val_main_v12 (F := Ideal) x g = nrmA x g := by
  funext j
  idx_vars j
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, nrmA, nrm]
  try rfl
end Pure

section Reference
open Cert.MemNormFwdRefIdeal Cert.MemNormFwdRefIdeal.Read

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v12) = val_main_v12 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v12_eq _ _), (h c).2⟩,
    sem_eq_zero_of_no_sems (by decide) r.2⟩) (Value.run m ρ)
end Reference

theorem frame_ref : Cert.quiescent_MemNormFwdRefIdeal := fun m g _ =>
  (θ_run Cert.MemNormFwdRefIdeal.defs _ _).mono (fun _ h => ⟨fun c => (h.1 c).2, h.2⟩) (run_ref m g)

theorem algebraic : Cert.algebraic_MemNormFwdIdeal_MemNormFwdRefIdeal := by
  pair_intro
  · run_from Cert.MemNormFwdIdeal.Gen.run_main m g
  · refine (θ_run Cert.MemNormFwdRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.MemFwd

end
-- ==== Proof.SmallSum.lean ====
/-
  `reduce_small_sum`: the sum of the eight devices' blocks, over four blocks of 208 rows.
-/
module

public import proofs.«01_k».proof.Proof.Gen.SmallSumIdeal.Value
public import proofs.«01_k».proof.Proof.Gen.SmallSumRefIdeal.Run
public import proofs.«01_k».proof.Proof.Gen.SmallSumRefIdeal.Read
public import Idealize.ShloMosaic.Lib.Pipeline.ValueKit
public import Idealize.ShloMosaic.Lib.Claim
public import proofs.«01_k».proof.Defs

@[expose] public section

set_option maxRecDepth 16384

noncomputable section

namespace Cert.BlockSum

open Idealize.ShloMosaic Idealize.ShloMosaic.TcCoe Idealize.SL.Sem
open Idealize.ShloMosaic.Pipeline (Dat)

section Kernel
open Cert.SmallSumIdeal Cert.SmallSumIdeal.Gen

/-- The sum over the leading axis. -/
def sumA (x : FVec Ideal S8x832x128 .f32) : FVec Ideal S832x128 .f32 := fun i => ∑ d, x (ix3 d (i 0) (i 1))

theorem pay (f : Fin 8 → Vec Ideal S1x208x128 .f32) (r : Fin 208) (j : Fin 128) :
    k0_pay1 (F := Ideal) (f 0) (f 1) (f 2) (f 3) (f 4) (f 5) (f 6) (f 7) (ix2 r j) = ∑ d, f d (ix3 0 r j) := by
  rw [Fin.sum_univ_eight]
  pointwise [k0_pay1]
  try rfl

variable (m : (ℓ : Loc nD τ sig) → Buf (Elt Ideal) ℓ) (c : Dev nD)

theorem idx : ∀ t : Fin cfg0.N, win0_0.index t = ![0, t.val, 0] ∧ win0_1.index t = ![t.val, 0] :=
  (by decide +kernel : ∀ t : Fin grid0.N, _)

abbrev X : FVec Ideal S8x832x128 .f32 := m ((c : Thread nD τ).loc main_arg0)

/-- Row `r` of block `t`. -/
def row (t : Fin cfg0.N) (r : Fin 208) : Fin 832 := ⟨t.val * 208 + r.val, by
  have : t.val < 4 := lt_of_lt_of_eq t.isLt (show cfg0.N = 4 from N_0)
  omega⟩

theorem b0 (t : Fin cfg0.N) (d : Fin 8) (r : Fin 208) (j : Fin 128) :
    (iblk m c 0 t : Vec Ideal S8x208x128 .f32) (ix3 d r j) = X m c (ix3 d (row t r) j) := by
  blk_point [iblk, V, idx t, row]

/-- The eight blocks the call reads, by device. -/
def blks (x : Vec Ideal S8x208x128 .f32) : Fin 8 → Vec Ideal S1x208x128 .f32 :=
  ![View.ld x r0_0, View.ld x r0_1, View.ld x r0_2, View.ld x r0_3, View.ld x r0_4, View.ld x r0_5, View.ld x r0_6, View.ld x r0_7]

theorem blks_at (x : Vec Ideal S8x208x128 .f32) (d : Fin 8) (r : Fin 208) (j : Fin 128) :
    blks x d (ix3 0 r j) = x (ix3 d r j) := by
  fin_cases d <;> exact congrArg x (funext fun a => Fin.ext (by fin_cases a <;> simp))

theorem emb (t : Fin cfg0.N) (y : S208x128.Idx) (i : S832x128.Idx) (h0 : (i 0).val = t.val * 208 + (y 0).val)
    (h1 : (i 1).val = (y 1).val) : out0_1 (iblk m c 0 t) y = sumA (X m c) i := by
  idx_vars y
  have e0 : i 0 = row t y0 := Fin.ext h0
  have e1 : i 1 = y1 := Fin.ext h1
  refine Eq.trans ?_ ((pay (blks (iblk m c 0 t)) y0 y1).trans ?_)
  · frame_out
    rfl
  · unfold sumA
    rw [e0, e1]
    exact Finset.sum_congr rfl fun d _ => (blks_at _ d y0 y1).trans (b0 m c t d y0 y1)

theorem final : (dats m 0 c).arrAt 1 (cfgs 0).N = sumA (X m c) := by
  refine (dats m 0 c).arrAt_eq_of_covers 1 _ (by decide +kernel) fun t hf y => ?_
  blk_simp
  rw [after0_1]
  refine emb m c t y _ ?_ ?_
  · blk_simp [idx t]
  · blk_simp [idx t]
end Kernel

section Reference
open Cert.SmallSumRefIdeal Cert.SmallSumRefIdeal.Read

theorem ref_eq (x : FVec Ideal SmallSumIdeal.S8x832x128 .f32) : val_main_v0 (F := Ideal) x = sumA x := by
  funext j
  idx_vars j
  pointwise [val_main_v0, val_main_cst, sumA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v0) = val_main_v0 (F := Ideal) (m ((c.tc : Thread nD τ).loc main_arg0))
      ∧ r.2.mem ((c.tc : Thread nD τ).loc main_arg0) = m ((c.tc : Thread nD τ).loc main_arg0)) ∧ r.2.sem = fun _ => 0 :=
  (θ_run defs _ _).mono (fun r h => ⟨fun c => ⟨(h c).1.trans (val_main_v0_eq _), (h c).2⟩,
    sem_eq_zero_of_no_sems (by decide) r.2⟩) (Value.run m ρ)
end Reference

theorem frame_ref : Cert.quiescent_SmallSumRefIdeal := fun m g _ =>
  (θ_run Cert.SmallSumRefIdeal.defs _ _).mono (fun _ h => ⟨fun c => (h.1 c).2, h.2⟩) (run_ref m g)

theorem algebraic : Cert.algebraic_SmallSumIdeal_SmallSumRefIdeal := by
  pair_intro
  · run_from Cert.SmallSumIdeal.Gen.run_main m g
  · refine (θ_run Cert.SmallSumRefIdeal.defs _ _).mono (fun r h c => ?_) (run_ref m' g')
    obtain ⟨h0, h1⟩ := h.1 c
    have e0 := hagree c
    refine ⟨h0.trans ?_, h1⟩
    rw [e0, final m c]
    exact ref_eq _

end Cert.BlockSum

end
-- ==== Proof.AdamStep.lean ====
/-
  `adamw`: one step of the optimiser on a weight of 704 rows, over two blocks of 352 rows.
-/
module

public import proofs.«01_k».proof.Proof.Gen.AdamStepIdeal.Value
public import proofs.«01_k».proof.Proof.Gen.AdamStepRefIdeal.Run
public import proofs.«01_k».proof.Proof.Gen.AdamStepRefIdeal.Read
public import Idealize.ShloMosaic.Lib.Pipeline.ValueKit
public import Idealize.ShloMosaic.Lib.Claim
public import proofs.«01_k».proof.Defs

@[expose] public section

set_option maxRecDepth 16384

noncomputable section

namespace Cert.Adam

open Idealize.ShloMosaic Idealize.ShloMosaic.TcCoe Idealize.SL.Sem
open Idealize.ShloMosaic.Pipeline (Dat)

section Kernel
open Cert.AdamStepIdeal Cert.AdamStepIdeal.Gen

/-- The constants of the step, by their bits. -/
abbrev cb1 : EReal := Scalar.ofBits (F := Ideal) .f32 0x3F666666#32
abbrev cb1' : EReal := Scalar.ofBits (F := Ideal) .f32 0x3DCCCCCD#32
abbrev cb2 : EReal := Scalar.ofBits (F := Ideal) .f32 0x3F7FBE77#32
abbrev cb2' : EReal := Scalar.ofBits (F := Ideal) .f32 0x3A83126F#32

/-- The new first and second moments of one element. -/
def mom1 (g p : EReal) : EReal := cb1 * p + cb1' * g
def mom2 (g v : EReal) : EReal := cb2 * v + cb2' * (g * g)

abbrev Arr := FVec Ideal S704x1024 .f32

def mom1A (g p : Arr) : Arr := fun i => mom1 (g i) (p i)
def mom2A (g v : Arr) : Arr := fun i => mom2 (g i) (v i)

theorem pay1 (g p : Vec Ideal S352x1024 .f32) (y : S352x1024.Idx) : k0_pay1 (F := Ideal) g p y = mom1 (g y) (p y) := by
  pointwise [k0_pay1, mom1]
  try rfl

theorem pay2 (g v : Vec Ideal S352x1024 .f32) (y : S352x1024.Idx) : k0_pay2 (F := Ideal) g v y = mom2 (g y) (v y) := by
  pointwise [k0_pay2, mom2]
  try rfl

/-- The step of one element, from its weight and the new moments. -/
def delta (w a b : EReal) : EReal :=
  Scalar.ofBits (F := Ideal) .f32 0xBA83126F#32 * (Ideal.div (Ideal.div a (Scalar.ofBits (F := Ideal) .f32 0x3F26BD02#32))
    (Ideal.sqrt (Ideal.div b (Scalar.ofBits (F := Ideal) .f32 0x3C231ACC#32)) + Scalar.ofBits (F := Ideal) .f32 0x322BCC77#32)
    + Scalar.ofBits (F := Ideal) .f32 0x3C23D70A#32 * w)

theorem pay3 (w g p v : Vec Ideal S352x1024 .f32) (y : S352x1024.Idx) :
    k0_pay3 (F := Ideal) g p v w y = delta (w y) (mom1 (g y) (p y)) (mom2 (g y) (v y)) := by
  unfold k0_pay3
  rw [← pay1, ← pay2]
  generalize k0_pay1 (F := Ideal) g p = a
  generalize k0_pay2 (F := Ideal) g v = b
  pointwise [delta]
  try rfl
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

abbrev W : Arr := m ((c : Thread nD τ).loc main_arg0)
abbrev G : Arr := m ((c : Thread nD τ).loc main_arg1)
abbrev M1 : Arr := m ((c : Thread nD τ).loc main_arg2)
abbrev M2 : Arr := m ((c : Thread nD τ).loc main_arg3)

/-- The step over the whole arrays. -/
def deltaA (w g p v : Arr) : Arr := fun i => delta (w i) (mom1A g p i) (mom2A g v i)

/-- Row `r` of block `t`. -/
def row (t : Fin cfg0.N) (r : Fin 352) : Fin 704 := ⟨t.val * 352 + r.val, by
  have : t.val < 2 := lt_of_lt_of_eq t.isLt (show cfg0.N = 2 from N_0)
  omega⟩

theorem b0 (t : Fin cfg0.N) (r : Fin 352) (j : Fin 1024) : iblk m c 0 t (ix2 r j) = W m c (ix2 (row t r) j) := by
  blk_point [iblk, V, idx t, row]
theorem b1 (t : Fin cfg0.N) (r : Fin 352) (j : Fin 1024) : iblk m c 1 t (ix2 r j) = G m c (ix2 (row t r) j) := by
  blk_point [iblk, V, idx t, row]
theorem b2 (t : Fin cfg0.N) (r : Fin 352) (j : Fin 1024) : iblk m c 2 t (ix2 r j) = M1 m c (ix2 (row t r) j) := by
  blk_point [iblk, V, idx t, row]
theorem b3 (t : Fin cfg0.N) (r : Fin 352) (j : Fin 1024) : iblk m c 3 t (ix2 r j) = M2 m c (ix2 (row t r) j) := by
  blk_point [iblk, V, idx t, row]

theorem at1 (t : Fin cfg0.N) (r : Fin 352) (j : Fin 1024) :
    k0_pay1 (iblk m c 1 t) (iblk m c 2 t) (ix2 r j) = mom1A (G m c) (M1 m c) (ix2 (row t r) j) :=
  (pay1 _ _ _).trans (congrArg₂ mom1 (b1 m c t r j) (b2 m c t r j))
theorem at2 (t : Fin cfg0.N) (r : Fin 352) (j : Fin 1024) :
    k0_pay2 (iblk m c 1 t) (iblk m c 3 t) (ix2 r j) = mom2A (G m c) (M2 m c) (ix2 (row t r) j) :=
  (pay2 _ _ _).trans (congrArg₂ mom2 (b1 m c t r j) (b3 m c t r j))
theorem at3 (t : Fin cfg0.N) (r : Fin 352) (j : Fin 1024) :
    k0_pay3 (iblk m c 1 t) (iblk m c 2 t) (iblk m c 3 t) (iblk m c 0 t) (ix2 r j) =
      deltaA (W m c) (G m c) (M1 m c) (M2 m c) (ix2 (row t r) j) := by
  refine (pay3 _ _ _ _ _).trans ?_
  rw [b0, b1, b2, b3]
  rfl

theorem final4 : (dats m 0 c).arrAt 4 (cfgs 0).N = deltaA (W m c) (G m c) (M1 m c) (M2 m c) := by
  refine (dats m 0 c).arrAt_eq_of_covers 4 _ (by decide +kernel) fun t hf y => ?_
  blk_simp
  rw [after0_4]
  frame_out
  idx_vars y
  refine (at3 m c t y0 y1).trans (congrArg _ ?_)
  blk_ext [idx t, row]
theorem final5 : (dats m 0 c).arrAt 5 (cfgs 0).N = mom1A (G m c) (M1 m c) := by
  refine (dats m 0 c).arrAt_eq_of_covers 5 _ (by decide +kernel) fun t hf y => ?_
  blk_simp
  rw [after0_5]
  frame_out
  idx_vars y
  refine (at1 m c t y0 y1).trans (congrArg _ ?_)
  blk_ext [idx t, row]
theorem final6 : (dats m 0 c).arrAt 6 (cfgs 0).N = mom2A (G m c) (M2 m c) := by
  refine (dats m 0 c).arrAt_eq_of_covers 6 _ (by decide +kernel) fun t hf y => ?_
  blk_simp
  rw [after0_6]
  frame_out
  idx_vars y
  refine (at2 m c t y0 y1).trans (congrArg _ ?_)
  blk_ext [idx t, row]
end Kernel

section Reference
open Cert.AdamStepRefIdeal Cert.AdamStepRefIdeal.Read

theorem ref4 (g p : Arr) : val_main_v4 (F := Ideal) g p = mom1A g p := by
  funext j
  pointwise [val_main_v4, val_main_v3, val_main_v2, val_main_cst_0, val_main_v1, val_main_v0, val_main_cst, mom1A, mom1]
  try rfl

theorem ref10 (g v : Arr) : val_main_v10 (F := Ideal) g v = mom2A g v := by
  funext j
  pointwise [val_main_v10, val_main_v9, val_main_v8, val_main_cst_2, val_main_v7, val_main_v6, val_main_v5, val_main_cst_1, mom2A, mom2]
  try rfl

theorem ref23 (w g p v : Arr) : val_main_v23 (F := Ideal) w g p v = deltaA w g p v := by
  unfold deltaA
  rw [← ref4, ← ref10]
  funext j
  simp only [val_main_v23, val_main_v21, val_main_v18, val_main_v17, val_main_v15, val_main_v14, val_main_v12]
  generalize val_main_v4 (F := Ideal) g p = a
  generalize val_main_v10 (F := Ideal) g v = b
  pointwise [val_main_v22, val_main_cst_7, val_main_v20, val_main_v19, val_main_cst_6, val_main_v16, val_main_cst_5, val_main_v13,
    val_main_cst_4, val_main_v11, val_main_cst_3, delta]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v23) = val_main_v23 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v4) = val_main_v4 (F := Ideal) (m ((c.tc : Thread nD τ).loc main_arg1))
        (m ((c.tc : Thread nD τ).loc main_arg2))
      ∧ r.2.mem ((c.tc : Thread nD τ).loc main_v10) = val_main_v10 (F := Ideal) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c).1.trans (val_main_v23_eq _ _ _ _), (h c).2.1.trans (val_main_v4_eq _ _),
    (h c).2.2.1.trans (val_main_v10_eq _ _), (h c).2.2.2⟩, sem_eq_zero_of_no_sems (by decide) r.2⟩) (Value.run m ρ)
end Reference

theorem frame_ref : Cert.quiescent_AdamStepRefIdeal := fun m g _ =>
  (θ_run Cert.AdamStepRefIdeal.defs _ _).mono (fun _ h => ⟨fun c => (h.1 c).2.2.2, h.2⟩) (run_ref m g)

theorem algebraic : Cert.algebraic_AdamStepIdeal_AdamStepRefIdeal := by
  pair_intro
  · run_from Cert.AdamStepIdeal.Gen.run_main m g
  · refine (θ_run Cert.AdamStepRefIdeal.defs _ _).mono (fun r h c => ?_) (run_ref m' g')
    obtain ⟨h0, h1, h2, h3⟩ := h.1 c
    obtain ⟨e0, e1, e2, e3⟩ := hagree c
    refine ⟨h0.trans ?_, h1.trans ?_, h2.trans ?_, h3⟩
    · rw [e0, e1, e2, e3, final4 m c]
      exact ref23 _ _ _ _
    · rw [e1, e2, final5 m c]
      exact ref4 _ _
    · rw [e1, e3, final6 m c]
      exact ref10 _ _

end Cert.Adam

end
-- ==== Proof.OutProjDx.lean ====
/-
  `out_proj_dx`: the gradient through the output projection, over four blocks of 1024 rows.
-/
module

public import proofs.«01_k».proof.Proof.Gen.OutProjDxIdeal.Value
public import proofs.«01_k».proof.Proof.Gen.OutProjDxRefIdeal.Run
public import proofs.«01_k».proof.Proof.Gen.OutProjDxRefIdeal.Read
public import Idealize.ShloMosaic.Lib.Pipeline.ValueKit
public import Idealize.ShloMosaic.Lib.Claim
public import proofs.«01_k».proof.Defs

@[expose] public section

set_option maxRecDepth 16384

noncomputable section

namespace Cert.ProdOutProjDx

open Idealize.ShloMosaic Idealize.ShloMosaic.TcCoe Idealize.SL.Sem
open Idealize.ShloMosaic.Pipeline (Dat)

section Kernel
open Cert.OutProjDxIdeal Cert.OutProjDxIdeal.Gen

/-- The product over the whole arrays. -/
def prodA (a : FVec Ideal S4096x1024 .f32) (b : FVec Ideal S1024x1024 .f32) : FVec Ideal S4096x1024 .f32 :=
  fun i => ∑ k, a (ix2 (i 0) k) * b (ix2 (i 1) k)

theorem pay (a : FVec Ideal S1024x1024 .f32) (b : FVec Ideal S1024x1024 .bf16) (r : Fin 1024) (j : Fin 1024) :
    k0_pay1 (F := Ideal) a b (ix2 r j) = ∑ k, a (ix2 r k) * b (ix2 j k) := by
  pointwise [k0_pay1]
  try rfl

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev A : FVec Ideal S4096x1024 .f32 := m ((c : Thread nD τ).loc main_arg0)
abbrev B : FVec Ideal S1024x1024 .f32 := m ((c : Thread nD τ).loc main_arg1)

/-- The row and the column of block `t`'s element. -/
def row (t : Fin cfg0.N) (r : Fin 1024) : Fin 4096 := ⟨t.val * 1024 + r.val, by
  have : t.val < 4 := lt_of_lt_of_eq t.isLt (show cfg0.N = 4 from N_0)
  omega⟩
def col (t : Fin cfg0.N) (j : Fin 1024) : Fin 1024 := ⟨0 * 1024 + j.val, by
  have : t.val < 4 := lt_of_lt_of_eq t.isLt (show cfg0.N = 4 from N_0)
  omega⟩

theorem b0 (t : Fin cfg0.N) (r : Fin 1024) (k : Fin 1024) : iblk m c 0 t (ix2 r k) = A m c (ix2 (row t r) k) := by
  blk_point [iblk, V, idx t, row]
theorem b1 (t : Fin cfg0.N) (k : Fin 1024) (j : Fin 1024) : iblk m c 1 t (ix2 j k) = B m c (ix2 (col t j) k) := by
  have hV : V m c main_v0 = truncf (F := Ideal) .bf16 (B m c) bitsLt_bf16_f32 := by
    unfold V; after_results; try rfl
  refine Eq.trans (b := V m c main_v0 (ix2 (col t j) k)) ?_ ?_
  · blk_point [iblk, idx t, col]
  · rw [hV]
    pointwise []
    try rfl

theorem emb (t : Fin cfg0.N) (y : S1024x1024.Idx) (i : S4096x1024.Idx) (h0 : (i 0).val = t.val * 1024 + (y 0).val)
    (h1 : (i 1).val = 0 * 1024 + (y 1).val) : k0_pay1 (iblk m c 0 t) (iblk m c 1 t) y = prodA (A m c) (B m c) i := by
  idx_vars y
  have e0 : i 0 = row t y0 := Fin.ext h0
  have e1 : i 1 = col t y1 := Fin.ext h1
  refine (pay _ _ y0 y1).trans ?_
  unfold prodA
  rw [e0, e1]
  exact Finset.sum_congr rfl fun k _ => congrArg₂ (· * ·) (b0 m c t y0 k) (b1 m c t k y1)

theorem final : (dats m 0 c).arrAt 2 (cfgs 0).N = prodA (A m c) (B m c) := by
  refine (dats m 0 c).arrAt_eq_of_covers 2 _ (by decide +kernel) fun t hf y => ?_
  blk_simp
  rw [after0_2]
  frame_out
  refine emb m c t y _ ?_ ?_
  · blk_simp [idx t]
  · blk_simp [idx t]
end Kernel

section Reference
open Cert.OutProjDxRefIdeal Cert.OutProjDxRefIdeal.Read

theorem ref_eq (a : FVec Ideal OutProjDxIdeal.S4096x1024 .f32) (b : FVec Ideal OutProjDxIdeal.S1024x1024 .f32) :
    val_main_v1 (F := Ideal) a b = prodA a b := by
  funext j
  idx_vars j
  pointwise [val_main_v1, val_main_v0, prodA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v1) = val_main_v1 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v1_eq _ _), (h c).2⟩,
    sem_eq_zero_of_no_sems (by decide) r.2⟩) (Value.run m ρ)
end Reference

theorem frame_ref : Cert.quiescent_OutProjDxRefIdeal := fun m g _ =>
  (θ_run Cert.OutProjDxRefIdeal.defs _ _).mono (fun _ h => ⟨fun c => (h.1 c).2, h.2⟩) (run_ref m g)

theorem algebraic : Cert.algebraic_OutProjDxIdeal_OutProjDxRefIdeal := by
  pair_intro
  · run_from Cert.OutProjDxIdeal.Gen.run_main m g
  · refine (θ_run Cert.OutProjDxRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.ProdOutProjDx

end
-- ==== Proof.MemKv.lean ====
/-
  `mem_kv`: the memory's keys and values, in one block.
-/
module

public import proofs.«01_k».proof.Proof.Gen.MemKvIdeal.Value
public import proofs.«01_k».proof.Proof.Gen.MemKvRefIdeal.Run
public import proofs.«01_k».proof.Proof.Gen.MemKvRefIdeal.Read
public import Idealize.ShloMosaic.Lib.Pipeline.ValueKit
public import Idealize.ShloMosaic.Lib.Claim
public import proofs.«01_k».proof.Defs

@[expose] public section

set_option maxRecDepth 16384

noncomputable section

namespace Cert.ProdMemKv

open Idealize.ShloMosaic Idealize.ShloMosaic.TcCoe Idealize.SL.Sem
open Idealize.ShloMosaic.Pipeline (Dat)

section Kernel
open Cert.MemKvIdeal Cert.MemKvIdeal.Gen

/-- The product over the whole arrays. -/
def prodA (a : FVec Ideal S256x1024 .bf16) (b : FVec Ideal S1024x512 .f32) : FVec Ideal S256x512 .f32 :=
  fun i => ∑ k, a (ix2 (i 0) k) * b (ix2 k (i 1))

theorem pay (a : FVec Ideal S256x1024 .bf16) (b : FVec Ideal S1024x512 .bf16) (r : Fin 256) (j : Fin 512) :
    k0_pay1 (F := Ideal) a b (ix2 r j) = ∑ k, a (ix2 r k) * b (ix2 k j) := by
  pointwise [k0_pay1]
  try rfl

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

abbrev A : FVec Ideal S256x1024 .bf16 := m ((c : Thread nD τ).loc main_arg0)
abbrev B : FVec Ideal S1024x512 .f32 := m ((c : Thread nD τ).loc main_arg1)

/-- The row and the column of block `t`'s element. -/
def row (t : Fin cfg0.N) (r : Fin 256) : Fin 256 := ⟨0 * 256 + r.val, by
  have : t.val < 1 := lt_of_lt_of_eq t.isLt (show cfg0.N = 1 from N_0)
  omega⟩
def col (t : Fin cfg0.N) (j : Fin 512) : Fin 512 := ⟨0 * 512 + j.val, by
  have : t.val < 1 := lt_of_lt_of_eq t.isLt (show cfg0.N = 1 from N_0)
  omega⟩

theorem b0 (t : Fin cfg0.N) (r : Fin 256) (k : Fin 1024) : iblk m c 0 t (ix2 r k) = A m c (ix2 (row t r) k) := by
  blk_point [iblk, V, idx t, row]
theorem b1 (t : Fin cfg0.N) (k : Fin 1024) (j : Fin 512) : iblk m c 1 t (ix2 k j) = B m c (ix2 k (col t j)) := by
  have hV : V m c main_v0 = truncf (F := Ideal) .bf16 (B m c) bitsLt_bf16_f32 := by
    unfold V; after_results; try rfl
  refine Eq.trans (b := V m c main_v0 (ix2 k (col t j))) ?_ ?_
  · blk_point [iblk, idx t, col]
  · rw [hV]
    pointwise []
    try rfl

theorem emb (t : Fin cfg0.N) (y : S256x512.Idx) (i : S256x512.Idx) (h0 : (i 0).val = 0 * 256 + (y 0).val)
    (h1 : (i 1).val = 0 * 512 + (y 1).val) : k0_pay1 (iblk m c 0 t) (iblk m c 1 t) y = prodA (A m c) (B m c) i := by
  idx_vars y
  have e0 : i 0 = row t y0 := Fin.ext h0
  have e1 : i 1 = col t y1 := Fin.ext h1
  refine (pay _ _ y0 y1).trans ?_
  unfold prodA
  rw [e0, e1]
  exact Finset.sum_congr rfl fun k _ => congrArg₂ (· * ·) (b0 m c t y0 k) (b1 m c t k y1)

theorem final : (dats m 0 c).arrAt 2 (cfgs 0).N = prodA (A m c) (B m c) := by
  refine (dats m 0 c).arrAt_eq_of_covers 2 _ (by decide +kernel) fun t hf y => ?_
  blk_simp
  rw [after0_2]
  frame_out
  refine emb m c t y _ ?_ ?_
  · blk_simp [idx t]
  · blk_simp [idx t]
end Kernel

section Reference
open Cert.MemKvRefIdeal Cert.MemKvRefIdeal.Read

theorem ref_eq (a : FVec Ideal MemKvIdeal.S256x1024 .bf16) (b : FVec Ideal MemKvIdeal.S1024x512 .f32) :
    val_main_v1 (F := Ideal) a b = prodA a b := by
  funext j
  idx_vars j
  pointwise [val_main_v1, val_main_v0, prodA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v1) = val_main_v1 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v1_eq _ _), (h c).2⟩,
    sem_eq_zero_of_no_sems (by decide) r.2⟩) (Value.run m ρ)
end Reference

theorem frame_ref : Cert.quiescent_MemKvRefIdeal := fun m g _ =>
  (θ_run Cert.MemKvRefIdeal.defs _ _).mono (fun _ h => ⟨fun c => (h.1 c).2, h.2⟩) (run_ref m g)

theorem algebraic : Cert.algebraic_MemKvIdeal_MemKvRefIdeal := by
  pair_intro
  · run_from Cert.MemKvIdeal.Gen.run_main m g
  · refine (θ_run Cert.MemKvRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.ProdMemKv

end
-- ==== Proof.MemKvDx.lean ====
/-
  `mem_kv_dx`: the gradient through the memory's keys and values, in one block.
-/
module

public import proofs.«01_k».proof.Proof.Gen.MemKvDxIdeal.Value
public import proofs.«01_k».proof.Proof.Gen.MemKvDxRefIdeal.Run
public import proofs.«01_k».proof.Proof.Gen.MemKvDxRefIdeal.Read
public import Idealize.ShloMosaic.Lib.Pipeline.ValueKit
public import Idealize.ShloMosaic.Lib.Claim
public import proofs.«01_k».proof.Defs

@[expose] public section

set_option maxRecDepth 16384

noncomputable section

namespace Cert.ProdMemKvDx

open Idealize.ShloMosaic Idealize.ShloMosaic.TcCoe Idealize.SL.Sem
open Idealize.ShloMosaic.Pipeline (Dat)

section Kernel
open Cert.MemKvDxIdeal Cert.MemKvDxIdeal.Gen

/-- The product over the whole arrays. -/
def prodA (a : FVec Ideal S256x512 .f32) (b : FVec Ideal S1024x512 .f32) : FVec Ideal S256x1024 .f32 :=
  fun i => ∑ k, a (ix2 (i 0) k) * b (ix2 (i 1) k)

theorem pay (a : FVec Ideal S256x512 .f32) (b : FVec Ideal S1024x512 .bf16) (r : Fin 256) (j : Fin 1024) :
    k0_pay1 (F := Ideal) a b (ix2 r j) = ∑ k, a (ix2 r k) * b (ix2 j k) := by
  pointwise [k0_pay1]
  try rfl

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

abbrev A : FVec Ideal S256x512 .f32 := m ((c : Thread nD τ).loc main_arg0)
abbrev B : FVec Ideal S1024x512 .f32 := m ((c : Thread nD τ).loc main_arg1)

/-- The row and the column of block `t`'s element. -/
def row (t : Fin cfg0.N) (r : Fin 256) : Fin 256 := ⟨0 * 256 + r.val, by
  have : t.val < 1 := lt_of_lt_of_eq t.isLt (show cfg0.N = 1 from N_0)
  omega⟩
def col (t : Fin cfg0.N) (j : Fin 1024) : Fin 1024 := ⟨0 * 1024 + j.val, by
  have : t.val < 1 := lt_of_lt_of_eq t.isLt (show cfg0.N = 1 from N_0)
  omega⟩

theorem b0 (t : Fin cfg0.N) (r : Fin 256) (k : Fin 512) : iblk m c 0 t (ix2 r k) = A m c (ix2 (row t r) k) := by
  blk_point [iblk, V, idx t, row]
theorem b1 (t : Fin cfg0.N) (k : Fin 512) (j : Fin 1024) : iblk m c 1 t (ix2 j k) = B m c (ix2 (col t j) k) := by
  have hV : V m c main_v0 = truncf (F := Ideal) .bf16 (B m c) bitsLt_bf16_f32 := by
    unfold V; after_results; try rfl
  refine Eq.trans (b := V m c main_v0 (ix2 (col t j) k)) ?_ ?_
  · blk_point [iblk, idx t, col]
  · rw [hV]
    pointwise []
    try rfl

theorem emb (t : Fin cfg0.N) (y : S256x1024.Idx) (i : S256x1024.Idx) (h0 : (i 0).val = 0 * 256 + (y 0).val)
    (h1 : (i 1).val = 0 * 1024 + (y 1).val) : k0_pay1 (iblk m c 0 t) (iblk m c 1 t) y = prodA (A m c) (B m c) i := by
  idx_vars y
  have e0 : i 0 = row t y0 := Fin.ext h0
  have e1 : i 1 = col t y1 := Fin.ext h1
  refine (pay _ _ y0 y1).trans ?_
  unfold prodA
  rw [e0, e1]
  exact Finset.sum_congr rfl fun k _ => congrArg₂ (· * ·) (b0 m c t y0 k) (b1 m c t k y1)

theorem final : (dats m 0 c).arrAt 2 (cfgs 0).N = prodA (A m c) (B m c) := by
  refine (dats m 0 c).arrAt_eq_of_covers 2 _ (by decide +kernel) fun t hf y => ?_
  blk_simp
  rw [after0_2]
  frame_out
  refine emb m c t y _ ?_ ?_
  · blk_simp [idx t]
  · blk_simp [idx t]
end Kernel

section Reference
open Cert.MemKvDxRefIdeal Cert.MemKvDxRefIdeal.Read

theorem ref_eq (a : FVec Ideal MemKvDxIdeal.S256x512 .f32) (b : FVec Ideal MemKvDxIdeal.S1024x512 .f32) :
    val_main_v1 (F := Ideal) a b = prodA a b := by
  funext j
  idx_vars j
  pointwise [val_main_v1, val_main_v0, prodA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v1) = val_main_v1 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v1_eq _ _), (h c).2⟩,
    sem_eq_zero_of_no_sems (by decide) r.2⟩) (Value.run m ρ)
end Reference

theorem frame_ref : Cert.quiescent_MemKvDxRefIdeal := fun m g _ =>
  (θ_run Cert.MemKvDxRefIdeal.defs _ _).mono (fun _ h => ⟨fun c => (h.1 c).2, h.2⟩) (run_ref m g)

theorem algebraic : Cert.algebraic_MemKvDxIdeal_MemKvDxRefIdeal := by
  pair_intro
  · run_from Cert.MemKvDxIdeal.Gen.run_main m g
  · refine (θ_run Cert.MemKvDxRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.ProdMemKvDx

end
-- ==== Proof.HgIn.lean ====
/-
  `hg_in`: the first layer's input projection, over four blocks of rows and two of columns.
-/
module

public import proofs.«01_k».proof.Proof.Gen.HgInIdeal.Value
public import proofs.«01_k».proof.Proof.Gen.HgInRefIdeal.Run
public import proofs.«01_k».proof.Proof.Gen.HgInRefIdeal.Read
public import Idealize.ShloMosaic.Lib.Pipeline.ValueKit
public import Idealize.ShloMosaic.Lib.Claim
public import proofs.«01_k».proof.Defs

@[expose] public section

set_option maxRecDepth 16384

noncomputable section

namespace Cert.ProdHgIn

open Idealize.ShloMosaic Idealize.ShloMosaic.TcCoe Idealize.SL.Sem
open Idealize.ShloMosaic.Pipeline (Dat)

section Kernel
open Cert.HgInIdeal Cert.HgInIdeal.Gen

/-- The product over the whole arrays. -/
def prodA (a : FVec Ideal S4096x1024 .bf16) (b : FVec Ideal S1024x3328 .f32) : FVec Ideal S4096x3328 .f32 :=
  fun i => ∑ k, a (ix2 (i 0) k) * b (ix2 k (i 1))

theorem pay (a : FVec Ideal S1024x1024 .bf16) (b : FVec Ideal S1664x1024 .bf16) (r : Fin 1024) (j : Fin 1664) :
    k0_pay1 (F := Ideal) a b (ix2 r j) = ∑ k, a (ix2 r k) * b (ix2 j k) := by
  pointwise [k0_pay1]
  try rfl

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

abbrev A : FVec Ideal S4096x1024 .bf16 := m ((c : Thread nD τ).loc main_arg0)
abbrev B : FVec Ideal S1024x3328 .f32 := m ((c : Thread nD τ).loc main_arg1)

/-- The row and the column of block `t`'s element. -/
def row (t : Fin cfg0.N) (r : Fin 1024) : Fin 4096 := ⟨t.val / 2 * 1024 + r.val, by
  have : t.val < 8 := lt_of_lt_of_eq t.isLt (show cfg0.N = 8 from N_0)
  omega⟩
def col (t : Fin cfg0.N) (j : Fin 1664) : Fin 3328 := ⟨t.val % 2 * 1664 + j.val, by
  have : t.val < 8 := lt_of_lt_of_eq t.isLt (show cfg0.N = 8 from N_0)
  omega⟩

theorem b0 (t : Fin cfg0.N) (r : Fin 1024) (k : Fin 1024) : iblk m c 0 t (ix2 r k) = A m c (ix2 (row t r) k) := by
  blk_point [iblk, V, idx t, row]
theorem b1 (t : Fin cfg0.N) (k : Fin 1024) (j : Fin 1664) : iblk m c 1 t (ix2 j k) = B m c (ix2 k (col t j)) := by
  have hV : V m c main_v1 = truncf (F := Ideal) .bf16 (transpose S3328x1024 [1, 0] (B m c) transposes_S1024x3328_S3328x1024_1_0) bitsLt_bf16_f32 := by
    unfold V; after_results; try rfl
  refine Eq.trans (b := V m c main_v1 (ix2 (col t j) k)) ?_ ?_
  · blk_point [iblk, idx t, col]
  · rw [hV]
    pointwise []
    try rfl

theorem emb (t : Fin cfg0.N) (y : S1024x1664.Idx) (i : S4096x3328.Idx) (h0 : (i 0).val = t.val / 2 * 1024 + (y 0).val)
    (h1 : (i 1).val = t.val % 2 * 1664 + (y 1).val) : k0_pay1 (iblk m c 0 t) (iblk m c 1 t) y = prodA (A m c) (B m c) i := by
  idx_vars y
  have e0 : i 0 = row t y0 := Fin.ext h0
  have e1 : i 1 = col t y1 := Fin.ext h1
  refine (pay _ _ y0 y1).trans ?_
  unfold prodA
  rw [e0, e1]
  exact Finset.sum_congr rfl fun k _ => congrArg₂ (· * ·) (b0 m c t y0 k) (b1 m c t k y1)

theorem final : (dats m 0 c).arrAt 2 (cfgs 0).N = prodA (A m c) (B m c) := by
  refine (dats m 0 c).arrAt_eq_of_covers 2 _ (by decide +kernel) fun t hf y => ?_
  blk_simp
  rw [after0_2]
  frame_out
  refine emb m c t y _ ?_ ?_
  · blk_simp [idx t]
  · blk_simp [idx t]
end Kernel

section Reference
open Cert.HgInRefIdeal Cert.HgInRefIdeal.Read

theorem ref_eq (a : FVec Ideal HgInIdeal.S4096x1024 .bf16) (b : FVec Ideal HgInIdeal.S1024x3328 .f32) :
    val_main_v1 (F := Ideal) a b = prodA a b := by
  funext j
  idx_vars j
  pointwise [val_main_v1, val_main_v0, prodA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v1) = val_main_v1 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v1_eq _ _), (h c).2⟩,
    sem_eq_zero_of_no_sems (by decide) r.2⟩) (Value.run m ρ)
end Reference

theorem frame_ref : Cert.quiescent_HgInRefIdeal := fun m g _ =>
  (θ_run Cert.HgInRefIdeal.defs _ _).mono (fun _ h => ⟨fun c => (h.1 c).2, h.2⟩) (run_ref m g)

theorem algebraic : Cert.algebraic_HgInIdeal_HgInRefIdeal := by
  pair_intro
  · run_from Cert.HgInIdeal.Gen.run_main m g
  · refine (θ_run Cert.HgInRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.ProdHgIn

end
-- ==== Proof.GmIn.lean ====
/-
  `gm_in`: the second layer's input projection, over four blocks of 1024 rows.
-/
module

public import proofs.«01_k».proof.Proof.Gen.GmInIdeal.Value
public import proofs.«01_k».proof.Proof.Gen.GmInRefIdeal.Run
public import proofs.«01_k».proof.Proof.Gen.GmInRefIdeal.Read
public import Idealize.ShloMosaic.Lib.Pipeline.ValueKit
public import Idealize.ShloMosaic.Lib.Claim
public import proofs.«01_k».proof.Defs

@[expose] public section

set_option maxRecDepth 16384

noncomputable section

namespace Cert.ProdGmIn

open Idealize.ShloMosaic Idealize.ShloMosaic.TcCoe Idealize.SL.Sem
open Idealize.ShloMosaic.Pipeline (Dat)

section Kernel
open Cert.GmInIdeal Cert.GmInIdeal.Gen

/-- The product over the whole arrays. -/
def prodA (a : FVec Ideal S4096x1024 .bf16) (b : FVec Ideal S1024x1792 .f32) : FVec Ideal S4096x1792 .f32 :=
  fun i => ∑ k, a (ix2 (i 0) k) * b (ix2 k (i 1))

theorem pay (a : FVec Ideal S1024x1024 .bf16) (b : FVec Ideal S1792x1024 .bf16) (r : Fin 1024) (j : Fin 1792) :
    k0_pay1 (F := Ideal) a b (ix2 r j) = ∑ k, a (ix2 r k) * b (ix2 j k) := by
  pointwise [k0_pay1]
  try rfl

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev A : FVec Ideal S4096x1024 .bf16 := m ((c : Thread nD τ).loc main_arg0)
abbrev B : FVec Ideal S1024x1792 .f32 := m ((c : Thread nD τ).loc main_arg1)

/-- The row and the column of block `t`'s element. -/
def row (t : Fin cfg0.N) (r : Fin 1024) : Fin 4096 := ⟨t.val * 1024 + r.val, by
  have : t.val < 4 := lt_of_lt_of_eq t.isLt (show cfg0.N = 4 from N_0)
  omega⟩
def col (t : Fin cfg0.N) (j : Fin 1792) : Fin 1792 := ⟨0 * 1792 + j.val, by
  have : t.val < 4 := lt_of_lt_of_eq t.isLt (show cfg0.N = 4 from N_0)
  omega⟩

theorem b0 (t : Fin cfg0.N) (r : Fin 1024) (k : Fin 1024) : iblk m c 0 t (ix2 r k) = A m c (ix2 (row t r) k) := by
  blk_point [iblk, V, idx t, row]
theorem b1 (t : Fin cfg0.N) (k : Fin 1024) (j : Fin 1792) : iblk m c 1 t (ix2 j k) = B m c (ix2 k (col t j)) := by
  have hV : V m c main_v1 = truncf (F := Ideal) .bf16 (transpose S1792x1024 [1, 0] (B m c) transposes_S1024x1792_S1792x1024_1_0) bitsLt_bf16_f32 := by
    unfold V; after_results; try rfl
  refine Eq.trans (b := V m c main_v1 (ix2 (col t j) k)) ?_ ?_
  · blk_point [iblk, idx t, col]
  · rw [hV]
    pointwise []
    try rfl

theorem emb (t : Fin cfg0.N) (y : S1024x1792.Idx) (i : S4096x1792.Idx) (h0 : (i 0).val = t.val * 1024 + (y 0).val)
    (h1 : (i 1).val = 0 * 1792 + (y 1).val) : k0_pay1 (iblk m c 0 t) (iblk m c 1 t) y = prodA (A m c) (B m c) i := by
  idx_vars y
  have e0 : i 0 = row t y0 := Fin.ext h0
  have e1 : i 1 = col t y1 := Fin.ext h1
  refine (pay _ _ y0 y1).trans ?_
  unfold prodA
  rw [e0, e1]
  exact Finset.sum_congr rfl fun k _ => congrArg₂ (· * ·) (b0 m c t y0 k) (b1 m c t k y1)

theorem final : (dats m 0 c).arrAt 2 (cfgs 0).N = prodA (A m c) (B m c) := by
  refine (dats m 0 c).arrAt_eq_of_covers 2 _ (by decide +kernel) fun t hf y => ?_
  blk_simp
  rw [after0_2]
  frame_out
  refine emb m c t y _ ?_ ?_
  · blk_simp [idx t]
  · blk_simp [idx t]
end Kernel

section Reference
open Cert.GmInRefIdeal Cert.GmInRefIdeal.Read

theorem ref_eq (a : FVec Ideal GmInIdeal.S4096x1024 .bf16) (b : FVec Ideal GmInIdeal.S1024x1792 .f32) :
    val_main_v1 (F := Ideal) a b = prodA a b := by
  funext j
  idx_vars j
  pointwise [val_main_v1, val_main_v0, prodA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v1) = val_main_v1 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v1_eq _ _), (h c).2⟩,
    sem_eq_zero_of_no_sems (by decide) r.2⟩) (Value.run m ρ)
end Reference

theorem frame_ref : Cert.quiescent_GmInRefIdeal := fun m g _ =>
  (θ_run Cert.GmInRefIdeal.defs _ _).mono (fun _ h => ⟨fun c => (h.1 c).2, h.2⟩) (run_ref m g)

theorem algebraic : Cert.algebraic_GmInIdeal_GmInRefIdeal := by
  pair_intro
  · run_from Cert.GmInIdeal.Gen.run_main m g
  · refine (θ_run Cert.GmInRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.ProdGmIn

end
-- ==== Proof.MemKvDw.lean ====
/-
  `mem_kv_dw`: the gradient of the memory's weights, in one block.
-/
module

public import proofs.«01_k».proof.Proof.Gen.MemKvDwIdeal.Value
public import proofs.«01_k».proof.Proof.Gen.MemKvDwRefIdeal.Run
public import proofs.«01_k».proof.Proof.Gen.MemKvDwRefIdeal.Read
public import Idealize.ShloMosaic.Lib.Pipeline.ValueKit
public import Idealize.ShloMosaic.Lib.Claim
public import proofs.«01_k».proof.Defs

@[expose] public section

set_option maxRecDepth 16384

noncomputable section

namespace Cert.ProdMemKvDw

open Idealize.ShloMosaic Idealize.ShloMosaic.TcCoe Idealize.SL.Sem
open Idealize.ShloMosaic.Pipeline (Dat)

section Kernel
open Cert.MemKvDwIdeal Cert.MemKvDwIdeal.Gen

/-- The product over the whole arrays. -/
def prodA (a : FVec Ideal S256x1024 .bf16) (b : FVec Ideal S256x512 .f32) : FVec Ideal S1024x512 .bf16 :=
  fun i => ∑ k, a (ix2 k (i 0)) * b (ix2 k (i 1))

theorem pay (a : FVec Ideal S256x1024 .bf16) (b : FVec Ideal S256x512 .f32) (r : Fin 1024) (j : Fin 512) :
    k0_pay1 (F := Ideal) a b (ix2 r j) = ∑ k, a (ix2 k r) * b (ix2 k j) := by
  pointwise [k0_pay1]
  try rfl

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

abbrev A : FVec Ideal S256x1024 .bf16 := m ((c : Thread nD τ).loc main_arg0)
abbrev B : FVec Ideal S256x512 .f32 := m ((c : Thread nD τ).loc main_arg1)

/-- The row and the column of block `t`'s element. -/
def row (t : Fin cfg0.N) (r : Fin 1024) : Fin 1024 := ⟨0 * 1024 + r.val, by
  have : t.val < 1 := lt_of_lt_of_eq t.isLt (show cfg0.N = 1 from N_0)
  omega⟩
def col (t : Fin cfg0.N) (j : Fin 512) : Fin 512 := ⟨0 * 512 + j.val, by
  have : t.val < 1 := lt_of_lt_of_eq t.isLt (show cfg0.N = 1 from N_0)
  omega⟩

theorem b0 (t : Fin cfg0.N) (r : Fin 1024) (k : Fin 256) : iblk m c 0 t (ix2 k r) = A m c (ix2 k (row t r)) := by
  blk_point [iblk, V, idx t, row]
theorem b1 (t : Fin cfg0.N) (k : Fin 256) (j : Fin 512) : iblk m c 1 t (ix2 k j) = B m c (ix2 k (col t j)) := by
  blk_point [iblk, V, idx t, col]

theorem emb (t : Fin cfg0.N) (y : S1024x512.Idx) (i : S1024x512.Idx) (h0 : (i 0).val = 0 * 1024 + (y 0).val)
    (h1 : (i 1).val = 0 * 512 + (y 1).val) : k0_pay1 (iblk m c 0 t) (iblk m c 1 t) y = prodA (A m c) (B m c) i := by
  idx_vars y
  have e0 : i 0 = row t y0 := Fin.ext h0
  have e1 : i 1 = col t y1 := Fin.ext h1
  refine (pay _ _ y0 y1).trans ?_
  unfold prodA
  rw [e0, e1]
  exact Finset.sum_congr rfl fun k _ => congrArg₂ (· * ·) (b0 m c t y0 k) (b1 m c t k y1)

theorem final : (dats m 0 c).arrAt 2 (cfgs 0).N = prodA (A m c) (B m c) := by
  refine (dats m 0 c).arrAt_eq_of_covers 2 _ (by decide +kernel) fun t hf y => ?_
  blk_simp
  rw [after0_2]
  frame_out
  refine emb m c t y _ ?_ ?_
  · blk_simp [idx t]
  · blk_simp [idx t]
end Kernel

section Reference
open Cert.MemKvDwRefIdeal Cert.MemKvDwRefIdeal.Read

theorem ref_eq (a : FVec Ideal MemKvDwIdeal.S256x1024 .bf16) (b : FVec Ideal MemKvDwIdeal.S256x512 .f32) :
    val_main_v3 (F := Ideal) a b = prodA a b := by
  funext j
  idx_vars j
  pointwise [val_main_v3, val_main_v2, val_main_v1, val_main_v0, prodA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v3) = val_main_v3 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v3_eq _ _), (h c).2⟩,
    sem_eq_zero_of_no_sems (by decide) r.2⟩) (Value.run m ρ)
end Reference

theorem frame_ref : Cert.quiescent_MemKvDwRefIdeal := fun m g _ =>
  (θ_run Cert.MemKvDwRefIdeal.defs _ _).mono (fun _ h => ⟨fun c => (h.1 c).2, h.2⟩) (run_ref m g)

theorem algebraic : Cert.algebraic_MemKvDwIdeal_MemKvDwRefIdeal := by
  pair_intro
  · run_from Cert.MemKvDwIdeal.Gen.run_main m g
  · refine (θ_run Cert.MemKvDwRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.ProdMemKvDw

end
-- ==== Proof.OutProjDw.lean ====
/-
  `out_proj_dw`: the gradient of the output projection's weights, summed over four blocks of 1024 rows.
-/
module

public import proofs.«01_k».proof.Proof.Gen.OutProjDwIdeal.Value
public import proofs.«01_k».proof.Proof.Gen.OutProjDwRefIdeal.Run
public import proofs.«01_k».proof.Proof.Gen.OutProjDwRefIdeal.Read
public import Idealize.ShloMosaic.Lib.Pipeline.ValueKit
public import Idealize.ShloMosaic.Lib.Claim
public import proofs.«01_k».proof.Defs

@[expose] public section

set_option maxRecDepth 16384

noncomputable section

namespace Cert.ProdOutProjDw

open Idealize.ShloMosaic Idealize.ShloMosaic.TcCoe Idealize.SL.Sem
open Idealize.ShloMosaic.Pipeline (Dat)

section Kernel
open Cert.OutProjDwIdeal Cert.OutProjDwIdeal.Gen

/-- The product over the whole arrays. -/
def prodA (a : FVec Ideal S4096x1024 .bf16) (b : FVec Ideal S4096x1024 .f32) : FVec Ideal S1024x1024 .bf16 :=
  fun i => ∑ k, a (ix2 k (i 0)) * b (ix2 k (i 1))

/-- A block's contribution to the product. -/
def pr (a : Vec Ideal S1024x1024 .bf16) (b : Vec Ideal S1024x1024 .f32) (r : Fin 1024) (j : Fin 1024) : EReal :=
  ∑ x, a (ix2 x r) * b (ix2 x j)

theorem pay1 (a : Vec Ideal S1024x1024 .bf16) (b : Vec Ideal S1024x1024 .f32) (r : Fin 1024) (j : Fin 1024) :
    k0_pay1 (F := Ideal) a b (ix2 r j) = pr a b r j := by
  pointwise [k0_pay1, pr]
  try rfl

theorem pay2 (s : Vec Ideal S1024x1024 .f32) (a : Vec Ideal S1024x1024 .bf16) (b : Vec Ideal S1024x1024 .f32) (r : Fin 1024) (j : Fin 1024) :
    k0_pay2 (F := Ideal) s a b (ix2 r j) = s (ix2 r j) + pr a b r j := by
  pointwise [k0_pay2, pr]
  try rfl

theorem pay3 (s : Vec Ideal S1024x1024 .f32) (a : Vec Ideal S1024x1024 .bf16) (b : Vec Ideal S1024x1024 .f32) (r : Fin 1024) (j : Fin 1024) :
    k0_pay3 (F := Ideal) s a b (ix2 r j) = s (ix2 r j) + pr a b r j := by
  pointwise [k0_pay3, pr]
  try rfl

variable (m : (ℓ : Loc nD τ sig) → Buf (Elt Ideal) ℓ) (c : Dev nD)

theorem idx : ∀ t : Fin cfg0.N, win0_0.index t = ![t.val % 4, t.val / 4] ∧ win0_1.index t = ![t.val % 4, 0] ∧
    win0_2.index t = ![t.val / 4, 0] :=
  (by decide +kernel : ∀ t : Fin grid0.N, _)

abbrev A : FVec Ideal S4096x1024 .bf16 := m ((c : Thread nD τ).loc main_arg0)
abbrev B : FVec Ideal S4096x1024 .f32 := m ((c : Thread nD τ).loc main_arg1)

theorem NN : cfg0.N = 4 := N_0

/-- Row `r` of block `q`, contracted row `x` of block `k`, and the point of the two. -/
def row (q : Fin 1) (r : Fin 1024) : Fin 1024 := ⟨q.val * 1024 + r.val, by omega⟩
def lane (k : Fin 4) (x : Fin 1024) : Fin 4096 := ⟨k.val * 1024 + x.val, by omega⟩
def pt (q : Fin 1) (k : Fin 4) : Fin cfg0.N := ⟨q.val * 4 + k.val, by have := NN; omega⟩

theorem pt_mod (q : Fin 1) (k : Fin 4) : (pt q k).val % 4 = k.val := by simp only [pt]; omega
theorem pt_div (q : Fin 1) (k : Fin 4) : (pt q k).val / 4 = q.val := by simp only [pt]; omega

theorem b0 (q : Fin 1) (k : Fin 4) (x : Fin 1024) (r : Fin 1024) :
    (iblk m c 0 (pt q k) : Vec Ideal S1024x1024 .bf16) (ix2 x r) = A m c (ix2 (lane k x) (row q r)) := by
  have e1 := pt_mod q k
  have e2 := pt_div q k
  blk_point [iblk, V, idx (pt q k), e1, e2, row, lane]
theorem b1 (q : Fin 1) (k : Fin 4) (x : Fin 1024) (j : Fin 1024) :
    (iblk m c 1 (pt q k) : Vec Ideal S1024x1024 .f32) (ix2 x j) = B m c (ix2 (lane k x) j) := by
  have e1 := pt_mod q k
  blk_point [iblk, V, idx (pt q k), e1, lane]

/-- The contribution of block `k`, in terms of the arguments. -/
def part (q : Fin 1) (i : Fin 1024) (j : Fin 1024) (k : Fin 4) : EReal :=
  ∑ x, A m c (ix2 (lane k x) (row q i)) * B m c (ix2 (lane k x) j)

theorem pr_part (q : Fin 1) (k : Fin 4) (i : Fin 1024) (j : Fin 1024) :
    pr (iblk m c 0 (pt q k)) (iblk m c 1 (pt q k)) i j = part m c q i j k :=
  Finset.sum_congr rfl fun x _ => by exact congrArg₂ (· * ·) (b0 m c q k x i) (b1 m c q k x j)

/-- What the scratch holds after the first, the second and the third block, and what the last one stores. -/
theorem first (q : Fin 1) (i : Fin 1024) (j : Fin 1024) :
    (outsAt0 m c (pt q 0).val (pt q 0).isLt).2 (ix2 i j) = part m c q i j 0 := by
  have e := pt_mod q 0
  simp only [Fin.val_zero] at e
  rw [outsAt0_A m c (pt q 0) e (by omega) (by omega)]
  refine Eq.trans (b := k0_pay1 (F := Ideal) (iblk m c 0 (pt q 0)) (iblk m c 1 (pt q 0)) (ix2 i j)) ?_ ((pay1 _ _ i j).trans (pr_part m c q 0 i j))
  frame_out

theorem next (q : Fin 1) (k : Fin 4) (h : 1 ≤ k.val ∧ k.val ≤ 2) (h') (i : Fin 1024) (j : Fin 1024) :
    (outsAt0 m c (pt q k).val (pt q k).isLt).2 (ix2 i j) =
      (outsAt0 m c ((pt q k).val - 1) h').2 (ix2 i j) + part m c q i j k := by
  have e := pt_mod q k
  rw [outsAt0_B m c (pt q k) (by omega) (by omega) (by omega)]
  refine Eq.trans (b := k0_pay2 (F := Ideal) (outsAt0 m c ((pt q k).val - 1) h').2 (iblk m c 0 (pt q k)) (iblk m c 1 (pt q k)) (ix2 i j)) ?_
    ((pay2 _ _ _ i j).trans (congrArg _ (pr_part m c q k i j)))
  frame_out
  rw [(Memref.isWhole_whole cc0_scratch0).read_unread]

theorem last (q : Fin 1) (h') (i : Fin 1024) (j : Fin 1024) :
    (outsAt0 m c (pt q 3).val (pt q 3).isLt).1 (ix2 i j) =
      (outsAt0 m c ((pt q 3).val - 1) h').2 (ix2 i j) + part m c q i j 3 := by
  have e : (pt q 3).val % 4 = 3 := pt_mod q 3
  rw [outsAt0_C m c (pt q 3) (by omega) (by omega) (by omega)]
  refine Eq.trans (b := k0_pay3 (F := Ideal) (outsAt0 m c ((pt q 3).val - 1) h').2 (iblk m c 0 (pt q 3)) (iblk m c 1 (pt q 3)) (ix2 i j)) ?_
    ((pay3 _ _ _ i j).trans (congrArg _ (pr_part m c q 3 i j)))
  frame_out
  rw [(Memref.isWhole_whole cc0_scratch0).read_unread]

theorem sum_at (q : Fin 1) (i : Fin 1024) (j : Fin 1024) :
    (outsAt0 m c (pt q 3).val (pt q 3).isLt).1 (ix2 i j) = prodA (A m c) (B m c) (ix2 (row q i) j) := by
  have h1 := next m c q 1 (by decide) (pt q 0).isLt i j
  have h2 := next m c q 2 (by decide) (pt q 1).isLt i j
  have h3 := last m c q (pt q 2).isLt i j
  refine h3.trans ((congrArg (· + _) (h2.trans (congrArg (· + _) (h1.trans (congrArg (· + _) (first m c q i j)))))).trans ?_)
  refine Eq.trans (Fin.sum_univ_four (part m c q i j)).symm ?_
  exact Fin.sum_mul_add_congr (S := 4) (n := 1024) (F := fun k x =>
    A m c (ix2 (lane k x) (row q i)) * B m c (ix2 (lane k x) j)) (fun _ _ _ => rfl)

theorem pt_last (t : Fin cfg0.N) (h : t.val % 4 = 3) : ∃ q, t = pt q 3 :=
  ⟨⟨t.val / 4, by have := lt_of_lt_of_eq t.isLt NN; omega⟩, Fin.ext (show t.val = t.val / 4 * 4 + 3 by omega)⟩

theorem final : (dats m 0 c).arrAt 2 (cfgs 0).N = prodA (A m c) (B m c) := by
  refine (dats m 0 c).arrAt_eq_of_covers 2 _ (by decide +kernel) fun t hf y => ?_
  obtain ⟨q, rfl⟩ := pt_last t ((flush0_2 t).mp hf)
  blk_simp
  rw [after0_2]
  idx_vars y
  refine (sum_at m c q y0 y1).trans (congrArg _ ?_)
  have e2 := pt_div q 3
  blk_ext [idx (pt q 3), e2, row]
end Kernel

section Reference
open Cert.OutProjDwRefIdeal Cert.OutProjDwRefIdeal.Read

theorem ref_eq (a : FVec Ideal OutProjDwIdeal.S4096x1024 .bf16) (b : FVec Ideal OutProjDwIdeal.S4096x1024 .f32) :
    val_main_v3 (F := Ideal) a b = prodA a b := by
  funext j
  idx_vars j
  pointwise [val_main_v3, val_main_v2, val_main_v1, val_main_v0, prodA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v3) = val_main_v3 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v3_eq _ _), (h c).2⟩,
    sem_eq_zero_of_no_sems (by decide) r.2⟩) (Value.run m ρ)
end Reference

theorem frame_ref : Cert.quiescent_OutProjDwRefIdeal := fun m g _ =>
  (θ_run Cert.OutProjDwRefIdeal.defs _ _).mono (fun _ h => ⟨fun c => (h.1 c).2, h.2⟩) (run_ref m g)

theorem algebraic : Cert.algebraic_OutProjDwIdeal_OutProjDwRefIdeal := by
  pair_intro
  · run_from Cert.OutProjDwIdeal.Gen.run_main m g
  · refine (θ_run Cert.OutProjDwRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.ProdOutProjDw

end
-- ==== Proof.FfnOutDw.lean ====
/-
  `ffn_out_dw`: the gradient of the feed-forward's last weights, two blocks, each summed over four blocks of 1024 rows.
-/
module

public import proofs.«01_k».proof.Proof.Gen.FfnOutDwIdeal.Value
public import proofs.«01_k».proof.Proof.Gen.FfnOutDwRefIdeal.Run
public import proofs.«01_k».proof.Proof.Gen.FfnOutDwRefIdeal.Read
public import Idealize.ShloMosaic.Lib.Pipeline.ValueKit
public import Idealize.ShloMosaic.Lib.Claim
public import proofs.«01_k».proof.Defs

@[expose] public section

set_option maxRecDepth 16384

noncomputable section

namespace Cert.ProdFfnOutDw

open Idealize.ShloMosaic Idealize.ShloMosaic.TcCoe Idealize.SL.Sem
open Idealize.ShloMosaic.Pipeline (Dat)

section Kernel
open Cert.FfnOutDwIdeal Cert.FfnOutDwIdeal.Gen

/-- The product over the whole arrays. -/
def prodA (a : FVec Ideal S4096x2816 .bf16) (b : FVec Ideal S4096x1024 .f32) : FVec Ideal S2816x1024 .bf16 :=
  fun i => ∑ k, a (ix2 k (i 0)) * b (ix2 k (i 1))

/-- A block's contribution to the product. -/
def pr (a : Vec Ideal S1024x1408 .bf16) (b : Vec Ideal S1024x1024 .f32) (r : Fin 1408) (j : Fin 1024) : EReal :=
  ∑ x, a (ix2 x r) * b (ix2 x j)

theorem pay1 (a : Vec Ideal S1024x1408 .bf16) (b : Vec Ideal S1024x1024 .f32) (r : Fin 1408) (j : Fin 1024) :
    k0_pay1 (F := Ideal) a b (ix2 r j) = pr a b r j := by
  pointwise [k0_pay1, pr]
  try rfl

theorem pay2 (s : Vec Ideal S1408x1024 .f32) (a : Vec Ideal S1024x1408 .bf16) (b : Vec Ideal S1024x1024 .f32) (r : Fin 1408) (j : Fin 1024) :
    k0_pay2 (F := Ideal) s a b (ix2 r j) = s (ix2 r j) + pr a b r j := by
  pointwise [k0_pay2, pr]
  try rfl

theorem pay3 (s : Vec Ideal S1408x1024 .f32) (a : Vec Ideal S1024x1408 .bf16) (b : Vec Ideal S1024x1024 .f32) (r : Fin 1408) (j : Fin 1024) :
    k0_pay3 (F := Ideal) s a b (ix2 r j) = s (ix2 r j) + pr a b r j := by
  pointwise [k0_pay3, pr]
  try rfl

variable (m : (ℓ : Loc nD τ sig) → Buf (Elt Ideal) ℓ) (c : Dev nD)

theorem idx : ∀ t : Fin cfg0.N, win0_0.index t = ![t.val % 4, t.val / 4] ∧ win0_1.index t = ![t.val % 4, 0] ∧
    win0_2.index t = ![t.val / 4, 0] :=
  (by decide +kernel : ∀ t : Fin grid0.N, _)

abbrev A : FVec Ideal S4096x2816 .bf16 := m ((c : Thread nD τ).loc main_arg0)
abbrev B : FVec Ideal S4096x1024 .f32 := m ((c : Thread nD τ).loc main_arg1)

theorem NN : cfg0.N = 8 := N_0

/-- Row `r` of block `q`, contracted row `x` of block `k`, and the point of the two. -/
def row (q : Fin 2) (r : Fin 1408) : Fin 2816 := ⟨q.val * 1408 + r.val, by omega⟩
def lane (k : Fin 4) (x : Fin 1024) : Fin 4096 := ⟨k.val * 1024 + x.val, by omega⟩
def pt (q : Fin 2) (k : Fin 4) : Fin cfg0.N := ⟨q.val * 4 + k.val, by have := NN; omega⟩

theorem pt_mod (q : Fin 2) (k : Fin 4) : (pt q k).val % 4 = k.val := by simp only [pt]; omega
theorem pt_div (q : Fin 2) (k : Fin 4) : (pt q k).val / 4 = q.val := by simp only [pt]; omega

theorem b0 (q : Fin 2) (k : Fin 4) (x : Fin 1024) (r : Fin 1408) :
    (iblk m c 0 (pt q k) : Vec Ideal S1024x1408 .bf16) (ix2 x r) = A m c (ix2 (lane k x) (row q r)) := by
  have e1 := pt_mod q k
  have e2 := pt_div q k
  blk_point [iblk, V, idx (pt q k), e1, e2, row, lane]
theorem b1 (q : Fin 2) (k : Fin 4) (x : Fin 1024) (j : Fin 1024) :
    (iblk m c 1 (pt q k) : Vec Ideal S1024x1024 .f32) (ix2 x j) = B m c (ix2 (lane k x) j) := by
  have e1 := pt_mod q k
  blk_point [iblk, V, idx (pt q k), e1, lane]

/-- The contribution of block `k`, in terms of the arguments. -/
def part (q : Fin 2) (i : Fin 1408) (j : Fin 1024) (k : Fin 4) : EReal :=
  ∑ x, A m c (ix2 (lane k x) (row q i)) * B m c (ix2 (lane k x) j)

theorem pr_part (q : Fin 2) (k : Fin 4) (i : Fin 1408) (j : Fin 1024) :
    pr (iblk m c 0 (pt q k)) (iblk m c 1 (pt q k)) i j = part m c q i j k :=
  Finset.sum_congr rfl fun x _ => by exact congrArg₂ (· * ·) (b0 m c q k x i) (b1 m c q k x j)

/-- What the scratch holds after the first, the second and the third block, and what the last one stores. -/
theorem first (q : Fin 2) (i : Fin 1408) (j : Fin 1024) :
    (outsAt0 m c (pt q 0).val (pt q 0).isLt).2 (ix2 i j) = part m c q i j 0 := by
  have e := pt_mod q 0
  simp only [Fin.val_zero] at e
  rw [outsAt0_A m c (pt q 0) e (by omega) (by omega)]
  refine Eq.trans (b := k0_pay1 (F := Ideal) (iblk m c 0 (pt q 0)) (iblk m c 1 (pt q 0)) (ix2 i j)) ?_ ((pay1 _ _ i j).trans (pr_part m c q 0 i j))
  frame_out

theorem next (q : Fin 2) (k : Fin 4) (h : 1 ≤ k.val ∧ k.val ≤ 2) (h') (i : Fin 1408) (j : Fin 1024) :
    (outsAt0 m c (pt q k).val (pt q k).isLt).2 (ix2 i j) =
      (outsAt0 m c ((pt q k).val - 1) h').2 (ix2 i j) + part m c q i j k := by
  have e := pt_mod q k
  rw [outsAt0_B m c (pt q k) (by omega) (by omega) (by omega)]
  refine Eq.trans (b := k0_pay2 (F := Ideal) (outsAt0 m c ((pt q k).val - 1) h').2 (iblk m c 0 (pt q k)) (iblk m c 1 (pt q k)) (ix2 i j)) ?_
    ((pay2 _ _ _ i j).trans (congrArg _ (pr_part m c q k i j)))
  frame_out
  rw [(Memref.isWhole_whole cc0_scratch0).read_unread]

theorem last (q : Fin 2) (h') (i : Fin 1408) (j : Fin 1024) :
    (outsAt0 m c (pt q 3).val (pt q 3).isLt).1 (ix2 i j) =
      (outsAt0 m c ((pt q 3).val - 1) h').2 (ix2 i j) + part m c q i j 3 := by
  have e : (pt q 3).val % 4 = 3 := pt_mod q 3
  rw [outsAt0_C m c (pt q 3) (by omega) (by omega) (by omega)]
  refine Eq.trans (b := k0_pay3 (F := Ideal) (outsAt0 m c ((pt q 3).val - 1) h').2 (iblk m c 0 (pt q 3)) (iblk m c 1 (pt q 3)) (ix2 i j)) ?_
    ((pay3 _ _ _ i j).trans (congrArg _ (pr_part m c q 3 i j)))
  frame_out
  rw [(Memref.isWhole_whole cc0_scratch0).read_unread]

theorem sum_at (q : Fin 2) (i : Fin 1408) (j : Fin 1024) :
    (outsAt0 m c (pt q 3).val (pt q 3).isLt).1 (ix2 i j) = prodA (A m c) (B m c) (ix2 (row q i) j) := by
  have h1 := next m c q 1 (by decide) (pt q 0).isLt i j
  have h2 := next m c q 2 (by decide) (pt q 1).isLt i j
  have h3 := last m c q (pt q 2).isLt i j
  refine h3.trans ((congrArg (· + _) (h2.trans (congrArg (· + _) (h1.trans (congrArg (· + _) (first m c q i j)))))).trans ?_)
  refine Eq.trans (Fin.sum_univ_four (part m c q i j)).symm ?_
  exact Fin.sum_mul_add_congr (S := 4) (n := 1024) (F := fun k x =>
    A m c (ix2 (lane k x) (row q i)) * B m c (ix2 (lane k x) j)) (fun _ _ _ => rfl)

theorem pt_last (t : Fin cfg0.N) (h : t.val % 4 = 3) : ∃ q, t = pt q 3 :=
  ⟨⟨t.val / 4, by have := lt_of_lt_of_eq t.isLt NN; omega⟩, Fin.ext (show t.val = t.val / 4 * 4 + 3 by omega)⟩

theorem final : (dats m 0 c).arrAt 2 (cfgs 0).N = prodA (A m c) (B m c) := by
  refine (dats m 0 c).arrAt_eq_of_covers 2 _ (by decide +kernel) fun t hf y => ?_
  obtain ⟨q, rfl⟩ := pt_last t ((flush0_2 t).mp hf)
  blk_simp
  rw [after0_2]
  idx_vars y
  refine (sum_at m c q y0 y1).trans (congrArg _ ?_)
  have e2 := pt_div q 3
  blk_ext [idx (pt q 3), e2, row]
end Kernel

section Reference
open Cert.FfnOutDwRefIdeal Cert.FfnOutDwRefIdeal.Read

theorem ref_eq (a : FVec Ideal FfnOutDwIdeal.S4096x2816 .bf16) (b : FVec Ideal FfnOutDwIdeal.S4096x1024 .f32) :
    val_main_v3 (F := Ideal) a b = prodA a b := by
  funext j
  idx_vars j
  pointwise [val_main_v3, val_main_v2, val_main_v1, val_main_v0, prodA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v3) = val_main_v3 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v3_eq _ _), (h c).2⟩,
    sem_eq_zero_of_no_sems (by decide) r.2⟩) (Value.run m ρ)
end Reference

theorem frame_ref : Cert.quiescent_FfnOutDwRefIdeal := fun m g _ =>
  (θ_run Cert.FfnOutDwRefIdeal.defs _ _).mono (fun _ h => ⟨fun c => (h.1 c).2, h.2⟩) (run_ref m g)

theorem algebraic : Cert.algebraic_FfnOutDwIdeal_FfnOutDwRefIdeal := by
  pair_intro
  · run_from Cert.FfnOutDwIdeal.Gen.run_main m g
  · refine (θ_run Cert.FfnOutDwRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.ProdFfnOutDw

end
-- ==== Proof.GmInDw.lean ====
/-
  `gm_in_dw`: the gradient of the second input projection's weights, two blocks, each summed over four blocks of 1024 rows.
-/
module

public import proofs.«01_k».proof.Proof.Gen.GmInDwIdeal.Value
public import proofs.«01_k».proof.Proof.Gen.GmInDwRefIdeal.Run
public import proofs.«01_k».proof.Proof.Gen.GmInDwRefIdeal.Read
public import Idealize.ShloMosaic.Lib.Pipeline.ValueKit
public import Idealize.ShloMosaic.Lib.Claim
public import proofs.«01_k».proof.Defs

@[expose] public section

set_option maxRecDepth 16384

noncomputable section

namespace Cert.ProdGmInDw

open Idealize.ShloMosaic Idealize.ShloMosaic.TcCoe Idealize.SL.Sem
open Idealize.ShloMosaic.Pipeline (Dat)

section Kernel
open Cert.GmInDwIdeal Cert.GmInDwIdeal.Gen

/-- The product over the whole arrays. -/
def prodA (a : FVec Ideal S4096x1792 .bf16) (b : FVec Ideal S4096x1024 .bf16) : FVec Ideal S1792x1024 .bf16 :=
  fun i => ∑ k, a (ix2 k (i 0)) * b (ix2 k (i 1))

/-- A block's contribution to the product. -/
def pr (a : Vec Ideal S1024x896 .bf16) (b : Vec Ideal S1024x1024 .bf16) (r : Fin 896) (j : Fin 1024) : EReal :=
  ∑ x, a (ix2 x r) * b (ix2 x j)

theorem pay1 (a : Vec Ideal S1024x896 .bf16) (b : Vec Ideal S1024x1024 .bf16) (r : Fin 896) (j : Fin 1024) :
    k0_pay1 (F := Ideal) a b (ix2 r j) = pr a b r j := by
  pointwise [k0_pay1, pr]
  try rfl

theorem pay2 (s : Vec Ideal S896x1024 .f32) (a : Vec Ideal S1024x896 .bf16) (b : Vec Ideal S1024x1024 .bf16) (r : Fin 896) (j : Fin 1024) :
    k0_pay2 (F := Ideal) s a b (ix2 r j) = s (ix2 r j) + pr a b r j := by
  pointwise [k0_pay2, pr]
  try rfl

theorem pay3 (s : Vec Ideal S896x1024 .f32) (a : Vec Ideal S1024x896 .bf16) (b : Vec Ideal S1024x1024 .bf16) (r : Fin 896) (j : Fin 1024) :
    k0_pay3 (F := Ideal) s a b (ix2 r j) = s (ix2 r j) + pr a b r j := by
  pointwise [k0_pay3, pr]
  try rfl

variable (m : (ℓ : Loc nD τ sig) → Buf (Elt Ideal) ℓ) (c : Dev nD)

theorem idx : ∀ t : Fin cfg0.N, win0_0.index t = ![t.val % 4, t.val / 4] ∧ win0_1.index t = ![t.val % 4, 0] ∧
    win0_2.index t = ![t.val / 4, 0] :=
  (by decide +kernel : ∀ t : Fin grid0.N, _)

abbrev A : FVec Ideal S4096x1792 .bf16 := m ((c : Thread nD τ).loc main_arg0)
abbrev B : FVec Ideal S4096x1024 .bf16 := m ((c : Thread nD τ).loc main_arg1)

theorem NN : cfg0.N = 8 := N_0

/-- Row `r` of block `q`, contracted row `x` of block `k`, and the point of the two. -/
def row (q : Fin 2) (r : Fin 896) : Fin 1792 := ⟨q.val * 896 + r.val, by omega⟩
def lane (k : Fin 4) (x : Fin 1024) : Fin 4096 := ⟨k.val * 1024 + x.val, by omega⟩
def pt (q : Fin 2) (k : Fin 4) : Fin cfg0.N := ⟨q.val * 4 + k.val, by have := NN; omega⟩

theorem pt_mod (q : Fin 2) (k : Fin 4) : (pt q k).val % 4 = k.val := by simp only [pt]; omega
theorem pt_div (q : Fin 2) (k : Fin 4) : (pt q k).val / 4 = q.val := by simp only [pt]; omega

theorem b0 (q : Fin 2) (k : Fin 4) (x : Fin 1024) (r : Fin 896) :
    (iblk m c 0 (pt q k) : Vec Ideal S1024x896 .bf16) (ix2 x r) = A m c (ix2 (lane k x) (row q r)) := by
  have e1 := pt_mod q k
  have e2 := pt_div q k
  blk_point [iblk, V, idx (pt q k), e1, e2, row, lane]
theorem b1 (q : Fin 2) (k : Fin 4) (x : Fin 1024) (j : Fin 1024) :
    (iblk m c 1 (pt q k) : Vec Ideal S1024x1024 .bf16) (ix2 x j) = B m c (ix2 (lane k x) j) := by
  have e1 := pt_mod q k
  blk_point [iblk, V, idx (pt q k), e1, lane]

/-- The contribution of block `k`, in terms of the arguments. -/
def part (q : Fin 2) (i : Fin 896) (j : Fin 1024) (k : Fin 4) : EReal :=
  ∑ x, A m c (ix2 (lane k x) (row q i)) * B m c (ix2 (lane k x) j)

theorem pr_part (q : Fin 2) (k : Fin 4) (i : Fin 896) (j : Fin 1024) :
    pr (iblk m c 0 (pt q k)) (iblk m c 1 (pt q k)) i j = part m c q i j k :=
  Finset.sum_congr rfl fun x _ => by exact congrArg₂ (· * ·) (b0 m c q k x i) (b1 m c q k x j)

/-- What the scratch holds after the first, the second and the third block, and what the last one stores. -/
theorem first (q : Fin 2) (i : Fin 896) (j : Fin 1024) :
    (outsAt0 m c (pt q 0).val (pt q 0).isLt).2 (ix2 i j) = part m c q i j 0 := by
  have e := pt_mod q 0
  simp only [Fin.val_zero] at e
  rw [outsAt0_A m c (pt q 0) e (by omega) (by omega)]
  refine Eq.trans (b := k0_pay1 (F := Ideal) (iblk m c 0 (pt q 0)) (iblk m c 1 (pt q 0)) (ix2 i j)) ?_ ((pay1 _ _ i j).trans (pr_part m c q 0 i j))
  frame_out

theorem next (q : Fin 2) (k : Fin 4) (h : 1 ≤ k.val ∧ k.val ≤ 2) (h') (i : Fin 896) (j : Fin 1024) :
    (outsAt0 m c (pt q k).val (pt q k).isLt).2 (ix2 i j) =
      (outsAt0 m c ((pt q k).val - 1) h').2 (ix2 i j) + part m c q i j k := by
  have e := pt_mod q k
  rw [outsAt0_B m c (pt q k) (by omega) (by omega) (by omega)]
  refine Eq.trans (b := k0_pay2 (F := Ideal) (outsAt0 m c ((pt q k).val - 1) h').2 (iblk m c 0 (pt q k)) (iblk m c 1 (pt q k)) (ix2 i j)) ?_
    ((pay2 _ _ _ i j).trans (congrArg _ (pr_part m c q k i j)))
  frame_out
  rw [(Memref.isWhole_whole cc0_scratch0).read_unread]

theorem last (q : Fin 2) (h') (i : Fin 896) (j : Fin 1024) :
    (outsAt0 m c (pt q 3).val (pt q 3).isLt).1 (ix2 i j) =
      (outsAt0 m c ((pt q 3).val - 1) h').2 (ix2 i j) + part m c q i j 3 := by
  have e : (pt q 3).val % 4 = 3 := pt_mod q 3
  rw [outsAt0_C m c (pt q 3) (by omega) (by omega) (by omega)]
  refine Eq.trans (b := k0_pay3 (F := Ideal) (outsAt0 m c ((pt q 3).val - 1) h').2 (iblk m c 0 (pt q 3)) (iblk m c 1 (pt q 3)) (ix2 i j)) ?_
    ((pay3 _ _ _ i j).trans (congrArg _ (pr_part m c q 3 i j)))
  frame_out
  rw [(Memref.isWhole_whole cc0_scratch0).read_unread]

theorem sum_at (q : Fin 2) (i : Fin 896) (j : Fin 1024) :
    (outsAt0 m c (pt q 3).val (pt q 3).isLt).1 (ix2 i j) = prodA (A m c) (B m c) (ix2 (row q i) j) := by
  have h1 := next m c q 1 (by decide) (pt q 0).isLt i j
  have h2 := next m c q 2 (by decide) (pt q 1).isLt i j
  have h3 := last m c q (pt q 2).isLt i j
  refine h3.trans ((congrArg (· + _) (h2.trans (congrArg (· + _) (h1.trans (congrArg (· + _) (first m c q i j)))))).trans ?_)
  refine Eq.trans (Fin.sum_univ_four (part m c q i j)).symm ?_
  exact Fin.sum_mul_add_congr (S := 4) (n := 1024) (F := fun k x =>
    A m c (ix2 (lane k x) (row q i)) * B m c (ix2 (lane k x) j)) (fun _ _ _ => rfl)

theorem pt_last (t : Fin cfg0.N) (h : t.val % 4 = 3) : ∃ q, t = pt q 3 :=
  ⟨⟨t.val / 4, by have := lt_of_lt_of_eq t.isLt NN; omega⟩, Fin.ext (show t.val = t.val / 4 * 4 + 3 by omega)⟩

theorem final : (dats m 0 c).arrAt 2 (cfgs 0).N = prodA (A m c) (B m c) := by
  refine (dats m 0 c).arrAt_eq_of_covers 2 _ (by decide +kernel) fun t hf y => ?_
  obtain ⟨q, rfl⟩ := pt_last t ((flush0_2 t).mp hf)
  blk_simp
  rw [after0_2]
  idx_vars y
  refine (sum_at m c q y0 y1).trans (congrArg _ ?_)
  have e2 := pt_div q 3
  blk_ext [idx (pt q 3), e2, row]
end Kernel

section Reference
open Cert.GmInDwRefIdeal Cert.GmInDwRefIdeal.Read

theorem ref_eq (a : FVec Ideal GmInDwIdeal.S4096x1792 .bf16) (b : FVec Ideal GmInDwIdeal.S4096x1024 .bf16) :
    val_main_v4 (F := Ideal) a b = prodA a b := by
  funext j
  idx_vars j
  pointwise [val_main_v4, val_main_v3, val_main_v2, val_main_v1, val_main_v0, prodA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v4) = val_main_v4 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v4_eq _ _), (h c).2⟩,
    sem_eq_zero_of_no_sems (by decide) r.2⟩) (Value.run m ρ)
end Reference

theorem frame_ref : Cert.quiescent_GmInDwRefIdeal := fun m g _ =>
  (θ_run Cert.GmInDwRefIdeal.defs _ _).mono (fun _ h => ⟨fun c => (h.1 c).2, h.2⟩) (run_ref m g)

theorem algebraic : Cert.algebraic_GmInDwIdeal_GmInDwRefIdeal := by
  pair_intro
  · run_from Cert.GmInDwIdeal.Gen.run_main m g
  · refine (θ_run Cert.GmInDwRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.ProdGmInDw

end
-- ==== Proof.HgInDw.lean ====
/-
  `hg_in_dw`: the gradient of the first input projection's weights, two blocks, each summed over four blocks of 1024 rows.
-/
module

public import proofs.«01_k».proof.Proof.Gen.HgInDwIdeal.Value
public import proofs.«01_k».proof.Proof.Gen.HgInDwRefIdeal.Run
public import proofs.«01_k».proof.Proof.Gen.HgInDwRefIdeal.Read
public import Idealize.ShloMosaic.Lib.Pipeline.ValueKit
public import Idealize.ShloMosaic.Lib.Claim
public import proofs.«01_k».proof.Defs

@[expose] public section

set_option maxRecDepth 16384

noncomputable section

namespace Cert.ProdHgInDw

open Idealize.ShloMosaic Idealize.ShloMosaic.TcCoe Idealize.SL.Sem
open Idealize.ShloMosaic.Pipeline (Dat)

section Kernel
open Cert.HgInDwIdeal Cert.HgInDwIdeal.Gen

/-- The product over the whole arrays. -/
def prodA (a : FVec Ideal S4096x3328 .bf16) (b : FVec Ideal S4096x1024 .bf16) : FVec Ideal S3328x1024 .bf16 :=
  fun i => ∑ k, a (ix2 k (i 0)) * b (ix2 k (i 1))

/-- A block's contribution to the product. -/
def pr (a : Vec Ideal S1024x1664 .bf16) (b : Vec Ideal S1024x1024 .bf16) (r : Fin 1664) (j : Fin 1024) : EReal :=
  ∑ x, a (ix2 x r) * b (ix2 x j)

theorem pay1 (a : Vec Ideal S1024x1664 .bf16) (b : Vec Ideal S1024x1024 .bf16) (r : Fin 1664) (j : Fin 1024) :
    k0_pay1 (F := Ideal) a b (ix2 r j) = pr a b r j := by
  pointwise [k0_pay1, pr]
  try rfl

theorem pay2 (s : Vec Ideal S1664x1024 .f32) (a : Vec Ideal S1024x1664 .bf16) (b : Vec Ideal S1024x1024 .bf16) (r : Fin 1664) (j : Fin 1024) :
    k0_pay2 (F := Ideal) s a b (ix2 r j) = s (ix2 r j) + pr a b r j := by
  pointwise [k0_pay2, pr]
  try rfl

theorem pay3 (s : Vec Ideal S1664x1024 .f32) (a : Vec Ideal S1024x1664 .bf16) (b : Vec Ideal S1024x1024 .bf16) (r : Fin 1664) (j : Fin 1024) :
    k0_pay3 (F := Ideal) s a b (ix2 r j) = s (ix2 r j) + pr a b r j := by
  pointwise [k0_pay3, pr]
  try rfl

variable (m : (ℓ : Loc nD τ sig) → Buf (Elt Ideal) ℓ) (c : Dev nD)

theorem idx : ∀ t : Fin cfg0.N, win0_0.index t = ![t.val % 4, t.val / 4] ∧ win0_1.index t = ![t.val % 4, 0] ∧
    win0_2.index t = ![t.val / 4, 0] :=
  (by decide +kernel : ∀ t : Fin grid0.N, _)

abbrev A : FVec Ideal S4096x3328 .bf16 := m ((c : Thread nD τ).loc main_arg0)
abbrev B : FVec Ideal S4096x1024 .bf16 := m ((c : Thread nD τ).loc main_arg1)

theorem NN : cfg0.N = 8 := N_0

/-- Row `r` of block `q`, contracted row `x` of block `k`, and the point of the two. -/
def row (q : Fin 2) (r : Fin 1664) : Fin 3328 := ⟨q.val * 1664 + r.val, by omega⟩
def lane (k : Fin 4) (x : Fin 1024) : Fin 4096 := ⟨k.val * 1024 + x.val, by omega⟩
def pt (q : Fin 2) (k : Fin 4) : Fin cfg0.N := ⟨q.val * 4 + k.val, by have := NN; omega⟩

theorem pt_mod (q : Fin 2) (k : Fin 4) : (pt q k).val % 4 = k.val := by simp only [pt]; omega
theorem pt_div (q : Fin 2) (k : Fin 4) : (pt q k).val / 4 = q.val := by simp only [pt]; omega

theorem b0 (q : Fin 2) (k : Fin 4) (x : Fin 1024) (r : Fin 1664) :
    (iblk m c 0 (pt q k) : Vec Ideal S1024x1664 .bf16) (ix2 x r) = A m c (ix2 (lane k x) (row q r)) := by
  have e1 := pt_mod q k
  have e2 := pt_div q k
  blk_point [iblk, V, idx (pt q k), e1, e2, row, lane]
theorem b1 (q : Fin 2) (k : Fin 4) (x : Fin 1024) (j : Fin 1024) :
    (iblk m c 1 (pt q k) : Vec Ideal S1024x1024 .bf16) (ix2 x j) = B m c (ix2 (lane k x) j) := by
  have e1 := pt_mod q k
  blk_point [iblk, V, idx (pt q k), e1, lane]

/-- The contribution of block `k`, in terms of the arguments. -/
def part (q : Fin 2) (i : Fin 1664) (j : Fin 1024) (k : Fin 4) : EReal :=
  ∑ x, A m c (ix2 (lane k x) (row q i)) * B m c (ix2 (lane k x) j)

theorem pr_part (q : Fin 2) (k : Fin 4) (i : Fin 1664) (j : Fin 1024) :
    pr (iblk m c 0 (pt q k)) (iblk m c 1 (pt q k)) i j = part m c q i j k :=
  Finset.sum_congr rfl fun x _ => by exact congrArg₂ (· * ·) (b0 m c q k x i) (b1 m c q k x j)

/-- What the scratch holds after the first, the second and the third block, and what the last one stores. -/
theorem first (q : Fin 2) (i : Fin 1664) (j : Fin 1024) :
    (outsAt0 m c (pt q 0).val (pt q 0).isLt).2 (ix2 i j) = part m c q i j 0 := by
  have e := pt_mod q 0
  simp only [Fin.val_zero] at e
  rw [outsAt0_A m c (pt q 0) e (by omega) (by omega)]
  refine Eq.trans (b := k0_pay1 (F := Ideal) (iblk m c 0 (pt q 0)) (iblk m c 1 (pt q 0)) (ix2 i j)) ?_ ((pay1 _ _ i j).trans (pr_part m c q 0 i j))
  frame_out

theorem next (q : Fin 2) (k : Fin 4) (h : 1 ≤ k.val ∧ k.val ≤ 2) (h') (i : Fin 1664) (j : Fin 1024) :
    (outsAt0 m c (pt q k).val (pt q k).isLt).2 (ix2 i j) =
      (outsAt0 m c ((pt q k).val - 1) h').2 (ix2 i j) + part m c q i j k := by
  have e := pt_mod q k
  rw [outsAt0_B m c (pt q k) (by omega) (by omega) (by omega)]
  refine Eq.trans (b := k0_pay2 (F := Ideal) (outsAt0 m c ((pt q k).val - 1) h').2 (iblk m c 0 (pt q k)) (iblk m c 1 (pt q k)) (ix2 i j)) ?_
    ((pay2 _ _ _ i j).trans (congrArg _ (pr_part m c q k i j)))
  frame_out
  rw [(Memref.isWhole_whole cc0_scratch0).read_unread]

theorem last (q : Fin 2) (h') (i : Fin 1664) (j : Fin 1024) :
    (outsAt0 m c (pt q 3).val (pt q 3).isLt).1 (ix2 i j) =
      (outsAt0 m c ((pt q 3).val - 1) h').2 (ix2 i j) + part m c q i j 3 := by
  have e : (pt q 3).val % 4 = 3 := pt_mod q 3
  rw [outsAt0_C m c (pt q 3) (by omega) (by omega) (by omega)]
  refine Eq.trans (b := k0_pay3 (F := Ideal) (outsAt0 m c ((pt q 3).val - 1) h').2 (iblk m c 0 (pt q 3)) (iblk m c 1 (pt q 3)) (ix2 i j)) ?_
    ((pay3 _ _ _ i j).trans (congrArg _ (pr_part m c q 3 i j)))
  frame_out
  rw [(Memref.isWhole_whole cc0_scratch0).read_unread]

theorem sum_at (q : Fin 2) (i : Fin 1664) (j : Fin 1024) :
    (outsAt0 m c (pt q 3).val (pt q 3).isLt).1 (ix2 i j) = prodA (A m c) (B m c) (ix2 (row q i) j) := by
  have h1 := next m c q 1 (by decide) (pt q 0).isLt i j
  have h2 := next m c q 2 (by decide) (pt q 1).isLt i j
  have h3 := last m c q (pt q 2).isLt i j
  refine h3.trans ((congrArg (· + _) (h2.trans (congrArg (· + _) (h1.trans (congrArg (· + _) (first m c q i j)))))).trans ?_)
  refine Eq.trans (Fin.sum_univ_four (part m c q i j)).symm ?_
  exact Fin.sum_mul_add_congr (S := 4) (n := 1024) (F := fun k x =>
    A m c (ix2 (lane k x) (row q i)) * B m c (ix2 (lane k x) j)) (fun _ _ _ => rfl)

theorem pt_last (t : Fin cfg0.N) (h : t.val % 4 = 3) : ∃ q, t = pt q 3 :=
  ⟨⟨t.val / 4, by have := lt_of_lt_of_eq t.isLt NN; omega⟩, Fin.ext (show t.val = t.val / 4 * 4 + 3 by omega)⟩

theorem final : (dats m 0 c).arrAt 2 (cfgs 0).N = prodA (A m c) (B m c) := by
  refine (dats m 0 c).arrAt_eq_of_covers 2 _ (by decide +kernel) fun t hf y => ?_
  obtain ⟨q, rfl⟩ := pt_last t ((flush0_2 t).mp hf)
  blk_simp
  rw [after0_2]
  idx_vars y
  refine (sum_at m c q y0 y1).trans (congrArg _ ?_)
  have e2 := pt_div q 3
  blk_ext [idx (pt q 3), e2, row]
end Kernel

section Reference
open Cert.HgInDwRefIdeal Cert.HgInDwRefIdeal.Read

theorem ref_eq (a : FVec Ideal HgInDwIdeal.S4096x3328 .bf16) (b : FVec Ideal HgInDwIdeal.S4096x1024 .bf16) :
    val_main_v4 (F := Ideal) a b = prodA a b := by
  funext j
  idx_vars j
  pointwise [val_main_v4, val_main_v3, val_main_v2, val_main_v1, val_main_v0, prodA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v4) = val_main_v4 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v4_eq _ _), (h c).2⟩,
    sem_eq_zero_of_no_sems (by decide) r.2⟩) (Value.run m ρ)
end Reference

theorem frame_ref : Cert.quiescent_HgInDwRefIdeal := fun m g _ =>
  (θ_run Cert.HgInDwRefIdeal.defs _ _).mono (fun _ h => ⟨fun c => (h.1 c).2, h.2⟩) (run_ref m g)

theorem algebraic : Cert.algebraic_HgInDwIdeal_HgInDwRefIdeal := by
  pair_intro
  · run_from Cert.HgInDwIdeal.Gen.run_main m g
  · refine (θ_run Cert.HgInDwRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.ProdHgInDw

end
-- ==== Proof.FfnInDw.lean ====
/-
  `ffn_in_dw`: the gradient of the feed-forward's first weights, both halves, in four blocks, each summed over four blocks of 1024 rows.
-/
module

public import proofs.«01_k».proof.Proof.Gen.FfnInDwIdeal.Value
public import proofs.«01_k».proof.Proof.Gen.FfnInDwRefIdeal.Run
public import proofs.«01_k».proof.Proof.Gen.FfnInDwRefIdeal.Read
public import Idealize.ShloMosaic.Lib.Pipeline.ValueKit
public import Idealize.ShloMosaic.Lib.Claim
public import proofs.«01_k».proof.Defs

@[expose] public section

set_option maxRecDepth 16384

noncomputable section

namespace Cert.ProdFfnInDw

open Idealize.ShloMosaic Idealize.ShloMosaic.TcCoe Idealize.SL.Sem
open Idealize.ShloMosaic.Pipeline (Dat)

section Kernel
open Cert.FfnInDwIdeal Cert.FfnInDwIdeal.Gen

/-- The half a row of the result lies in, and its place there. -/
def half (i : Fin 5632) : Fin 2 := ⟨i.val / 2816, by omega⟩
def inn (i : Fin 5632) : Fin 2816 := ⟨i.val % 2816, by omega⟩

/-- The product over the whole arrays. -/
def prodA (a : FVec Ideal S2x4096x2816 .bf16) (b : FVec Ideal S4096x1024 .bf16) : FVec Ideal S5632x1024 .bf16 :=
  fun i => ∑ k, a (ix3 (half (i 0)) k (inn (i 0))) * b (ix2 k (i 1))

/-- A block's contribution to the product. -/
def pr (a : Vec Ideal S1x1024x1408 .bf16) (b : Vec Ideal S1024x1024 .bf16) (r : Fin 1408) (j : Fin 1024) : EReal :=
  ∑ x, a (ix3 0 x r) * b (ix2 x j)

theorem pay1 (a : Vec Ideal S1x1024x1408 .bf16) (b : Vec Ideal S1024x1024 .bf16) (r : Fin 1408) (j : Fin 1024) :
    k0_pay1 (F := Ideal) a b (ix2 r j) = pr a b r j := by
  pointwise [k0_pay1, pr]
  try rfl

theorem pay2 (s : Vec Ideal S1408x1024 .f32) (a : Vec Ideal S1x1024x1408 .bf16) (b : Vec Ideal S1024x1024 .bf16) (r : Fin 1408) (j : Fin 1024) :
    k0_pay2 (F := Ideal) s a b (ix2 r j) = s (ix2 r j) + pr a b r j := by
  pointwise [k0_pay2, pr]
  try rfl

theorem pay3 (s : Vec Ideal S1408x1024 .f32) (a : Vec Ideal S1x1024x1408 .bf16) (b : Vec Ideal S1024x1024 .bf16) (r : Fin 1408) (j : Fin 1024) :
    k0_pay3 (F := Ideal) s a b (ix2 r j) = s (ix2 r j) + pr a b r j := by
  pointwise [k0_pay3, pr]
  try rfl

variable (m : (ℓ : Loc nD τ sig) → Buf (Elt Ideal) ℓ) (c : Dev nD)

theorem idx : ∀ t : Fin cfg0.N, win0_0.index t = ![t.val / 8, t.val % 4, t.val / 4 % 2] ∧ win0_1.index t = ![t.val % 4, 0] ∧
    win0_2.index t = ![t.val / 4, 0] :=
  (by decide +kernel : ∀ t : Fin grid0.N, _)

abbrev A : FVec Ideal S2x4096x2816 .bf16 := m ((c : Thread nD τ).loc main_arg0)
abbrev B : FVec Ideal S4096x1024 .bf16 := m ((c : Thread nD τ).loc main_arg1)

theorem NN : cfg0.N = 16 := N_0

/-- Row `r` of block `q`, contracted row `x` of block `k`, and the point of the two. -/
def row (q : Fin 4) (r : Fin 1408) : Fin 5632 := ⟨q.val * 1408 + r.val, by omega⟩
def lane (k : Fin 4) (x : Fin 1024) : Fin 4096 := ⟨k.val * 1024 + x.val, by omega⟩
def pt (q : Fin 4) (k : Fin 4) : Fin cfg0.N := ⟨q.val * 4 + k.val, by have := NN; omega⟩

theorem pt_mod (q : Fin 4) (k : Fin 4) : (pt q k).val % 4 = k.val := by simp only [pt]; omega
theorem pt_div (q : Fin 4) (k : Fin 4) : (pt q k).val / 4 = q.val := by simp only [pt]; omega

theorem b0 (q : Fin 4) (k : Fin 4) (x : Fin 1024) (r : Fin 1408) :
    (iblk m c 0 (pt q k) : Vec Ideal S1x1024x1408 .bf16) (ix3 0 x r) =
      A m c (ix3 (half (row q r)) (lane k x) (inn (row q r))) := by
  have e1 := pt_mod q k
  have e2 : (pt q k).val / 8 = (q.val * 1408 + r.val) / 2816 := by simp only [pt]; omega
  have e3 : (pt q k).val / 4 % 2 * 1408 + r.val = (q.val * 1408 + r.val) % 2816 := by simp only [pt]; omega
  blk_point [iblk, V, idx (pt q k), e1, e2, e3, row, lane, half, inn]
theorem b1 (q : Fin 4) (k : Fin 4) (x : Fin 1024) (j : Fin 1024) :
    (iblk m c 1 (pt q k) : Vec Ideal S1024x1024 .bf16) (ix2 x j) = B m c (ix2 (lane k x) j) := by
  have e1 := pt_mod q k
  blk_point [iblk, V, idx (pt q k), e1, lane]

/-- The contribution of block `k`, in terms of the arguments. -/
def part (q : Fin 4) (i : Fin 1408) (j : Fin 1024) (k : Fin 4) : EReal :=
  ∑ x, A m c (ix3 (half (row q i)) (lane k x) (inn (row q i))) * B m c (ix2 (lane k x) j)

theorem pr_part (q : Fin 4) (k : Fin 4) (i : Fin 1408) (j : Fin 1024) :
    pr (iblk m c 0 (pt q k)) (iblk m c 1 (pt q k)) i j = part m c q i j k :=
  Finset.sum_congr rfl fun x _ => by exact congrArg₂ (· * ·) (b0 m c q k x i) (b1 m c q k x j)

/-- What the scratch holds after the first, the second and the third block, and what the last one stores. -/
theorem first (q : Fin 4) (i : Fin 1408) (j : Fin 1024) :
    (outsAt0 m c (pt q 0).val (pt q 0).isLt).2 (ix2 i j) = part m c q i j 0 := by
  have e := pt_mod q 0
  simp only [Fin.val_zero] at e
  rw [outsAt0_A m c (pt q 0) e (by omega) (by omega)]
  refine Eq.trans (b := k0_pay1 (F := Ideal) (iblk m c 0 (pt q 0)) (iblk m c 1 (pt q 0)) (ix2 i j)) ?_ ((pay1 _ _ i j).trans (pr_part m c q 0 i j))
  frame_out

theorem next (q : Fin 4) (k : Fin 4) (h : 1 ≤ k.val ∧ k.val ≤ 2) (h') (i : Fin 1408) (j : Fin 1024) :
    (outsAt0 m c (pt q k).val (pt q k).isLt).2 (ix2 i j) =
      (outsAt0 m c ((pt q k).val - 1) h').2 (ix2 i j) + part m c q i j k := by
  have e := pt_mod q k
  rw [outsAt0_B m c (pt q k) (by omega) (by omega) (by omega)]
  refine Eq.trans (b := k0_pay2 (F := Ideal) (outsAt0 m c ((pt q k).val - 1) h').2 (iblk m c 0 (pt q k)) (iblk m c 1 (pt q k)) (ix2 i j)) ?_
    ((pay2 _ _ _ i j).trans (congrArg _ (pr_part m c q k i j)))
  frame_out
  rw [(Memref.isWhole_whole cc0_scratch0).read_unread]

theorem last (q : Fin 4) (h') (i : Fin 1408) (j : Fin 1024) :
    (outsAt0 m c (pt q 3).val (pt q 3).isLt).1 (ix2 i j) =
      (outsAt0 m c ((pt q 3).val - 1) h').2 (ix2 i j) + part m c q i j 3 := by
  have e : (pt q 3).val % 4 = 3 := pt_mod q 3
  rw [outsAt0_C m c (pt q 3) (by omega) (by omega) (by omega)]
  refine Eq.trans (b := k0_pay3 (F := Ideal) (outsAt0 m c ((pt q 3).val - 1) h').2 (iblk m c 0 (pt q 3)) (iblk m c 1 (pt q 3)) (ix2 i j)) ?_
    ((pay3 _ _ _ i j).trans (congrArg _ (pr_part m c q 3 i j)))
  frame_out
  rw [(Memref.isWhole_whole cc0_scratch0).read_unread]

theorem sum_at (q : Fin 4) (i : Fin 1408) (j : Fin 1024) :
    (outsAt0 m c (pt q 3).val (pt q 3).isLt).1 (ix2 i j) = prodA (A m c) (B m c) (ix2 (row q i) j) := by
  have h1 := next m c q 1 (by decide) (pt q 0).isLt i j
  have h2 := next m c q 2 (by decide) (pt q 1).isLt i j
  have h3 := last m c q (pt q 2).isLt i j
  refine h3.trans ((congrArg (· + _) (h2.trans (congrArg (· + _) (h1.trans (congrArg (· + _) (first m c q i j)))))).trans ?_)
  refine Eq.trans (Fin.sum_univ_four (part m c q i j)).symm ?_
  exact Fin.sum_mul_add_congr (S := 4) (n := 1024) (F := fun k x =>
    A m c (ix3 (half (row q i)) (lane k x) (inn (row q i))) * B m c (ix2 (lane k x) j)) (fun _ _ _ => rfl)

theorem pt_last (t : Fin cfg0.N) (h : t.val % 4 = 3) : ∃ q, t = pt q 3 :=
  ⟨⟨t.val / 4, by have := lt_of_lt_of_eq t.isLt NN; omega⟩, Fin.ext (show t.val = t.val / 4 * 4 + 3 by omega)⟩

theorem final : (dats m 0 c).arrAt 2 (cfgs 0).N = prodA (A m c) (B m c) := by
  refine (dats m 0 c).arrAt_eq_of_covers 2 _ (by decide +kernel) fun t hf y => ?_
  obtain ⟨q, rfl⟩ := pt_last t ((flush0_2 t).mp hf)
  blk_simp
  rw [after0_2]
  idx_vars y
  refine (sum_at m c q y0 y1).trans (congrArg _ ?_)
  have e2 := pt_div q 3
  blk_ext [idx (pt q 3), e2, row]
end Kernel

section Reference
open Cert.FfnInDwRefIdeal Cert.FfnInDwRefIdeal.Read

theorem ref_eq (a : FVec Ideal FfnInDwIdeal.S2x4096x2816 .bf16) (b : FVec Ideal FfnInDwIdeal.S4096x1024 .bf16) :
    val_main_v4 (F := Ideal) a b = prodA a b := by
  funext j
  idx_vars j
  pointwise [val_main_v4, val_main_v3, val_main_v2, val_main_v1, val_main_v0, prodA]
  try rfl

theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v4) = val_main_v4 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (val_main_v4_eq _ _), (h c).2⟩,
    sem_eq_zero_of_no_sems (by decide) r.2⟩) (Value.run m ρ)
end Reference

theorem frame_ref : Cert.quiescent_FfnInDwRefIdeal := fun m g _ =>
  (θ_run Cert.FfnInDwRefIdeal.defs _ _).mono (fun _ h => ⟨fun c => (h.1 c).2, h.2⟩) (run_ref m g)

theorem algebraic : Cert.algebraic_FfnInDwIdeal_FfnInDwRefIdeal := by
  pair_intro
  · run_from Cert.FfnInDwIdeal.Gen.run_main m g
  · refine (θ_run Cert.FfnInDwRefIdeal.defs _ _).mono (fun r h c => ?_) (run_ref m' g')
    obtain ⟨h0, h1⟩ := h.1 c
    obtain ⟨e0, e1⟩ := hagree c
    refine ⟨h0.trans ?_, h1⟩
    rw [e0, e1, final m c]
    exact ref_eq _ _

end Cert.ProdFfnInDw

end
-- ==== Proof.lean ====
/- Each claim of `Defs.lean` from the module that proves it. -/
module

public import proofs.«01_k».proof.Defs
public import proofs.«01_k».proof.Proof.Gen.MemNormBwd
public import proofs.«01_k».proof.Proof.Gen.MemNormBwd.Frame
public import proofs.«01_k».proof.Proof.Gen.MemNormBwdIdeal
public import proofs.«01_k».proof.Proof.Gen.MemNormBwdIdeal.Frame
public import proofs.«01_k».proof.Proof.Gen.MemNormBwdRefIdeal
public import proofs.«01_k».proof.Proof.MemNorm
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnBwdRefIdeal
public import proofs.«01_k».proof.Proof.Attn1
public import proofs.«01_k».proof.Proof.Gen.AttnBwdZero
public import proofs.«01_k».proof.Proof.Gen.AttnBwdZero.Frame
public import proofs.«01_k».proof.Proof.Gen.AttnBwdZeroIdeal
public import proofs.«01_k».proof.Proof.Gen.AttnBwdZeroIdeal.Frame
public import proofs.«01_k».proof.Proof.Gen.AttnBwdZeroRefIdeal
public import proofs.«01_k».proof.Proof.Attn0
public import proofs.«01_k».proof.Proof.Gen.AttnFwdZero
public import proofs.«01_k».proof.Proof.Gen.AttnFwdZero.Frame
public import proofs.«01_k».proof.Proof.Gen.AttnFwdZeroIdeal
public import proofs.«01_k».proof.Proof.Gen.AttnFwdZeroIdeal.Frame
public import proofs.«01_k».proof.Proof.Gen.AttnFwdZeroRefIdeal
public import proofs.«01_k».proof.Proof.AttnOut0
public import proofs.«01_k».proof.Proof.Gen.AttnFwdOne
public import proofs.«01_k».proof.Proof.Gen.AttnFwdOne.Frame
public import proofs.«01_k».proof.Proof.Gen.AttnFwdOneIdeal
public import proofs.«01_k».proof.Proof.Gen.AttnFwdOneIdeal.Frame
public import proofs.«01_k».proof.Proof.Gen.AttnFwdOneRefIdeal
public import proofs.«01_k».proof.Proof.AttnOut1
public import proofs.«01_k».proof.Proof.Gen.FfnInDx
public import proofs.«01_k».proof.Proof.Gen.FfnInDx.Frame
public import proofs.«01_k».proof.Proof.Gen.FfnInDxIdeal
public import proofs.«01_k».proof.Proof.Gen.FfnInDxIdeal.Frame
public import proofs.«01_k».proof.Proof.Gen.FfnInDxRefIdeal
public import proofs.«01_k».proof.Proof.FfnDx
public import proofs.«01_k».proof.Proof.Gen.HgInDx
public import proofs.«01_k».proof.Proof.Gen.HgInDx.Frame
public import proofs.«01_k».proof.Proof.Gen.HgInDxIdeal
public import proofs.«01_k».proof.Proof.Gen.HgInDxIdeal.Frame
public import proofs.«01_k».proof.Proof.Gen.HgInDxRefIdeal
public import proofs.«01_k».proof.Proof.HgDx
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadRefIdeal
public import proofs.«01_k».proof.Proof.Loss
public import proofs.«01_k».proof.Proof.Gen.FfnActBwd
public import proofs.«01_k».proof.Proof.Gen.FfnActBwd.Frame
public import proofs.«01_k».proof.Proof.Gen.FfnActBwdIdeal
public import proofs.«01_k».proof.Proof.Gen.FfnActBwdIdeal.Frame
public import proofs.«01_k».proof.Proof.Gen.FfnActBwdRefIdeal
public import proofs.«01_k».proof.Proof.FfnAct
public import proofs.«01_k».proof.Proof.Gen.GmlpBwd
public import proofs.«01_k».proof.Proof.Gen.GmlpBwd.Frame
public import proofs.«01_k».proof.Proof.Gen.GmlpBwdIdeal
public import proofs.«01_k».proof.Proof.Gen.GmlpBwdIdeal.Frame
public import proofs.«01_k».proof.Proof.Gen.GmlpBwdRefIdeal
public import proofs.«01_k».proof.Proof.Gmlp
public import proofs.«01_k».proof.Proof.Gen.MixNorm
public import proofs.«01_k».proof.Proof.Gen.MixNorm.Frame
public import proofs.«01_k».proof.Proof.Gen.MixNormIdeal
public import proofs.«01_k».proof.Proof.Gen.MixNormIdeal.Frame
public import proofs.«01_k».proof.Proof.Gen.MixNormRefIdeal
public import proofs.«01_k».proof.Proof.MixNorm
public import proofs.«01_k».proof.Proof.Gen.GmlpFwd
public import proofs.«01_k».proof.Proof.Gen.GmlpFwd.Frame
public import proofs.«01_k».proof.Proof.Gen.GmlpFwdIdeal
public import proofs.«01_k».proof.Proof.Gen.GmlpFwdIdeal.Frame
public import proofs.«01_k».proof.Proof.Gen.GmlpFwdRefIdeal
public import proofs.«01_k».proof.Proof.GmlpOut
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.OutProj
public import proofs.«01_k».proof.Proof.Gen.GmInDx
public import proofs.«01_k».proof.Proof.Gen.GmInDx.Frame
public import proofs.«01_k».proof.Proof.Gen.GmInDxIdeal
public import proofs.«01_k».proof.Proof.Gen.GmInDxIdeal.Frame
public import proofs.«01_k».proof.Proof.Gen.GmInDxRefIdeal
public import proofs.«01_k».proof.Proof.GmDx
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Frame
public import proofs.«01_k».proof.Proof.Gen.FfnOutRefIdeal
public import proofs.«01_k».proof.Proof.FfnOut
public import proofs.«01_k».proof.Proof.Gen.MemNormFwd
public import proofs.«01_k».proof.Proof.Gen.MemNormFwd.Frame
public import proofs.«01_k».proof.Proof.Gen.MemNormFwdIdeal
public import proofs.«01_k».proof.Proof.Gen.MemNormFwdIdeal.Frame
public import proofs.«01_k».proof.Proof.Gen.MemNormFwdRefIdeal
public import proofs.«01_k».proof.Proof.MemNormFwd
public import proofs.«01_k».proof.Proof.Gen.SmallSum
public import proofs.«01_k».proof.Proof.Gen.SmallSum.Frame
public import proofs.«01_k».proof.Proof.Gen.SmallSumIdeal
public import proofs.«01_k».proof.Proof.Gen.SmallSumIdeal.Frame
public import proofs.«01_k».proof.Proof.Gen.SmallSumRefIdeal
public import proofs.«01_k».proof.Proof.SmallSum
public import proofs.«01_k».proof.Proof.Gen.AdamStep
public import proofs.«01_k».proof.Proof.Gen.AdamStep.Frame
public import proofs.«01_k».proof.Proof.Gen.AdamStepIdeal
public import proofs.«01_k».proof.Proof.Gen.AdamStepIdeal.Frame
public import proofs.«01_k».proof.Proof.Gen.AdamStepRefIdeal
public import proofs.«01_k».proof.Proof.AdamStep
public import proofs.«01_k».proof.Proof.Gen.OutProjDx
public import proofs.«01_k».proof.Proof.Gen.OutProjDx.Frame
public import proofs.«01_k».proof.Proof.Gen.OutProjDxIdeal
public import proofs.«01_k».proof.Proof.Gen.OutProjDxIdeal.Frame
public import proofs.«01_k».proof.Proof.Gen.OutProjDxRefIdeal
public import proofs.«01_k».proof.Proof.OutProjDx
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvRefIdeal
public import proofs.«01_k».proof.Proof.MemKv
public import proofs.«01_k».proof.Proof.Gen.MemKvDx
public import proofs.«01_k».proof.Proof.Gen.MemKvDx.Frame
public import proofs.«01_k».proof.Proof.Gen.MemKvDxIdeal
public import proofs.«01_k».proof.Proof.Gen.MemKvDxIdeal.Frame
public import proofs.«01_k».proof.Proof.Gen.MemKvDxRefIdeal
public import proofs.«01_k».proof.Proof.MemKvDx
public import proofs.«01_k».proof.Proof.Gen.HgIn
public import proofs.«01_k».proof.Proof.Gen.HgIn.Frame
public import proofs.«01_k».proof.Proof.Gen.HgInIdeal
public import proofs.«01_k».proof.Proof.Gen.HgInIdeal.Frame
public import proofs.«01_k».proof.Proof.Gen.HgInRefIdeal
public import proofs.«01_k».proof.Proof.HgIn
public import proofs.«01_k».proof.Proof.Gen.GmIn
public import proofs.«01_k».proof.Proof.Gen.GmIn.Frame
public import proofs.«01_k».proof.Proof.Gen.GmInIdeal
public import proofs.«01_k».proof.Proof.Gen.GmInIdeal.Frame
public import proofs.«01_k».proof.Proof.Gen.GmInRefIdeal
public import proofs.«01_k».proof.Proof.GmIn
public import proofs.«01_k».proof.Proof.Gen.MemKvDw
public import proofs.«01_k».proof.Proof.Gen.MemKvDw.Frame
public import proofs.«01_k».proof.Proof.Gen.MemKvDwIdeal
public import proofs.«01_k».proof.Proof.Gen.MemKvDwIdeal.Frame
public import proofs.«01_k».proof.Proof.Gen.MemKvDwRefIdeal
public import proofs.«01_k».proof.Proof.MemKvDw
public import proofs.«01_k».proof.Proof.Gen.OutProjDw
public import proofs.«01_k».proof.Proof.Gen.OutProjDw.Frame
public import proofs.«01_k».proof.Proof.Gen.OutProjDwIdeal
public import proofs.«01_k».proof.Proof.Gen.OutProjDwIdeal.Frame
public import proofs.«01_k».proof.Proof.Gen.OutProjDwRefIdeal
public import proofs.«01_k».proof.Proof.OutProjDw
public import proofs.«01_k».proof.Proof.Gen.FfnOutDw
public import proofs.«01_k».proof.Proof.Gen.FfnOutDw.Frame
public import proofs.«01_k».proof.Proof.Gen.FfnOutDwIdeal
public import proofs.«01_k».proof.Proof.Gen.FfnOutDwIdeal.Frame
public import proofs.«01_k».proof.Proof.Gen.FfnOutDwRefIdeal
public import proofs.«01_k».proof.Proof.FfnOutDw
public import proofs.«01_k».proof.Proof.Gen.GmInDw
public import proofs.«01_k».proof.Proof.Gen.GmInDw.Frame
public import proofs.«01_k».proof.Proof.Gen.GmInDwIdeal
public import proofs.«01_k».proof.Proof.Gen.GmInDwIdeal.Frame
public import proofs.«01_k».proof.Proof.Gen.GmInDwRefIdeal
public import proofs.«01_k».proof.Proof.GmInDw
public import proofs.«01_k».proof.Proof.Gen.HgInDw
public import proofs.«01_k».proof.Proof.Gen.HgInDw.Frame
public import proofs.«01_k».proof.Proof.Gen.HgInDwIdeal
public import proofs.«01_k».proof.Proof.Gen.HgInDwIdeal.Frame
public import proofs.«01_k».proof.Proof.Gen.HgInDwRefIdeal
public import proofs.«01_k».proof.Proof.HgInDw
public import proofs.«01_k».proof.Proof.Gen.FfnInDw
public import proofs.«01_k».proof.Proof.Gen.FfnInDw.Frame
public import proofs.«01_k».proof.Proof.Gen.FfnInDwIdeal
public import proofs.«01_k».proof.Proof.Gen.FfnInDwIdeal.Frame
public import proofs.«01_k».proof.Proof.Gen.FfnInDwRefIdeal
public import proofs.«01_k».proof.Proof.FfnInDw
public import proofs.«01_k».proof.Proof.Gen.Pre_mem_norm_bwd_pre
public import proofs.«01_k».proof.Proof.Gen.Pre_attn_bwd1_pre
public import proofs.«01_k».proof.Proof.Gen.Pre_attn_bwd0_pre
public import proofs.«01_k».proof.Proof.Gen.Pre_ffn_in_dx_pre
public import proofs.«01_k».proof.Proof.Gen.Pre_hg_in_dx_pre
public import proofs.«01_k».proof.Proof.Gen.Pre_loss_head_pre
public import proofs.«01_k».proof.Proof.Gen.Pre_ffn_act_bwd_pre
public import proofs.«01_k».proof.Proof.Gen.Pre_gm_in_dx_pre
public import Idealize.ShloMosaic.Adequacy
public import Idealize.ShloMosaic.Init
public import Idealize.ShloMosaic.Lib.Claim

@[expose] public section

noncomputable section

namespace Cert.Proof

open Idealize.ShloMosaic Idealize.SL.Sem

theorem claim : Cert.Claim := ⟨Cert.MemNormBwd.Gen.facts,
    Cert.MemNormBwdIdeal.Gen.facts,
    Cert.MemNormBwdRefIdeal.Gen.facts,
    Cert.AttnBwd.Gen.facts,
    Cert.AttnBwdIdeal.Gen.facts,
    Cert.AttnBwdRefIdeal.Gen.facts,
    Cert.AttnBwdZero.Gen.facts,
    Cert.AttnBwdZeroIdeal.Gen.facts,
    Cert.AttnBwdZeroRefIdeal.Gen.facts,
    Cert.AttnFwdZero.Gen.facts,
    Cert.AttnFwdZeroIdeal.Gen.facts,
    Cert.AttnFwdZeroRefIdeal.Gen.facts,
    Cert.AttnFwdOne.Gen.facts,
    Cert.AttnFwdOneIdeal.Gen.facts,
    Cert.AttnFwdOneRefIdeal.Gen.facts,
    Cert.FfnInDx.Gen.facts,
    Cert.FfnInDxIdeal.Gen.facts,
    Cert.FfnInDxRefIdeal.Gen.facts,
    Cert.HgInDx.Gen.facts,
    Cert.HgInDxIdeal.Gen.facts,
    Cert.HgInDxRefIdeal.Gen.facts,
    Cert.LossHead.Gen.facts,
    Cert.LossHeadIdeal.Gen.facts,
    Cert.LossHeadRefIdeal.Gen.facts,
    Cert.FfnActBwd.Gen.facts,
    Cert.FfnActBwdIdeal.Gen.facts,
    Cert.FfnActBwdRefIdeal.Gen.facts,
    Cert.GmlpBwd.Gen.facts,
    Cert.GmlpBwdIdeal.Gen.facts,
    Cert.GmlpBwdRefIdeal.Gen.facts,
    Cert.MixNorm.Gen.facts,
    Cert.MixNormIdeal.Gen.facts,
    Cert.MixNormRefIdeal.Gen.facts,
    Cert.GmlpFwd.Gen.facts,
    Cert.GmlpFwdIdeal.Gen.facts,
    Cert.GmlpFwdRefIdeal.Gen.facts,
    Cert.OutProj.Gen.facts,
    Cert.OutProjIdeal.Gen.facts,
    Cert.OutProjRefIdeal.Gen.facts,
    Cert.GmInDx.Gen.facts,
    Cert.GmInDxIdeal.Gen.facts,
    Cert.GmInDxRefIdeal.Gen.facts,
    Cert.FfnOut.Gen.facts,
    Cert.FfnOutIdeal.Gen.facts,
    Cert.FfnOutRefIdeal.Gen.facts,
    Cert.MemNormFwd.Gen.facts,
    Cert.MemNormFwdIdeal.Gen.facts,
    Cert.MemNormFwdRefIdeal.Gen.facts,
    Cert.SmallSum.Gen.facts,
    Cert.SmallSumIdeal.Gen.facts,
    Cert.SmallSumRefIdeal.Gen.facts,
    Cert.AdamStep.Gen.facts,
    Cert.AdamStepIdeal.Gen.facts,
    Cert.AdamStepRefIdeal.Gen.facts,
    Cert.OutProjDx.Gen.facts,
    Cert.OutProjDxIdeal.Gen.facts,
    Cert.OutProjDxRefIdeal.Gen.facts,
    Cert.MemKv.Gen.facts,
    Cert.MemKvIdeal.Gen.facts,
    Cert.MemKvRefIdeal.Gen.facts,
    Cert.MemKvDx.Gen.facts,
    Cert.MemKvDxIdeal.Gen.facts,
    Cert.MemKvDxRefIdeal.Gen.facts,
    Cert.HgIn.Gen.facts,
    Cert.HgInIdeal.Gen.facts,
    Cert.HgInRefIdeal.Gen.facts,
    Cert.GmIn.Gen.facts,
    Cert.GmInIdeal.Gen.facts,
    Cert.GmInRefIdeal.Gen.facts,
    Cert.MemKvDw.Gen.facts,
    Cert.MemKvDwIdeal.Gen.facts,
    Cert.MemKvDwRefIdeal.Gen.facts,
    Cert.OutProjDw.Gen.facts,
    Cert.OutProjDwIdeal.Gen.facts,
    Cert.OutProjDwRefIdeal.Gen.facts,
    Cert.FfnOutDw.Gen.facts,
    Cert.FfnOutDwIdeal.Gen.facts,
    Cert.FfnOutDwRefIdeal.Gen.facts,
    Cert.GmInDw.Gen.facts,
    Cert.GmInDwIdeal.Gen.facts,
    Cert.GmInDwRefIdeal.Gen.facts,
    Cert.HgInDw.Gen.facts,
    Cert.HgInDwIdeal.Gen.facts,
    Cert.HgInDwRefIdeal.Gen.facts,
    Cert.FfnInDw.Gen.facts,
    Cert.FfnInDwIdeal.Gen.facts,
    Cert.FfnInDwRefIdeal.Gen.facts,
    Cert.Pre_mem_norm_bwd_pre.Gen.facts,
    Cert.Pre_attn_bwd1_pre.Gen.facts,
    Cert.Pre_attn_bwd0_pre.Gen.facts,
    Cert.Pre_ffn_in_dx_pre.Gen.facts,
    Cert.Pre_hg_in_dx_pre.Gen.facts,
    Cert.Pre_loss_head_pre.Gen.facts,
    Cert.Pre_ffn_act_bwd_pre.Gen.facts,
    Cert.Pre_gm_in_dx_pre.Gen.facts,
  fun m ρ _ => Cert.MemNormBwd.Gen.frame m ρ,
  fun m ρ _ => Cert.MemNormBwdIdeal.Gen.frame m ρ,
  fun m ρ _ => Cert.MemNormBwdIdeal.Gen.frame m ρ,
  Cert.MemNorm.frame_ref,
  Cert.MemNorm.frame_ref_pre,
  fun m ρ _ => Cert.AttnBwd.Gen.frame m ρ,
  fun m ρ _ => Cert.AttnBwdIdeal.Gen.frame m ρ,
  fun m ρ _ => Cert.AttnBwdIdeal.Gen.frame m ρ,
  Cert.Attn1.frame_ref,
  Cert.Attn1.frame_ref_pre,
  fun m ρ _ => Cert.AttnBwdZero.Gen.frame m ρ,
  fun m ρ _ => Cert.AttnBwdZeroIdeal.Gen.frame m ρ,
  fun m ρ _ => Cert.AttnBwdZeroIdeal.Gen.frame m ρ,
  Cert.Attn0.frame_ref,
  Cert.Attn0.frame_ref_pre,
  fun m ρ _ => Cert.AttnFwdZero.Gen.frame m ρ,
  fun m ρ _ => Cert.AttnFwdZeroIdeal.Gen.frame m ρ,
  Cert.AttnOut0.frame_ref,
  fun m ρ _ => Cert.AttnFwdOne.Gen.frame m ρ,
  fun m ρ _ => Cert.AttnFwdOneIdeal.Gen.frame m ρ,
  Cert.AttnOut1.frame_ref,
  fun m ρ _ => Cert.FfnInDx.Gen.frame m ρ,
  fun m ρ _ => Cert.FfnInDxIdeal.Gen.frame m ρ,
  fun m ρ _ => Cert.FfnInDxIdeal.Gen.frame m ρ,
  Cert.FfnDx.frame_ref,
  Cert.FfnDx.frame_ref_pre,
  fun m ρ _ => Cert.HgInDx.Gen.frame m ρ,
  fun m ρ _ => Cert.HgInDxIdeal.Gen.frame m ρ,
  fun m ρ _ => Cert.HgInDxIdeal.Gen.frame m ρ,
  Cert.HgDx.frame_ref,
  Cert.HgDx.frame_ref_pre,
  fun m ρ _ => Cert.LossHead.Gen.frame m ρ,
  fun m ρ _ => Cert.LossHeadIdeal.Gen.frame m ρ,
  fun m ρ _ => Cert.LossHeadIdeal.Gen.frame m ρ,
  Cert.Loss.frame_ref,
  Cert.Loss.frame_ref_pre,
  fun m ρ _ => Cert.FfnActBwd.Gen.frame m ρ,
  fun m ρ _ => Cert.FfnActBwdIdeal.Gen.frame m ρ,
  fun m ρ _ => Cert.FfnActBwdIdeal.Gen.frame m ρ,
  Cert.FfnAct.frame_ref,
  Cert.FfnAct.frame_ref_pre,
  fun m ρ _ => Cert.GmlpBwd.Gen.frame m ρ,
  fun m ρ _ => Cert.GmlpBwdIdeal.Gen.frame m ρ,
  Cert.Gmlp.frame_ref,
  fun m ρ _ => Cert.MixNorm.Gen.frame m ρ,
  fun m ρ _ => Cert.MixNormIdeal.Gen.frame m ρ,
  Cert.NormFwd.frame_ref,
  fun m ρ _ => Cert.GmlpFwd.Gen.frame m ρ,
  fun m ρ _ => Cert.GmlpFwdIdeal.Gen.frame m ρ,
  Cert.GmlpOut.frame_ref,
  fun m ρ _ => Cert.OutProj.Gen.frame m ρ,
  fun m ρ _ => Cert.OutProjIdeal.Gen.frame m ρ,
  Cert.OutSum.frame_ref,
  fun m ρ _ => Cert.GmInDx.Gen.frame m ρ,
  fun m ρ _ => Cert.GmInDxIdeal.Gen.frame m ρ,
  fun m ρ _ => Cert.GmInDxIdeal.Gen.frame m ρ,
  Cert.GmDx.frame_ref,
  Cert.GmDx.frame_ref_pre,
  fun m ρ _ => Cert.FfnOut.Gen.frame m ρ,
  fun m ρ _ => Cert.FfnOutIdeal.Gen.frame m ρ,
  Cert.FfnSum.frame_ref,
  fun m ρ _ => Cert.MemNormFwd.Gen.frame m ρ,
  fun m ρ _ => Cert.MemNormFwdIdeal.Gen.frame m ρ,
  Cert.MemFwd.frame_ref,
  fun m ρ _ => Cert.SmallSum.Gen.frame m ρ,
  fun m ρ _ => Cert.SmallSumIdeal.Gen.frame m ρ,
  Cert.BlockSum.frame_ref,
  fun m ρ _ => Cert.AdamStep.Gen.frame m ρ,
  fun m ρ _ => Cert.AdamStepIdeal.Gen.frame m ρ,
  Cert.Adam.frame_ref,
  fun m ρ _ => Cert.OutProjDx.Gen.frame m ρ,
  fun m ρ _ => Cert.OutProjDxIdeal.Gen.frame m ρ,
  Cert.ProdOutProjDx.frame_ref,
  fun m ρ _ => Cert.MemKv.Gen.frame m ρ,
  fun m ρ _ => Cert.MemKvIdeal.Gen.frame m ρ,
  Cert.ProdMemKv.frame_ref,
  fun m ρ _ => Cert.MemKvDx.Gen.frame m ρ,
  fun m ρ _ => Cert.MemKvDxIdeal.Gen.frame m ρ,
  Cert.ProdMemKvDx.frame_ref,
  fun m ρ _ => Cert.HgIn.Gen.frame m ρ,
  fun m ρ _ => Cert.HgInIdeal.Gen.frame m ρ,
  Cert.ProdHgIn.frame_ref,
  fun m ρ _ => Cert.GmIn.Gen.frame m ρ,
  fun m ρ _ => Cert.GmInIdeal.Gen.frame m ρ,
  Cert.ProdGmIn.frame_ref,
  fun m ρ _ => Cert.MemKvDw.Gen.frame m ρ,
  fun m ρ _ => Cert.MemKvDwIdeal.Gen.frame m ρ,
  Cert.ProdMemKvDw.frame_ref,
  fun m ρ _ => Cert.OutProjDw.Gen.frame m ρ,
  fun m ρ _ => Cert.OutProjDwIdeal.Gen.frame m ρ,
  Cert.ProdOutProjDw.frame_ref,
  fun m ρ _ => Cert.FfnOutDw.Gen.frame m ρ,
  fun m ρ _ => Cert.FfnOutDwIdeal.Gen.frame m ρ,
  Cert.ProdFfnOutDw.frame_ref,
  fun m ρ _ => Cert.GmInDw.Gen.frame m ρ,
  fun m ρ _ => Cert.GmInDwIdeal.Gen.frame m ρ,
  Cert.ProdGmInDw.frame_ref,
  fun m ρ _ => Cert.HgInDw.Gen.frame m ρ,
  fun m ρ _ => Cert.HgInDwIdeal.Gen.frame m ρ,
  Cert.ProdHgInDw.frame_ref,
  fun m ρ _ => Cert.FfnInDw.Gen.frame m ρ,
  fun m ρ _ => Cert.FfnInDwIdeal.Gen.frame m ρ,
  Cert.ProdFfnInDw.frame_ref,
  trivial,
  Cert.MemNorm.algebraic,
  trivial,
  Cert.Attn1.algebraic,
  trivial,
  Cert.Attn0.algebraic,
  trivial,
  Cert.AttnOut0.algebraic,
  trivial,
  Cert.AttnOut1.algebraic,
  trivial,
  Cert.FfnDx.algebraic,
  trivial,
  Cert.HgDx.algebraic,
  trivial,
  Cert.Loss.algebraic,
  trivial,
  Cert.FfnAct.algebraic,
  trivial,
  Cert.Gmlp.algebraic,
  trivial,
  Cert.NormFwd.algebraic,
  trivial,
  Cert.GmlpOut.algebraic,
  trivial,
  Cert.OutSum.algebraic,
  trivial,
  Cert.GmDx.algebraic,
  trivial,
  Cert.FfnSum.algebraic,
  trivial,
  Cert.MemFwd.algebraic,
  trivial,
  Cert.BlockSum.algebraic,
  trivial,
  Cert.Adam.algebraic,
  trivial,
  Cert.ProdOutProjDx.algebraic,
  trivial,
  Cert.ProdMemKv.algebraic,
  trivial,
  Cert.ProdMemKvDx.algebraic,
  trivial,
  Cert.ProdHgIn.algebraic,
  trivial,
  Cert.ProdGmIn.algebraic,
  trivial,
  Cert.ProdMemKvDw.algebraic,
  trivial,
  Cert.ProdOutProjDw.algebraic,
  trivial,
  Cert.ProdFfnOutDw.algebraic,
  trivial,
  Cert.ProdGmInDw.algebraic,
  trivial,
  Cert.ProdHgInDw.algebraic,
  trivial,
  Cert.ProdFfnInDw.algebraic⟩

end Cert.Proof

end
